-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandRefIdeal (m : (ℓ : Loc Cert.BandRefIdeal.nD Cert.BandRefIdeal.τ Cert.BandRefIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionRefIdeal (m : (ℓ : Loc Cert.AttentionRefIdeal.nD Cert.AttentionRefIdeal.τ Cert.AttentionRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10)
      ∧ r.2.mem ((c.tc : Thread Cert.MixOut.nD Cert.MixOut.τ).loc Cert.MixOut.main_arg11) = m ((c.tc : Thread Cert.MixOut.nD Cert.MixOut.τ).loc Cert.MixOut.main_arg11)
      ∧ r.2.mem ((c.tc : Thread Cert.MixOut.nD Cert.MixOut.τ).loc Cert.MixOut.main_arg12) = m ((c.tc : Thread Cert.MixOut.nD Cert.MixOut.τ).loc Cert.MixOut.main_arg12)
      ∧ r.2.mem ((c.tc : Thread Cert.MixOut.nD Cert.MixOut.τ).loc Cert.MixOut.main_arg13) = m ((c.tc : Thread Cert.MixOut.nD Cert.MixOut.τ).loc Cert.MixOut.main_arg13))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
      ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
      ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11)
      ∧ r.2.mem ((c.tc : Thread Cert.MixOutRefIdeal.nD Cert.MixOutRefIdeal.τ).loc Cert.MixOutRefIdeal.main_arg12) = m ((c.tc : Thread Cert.MixOutRefIdeal.nD Cert.MixOutRefIdeal.τ).loc Cert.MixOutRefIdeal.main_arg12)
      ∧ r.2.mem ((c.tc : Thread Cert.MixOutRefIdeal.nD Cert.MixOutRefIdeal.τ).loc Cert.MixOutRefIdeal.main_arg13) = m ((c.tc : Thread Cert.MixOutRefIdeal.nD Cert.MixOutRefIdeal.τ).loc Cert.MixOutRefIdeal.main_arg13))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3)
      ∧ r.2.mem ((c.tc : Thread Cert.MlpDown.nD Cert.MlpDown.τ).loc Cert.MlpDown.main_arg4) = m ((c.tc : Thread Cert.MlpDown.nD Cert.MlpDown.τ).loc Cert.MlpDown.main_arg4))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3)
      ∧ r.2.mem ((c.tc : Thread Cert.MlpDownIdeal.nD Cert.MlpDownIdeal.τ).loc Cert.MlpDownIdeal.main_arg4) = m ((c.tc : Thread Cert.MlpDownIdeal.nD Cert.MlpDownIdeal.τ).loc Cert.MlpDownIdeal.main_arg4))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3)
      ∧ r.2.mem ((c.tc : Thread Cert.MlpDownRefIdeal.nD Cert.MlpDownRefIdeal.τ).loc Cert.MlpDownRefIdeal.main_arg4) = m ((c.tc : Thread Cert.MlpDownRefIdeal.nD Cert.MlpDownRefIdeal.τ).loc Cert.MlpDownRefIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)
      ∧ m' ((c.tc : Thread Cert.MixOutRefIdeal.nD Cert.MixOutRefIdeal.τ).loc Cert.MixOutRefIdeal.main_arg10) = m ((c.tc : Thread Cert.MixOutIdeal.nD Cert.MixOutIdeal.τ).loc Cert.MixOutIdeal.main_arg10)
      ∧ m' ((c.tc : Thread Cert.MixOutRefIdeal.nD Cert.MixOutRefIdeal.τ).loc Cert.MixOutRefIdeal.main_arg11) = m ((c.tc : Thread Cert.MixOutIdeal.nD Cert.MixOutIdeal.τ).loc Cert.MixOutIdeal.main_arg11)
      ∧ m' ((c.tc : Thread Cert.MixOutRefIdeal.nD Cert.MixOutRefIdeal.τ).loc Cert.MixOutRefIdeal.main_arg12) = m ((c.tc : Thread Cert.MixOutIdeal.nD Cert.MixOutIdeal.τ).loc Cert.MixOutIdeal.main_arg12)
      ∧ m' ((c.tc : Thread Cert.MixOutRefIdeal.nD Cert.MixOutRefIdeal.τ).loc Cert.MixOutRefIdeal.main_arg13) = m ((c.tc : Thread Cert.MixOutIdeal.nD Cert.MixOutIdeal.τ).loc Cert.MixOutIdeal.main_arg13)) →
    ∃ (v0 : (c : Dev Cert.MixOutIdeal.nD) → Buf (Elt Ideal) ((c.tc : Thread Cert.MixOutIdeal.nD Cert.MixOutIdeal.τ).loc Cert.MixOutIdeal.main_v6_0)) (v1 : (c : Dev Cert.MixOutIdeal.nD) → Buf (Elt Ideal) ((c.tc : Thread Cert.MixOutIdeal.nD Cert.MixOutIdeal.τ).loc Cert.MixOutIdeal.main_v6_1)) (v2 : (c : Dev Cert.MixOutIdeal.nD) → Buf (Elt Ideal) ((c.tc : Thread Cert.MixOutIdeal.nD Cert.MixOutIdeal.τ).loc Cert.MixOutIdeal.main_v6_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v6_0) = v0 c
          ∧ r.2.mem ((c.tc : Thread Cert.MixOutIdeal.nD Cert.MixOutIdeal.τ).loc Cert.MixOutIdeal.main_v6_1) = v1 c
          ∧ r.2.mem ((c.tc : Thread Cert.MixOutIdeal.nD Cert.MixOutIdeal.τ).loc Cert.MixOutIdeal.main_v6_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
          ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
          ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
          ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v58) = v0 c
          ∧ r.2.mem ((c.tc : Thread Cert.MixOutRefIdeal.nD Cert.MixOutRefIdeal.τ).loc Cert.MixOutRefIdeal.main_v78) = v1 c
          ∧ r.2.mem ((c.tc : Thread Cert.MixOutRefIdeal.nD Cert.MixOutRefIdeal.τ).loc Cert.MixOutRefIdeal.main_v81) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9)
          ∧ r.2.mem ((c.tc : Thread Cert.MixOutRefIdeal.nD Cert.MixOutRefIdeal.τ).loc Cert.MixOutRefIdeal.main_arg10) = m' ((c.tc : Thread Cert.MixOutRefIdeal.nD Cert.MixOutRefIdeal.τ).loc Cert.MixOutRefIdeal.main_arg10)
          ∧ r.2.mem ((c.tc : Thread Cert.MixOutRefIdeal.nD Cert.MixOutRefIdeal.τ).loc Cert.MixOutRefIdeal.main_arg11) = m' ((c.tc : Thread Cert.MixOutRefIdeal.nD Cert.MixOutRefIdeal.τ).loc Cert.MixOutRefIdeal.main_arg11)
          ∧ r.2.mem ((c.tc : Thread Cert.MixOutRefIdeal.nD Cert.MixOutRefIdeal.τ).loc Cert.MixOutRefIdeal.main_arg12) = m' ((c.tc : Thread Cert.MixOutRefIdeal.nD Cert.MixOutRefIdeal.τ).loc Cert.MixOutRefIdeal.main_arg12)
          ∧ r.2.mem ((c.tc : Thread Cert.MixOutRefIdeal.nD Cert.MixOutRefIdeal.τ).loc Cert.MixOutRefIdeal.main_arg13) = m' ((c.tc : Thread Cert.MixOutRefIdeal.nD Cert.MixOutRefIdeal.τ).loc Cert.MixOutRefIdeal.main_arg13))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v5) = v0 c
          ∧ r.2.mem ((c.tc : Thread Cert.MlpUpRefIdeal.nD Cert.MlpUpRefIdeal.τ).loc Cert.MlpUpRefIdeal.main_v8) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)
      ∧ m' ((c.tc : Thread Cert.MlpDownRefIdeal.nD Cert.MlpDownRefIdeal.τ).loc Cert.MlpDownRefIdeal.main_arg4) = m ((c.tc : Thread Cert.MlpDownIdeal.nD Cert.MlpDownIdeal.τ).loc Cert.MlpDownIdeal.main_arg4)) →
    ∃ (v0 : (c : Dev Cert.MlpDownIdeal.nD) → Buf (Elt Ideal) ((c.tc : Thread Cert.MlpDownIdeal.nD Cert.MlpDownIdeal.τ).loc Cert.MlpDownIdeal.main_v1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v1) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3)
          ∧ r.2.mem ((c.tc : Thread Cert.MlpDownIdeal.nD Cert.MlpDownIdeal.τ).loc Cert.MlpDownIdeal.main_arg4) = m ((c.tc : Thread Cert.MlpDownIdeal.nD Cert.MlpDownIdeal.τ).loc Cert.MlpDownIdeal.main_arg4))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v18) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3)
          ∧ r.2.mem ((c.tc : Thread Cert.MlpDownRefIdeal.nD Cert.MlpDownRefIdeal.τ).loc Cert.MlpDownRefIdeal.main_arg4) = m' ((c.tc : Thread Cert.MlpDownRefIdeal.nD Cert.MlpDownRefIdeal.τ).loc Cert.MlpDownRefIdeal.main_arg4))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v2)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v2) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v17) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_Band_BandIdeal : Prop :=
  True

def algebraic_BandIdeal_BandRefIdeal [hBandIdeal : Cert.BandIdeal.Facts] [hBandRefIdeal : Cert.BandRefIdeal.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)) →
    ∃ (v0 : (c : Dev Cert.BandIdeal.nD) → Buf (Elt Ideal) ((c.tc : Thread Cert.BandIdeal.nD Cert.BandIdeal.τ).loc Cert.BandIdeal.main_v2)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v2) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v38) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0))

def preserves_Attention_AttentionIdeal : Prop :=
  IdealRules.named_const.Statement Cert.AttentionIdeal.κ "mask" .f32 0xF149F2CA#32 ⊥

def algebraic_AttentionIdeal_AttentionRefIdeal [hAttentionIdeal : Cert.AttentionIdeal.Facts] [hAttentionRefIdeal : Cert.AttentionRefIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v67) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMixOut : Cert.MixOut.Facts) (hMixOutIdeal : Cert.MixOutIdeal.Facts) (hMixOutRefIdeal : Cert.MixOutRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hModulation : Cert.Modulation.Facts) (hModulationIdeal : Cert.ModulationIdeal.Facts) (hModulationRefIdeal : Cert.ModulationRefIdeal.Facts) (hBand : Cert.Band.Facts) (hBandIdeal : Cert.BandIdeal.Facts) (hBandRefIdeal : Cert.BandRefIdeal.Facts) (hAttention : Cert.Attention.Facts) (hAttentionIdeal : Cert.AttentionIdeal.Facts) (hAttentionRefIdeal : Cert.AttentionRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_Band (hBand := hBand)
    ∧ quiescent_BandIdeal (hBandIdeal := hBandIdeal)
    ∧ quiescent_BandRefIdeal (hBandRefIdeal := hBandRefIdeal)
    ∧ quiescent_Attention (hAttention := hAttention)
    ∧ quiescent_AttentionIdeal (hAttentionIdeal := hAttentionIdeal)
    ∧ quiescent_AttentionRefIdeal (hAttentionRefIdeal := hAttentionRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_MixOut_MixOutIdeal
    ∧ algebraic_MixOutIdeal_MixOutRefIdeal (hMixOutIdeal := hMixOutIdeal) (hMixOutRefIdeal := hMixOutRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_Modulation_ModulationIdeal
    ∧ algebraic_ModulationIdeal_ModulationRefIdeal (hModulationIdeal := hModulationIdeal) (hModulationRefIdeal := hModulationRefIdeal)
    ∧ preserves_Band_BandIdeal
    ∧ algebraic_BandIdeal_BandRefIdeal (hBandIdeal := hBandIdeal) (hBandRefIdeal := hBandRefIdeal)
    ∧ preserves_Attention_AttentionIdeal
    ∧ algebraic_AttentionIdeal_AttentionRefIdeal (hAttentionIdeal := hAttentionIdeal) (hAttentionRefIdeal := hAttentionRefIdeal)
-- ==== Kernel.lean ====
abbrev S8192x1664 : Shape := ⟨2, ![8192, 1664]⟩
abbrev S4x128x128 : Shape := ⟨3, ![4, 128, 128]⟩
abbrev S512 : Shape := ⟨1, ![512]⟩
abbrev S4x512 : Shape := ⟨2, ![4, 512]⟩
abbrev S1x512 : Shape := ⟨2, ![1, 512]⟩
abbrev S8192x512 : Shape := ⟨2, ![8192, 512]⟩
abbrev S256x512 : Shape := ⟨2, ![256, 512]⟩
abbrev S16x512 : Shape := ⟨2, ![16, 512]⟩
abbrev S8x512 : Shape := ⟨2, ![8, 512]⟩
abbrev S256x1 : Shape := ⟨2, ![256, 1]⟩
abbrev S272x512 : Shape := ⟨2, ![272, 512]⟩
abbrev S271x512 : Shape := ⟨2, ![271, 512]⟩
abbrev S269x384 : Shape := ⟨2, ![269, 384]⟩
abbrev S265x256 : Shape := ⟨2, ![265, 256]⟩
abbrev S257x128 : Shape := ⟨2, ![257, 128]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S264x512 : Shape := ⟨2, ![264, 512]⟩
abbrev S32x8x512 : Shape := ⟨3, ![32, 8, 512]⟩
abbrev S1x8x512 : Shape := ⟨3, ![1, 8, 512]⟩

abbrev nBuf : Space → Nat
  | .hbm => 20
  | .vmem => 22
  | .smem => 0
  | _ => 0

abbrev bufTy : (tb : Table) → Fin (tcTables nBuf tb) → BufTy
  | .hbm, ⟨0, _⟩ => ⟨S8192x1664, .f32⟩
  | .hbm, ⟨1, _⟩ => ⟨S4x128x128, .f32⟩
  | .hbm, ⟨2, _⟩ => ⟨S512, .f32⟩
  | .hbm, ⟨3, _⟩ => ⟨S4x512, .f32⟩
  | .hbm, ⟨4, _⟩ => ⟨S512, .f32⟩
  | .hbm, ⟨5, _⟩ => ⟨S4x128x128, .f32⟩
  | .hbm, ⟨6, _⟩ => ⟨S512, .f32⟩
  | .hbm, ⟨7, _⟩ => ⟨S4x128x128, .f32⟩
  | .hbm, ⟨8, _⟩ => ⟨S512, .f32⟩
  | .hbm, ⟨9, _⟩ => ⟨S512, .f32⟩
  | .hbm, ⟨10, _⟩ => ⟨S4x128x128, .bf16⟩
  | .hbm, ⟨11, _⟩ => ⟨S1x512, .f32⟩
  | .hbm, ⟨12, _⟩ => ⟨S1x512, .f32⟩
  | .hbm, ⟨13, _⟩ => ⟨S4x128x128, .bf16⟩
  | .hbm, ⟨14, _⟩ => ⟨S1x512, .f32⟩
  | .hbm, ⟨15, _⟩ => ⟨S4x128x128, .bf16⟩
  | .hbm, ⟨16, _⟩ => ⟨S1x512, .f32⟩
  | .hbm, ⟨17, _⟩ => ⟨S1x512, .f32⟩
  | .hbm, ⟨18, _⟩ => ⟨S8192x512, .f32⟩
  | .hbm, ⟨19, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S4x128x128, .bf16⟩
  | .local _ .vmem, ⟨7, _⟩ => ⟨S1x512, .f32⟩
  | .local _ .vmem, ⟨8, _⟩ => ⟨S4x512, .f32⟩
  | .local _ .vmem, ⟨9, _⟩ => ⟨S1x512, .f32⟩
  | .local _ .vmem, ⟨10, _⟩ => ⟨S4x128x128, .bf16⟩
  | .local _ .vmem, ⟨11, _⟩ => ⟨S1x512, .f32⟩
  | .local _ .vmem, ⟨12, _⟩ => ⟨S4x128x128, .bf16⟩
  | .local _ .vmem, ⟨13, _⟩ => ⟨S1x512, .f32⟩
  | .local _ .vmem, ⟨14, _⟩ => ⟨S1x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S16x512, .f32⟩
  | .local _ .vmem, ⟨20, _⟩ => ⟨S8x512, .f32⟩
  | .local _ .vmem, ⟨21, _⟩ => ⟨S1x512, .f32⟩
  | _, _ => ⟨S8192x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S8192x1664 : Shape := ⟨2, ![8192, 1664]⟩
abbrev S4x128x128 : Shape := ⟨3, ![4, 128, 128]⟩
abbrev S512 : Shape := ⟨1, ![512]⟩
abbrev S4x512 : Shape := ⟨2, ![4, 512]⟩
abbrev S8192x512 : Shape := ⟨2, ![8192, 512]⟩
abbrev S_ : Shape := ⟨0, ![]⟩
abbrev S3x512 : Shape := ⟨2, ![3, 512]⟩
abbrev S8195x512 : Shape := ⟨2, ![8195, 512]⟩
abbrev S1x512 : Shape := ⟨2, ![1, 512]⟩
abbrev S8192x4x128 : Shape := ⟨3, ![8192, 4, 128]⟩
abbrev S4x128x8192 : Shape := ⟨3, ![4, 128, 8192]⟩
abbrev S8192 : Shape := ⟨1, ![8192]⟩
abbrev S8192x128 : Shape := ⟨2, ![8192, 128]⟩
abbrev S1x128 : Shape := ⟨2, ![1, 128]⟩
abbrev S8193x128 : Shape := ⟨2, ![8193, 128]⟩
abbrev S8192x1 : Shape := ⟨2, ![8192, 1]⟩
abbrev S3x128 : Shape := ⟨2, ![3, 128]⟩
abbrev S8195x128 : Shape := ⟨2, ![8195, 128]⟩
abbrev S7x128 : Shape := ⟨2, ![7, 128]⟩
abbrev S8199x128 : Shape := ⟨2, ![8199, 128]⟩
abbrev S15x128 : Shape := ⟨2, ![15, 128]⟩
abbrev S8207x128 : Shape := ⟨2, ![8207, 128]⟩
abbrev S8192x1x128 : Shape := ⟨3, ![8192, 1, 128]⟩

abbrev nBuf : Space → Nat
  | .hbm => 291
  | .vmem => 0
  | .smem => 0
  | _ => 0

abbrev hbmTy0_0 (i : Nat) : BufTy := match i % 128 with
  | 0 => ⟨S8192x1664, .f32⟩
  | 1 => ⟨S4x128x128, .f32⟩
  | 2 => ⟨S512, .f32⟩
  | 3 => ⟨S4x512, .f32⟩
  | 4 => ⟨S512, .f32⟩
  | 5 => ⟨S4x128x128, .f32⟩
  | 6 => ⟨S512, .f32⟩
  | 7 => ⟨S4x128x128, .f32⟩
  | 8 => ⟨S512, .f32⟩
  | 9 => ⟨S512, .f32⟩
  | 10 => ⟨S8192x512, .f32⟩
  | 11 => ⟨S_, .f32⟩
  | 12 => ⟨S3x512, .f32⟩
  | 13 => ⟨S8195x512, .f32⟩
  | 14 => ⟨S8192x512, .f32⟩
  | 15 => ⟨S1x512, .f32⟩
  | 16 => ⟨S512, .f32⟩
  | 17 => ⟨S1x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S1x512, .f32⟩
  | 25 => ⟨S512, .f32⟩
  | 26 => ⟨S1x512, .f32⟩
  | 27 => ⟨S8192x512, .f32⟩
  | 28 => ⟨S8192x512, .f32⟩
  | 29 => ⟨S8192x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S1x512, .f32⟩
  | 39 => ⟨S512, .f32⟩
  | 40 => ⟨S1x512, .f32⟩
  | 41 => ⟨S8192x512, .f32⟩
  | 42 => ⟨S8192x512, .f32⟩
  | 43 => ⟨S8192x512, .f32⟩
  | 44 => ⟨S1x512, .f32⟩
  | 45 => ⟨S8192x512, .f32⟩
  | 46 => ⟨S8192x512, .f32⟩
  | 47 => ⟨S8192x4x128, .f32⟩
  | 48 => ⟨S4x128x8192, .f32⟩
  | 49 => ⟨S8192x4x128, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S4x128x8192, .f32⟩
  | 63 => ⟨S8192x4x128, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S_, .f32⟩
  | 74 => ⟨S8192x512, .f32⟩
  | 75 => ⟨S8192x512, .f32⟩
  | 76 => ⟨S_, .f32⟩
  | 77 => ⟨S8192x512, .f32⟩
  | 78 => ⟨S8192x512, .f32⟩
  | 79 => ⟨S512, .f32⟩
  | 80 => ⟨S_, .f32⟩
  | 81 => ⟨S512, .f32⟩
  | 82 => ⟨S512, .f32⟩
  | 83 => ⟨S512, .f32⟩
  | 84 => ⟨S512, .f32⟩
  | 85 => ⟨S512, .i1⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S512, .f32⟩
  | 94 => ⟨S1x512, .f32⟩
  | 95 => ⟨S8192x512, .f32⟩
  | 96 => ⟨S8192x512, .f32⟩
  | 97 => ⟨S8192x512, .f32⟩
  | 98 => ⟨S_, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S_, .f32⟩
  | 107 => ⟨S512, .f32⟩
  | 108 => ⟨S_, .f32⟩
  | 109 => ⟨S8192x512, .f32⟩
  | 110 => ⟨S_, .i32⟩
  | 111 => ⟨S8192x512, .f32⟩
  | 112 => ⟨S8192x512, .f32⟩
  | 113 => ⟨S_, .i32⟩
  | 114 => ⟨S512, .f32⟩
  | 115 => ⟨S8192x512, .f32⟩
  | 116 => ⟨S_, .i32⟩
  | 117 => ⟨S_, .i1⟩
  | 118 => ⟨S_, .i32⟩
  | 119 => ⟨S1x512, .f32⟩
  | 120 => ⟨S512, .f32⟩
  | 121 => ⟨S_, .i32⟩
  | 122 => ⟨S1x512, .f32⟩
  | 123 => ⟨S512, .f32⟩
  | 124 => ⟨S512, .f32⟩
  | 125 => ⟨S512, .f32⟩
  | 126 => ⟨S1x512, .f32⟩
  | 127 => ⟨S_, .i32⟩
  | _ => ⟨S8192x1664, .f32⟩

abbrev hbmTy0_1 (i : Nat) : BufTy := match i % 128 with
  | 0 => ⟨S8192x512, .f32⟩
  | 1 => ⟨S_, .i32⟩
  | 2 => ⟨S_, .i32⟩
  | 3 => ⟨S8192x512, .f32⟩
  | 4 => ⟨S8192x512, .f32⟩
  | 5 => ⟨S8192x512, .f32⟩
  | 6 => ⟨S_, .f32⟩
  | 7 => ⟨S8192x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S8192x512, .f32⟩
  | 22 => ⟨S8192x512, .f32⟩
  | 23 => ⟨S8192, .i32⟩
  | 24 => ⟨S8192x128, .f32⟩
  | 25 => ⟨S_, .f32⟩
  | 26 => ⟨S1x128, .f32⟩
  | 27 => ⟨S8193x128, .f32⟩
  | 28 => ⟨S8192x128, .f32⟩
  | 29 => ⟨S_, .f32⟩
  | 30 => ⟨S8192x128, .f32⟩
  | 31 => ⟨S8192x128, .f32⟩
  | 32 => ⟨S8192x128, .f32⟩
  | 33 => ⟨S8192x128, .f32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S8192, .f32⟩
  | 41 => ⟨S8192x1, .f32⟩
  | 42 => ⟨S8192x128, .f32⟩
  | 43 => ⟨S8192x128, .f32⟩
  | 44 => ⟨S8192x128, .f32⟩
  | 45 => ⟨S8192x128, .f32⟩
  | 46 => ⟨S_, .f32⟩
  | 47 => ⟨S3x128, .f32⟩
  | 48 => ⟨S8195x128, .f32⟩
  | 49 => ⟨S8192x128, .f32⟩
  | 50 => ⟨S_, .f32⟩
  | 51 => ⟨S8192x128, .f32⟩
  | 52 => ⟨S8192x128, .f32⟩
  | 53 => ⟨S8192x128, .f32⟩
  | 54 => ⟨S8192x128, .f32⟩
  | 55 => ⟨S8192x128, .f32⟩
  | 56 => ⟨S8192x128, .f32⟩
  | 57 => ⟨S8192x128, .f32⟩
  | 58 => ⟨S8192x128, .f32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S8192, .f32⟩
  | 66 => ⟨S8192x1, .f32⟩
  | 67 => ⟨S8192x128, .f32⟩
  | 68 => ⟨S8192x128, .f32⟩
  | 69 => ⟨S8192x128, .f32⟩
  | 70 => ⟨S8192x128, .f32⟩
  | 71 => ⟨S_, .f32⟩
  | 72 => ⟨S7x128, .f32⟩
  | 73 => ⟨S8199x128, .f32⟩
  | 74 => ⟨S8192x128, .f32⟩
  | 75 => ⟨S_, .f32⟩
  | 76 => ⟨S8192x128, .f32⟩
  | 77 => ⟨S8192x128, .f32⟩
  | 78 => ⟨S8192x128, .f32⟩
  | 79 => ⟨S8192x128, .f32⟩
  | 80 => ⟨S8192x128, .f32⟩
  | 81 => ⟨S8192x128, .f32⟩
  | 82 => ⟨S8192x128, .f32⟩
  | 83 => ⟨S8192x128, .f32⟩
  | 84 => ⟨S8192x128, .f32⟩
  | 85 => ⟨S8192x128, .f32⟩
  | 86 => ⟨S8192x128, .f32⟩
  | 87 => ⟨S8192x128, .f32⟩
  | 88 => ⟨S8192x128, .f32⟩
  | 89 => ⟨S8192x128, .f32⟩
  | 90 => ⟨S8192x128, .f32⟩
  | 91 => ⟨S8192x128, .f32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S8192, .f32⟩
  | 99 => ⟨S8192x1, .f32⟩
  | 100 => ⟨S8192x128, .f32⟩
  | 101 => ⟨S8192x128, .f32⟩
  | 102 => ⟨S8192x128, .f32⟩
  | 103 => ⟨S8192x128, .f32⟩
  | 104 => ⟨S_, .f32⟩
  | 105 => ⟨S15x128, .f32⟩
  | 106 => ⟨S8207x128, .f32⟩
  | 107 => ⟨S8192x128, .f32⟩
  | 108 => ⟨S_, .f32⟩
  | 109 => ⟨S8192x128, .f32⟩
  | 110 => ⟨S8192x128, .f32⟩
  | 111 => ⟨S8192x128, .f32⟩
  | 112 => ⟨S8192x128, .f32⟩
  | 113 => ⟨S8192x128, .f32⟩
  | 114 => ⟨S8192x128, .f32⟩
  | 115 => ⟨S8192x128, .f32⟩
  | 116 => ⟨S8192x128, .f32⟩
  | 117 => ⟨S8192x128, .f32⟩
  | 118 => ⟨S8192x128, .f32⟩
  | 119 => ⟨S8192x128, .f32⟩
  | 120 => ⟨S8192x128, .f32⟩
  | 121 => ⟨S8192x128, .f32⟩
  | 122 => ⟨S8192x128, .f32⟩
  | 123 => ⟨S8192x128, .f32⟩
  | 124 => ⟨S8192x128, .f32⟩
  | 125 => ⟨S8192x128, .f32⟩
  | 126 => ⟨S8192x128, .f32⟩
  | 127 => ⟨S8192x128, .f32⟩
  | _ => ⟨S8192x1664, .f32⟩

abbrev hbmTy0_2 (i : Nat) : BufTy := match i % 128 with
  | 0 => ⟨S8192x128, .f32⟩
  | 1 => ⟨S8192x128, .f32⟩
  | 2 => ⟨S8192x128, .f32⟩
  | 3 => ⟨S8192x128, .f32⟩
  | 4 => ⟨S8192x128, .f32⟩
  | 5 => ⟨S8192x128, .f32⟩
  | 6 => ⟨S8192x128, .f32⟩
  | 7 => ⟨S8192x128, .f32⟩
  | 8 => ⟨S8192x128, .f32⟩
  | 9 => ⟨S8192x128, .f32⟩
  | 10 => ⟨S8192x128, .f32⟩
  | 11 => ⟨S8192x128, .f32⟩
  | 12 => ⟨S8192x128, .f32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S8192, .f32⟩
  | 20 => ⟨S8192x1, .f32⟩
  | 21 => ⟨S8192x128, .f32⟩
  | 22 => ⟨S8192x128, .f32⟩
  | 23 => ⟨S8192x128, .f32⟩
  | 24 => ⟨S8192x1x128, .f32⟩
  | 25 => ⟨S8192x1x128, .f32⟩
  | 26 => ⟨S8192x1x128, .f32⟩
  | 27 => ⟨S8192x1x128, .f32⟩
  | 28 => ⟨S8192x4x128, .f32⟩
  | 29 => ⟨S4x128x8192, .f32⟩
  | 30 => ⟨S8192x4x128, .f32⟩
  | 31 => ⟨S8192x512, .f32⟩
  | 32 => ⟨S1x512, .f32⟩
  | 33 => ⟨S8192x512, .f32⟩
  | 34 => ⟨S8192x512, .f32⟩
  | _ => ⟨S8192x1664, .f32⟩

abbrev hbmTy (i : Nat) : BufTy := match i / 128 with
  | 0 => hbmTy0_0 i
  | 1 => hbmTy0_1 i
  | 2 => hbmTy0_2 i
  | _ => ⟨S8192x1664, .f32⟩

abbrev bufTy : (tb : Table) → Fin (tcTables nBuf tb) → BufTy
  | .hbm, ⟨i, _⟩ => hbmTy i
  | _, _ => ⟨S8192x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_v44 : Ref sig .tc := ⟨.hbm, 57, rfl⟩
abbrev main_v45 : Ref sig .tc := ⟨.hbm, 58, rfl⟩
abbrev main_cst_2 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_3 : Ref sig .tc := ⟨.hbm, 70, rfl⟩
abbrev main_v56 : Ref sig .tc := ⟨.hbm, 71, rfl⟩
abbrev main_v57 : Ref sig .tc := ⟨.hbm, 72, rfl⟩
abbrev main_cst_4 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_6 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_7 : Ref sig .tc := ⟨.hbm, 106, rfl⟩
abbrev main_v75 : Ref sig .tc := ⟨.hbm, 107, rfl⟩
abbrev main_cst_8 : Ref sig .tc := ⟨.hbm, 108, rfl⟩
abbrev main_v76 : Ref sig .tc := ⟨.hbm, 109, rfl⟩
abbrev main_c : Ref sig .tc := ⟨.hbm, 110, rfl⟩
abbrev main_v77_0 : Ref sig .tc := ⟨.hbm, 111, rfl⟩
abbrev main_v77_1 : Ref sig .tc := ⟨.hbm, 112, rfl⟩
abbrev main_v77_2 : Ref sig .tc := ⟨.hbm, 113, rfl⟩
abbrev main_v77_3 : Ref sig .tc := ⟨.hbm, 114, rfl⟩
abbrev main_v77_4 : Ref sig .tc := ⟨.hbm, 115, rfl⟩
abbrev main_while0c_c_33 : Ref sig .tc := ⟨.hbm, 116, rfl⟩
abbrev main_while0c_v218 : Ref sig .tc := ⟨.hbm, 117, rfl⟩
abbrev main_while0b_call1_c : Ref sig .tc := ⟨.hbm, 118, rfl⟩
abbrev main_while0b_call1_v0 : Ref sig .tc := ⟨.hbm, 119, rfl⟩
abbrev main_while0b_v218 : Ref sig .tc := ⟨.hbm, 120, rfl⟩
abbrev main_while0b_call2_c : Ref sig .tc := ⟨.hbm, 121, rfl⟩
abbrev main_while0b_call2_v0 : Ref sig .tc := ⟨.hbm, 122, rfl⟩
abbrev main_while0b_v219 : Ref sig .tc := ⟨.hbm, 123, rfl⟩
abbrev main_while0b_v220 : Ref sig .tc := ⟨.hbm, 124, rfl⟩
abbrev main_while0b_v221 : Ref sig .tc := ⟨.hbm, 125, rfl⟩
abbrev main_while0b_call3_v0 : Ref sig .tc := ⟨.hbm, 126, rfl⟩
abbrev main_while0b_call3_c : Ref sig .tc := ⟨.hbm, 127, rfl⟩
abbrev main_while0b_v222 : Ref sig .tc := ⟨.hbm, 128, rfl⟩
abbrev main_while0b_c_33 : Ref sig .tc := ⟨.hbm, 129, rfl⟩
abbrev main_while0b_v223 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_9 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_10 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_11 : Ref sig .tc := ⟨.hbm, 142, rfl⟩
abbrev main_v87 : Ref sig .tc := ⟨.hbm, 143, rfl⟩
abbrev main_v88 : Ref sig .tc := ⟨.hbm, 144, rfl⟩
abbrev main_cst_12 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_13 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_cst_14 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_c_15 : Ref sig .tc := ⟨.hbm, 162, rfl⟩
abbrev main_v103 : Ref sig .tc := ⟨.hbm, 163, rfl⟩
abbrev main_v104 : Ref sig .tc := ⟨.hbm, 164, rfl⟩
abbrev main_c_16 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_17 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_18 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_c_19 : Ref sig .tc := ⟨.hbm, 187, rfl⟩
abbrev main_v124 : Ref sig .tc := ⟨.hbm, 188, rfl⟩
abbrev main_v125 : Ref sig .tc := ⟨.hbm, 189, rfl⟩
abbrev main_c_20 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_cst_21 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_cst_22 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_c_23 : Ref sig .tc := ⟨.hbm, 220, rfl⟩
abbrev main_v153 : Ref sig .tc := ⟨.hbm, 221, rfl⟩
abbrev main_v154 : Ref sig .tc := ⟨.hbm, 222, rfl⟩
abbrev main_c_24 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_cst_25 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_cst_26 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_c_27 : Ref sig .tc := ⟨.hbm, 269, rfl⟩
abbrev main_v198 : Ref sig .tc := ⟨.hbm, 270, rfl⟩
abbrev main_v199 : Ref sig .tc := ⟨.hbm, 271, rfl⟩
abbrev main_c_28 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩

abbrev nD : Nat := 1
abbrev τ : Topo := Topo.v7x

variable {F : FTy → Type} [FloatOps F]

abbrev main_while0_count : Scf.Loop 32 := ⟨0#32, 8192#32, 1#32⟩
-- ==== InProj.lean ====
abbrev S8192x2048 : Shape := ⟨2, ![8192, 2048]⟩
abbrev S2048 : Shape := ⟨1, ![2048]⟩
abbrev S1x2048 : Shape := ⟨2, ![1, 2048]⟩
abbrev S2x2048x5712 : Shape := ⟨3, ![2, 2048, 5712]⟩
abbrev S2x5712x2048 : Shape := ⟨3, ![2, 5712, 2048]⟩
abbrev S2x1536x2048 : Shape := ⟨3, ![2, 1536, 2048]⟩
abbrev S2x80x2048 : Shape := ⟨3, ![2, 80, 2048]⟩
abbrev S_ : Shape := ⟨0, ![]⟩
abbrev S2x48x2048 : Shape := ⟨3, ![2, 48, 2048]⟩
abbrev S2x1664x2048 : Shape := ⟨3, ![2, 1664, 2048]⟩
abbrev S8192x4096 : Shape := ⟨2, ![8192, 4096]⟩
abbrev S8192x1664 : Shape := ⟨2, ![8192, 1664]⟩
abbrev S512x2048 : Shape := ⟨2, ![512, 2048]⟩
abbrev S1x4096x2048 : Shape := ⟨3, ![1, 4096, 2048]⟩
abbrev S1x1664x2048 : Shape := ⟨3, ![1, 1664, 2048]⟩
abbrev S512x4096 : Shape := ⟨2, ![512, 4096]⟩
abbrev S512x1664 : Shape := ⟨2, ![512, 1664]⟩
abbrev S512 : Shape := ⟨1, ![512]⟩
abbrev S512x1 : Shape := ⟨2, ![512, 1]⟩
abbrev S4096x2048 : Shape := ⟨2, ![4096, 2048]⟩
abbrev S1664x2048 : Shape := ⟨2, ![1664, 2048]⟩

abbrev nBuf : Space → Nat
  | .hbm => 15
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2x2048x5712, .f32⟩
  | .hbm, ⟨5, _⟩ => ⟨S2x5712x2048, .f32⟩
  | .hbm, ⟨6, _⟩ => ⟨S2x5712x2048, .bf16⟩
  | .hbm, ⟨7, _⟩ => ⟨S2x1536x2048, .bf16⟩
  | .hbm, ⟨8, _⟩ => ⟨S2x80x2048, .bf16⟩
  | .hbm, ⟨9, _⟩ => ⟨S_, .bf16⟩
  | .hbm, ⟨10, _⟩ => ⟨S2x48x2048, .bf16⟩
  | .hbm, ⟨11, _⟩ => ⟨S2x1664x2048, .bf16⟩
  | .hbm, ⟨12, _⟩ => ⟨S1x2048, .f32⟩
  | .hbm, ⟨13, _⟩ => ⟨S8192x4096, .bf16⟩
  | .hbm, ⟨14, _⟩ => ⟨S8192x1664, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x4096x2048, .bf16⟩
  | .local _ .vmem, ⟨6, _⟩ => ⟨S1x1664x2048, .bf16⟩
  | .local _ .vmem, ⟨7, _⟩ => ⟨S512x4096, .bf16⟩
  | .local _ .vmem, ⟨8, _⟩ => ⟨S512x4096, .bf16⟩
  | .local _ .vmem, ⟨9, _⟩ => ⟨S512x1664, .f32⟩
  | .local _ .vmem, ⟨10, _⟩ => ⟨S512x1664, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1664x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjRefIdeal.lean ====
abbrev S8192x2048 : Shape := ⟨2, ![8192, 2048]⟩
abbrev S2048 : Shape := ⟨1, ![2048]⟩
abbrev S1x2048 : Shape := ⟨2, ![1, 2048]⟩
abbrev S2x2048x5712 : Shape := ⟨3, ![2, 2048, 5712]⟩
abbrev S_ : Shape := ⟨0, ![]⟩
abbrev S8192 : Shape := ⟨1, ![8192]⟩
abbrev S8192x1 : Shape := ⟨2, ![8192, 1]⟩
abbrev S1x2048x5712 : Shape := ⟨3, ![1, 2048, 5712]⟩
abbrev S2048x5712 : Shape := ⟨2, ![2048, 5712]⟩
abbrev S8192x5712 : Shape := ⟨2, ![8192, 5712]⟩
abbrev S8192x80 : Shape := ⟨2, ![8192, 80]⟩
abbrev S8192x1536 : Shape := ⟨2, ![8192, 1536]⟩
abbrev S8192x48 : Shape := ⟨2, ![8192, 48]⟩
abbrev S8192x4096 : Shape := ⟨2, ![8192, 4096]⟩
abbrev S8192x1664 : Shape := ⟨2, ![8192, 1664]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2x2048x5712, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S1x2048x5712, .f32⟩
  | .hbm, ⟨29, _⟩ => ⟨S2048x5712, .f32⟩
  | .hbm, ⟨30, _⟩ => ⟨S8192x5712, .f32⟩
  | .hbm, ⟨31, _⟩ => ⟨S8192x80, .f32⟩
  | .hbm, ⟨32, _⟩ => ⟨S8192x1536, .f32⟩
  | .hbm, ⟨33, _⟩ => ⟨S_, .f32⟩
  | .hbm, ⟨34, _⟩ => ⟨S8192x48, .f32⟩
  | .hbm, ⟨35, _⟩ => ⟨S8192x4096, .f32⟩
  | .hbm, ⟨36, _⟩ => ⟨S8192x4096, .bf16⟩
  | .hbm, ⟨37, _⟩ => ⟨S8192x1664, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== MixOut.lean ====
abbrev S8192x1024 : Shape := ⟨2, ![8192, 1024]⟩
abbrev S8192x512 : Shape := ⟨2, ![8192, 512]⟩
abbrev S8192x2048 : Shape := ⟨2, ![8192, 2048]⟩
abbrev S1024 : Shape := ⟨1, ![1024]⟩
abbrev S512 : Shape := ⟨1, ![512]⟩
abbrev S2x2048x2048 : Shape := ⟨3, ![2, 2048, 2048]⟩
abbrev S2048 : Shape := ⟨1, ![2048]⟩
abbrev S1x2048 : Shape := ⟨2, ![1, 2048]⟩
abbrev S2x2048x8192 : Shape := ⟨3, ![2, 2048, 8192]⟩
abbrev S1x1024 : Shape := ⟨2, ![1, 1024]⟩
abbrev S1x512 : Shape := ⟨2, ![1, 512]⟩
abbrev S2048x8192 : Shape := ⟨2, ![2048, 8192]⟩
abbrev S512x1024 : Shape := ⟨2, ![512, 1024]⟩
abbrev S512x512 : Shape := ⟨2, ![512, 512]⟩
abbrev S512x2048 : Shape := ⟨2, ![512, 2048]⟩
abbrev S1x2048x2048 : Shape := ⟨3, ![1, 2048, 2048]⟩
abbrev S1x128x8192 : Shape := ⟨3, ![1, 128, 8192]⟩
abbrev S128x8192 : Shape := ⟨2, ![128, 8192]⟩
abbrev S512x1 : Shape := ⟨2, ![512, 1]⟩
abbrev S1x1024x2048 : Shape := ⟨3, ![1, 1024, 2048]⟩
abbrev S1024x2048 : Shape := ⟨2, ![1024, 2048]⟩
abbrev S1x512x2048 : Shape := ⟨3, ![1, 512, 2048]⟩

abbrev nBuf : Space → Nat
  | .hbm => 23
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2048, .f32⟩
  | .hbm, ⟨4, _⟩ => ⟨S1024, .f32⟩
  | .hbm, ⟨5, _⟩ => ⟨S512, .f32⟩
  | .hbm, ⟨6, _⟩ => ⟨S512, .f32⟩
  | .hbm, ⟨7, _⟩ => ⟨S2x2048x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2x2048x8192, .f32⟩
  | .hbm, ⟨14, _⟩ => ⟨S1x1024, .f32⟩
  | .hbm, ⟨15, _⟩ => ⟨S1x512, .f32⟩
  | .hbm, ⟨16, _⟩ => ⟨S1x512, .f32⟩
  | .hbm, ⟨17, _⟩ => ⟨S2x2048x2048, .bf16⟩
  | .hbm, ⟨18, _⟩ => ⟨S1x2048, .f32⟩
  | .hbm, ⟨19, _⟩ => ⟨S1x2048, .f32⟩
  | .hbm, ⟨20, _⟩ => ⟨S8192x2048, .f32⟩
  | .hbm, ⟨21, _⟩ => ⟨S8192x2048, .bf16⟩
  | .hbm, ⟨22, _⟩ => ⟨S2048x8192, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S1x1024, .f32⟩
  | .local _ .vmem, ⟨9, _⟩ => ⟨S1x512, .f32⟩
  | .local _ .vmem, ⟨10, _⟩ => ⟨S1x512, .f32⟩
  | .local _ .vmem, ⟨11, _⟩ => ⟨S1x2048x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x128x8192, .f32⟩
  | .local _ .vmem, ⟨18, _⟩ => ⟨S1x128x8192, .f32⟩
  | .local _ .vmem, ⟨19, _⟩ => ⟨S512x2048, .f32⟩
  | .local _ .vmem, ⟨20, _⟩ => ⟨S512x2048, .f32⟩
  | .local _ .vmem, ⟨21, _⟩ => ⟨S512x2048, .bf16⟩
  | .local _ .vmem, ⟨22, _⟩ => ⟨S512x2048, .bf16⟩
  | .local _ .vmem, ⟨23, _⟩ => ⟨S128x8192, .bf16⟩
  | .local _ .vmem, ⟨24, _⟩ => ⟨S128x8192, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x128x8192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x8192 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixOutRefIdeal.lean ====
abbrev S8192x1024 : Shape := ⟨2, ![8192, 1024]⟩
abbrev S8192x512 : Shape := ⟨2, ![8192, 512]⟩
abbrev S8192x2048 : Shape := ⟨2, ![8192, 2048]⟩
abbrev S1024 : Shape := ⟨1, ![1024]⟩
abbrev S512 : Shape := ⟨1, ![512]⟩
abbrev S2x2048x2048 : Shape := ⟨3, ![2, 2048, 2048]⟩
abbrev S2048 : Shape := ⟨1, ![2048]⟩
abbrev S1x2048 : Shape := ⟨2, ![1, 2048]⟩
abbrev S2x2048x8192 : Shape := ⟨3, ![2, 2048, 8192]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x512 : Shape := ⟨2, ![1, 512]⟩
abbrev S1x2048x2048 : Shape := ⟨3, ![1, 2048, 2048]⟩
abbrev S2048x2048 : Shape := ⟨2, ![2048, 2048]⟩
abbrev S1x2048x8192 : Shape := ⟨3, ![1, 2048, 8192]⟩
abbrev S2048x8192 : Shape := ⟨2, ![2048, 8192]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2048, .f32⟩
  | .hbm, ⟨4, _⟩ => ⟨S1024, .f32⟩
  | .hbm, ⟨5, _⟩ => ⟨S512, .f32⟩
  | .hbm, ⟨6, _⟩ => ⟨S512, .f32⟩
  | .hbm, ⟨7, _⟩ => ⟨S2x2048x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2x2048x8192, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x512, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x512, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x512, .f32⟩
  | .hbm, ⟨58, _⟩ => ⟨S8192x512, .f32⟩
  | .hbm, ⟨59, _⟩ => ⟨S1x512, .f32⟩
  | .hbm, ⟨60, _⟩ => ⟨S8192x512, .f32⟩
  | .hbm, ⟨61, _⟩ => ⟨S8192x512, .f32⟩
  | .hbm, ⟨62, _⟩ => ⟨S8192x2048, .f32⟩
  | .hbm, ⟨63, _⟩ => ⟨S1x2048x2048, .f32⟩
  | .hbm, ⟨64, _⟩ => ⟨S2048x2048, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S8192x2048, .f32⟩
  | .hbm, ⟨78, _⟩ => ⟨S8192x2048, .f32⟩
  | .hbm, ⟨79, _⟩ => ⟨S1x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S8192x1, .f32⟩
  | .hbm, ⟨96, _⟩ => ⟨S8192x2048, .f32⟩
  | .hbm, ⟨97, _⟩ => ⟨S8192x2048, .f32⟩
  | .hbm, ⟨98, _⟩ => ⟨S1x2048, .f32⟩
  | .hbm, ⟨99, _⟩ => ⟨S8192x2048, .f32⟩
  | .hbm, ⟨100, _⟩ => ⟨S8192x2048, .f32⟩
  | .hbm, ⟨101, _⟩ => ⟨S_, .f32⟩
  | .hbm, ⟨102, _⟩ => ⟨S1x2048, .f32⟩
  | .hbm, ⟨103, _⟩ => ⟨S1x2048, .f32⟩
  | .hbm, ⟨104, _⟩ => ⟨S8192x2048, .f32⟩
  | .hbm, ⟨105, _⟩ => ⟨S8192x2048, .f32⟩
  | .hbm, ⟨106, _⟩ => ⟨S8192x2048, .f32⟩
  | .hbm, ⟨107, _⟩ => ⟨S8192x2048, .f32⟩
  | .hbm, ⟨108, _⟩ => ⟨S8192x2048, .bf16⟩
  | .hbm, ⟨109, _⟩ => ⟨S1x2048x8192, .f32⟩
  | .hbm, ⟨110, _⟩ => ⟨S2048x8192, .f32⟩
  | .hbm, ⟨111, _⟩ => ⟨S2048x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== MlpUp.lean ====
abbrev S8192x2048 : Shape := ⟨2, ![8192, 2048]⟩
abbrev S2048x8192 : Shape := ⟨2, ![2048, 8192]⟩
abbrev S2x8192x2048 : Shape := ⟨3, ![2, 8192, 2048]⟩
abbrev S8192x8192 : Shape := ⟨2, ![8192, 8192]⟩
abbrev S512x2048 : Shape := ⟨2, ![512, 2048]⟩
abbrev S2048x4096 : Shape := ⟨2, ![2048, 4096]⟩
abbrev S1x256x2048 : Shape := ⟨3, ![1, 256, 2048]⟩
abbrev S512x4096 : Shape := ⟨2, ![512, 4096]⟩
abbrev S256x2048 : Shape := ⟨2, ![256, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S2x8192x2048, .f32⟩
  | .hbm, ⟨3, _⟩ => ⟨S8192x8192, .bf16⟩
  | .hbm, ⟨4, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x4096, .bf16⟩
  | .local _ .vmem, ⟨3, _⟩ => ⟨S1x256x2048, .f32⟩
  | .local _ .vmem, ⟨4, _⟩ => ⟨S1x256x2048, .f32⟩
  | .local _ .vmem, ⟨5, _⟩ => ⟨S512x4096, .bf16⟩
  | .local _ .vmem, ⟨6, _⟩ => ⟨S512x4096, .bf16⟩
  | .local _ .vmem, ⟨7, _⟩ => ⟨S256x2048, .bf16⟩
  | .local _ .vmem, ⟨8, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlpUpRefIdeal.lean ====
abbrev S8192x2048 : Shape := ⟨2, ![8192, 2048]⟩
abbrev S2048x8192 : Shape := ⟨2, ![2048, 8192]⟩
abbrev S2x8192x2048 : Shape := ⟨3, ![2, 8192, 2048]⟩
abbrev S8192x8192 : Shape := ⟨2, ![8192, 8192]⟩
abbrev S_ : Shape := ⟨0, ![]⟩
abbrev S1x8192x2048 : Shape := ⟨3, ![1, 8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S2x8192x2048, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .bf16⟩
  | .hbm, ⟨11, _⟩ => ⟨S1x8192x2048, .f32⟩
  | .hbm, ⟨12, _⟩ => ⟨S8192x2048, .f32⟩
  | .hbm, ⟨13, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MlpDown.lean ====
abbrev S8192x8192 : Shape := ⟨2, ![8192, 8192]⟩
abbrev S8192x2048 : Shape := ⟨2, ![8192, 2048]⟩
abbrev S2048 : Shape := ⟨1, ![2048]⟩
abbrev S1x2048 : Shape := ⟨2, ![1, 2048]⟩
abbrev S256x8192 : Shape := ⟨2, ![256, 8192]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x2048, .f32⟩
  | .local _ .vmem, ⟨0, _⟩ => ⟨S256x8192, .bf16⟩
  | .local _ .vmem, ⟨1, _⟩ => ⟨S256x8192, .bf16⟩
  | .local _ .vmem, ⟨2, _⟩ => ⟨S8192x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpDownRefIdeal.lean ====
abbrev S8192x8192 : Shape := ⟨2, ![8192, 8192]⟩
abbrev S8192x2048 : Shape := ⟨2, ![8192, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Modulation.lean ====
abbrev S1x2048 : Shape := ⟨2, ![1, 2048]⟩
abbrev S2x2048x12288 : Shape := ⟨3, ![2, 2048, 12288]⟩
abbrev S2x12288 : Shape := ⟨2, ![2, 12288]⟩
abbrev S2048x1 : Shape := ⟨2, ![2048, 1]⟩
abbrev S2x1x12288 : Shape := ⟨3, ![2, 1, 12288]⟩
abbrev S1x2048x1024 : Shape := ⟨3, ![1, 2048, 1024]⟩
abbrev S1x1x1024 : Shape := ⟨3, ![1, 1, 1024]⟩
abbrev S2048x1024 : Shape := ⟨2, ![2048, 1024]⟩
abbrev S1024 : Shape := ⟨1, ![1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S2x2048x12288, .f32⟩
  | .hbm, ⟨2, _⟩ => ⟨S2x12288, .f32⟩
  | .hbm, ⟨3, _⟩ => ⟨S2048x1, .f32⟩
  | .hbm, ⟨4, _⟩ => ⟨S2x1x12288, .f32⟩
  | .hbm, ⟨5, _⟩ => ⟨S2x1x12288, .f32⟩
  | .local _ .vmem, ⟨0, _⟩ => ⟨S2048x1, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S1x2048 : Shape := ⟨2, ![1, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S1x1x12288 : Shape := ⟨3, ![1, 1, 12288]⟩
abbrev S2x1x12288 : Shape := ⟨3, ![2, 1, 12288]⟩

abbrev nBuf : Space → Nat
  | .hbm => 29
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2x2048x12288, .f32⟩
  | .hbm, ⟨2, _⟩ => ⟨S2x12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048x12288, .f32⟩
  | .hbm, ⟨13, _⟩ => ⟨S2048x12288, .f32⟩
  | .hbm, ⟨14, _⟩ => ⟨S1x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S1x12288, .f32⟩
  | .hbm, ⟨19, _⟩ => ⟨S1x2048x12288, .f32⟩
  | .hbm, ⟨20, _⟩ => ⟨S2048x12288, .f32⟩
  | .hbm, ⟨21, _⟩ => ⟨S1x12288, .f32⟩
  | .hbm, ⟨22, _⟩ => ⟨S1x12288, .f32⟩
  | .hbm, ⟨23, _⟩ => ⟨S12288, .f32⟩
  | .hbm, ⟨24, _⟩ => ⟨S1x12288, .f32⟩
  | .hbm, ⟨25, _⟩ => ⟨S1x12288, .f32⟩
  | .hbm, ⟨26, _⟩ => ⟨S1x1x12288, .f32⟩
  | .hbm, ⟨27, _⟩ => ⟨S1x1x12288, .f32⟩
  | .hbm, ⟨28, _⟩ => ⟨S2x1x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Band.lean ====
abbrev S32x8 : Shape := ⟨2, ![32, 8]⟩
abbrev S8x32 : Shape := ⟨2, ![8, 32]⟩
abbrev S_ : Shape := ⟨0, ![]⟩
abbrev S8x128 : Shape := ⟨2, ![8, 128]⟩
abbrev S4x8x512x256 : Shape := ⟨4, ![4, 8, 512, 256]⟩
abbrev S1x8x512x256 : Shape := ⟨4, ![1, 8, 512, 256]⟩
abbrev S512x256 : Shape := ⟨2, ![512, 256]⟩
abbrev S1x128 : Shape := ⟨2, ![1, 128]⟩
abbrev S512x128 : Shape := ⟨2, ![512, 128]⟩
abbrev S512x128x1 : Shape := ⟨3, ![512, 128, 1]⟩
abbrev S1x1x512x256 : Shape := ⟨4, ![1, 1, 512, 256]⟩

abbrev nBuf : Space → Nat
  | .hbm => 6
  | .vmem => 3
  | .smem => 0
  | _ => 0

abbrev bufTy : (tb : Table) → Fin (tcTables nBuf tb) → BufTy
  | .hbm, ⟨0, _⟩ => ⟨S32x8, .f32⟩
  | .hbm, ⟨1, _⟩ => ⟨S8x32, .f32⟩
  | .hbm, ⟨2, _⟩ => ⟨S_, .i32⟩
  | .hbm, ⟨3, _⟩ => ⟨S_, .f32⟩
  | .hbm, ⟨4, _⟩ => ⟨S8x128, .f32⟩
  | .hbm, ⟨5, _⟩ => ⟨S4x8x512x256, .f32⟩
  | .local _ .vmem, ⟨0, _⟩ => ⟨S8x128, .f32⟩
  | .local _ .vmem, ⟨1, _⟩ => ⟨S1x8x512x256, .f32⟩
  | .local _ .vmem, ⟨2, _⟩ => ⟨S1x8x512x256, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BandRefIdeal.lean ====
abbrev S32x8 : Shape := ⟨2, ![32, 8]⟩
abbrev S4x512x256 : Shape := ⟨3, ![4, 512, 256]⟩
abbrev S_ : Shape := ⟨0, ![]⟩
abbrev S4x512x256x1 : Shape := ⟨4, ![4, 512, 256, 1]⟩
abbrev S4x512x256x8 : Shape := ⟨4, ![4, 512, 256, 8]⟩
abbrev S4x8x512x256 : Shape := ⟨4, ![4, 8, 512, 256]⟩

abbrev nBuf : Space → Nat
  | .hbm => 53
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S4x512x256, .i32⟩
  | .hbm, ⟨2, _⟩ => ⟨S4x512x256, .i32⟩
  | .hbm, ⟨3, _⟩ => ⟨S4x512x256, .i32⟩
  | .hbm, ⟨4, _⟩ => ⟨S_, .i32⟩
  | .hbm, ⟨5, _⟩ => ⟨S4x512x256, .i32⟩
  | .hbm, ⟨6, _⟩ => ⟨S4x512x256, .i32⟩
  | .hbm, ⟨7, _⟩ => ⟨S_, .i32⟩
  | .hbm, ⟨8, _⟩ => ⟨S4x512x256, .i32⟩
  | .hbm, ⟨9, _⟩ => ⟨S4x512x256, .i32⟩
  | .hbm, ⟨10, _⟩ => ⟨S4x512x256, .i32⟩
  | .hbm, ⟨11, _⟩ => ⟨S4x512x256, .i32⟩
  | .hbm, ⟨12, _⟩ => ⟨S_, .i32⟩
  | .hbm, ⟨13, _⟩ => ⟨S4x512x256, .i32⟩
  | .hbm, ⟨14, _⟩ => ⟨S4x512x256, .i32⟩
  | .hbm, ⟨15, _⟩ => ⟨S4x512x256, .f32⟩
  | .hbm, ⟨16, _⟩ => ⟨S_, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S4x512x256, .f32⟩
  | .hbm, ⟨23, _⟩ => ⟨S_, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .i32⟩
  | .hbm, ⟨30, _⟩ => ⟨S_, .i32⟩
  | .hbm, ⟨31, _⟩ => ⟨S4x512x256, .i32⟩
  | .hbm, ⟨32, _⟩ => ⟨S4x512x256, .i32⟩
  | .hbm, ⟨33, _⟩ => ⟨S_, .i32⟩
  | .hbm, ⟨34, _⟩ => ⟨S4x512x256, .i32⟩
  | .hbm, ⟨35, _⟩ => ⟨S4x512x256, .i32⟩
  | .hbm, ⟨36, _⟩ => ⟨S_, .i32⟩
  | .hbm, ⟨37, _⟩ => ⟨S4x512x256, .i32⟩
  | .hbm, ⟨38, _⟩ => ⟨S4x512x256, .i1⟩
  | .hbm, ⟨39, _⟩ => ⟨S4x512x256, .i32⟩
  | .hbm, ⟨40, _⟩ => ⟨S_, .i32⟩
  | .hbm, ⟨41, _⟩ => ⟨S4x512x256, .i32⟩
  | .hbm, ⟨42, _⟩ => ⟨S4x512x256, .i1⟩
  | .hbm, ⟨43, _⟩ => ⟨S_, .i32⟩
  | .hbm, ⟨44, _⟩ => ⟨S4x512x256, .i32⟩
  | .hbm, ⟨45, _⟩ => ⟨S4x512x256, .i32⟩
  | .hbm, ⟨46, _⟩ => ⟨S4x512x256, .i32⟩
  | .hbm, ⟨47, _⟩ => ⟨S4x512x256x1, .i32⟩
  | .hbm, ⟨48, _⟩ => ⟨S4x512x256x8, .f32⟩
  | .hbm, ⟨49, _⟩ => ⟨S4x8x512x256, .f32⟩
  | .hbm, ⟨50, _⟩ => ⟨S_, .f32⟩
  | .hbm, ⟨51, _⟩ => ⟨S4x8x512x256, .f32⟩
  | .hbm, ⟨52, _⟩ => ⟨S4x8x512x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_c_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_8 : Ref sig .tc := ⟨.hbm, 40, rfl⟩
abbrev main_v29 : Ref sig .tc := ⟨.hbm, 41, rfl⟩
abbrev main_v30 : Ref sig .tc := ⟨.hbm, 42, rfl⟩
abbrev main_c_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Attention.lean ====
abbrev S8192x4096 : Shape := ⟨2, ![8192, 4096]⟩
abbrev S8192x256 : Shape := ⟨2, ![8192, 256]⟩
abbrev S4x8x512x256 : Shape := ⟨4, ![4, 8, 512, 256]⟩
abbrev S8192x1024 : Shape := ⟨2, ![8192, 1024]⟩
abbrev S512x256 : Shape := ⟨2, ![512, 256]⟩
abbrev S4x2x512x256 : Shape := ⟨4, ![4, 2, 512, 256]⟩
abbrev S32x512x256 : Shape := ⟨3, ![32, 512, 256]⟩
abbrev S4x512x256 : Shape := ⟨3, ![4, 512, 256]⟩
abbrev S2x512x256 : Shape := ⟨3, ![2, 512, 256]⟩
abbrev S1024x128 : Shape := ⟨2, ![1024, 128]⟩
abbrev S1x512x256 : Shape := ⟨3, ![1, 512, 256]⟩
abbrev S512x1 : Shape := ⟨2, ![512, 1]⟩
abbrev S512x128 : Shape := ⟨2, ![512, 128]⟩
abbrev S256x128 : Shape := ⟨2, ![256, 128]⟩
abbrev S1x1x512x256 : Shape := ⟨4, ![1, 1, 512, 256]⟩
abbrev S512 : Shape := ⟨1, ![512]⟩
abbrev S512x1024 : Shape := ⟨2, ![512, 1024]⟩
abbrev S1024x256 : Shape := ⟨2, ![1024, 256]⟩
abbrev S1x512x128 : Shape := ⟨3, ![1, 512, 128]⟩
abbrev S1x512x1 : Shape := ⟨3, ![1, 512, 1]⟩

abbrev nBuf : Space → Nat
  | .hbm => 4
  | .vmem => 16
  | .smem => 0
  | _ => 0

abbrev bufTy : (tb : Table) → Fin (tcTables nBuf tb) → BufTy
  | .hbm, ⟨0, _⟩ => ⟨S8192x4096, .bf16⟩
  | .hbm, ⟨1, _⟩ => ⟨S8192x256, .i32⟩
  | .hbm, ⟨2, _⟩ => ⟨S4x8x512x256, .f32⟩
  | .hbm, ⟨3, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S512x256, .i32⟩
  | .local _ .vmem, ⟨7, _⟩ => ⟨S512x256, .i32⟩
  | .local _ .vmem, ⟨8, _⟩ => ⟨S4x2x512x256, .f32⟩
  | .local _ .vmem, ⟨9, _⟩ => ⟨S4x2x512x256, .f32⟩
  | .local _ .vmem, ⟨10, _⟩ => ⟨S512x256, .f32⟩
  | .local _ .vmem, ⟨11, _⟩ => ⟨S512x256, .f32⟩
  | .local _ .vmem, ⟨12, _⟩ => ⟨S32x512x256, .f32⟩
  | .local _ .vmem, ⟨13, _⟩ => ⟨S4x512x256, .f32⟩
  | .local _ .vmem, ⟨14, _⟩ => ⟨S4x512x256, .f32⟩
  | .local _ .vmem, ⟨15, _⟩ => ⟨S2x512x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32_7 : BitVec 32 := 0#32
  let v22 : BitVec 1 := Scalar.cmpi .eq arg1 c0_i32_7
  let v23 : BitVec 32 := Scalar.extui v22
  let c0_i32_8 : BitVec 32 := 0#32
  let v24 : BitVec 1 := Scalar.cmpi .ne v23 c0_i32_8
  v24

@[reducible] def k0_t1_loop (i : grid0.Coords) : Scf.Loop 32 :=
  let c0_i32_42 : BitVec 32 := 0#32
  let c4_i32_40 : BitVec 32 := 4#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v71 : BitVec 32 := Scalar.muli c4_i32_40 v20
  let v72 : BitVec 32 := Scalar.subi v71 c0_i32_42
  let c1_i32_43 : BitVec 32 := 1#32
  let v74 : BitVec 32 := Scalar.divsi v72 c1_i32_43
  let v75 : BitVec 32 := Scalar.muli v74 c1_i32_43
  let v76 : BitVec 32 := Scalar.addi c0_i32_42 v75
  let c1_i32_44 : BitVec 32 := 1#32
  ⟨c0_i32_42, v76, c1_i32_44⟩
def k0_off1 (i : grid0.Coords) (k0_t1 : Fin (k0_t1_loop i).trips) : Fin 3 → Nat :=
  let c0_i32_42 : BitVec 32 := 0#32
  let c1_i32_44 : BitVec 32 := 1#32
  let arg12 : BitVec 32 := Scf.iv c0_i32_42 c1_i32_44 k0_t1
  let v86 : Index := Scalar.indexCast arg12
  let c0_52 : Index := 0#32
  let c0_53 : Index := 0#32
  ![v86.toNat, 0, 0]
@[reducible] def k0_t2_loop (i : grid0.Coords) : Scf.Loop 32 :=
  let c0_i32_42 : BitVec 32 := 0#32
  let c4_i32_40 : BitVec 32 := 4#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v71 : BitVec 32 := Scalar.muli c4_i32_40 v20
  let v72 : BitVec 32 := Scalar.subi v71 c0_i32_42
  let c1_i32_43 : BitVec 32 := 1#32
  let v74 : BitVec 32 := Scalar.divsi v72 c1_i32_43
  let v75 : BitVec 32 := Scalar.muli v74 c1_i32_43
  let v76 : BitVec 32 := Scalar.addi c0_i32_42 v75
  let v73 : BitVec 32 := Scalar.addi c0_i32_42 v72
  let c1_i32_45 : BitVec 32 := 1#32
  ⟨v76, v73, c1_i32_45⟩
def k0_off2 (i : grid0.Coords) (k0_t2 : Fin (k0_t2_loop i).trips) : Fin 3 → Nat :=
  let c0_i32_42 : BitVec 32 := 0#32
  let c4_i32_40 : BitVec 32 := 4#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let v71 : BitVec 32 := Scalar.muli c4_i32_40 v20
  let v72 : BitVec 32 := Scalar.subi v71 c0_i32_42
  let c1_i32_43 : BitVec 32 := 1#32
  let v74 : BitVec 32 := Scalar.divsi v72 c1_i32_43
  let v75 : BitVec 32 := Scalar.muli v74 c1_i32_43
  let v76 : BitVec 32 := Scalar.addi c0_i32_42 v75
  let c1_i32_45 : BitVec 32 := 1#32
  let arg12 : BitVec 32 := Scf.iv v76 c1_i32_45 k0_t2
  let v86 : Index := Scalar.indexCast arg12
  let c0_52 : Index := 0#32
  let c0_53 : Index := 0#32
  ![v86.toNat, 0, 0]
def k0_cond2 (i : grid0.Coords) : BitVec 1 :=
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_22 : BitVec 32 := 1#32
  let v49 : BitVec 32 := Scalar.subi v20 c1_i32_22
  let c2_i32_21 : BitVec 32 := 2#32
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let v50 : BitVec 1 := Scalar.cmpi .eq v49 v48
  let v51 : BitVec 32 := Scalar.extui v50
  let c0_i32_23 : BitVec 32 := 0#32
  let v52 : BitVec 1 := Scalar.cmpi .ne v51 c0_i32_23
  v52

def k0_mult1 : BitVec 32 :=
  let c0_i32_41 : BitVec 32 := 0#32
  c0_i32_41
def k0_off3 (i : grid0.Coords) (c0_i32_49 : BitVec 32) : Fin 4 → Nat :=
  let c3_i32 : BitVec 32 := 3#32
  let c0_i32_50 : BitVec 32 := 0#32
  let c2_i32_47 : BitVec 32 := 2#32
  let arg0 : BitVec 32 := BitVec.ofNat 32 (i 0).val
  let v79 : BitVec 32 := Scalar.muli c2_i32_47 arg0
  let c1_i32_48 : BitVec 32 := 1#32
  let v80 : BitVec 32 := Scalar.addi v79 c1_i32_48
  let v81 : BitVec 32 := Scalar.subi v80 c0_i32_49
  let v82 : BitVec 32 := Scalar.maxsi c0_i32_50 v81
  let v83 : BitVec 32 := Scalar.minsi c3_i32 v82
  let v84 : Index := Scalar.indexCast v83
  let c0_51 : Index := 0#32
  let c0_52 : Index := 0#32
  let c0_53 : Index := 0#32
  ![v84.toNat, 0, 0, 0]
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
@[reducible] def k0_t3_loop (i : grid0.Coords) : Scf.Loop 32 :=
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_118 : BitVec 32 := 1#32
  ⟨c0_i32_116, v183, c1_i32_118⟩
def k0_mult5 (i : grid0.Coords) (k0_t3 : Fin (k0_t3_loop i).trips) : BitVec 32 :=
  let c4_i32_250 : BitVec 32 := 4#32
  let c2_i32_247 : BitVec 32 := 2#32
  let c0_i32_116 : BitVec 32 := 0#32
  let c1_i32_118 : BitVec 32 := 1#32
  let arg12 : BitVec 32 := Scf.iv c0_i32_116 c1_i32_118 k0_t3
  let v379 : BitVec 32 := Scalar.muli c2_i32_247 arg12
  let c1_i32_248 : BitVec 32 := 1#32
  let v380 : BitVec 32 := Scalar.addi v379 c1_i32_248
  let v382 : BitVec 32 := Scalar.muli c4_i32_250 v380
  let c0_i32_251 : BitVec 32 := 0#32
  let v383 : BitVec 32 := Scalar.addi v382 c0_i32_251
  let c256_i32_252 : BitVec 32 := 256#32
  let v384 : BitVec 32 := Scalar.muli v383 c256_i32_252
  v384
def k0_off4 (i : grid0.Coords) (k0_t3 : Fin (k0_t3_loop i).trips) (c1_i32_248 : BitVec 32) (c0_i32_251 : BitVec 32) : Fin 2 → Nat :=
  let c4_i32_250 : BitVec 32 := 4#32
  let c2_i32_247 : BitVec 32 := 2#32
  let c0_i32_116 : BitVec 32 := 0#32
  let c1_i32_118 : BitVec 32 := 1#32
  let arg12 : BitVec 32 := Scf.iv c0_i32_116 c1_i32_118 k0_t3
  let v379 : BitVec 32 := Scalar.muli c2_i32_247 arg12
  let v380 : BitVec 32 := Scalar.addi v379 c1_i32_248
  let v382 : BitVec 32 := Scalar.muli c4_i32_250 v380
  let v383 : BitVec 32 := Scalar.addi v382 c0_i32_251
  let c256_i32_252 : BitVec 32 := 256#32
  let v384 : BitVec 32 := Scalar.muli v383 c256_i32_252
  let v385 : BitVec 32 := v384
  let v386 : Index := Scalar.indexCast v385
  let c0_253 : Index := 0#32
  ![v386.toNat, 0]
def k0_off5 (i : grid0.Coords) (k0_t3 : Fin (k0_t3_loop i).trips) (c1_i32_248 : BitVec 32) (c0_i32_251 : BitVec 32) : Fin 4 → Nat :=
  let c3_i32_261 : BitVec 32 := 3#32
  let c0_i32_260 : BitVec 32 := 0#32
  let c2_i32_258 : BitVec 32 := 2#32
  let arg0 : BitVec 32 := BitVec.ofNat 32 (i 0).val
  let v392 : BitVec 32 := Scalar.muli c2_i32_258 arg0
  let c1_i32_259 : BitVec 32 := 1#32
  let v393 : BitVec 32 := Scalar.addi v392 c1_i32_259
  let c4_i32_250 : BitVec 32 := 4#32
  let c2_i32_247 : BitVec 32 := 2#32
  let c0_i32_116 : BitVec 32 := 0#32
  let c1_i32_118 : BitVec 32 := 1#32
  let arg12 : BitVec 32 := Scf.iv c0_i32_116 c1_i32_118 k0_t3
  let v379 : BitVec 32 := Scalar.muli c2_i32_247 arg12
  let v380 : BitVec 32 := Scalar.addi v379 c1_i32_248
  let v382 : BitVec 32 := Scalar.muli c4_i32_250 v380
  let v383 : BitVec 32 := Scalar.addi v382 c0_i32_251
  let v394 : BitVec 32 := Scalar.subi v393 v383
  let v395 : BitVec 32 := Scalar.maxsi c0_i32_260 v394
  let v396 : BitVec 32 := Scalar.minsi c3_i32_261 v395
  let v397 : Index := Scalar.indexCast v396
  let c0_262 : Index := 0#32
  let c0_263 : Index := 0#32
  let c0_264 : Index := 0#32
  ![v397.toNat, 0, 0, 0]
def k0_off6 (i : grid0.Coords) (k0_t3 : Fin (k0_t3_loop i).trips) (c1_i32_248 : BitVec 32) (c0_i32_251 : BitVec 32) : Fin 3 → Nat :=
  let c4_i32_250 : BitVec 32 := 4#32
  let c2_i32_247 : BitVec 32 := 2#32
  let c0_i32_116 : BitVec 32 := 0#32
  let c1_i32_118 : BitVec 32 := 1#32
  let arg12 : BitVec 32 := Scf.iv c0_i32_116 c1_i32_118 k0_t3
  let v379 : BitVec 32 := Scalar.muli c2_i32_247 arg12
  let v380 : BitVec 32 := Scalar.addi v379 c1_i32_248
  let v382 : BitVec 32 := Scalar.muli c4_i32_250 v380
  let v383 : BitVec 32 := Scalar.addi v382 c0_i32_251
  let v401 : Index := Scalar.indexCast v383
  let c0_265 : Index := 0#32
  let c0_266 : Index := 0#32
  ![v401.toNat, 0, 0]
def k0_mult6 (i : grid0.Coords) (k0_t3 : Fin (k0_t3_loop i).trips) : BitVec 32 :=
  let c4_i32_270 : BitVec 32 := 4#32
  let c2_i32_247 : BitVec 32 := 2#32
  let c0_i32_116 : BitVec 32 := 0#32
  let c1_i32_118 : BitVec 32 := 1#32
  let arg12 : BitVec 32 := Scf.iv c0_i32_116 c1_i32_118 k0_t3
  let v379 : BitVec 32 := Scalar.muli c2_i32_247 arg12
  let c1_i32_248 : BitVec 32 := 1#32
  let v380 : BitVec 32 := Scalar.addi v379 c1_i32_248
  let v412 : BitVec 32 := Scalar.muli c4_i32_270 v380
  let c1_i32_271 : BitVec 32 := 1#32
  let v413 : BitVec 32 := Scalar.addi v412 c1_i32_271
  let c256_i32_272 : BitVec 32 := 256#32
  let v414 : BitVec 32 := Scalar.muli v413 c256_i32_272
  v414
def k0_mult7 (i : grid0.Coords) (k0_t3 : Fin (k0_t3_loop i).trips) : BitVec 32 :=
  let c4_i32_290 : BitVec 32 := 4#32
  let c2_i32_247 : BitVec 32 := 2#32
  let c0_i32_116 : BitVec 32 := 0#32
  let c1_i32_118 : BitVec 32 := 1#32
  let arg12 : BitVec 32 := Scf.iv c0_i32_116 c1_i32_118 k0_t3
  let v379 : BitVec 32 := Scalar.muli c2_i32_247 arg12
  let c1_i32_248 : BitVec 32 := 1#32
  let v380 : BitVec 32 := Scalar.addi v379 c1_i32_248
  let v442 : BitVec 32 := Scalar.muli c4_i32_290 v380
  let c2_i32_291 : BitVec 32 := 2#32
  let v443 : BitVec 32 := Scalar.addi v442 c2_i32_291
  let c256_i32_292 : BitVec 32 := 256#32
  let v444 : BitVec 32 := Scalar.muli v443 c256_i32_292
  v444
def k0_mult8 (i : grid0.Coords) (k0_t3 : Fin (k0_t3_loop i).trips) : BitVec 32 :=
  let c4_i32_310 : BitVec 32 := 4#32
  let c2_i32_247 : BitVec 32 := 2#32
  let c0_i32_116 : BitVec 32 := 0#32
  let c1_i32_118 : BitVec 32 := 1#32
  let arg12 : BitVec 32 := Scf.iv c0_i32_116 c1_i32_118 k0_t3
  let v379 : BitVec 32 := Scalar.muli c2_i32_247 arg12
  let c1_i32_248 : BitVec 32 := 1#32
  let v380 : BitVec 32 := Scalar.addi v379 c1_i32_248
  let v472 : BitVec 32 := Scalar.muli c4_i32_310 v380
  let c3_i32_311 : BitVec 32 := 3#32
  let v473 : BitVec 32 := Scalar.addi v472 c3_i32_311
  let c256_i32_312 : BitVec 32 := 256#32
  let v474 : BitVec 32 := Scalar.muli v473 c256_i32_312
  v474
def k0_mult9 (i : grid0.Coords) (k0_t3 : Fin (k0_t3_loop i).trips) : BitVec 32 :=
  let c2_i32_331 : BitVec 32 := 2#32
  let c0_i32_116 : BitVec 32 := 0#32
  let c1_i32_118 : BitVec 32 := 1#32
  let arg12 : BitVec 32 := Scf.iv c0_i32_116 c1_i32_118 k0_t3
  let v505 : BitVec 32 := Scalar.muli c2_i32_331 arg12
  let c1024_i32_344 : BitVec 32 := 1024#32
  let v529 : BitVec 32 := Scalar.muli v505 c1024_i32_344
  v529
def k0_off7 (i : grid0.Coords) (k0_t3 : Fin (k0_t3_loop i).trips) : Fin 2 → Nat :=
  let c2_i32_331 : BitVec 32 := 2#32
  let c0_i32_116 : BitVec 32 := 0#32
  let c1_i32_118 : BitVec 32 := 1#32
  let arg12 : BitVec 32 := Scf.iv c0_i32_116 c1_i32_118 k0_t3
  let v505 : BitVec 32 := Scalar.muli c2_i32_331 arg12
  let c1024_i32_344 : BitVec 32 := 1024#32
  let v529 : BitVec 32 := Scalar.muli v505 c1024_i32_344
  let v530 : BitVec 32 := v529
  let v531 : Index := Scalar.indexCast v530
  let c0_345 : Index := 0#32
  ![v531.toNat, 0]
def k0_mult10 (i : grid0.Coords) (k0_t3 : Fin (k0_t3_loop i).trips) : BitVec 32 :=
  let c4_i32_356 : BitVec 32 := 4#32
  let c2_i32_353 : BitVec 32 := 2#32
  let c0_i32_116 : BitVec 32 := 0#32
  let c1_i32_118 : BitVec 32 := 1#32
  let arg12 : BitVec 32 := Scf.iv c0_i32_116 c1_i32_118 k0_t3
  let v545 : BitVec 32 := Scalar.muli c2_i32_353 arg12
  let c2_i32_354 : BitVec 32 := 2#32
  let v546 : BitVec 32 := Scalar.addi v545 c2_i32_354
  let v548 : BitVec 32 := Scalar.muli c4_i32_356 v546
  let c0_i32_357 : BitVec 32 := 0#32
  let v549 : BitVec 32 := Scalar.addi v548 c0_i32_357
  let c256_i32_358 : BitVec 32 := 256#32
  let v550 : BitVec 32 := Scalar.muli v549 c256_i32_358
  v550
def k0_mult11 (i : grid0.Coords) (k0_t3 : Fin (k0_t3_loop i).trips) : BitVec 32 :=
  let c4_i32_376 : BitVec 32 := 4#32
  let c2_i32_353 : BitVec 32 := 2#32
  let c0_i32_116 : BitVec 32 := 0#32
  let c1_i32_118 : BitVec 32 := 1#32
  let arg12 : BitVec 32 := Scf.iv c0_i32_116 c1_i32_118 k0_t3
  let v545 : BitVec 32 := Scalar.muli c2_i32_353 arg12
  let c2_i32_354 : BitVec 32 := 2#32
  let v546 : BitVec 32 := Scalar.addi v545 c2_i32_354
  let v578 : BitVec 32 := Scalar.muli c4_i32_376 v546
  let c1_i32_377 : BitVec 32 := 1#32
  let v579 : BitVec 32 := Scalar.addi v578 c1_i32_377
  let c256_i32_378 : BitVec 32 := 256#32
  let v580 : BitVec 32 := Scalar.muli v579 c256_i32_378
  v580
def k0_mult12 (i : grid0.Coords) (k0_t3 : Fin (k0_t3_loop i).trips) : BitVec 32 :=
  let c4_i32_396 : BitVec 32 := 4#32
  let c2_i32_353 : BitVec 32 := 2#32
  let c0_i32_116 : BitVec 32 := 0#32
  let c1_i32_118 : BitVec 32 := 1#32
  let arg12 : BitVec 32 := Scf.iv c0_i32_116 c1_i32_118 k0_t3
  let v545 : BitVec 32 := Scalar.muli c2_i32_353 arg12
  let c2_i32_354 : BitVec 32 := 2#32
  let v546 : BitVec 32 := Scalar.addi v545 c2_i32_354
  let v608 : BitVec 32 := Scalar.muli c4_i32_396 v546
  let c2_i32_397 : BitVec 32 := 2#32
  let v609 : BitVec 32 := Scalar.addi v608 c2_i32_397
  let c256_i32_398 : BitVec 32 := 256#32
  let v610 : BitVec 32 := Scalar.muli v609 c256_i32_398
  v610
def k0_mult13 (i : grid0.Coords) (k0_t3 : Fin (k0_t3_loop i).trips) : BitVec 32 :=
  let c4_i32_416 : BitVec 32 := 4#32
  let c2_i32_353 : BitVec 32 := 2#32
  let c0_i32_116 : BitVec 32 := 0#32
  let c1_i32_118 : BitVec 32 := 1#32
  let arg12 : BitVec 32 := Scf.iv c0_i32_116 c1_i32_118 k0_t3
  let v545 : BitVec 32 := Scalar.muli c2_i32_353 arg12
  let c2_i32_354 : BitVec 32 := 2#32
  let v546 : BitVec 32 := Scalar.addi v545 c2_i32_354
  let v638 : BitVec 32 := Scalar.muli c4_i32_416 v546
  let c3_i32_417 : BitVec 32 := 3#32
  let v639 : BitVec 32 := Scalar.addi v638 c3_i32_417
  let c256_i32_418 : BitVec 32 := 256#32
  let v640 : BitVec 32 := Scalar.muli v639 c256_i32_418
  v640
def k0_mult14 (i : grid0.Coords) (k0_t3 : Fin (k0_t3_loop i).trips) : BitVec 32 :=
  let c2_i32_437 : BitVec 32 := 2#32
  let c0_i32_116 : BitVec 32 := 0#32
  let c1_i32_118 : BitVec 32 := 1#32
  let arg12 : BitVec 32 := Scf.iv c0_i32_116 c1_i32_118 k0_t3
  let v671 : BitVec 32 := Scalar.muli c2_i32_437 arg12
  let c1_i32_438 : BitVec 32 := 1#32
  let v672 : BitVec 32 := Scalar.addi v671 c1_i32_438
  let c1024_i32_451 : BitVec 32 := 1024#32
  let v696 : BitVec 32 := Scalar.muli v672 c1024_i32_451
  v696
def k0_off8 (i : grid0.Coords) (k0_t3 : Fin (k0_t3_loop i).trips) : Fin 2 → Nat :=
  let c2_i32_437 : BitVec 32 := 2#32
  let c0_i32_116 : BitVec 32 := 0#32
  let c1_i32_118 : BitVec 32 := 1#32
  let arg12 : BitVec 32 := Scf.iv c0_i32_116 c1_i32_118 k0_t3
  let v671 : BitVec 32 := Scalar.muli c2_i32_437 arg12
  let c1_i32_438 : BitVec 32 := 1#32
  let v672 : BitVec 32 := Scalar.addi v671 c1_i32_438
  let c1024_i32_451 : BitVec 32 := 1024#32
  let v696 : BitVec 32 := Scalar.muli v672 c1024_i32_451
  let v697 : BitVec 32 := v696
  let v698 : Index := Scalar.indexCast v697
  let c0_452 : Index := 0#32
  ![v698.toNat, 0]
@[reducible] def k0_t4_loop (i : grid0.Coords) : Scf.Loop 32 :=
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let v180 : BitVec 32 := Scalar.addi c0_i32_116 v179
  let c1_i32_119 : BitVec 32 := 1#32
  ⟨v183, v180, c1_i32_119⟩
def k0_mult15 (i : grid0.Coords) (k0_t4 : Fin (k0_t4_loop i).trips) : BitVec 32 :=
  let c4_i32_250 : BitVec 32 := 4#32
  let c2_i32_247 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v379 : BitVec 32 := Scalar.muli c2_i32_247 arg12
  let c1_i32_248 : BitVec 32 := 1#32
  let v380 : BitVec 32 := Scalar.addi v379 c1_i32_248
  let v382 : BitVec 32 := Scalar.muli c4_i32_250 v380
  let c0_i32_251 : BitVec 32 := 0#32
  let v383 : BitVec 32 := Scalar.addi v382 c0_i32_251
  let c256_i32_252 : BitVec 32 := 256#32
  let v384 : BitVec 32 := Scalar.muli v383 c256_i32_252
  v384
def k0_off9 (i : grid0.Coords) (k0_t4 : Fin (k0_t4_loop i).trips) (c1_i32_248 : BitVec 32) (c0_i32_251 : BitVec 32) : Fin 2 → Nat :=
  let c4_i32_250 : BitVec 32 := 4#32
  let c2_i32_247 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v379 : BitVec 32 := Scalar.muli c2_i32_247 arg12
  let v380 : BitVec 32 := Scalar.addi v379 c1_i32_248
  let v382 : BitVec 32 := Scalar.muli c4_i32_250 v380
  let v383 : BitVec 32 := Scalar.addi v382 c0_i32_251
  let c256_i32_252 : BitVec 32 := 256#32
  let v384 : BitVec 32 := Scalar.muli v383 c256_i32_252
  let v385 : BitVec 32 := v384
  let v386 : Index := Scalar.indexCast v385
  let c0_253 : Index := 0#32
  ![v386.toNat, 0]
def k0_off10 (i : grid0.Coords) (k0_t4 : Fin (k0_t4_loop i).trips) (c1_i32_248 : BitVec 32) (c0_i32_251 : BitVec 32) : Fin 4 → Nat :=
  let c3_i32_261 : BitVec 32 := 3#32
  let c0_i32_260 : BitVec 32 := 0#32
  let c2_i32_258 : BitVec 32 := 2#32
  let arg0 : BitVec 32 := BitVec.ofNat 32 (i 0).val
  let v392 : BitVec 32 := Scalar.muli c2_i32_258 arg0
  let c1_i32_259 : BitVec 32 := 1#32
  let v393 : BitVec 32 := Scalar.addi v392 c1_i32_259
  let c4_i32_250 : BitVec 32 := 4#32
  let c2_i32_247 : BitVec 32 := 2#32
  let c0_i32_116 : BitVec 32 := 0#32
  let c2_i32 : BitVec 32 := 2#32
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v379 : BitVec 32 := Scalar.muli c2_i32_247 arg12
  let v380 : BitVec 32 := Scalar.addi v379 c1_i32_248
  let v382 : BitVec 32 := Scalar.muli c4_i32_250 v380
  let v383 : BitVec 32 := Scalar.addi v382 c0_i32_251
  let v394 : BitVec 32 := Scalar.subi v393 v383
  let v395 : BitVec 32 := Scalar.maxsi c0_i32_260 v394
  let v396 : BitVec 32 := Scalar.minsi c3_i32_261 v395
  let v397 : Index := Scalar.indexCast v396
  let c0_262 : Index := 0#32
  let c0_263 : Index := 0#32
  let c0_264 : Index := 0#32
  ![v397.toNat, 0, 0, 0]
def k0_off11 (i : grid0.Coords) (k0_t4 : Fin (k0_t4_loop i).trips) (c1_i32_248 : BitVec 32) (c0_i32_251 : BitVec 32) : Fin 3 → Nat :=
  let c4_i32_250 : BitVec 32 := 4#32
  let c2_i32_247 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v379 : BitVec 32 := Scalar.muli c2_i32_247 arg12
  let v380 : BitVec 32 := Scalar.addi v379 c1_i32_248
  let v382 : BitVec 32 := Scalar.muli c4_i32_250 v380
  let v383 : BitVec 32 := Scalar.addi v382 c0_i32_251
  let v401 : Index := Scalar.indexCast v383
  let c0_265 : Index := 0#32
  let c0_266 : Index := 0#32
  ![v401.toNat, 0, 0]
def k0_mult16 (i : grid0.Coords) (k0_t4 : Fin (k0_t4_loop i).trips) : BitVec 32 :=
  let c4_i32_270 : BitVec 32 := 4#32
  let c2_i32_247 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v379 : BitVec 32 := Scalar.muli c2_i32_247 arg12
  let c1_i32_248 : BitVec 32 := 1#32
  let v380 : BitVec 32 := Scalar.addi v379 c1_i32_248
  let v412 : BitVec 32 := Scalar.muli c4_i32_270 v380
  let c1_i32_271 : BitVec 32 := 1#32
  let v413 : BitVec 32 := Scalar.addi v412 c1_i32_271
  let c256_i32_272 : BitVec 32 := 256#32
  let v414 : BitVec 32 := Scalar.muli v413 c256_i32_272
  v414
def k0_mult17 (i : grid0.Coords) (k0_t4 : Fin (k0_t4_loop i).trips) : BitVec 32 :=
  let c4_i32_290 : BitVec 32 := 4#32
  let c2_i32_247 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v379 : BitVec 32 := Scalar.muli c2_i32_247 arg12
  let c1_i32_248 : BitVec 32 := 1#32
  let v380 : BitVec 32 := Scalar.addi v379 c1_i32_248
  let v442 : BitVec 32 := Scalar.muli c4_i32_290 v380
  let c2_i32_291 : BitVec 32 := 2#32
  let v443 : BitVec 32 := Scalar.addi v442 c2_i32_291
  let c256_i32_292 : BitVec 32 := 256#32
  let v444 : BitVec 32 := Scalar.muli v443 c256_i32_292
  v444
def k0_mult18 (i : grid0.Coords) (k0_t4 : Fin (k0_t4_loop i).trips) : BitVec 32 :=
  let c4_i32_310 : BitVec 32 := 4#32
  let c2_i32_247 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v379 : BitVec 32 := Scalar.muli c2_i32_247 arg12
  let c1_i32_248 : BitVec 32 := 1#32
  let v380 : BitVec 32 := Scalar.addi v379 c1_i32_248
  let v472 : BitVec 32 := Scalar.muli c4_i32_310 v380
  let c3_i32_311 : BitVec 32 := 3#32
  let v473 : BitVec 32 := Scalar.addi v472 c3_i32_311
  let c256_i32_312 : BitVec 32 := 256#32
  let v474 : BitVec 32 := Scalar.muli v473 c256_i32_312
  v474
def k0_mult19 (i : grid0.Coords) (k0_t4 : Fin (k0_t4_loop i).trips) : BitVec 32 :=
  let c2_i32_331 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v505 : BitVec 32 := Scalar.muli c2_i32_331 arg12
  let c1024_i32_344 : BitVec 32 := 1024#32
  let v529 : BitVec 32 := Scalar.muli v505 c1024_i32_344
  v529
def k0_off12 (i : grid0.Coords) (k0_t4 : Fin (k0_t4_loop i).trips) : Fin 2 → Nat :=
  let c2_i32_331 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v505 : BitVec 32 := Scalar.muli c2_i32_331 arg12
  let c1024_i32_344 : BitVec 32 := 1024#32
  let v529 : BitVec 32 := Scalar.muli v505 c1024_i32_344
  let v530 : BitVec 32 := v529
  let v531 : Index := Scalar.indexCast v530
  let c0_345 : Index := 0#32
  ![v531.toNat, 0]
def k0_mult20 (i : grid0.Coords) (k0_t4 : Fin (k0_t4_loop i).trips) : BitVec 32 :=
  let c4_i32_356 : BitVec 32 := 4#32
  let c2_i32_353 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v545 : BitVec 32 := Scalar.muli c2_i32_353 arg12
  let c2_i32_354 : BitVec 32 := 2#32
  let v546 : BitVec 32 := Scalar.addi v545 c2_i32_354
  let v548 : BitVec 32 := Scalar.muli c4_i32_356 v546
  let c0_i32_357 : BitVec 32 := 0#32
  let v549 : BitVec 32 := Scalar.addi v548 c0_i32_357
  let c256_i32_358 : BitVec 32 := 256#32
  let v550 : BitVec 32 := Scalar.muli v549 c256_i32_358
  v550
def k0_mult21 (i : grid0.Coords) (k0_t4 : Fin (k0_t4_loop i).trips) : BitVec 32 :=
  let c4_i32_376 : BitVec 32 := 4#32
  let c2_i32_353 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v545 : BitVec 32 := Scalar.muli c2_i32_353 arg12
  let c2_i32_354 : BitVec 32 := 2#32
  let v546 : BitVec 32 := Scalar.addi v545 c2_i32_354
  let v578 : BitVec 32 := Scalar.muli c4_i32_376 v546
  let c1_i32_377 : BitVec 32 := 1#32
  let v579 : BitVec 32 := Scalar.addi v578 c1_i32_377
  let c256_i32_378 : BitVec 32 := 256#32
  let v580 : BitVec 32 := Scalar.muli v579 c256_i32_378
  v580
def k0_mult22 (i : grid0.Coords) (k0_t4 : Fin (k0_t4_loop i).trips) : BitVec 32 :=
  let c4_i32_396 : BitVec 32 := 4#32
  let c2_i32_353 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v545 : BitVec 32 := Scalar.muli c2_i32_353 arg12
  let c2_i32_354 : BitVec 32 := 2#32
  let v546 : BitVec 32 := Scalar.addi v545 c2_i32_354
  let v608 : BitVec 32 := Scalar.muli c4_i32_396 v546
  let c2_i32_397 : BitVec 32 := 2#32
  let v609 : BitVec 32 := Scalar.addi v608 c2_i32_397
  let c256_i32_398 : BitVec 32 := 256#32
  let v610 : BitVec 32 := Scalar.muli v609 c256_i32_398
  v610
def k0_mult23 (i : grid0.Coords) (k0_t4 : Fin (k0_t4_loop i).trips) : BitVec 32 :=
  let c4_i32_416 : BitVec 32 := 4#32
  let c2_i32_353 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v545 : BitVec 32 := Scalar.muli c2_i32_353 arg12
  let c2_i32_354 : BitVec 32 := 2#32
  let v546 : BitVec 32 := Scalar.addi v545 c2_i32_354
  let v638 : BitVec 32 := Scalar.muli c4_i32_416 v546
  let c3_i32_417 : BitVec 32 := 3#32
  let v639 : BitVec 32 := Scalar.addi v638 c3_i32_417
  let c256_i32_418 : BitVec 32 := 256#32
  let v640 : BitVec 32 := Scalar.muli v639 c256_i32_418
  v640
def k0_mult24 (i : grid0.Coords) (k0_t4 : Fin (k0_t4_loop i).trips) : BitVec 32 :=
  let c2_i32_437 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v671 : BitVec 32 := Scalar.muli c2_i32_437 arg12
  let c1_i32_438 : BitVec 32 := 1#32
  let v672 : BitVec 32 := Scalar.addi v671 c1_i32_438
  let c1024_i32_451 : BitVec 32 := 1024#32
  let v696 : BitVec 32 := Scalar.muli v672 c1024_i32_451
  v696
def k0_off13 (i : grid0.Coords) (k0_t4 : Fin (k0_t4_loop i).trips) : Fin 2 → Nat :=
  let c2_i32_437 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t4
  let v671 : BitVec 32 := Scalar.muli c2_i32_437 arg12
  let c1_i32_438 : BitVec 32 := 1#32
  let v672 : BitVec 32 := Scalar.addi v671 c1_i32_438
  let c1024_i32_451 : BitVec 32 := 1024#32
  let v696 : BitVec 32 := Scalar.muli v672 c1024_i32_451
  let v697 : BitVec 32 := v696
  let v698 : Index := Scalar.indexCast v697
  let c0_452 : Index := 0#32
  ![v698.toNat, 0]
def k0_mult25 : BitVec 32 :=
  let c0_i32_121 : BitVec 32 := 0#32
  c0_i32_121
def k0_off14 (i : grid0.Coords) (c0_i32_129 : BitVec 32) : Fin 4 → Nat :=
  let c3_i32_131 : BitVec 32 := 3#32
  let c0_i32_130 : BitVec 32 := 0#32
  let c2_i32_127 : BitVec 32 := 2#32
  let arg0 : BitVec 32 := BitVec.ofNat 32 (i 0).val
  let v194 : BitVec 32 := Scalar.muli c2_i32_127 arg0
  let c1_i32_128 : BitVec 32 := 1#32
  let v195 : BitVec 32 := Scalar.addi v194 c1_i32_128
  let v196 : BitVec 32 := Scalar.subi v195 c0_i32_129
  let v197 : BitVec 32 := Scalar.maxsi c0_i32_130 v196
  let v198 : BitVec 32 := Scalar.minsi c3_i32_131 v197
  let v199 : Index := Scalar.indexCast v198
  let c1_132 : Index := 1#32
  let c0_133 : Index := 0#32
  let c0_134 : Index := 0#32
  ![v199.toNat, 1, 0, 0]
def k0_mult26 : BitVec 32 :=
  let c256_i32_141 : BitVec 32 := 256#32
  c256_i32_141
def k0_mult27 : BitVec 32 :=
  let c512_i32_161 : BitVec 32 := 512#32
  c512_i32_161
def k0_mult28 : BitVec 32 :=
  let c768_i32_181 : BitVec 32 := 768#32
  c768_i32_181
def k0_mult29 (i : grid0.Coords) : BitVec 32 :=
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1024_i32 : BitVec 32 := 1024#32
  let v317 : BitVec 32 := Scalar.muli v48 c1024_i32
  v317
def k0_off15 (i : grid0.Coords) : Fin 2 → Nat :=
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1024_i32 : BitVec 32 := 1024#32
  let v317 : BitVec 32 := Scalar.muli v48 c1024_i32
  let v318 : BitVec 32 := v317
  let v319 : Index := Scalar.indexCast v318
  let c0_214 : Index := 0#32
  ![v319.toNat, 0]
@[reducible] def k0_t5_loop (i : grid0.Coords) : Scf.Loop 32 :=
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_224 : BitVec 32 := 1#32
  ⟨c0_i32_222, v337, c1_i32_224⟩
def k0_mult30 (i : grid0.Coords) (k0_t5 : Fin (k0_t5_loop i).trips) : BitVec 32 :=
  let c4_i32_250 : BitVec 32 := 4#32
  let c2_i32_247 : BitVec 32 := 2#32
  let c0_i32_222 : BitVec 32 := 0#32
  let c1_i32_224 : BitVec 32 := 1#32
  let arg12 : BitVec 32 := Scf.iv c0_i32_222 c1_i32_224 k0_t5
  let v379 : BitVec 32 := Scalar.muli c2_i32_247 arg12
  let c1_i32_248 : BitVec 32 := 1#32
  let v380 : BitVec 32 := Scalar.addi v379 c1_i32_248
  let v382 : BitVec 32 := Scalar.muli c4_i32_250 v380
  let c0_i32_251 : BitVec 32 := 0#32
  let v383 : BitVec 32 := Scalar.addi v382 c0_i32_251
  let c256_i32_252 : BitVec 32 := 256#32
  let v384 : BitVec 32 := Scalar.muli v383 c256_i32_252
  v384
def k0_off16 (i : grid0.Coords) (k0_t5 : Fin (k0_t5_loop i).trips) (c1_i32_248 : BitVec 32) (c0_i32_251 : BitVec 32) : Fin 2 → Nat :=
  let c4_i32_250 : BitVec 32 := 4#32
  let c2_i32_247 : BitVec 32 := 2#32
  let c0_i32_222 : BitVec 32 := 0#32
  let c1_i32_224 : BitVec 32 := 1#32
  let arg12 : BitVec 32 := Scf.iv c0_i32_222 c1_i32_224 k0_t5
  let v379 : BitVec 32 := Scalar.muli c2_i32_247 arg12
  let v380 : BitVec 32 := Scalar.addi v379 c1_i32_248
  let v382 : BitVec 32 := Scalar.muli c4_i32_250 v380
  let v383 : BitVec 32 := Scalar.addi v382 c0_i32_251
  let c256_i32_252 : BitVec 32 := 256#32
  let v384 : BitVec 32 := Scalar.muli v383 c256_i32_252
  let v385 : BitVec 32 := v384
  let v386 : Index := Scalar.indexCast v385
  let c128_253 : Index := 128#32
  ![v386.toNat, 128]
def k0_off17 (i : grid0.Coords) (k0_t5 : Fin (k0_t5_loop i).trips) (c1_i32_248 : BitVec 32) (c0_i32_251 : BitVec 32) : Fin 4 → Nat :=
  let c3_i32_261 : BitVec 32 := 3#32
  let c0_i32_260 : BitVec 32 := 0#32
  let c2_i32_258 : BitVec 32 := 2#32
  let arg0 : BitVec 32 := BitVec.ofNat 32 (i 0).val
  let v392 : BitVec 32 := Scalar.muli c2_i32_258 arg0
  let c1_i32_259 : BitVec 32 := 1#32
  let v393 : BitVec 32 := Scalar.addi v392 c1_i32_259
  let c4_i32_250 : BitVec 32 := 4#32
  let c2_i32_247 : BitVec 32 := 2#32
  let c0_i32_222 : BitVec 32 := 0#32
  let c1_i32_224 : BitVec 32 := 1#32
  let arg12 : BitVec 32 := Scf.iv c0_i32_222 c1_i32_224 k0_t5
  let v379 : BitVec 32 := Scalar.muli c2_i32_247 arg12
  let v380 : BitVec 32 := Scalar.addi v379 c1_i32_248
  let v382 : BitVec 32 := Scalar.muli c4_i32_250 v380
  let v383 : BitVec 32 := Scalar.addi v382 c0_i32_251
  let v394 : BitVec 32 := Scalar.subi v393 v383
  let v395 : BitVec 32 := Scalar.maxsi c0_i32_260 v394
  let v396 : BitVec 32 := Scalar.minsi c3_i32_261 v395
  let v397 : Index := Scalar.indexCast v396
  let c1_262 : Index := 1#32
  let c0_263 : Index := 0#32
  let c0_264 : Index := 0#32
  ![v397.toNat, 1, 0, 0]
def k0_off18 (i : grid0.Coords) (k0_t5 : Fin (k0_t5_loop i).trips) (c1_i32_248 : BitVec 32) (c0_i32_251 : BitVec 32) : Fin 3 → Nat :=
  let c4_i32_250 : BitVec 32 := 4#32
  let c2_i32_247 : BitVec 32 := 2#32
  let c0_i32_222 : BitVec 32 := 0#32
  let c1_i32_224 : BitVec 32 := 1#32
  let arg12 : BitVec 32 := Scf.iv c0_i32_222 c1_i32_224 k0_t5
  let v379 : BitVec 32 := Scalar.muli c2_i32_247 arg12
  let v380 : BitVec 32 := Scalar.addi v379 c1_i32_248
  let v382 : BitVec 32 := Scalar.muli c4_i32_250 v380
  let v383 : BitVec 32 := Scalar.addi v382 c0_i32_251
  let v401 : Index := Scalar.indexCast v383
  let c0_265 : Index := 0#32
  let c0_266 : Index := 0#32
  ![v401.toNat, 0, 0]
def k0_mult31 (i : grid0.Coords) (k0_t5 : Fin (k0_t5_loop i).trips) : BitVec 32 :=
  let c4_i32_270 : BitVec 32 := 4#32
  let c2_i32_247 : BitVec 32 := 2#32
  let c0_i32_222 : BitVec 32 := 0#32
  let c1_i32_224 : BitVec 32 := 1#32
  let arg12 : BitVec 32 := Scf.iv c0_i32_222 c1_i32_224 k0_t5
  let v379 : BitVec 32 := Scalar.muli c2_i32_247 arg12
  let c1_i32_248 : BitVec 32 := 1#32
  let v380 : BitVec 32 := Scalar.addi v379 c1_i32_248
  let v412 : BitVec 32 := Scalar.muli c4_i32_270 v380
  let c1_i32_271 : BitVec 32 := 1#32
  let v413 : BitVec 32 := Scalar.addi v412 c1_i32_271
  let c256_i32_272 : BitVec 32 := 256#32
  let v414 : BitVec 32 := Scalar.muli v413 c256_i32_272
  v414
def k0_mult32 (i : grid0.Coords) (k0_t5 : Fin (k0_t5_loop i).trips) : BitVec 32 :=
  let c4_i32_290 : BitVec 32 := 4#32
  let c2_i32_247 : BitVec 32 := 2#32
  let c0_i32_222 : BitVec 32 := 0#32
  let c1_i32_224 : BitVec 32 := 1#32
  let arg12 : BitVec 32 := Scf.iv c0_i32_222 c1_i32_224 k0_t5
  let v379 : BitVec 32 := Scalar.muli c2_i32_247 arg12
  let c1_i32_248 : BitVec 32 := 1#32
  let v380 : BitVec 32 := Scalar.addi v379 c1_i32_248
  let v442 : BitVec 32 := Scalar.muli c4_i32_290 v380
  let c2_i32_291 : BitVec 32 := 2#32
  let v443 : BitVec 32 := Scalar.addi v442 c2_i32_291
  let c256_i32_292 : BitVec 32 := 256#32
  let v444 : BitVec 32 := Scalar.muli v443 c256_i32_292
  v444
def k0_mult33 (i : grid0.Coords) (k0_t5 : Fin (k0_t5_loop i).trips) : BitVec 32 :=
  let c4_i32_310 : BitVec 32 := 4#32
  let c2_i32_247 : BitVec 32 := 2#32
  let c0_i32_222 : BitVec 32 := 0#32
  let c1_i32_224 : BitVec 32 := 1#32
  let arg12 : BitVec 32 := Scf.iv c0_i32_222 c1_i32_224 k0_t5
  let v379 : BitVec 32 := Scalar.muli c2_i32_247 arg12
  let c1_i32_248 : BitVec 32 := 1#32
  let v380 : BitVec 32 := Scalar.addi v379 c1_i32_248
  let v472 : BitVec 32 := Scalar.muli c4_i32_310 v380
  let c3_i32_311 : BitVec 32 := 3#32
  let v473 : BitVec 32 := Scalar.addi v472 c3_i32_311
  let c256_i32_312 : BitVec 32 := 256#32
  let v474 : BitVec 32 := Scalar.muli v473 c256_i32_312
  v474
def k0_mult34 (i : grid0.Coords) (k0_t5 : Fin (k0_t5_loop i).trips) : BitVec 32 :=
  let c2_i32_331 : BitVec 32 := 2#32
  let c0_i32_222 : BitVec 32 := 0#32
  let c1_i32_224 : BitVec 32 := 1#32
  let arg12 : BitVec 32 := Scf.iv c0_i32_222 c1_i32_224 k0_t5
  let v505 : BitVec 32 := Scalar.muli c2_i32_331 arg12
  let c1024_i32_344 : BitVec 32 := 1024#32
  let v529 : BitVec 32 := Scalar.muli v505 c1024_i32_344
  v529
def k0_off19 (i : grid0.Coords) (k0_t5 : Fin (k0_t5_loop i).trips) : Fin 2 → Nat :=
  let c2_i32_331 : BitVec 32 := 2#32
  let c0_i32_222 : BitVec 32 := 0#32
  let c1_i32_224 : BitVec 32 := 1#32
  let arg12 : BitVec 32 := Scf.iv c0_i32_222 c1_i32_224 k0_t5
  let v505 : BitVec 32 := Scalar.muli c2_i32_331 arg12
  let c1024_i32_344 : BitVec 32 := 1024#32
  let v529 : BitVec 32 := Scalar.muli v505 c1024_i32_344
  let v530 : BitVec 32 := v529
  let v531 : Index := Scalar.indexCast v530
  let c128_345 : Index := 128#32
  ![v531.toNat, 128]
def k0_mult35 (i : grid0.Coords) (k0_t5 : Fin (k0_t5_loop i).trips) : BitVec 32 :=
  let c4_i32_356 : BitVec 32 := 4#32
  let c2_i32_353 : BitVec 32 := 2#32
  let c0_i32_222 : BitVec 32 := 0#32
  let c1_i32_224 : BitVec 32 := 1#32
  let arg12 : BitVec 32 := Scf.iv c0_i32_222 c1_i32_224 k0_t5
  let v545 : BitVec 32 := Scalar.muli c2_i32_353 arg12
  let c2_i32_354 : BitVec 32 := 2#32
  let v546 : BitVec 32 := Scalar.addi v545 c2_i32_354
  let v548 : BitVec 32 := Scalar.muli c4_i32_356 v546
  let c0_i32_357 : BitVec 32 := 0#32
  let v549 : BitVec 32 := Scalar.addi v548 c0_i32_357
  let c256_i32_358 : BitVec 32 := 256#32
  let v550 : BitVec 32 := Scalar.muli v549 c256_i32_358
  v550
def k0_mult36 (i : grid0.Coords) (k0_t5 : Fin (k0_t5_loop i).trips) : BitVec 32 :=
  let c4_i32_376 : BitVec 32 := 4#32
  let c2_i32_353 : BitVec 32 := 2#32
  let c0_i32_222 : BitVec 32 := 0#32
  let c1_i32_224 : BitVec 32 := 1#32
  let arg12 : BitVec 32 := Scf.iv c0_i32_222 c1_i32_224 k0_t5
  let v545 : BitVec 32 := Scalar.muli c2_i32_353 arg12
  let c2_i32_354 : BitVec 32 := 2#32
  let v546 : BitVec 32 := Scalar.addi v545 c2_i32_354
  let v578 : BitVec 32 := Scalar.muli c4_i32_376 v546
  let c1_i32_377 : BitVec 32 := 1#32
  let v579 : BitVec 32 := Scalar.addi v578 c1_i32_377
  let c256_i32_378 : BitVec 32 := 256#32
  let v580 : BitVec 32 := Scalar.muli v579 c256_i32_378
  v580
def k0_mult37 (i : grid0.Coords) (k0_t5 : Fin (k0_t5_loop i).trips) : BitVec 32 :=
  let c4_i32_396 : BitVec 32 := 4#32
  let c2_i32_353 : BitVec 32 := 2#32
  let c0_i32_222 : BitVec 32 := 0#32
  let c1_i32_224 : BitVec 32 := 1#32
  let arg12 : BitVec 32 := Scf.iv c0_i32_222 c1_i32_224 k0_t5
  let v545 : BitVec 32 := Scalar.muli c2_i32_353 arg12
  let c2_i32_354 : BitVec 32 := 2#32
  let v546 : BitVec 32 := Scalar.addi v545 c2_i32_354
  let v608 : BitVec 32 := Scalar.muli c4_i32_396 v546
  let c2_i32_397 : BitVec 32 := 2#32
  let v609 : BitVec 32 := Scalar.addi v608 c2_i32_397
  let c256_i32_398 : BitVec 32 := 256#32
  let v610 : BitVec 32 := Scalar.muli v609 c256_i32_398
  v610
def k0_mult38 (i : grid0.Coords) (k0_t5 : Fin (k0_t5_loop i).trips) : BitVec 32 :=
  let c4_i32_416 : BitVec 32 := 4#32
  let c2_i32_353 : BitVec 32 := 2#32
  let c0_i32_222 : BitVec 32 := 0#32
  let c1_i32_224 : BitVec 32 := 1#32
  let arg12 : BitVec 32 := Scf.iv c0_i32_222 c1_i32_224 k0_t5
  let v545 : BitVec 32 := Scalar.muli c2_i32_353 arg12
  let c2_i32_354 : BitVec 32 := 2#32
  let v546 : BitVec 32 := Scalar.addi v545 c2_i32_354
  let v638 : BitVec 32 := Scalar.muli c4_i32_416 v546
  let c3_i32_417 : BitVec 32 := 3#32
  let v639 : BitVec 32 := Scalar.addi v638 c3_i32_417
  let c256_i32_418 : BitVec 32 := 256#32
  let v640 : BitVec 32 := Scalar.muli v639 c256_i32_418
  v640
def k0_mult39 (i : grid0.Coords) (k0_t5 : Fin (k0_t5_loop i).trips) : BitVec 32 :=
  let c2_i32_437 : BitVec 32 := 2#32
  let c0_i32_222 : BitVec 32 := 0#32
  let c1_i32_224 : BitVec 32 := 1#32
  let arg12 : BitVec 32 := Scf.iv c0_i32_222 c1_i32_224 k0_t5
  let v671 : BitVec 32 := Scalar.muli c2_i32_437 arg12
  let c1_i32_438 : BitVec 32 := 1#32
  let v672 : BitVec 32 := Scalar.addi v671 c1_i32_438
  let c1024_i32_451 : BitVec 32 := 1024#32
  let v696 : BitVec 32 := Scalar.muli v672 c1024_i32_451
  v696
def k0_off20 (i : grid0.Coords) (k0_t5 : Fin (k0_t5_loop i).trips) : Fin 2 → Nat :=
  let c2_i32_437 : BitVec 32 := 2#32
  let c0_i32_222 : BitVec 32 := 0#32
  let c1_i32_224 : BitVec 32 := 1#32
  let arg12 : BitVec 32 := Scf.iv c0_i32_222 c1_i32_224 k0_t5
  let v671 : BitVec 32 := Scalar.muli c2_i32_437 arg12
  let c1_i32_438 : BitVec 32 := 1#32
  let v672 : BitVec 32 := Scalar.addi v671 c1_i32_438
  let c1024_i32_451 : BitVec 32 := 1024#32
  let v696 : BitVec 32 := Scalar.muli v672 c1024_i32_451
  let v697 : BitVec 32 := v696
  let v698 : Index := Scalar.indexCast v697
  let c128_452 : Index := 128#32
  ![v698.toNat, 128]
@[reducible] def k0_t6_loop (i : grid0.Coords) : Scf.Loop 32 :=
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let v334 : BitVec 32 := Scalar.addi c0_i32_222 v333
  let c1_i32_225 : BitVec 32 := 1#32
  ⟨v337, v334, c1_i32_225⟩
def k0_mult40 (i : grid0.Coords) (k0_t6 : Fin (k0_t6_loop i).trips) : BitVec 32 :=
  let c4_i32_250 : BitVec 32 := 4#32
  let c2_i32_247 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v379 : BitVec 32 := Scalar.muli c2_i32_247 arg12
  let c1_i32_248 : BitVec 32 := 1#32
  let v380 : BitVec 32 := Scalar.addi v379 c1_i32_248
  let v382 : BitVec 32 := Scalar.muli c4_i32_250 v380
  let c0_i32_251 : BitVec 32 := 0#32
  let v383 : BitVec 32 := Scalar.addi v382 c0_i32_251
  let c256_i32_252 : BitVec 32 := 256#32
  let v384 : BitVec 32 := Scalar.muli v383 c256_i32_252
  v384
def k0_off21 (i : grid0.Coords) (k0_t6 : Fin (k0_t6_loop i).trips) (c1_i32_248 : BitVec 32) (c0_i32_251 : BitVec 32) : Fin 2 → Nat :=
  let c4_i32_250 : BitVec 32 := 4#32
  let c2_i32_247 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v379 : BitVec 32 := Scalar.muli c2_i32_247 arg12
  let v380 : BitVec 32 := Scalar.addi v379 c1_i32_248
  let v382 : BitVec 32 := Scalar.muli c4_i32_250 v380
  let v383 : BitVec 32 := Scalar.addi v382 c0_i32_251
  let c256_i32_252 : BitVec 32 := 256#32
  let v384 : BitVec 32 := Scalar.muli v383 c256_i32_252
  let v385 : BitVec 32 := v384
  let v386 : Index := Scalar.indexCast v385
  let c128_253 : Index := 128#32
  ![v386.toNat, 128]
def k0_off22 (i : grid0.Coords) (k0_t6 : Fin (k0_t6_loop i).trips) (c1_i32_248 : BitVec 32) (c0_i32_251 : BitVec 32) : Fin 4 → Nat :=
  let c3_i32_261 : BitVec 32 := 3#32
  let c0_i32_260 : BitVec 32 := 0#32
  let c2_i32_258 : BitVec 32 := 2#32
  let arg0 : BitVec 32 := BitVec.ofNat 32 (i 0).val
  let v392 : BitVec 32 := Scalar.muli c2_i32_258 arg0
  let c1_i32_259 : BitVec 32 := 1#32
  let v393 : BitVec 32 := Scalar.addi v392 c1_i32_259
  let c4_i32_250 : BitVec 32 := 4#32
  let c2_i32_247 : BitVec 32 := 2#32
  let c0_i32_222 : BitVec 32 := 0#32
  let c2_i32 : BitVec 32 := 2#32
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v379 : BitVec 32 := Scalar.muli c2_i32_247 arg12
  let v380 : BitVec 32 := Scalar.addi v379 c1_i32_248
  let v382 : BitVec 32 := Scalar.muli c4_i32_250 v380
  let v383 : BitVec 32 := Scalar.addi v382 c0_i32_251
  let v394 : BitVec 32 := Scalar.subi v393 v383
  let v395 : BitVec 32 := Scalar.maxsi c0_i32_260 v394
  let v396 : BitVec 32 := Scalar.minsi c3_i32_261 v395
  let v397 : Index := Scalar.indexCast v396
  let c1_262 : Index := 1#32
  let c0_263 : Index := 0#32
  let c0_264 : Index := 0#32
  ![v397.toNat, 1, 0, 0]
def k0_off23 (i : grid0.Coords) (k0_t6 : Fin (k0_t6_loop i).trips) (c1_i32_248 : BitVec 32) (c0_i32_251 : BitVec 32) : Fin 3 → Nat :=
  let c4_i32_250 : BitVec 32 := 4#32
  let c2_i32_247 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v379 : BitVec 32 := Scalar.muli c2_i32_247 arg12
  let v380 : BitVec 32 := Scalar.addi v379 c1_i32_248
  let v382 : BitVec 32 := Scalar.muli c4_i32_250 v380
  let v383 : BitVec 32 := Scalar.addi v382 c0_i32_251
  let v401 : Index := Scalar.indexCast v383
  let c0_265 : Index := 0#32
  let c0_266 : Index := 0#32
  ![v401.toNat, 0, 0]
def k0_mult41 (i : grid0.Coords) (k0_t6 : Fin (k0_t6_loop i).trips) : BitVec 32 :=
  let c4_i32_270 : BitVec 32 := 4#32
  let c2_i32_247 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v379 : BitVec 32 := Scalar.muli c2_i32_247 arg12
  let c1_i32_248 : BitVec 32 := 1#32
  let v380 : BitVec 32 := Scalar.addi v379 c1_i32_248
  let v412 : BitVec 32 := Scalar.muli c4_i32_270 v380
  let c1_i32_271 : BitVec 32 := 1#32
  let v413 : BitVec 32 := Scalar.addi v412 c1_i32_271
  let c256_i32_272 : BitVec 32 := 256#32
  let v414 : BitVec 32 := Scalar.muli v413 c256_i32_272
  v414
def k0_mult42 (i : grid0.Coords) (k0_t6 : Fin (k0_t6_loop i).trips) : BitVec 32 :=
  let c4_i32_290 : BitVec 32 := 4#32
  let c2_i32_247 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v379 : BitVec 32 := Scalar.muli c2_i32_247 arg12
  let c1_i32_248 : BitVec 32 := 1#32
  let v380 : BitVec 32 := Scalar.addi v379 c1_i32_248
  let v442 : BitVec 32 := Scalar.muli c4_i32_290 v380
  let c2_i32_291 : BitVec 32 := 2#32
  let v443 : BitVec 32 := Scalar.addi v442 c2_i32_291
  let c256_i32_292 : BitVec 32 := 256#32
  let v444 : BitVec 32 := Scalar.muli v443 c256_i32_292
  v444
def k0_mult43 (i : grid0.Coords) (k0_t6 : Fin (k0_t6_loop i).trips) : BitVec 32 :=
  let c4_i32_310 : BitVec 32 := 4#32
  let c2_i32_247 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v379 : BitVec 32 := Scalar.muli c2_i32_247 arg12
  let c1_i32_248 : BitVec 32 := 1#32
  let v380 : BitVec 32 := Scalar.addi v379 c1_i32_248
  let v472 : BitVec 32 := Scalar.muli c4_i32_310 v380
  let c3_i32_311 : BitVec 32 := 3#32
  let v473 : BitVec 32 := Scalar.addi v472 c3_i32_311
  let c256_i32_312 : BitVec 32 := 256#32
  let v474 : BitVec 32 := Scalar.muli v473 c256_i32_312
  v474
def k0_mult44 (i : grid0.Coords) (k0_t6 : Fin (k0_t6_loop i).trips) : BitVec 32 :=
  let c2_i32_331 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v505 : BitVec 32 := Scalar.muli c2_i32_331 arg12
  let c1024_i32_344 : BitVec 32 := 1024#32
  let v529 : BitVec 32 := Scalar.muli v505 c1024_i32_344
  v529
def k0_off24 (i : grid0.Coords) (k0_t6 : Fin (k0_t6_loop i).trips) : Fin 2 → Nat :=
  let c2_i32_331 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v505 : BitVec 32 := Scalar.muli c2_i32_331 arg12
  let c1024_i32_344 : BitVec 32 := 1024#32
  let v529 : BitVec 32 := Scalar.muli v505 c1024_i32_344
  let v530 : BitVec 32 := v529
  let v531 : Index := Scalar.indexCast v530
  let c128_345 : Index := 128#32
  ![v531.toNat, 128]
def k0_mult45 (i : grid0.Coords) (k0_t6 : Fin (k0_t6_loop i).trips) : BitVec 32 :=
  let c4_i32_356 : BitVec 32 := 4#32
  let c2_i32_353 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v545 : BitVec 32 := Scalar.muli c2_i32_353 arg12
  let c2_i32_354 : BitVec 32 := 2#32
  let v546 : BitVec 32 := Scalar.addi v545 c2_i32_354
  let v548 : BitVec 32 := Scalar.muli c4_i32_356 v546
  let c0_i32_357 : BitVec 32 := 0#32
  let v549 : BitVec 32 := Scalar.addi v548 c0_i32_357
  let c256_i32_358 : BitVec 32 := 256#32
  let v550 : BitVec 32 := Scalar.muli v549 c256_i32_358
  v550
def k0_mult46 (i : grid0.Coords) (k0_t6 : Fin (k0_t6_loop i).trips) : BitVec 32 :=
  let c4_i32_376 : BitVec 32 := 4#32
  let c2_i32_353 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v545 : BitVec 32 := Scalar.muli c2_i32_353 arg12
  let c2_i32_354 : BitVec 32 := 2#32
  let v546 : BitVec 32 := Scalar.addi v545 c2_i32_354
  let v578 : BitVec 32 := Scalar.muli c4_i32_376 v546
  let c1_i32_377 : BitVec 32 := 1#32
  let v579 : BitVec 32 := Scalar.addi v578 c1_i32_377
  let c256_i32_378 : BitVec 32 := 256#32
  let v580 : BitVec 32 := Scalar.muli v579 c256_i32_378
  v580
def k0_mult47 (i : grid0.Coords) (k0_t6 : Fin (k0_t6_loop i).trips) : BitVec 32 :=
  let c4_i32_396 : BitVec 32 := 4#32
  let c2_i32_353 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v545 : BitVec 32 := Scalar.muli c2_i32_353 arg12
  let c2_i32_354 : BitVec 32 := 2#32
  let v546 : BitVec 32 := Scalar.addi v545 c2_i32_354
  let v608 : BitVec 32 := Scalar.muli c4_i32_396 v546
  let c2_i32_397 : BitVec 32 := 2#32
  let v609 : BitVec 32 := Scalar.addi v608 c2_i32_397
  let c256_i32_398 : BitVec 32 := 256#32
  let v610 : BitVec 32 := Scalar.muli v609 c256_i32_398
  v610
def k0_mult48 (i : grid0.Coords) (k0_t6 : Fin (k0_t6_loop i).trips) : BitVec 32 :=
  let c4_i32_416 : BitVec 32 := 4#32
  let c2_i32_353 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v545 : BitVec 32 := Scalar.muli c2_i32_353 arg12
  let c2_i32_354 : BitVec 32 := 2#32
  let v546 : BitVec 32 := Scalar.addi v545 c2_i32_354
  let v638 : BitVec 32 := Scalar.muli c4_i32_416 v546
  let c3_i32_417 : BitVec 32 := 3#32
  let v639 : BitVec 32 := Scalar.addi v638 c3_i32_417
  let c256_i32_418 : BitVec 32 := 256#32
  let v640 : BitVec 32 := Scalar.muli v639 c256_i32_418
  v640
def k0_mult49 (i : grid0.Coords) (k0_t6 : Fin (k0_t6_loop i).trips) : BitVec 32 :=
  let c2_i32_437 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v671 : BitVec 32 := Scalar.muli c2_i32_437 arg12
  let c1_i32_438 : BitVec 32 := 1#32
  let v672 : BitVec 32 := Scalar.addi v671 c1_i32_438
  let c1024_i32_451 : BitVec 32 := 1024#32
  let v696 : BitVec 32 := Scalar.muli v672 c1024_i32_451
  v696
def k0_off25 (i : grid0.Coords) (k0_t6 : Fin (k0_t6_loop i).trips) : Fin 2 → Nat :=
  let c2_i32_437 : BitVec 32 := 2#32
  let c0_i32_222 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v333 : BitVec 32 := Scalar.subi v47 c0_i32_222
  let c1_i32_223 : BitVec 32 := 1#32
  let v335 : BitVec 32 := Scalar.divsi v333 c1_i32_223
  let v336 : BitVec 32 := Scalar.muli v335 c1_i32_223
  let v337 : BitVec 32 := Scalar.addi c0_i32_222 v336
  let c1_i32_225 : BitVec 32 := 1#32
  let arg12 : BitVec 32 := Scf.iv v337 c1_i32_225 k0_t6
  let v671 : BitVec 32 := Scalar.muli c2_i32_437 arg12
  let c1_i32_438 : BitVec 32 := 1#32
  let v672 : BitVec 32 := Scalar.addi v671 c1_i32_438
  let c1024_i32_451 : BitVec 32 := 1024#32
  let v696 : BitVec 32 := Scalar.muli v672 c1024_i32_451
  let v697 : BitVec 32 := v696
  let v698 : Index := Scalar.indexCast v697
  let c128_452 : Index := 128#32
  ![v698.toNat, 128]
def k0_mult50 (i : grid0.Coords) : BitVec 32 :=
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1024_i32_238 : BitVec 32 := 1024#32
  let v363 : BitVec 32 := Scalar.muli v48 c1024_i32_238
  v363
def k0_off26 (i : grid0.Coords) : Fin 2 → Nat :=
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1024_i32_238 : BitVec 32 := 1024#32
  let v363 : BitVec 32 := Scalar.muli v48 c1024_i32_238
  let v364 : BitVec 32 := v363
  let v365 : Index := Scalar.indexCast v364
  let c128_239 : Index := 128#32
  ![v365.toNat, 128]
def k0_cond3 (i : grid0.Coords) : BitVec 1 :=
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_24 : BitVec 32 := 1#32
  let v53 : BitVec 32 := Scalar.subi v20 c1_i32_24
  let c2_i32_21 : BitVec 32 := 2#32
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let v54 : BitVec 1 := Scalar.cmpi .sgt v53 v48
  let v55 : BitVec 32 := Scalar.extui v54
  let c0_i32_25 : BitVec 32 := 0#32
  let v56 : BitVec 1 := Scalar.cmpi .ne v55 c0_i32_25
  v56

def k0_mult51 : BitVec 32 :=
  let c0_i32_41 : BitVec 32 := 0#32
  c0_i32_41
def k0_off27 (i : grid0.Coords) (c0_i32_49 : BitVec 32) : Fin 4 → Nat :=
  let c3_i32 : BitVec 32 := 3#32
  let c0_i32_50 : BitVec 32 := 0#32
  let c2_i32_47 : BitVec 32 := 2#32
  let arg0 : BitVec 32 := BitVec.ofNat 32 (i 0).val
  let v79 : BitVec 32 := Scalar.muli c2_i32_47 arg0
  let c1_i32_48 : BitVec 32 := 1#32
  let v80 : BitVec 32 := Scalar.addi v79 c1_i32_48
  let v81 : BitVec 32 := Scalar.subi v80 c0_i32_49
  let v82 : BitVec 32 := Scalar.maxsi c0_i32_50 v81
  let v83 : BitVec 32 := Scalar.minsi c3_i32 v82
  let v84 : Index := Scalar.indexCast v83
  let c0_51 : Index := 0#32
  let c0_52 : Index := 0#32
  let c0_53 : Index := 0#32
  ![v84.toNat, 0, 0, 0]
def k0_mult52 : BitVec 32 :=
  let c256_i32 : BitVec 32 := 256#32
  c256_i32
def k0_mult53 : BitVec 32 :=
  let c512_i32 : BitVec 32 := 512#32
  c512_i32
def k0_mult54 : BitVec 32 :=
  let c768_i32 : BitVec 32 := 768#32
  c768_i32
@[reducible] def k0_t7_loop (i : grid0.Coords) : Scf.Loop 32 :=
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_118 : BitVec 32 := 1#32
  ⟨c0_i32_116, v183, c1_i32_118⟩
def k0_mult55 (i : grid0.Coords) (k0_t7 : Fin (k0_t7_loop i).trips) : BitVec 32 :=
  let c4_i32_460 : BitVec 32 := 4#32
  let c2_i32_457 : BitVec 32 := 2#32
  let c0_i32_116 : BitVec 32 := 0#32
  let c1_i32_118 : BitVec 32 := 1#32
  let arg12 : BitVec 32 := Scf.iv c0_i32_116 c1_i32_118 k0_t7
  let v709 : BitVec 32 := Scalar.muli c2_i32_457 arg12
  let c1_i32_458 : BitVec 32 := 1#32
  let v710 : BitVec 32 := Scalar.addi v709 c1_i32_458
  let v712 : BitVec 32 := Scalar.muli c4_i32_460 v710
  let c0_i32_461 : BitVec 32 := 0#32
  let v713 : BitVec 32 := Scalar.addi v712 c0_i32_461
  let c256_i32_462 : BitVec 32 := 256#32
  let v714 : BitVec 32 := Scalar.muli v713 c256_i32_462
  v714
def k0_off28 (i : grid0.Coords) (k0_t7 : Fin (k0_t7_loop i).trips) (c1_i32_458 : BitVec 32) (c0_i32_461 : BitVec 32) : Fin 2 → Nat :=
  let c4_i32_460 : BitVec 32 := 4#32
  let c2_i32_457 : BitVec 32 := 2#32
  let c0_i32_116 : BitVec 32 := 0#32
  let c1_i32_118 : BitVec 32 := 1#32
  let arg12 : BitVec 32 := Scf.iv c0_i32_116 c1_i32_118 k0_t7
  let v709 : BitVec 32 := Scalar.muli c2_i32_457 arg12
  let v710 : BitVec 32 := Scalar.addi v709 c1_i32_458
  let v712 : BitVec 32 := Scalar.muli c4_i32_460 v710
  let v713 : BitVec 32 := Scalar.addi v712 c0_i32_461
  let c256_i32_462 : BitVec 32 := 256#32
  let v714 : BitVec 32 := Scalar.muli v713 c256_i32_462
  let v715 : BitVec 32 := v714
  let v716 : Index := Scalar.indexCast v715
  let c0_463 : Index := 0#32
  ![v716.toNat, 0]
def k0_off29 (i : grid0.Coords) (k0_t7 : Fin (k0_t7_loop i).trips) (c1_i32_458 : BitVec 32) (c0_i32_461 : BitVec 32) : Fin 4 → Nat :=
  let c3_i32_471 : BitVec 32 := 3#32
  let c0_i32_470 : BitVec 32 := 0#32
  let c2_i32_468 : BitVec 32 := 2#32
  let arg0 : BitVec 32 := BitVec.ofNat 32 (i 0).val
  let v722 : BitVec 32 := Scalar.muli c2_i32_468 arg0
  let c1_i32_469 : BitVec 32 := 1#32
  let v723 : BitVec 32 := Scalar.addi v722 c1_i32_469
  let c4_i32_460 : BitVec 32 := 4#32
  let c2_i32_457 : BitVec 32 := 2#32
  let c0_i32_116 : BitVec 32 := 0#32
  let c1_i32_118 : BitVec 32 := 1#32
  let arg12 : BitVec 32 := Scf.iv c0_i32_116 c1_i32_118 k0_t7
  let v709 : BitVec 32 := Scalar.muli c2_i32_457 arg12
  let v710 : BitVec 32 := Scalar.addi v709 c1_i32_458
  let v712 : BitVec 32 := Scalar.muli c4_i32_460 v710
  let v713 : BitVec 32 := Scalar.addi v712 c0_i32_461
  let v724 : BitVec 32 := Scalar.subi v723 v713
  let v725 : BitVec 32 := Scalar.maxsi c0_i32_470 v724
  let v726 : BitVec 32 := Scalar.minsi c3_i32_471 v725
  let v727 : Index := Scalar.indexCast v726
  let c0_472 : Index := 0#32
  let c0_473 : Index := 0#32
  let c0_474 : Index := 0#32
  ![v727.toNat, 0, 0, 0]
def k0_off30 (i : grid0.Coords) (k0_t7 : Fin (k0_t7_loop i).trips) (c1_i32_458 : BitVec 32) (c0_i32_461 : BitVec 32) : Fin 3 → Nat :=
  let c4_i32_460 : BitVec 32 := 4#32
  let c2_i32_457 : BitVec 32 := 2#32
  let c0_i32_116 : BitVec 32 := 0#32
  let c1_i32_118 : BitVec 32 := 1#32
  let arg12 : BitVec 32 := Scf.iv c0_i32_116 c1_i32_118 k0_t7
  let v709 : BitVec 32 := Scalar.muli c2_i32_457 arg12
  let v710 : BitVec 32 := Scalar.addi v709 c1_i32_458
  let v712 : BitVec 32 := Scalar.muli c4_i32_460 v710
  let v713 : BitVec 32 := Scalar.addi v712 c0_i32_461
  let v731 : Index := Scalar.indexCast v713
  let c0_475 : Index := 0#32
  let c0_476 : Index := 0#32
  ![v731.toNat, 0, 0]
def k0_mult56 (i : grid0.Coords) (k0_t7 : Fin (k0_t7_loop i).trips) : BitVec 32 :=
  let c4_i32_480 : BitVec 32 := 4#32
  let c2_i32_457 : BitVec 32 := 2#32
  let c0_i32_116 : BitVec 32 := 0#32
  let c1_i32_118 : BitVec 32 := 1#32
  let arg12 : BitVec 32 := Scf.iv c0_i32_116 c1_i32_118 k0_t7
  let v709 : BitVec 32 := Scalar.muli c2_i32_457 arg12
  let c1_i32_458 : BitVec 32 := 1#32
  let v710 : BitVec 32 := Scalar.addi v709 c1_i32_458
  let v742 : BitVec 32 := Scalar.muli c4_i32_480 v710
  let c1_i32_481 : BitVec 32 := 1#32
  let v743 : BitVec 32 := Scalar.addi v742 c1_i32_481
  let c256_i32_482 : BitVec 32 := 256#32
  let v744 : BitVec 32 := Scalar.muli v743 c256_i32_482
  v744
def k0_mult57 (i : grid0.Coords) (k0_t7 : Fin (k0_t7_loop i).trips) : BitVec 32 :=
  let c4_i32_500 : BitVec 32 := 4#32
  let c2_i32_457 : BitVec 32 := 2#32
  let c0_i32_116 : BitVec 32 := 0#32
  let c1_i32_118 : BitVec 32 := 1#32
  let arg12 : BitVec 32 := Scf.iv c0_i32_116 c1_i32_118 k0_t7
  let v709 : BitVec 32 := Scalar.muli c2_i32_457 arg12
  let c1_i32_458 : BitVec 32 := 1#32
  let v710 : BitVec 32 := Scalar.addi v709 c1_i32_458
  let v772 : BitVec 32 := Scalar.muli c4_i32_500 v710
  let c2_i32_501 : BitVec 32 := 2#32
  let v773 : BitVec 32 := Scalar.addi v772 c2_i32_501
  let c256_i32_502 : BitVec 32 := 256#32
  let v774 : BitVec 32 := Scalar.muli v773 c256_i32_502
  v774
def k0_mult58 (i : grid0.Coords) (k0_t7 : Fin (k0_t7_loop i).trips) : BitVec 32 :=
  let c4_i32_520 : BitVec 32 := 4#32
  let c2_i32_457 : BitVec 32 := 2#32
  let c0_i32_116 : BitVec 32 := 0#32
  let c1_i32_118 : BitVec 32 := 1#32
  let arg12 : BitVec 32 := Scf.iv c0_i32_116 c1_i32_118 k0_t7
  let v709 : BitVec 32 := Scalar.muli c2_i32_457 arg12
  let c1_i32_458 : BitVec 32 := 1#32
  let v710 : BitVec 32 := Scalar.addi v709 c1_i32_458
  let v802 : BitVec 32 := Scalar.muli c4_i32_520 v710
  let c3_i32_521 : BitVec 32 := 3#32
  let v803 : BitVec 32 := Scalar.addi v802 c3_i32_521
  let c256_i32_522 : BitVec 32 := 256#32
  let v804 : BitVec 32 := Scalar.muli v803 c256_i32_522
  v804
def k0_mult59 (i : grid0.Coords) (k0_t7 : Fin (k0_t7_loop i).trips) : BitVec 32 :=
  let c2_i32_541 : BitVec 32 := 2#32
  let c0_i32_116 : BitVec 32 := 0#32
  let c1_i32_118 : BitVec 32 := 1#32
  let arg12 : BitVec 32 := Scf.iv c0_i32_116 c1_i32_118 k0_t7
  let v835 : BitVec 32 := Scalar.muli c2_i32_541 arg12
  let c1024_i32_554 : BitVec 32 := 1024#32
  let v859 : BitVec 32 := Scalar.muli v835 c1024_i32_554
  v859
def k0_off31 (i : grid0.Coords) (k0_t7 : Fin (k0_t7_loop i).trips) : Fin 2 → Nat :=
  let c2_i32_541 : BitVec 32 := 2#32
  let c0_i32_116 : BitVec 32 := 0#32
  let c1_i32_118 : BitVec 32 := 1#32
  let arg12 : BitVec 32 := Scf.iv c0_i32_116 c1_i32_118 k0_t7
  let v835 : BitVec 32 := Scalar.muli c2_i32_541 arg12
  let c1024_i32_554 : BitVec 32 := 1024#32
  let v859 : BitVec 32 := Scalar.muli v835 c1024_i32_554
  let v860 : BitVec 32 := v859
  let v861 : Index := Scalar.indexCast v860
  let c0_555 : Index := 0#32
  ![v861.toNat, 0]
def k0_mult60 (i : grid0.Coords) (k0_t7 : Fin (k0_t7_loop i).trips) : BitVec 32 :=
  let c4_i32_566 : BitVec 32 := 4#32
  let c2_i32_563 : BitVec 32 := 2#32
  let c0_i32_116 : BitVec 32 := 0#32
  let c1_i32_118 : BitVec 32 := 1#32
  let arg12 : BitVec 32 := Scf.iv c0_i32_116 c1_i32_118 k0_t7
  let v875 : BitVec 32 := Scalar.muli c2_i32_563 arg12
  let c2_i32_564 : BitVec 32 := 2#32
  let v876 : BitVec 32 := Scalar.addi v875 c2_i32_564
  let v878 : BitVec 32 := Scalar.muli c4_i32_566 v876
  let c0_i32_567 : BitVec 32 := 0#32
  let v879 : BitVec 32 := Scalar.addi v878 c0_i32_567
  let c256_i32_568 : BitVec 32 := 256#32
  let v880 : BitVec 32 := Scalar.muli v879 c256_i32_568
  v880
def k0_mult61 (i : grid0.Coords) (k0_t7 : Fin (k0_t7_loop i).trips) : BitVec 32 :=
  let c4_i32_586 : BitVec 32 := 4#32
  let c2_i32_563 : BitVec 32 := 2#32
  let c0_i32_116 : BitVec 32 := 0#32
  let c1_i32_118 : BitVec 32 := 1#32
  let arg12 : BitVec 32 := Scf.iv c0_i32_116 c1_i32_118 k0_t7
  let v875 : BitVec 32 := Scalar.muli c2_i32_563 arg12
  let c2_i32_564 : BitVec 32 := 2#32
  let v876 : BitVec 32 := Scalar.addi v875 c2_i32_564
  let v908 : BitVec 32 := Scalar.muli c4_i32_586 v876
  let c1_i32_587 : BitVec 32 := 1#32
  let v909 : BitVec 32 := Scalar.addi v908 c1_i32_587
  let c256_i32_588 : BitVec 32 := 256#32
  let v910 : BitVec 32 := Scalar.muli v909 c256_i32_588
  v910
def k0_mult62 (i : grid0.Coords) (k0_t7 : Fin (k0_t7_loop i).trips) : BitVec 32 :=
  let c4_i32_606 : BitVec 32 := 4#32
  let c2_i32_563 : BitVec 32 := 2#32
  let c0_i32_116 : BitVec 32 := 0#32
  let c1_i32_118 : BitVec 32 := 1#32
  let arg12 : BitVec 32 := Scf.iv c0_i32_116 c1_i32_118 k0_t7
  let v875 : BitVec 32 := Scalar.muli c2_i32_563 arg12
  let c2_i32_564 : BitVec 32 := 2#32
  let v876 : BitVec 32 := Scalar.addi v875 c2_i32_564
  let v938 : BitVec 32 := Scalar.muli c4_i32_606 v876
  let c2_i32_607 : BitVec 32 := 2#32
  let v939 : BitVec 32 := Scalar.addi v938 c2_i32_607
  let c256_i32_608 : BitVec 32 := 256#32
  let v940 : BitVec 32 := Scalar.muli v939 c256_i32_608
  v940
def k0_mult63 (i : grid0.Coords) (k0_t7 : Fin (k0_t7_loop i).trips) : BitVec 32 :=
  let c4_i32_626 : BitVec 32 := 4#32
  let c2_i32_563 : BitVec 32 := 2#32
  let c0_i32_116 : BitVec 32 := 0#32
  let c1_i32_118 : BitVec 32 := 1#32
  let arg12 : BitVec 32 := Scf.iv c0_i32_116 c1_i32_118 k0_t7
  let v875 : BitVec 32 := Scalar.muli c2_i32_563 arg12
  let c2_i32_564 : BitVec 32 := 2#32
  let v876 : BitVec 32 := Scalar.addi v875 c2_i32_564
  let v968 : BitVec 32 := Scalar.muli c4_i32_626 v876
  let c3_i32_627 : BitVec 32 := 3#32
  let v969 : BitVec 32 := Scalar.addi v968 c3_i32_627
  let c256_i32_628 : BitVec 32 := 256#32
  let v970 : BitVec 32 := Scalar.muli v969 c256_i32_628
  v970
def k0_mult64 (i : grid0.Coords) (k0_t7 : Fin (k0_t7_loop i).trips) : BitVec 32 :=
  let c2_i32_647 : BitVec 32 := 2#32
  let c0_i32_116 : BitVec 32 := 0#32
  let c1_i32_118 : BitVec 32 := 1#32
  let arg12 : BitVec 32 := Scf.iv c0_i32_116 c1_i32_118 k0_t7
  let v1001 : BitVec 32 := Scalar.muli c2_i32_647 arg12
  let c1_i32_648 : BitVec 32 := 1#32
  let v1002 : BitVec 32 := Scalar.addi v1001 c1_i32_648
  let c1024_i32_661 : BitVec 32 := 1024#32
  let v1026 : BitVec 32 := Scalar.muli v1002 c1024_i32_661
  v1026
def k0_off32 (i : grid0.Coords) (k0_t7 : Fin (k0_t7_loop i).trips) : Fin 2 → Nat :=
  let c2_i32_647 : BitVec 32 := 2#32
  let c0_i32_116 : BitVec 32 := 0#32
  let c1_i32_118 : BitVec 32 := 1#32
  let arg12 : BitVec 32 := Scf.iv c0_i32_116 c1_i32_118 k0_t7
  let v1001 : BitVec 32 := Scalar.muli c2_i32_647 arg12
  let c1_i32_648 : BitVec 32 := 1#32
  let v1002 : BitVec 32 := Scalar.addi v1001 c1_i32_648
  let c1024_i32_661 : BitVec 32 := 1024#32
  let v1026 : BitVec 32 := Scalar.muli v1002 c1024_i32_661
  let v1027 : BitVec 32 := v1026
  let v1028 : Index := Scalar.indexCast v1027
  let c0_662 : Index := 0#32
  ![v1028.toNat, 0]
@[reducible] def k0_t8_loop (i : grid0.Coords) : Scf.Loop 32 :=
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let v180 : BitVec 32 := Scalar.addi c0_i32_116 v179
  let c1_i32_119 : BitVec 32 := 1#32
  ⟨v183, v180, c1_i32_119⟩
def k0_mult65 (i : grid0.Coords) (k0_t8 : Fin (k0_t8_loop i).trips) : BitVec 32 :=
  let c4_i32_460 : BitVec 32 := 4#32
  let c2_i32_457 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v709 : BitVec 32 := Scalar.muli c2_i32_457 arg12
  let c1_i32_458 : BitVec 32 := 1#32
  let v710 : BitVec 32 := Scalar.addi v709 c1_i32_458
  let v712 : BitVec 32 := Scalar.muli c4_i32_460 v710
  let c0_i32_461 : BitVec 32 := 0#32
  let v713 : BitVec 32 := Scalar.addi v712 c0_i32_461
  let c256_i32_462 : BitVec 32 := 256#32
  let v714 : BitVec 32 := Scalar.muli v713 c256_i32_462
  v714
def k0_off33 (i : grid0.Coords) (k0_t8 : Fin (k0_t8_loop i).trips) (c1_i32_458 : BitVec 32) (c0_i32_461 : BitVec 32) : Fin 2 → Nat :=
  let c4_i32_460 : BitVec 32 := 4#32
  let c2_i32_457 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v709 : BitVec 32 := Scalar.muli c2_i32_457 arg12
  let v710 : BitVec 32 := Scalar.addi v709 c1_i32_458
  let v712 : BitVec 32 := Scalar.muli c4_i32_460 v710
  let v713 : BitVec 32 := Scalar.addi v712 c0_i32_461
  let c256_i32_462 : BitVec 32 := 256#32
  let v714 : BitVec 32 := Scalar.muli v713 c256_i32_462
  let v715 : BitVec 32 := v714
  let v716 : Index := Scalar.indexCast v715
  let c0_463 : Index := 0#32
  ![v716.toNat, 0]
def k0_off34 (i : grid0.Coords) (k0_t8 : Fin (k0_t8_loop i).trips) (c1_i32_458 : BitVec 32) (c0_i32_461 : BitVec 32) : Fin 4 → Nat :=
  let c3_i32_471 : BitVec 32 := 3#32
  let c0_i32_470 : BitVec 32 := 0#32
  let c2_i32_468 : BitVec 32 := 2#32
  let arg0 : BitVec 32 := BitVec.ofNat 32 (i 0).val
  let v722 : BitVec 32 := Scalar.muli c2_i32_468 arg0
  let c1_i32_469 : BitVec 32 := 1#32
  let v723 : BitVec 32 := Scalar.addi v722 c1_i32_469
  let c4_i32_460 : BitVec 32 := 4#32
  let c2_i32_457 : BitVec 32 := 2#32
  let c0_i32_116 : BitVec 32 := 0#32
  let c2_i32 : BitVec 32 := 2#32
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v709 : BitVec 32 := Scalar.muli c2_i32_457 arg12
  let v710 : BitVec 32 := Scalar.addi v709 c1_i32_458
  let v712 : BitVec 32 := Scalar.muli c4_i32_460 v710
  let v713 : BitVec 32 := Scalar.addi v712 c0_i32_461
  let v724 : BitVec 32 := Scalar.subi v723 v713
  let v725 : BitVec 32 := Scalar.maxsi c0_i32_470 v724
  let v726 : BitVec 32 := Scalar.minsi c3_i32_471 v725
  let v727 : Index := Scalar.indexCast v726
  let c0_472 : Index := 0#32
  let c0_473 : Index := 0#32
  let c0_474 : Index := 0#32
  ![v727.toNat, 0, 0, 0]
def k0_off35 (i : grid0.Coords) (k0_t8 : Fin (k0_t8_loop i).trips) (c1_i32_458 : BitVec 32) (c0_i32_461 : BitVec 32) : Fin 3 → Nat :=
  let c4_i32_460 : BitVec 32 := 4#32
  let c2_i32_457 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v709 : BitVec 32 := Scalar.muli c2_i32_457 arg12
  let v710 : BitVec 32 := Scalar.addi v709 c1_i32_458
  let v712 : BitVec 32 := Scalar.muli c4_i32_460 v710
  let v713 : BitVec 32 := Scalar.addi v712 c0_i32_461
  let v731 : Index := Scalar.indexCast v713
  let c0_475 : Index := 0#32
  let c0_476 : Index := 0#32
  ![v731.toNat, 0, 0]
def k0_mult66 (i : grid0.Coords) (k0_t8 : Fin (k0_t8_loop i).trips) : BitVec 32 :=
  let c4_i32_480 : BitVec 32 := 4#32
  let c2_i32_457 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v709 : BitVec 32 := Scalar.muli c2_i32_457 arg12
  let c1_i32_458 : BitVec 32 := 1#32
  let v710 : BitVec 32 := Scalar.addi v709 c1_i32_458
  let v742 : BitVec 32 := Scalar.muli c4_i32_480 v710
  let c1_i32_481 : BitVec 32 := 1#32
  let v743 : BitVec 32 := Scalar.addi v742 c1_i32_481
  let c256_i32_482 : BitVec 32 := 256#32
  let v744 : BitVec 32 := Scalar.muli v743 c256_i32_482
  v744
def k0_mult67 (i : grid0.Coords) (k0_t8 : Fin (k0_t8_loop i).trips) : BitVec 32 :=
  let c4_i32_500 : BitVec 32 := 4#32
  let c2_i32_457 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v709 : BitVec 32 := Scalar.muli c2_i32_457 arg12
  let c1_i32_458 : BitVec 32 := 1#32
  let v710 : BitVec 32 := Scalar.addi v709 c1_i32_458
  let v772 : BitVec 32 := Scalar.muli c4_i32_500 v710
  let c2_i32_501 : BitVec 32 := 2#32
  let v773 : BitVec 32 := Scalar.addi v772 c2_i32_501
  let c256_i32_502 : BitVec 32 := 256#32
  let v774 : BitVec 32 := Scalar.muli v773 c256_i32_502
  v774
def k0_mult68 (i : grid0.Coords) (k0_t8 : Fin (k0_t8_loop i).trips) : BitVec 32 :=
  let c4_i32_520 : BitVec 32 := 4#32
  let c2_i32_457 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v709 : BitVec 32 := Scalar.muli c2_i32_457 arg12
  let c1_i32_458 : BitVec 32 := 1#32
  let v710 : BitVec 32 := Scalar.addi v709 c1_i32_458
  let v802 : BitVec 32 := Scalar.muli c4_i32_520 v710
  let c3_i32_521 : BitVec 32 := 3#32
  let v803 : BitVec 32 := Scalar.addi v802 c3_i32_521
  let c256_i32_522 : BitVec 32 := 256#32
  let v804 : BitVec 32 := Scalar.muli v803 c256_i32_522
  v804
def k0_mult69 (i : grid0.Coords) (k0_t8 : Fin (k0_t8_loop i).trips) : BitVec 32 :=
  let c2_i32_541 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v835 : BitVec 32 := Scalar.muli c2_i32_541 arg12
  let c1024_i32_554 : BitVec 32 := 1024#32
  let v859 : BitVec 32 := Scalar.muli v835 c1024_i32_554
  v859
def k0_off36 (i : grid0.Coords) (k0_t8 : Fin (k0_t8_loop i).trips) : Fin 2 → Nat :=
  let c2_i32_541 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v835 : BitVec 32 := Scalar.muli c2_i32_541 arg12
  let c1024_i32_554 : BitVec 32 := 1024#32
  let v859 : BitVec 32 := Scalar.muli v835 c1024_i32_554
  let v860 : BitVec 32 := v859
  let v861 : Index := Scalar.indexCast v860
  let c0_555 : Index := 0#32
  ![v861.toNat, 0]
def k0_mult70 (i : grid0.Coords) (k0_t8 : Fin (k0_t8_loop i).trips) : BitVec 32 :=
  let c4_i32_566 : BitVec 32 := 4#32
  let c2_i32_563 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v875 : BitVec 32 := Scalar.muli c2_i32_563 arg12
  let c2_i32_564 : BitVec 32 := 2#32
  let v876 : BitVec 32 := Scalar.addi v875 c2_i32_564
  let v878 : BitVec 32 := Scalar.muli c4_i32_566 v876
  let c0_i32_567 : BitVec 32 := 0#32
  let v879 : BitVec 32 := Scalar.addi v878 c0_i32_567
  let c256_i32_568 : BitVec 32 := 256#32
  let v880 : BitVec 32 := Scalar.muli v879 c256_i32_568
  v880
def k0_mult71 (i : grid0.Coords) (k0_t8 : Fin (k0_t8_loop i).trips) : BitVec 32 :=
  let c4_i32_586 : BitVec 32 := 4#32
  let c2_i32_563 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v875 : BitVec 32 := Scalar.muli c2_i32_563 arg12
  let c2_i32_564 : BitVec 32 := 2#32
  let v876 : BitVec 32 := Scalar.addi v875 c2_i32_564
  let v908 : BitVec 32 := Scalar.muli c4_i32_586 v876
  let c1_i32_587 : BitVec 32 := 1#32
  let v909 : BitVec 32 := Scalar.addi v908 c1_i32_587
  let c256_i32_588 : BitVec 32 := 256#32
  let v910 : BitVec 32 := Scalar.muli v909 c256_i32_588
  v910
def k0_mult72 (i : grid0.Coords) (k0_t8 : Fin (k0_t8_loop i).trips) : BitVec 32 :=
  let c4_i32_606 : BitVec 32 := 4#32
  let c2_i32_563 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v875 : BitVec 32 := Scalar.muli c2_i32_563 arg12
  let c2_i32_564 : BitVec 32 := 2#32
  let v876 : BitVec 32 := Scalar.addi v875 c2_i32_564
  let v938 : BitVec 32 := Scalar.muli c4_i32_606 v876
  let c2_i32_607 : BitVec 32 := 2#32
  let v939 : BitVec 32 := Scalar.addi v938 c2_i32_607
  let c256_i32_608 : BitVec 32 := 256#32
  let v940 : BitVec 32 := Scalar.muli v939 c256_i32_608
  v940
def k0_mult73 (i : grid0.Coords) (k0_t8 : Fin (k0_t8_loop i).trips) : BitVec 32 :=
  let c4_i32_626 : BitVec 32 := 4#32
  let c2_i32_563 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v875 : BitVec 32 := Scalar.muli c2_i32_563 arg12
  let c2_i32_564 : BitVec 32 := 2#32
  let v876 : BitVec 32 := Scalar.addi v875 c2_i32_564
  let v968 : BitVec 32 := Scalar.muli c4_i32_626 v876
  let c3_i32_627 : BitVec 32 := 3#32
  let v969 : BitVec 32 := Scalar.addi v968 c3_i32_627
  let c256_i32_628 : BitVec 32 := 256#32
  let v970 : BitVec 32 := Scalar.muli v969 c256_i32_628
  v970
def k0_mult74 (i : grid0.Coords) (k0_t8 : Fin (k0_t8_loop i).trips) : BitVec 32 :=
  let c2_i32_647 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v1001 : BitVec 32 := Scalar.muli c2_i32_647 arg12
  let c1_i32_648 : BitVec 32 := 1#32
  let v1002 : BitVec 32 := Scalar.addi v1001 c1_i32_648
  let c1024_i32_661 : BitVec 32 := 1024#32
  let v1026 : BitVec 32 := Scalar.muli v1002 c1024_i32_661
  v1026
def k0_off37 (i : grid0.Coords) (k0_t8 : Fin (k0_t8_loop i).trips) : Fin 2 → Nat :=
  let c2_i32_647 : BitVec 32 := 2#32
  let c0_i32_116 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v179 : BitVec 32 := Scalar.subi v47 c0_i32_116
  let c1_i32_117 : BitVec 32 := 1#32
  let v181 : BitVec 32 := Scalar.divsi v179 c1_i32_117
  let v182 : BitVec 32 := Scalar.muli v181 c1_i32_117
  let v183 : BitVec 32 := Scalar.addi c0_i32_116 v182
  let c1_i32_119 : BitVec 32 := 1#32
  let arg12 : BitVec 32 := Scf.iv v183 c1_i32_119 k0_t8
  let v1001 : BitVec 32 := Scalar.muli c2_i32_647 arg12
  let c1_i32_648 : BitVec 32 := 1#32
  let v1002 : BitVec 32 := Scalar.addi v1001 c1_i32_648
  let c1024_i32_661 : BitVec 32 := 1024#32
  let v1026 : BitVec 32 := Scalar.muli v1002 c1024_i32_661
  let v1027 : BitVec 32 := v1026
  let v1028 : Index := Scalar.indexCast v1027
  let c0_662 : Index := 0#32
  ![v1028.toNat, 0]
def k0_mult75 (i : grid0.Coords) : BitVec 32 :=
  let c4_i32_122 : BitVec 32 := 4#32
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_120 : BitVec 32 := 1#32
  let v186 : BitVec 32 := Scalar.addi v48 c1_i32_120
  let v188 : BitVec 32 := Scalar.muli c4_i32_122 v186
  let c0_i32_123 : BitVec 32 := 0#32
  let v189 : BitVec 32 := Scalar.addi v188 c0_i32_123
  let c256_i32_124 : BitVec 32 := 256#32
  let v190 : BitVec 32 := Scalar.muli v189 c256_i32_124
  v190
def k0_off38 (i : grid0.Coords) (c0_i32_123 : BitVec 32) : Fin 2 → Nat :=
  let c4_i32_122 : BitVec 32 := 4#32
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_120 : BitVec 32 := 1#32
  let v186 : BitVec 32 := Scalar.addi v48 c1_i32_120
  let v188 : BitVec 32 := Scalar.muli c4_i32_122 v186
  let v189 : BitVec 32 := Scalar.addi v188 c0_i32_123
  let c256_i32_124 : BitVec 32 := 256#32
  let v190 : BitVec 32 := Scalar.muli v189 c256_i32_124
  let v191 : BitVec 32 := v190
  let v192 : Index := Scalar.indexCast v191
  let c0_125 : Index := 0#32
  ![v192.toNat, 0]
def k0_off39 (i : grid0.Coords) (c0_i32_123 : BitVec 32) : Fin 4 → Nat :=
  let c3_i32_133 : BitVec 32 := 3#32
  let c0_i32_132 : BitVec 32 := 0#32
  let c2_i32_130 : BitVec 32 := 2#32
  let arg0 : BitVec 32 := BitVec.ofNat 32 (i 0).val
  let v198 : BitVec 32 := Scalar.muli c2_i32_130 arg0
  let c1_i32_131 : BitVec 32 := 1#32
  let v199 : BitVec 32 := Scalar.addi v198 c1_i32_131
  let c4_i32_122 : BitVec 32 := 4#32
  let c2_i32_21 : BitVec 32 := 2#32
  let c2_i32 : BitVec 32 := 2#32
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_120 : BitVec 32 := 1#32
  let v186 : BitVec 32 := Scalar.addi v48 c1_i32_120
  let v188 : BitVec 32 := Scalar.muli c4_i32_122 v186
  let v189 : BitVec 32 := Scalar.addi v188 c0_i32_123
  let v200 : BitVec 32 := Scalar.subi v199 v189
  let v201 : BitVec 32 := Scalar.maxsi c0_i32_132 v200
  let v202 : BitVec 32 := Scalar.minsi c3_i32_133 v201
  let v203 : Index := Scalar.indexCast v202
  let c0_134 : Index := 0#32
  let c0_135 : Index := 0#32
  let c0_136 : Index := 0#32
  ![v203.toNat, 0, 0, 0]
def k0_off40 (i : grid0.Coords) (c0_i32_123 : BitVec 32) : Fin 3 → Nat :=
  let c4_i32_122 : BitVec 32 := 4#32
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_120 : BitVec 32 := 1#32
  let v186 : BitVec 32 := Scalar.addi v48 c1_i32_120
  let v188 : BitVec 32 := Scalar.muli c4_i32_122 v186
  let v189 : BitVec 32 := Scalar.addi v188 c0_i32_123
  let v207 : Index := Scalar.indexCast v189
  let c0_137 : Index := 0#32
  let c0_138 : Index := 0#32
  ![v207.toNat, 0, 0]
def k0_mult76 (i : grid0.Coords) : BitVec 32 :=
  let c4_i32_142 : BitVec 32 := 4#32
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_120 : BitVec 32 := 1#32
  let v186 : BitVec 32 := Scalar.addi v48 c1_i32_120
  let v218 : BitVec 32 := Scalar.muli c4_i32_142 v186
  let c1_i32_143 : BitVec 32 := 1#32
  let v219 : BitVec 32 := Scalar.addi v218 c1_i32_143
  let c256_i32_144 : BitVec 32 := 256#32
  let v220 : BitVec 32 := Scalar.muli v219 c256_i32_144
  v220
def k0_mult77 (i : grid0.Coords) : BitVec 32 :=
  let c4_i32_162 : BitVec 32 := 4#32
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_120 : BitVec 32 := 1#32
  let v186 : BitVec 32 := Scalar.addi v48 c1_i32_120
  let v248 : BitVec 32 := Scalar.muli c4_i32_162 v186
  let c2_i32_163 : BitVec 32 := 2#32
  let v249 : BitVec 32 := Scalar.addi v248 c2_i32_163
  let c256_i32_164 : BitVec 32 := 256#32
  let v250 : BitVec 32 := Scalar.muli v249 c256_i32_164
  v250
def k0_mult78 (i : grid0.Coords) : BitVec 32 :=
  let c4_i32_182 : BitVec 32 := 4#32
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_120 : BitVec 32 := 1#32
  let v186 : BitVec 32 := Scalar.addi v48 c1_i32_120
  let v278 : BitVec 32 := Scalar.muli c4_i32_182 v186
  let c3_i32_183 : BitVec 32 := 3#32
  let v279 : BitVec 32 := Scalar.addi v278 c3_i32_183
  let c256_i32_184 : BitVec 32 := 256#32
  let v280 : BitVec 32 := Scalar.muli v279 c256_i32_184
  v280
def k0_mult79 (i : grid0.Coords) : BitVec 32 :=
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1024_i32 : BitVec 32 := 1024#32
  let v334 : BitVec 32 := Scalar.muli v48 c1024_i32
  v334
def k0_off41 (i : grid0.Coords) : Fin 2 → Nat :=
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1024_i32 : BitVec 32 := 1024#32
  let v334 : BitVec 32 := Scalar.muli v48 c1024_i32
  let v335 : BitVec 32 := v334
  let v336 : Index := Scalar.indexCast v335
  let c0_215 : Index := 0#32
  ![v336.toNat, 0]
def k0_mult80 : BitVec 32 :=
  let c0_i32_224 : BitVec 32 := 0#32
  c0_i32_224
def k0_off42 (i : grid0.Coords) (c0_i32_232 : BitVec 32) : Fin 4 → Nat :=
  let c3_i32_234 : BitVec 32 := 3#32
  let c0_i32_233 : BitVec 32 := 0#32
  let c2_i32_230 : BitVec 32 := 2#32
  let arg0 : BitVec 32 := BitVec.ofNat 32 (i 0).val
  let v358 : BitVec 32 := Scalar.muli c2_i32_230 arg0
  let c1_i32_231 : BitVec 32 := 1#32
  let v359 : BitVec 32 := Scalar.addi v358 c1_i32_231
  let v360 : BitVec 32 := Scalar.subi v359 c0_i32_232
  let v361 : BitVec 32 := Scalar.maxsi c0_i32_233 v360
  let v362 : BitVec 32 := Scalar.minsi c3_i32_234 v361
  let v363 : Index := Scalar.indexCast v362
  let c1_235 : Index := 1#32
  let c0_236 : Index := 0#32
  let c0_237 : Index := 0#32
  ![v363.toNat, 1, 0, 0]
def k0_mult81 : BitVec 32 :=
  let c256_i32_244 : BitVec 32 := 256#32
  c256_i32_244
def k0_mult82 : BitVec 32 :=
  let c512_i32_264 : BitVec 32 := 512#32
  c512_i32_264
def k0_mult83 : BitVec 32 :=
  let c768_i32_284 : BitVec 32 := 768#32
  c768_i32_284
def k0_mult84 (i : grid0.Coords) : BitVec 32 :=
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_305 : BitVec 32 := 1#32
  let v458 : BitVec 32 := Scalar.addi v48 c1_i32_305
  let c1024_i32_318 : BitVec 32 := 1024#32
  let v482 : BitVec 32 := Scalar.muli v458 c1024_i32_318
  v482
def k0_off43 (i : grid0.Coords) : Fin 2 → Nat :=
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_305 : BitVec 32 := 1#32
  let v458 : BitVec 32 := Scalar.addi v48 c1_i32_305
  let c1024_i32_318 : BitVec 32 := 1024#32
  let v482 : BitVec 32 := Scalar.muli v458 c1024_i32_318
  let v483 : BitVec 32 := v482
  let v484 : Index := Scalar.indexCast v483
  let c0_319 : Index := 0#32
  ![v484.toNat, 0]
@[reducible] def k0_t9_loop (i : grid0.Coords) : Scf.Loop 32 :=
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_329 : BitVec 32 := 1#32
  ⟨c0_i32_327, v502, c1_i32_329⟩
def k0_mult85 (i : grid0.Coords) (k0_t9 : Fin (k0_t9_loop i).trips) : BitVec 32 :=
  let c4_i32_460 : BitVec 32 := 4#32
  let c2_i32_457 : BitVec 32 := 2#32
  let c0_i32_327 : BitVec 32 := 0#32
  let c1_i32_329 : BitVec 32 := 1#32
  let arg12 : BitVec 32 := Scf.iv c0_i32_327 c1_i32_329 k0_t9
  let v709 : BitVec 32 := Scalar.muli c2_i32_457 arg12
  let c1_i32_458 : BitVec 32 := 1#32
  let v710 : BitVec 32 := Scalar.addi v709 c1_i32_458
  let v712 : BitVec 32 := Scalar.muli c4_i32_460 v710
  let c0_i32_461 : BitVec 32 := 0#32
  let v713 : BitVec 32 := Scalar.addi v712 c0_i32_461
  let c256_i32_462 : BitVec 32 := 256#32
  let v714 : BitVec 32 := Scalar.muli v713 c256_i32_462
  v714
def k0_off44 (i : grid0.Coords) (k0_t9 : Fin (k0_t9_loop i).trips) (c1_i32_458 : BitVec 32) (c0_i32_461 : BitVec 32) : Fin 2 → Nat :=
  let c4_i32_460 : BitVec 32 := 4#32
  let c2_i32_457 : BitVec 32 := 2#32
  let c0_i32_327 : BitVec 32 := 0#32
  let c1_i32_329 : BitVec 32 := 1#32
  let arg12 : BitVec 32 := Scf.iv c0_i32_327 c1_i32_329 k0_t9
  let v709 : BitVec 32 := Scalar.muli c2_i32_457 arg12
  let v710 : BitVec 32 := Scalar.addi v709 c1_i32_458
  let v712 : BitVec 32 := Scalar.muli c4_i32_460 v710
  let v713 : BitVec 32 := Scalar.addi v712 c0_i32_461
  let c256_i32_462 : BitVec 32 := 256#32
  let v714 : BitVec 32 := Scalar.muli v713 c256_i32_462
  let v715 : BitVec 32 := v714
  let v716 : Index := Scalar.indexCast v715
  let c128_463 : Index := 128#32
  ![v716.toNat, 128]
def k0_off45 (i : grid0.Coords) (k0_t9 : Fin (k0_t9_loop i).trips) (c1_i32_458 : BitVec 32) (c0_i32_461 : BitVec 32) : Fin 4 → Nat :=
  let c3_i32_471 : BitVec 32 := 3#32
  let c0_i32_470 : BitVec 32 := 0#32
  let c2_i32_468 : BitVec 32 := 2#32
  let arg0 : BitVec 32 := BitVec.ofNat 32 (i 0).val
  let v722 : BitVec 32 := Scalar.muli c2_i32_468 arg0
  let c1_i32_469 : BitVec 32 := 1#32
  let v723 : BitVec 32 := Scalar.addi v722 c1_i32_469
  let c4_i32_460 : BitVec 32 := 4#32
  let c2_i32_457 : BitVec 32 := 2#32
  let c0_i32_327 : BitVec 32 := 0#32
  let c1_i32_329 : BitVec 32 := 1#32
  let arg12 : BitVec 32 := Scf.iv c0_i32_327 c1_i32_329 k0_t9
  let v709 : BitVec 32 := Scalar.muli c2_i32_457 arg12
  let v710 : BitVec 32 := Scalar.addi v709 c1_i32_458
  let v712 : BitVec 32 := Scalar.muli c4_i32_460 v710
  let v713 : BitVec 32 := Scalar.addi v712 c0_i32_461
  let v724 : BitVec 32 := Scalar.subi v723 v713
  let v725 : BitVec 32 := Scalar.maxsi c0_i32_470 v724
  let v726 : BitVec 32 := Scalar.minsi c3_i32_471 v725
  let v727 : Index := Scalar.indexCast v726
  let c1_472 : Index := 1#32
  let c0_473 : Index := 0#32
  let c0_474 : Index := 0#32
  ![v727.toNat, 1, 0, 0]
def k0_off46 (i : grid0.Coords) (k0_t9 : Fin (k0_t9_loop i).trips) (c1_i32_458 : BitVec 32) (c0_i32_461 : BitVec 32) : Fin 3 → Nat :=
  let c4_i32_460 : BitVec 32 := 4#32
  let c2_i32_457 : BitVec 32 := 2#32
  let c0_i32_327 : BitVec 32 := 0#32
  let c1_i32_329 : BitVec 32 := 1#32
  let arg12 : BitVec 32 := Scf.iv c0_i32_327 c1_i32_329 k0_t9
  let v709 : BitVec 32 := Scalar.muli c2_i32_457 arg12
  let v710 : BitVec 32 := Scalar.addi v709 c1_i32_458
  let v712 : BitVec 32 := Scalar.muli c4_i32_460 v710
  let v713 : BitVec 32 := Scalar.addi v712 c0_i32_461
  let v731 : Index := Scalar.indexCast v713
  let c0_475 : Index := 0#32
  let c0_476 : Index := 0#32
  ![v731.toNat, 0, 0]
def k0_mult86 (i : grid0.Coords) (k0_t9 : Fin (k0_t9_loop i).trips) : BitVec 32 :=
  let c4_i32_480 : BitVec 32 := 4#32
  let c2_i32_457 : BitVec 32 := 2#32
  let c0_i32_327 : BitVec 32 := 0#32
  let c1_i32_329 : BitVec 32 := 1#32
  let arg12 : BitVec 32 := Scf.iv c0_i32_327 c1_i32_329 k0_t9
  let v709 : BitVec 32 := Scalar.muli c2_i32_457 arg12
  let c1_i32_458 : BitVec 32 := 1#32
  let v710 : BitVec 32 := Scalar.addi v709 c1_i32_458
  let v742 : BitVec 32 := Scalar.muli c4_i32_480 v710
  let c1_i32_481 : BitVec 32 := 1#32
  let v743 : BitVec 32 := Scalar.addi v742 c1_i32_481
  let c256_i32_482 : BitVec 32 := 256#32
  let v744 : BitVec 32 := Scalar.muli v743 c256_i32_482
  v744
def k0_mult87 (i : grid0.Coords) (k0_t9 : Fin (k0_t9_loop i).trips) : BitVec 32 :=
  let c4_i32_500 : BitVec 32 := 4#32
  let c2_i32_457 : BitVec 32 := 2#32
  let c0_i32_327 : BitVec 32 := 0#32
  let c1_i32_329 : BitVec 32 := 1#32
  let arg12 : BitVec 32 := Scf.iv c0_i32_327 c1_i32_329 k0_t9
  let v709 : BitVec 32 := Scalar.muli c2_i32_457 arg12
  let c1_i32_458 : BitVec 32 := 1#32
  let v710 : BitVec 32 := Scalar.addi v709 c1_i32_458
  let v772 : BitVec 32 := Scalar.muli c4_i32_500 v710
  let c2_i32_501 : BitVec 32 := 2#32
  let v773 : BitVec 32 := Scalar.addi v772 c2_i32_501
  let c256_i32_502 : BitVec 32 := 256#32
  let v774 : BitVec 32 := Scalar.muli v773 c256_i32_502
  v774
def k0_mult88 (i : grid0.Coords) (k0_t9 : Fin (k0_t9_loop i).trips) : BitVec 32 :=
  let c4_i32_520 : BitVec 32 := 4#32
  let c2_i32_457 : BitVec 32 := 2#32
  let c0_i32_327 : BitVec 32 := 0#32
  let c1_i32_329 : BitVec 32 := 1#32
  let arg12 : BitVec 32 := Scf.iv c0_i32_327 c1_i32_329 k0_t9
  let v709 : BitVec 32 := Scalar.muli c2_i32_457 arg12
  let c1_i32_458 : BitVec 32 := 1#32
  let v710 : BitVec 32 := Scalar.addi v709 c1_i32_458
  let v802 : BitVec 32 := Scalar.muli c4_i32_520 v710
  let c3_i32_521 : BitVec 32 := 3#32
  let v803 : BitVec 32 := Scalar.addi v802 c3_i32_521
  let c256_i32_522 : BitVec 32 := 256#32
  let v804 : BitVec 32 := Scalar.muli v803 c256_i32_522
  v804
def k0_mult89 (i : grid0.Coords) (k0_t9 : Fin (k0_t9_loop i).trips) : BitVec 32 :=
  let c2_i32_541 : BitVec 32 := 2#32
  let c0_i32_327 : BitVec 32 := 0#32
  let c1_i32_329 : BitVec 32 := 1#32
  let arg12 : BitVec 32 := Scf.iv c0_i32_327 c1_i32_329 k0_t9
  let v835 : BitVec 32 := Scalar.muli c2_i32_541 arg12
  let c1024_i32_554 : BitVec 32 := 1024#32
  let v859 : BitVec 32 := Scalar.muli v835 c1024_i32_554
  v859
def k0_off47 (i : grid0.Coords) (k0_t9 : Fin (k0_t9_loop i).trips) : Fin 2 → Nat :=
  let c2_i32_541 : BitVec 32 := 2#32
  let c0_i32_327 : BitVec 32 := 0#32
  let c1_i32_329 : BitVec 32 := 1#32
  let arg12 : BitVec 32 := Scf.iv c0_i32_327 c1_i32_329 k0_t9
  let v835 : BitVec 32 := Scalar.muli c2_i32_541 arg12
  let c1024_i32_554 : BitVec 32 := 1024#32
  let v859 : BitVec 32 := Scalar.muli v835 c1024_i32_554
  let v860 : BitVec 32 := v859
  let v861 : Index := Scalar.indexCast v860
  let c128_555 : Index := 128#32
  ![v861.toNat, 128]
def k0_mult90 (i : grid0.Coords) (k0_t9 : Fin (k0_t9_loop i).trips) : BitVec 32 :=
  let c4_i32_566 : BitVec 32 := 4#32
  let c2_i32_563 : BitVec 32 := 2#32
  let c0_i32_327 : BitVec 32 := 0#32
  let c1_i32_329 : BitVec 32 := 1#32
  let arg12 : BitVec 32 := Scf.iv c0_i32_327 c1_i32_329 k0_t9
  let v875 : BitVec 32 := Scalar.muli c2_i32_563 arg12
  let c2_i32_564 : BitVec 32 := 2#32
  let v876 : BitVec 32 := Scalar.addi v875 c2_i32_564
  let v878 : BitVec 32 := Scalar.muli c4_i32_566 v876
  let c0_i32_567 : BitVec 32 := 0#32
  let v879 : BitVec 32 := Scalar.addi v878 c0_i32_567
  let c256_i32_568 : BitVec 32 := 256#32
  let v880 : BitVec 32 := Scalar.muli v879 c256_i32_568
  v880
def k0_mult91 (i : grid0.Coords) (k0_t9 : Fin (k0_t9_loop i).trips) : BitVec 32 :=
  let c4_i32_586 : BitVec 32 := 4#32
  let c2_i32_563 : BitVec 32 := 2#32
  let c0_i32_327 : BitVec 32 := 0#32
  let c1_i32_329 : BitVec 32 := 1#32
  let arg12 : BitVec 32 := Scf.iv c0_i32_327 c1_i32_329 k0_t9
  let v875 : BitVec 32 := Scalar.muli c2_i32_563 arg12
  let c2_i32_564 : BitVec 32 := 2#32
  let v876 : BitVec 32 := Scalar.addi v875 c2_i32_564
  let v908 : BitVec 32 := Scalar.muli c4_i32_586 v876
  let c1_i32_587 : BitVec 32 := 1#32
  let v909 : BitVec 32 := Scalar.addi v908 c1_i32_587
  let c256_i32_588 : BitVec 32 := 256#32
  let v910 : BitVec 32 := Scalar.muli v909 c256_i32_588
  v910
def k0_mult92 (i : grid0.Coords) (k0_t9 : Fin (k0_t9_loop i).trips) : BitVec 32 :=
  let c4_i32_606 : BitVec 32 := 4#32
  let c2_i32_563 : BitVec 32 := 2#32
  let c0_i32_327 : BitVec 32 := 0#32
  let c1_i32_329 : BitVec 32 := 1#32
  let arg12 : BitVec 32 := Scf.iv c0_i32_327 c1_i32_329 k0_t9
  let v875 : BitVec 32 := Scalar.muli c2_i32_563 arg12
  let c2_i32_564 : BitVec 32 := 2#32
  let v876 : BitVec 32 := Scalar.addi v875 c2_i32_564
  let v938 : BitVec 32 := Scalar.muli c4_i32_606 v876
  let c2_i32_607 : BitVec 32 := 2#32
  let v939 : BitVec 32 := Scalar.addi v938 c2_i32_607
  let c256_i32_608 : BitVec 32 := 256#32
  let v940 : BitVec 32 := Scalar.muli v939 c256_i32_608
  v940
def k0_mult93 (i : grid0.Coords) (k0_t9 : Fin (k0_t9_loop i).trips) : BitVec 32 :=
  let c4_i32_626 : BitVec 32 := 4#32
  let c2_i32_563 : BitVec 32 := 2#32
  let c0_i32_327 : BitVec 32 := 0#32
  let c1_i32_329 : BitVec 32 := 1#32
  let arg12 : BitVec 32 := Scf.iv c0_i32_327 c1_i32_329 k0_t9
  let v875 : BitVec 32 := Scalar.muli c2_i32_563 arg12
  let c2_i32_564 : BitVec 32 := 2#32
  let v876 : BitVec 32 := Scalar.addi v875 c2_i32_564
  let v968 : BitVec 32 := Scalar.muli c4_i32_626 v876
  let c3_i32_627 : BitVec 32 := 3#32
  let v969 : BitVec 32 := Scalar.addi v968 c3_i32_627
  let c256_i32_628 : BitVec 32 := 256#32
  let v970 : BitVec 32 := Scalar.muli v969 c256_i32_628
  v970
def k0_mult94 (i : grid0.Coords) (k0_t9 : Fin (k0_t9_loop i).trips) : BitVec 32 :=
  let c2_i32_647 : BitVec 32 := 2#32
  let c0_i32_327 : BitVec 32 := 0#32
  let c1_i32_329 : BitVec 32 := 1#32
  let arg12 : BitVec 32 := Scf.iv c0_i32_327 c1_i32_329 k0_t9
  let v1001 : BitVec 32 := Scalar.muli c2_i32_647 arg12
  let c1_i32_648 : BitVec 32 := 1#32
  let v1002 : BitVec 32 := Scalar.addi v1001 c1_i32_648
  let c1024_i32_661 : BitVec 32 := 1024#32
  let v1026 : BitVec 32 := Scalar.muli v1002 c1024_i32_661
  v1026
def k0_off48 (i : grid0.Coords) (k0_t9 : Fin (k0_t9_loop i).trips) : Fin 2 → Nat :=
  let c2_i32_647 : BitVec 32 := 2#32
  let c0_i32_327 : BitVec 32 := 0#32
  let c1_i32_329 : BitVec 32 := 1#32
  let arg12 : BitVec 32 := Scf.iv c0_i32_327 c1_i32_329 k0_t9
  let v1001 : BitVec 32 := Scalar.muli c2_i32_647 arg12
  let c1_i32_648 : BitVec 32 := 1#32
  let v1002 : BitVec 32 := Scalar.addi v1001 c1_i32_648
  let c1024_i32_661 : BitVec 32 := 1024#32
  let v1026 : BitVec 32 := Scalar.muli v1002 c1024_i32_661
  let v1027 : BitVec 32 := v1026
  let v1028 : Index := Scalar.indexCast v1027
  let c128_662 : Index := 128#32
  ![v1028.toNat, 128]
@[reducible] def k0_t10_loop (i : grid0.Coords) : Scf.Loop 32 :=
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let v499 : BitVec 32 := Scalar.addi c0_i32_327 v498
  let c1_i32_330 : BitVec 32 := 1#32
  ⟨v502, v499, c1_i32_330⟩
def k0_mult95 (i : grid0.Coords) (k0_t10 : Fin (k0_t10_loop i).trips) : BitVec 32 :=
  let c4_i32_460 : BitVec 32 := 4#32
  let c2_i32_457 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v709 : BitVec 32 := Scalar.muli c2_i32_457 arg12
  let c1_i32_458 : BitVec 32 := 1#32
  let v710 : BitVec 32 := Scalar.addi v709 c1_i32_458
  let v712 : BitVec 32 := Scalar.muli c4_i32_460 v710
  let c0_i32_461 : BitVec 32 := 0#32
  let v713 : BitVec 32 := Scalar.addi v712 c0_i32_461
  let c256_i32_462 : BitVec 32 := 256#32
  let v714 : BitVec 32 := Scalar.muli v713 c256_i32_462
  v714
def k0_off49 (i : grid0.Coords) (k0_t10 : Fin (k0_t10_loop i).trips) (c1_i32_458 : BitVec 32) (c0_i32_461 : BitVec 32) : Fin 2 → Nat :=
  let c4_i32_460 : BitVec 32 := 4#32
  let c2_i32_457 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v709 : BitVec 32 := Scalar.muli c2_i32_457 arg12
  let v710 : BitVec 32 := Scalar.addi v709 c1_i32_458
  let v712 : BitVec 32 := Scalar.muli c4_i32_460 v710
  let v713 : BitVec 32 := Scalar.addi v712 c0_i32_461
  let c256_i32_462 : BitVec 32 := 256#32
  let v714 : BitVec 32 := Scalar.muli v713 c256_i32_462
  let v715 : BitVec 32 := v714
  let v716 : Index := Scalar.indexCast v715
  let c128_463 : Index := 128#32
  ![v716.toNat, 128]
def k0_off50 (i : grid0.Coords) (k0_t10 : Fin (k0_t10_loop i).trips) (c1_i32_458 : BitVec 32) (c0_i32_461 : BitVec 32) : Fin 4 → Nat :=
  let c3_i32_471 : BitVec 32 := 3#32
  let c0_i32_470 : BitVec 32 := 0#32
  let c2_i32_468 : BitVec 32 := 2#32
  let arg0 : BitVec 32 := BitVec.ofNat 32 (i 0).val
  let v722 : BitVec 32 := Scalar.muli c2_i32_468 arg0
  let c1_i32_469 : BitVec 32 := 1#32
  let v723 : BitVec 32 := Scalar.addi v722 c1_i32_469
  let c4_i32_460 : BitVec 32 := 4#32
  let c2_i32_457 : BitVec 32 := 2#32
  let c0_i32_327 : BitVec 32 := 0#32
  let c2_i32 : BitVec 32 := 2#32
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v709 : BitVec 32 := Scalar.muli c2_i32_457 arg12
  let v710 : BitVec 32 := Scalar.addi v709 c1_i32_458
  let v712 : BitVec 32 := Scalar.muli c4_i32_460 v710
  let v713 : BitVec 32 := Scalar.addi v712 c0_i32_461
  let v724 : BitVec 32 := Scalar.subi v723 v713
  let v725 : BitVec 32 := Scalar.maxsi c0_i32_470 v724
  let v726 : BitVec 32 := Scalar.minsi c3_i32_471 v725
  let v727 : Index := Scalar.indexCast v726
  let c1_472 : Index := 1#32
  let c0_473 : Index := 0#32
  let c0_474 : Index := 0#32
  ![v727.toNat, 1, 0, 0]
def k0_off51 (i : grid0.Coords) (k0_t10 : Fin (k0_t10_loop i).trips) (c1_i32_458 : BitVec 32) (c0_i32_461 : BitVec 32) : Fin 3 → Nat :=
  let c4_i32_460 : BitVec 32 := 4#32
  let c2_i32_457 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v709 : BitVec 32 := Scalar.muli c2_i32_457 arg12
  let v710 : BitVec 32 := Scalar.addi v709 c1_i32_458
  let v712 : BitVec 32 := Scalar.muli c4_i32_460 v710
  let v713 : BitVec 32 := Scalar.addi v712 c0_i32_461
  let v731 : Index := Scalar.indexCast v713
  let c0_475 : Index := 0#32
  let c0_476 : Index := 0#32
  ![v731.toNat, 0, 0]
def k0_mult96 (i : grid0.Coords) (k0_t10 : Fin (k0_t10_loop i).trips) : BitVec 32 :=
  let c4_i32_480 : BitVec 32 := 4#32
  let c2_i32_457 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v709 : BitVec 32 := Scalar.muli c2_i32_457 arg12
  let c1_i32_458 : BitVec 32 := 1#32
  let v710 : BitVec 32 := Scalar.addi v709 c1_i32_458
  let v742 : BitVec 32 := Scalar.muli c4_i32_480 v710
  let c1_i32_481 : BitVec 32 := 1#32
  let v743 : BitVec 32 := Scalar.addi v742 c1_i32_481
  let c256_i32_482 : BitVec 32 := 256#32
  let v744 : BitVec 32 := Scalar.muli v743 c256_i32_482
  v744
def k0_mult97 (i : grid0.Coords) (k0_t10 : Fin (k0_t10_loop i).trips) : BitVec 32 :=
  let c4_i32_500 : BitVec 32 := 4#32
  let c2_i32_457 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v709 : BitVec 32 := Scalar.muli c2_i32_457 arg12
  let c1_i32_458 : BitVec 32 := 1#32
  let v710 : BitVec 32 := Scalar.addi v709 c1_i32_458
  let v772 : BitVec 32 := Scalar.muli c4_i32_500 v710
  let c2_i32_501 : BitVec 32 := 2#32
  let v773 : BitVec 32 := Scalar.addi v772 c2_i32_501
  let c256_i32_502 : BitVec 32 := 256#32
  let v774 : BitVec 32 := Scalar.muli v773 c256_i32_502
  v774
def k0_mult98 (i : grid0.Coords) (k0_t10 : Fin (k0_t10_loop i).trips) : BitVec 32 :=
  let c4_i32_520 : BitVec 32 := 4#32
  let c2_i32_457 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v709 : BitVec 32 := Scalar.muli c2_i32_457 arg12
  let c1_i32_458 : BitVec 32 := 1#32
  let v710 : BitVec 32 := Scalar.addi v709 c1_i32_458
  let v802 : BitVec 32 := Scalar.muli c4_i32_520 v710
  let c3_i32_521 : BitVec 32 := 3#32
  let v803 : BitVec 32 := Scalar.addi v802 c3_i32_521
  let c256_i32_522 : BitVec 32 := 256#32
  let v804 : BitVec 32 := Scalar.muli v803 c256_i32_522
  v804
def k0_mult99 (i : grid0.Coords) (k0_t10 : Fin (k0_t10_loop i).trips) : BitVec 32 :=
  let c2_i32_541 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v835 : BitVec 32 := Scalar.muli c2_i32_541 arg12
  let c1024_i32_554 : BitVec 32 := 1024#32
  let v859 : BitVec 32 := Scalar.muli v835 c1024_i32_554
  v859
def k0_off52 (i : grid0.Coords) (k0_t10 : Fin (k0_t10_loop i).trips) : Fin 2 → Nat :=
  let c2_i32_541 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v835 : BitVec 32 := Scalar.muli c2_i32_541 arg12
  let c1024_i32_554 : BitVec 32 := 1024#32
  let v859 : BitVec 32 := Scalar.muli v835 c1024_i32_554
  let v860 : BitVec 32 := v859
  let v861 : Index := Scalar.indexCast v860
  let c128_555 : Index := 128#32
  ![v861.toNat, 128]
def k0_mult100 (i : grid0.Coords) (k0_t10 : Fin (k0_t10_loop i).trips) : BitVec 32 :=
  let c4_i32_566 : BitVec 32 := 4#32
  let c2_i32_563 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v875 : BitVec 32 := Scalar.muli c2_i32_563 arg12
  let c2_i32_564 : BitVec 32 := 2#32
  let v876 : BitVec 32 := Scalar.addi v875 c2_i32_564
  let v878 : BitVec 32 := Scalar.muli c4_i32_566 v876
  let c0_i32_567 : BitVec 32 := 0#32
  let v879 : BitVec 32 := Scalar.addi v878 c0_i32_567
  let c256_i32_568 : BitVec 32 := 256#32
  let v880 : BitVec 32 := Scalar.muli v879 c256_i32_568
  v880
def k0_mult101 (i : grid0.Coords) (k0_t10 : Fin (k0_t10_loop i).trips) : BitVec 32 :=
  let c4_i32_586 : BitVec 32 := 4#32
  let c2_i32_563 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v875 : BitVec 32 := Scalar.muli c2_i32_563 arg12
  let c2_i32_564 : BitVec 32 := 2#32
  let v876 : BitVec 32 := Scalar.addi v875 c2_i32_564
  let v908 : BitVec 32 := Scalar.muli c4_i32_586 v876
  let c1_i32_587 : BitVec 32 := 1#32
  let v909 : BitVec 32 := Scalar.addi v908 c1_i32_587
  let c256_i32_588 : BitVec 32 := 256#32
  let v910 : BitVec 32 := Scalar.muli v909 c256_i32_588
  v910
def k0_mult102 (i : grid0.Coords) (k0_t10 : Fin (k0_t10_loop i).trips) : BitVec 32 :=
  let c4_i32_606 : BitVec 32 := 4#32
  let c2_i32_563 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v875 : BitVec 32 := Scalar.muli c2_i32_563 arg12
  let c2_i32_564 : BitVec 32 := 2#32
  let v876 : BitVec 32 := Scalar.addi v875 c2_i32_564
  let v938 : BitVec 32 := Scalar.muli c4_i32_606 v876
  let c2_i32_607 : BitVec 32 := 2#32
  let v939 : BitVec 32 := Scalar.addi v938 c2_i32_607
  let c256_i32_608 : BitVec 32 := 256#32
  let v940 : BitVec 32 := Scalar.muli v939 c256_i32_608
  v940
def k0_mult103 (i : grid0.Coords) (k0_t10 : Fin (k0_t10_loop i).trips) : BitVec 32 :=
  let c4_i32_626 : BitVec 32 := 4#32
  let c2_i32_563 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v875 : BitVec 32 := Scalar.muli c2_i32_563 arg12
  let c2_i32_564 : BitVec 32 := 2#32
  let v876 : BitVec 32 := Scalar.addi v875 c2_i32_564
  let v968 : BitVec 32 := Scalar.muli c4_i32_626 v876
  let c3_i32_627 : BitVec 32 := 3#32
  let v969 : BitVec 32 := Scalar.addi v968 c3_i32_627
  let c256_i32_628 : BitVec 32 := 256#32
  let v970 : BitVec 32 := Scalar.muli v969 c256_i32_628
  v970
def k0_mult104 (i : grid0.Coords) (k0_t10 : Fin (k0_t10_loop i).trips) : BitVec 32 :=
  let c2_i32_647 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v1001 : BitVec 32 := Scalar.muli c2_i32_647 arg12
  let c1_i32_648 : BitVec 32 := 1#32
  let v1002 : BitVec 32 := Scalar.addi v1001 c1_i32_648
  let c1024_i32_661 : BitVec 32 := 1024#32
  let v1026 : BitVec 32 := Scalar.muli v1002 c1024_i32_661
  v1026
def k0_off53 (i : grid0.Coords) (k0_t10 : Fin (k0_t10_loop i).trips) : Fin 2 → Nat :=
  let c2_i32_647 : BitVec 32 := 2#32
  let c0_i32_327 : BitVec 32 := 0#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v498 : BitVec 32 := Scalar.subi v47 c0_i32_327
  let c1_i32_328 : BitVec 32 := 1#32
  let v500 : BitVec 32 := Scalar.divsi v498 c1_i32_328
  let v501 : BitVec 32 := Scalar.muli v500 c1_i32_328
  let v502 : BitVec 32 := Scalar.addi c0_i32_327 v501
  let c1_i32_330 : BitVec 32 := 1#32
  let arg12 : BitVec 32 := Scf.iv v502 c1_i32_330 k0_t10
  let v1001 : BitVec 32 := Scalar.muli c2_i32_647 arg12
  let c1_i32_648 : BitVec 32 := 1#32
  let v1002 : BitVec 32 := Scalar.addi v1001 c1_i32_648
  let c1024_i32_661 : BitVec 32 := 1024#32
  let v1026 : BitVec 32 := Scalar.muli v1002 c1024_i32_661
  let v1027 : BitVec 32 := v1026
  let v1028 : Index := Scalar.indexCast v1027
  let c128_662 : Index := 128#32
  ![v1028.toNat, 128]
def k0_mult105 (i : grid0.Coords) : BitVec 32 :=
  let c4_i32_333 : BitVec 32 := 4#32
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_331 : BitVec 32 := 1#32
  let v505 : BitVec 32 := Scalar.addi v48 c1_i32_331
  let v507 : BitVec 32 := Scalar.muli c4_i32_333 v505
  let c0_i32_334 : BitVec 32 := 0#32
  let v508 : BitVec 32 := Scalar.addi v507 c0_i32_334
  let c256_i32_335 : BitVec 32 := 256#32
  let v509 : BitVec 32 := Scalar.muli v508 c256_i32_335
  v509
def k0_off54 (i : grid0.Coords) (c0_i32_334 : BitVec 32) : Fin 2 → Nat :=
  let c4_i32_333 : BitVec 32 := 4#32
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_331 : BitVec 32 := 1#32
  let v505 : BitVec 32 := Scalar.addi v48 c1_i32_331
  let v507 : BitVec 32 := Scalar.muli c4_i32_333 v505
  let v508 : BitVec 32 := Scalar.addi v507 c0_i32_334
  let c256_i32_335 : BitVec 32 := 256#32
  let v509 : BitVec 32 := Scalar.muli v508 c256_i32_335
  let v510 : BitVec 32 := v509
  let v511 : Index := Scalar.indexCast v510
  let c128_336 : Index := 128#32
  ![v511.toNat, 128]
def k0_off55 (i : grid0.Coords) (c0_i32_334 : BitVec 32) : Fin 4 → Nat :=
  let c3_i32_344 : BitVec 32 := 3#32
  let c0_i32_343 : BitVec 32 := 0#32
  let c2_i32_341 : BitVec 32 := 2#32
  let arg0 : BitVec 32 := BitVec.ofNat 32 (i 0).val
  let v517 : BitVec 32 := Scalar.muli c2_i32_341 arg0
  let c1_i32_342 : BitVec 32 := 1#32
  let v518 : BitVec 32 := Scalar.addi v517 c1_i32_342
  let c4_i32_333 : BitVec 32 := 4#32
  let c2_i32_21 : BitVec 32 := 2#32
  let c2_i32 : BitVec 32 := 2#32
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_331 : BitVec 32 := 1#32
  let v505 : BitVec 32 := Scalar.addi v48 c1_i32_331
  let v507 : BitVec 32 := Scalar.muli c4_i32_333 v505
  let v508 : BitVec 32 := Scalar.addi v507 c0_i32_334
  let v519 : BitVec 32 := Scalar.subi v518 v508
  let v520 : BitVec 32 := Scalar.maxsi c0_i32_343 v519
  let v521 : BitVec 32 := Scalar.minsi c3_i32_344 v520
  let v522 : Index := Scalar.indexCast v521
  let c1_345 : Index := 1#32
  let c0_346 : Index := 0#32
  let c0_347 : Index := 0#32
  ![v522.toNat, 1, 0, 0]
def k0_mult106 (i : grid0.Coords) : BitVec 32 :=
  let c4_i32_353 : BitVec 32 := 4#32
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_331 : BitVec 32 := 1#32
  let v505 : BitVec 32 := Scalar.addi v48 c1_i32_331
  let v537 : BitVec 32 := Scalar.muli c4_i32_353 v505
  let c1_i32_354 : BitVec 32 := 1#32
  let v538 : BitVec 32 := Scalar.addi v537 c1_i32_354
  let c256_i32_355 : BitVec 32 := 256#32
  let v539 : BitVec 32 := Scalar.muli v538 c256_i32_355
  v539
def k0_mult107 (i : grid0.Coords) : BitVec 32 :=
  let c4_i32_373 : BitVec 32 := 4#32
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_331 : BitVec 32 := 1#32
  let v505 : BitVec 32 := Scalar.addi v48 c1_i32_331
  let v567 : BitVec 32 := Scalar.muli c4_i32_373 v505
  let c2_i32_374 : BitVec 32 := 2#32
  let v568 : BitVec 32 := Scalar.addi v567 c2_i32_374
  let c256_i32_375 : BitVec 32 := 256#32
  let v569 : BitVec 32 := Scalar.muli v568 c256_i32_375
  v569
def k0_mult108 (i : grid0.Coords) : BitVec 32 :=
  let c4_i32_393 : BitVec 32 := 4#32
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_331 : BitVec 32 := 1#32
  let v505 : BitVec 32 := Scalar.addi v48 c1_i32_331
  let v597 : BitVec 32 := Scalar.muli c4_i32_393 v505
  let c3_i32_394 : BitVec 32 := 3#32
  let v598 : BitVec 32 := Scalar.addi v597 c3_i32_394
  let c256_i32_395 : BitVec 32 := 256#32
  let v599 : BitVec 32 := Scalar.muli v598 c256_i32_395
  v599
def k0_mult109 (i : grid0.Coords) : BitVec 32 :=
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1024_i32_426 : BitVec 32 := 1024#32
  let v653 : BitVec 32 := Scalar.muli v48 c1024_i32_426
  v653
def k0_off56 (i : grid0.Coords) : Fin 2 → Nat :=
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1024_i32_426 : BitVec 32 := 1024#32
  let v653 : BitVec 32 := Scalar.muli v48 c1024_i32_426
  let v654 : BitVec 32 := v653
  let v655 : Index := Scalar.indexCast v654
  let c128_427 : Index := 128#32
  ![v655.toNat, 128]
def k0_mult110 (i : grid0.Coords) : BitVec 32 :=
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_435 : BitVec 32 := 1#32
  let v669 : BitVec 32 := Scalar.addi v48 c1_i32_435
  let c1024_i32_448 : BitVec 32 := 1024#32
  let v693 : BitVec 32 := Scalar.muli v669 c1024_i32_448
  v693
def k0_off57 (i : grid0.Coords) : Fin 2 → Nat :=
  let c2_i32_21 : BitVec 32 := 2#32
  let c2_i32 : BitVec 32 := 2#32
  let arg0 : BitVec 32 := BitVec.ofNat 32 (i 0).val
  let c1_i32 : BitVec 32 := 1#32
  let v0 : BitVec 32 := Scalar.addi arg0 c1_i32
  let v1 : BitVec 32 := Scalar.muli c2_i32 v0
  let c4_i32 : BitVec 32 := 4#32
  let v2 : BitVec 32 := Scalar.addi v1 c4_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_1 : BitVec 32 := 4#32
  let c0_i32_3 : BitVec 32 := 0#32
  let v10 : BitVec 1 := Scalar.cmpi .sgt c4_i32_1 c0_i32_3
  let v11 : BitVec 32 := Scalar.extui v10
  let c0_i32_4 : BitVec 32 := 0#32
  let v12 : BitVec 1 := Scalar.cmpi .slt c4_i32_1 c0_i32_4
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_5 : BitVec 32 := 0#32
  let v17 : BitVec 1 := Scalar.cmpi .ne v16 c0_i32_5
  let v18 : BitVec 1 := Scalar.andi v15 v17
  let v4 : BitVec 32 := Scalar.divsi v3 c4_i32_1
  let c1_i32_6 : BitVec 32 := 1#32
  let v19 : BitVec 32 := Scalar.subi v4 c1_i32_6
  let v20 : BitVec 32 := Scalar.select v18 v19 v4
  let c1_i32_13 : BitVec 32 := 1#32
  let v30 : BitVec 32 := Scalar.subi v20 c1_i32_13
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c2_i32_14 : BitVec 32 := 2#32
  let c0_i32_17 : BitVec 32 := 0#32
  let v37 : BitVec 1 := Scalar.cmpi .sgt c2_i32_14 c0_i32_17
  let v38 : BitVec 32 := Scalar.extui v37
  let c0_i32_18 : BitVec 32 := 0#32
  let v39 : BitVec 1 := Scalar.cmpi .slt c2_i32_14 c0_i32_18
  let v40 : BitVec 32 := Scalar.extui v39
  let v41 : BitVec 32 := Scalar.subi v38 v40
  let v42 : BitVec 1 := Scalar.cmpi .ne v36 v41
  let v43 : BitVec 32 := Scalar.remsi v30 c2_i32_14
  let c0_i32_19 : BitVec 32 := 0#32
  let v44 : BitVec 1 := Scalar.cmpi .ne v43 c0_i32_19
  let v45 : BitVec 1 := Scalar.andi v42 v44
  let v31 : BitVec 32 := Scalar.divsi v30 c2_i32_14
  let c1_i32_20 : BitVec 32 := 1#32
  let v46 : BitVec 32 := Scalar.subi v31 c1_i32_20
  let v47 : BitVec 32 := Scalar.select v45 v46 v31
  let v48 : BitVec 32 := Scalar.muli c2_i32_21 v47
  let c1_i32_435 : BitVec 32 := 1#32
  let v669 : BitVec 32 := Scalar.addi v48 c1_i32_435
  let c1024_i32_448 : BitVec 32 := 1024#32
  let v693 : BitVec 32 := Scalar.muli v669 c1024_i32_448
  let v694 : BitVec 32 := v693
  let v695 : Index := Scalar.indexCast v694
  let c128_449 : Index := 128#32
  ![v695.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x2x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttentionIdeal.lean ====
variable {F : FTy → Type} [FloatOps F] [Named F]
def κ : String → Option EReal := fun
  | "mask" => some ⊥
  | _ => none
-- ==== AttentionRefIdeal.lean ====
abbrev S8192x4096 : Shape := ⟨2, ![8192, 4096]⟩
abbrev S8192x256 : Shape := ⟨2, ![8192, 256]⟩
abbrev S4x8x512x256 : Shape := ⟨4, ![4, 8, 512, 256]⟩
abbrev S8192x1024 : Shape := ⟨2, ![8192, 1024]⟩
abbrev S16x512x8x128 : Shape := ⟨4, ![16, 512, 8, 128]⟩
abbrev S32x256x8x128 : Shape := ⟨4, ![32, 256, 8, 128]⟩
abbrev S8192x8x128 : Shape := ⟨3, ![8192, 8, 128]⟩
abbrev S16 : Shape := ⟨1, ![16]⟩
abbrev S16x1 : Shape := ⟨2, ![16, 1]⟩
abbrev S32 : Shape := ⟨1, ![32]⟩
abbrev S1x32 : Shape := ⟨2, ![1, 32]⟩
abbrev S8x16x512x32x256 : Shape := ⟨5, ![8, 16, 512, 32, 256]⟩
abbrev S_ : Shape := ⟨0, ![]⟩
abbrev S16x32 : Shape := ⟨2, ![16, 32]⟩
abbrev S16x32x1 : Shape := ⟨3, ![16, 32, 1]⟩
abbrev S16x32x8x512x256 : Shape := ⟨5, ![16, 32, 8, 512, 256]⟩
abbrev S16x512x1x256 : Shape := ⟨4, ![16, 512, 1, 256]⟩
abbrev S1x1x32x1 : Shape := ⟨4, ![1, 1, 32, 1]⟩
abbrev S16x512x32x256 : Shape := ⟨4, ![16, 512, 32, 256]⟩
abbrev S16x1x32x1 : Shape := ⟨4, ![16, 1, 32, 1]⟩
abbrev S8x16x512x8192 : Shape := ⟨4, ![8, 16, 512, 8192]⟩
abbrev S8x16x512 : Shape := ⟨3, ![8, 16, 512]⟩
abbrev S8x16x512x1 : Shape := ⟨4, ![8, 16, 512, 1]⟩
abbrev S8x16x512x128 : Shape := ⟨4, ![8, 16, 512, 128]⟩

abbrev nBuf : Space → Nat
  | .hbm => 89
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x256, .i32⟩
  | .hbm, ⟨2, _⟩ => ⟨S4x8x512x256, .f32⟩
  | .hbm, ⟨3, _⟩ => ⟨S8192x1024, .bf16⟩
  | .hbm, ⟨4, _⟩ => ⟨S16x512x8x128, .bf16⟩
  | .hbm, ⟨5, _⟩ => ⟨S8192x1024, .bf16⟩
  | .hbm, ⟨6, _⟩ => ⟨S32x256x8x128, .bf16⟩
  | .hbm, ⟨7, _⟩ => ⟨S8192x1024, .bf16⟩
  | .hbm, ⟨8, _⟩ => ⟨S8192x8x128, .bf16⟩
  | .hbm, ⟨9, _⟩ => ⟨S16, .i32⟩
  | .hbm, ⟨10, _⟩ => ⟨S16x1, .i32⟩
  | .hbm, ⟨11, _⟩ => ⟨S32, .i32⟩
  | .hbm, ⟨12, _⟩ => ⟨S1x32, .i32⟩
  | .hbm, ⟨13, _⟩ => ⟨S8x16x512x32x256, .f32⟩
  | .hbm, ⟨14, _⟩ => ⟨S_, .f32⟩
  | .hbm, ⟨15, _⟩ => ⟨S8x16x512x32x256, .f32⟩
  | .hbm, ⟨16, _⟩ => ⟨S8x16x512x32x256, .f32⟩
  | .hbm, ⟨17, _⟩ => ⟨S_, .i32⟩
  | .hbm, ⟨18, _⟩ => ⟨S16x1, .i32⟩
  | .hbm, ⟨19, _⟩ => ⟨S16x1, .i32⟩
  | .hbm, ⟨20, _⟩ => ⟨S_, .i32⟩
  | .hbm, ⟨21, _⟩ => ⟨S16x1, .i32⟩
  | .hbm, ⟨22, _⟩ => ⟨S16x1, .i32⟩
  | .hbm, ⟨23, _⟩ => ⟨S16x32, .i32⟩
  | .hbm, ⟨24, _⟩ => ⟨S16x32, .i32⟩
  | .hbm, ⟨25, _⟩ => ⟨S16x32, .i32⟩
  | .hbm, ⟨26, _⟩ => ⟨S_, .i32⟩
  | .hbm, ⟨27, _⟩ => ⟨S16x32, .i32⟩
  | .hbm, ⟨28, _⟩ => ⟨S16x32, .i32⟩
  | .hbm, ⟨29, _⟩ => ⟨S_, .i32⟩
  | .hbm, ⟨30, _⟩ => ⟨S16x32, .i32⟩
  | .hbm, ⟨31, _⟩ => ⟨S16x32, .i32⟩
  | .hbm, ⟨32, _⟩ => ⟨S_, .i32⟩
  | .hbm, ⟨33, _⟩ => ⟨S16x32, .i32⟩
  | .hbm, ⟨34, _⟩ => ⟨S16x32, .i1⟩
  | .hbm, ⟨35, _⟩ => ⟨S_, .i32⟩
  | .hbm, ⟨36, _⟩ => ⟨S16x32, .i32⟩
  | .hbm, ⟨37, _⟩ => ⟨S16x32, .i32⟩
  | .hbm, ⟨38, _⟩ => ⟨S16x32, .i32⟩
  | .hbm, ⟨39, _⟩ => ⟨S16x32x1, .i32⟩
  | .hbm, ⟨40, _⟩ => ⟨S16x32x8x512x256, .f32⟩
  | .hbm, ⟨41, _⟩ => ⟨S8x16x512x32x256, .f32⟩
  | .hbm, ⟨42, _⟩ => ⟨S16x512x1x256, .i32⟩
  | .hbm, ⟨43, _⟩ => ⟨S1x1x32x1, .i32⟩
  | .hbm, ⟨44, _⟩ => ⟨S_, .i32⟩
  | .hbm, ⟨45, _⟩ => ⟨S1x1x32x1, .i32⟩
  | .hbm, ⟨46, _⟩ => ⟨S1x1x32x1, .i32⟩
  | .hbm, ⟨47, _⟩ => ⟨S16x512x32x256, .i32⟩
  | .hbm, ⟨48, _⟩ => ⟨S16x512x32x256, .i32⟩
  | .hbm, ⟨49, _⟩ => ⟨S16x512x32x256, .i32⟩
  | .hbm, ⟨50, _⟩ => ⟨S_, .i32⟩
  | .hbm, ⟨51, _⟩ => ⟨S16x512x32x256, .i32⟩
  | .hbm, ⟨52, _⟩ => ⟨S16x512x32x256, .i1⟩
  | .hbm, ⟨53, _⟩ => ⟨S_, .i32⟩
  | .hbm, ⟨54, _⟩ => ⟨S1x32, .i32⟩
  | .hbm, ⟨55, _⟩ => ⟨S1x32, .i32⟩
  | .hbm, ⟨56, _⟩ => ⟨S_, .i32⟩
  | .hbm, ⟨57, _⟩ => ⟨S16x1, .i32⟩
  | .hbm, ⟨58, _⟩ => ⟨S16x1, .i32⟩
  | .hbm, ⟨59, _⟩ => ⟨S16x32, .i32⟩
  | .hbm, ⟨60, _⟩ => ⟨S16x32, .i32⟩
  | .hbm, ⟨61, _⟩ => ⟨S16x32, .i1⟩
  | .hbm, ⟨62, _⟩ => ⟨S16x1x32x1, .i1⟩
  | .hbm, ⟨63, _⟩ => ⟨S16x512x32x256, .i1⟩
  | .hbm, ⟨64, _⟩ => ⟨S16x512x32x256, .i1⟩
  | .hbm, ⟨65, _⟩ => ⟨S8x16x512x32x256, .f32⟩
  | .hbm, ⟨66, _⟩ => ⟨S_, .f32⟩
  | .hbm, ⟨67, _⟩ => ⟨S_, .f32⟩
  | .hbm, ⟨68, _⟩ => ⟨S8x16x512x32x256, .i1⟩
  | .hbm, ⟨69, _⟩ => ⟨S8x16x512x32x256, .f32⟩
  | .hbm, ⟨70, _⟩ => ⟨S8x16x512x32x256, .f32⟩
  | .hbm, ⟨71, _⟩ => ⟨S8x16x512x8192, .f32⟩
  | .hbm, ⟨72, _⟩ => ⟨S_, .f32⟩
  | .hbm, ⟨73, _⟩ => ⟨S8x16x512x8192, .f32⟩
  | .hbm, ⟨74, _⟩ => ⟨S_, .f32⟩
  | .hbm, ⟨75, _⟩ => ⟨S8x16x512, .f32⟩
  | .hbm, ⟨76, _⟩ => ⟨S8x16x512x1, .f32⟩
  | .hbm, ⟨77, _⟩ => ⟨S8x16x512x8192, .f32⟩
  | .hbm, ⟨78, _⟩ => ⟨S8x16x512x8192, .f32⟩
  | .hbm, ⟨79, _⟩ => ⟨S8x16x512x8192, .f32⟩
  | .hbm, ⟨80, _⟩ => ⟨S8x16x512x8192, .bf16⟩
  | .hbm, ⟨81, _⟩ => ⟨S8x16x512x128, .f32⟩
  | .hbm, ⟨82, _⟩ => ⟨S_, .f32⟩
  | .hbm, ⟨83, _⟩ => ⟨S8x16x512, .f32⟩
  | .hbm, ⟨84, _⟩ => ⟨S8x16x512x1, .f32⟩
  | .hbm, ⟨85, _⟩ => ⟨S8x16x512x128, .f32⟩
  | .hbm, ⟨86, _⟩ => ⟨S8x16x512x128, .f32⟩
  | .hbm, ⟨87, _⟩ => ⟨S16x512x8x128, .f32⟩
  | .hbm, ⟨88, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_6 : Ref sig .tc := ⟨.hbm, 50, rfl⟩
abbrev main_v39 : Ref sig .tc := ⟨.hbm, 51, rfl⟩
abbrev main_v40 : Ref sig .tc := ⟨.hbm, 52, rfl⟩
abbrev main_c_7 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Proof.Lru.Block.lean ====
module

public import proofs.«01_k».proof.Proof.Gen.KernelIdeal.Value
public import Idealize.ShloMosaic.Lib.Tactic

@[expose] public section

set_option maxRecDepth 16384

noncomputable section

open Idealize.ShloMosaic Idealize.ShloMosaic.TcCoe Idealize.SL.Sem

namespace Cert.KernelIdeal.Lru

open Cert.KernelIdeal Cert.KernelIdeal.Gen

variable {F : FTy → Type} [FloatOps F]

/-! ## The intermediate values of one point, each over the blocks it reads -/

/-- The convolved rows of a point: `x1` its block, `s1` the eight rows before it, `x5` the taps, `x6` the bias. -/
def conv (x1 : Vec F S256x512 .f32) (x5 : Vec F S4x512 .f32) (x6 : Vec F S1x512 .f32) (s1 : Vec F S8x512 .f32) : Vec F S256x512 .f32 :=
  k0_pay24 (k0_pay20 x1 s1) (k0_pay22 x6) (View.ld x5 (Rect.unit (s := S4x512) ![0, 0] S1x512.size inb_S4x512_S1x512_0_0)) (k0_pay23 x1 s1) (View.ld x5 (Rect.unit (s := S4x512) ![1, 0] S1x512.size inb_S4x512_S1x512_1_0)) (View.ld x5 (Rect.unit (s := S4x512) ![2, 0] S1x512.size inb_S4x512_S1x512_2_0)) (View.ld x5 (Rect.unit (s := S4x512) ![3, 0] S1x512.size inb_S4x512_S1x512_3_0))

/-- The recurrence gate's rows: the convolved rows through the four group products, the bias, the logistic function. -/
def rgate (x1 : Vec F S256x512 .f32) (x5 : Vec F S4x512 .f32) (x6 : Vec F S1x512 .f32) (x7 : Vec F S4x128x128 .bf16) (x8 : Vec F S1x512 .f32) (s1 : Vec F S8x512 .f32) : Vec F S256x512 .f32 :=
  k0_pay30 (k0_pay25 (k0_pay20 x1 s1) (k0_pay22 x6) (View.ld x5 (Rect.unit (s := S4x512) ![0, 0] S1x512.size inb_S4x512_S1x512_0_0)) (k0_pay23 x1 s1) (View.ld x5 (Rect.unit (s := S4x512) ![1, 0] S1x512.size inb_S4x512_S1x512_1_0)) (View.ld x5 (Rect.unit (s := S4x512) ![2, 0] S1x512.size inb_S4x512_S1x512_2_0)) (View.ld x5 (Rect.unit (s := S4x512) ![3, 0] S1x512.size inb_S4x512_S1x512_3_0)) (View.ld x7 (Rect.unit (s := S4x128x128) ![0, 0, 0] S1x128x128.size inb_S4x128x128_S1x128x128_0_0_0))) (k0_pay26 (k0_pay20 x1 s1) (k0_pay22 x6) (View.ld x5 (Rect.unit (s := S4x512) ![0, 0] S1x512.size inb_S4x512_S1x512_0_0)) (k0_pay23 x1 s1) (View.ld x5 (Rect.unit (s := S4x512) ![1, 0] S1x512.size inb_S4x512_S1x512_1_0)) (View.ld x5 (Rect.unit (s := S4x512) ![2, 0] S1x512.size inb_S4x512_S1x512_2_0)) (View.ld x5 (Rect.unit (s := S4x512) ![3, 0] S1x512.size inb_S4x512_S1x512_3_0)) (View.ld x7 (Rect.unit (s := S4x128x128) ![1, 0, 0] S1x128x128.size inb_S4x128x128_S1x128x128_1_0_0))) (k0_pay27 (k0_pay20 x1 s1) (k0_pay22 x6) (View.ld x5 (Rect.unit (s := S4x512) ![0, 0] S1x512.size inb_S4x512_S1x512_0_0)) (k0_pay23 x1 s1) (View.ld x5 (Rect.unit (s := S4x512) ![1, 0] S1x512.size inb_S4x512_S1x512_1_0)) (View.ld x5 (Rect.unit (s := S4x512) ![2, 0] S1x512.size inb_S4x512_S1x512_2_0)) (View.ld x5 (Rect.unit (s := S4x512) ![3, 0] S1x512.size inb_S4x512_S1x512_3_0)) (View.ld x7 (Rect.unit (s := S4x128x128) ![2, 0, 0] S1x128x128.size inb_S4x128x128_S1x128x128_2_0_0))) (k0_pay28 (k0_pay20 x1 s1) (k0_pay22 x6) (View.ld x5 (Rect.unit (s := S4x512) ![0, 0] S1x512.size inb_S4x512_S1x512_0_0)) (k0_pay23 x1 s1) (View.ld x5 (Rect.unit (s := S4x512) ![1, 0] S1x512.size inb_S4x512_S1x512_1_0)) (View.ld x5 (Rect.unit (s := S4x512) ![2, 0] S1x512.size inb_S4x512_S1x512_2_0)) (View.ld x5 (Rect.unit (s := S4x512) ![3, 0] S1x512.size inb_S4x512_S1x512_3_0))) (k0_pay29 (View.ld x7 (Rect.unit (s := S4x128x128) ![3, 0, 0] S1x128x128.size inb_S4x128x128_S1x128x128_3_0_0))) (constant S256x128 .f32 0x00000000#32) x8

/-- The input gate's rows, from the convolved rows `v`. -/
def igate (v : Vec F S256x512 .f32) (x9 : Vec F S4x128x128 .bf16) (x10 : Vec F S1x512 .f32) : Vec F S256x512 .f32 :=
  k0_pay31 v (View.ld x9 (Rect.unit (s := S4x128x128) ![0, 0, 0] S1x128x128.size inb_S4x128x128_S1x128x128_0_0_0)) (View.ld x9 (Rect.unit (s := S4x128x128) ![1, 0, 0] S1x128x128.size inb_S4x128x128_S1x128x128_1_0_0)) (View.ld x9 (Rect.unit (s := S4x128x128) ![2, 0, 0] S1x128x128.size inb_S4x128x128_S1x128x128_2_0_0)) (View.ld x9 (Rect.unit (s := S4x128x128) ![3, 0, 0] S1x128x128.size inb_S4x128x128_S1x128x128_3_0_0)) x10

/-- The running products within each group of eight rows, of the recurrence gate's rows `r` and the row `z`. -/
def prodA (r : Vec F S256x512 .f32) (z : Vec F S1x512 .f32) : Vec F S32x8x512 .f32 :=
  k0_pay42 (iota .tc S32x8x512 32 [1] iota_S32x8x512_d1_w32) (k0_pay37 r z) (k0_pay38 r z)

/-- The local recurrence within each group of eight rows, of the convolved rows `v` and the two gates. -/
def scanB (v r i : Vec F S256x512 .f32) (z : Vec F S1x512 .f32) : Vec F S32x8x512 .f32 :=
  k0_pay41 (iota .tc S32x8x512 32 [1] iota_S32x8x512_d1_w32) (k0_pay36 v r i z) (k0_pay37 r z) (k0_pay38 r z) k0_pay39

/-! ## The thirty-two groups of eight rows, each over the row carried into it -/

section Rows
variable (v r i : Vec F S256x512 .f32) (z s2 : Vec F S1x512 .f32)
def row0 : Vec F S8x512 .f32 := k0_pay43 (iota .tc S32x8x512 32 [1] iota_S32x8x512_d1_w32) (k0_pay36 v r i z) (k0_pay37 r z) (k0_pay38 r z) k0_pay39 s2
def row1 : Vec F S8x512 .f32 := k0_pay44 (iota .tc S32x8x512 32 [1] iota_S32x8x512_d1_w32) (k0_pay36 v r i z) (k0_pay37 r z) (k0_pay38 r z) k0_pay39 s2
def row2 : Vec F S8x512 .f32 := k0_pay45 (iota .tc S32x8x512 32 [1] iota_S32x8x512_d1_w32) (k0_pay36 v r i z) (k0_pay37 r z) (k0_pay38 r z) k0_pay39 s2
def row3 : Vec F S8x512 .f32 := k0_pay48 (k0_pay46 (iota .tc S32x8x512 32 [1] iota_S32x8x512_d1_w32) (k0_pay36 v r i z) (k0_pay37 r z) (k0_pay38 r z) k0_pay39 s2) (k0_pay47 (iota .tc S32x8x512 32 [1] iota_S32x8x512_d1_w32) (k0_pay36 v r i z) (k0_pay37 r z) (k0_pay38 r z) k0_pay39)
def row4 : Vec F S8x512 .f32 := k0_pay49 (scanB v r i z) (prodA r z) (k0_pay46 (iota .tc S32x8x512 32 [1] iota_S32x8x512_d1_w32) (k0_pay36 v r i z) (k0_pay37 r z) (k0_pay38 r z) k0_pay39 s2) (k0_pay47 (iota .tc S32x8x512 32 [1] iota_S32x8x512_d1_w32) (k0_pay36 v r i z) (k0_pay37 r z) (k0_pay38 r z) k0_pay39)
def row5 : Vec F S8x512 .f32 := k0_pay50 (scanB v r i z) (prodA r z) (k0_pay46 (iota .tc S32x8x512 32 [1] iota_S32x8x512_d1_w32) (k0_pay36 v r i z) (k0_pay37 r z) (k0_pay38 r z) k0_pay39 s2) (k0_pay47 (iota .tc S32x8x512 32 [1] iota_S32x8x512_d1_w32) (k0_pay36 v r i z) (k0_pay37 r z) (k0_pay38 r z) k0_pay39)
def row6 : Vec F S8x512 .f32 := k0_pay51 (scanB v r i z) (prodA r z) (k0_pay46 (iota .tc S32x8x512 32 [1] iota_S32x8x512_d1_w32) (k0_pay36 v r i z) (k0_pay37 r z) (k0_pay38 r z) k0_pay39 s2) (k0_pay47 (iota .tc S32x8x512 32 [1] iota_S32x8x512_d1_w32) (k0_pay36 v r i z) (k0_pay37 r z) (k0_pay38 r z) k0_pay39)
def row7 : Vec F S8x512 .f32 := k0_pay52 (scanB v r i z) (prodA r z) (k0_pay46 (iota .tc S32x8x512 32 [1] iota_S32x8x512_d1_w32) (k0_pay36 v r i z) (k0_pay37 r z) (k0_pay38 r z) k0_pay39 s2) (k0_pay47 (iota .tc S32x8x512 32 [1] iota_S32x8x512_d1_w32) (k0_pay36 v r i z) (k0_pay37 r z) (k0_pay38 r z) k0_pay39)
def row8 : Vec F S8x512 .f32 := k0_pay53 (scanB v r i z) (prodA r z) (k0_pay46 (iota .tc S32x8x512 32 [1] iota_S32x8x512_d1_w32) (k0_pay36 v r i z) (k0_pay37 r z) (k0_pay38 r z) k0_pay39 s2) (k0_pay47 (iota .tc S32x8x512 32 [1] iota_S32x8x512_d1_w32) (k0_pay36 v r i z) (k0_pay37 r z) (k0_pay38 r z) k0_pay39)
def row9 : Vec F S8x512 .f32 := k0_pay54 (scanB v r i z) (prodA r z) (k0_pay46 (iota .tc S32x8x512 32 [1] iota_S32x8x512_d1_w32) (k0_pay36 v r i z) (k0_pay37 r z) (k0_pay38 r z) k0_pay39 s2) (k0_pay47 (iota .tc S32x8x512 32 [1] iota_S32x8x512_d1_w32) (k0_pay36 v r i z) (k0_pay37 r z) (k0_pay38 r z) k0_pay39)
def row10 : Vec F S8x512 .f32 := k0_pay55 (scanB v r i z) (prodA r z) (k0_pay46 (iota .tc S32x8x512 32 [1] iota_S32x8x512_d1_w32) (k0_pay36 v r i z) (k0_pay37 r z) (k0_pay38 r z) k0_pay39 s2) (k0_pay47 (iota .tc S32x8x512 32 [1] iota_S32x8x512_d1_w32) (k0_pay36 v r i z) (k0_pay37 r z) (k0_pay38 r z) k0_pay39)
/-- The row carried into group 11. -/
def carry11 : Vec F S1x512 .f32 := k0_pay56 (scanB v r i z) (prodA r z) (k0_pay46 (iota .tc S32x8x512 32 [1] iota_S32x8x512_d1_w32) (k0_pay36 v r i z) (k0_pay37 r z) (k0_pay38 r z) k0_pay39 s2) (k0_pay47 (iota .tc S32x8x512 32 [1] iota_S32x8x512_d1_w32) (k0_pay36 v r i z) (k0_pay37 r z) (k0_pay38 r z) k0_pay39)
def row11 : Vec F S8x512 .f32 := k0_pay58 (scanB v r i z) (carry11 v r i z s2) (k0_pay57 (prodA r z))
def row12 : Vec F S8x512 .f32 := k0_pay59 (scanB v r i z) (prodA r z) (carry11 v r i z s2) (k0_pay57 (prodA r z))
def row13 : Vec F S8x512 .f32 := k0_pay60 (scanB v r i z) (prodA r z) (carry11 v r i z s2) (k0_pay57 (prodA r z))
def row14 : Vec F S8x512 .f32 := k0_pay61 (scanB v r i z) (prodA r z) (carry11 v r i z s2) (k0_pay57 (prodA r z))
def row15 : Vec F S8x512 .f32 := k0_pay62 (scanB v r i z) (prodA r z) (carry11 v r i z s2) (k0_pay57 (prodA r z))
def row16 : Vec F S8x512 .f32 := k0_pay63 (scanB v r i z) (prodA r z) (carry11 v r i z s2) (k0_pay57 (prodA r z))
def row17 : Vec F S8x512 .f32 := k0_pay64 (scanB v r i z) (prodA r z) (carry11 v r i z s2) (k0_pay57 (prodA r z))
def row18 : Vec F S8x512 .f32 := k0_pay67 (k0_pay65 (scanB v r i z) (prodA r z) (carry11 v r i z s2) (k0_pay57 (prodA r z))) (k0_pay66 (scanB v r i z))
def row19 : Vec F S8x512 .f32 := k0_pay68 (scanB v r i z) (prodA r z) (k0_pay65 (scanB v r i z) (prodA r z) (carry11 v r i z s2) (k0_pay57 (prodA r z))) (k0_pay66 (scanB v r i z))
def row20 : Vec F S8x512 .f32 := k0_pay69 (scanB v r i z) (prodA r z) (k0_pay65 (scanB v r i z) (prodA r z) (carry11 v r i z s2) (k0_pay57 (prodA r z))) (k0_pay66 (scanB v r i z))
def row21 : Vec F S8x512 .f32 := k0_pay70 (scanB v r i z) (prodA r z) (k0_pay65 (scanB v r i z) (prodA r z) (carry11 v r i z s2) (k0_pay57 (prodA r z))) (k0_pay66 (scanB v r i z))
def row22 : Vec F S8x512 .f32 := k0_pay71 (scanB v r i z) (prodA r z) (k0_pay65 (scanB v r i z) (prodA r z) (carry11 v r i z s2) (k0_pay57 (prodA r z))) (k0_pay66 (scanB v r i z))
def row23 : Vec F S8x512 .f32 := k0_pay72 (scanB v r i z) (prodA r z) (k0_pay65 (scanB v r i z) (prodA r z) (carry11 v r i z s2) (k0_pay57 (prodA r z))) (k0_pay66 (scanB v r i z))
def row24 : Vec F S8x512 .f32 := k0_pay73 (scanB v r i z) (prodA r z) (k0_pay65 (scanB v r i z) (prodA r z) (carry11 v r i z s2) (k0_pay57 (prodA r z))) (k0_pay66 (scanB v r i z))
def row25 : Vec F S8x512 .f32 := k0_pay74 (scanB v r i z) (prodA r z) (k0_pay65 (scanB v r i z) (prodA r z) (carry11 v r i z s2) (k0_pay57 (prodA r z))) (k0_pay66 (scanB v r i z))
/-- The row carried into group 26. -/
def carry26 : Vec F S1x512 .f32 := k0_pay75 (scanB v r i z) (prodA r z) (k0_pay65 (scanB v r i z) (prodA r z) (carry11 v r i z s2) (k0_pay57 (prodA r z))) (k0_pay66 (scanB v r i z))
def row26 : Vec F S8x512 .f32 := k0_pay77 (scanB v r i z) (carry26 v r i z s2) (k0_pay76 (prodA r z))
def row27 : Vec F S8x512 .f32 := k0_pay78 (scanB v r i z) (prodA r z) (carry26 v r i z s2) (k0_pay76 (prodA r z))
def row28 : Vec F S8x512 .f32 := k0_pay79 (scanB v r i z) (prodA r z) (carry26 v r i z s2) (k0_pay76 (prodA r z))
def row29 : Vec F S8x512 .f32 := k0_pay80 (scanB v r i z) (prodA r z) (carry26 v r i z s2) (k0_pay76 (prodA r z))
def row30 : Vec F S8x512 .f32 := k0_pay81 (scanB v r i z) (prodA r z) (carry26 v r i z s2) (k0_pay76 (prodA r z))
def row31 : Vec F S8x512 .f32 := k0_pay82 (scanB v r i z) (prodA r z) (carry26 v r i z s2) (k0_pay76 (prodA r z))

/-- The state's rows of a point, the thirty-two groups one under the other. -/
def hrows : Vec F S256x512 .f32 := k0_pay83 (scanB v r i z) (prodA r z) (row0 v r i z s2) (row1 v r i z s2) (row2 v r i z s2) (row3 v r i z s2) (row4 v r i z s2) (row5 v r i z s2) (row6 v r i z s2) (row7 v r i z s2) (row8 v r i z s2) (row9 v r i z s2) (row10 v r i z s2) (row11 v r i z s2) (row12 v r i z s2) (row13 v r i z s2) (row14 v r i z s2) (row15 v r i z s2) (row16 v r i z s2) (row17 v r i z s2) (row18 v r i z s2) (row19 v r i z s2) (row20 v r i z s2) (row21 v r i z s2) (row22 v r i z s2) (row23 v r i z s2) (row24 v r i z s2) (row25 v r i z s2) (carry26 v r i z s2) (k0_pay76 (prodA r z))

/-- The state's last row, carried to the next point. -/
def hlast : Vec F S1x512 .f32 := k0_pay84 (scanB v r i z) (prodA r z) (carry26 v r i z s2) (k0_pay76 (prodA r z))

end Rows

/-- The pooled block of a point, stored by four groups of 128 columns (the last store first): `x0` the point's block, `x3` the group
    matrices, `x4` the scale, `s0` the sixteen rows before. -/
def pooled (i : grid0.Coords) (x0 : Vec F S256x512 .f32) (x3 : Vec F S4x128x128 .bf16) (x4 : Vec F S1x512 .f32) (s0 : Vec F S16x512 .f32) : Vec F S256x512 .f32 :=
  View.canon (Val := Elt F) (s := S256x512) (e := .f32)
    [⟨Rect.unit (s := S256x512) ![0, 384] S256x128.size inb_S256x512_S256x128_0_384, k0_pay19 (k0_pay5 i) x0 (k0_pay12 x0 s0) (View.ld x3 (Rect.unit (s := S4x128x128) ![3, 0, 0] S1x128x128.size inb_S4x128x128_S1x128x128_3_0_0)) (View.ld x4 (Rect.unit (s := S1x512) ![0, 384] S1x128.size inb_S1x512_S1x128_0_384))⟩,
     ⟨Rect.unit (s := S256x512) ![0, 256] S256x128.size inb_S256x512_S256x128_0_256, k0_pay18 (k0_pay17 (k0_pay5 i) x0 (k0_pay11 x0 s0) (View.ld x3 (Rect.unit (s := S4x128x128) ![2, 0, 0] S1x128x128.size inb_S4x128x128_S1x128x128_2_0_0))) (View.ld x4 (Rect.unit (s := S1x512) ![0, 256] S1x128.size inb_S1x512_S1x128_0_256))⟩,
     ⟨Rect.unit (s := S256x512) ![0, 128] S256x128.size inb_S256x512_S256x128_0_128, k0_pay16 (k0_pay5 i) x0 (k0_pay10 x0 s0) (View.ld x3 (Rect.unit (s := S4x128x128) ![1, 0, 0] S1x128x128.size inb_S4x128x128_S1x128x128_1_0_0)) (View.ld x4 (Rect.unit (s := S1x512) ![0, 128] S1x128.size inb_S1x512_S1x128_0_128))⟩,
     ⟨Rect.unit (s := S256x512) ![0, 0] S256x128.size inb_S256x512_S256x128_0_0, k0_pay15 (k0_pay13 i x0 s0) (k0_pay14 (View.ld x3 (Rect.unit (s := S4x128x128) ![0, 0, 0] S1x128x128.size inb_S4x128x128_S1x128x128_0_0_0))) (constant S256x128 .f32 0x00000000#32) (View.ld x4 (Rect.unit (s := S1x512) ![0, 0] S1x128.size inb_S1x512_S1x128_0_0))⟩]

end Cert.KernelIdeal.Lru

end
-- ==== Proof.Lru.Pieces.lean ====
module

public import proofs.«01_k».proof.Proof.Lru.Block

@[expose] public section

set_option maxRecDepth 16384

noncomputable section

open Idealize.ShloMosaic Idealize.ShloMosaic.TcCoe Idealize.SL.Sem

namespace Cert.KernelIdeal.Lru

open Cert.KernelIdeal Cert.KernelIdeal.Gen

variable {F : FTy → Type} [FloatOps F]

/-- The zero offset of a whole two-dimensional block. -/
theorem hz2 : (![0, 0] : Fin 2 → Nat) = fun _ => 0 := by
  funext k; fin_cases k <;> rfl

/-! ## What a point leaves in each of its blocks, at the first point (`_A`) and after it (`_B`) -/

theorem out0_A_13_eq (c : Dev nD) (i a1 h1 a2 h2 a3 h3 a4 h4 a5 h5 a6 h6 a7 h7 a8 h8 a9 h9 a10 h10 a11 h11 a12 h12 a13 h13 a14 h14 a15 h15 a16 h16 a17 h17 hc) (x0 x1 x2 x3 x4 x5 x6 x7 x8 x9 x10 x11) :
    out0_A_13 (F := F) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = k0_pay1 (hrows (conv x1 x5 x6 k0_pay3) (rgate x1 x5 x6 x7 x8 k0_pay3) (igate (conv x1 x5 x6 k0_pay3) x9 x10) (k0_pay32 x11) k0_pay4) x2 (k0_pay85 x2) (FloatOps.ofBits .f32 0x3D372713#32) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.readCov_unit_zero (S := S16x512) _ hz2, View.readCov_unit_zero (S := S8x512) _ hz2, View.readCov_unit_zero (S := S1x512) _ hz2, View.ld_unit_zero (S := S256x512) hz2, View.ld_unit_zero (S := S16x512) hz2, View.ld_unit_zero (S := S8x512) hz2, View.ld_unit_zero (S := S1x512) hz2, shapeCast_self]
  rfl

theorem out0_A_12_eq (c : Dev nD) (i a1 h1 a2 h2 a3 h3 a4 h4 a5 h5 a6 h6 a7 h7 a8 h8 a9 h9 a10 h10 a11 h11 a12 h12 a13 h13 a14 h14 a15 h15 a16 h16 a17 h17 hc) (x0 x1 x2 x3 x4 x5 x6 x7 x8 x9 x10 x11) :
    out0_A_12 (F := F) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = pooled i x0 x3 x4 k0_pay2 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11)]
  unfold kernelRun0_A
  dsimp only
  sl_unfold_words
  skip
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.readCov_unit_zero (S := S16x512) _ hz2, View.readCov_unit_zero (S := S8x512) _ hz2, View.readCov_unit_zero (S := S1x512) _ hz2, View.ld_unit_zero (S := S256x512) hz2, View.ld_unit_zero (S := S16x512) hz2, View.ld_unit_zero (S := S8x512) hz2, View.ld_unit_zero (S := S1x512) hz2, shapeCast_self]
  rfl

theorem sout0_A_0_eq (c : Dev nD) (i a1 h1 a2 h2 a3 h3 a4 h4 a5 h5 a6 h6 a7 h7 a8 h8 a9 h9 a10 h10 a11 h11 a12 h12 a13 h13 a14 h14 a15 h15 a16 h16 a17 h17 hc) (x0 x1 x2 x3 x4 x5 x6 x7 x8 x9 x10 x11) :
    sout0_A_0 (F := F) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = k0_pay6 x0 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11)]
  unfold kernelRun0_A
  dsimp only
  sl_unfold_words
  rw [View.canon_cons_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.readCov_unit_zero (S := S16x512) _ hz2, View.readCov_unit_zero (S := S8x512) _ hz2, View.readCov_unit_zero (S := S1x512) _ hz2, View.ld_unit_zero (S := S256x512) hz2, View.ld_unit_zero (S := S16x512) hz2, View.ld_unit_zero (S := S8x512) hz2, View.ld_unit_zero (S := S1x512) hz2, shapeCast_self]

theorem sout0_A_1_eq (c : Dev nD) (i a1 h1 a2 h2 a3 h3 a4 h4 a5 h5 a6 h6 a7 h7 a8 h8 a9 h9 a10 h10 a11 h11 a12 h12 a13 h13 a14 h14 a15 h15 a16 h16 a17 h17 hc) (x0 x1 x2 x3 x4 x5 x6 x7 x8 x9 x10 x11) :
    sout0_A_1 (F := F) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = k0_pay21 x1 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11)]
  unfold kernelRun0_A
  dsimp only
  sl_unfold_words
  rw [View.canon_cons_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.readCov_unit_zero (S := S16x512) _ hz2, View.readCov_unit_zero (S := S8x512) _ hz2, View.readCov_unit_zero (S := S1x512) _ hz2, View.ld_unit_zero (S := S256x512) hz2, View.ld_unit_zero (S := S16x512) hz2, View.ld_unit_zero (S := S8x512) hz2, View.ld_unit_zero (S := S1x512) hz2, shapeCast_self]

theorem sout0_A_2_eq (c : Dev nD) (i a1 h1 a2 h2 a3 h3 a4 h4 a5 h5 a6 h6 a7 h7 a8 h8 a9 h9 a10 h10 a11 h11 a12 h12 a13 h13 a14 h14 a15 h15 a16 h16 a17 h17 hc) (x0 x1 x2 x3 x4 x5 x6 x7 x8 x9 x10 x11) :
    sout0_A_2 (F := F) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 = hlast (conv x1 x5 x6 k0_pay3) (rgate x1 x5 x6 x7 x8 k0_pay3) (igate (conv x1 x5 x6 k0_pay3) x9 x10) (k0_pay32 x11) k0_pay4 := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11)]
  unfold kernelRun0_A
  dsimp only
  sl_unfold_words
  rw [View.canon_cons_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.readCov_unit_zero (S := S16x512) _ hz2, View.readCov_unit_zero (S := S8x512) _ hz2, View.readCov_unit_zero (S := S1x512) _ hz2, View.ld_unit_zero (S := S256x512) hz2, View.ld_unit_zero (S := S16x512) hz2, View.ld_unit_zero (S := S8x512) hz2, View.ld_unit_zero (S := S1x512) hz2, shapeCast_self]
  rfl

theorem out0_B_13_eq (c : Dev nD) (i a1 h1 a2 h2 a3 h3 a4 h4 a5 h5 a6 h6 a7 h7 a8 h8 a9 h9 a10 h10 a11 h11 a12 h12 a13 h13 a14 h14 a15 h15 a16 h16 a17 h17 hc) (x0 x1 x2 x3 x4 x5 x6 x7 x8 x9 x10 x11 s0 s1 s2) :
    out0_B_13 (F := F) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 s2 = k0_pay1 (hrows (conv x1 x5 x6 s1) (rgate x1 x5 x6 x7 x8 s1) (igate (conv x1 x5 x6 s1) x9 x10) (k0_pay32 x11) s2) x2 (k0_pay85 x2) (FloatOps.ofBits .f32 0x3D372713#32) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.readCov_unit_zero (S := S16x512) _ hz2, View.readCov_unit_zero (S := S8x512) _ hz2, View.readCov_unit_zero (S := S1x512) _ hz2, View.ld_unit_zero (S := S256x512) hz2, View.ld_unit_zero (S := S16x512) hz2, View.ld_unit_zero (S := S8x512) hz2, View.ld_unit_zero (S := S1x512) hz2, shapeCast_self]
  rfl

theorem out0_B_12_eq (c : Dev nD) (i a1 h1 a2 h2 a3 h3 a4 h4 a5 h5 a6 h6 a7 h7 a8 h8 a9 h9 a10 h10 a11 h11 a12 h12 a13 h13 a14 h14 a15 h15 a16 h16 a17 h17 hc) (x0 x1 x2 x3 x4 x5 x6 x7 x8 x9 x10 x11 s0 s1 s2) :
    out0_B_12 (F := F) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 s2 = pooled i x0 x3 x4 s0 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 s2)]
  unfold kernelRun0_B
  dsimp only
  sl_unfold_words
  skip
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.readCov_unit_zero (S := S16x512) _ hz2, View.readCov_unit_zero (S := S8x512) _ hz2, View.readCov_unit_zero (S := S1x512) _ hz2, View.ld_unit_zero (S := S256x512) hz2, View.ld_unit_zero (S := S16x512) hz2, View.ld_unit_zero (S := S8x512) hz2, View.ld_unit_zero (S := S1x512) hz2, shapeCast_self]
  rfl

theorem sout0_B_0_eq (c : Dev nD) (i a1 h1 a2 h2 a3 h3 a4 h4 a5 h5 a6 h6 a7 h7 a8 h8 a9 h9 a10 h10 a11 h11 a12 h12 a13 h13 a14 h14 a15 h15 a16 h16 a17 h17 hc) (x0 x1 x2 x3 x4 x5 x6 x7 x8 x9 x10 x11 s0 s1 s2) :
    sout0_B_0 (F := F) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 s2 = k0_pay6 x0 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.readCov_unit_zero (S := S16x512) _ hz2, View.readCov_unit_zero (S := S8x512) _ hz2, View.readCov_unit_zero (S := S1x512) _ hz2, View.ld_unit_zero (S := S256x512) hz2, View.ld_unit_zero (S := S16x512) hz2, View.ld_unit_zero (S := S8x512) hz2, View.ld_unit_zero (S := S1x512) hz2, shapeCast_self]

theorem sout0_B_1_eq (c : Dev nD) (i a1 h1 a2 h2 a3 h3 a4 h4 a5 h5 a6 h6 a7 h7 a8 h8 a9 h9 a10 h10 a11 h11 a12 h12 a13 h13 a14 h14 a15 h15 a16 h16 a17 h17 hc) (x0 x1 x2 x3 x4 x5 x6 x7 x8 x9 x10 x11 s0 s1 s2) :
    sout0_B_1 (F := F) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 s2 = k0_pay21 x1 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.readCov_unit_zero (S := S16x512) _ hz2, View.readCov_unit_zero (S := S8x512) _ hz2, View.readCov_unit_zero (S := S1x512) _ hz2, View.ld_unit_zero (S := S256x512) hz2, View.ld_unit_zero (S := S16x512) hz2, View.ld_unit_zero (S := S8x512) hz2, View.ld_unit_zero (S := S1x512) hz2, shapeCast_self]

theorem sout0_B_2_eq (c : Dev nD) (i a1 h1 a2 h2 a3 h3 a4 h4 a5 h5 a6 h6 a7 h7 a8 h8 a9 h9 a10 h10 a11 h11 a12 h12 a13 h13 a14 h14 a15 h15 a16 h16 a17 h17 hc) (x0 x1 x2 x3 x4 x5 x6 x7 x8 x9 x10 x11 s0 s1 s2) :
    sout0_B_2 (F := F) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 s2 = hlast (conv x1 x5 x6 s1) (rgate x1 x5 x6 x7 x8 s1) (igate (conv x1 x5 x6 s1) x9 x10) (k0_pay32 x11) s2 := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 s0 s1 s2)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.readCov_unit_zero (S := S16x512) _ hz2, View.readCov_unit_zero (S := S8x512) _ hz2, View.readCov_unit_zero (S := S1x512) _ hz2, View.ld_unit_zero (S := S256x512) hz2, View.ld_unit_zero (S := S16x512) hz2, View.ld_unit_zero (S := S8x512) hz2, View.ld_unit_zero (S := S1x512) hz2, shapeCast_self]
  rfl

end Cert.KernelIdeal.Lru

end
-- ==== Proof.Lru.Math.lean ====
/- Facts about the extended reals the layer's recurrence needs: the ranges of its decay factors, the two forms of its input scale, and the
   scan of eight steps by doubling. -/
module

public import Idealize.ShloMosaic.PureOps.Ideal
public import Idealize.ShloMosaic.Lib.Pointwise
public import Idealize.ShloMosaic.Lib.Tactic

@[expose] public section

noncomputable section

open Idealize.ShloMosaic

namespace Cert.LruMath

/-! ## Ranges -/

theorem exp_nonneg (x : EReal) : 0 ≤ Ideal.exp x := by
  induction x with
  | bot => simp
  | top => simp
  | coe x => simp only [Ideal.exp_coe]; exact_mod_cast (Real.exp_pos x).le

theorem exp_ne_top {x : EReal} (h : x ≤ 0) : Ideal.exp x ≠ ⊤ := by
  induction x with
  | bot => simp
  | top => simp at h
  | coe x => simp only [Ideal.exp_coe]; exact EReal.coe_ne_top _

theorem logistic_nonneg (x : EReal) : 0 ≤ Ideal.logistic x := by
  induction x with
  | bot => simp
  | top => simp
  | coe x => simp only [Ideal.logistic_coe]; exact_mod_cast (inv_nonneg.mpr (by positivity))

theorem log1p_nonneg {x : EReal} (h : 0 ≤ x) : 0 ≤ Ideal.log1p x := by
  unfold Ideal.log1p
  induction x with
  | bot => simp at h
  | top => rw [show (1 : EReal) + ⊤ = ⊤ from EReal.add_top_of_ne_bot (by decide)]; simp
  | coe x =>
    have hx : (0 : ℝ) ≤ x := by exact_mod_cast h
    have e : (1 : EReal) + (x : EReal) = ((1 + x : ℝ) : EReal) := by push_cast; rfl
    rw [e]
    rw [Ideal.log_coe, if_neg (by linarith)]
    exact_mod_cast Real.log_nonneg (by linarith)

/-- The softplus of `-x`. -/
def spl (x : EReal) : EReal := max (0 - x) 0 + Ideal.log1p (Ideal.exp (0 - FloatOps.absf (F := Ideal) (φ := .f32) (0 - x)))

theorem spl_nonneg (x : EReal) : 0 ≤ spl x :=
  add_nonneg (le_max_right _ _) (log1p_nonneg (exp_nonneg _))

/-- The logarithm of the decay: `-8 · r · softplus(-λ)`. -/
def logDecay (r x : EReal) : EReal := Ideal.ofBits .f32 3238002688#32 * r * spl x

theorem lit_neg8 : Ideal.ofBits .f32 3238002688#32 = ((-8 : ℝ) : EReal) := by
  simp [Ideal.ofBits, Ideal.ieee, -EReal.coe_mul, -EReal.coe_neg]; norm_num

theorem logDecay_le {r : EReal} (h : 0 ≤ r) (x : EReal) : logDecay r x ≤ 0 := by
  unfold logDecay
  rw [lit_neg8, mul_assoc]
  have h2 : 0 ≤ r * spl x := mul_nonneg h (spl_nonneg x)
  exact EReal.mul_nonpos_iff.mpr (Or.inr ⟨by exact_mod_cast (by norm_num : (-8 : ℝ) ≤ 0), h2⟩)

/-! ## The input scale -/

/-- `√(-tanh x · (e^x · e^x + 1)) = √(-(e^(2x) - 1))` for every `x ≤ 0`. -/
theorem scale_eq {x : EReal} (h : x ≤ 0) :
    (0 - Ideal.tanh x) * (Ideal.exp x * Ideal.exp x + 1) = -(Ideal.exp ((2 : ℝ) * x) - 1) := by
  induction x with
  | bot =>
    rw [EReal.coe_mul_bot_of_pos (by norm_num)]
    simp
  | top => simp at h
  | coe x =>
    have e : ((2 : ℝ) : EReal) * (x : EReal) = ((2 * x : ℝ) : EReal) := by push_cast; rfl
    rw [e]
    simp only [Ideal.exp_coe, Ideal.tanh_coe]
    have : (0 - Real.tanh x) * (Real.exp x * Real.exp x + 1) = -(Real.exp (2 * x) - 1) := by
      rw [Real.tanh_eq_sinh_div_cosh, Real.sinh_eq, Real.cosh_eq, two_mul, Real.exp_add, Real.exp_neg]
      have := Real.exp_pos x
      field_simp
      ring
    exact_mod_cast this

/-! ## Eight steps by doubling -/

/-- A row of eight shifted by `k`, `e` where nothing is shifted in. -/
def shf (k : ℕ) (e : EReal) (f : Fin 8 → EReal) (s : Fin 8) : EReal :=
  if k ≤ s.val then f ⟨(s.val + 8 - k) % 8, Nat.mod_lt _ (by norm_num)⟩ else e

def dblA (k : ℕ) (a : Fin 8 → EReal) (s : Fin 8) : EReal := a s * shf k 1 a s
def dblB (k : ℕ) (a b : Fin 8 → EReal) (s : Fin 8) : EReal := a s * shf k 0 b s + b s

theorem mul_add_of {a : EReal} (h : 0 ≤ a ∧ a ≠ ⊤) (x y : EReal) : a * (x + y) = a * x + a * y :=
  EReal.left_distrib_of_nonneg_of_ne_top h.1 h.2 x y

theorem scan8 {a b : Fin 8 → EReal} (ha : ∀ s, 0 ≤ a s ∧ a s ≠ ⊤) {c : EReal} {H : ℕ → EReal} (h0 : H 0 = c)
    (hs : ∀ s : Fin 8, H (s.val + 1) = a s * H s.val + b s) (s : Fin 8) :
    dblA 4 (dblA 2 (dblA 1 a)) s * c + dblB 4 (dblA 2 (dblA 1 a)) (dblB 2 (dblA 1 a) (dblB 1 a b)) s = H (s.val + 1) := by
  have e0 := hs 0; have e1 := hs 1; have e2 := hs 2; have e3 := hs 3
  have e4 := hs 4; have e5 := hs 5; have e6 := hs 6; have e7 := hs 7
  simp only [Fin.isValue, Fin.coe_ofNat_eq_mod, Nat.reduceMod, Nat.reduceAdd] at e0 e1 e2 e3 e4 e5 e6 e7
  have m0 := mul_add_of (ha 0); have m1 := mul_add_of (ha 1); have m2 := mul_add_of (ha 2); have m3 := mul_add_of (ha 3)
  have m4 := mul_add_of (ha 4); have m5 := mul_add_of (ha 5); have m6 := mul_add_of (ha 6); have m7 := mul_add_of (ha 7)
  fin_cases s <;>
    simp [dblA, dblB, shf, e0, e1, e2, e3, e4, e5, e6, e7, h0, m1, m2, m3, m4, m5, m6, m7, mul_assoc, add_assoc]

end Cert.LruMath

end
-- ==== Proof.Lru.Rows.lean ====
/- The thirty-two groups of eight rows of a point: each group's rows over the last row of the group before, and all of them as the
   states `H` of a recurrence, given what a group does to the state it starts from. -/
module

public import proofs.«01_k».proof.Proof.Lru.Math
public import proofs.«01_k».proof.Proof.Lru.Block
public import Idealize.ShloMosaic.Lib.Pipeline.Value

@[expose] public section

set_option maxRecDepth 16384

noncomputable section

open Idealize.ShloMosaic Idealize.ShloMosaic.TcCoe Idealize.SL.Sem

namespace Cert.KernelIdeal.Lru

open Cert.KernelIdeal Cert.KernelIdeal.Gen

variable (v r i : Vec Ideal S256x512 .f32) (z s2 : Vec Ideal S1x512 .f32)

/-! ## A group over the group before -/

theorem step0 (j : S8x512.Idx) : row0 v r i z s2 j = prodA r z (ix3 0 (j 0) (j 1)) * s2 (ix2 0 (j 1)) + scanB v r i z (ix3 0 (j 0) (j 1)) := by
  pointwise [row0, k0_pay43]
  rfl

theorem step1 (j : S8x512.Idx) : row1 v r i z s2 j = prodA r z (ix3 1 (j 0) (j 1)) * row0 v r i z s2 (ix2 7 (j 1)) + scanB v r i z (ix3 1 (j 0) (j 1)) := by
  pointwise [row1, k0_pay44]
  rfl

theorem step2 (j : S8x512.Idx) : row2 v r i z s2 j = prodA r z (ix3 2 (j 0) (j 1)) * row1 v r i z s2 (ix2 7 (j 1)) + scanB v r i z (ix3 2 (j 0) (j 1)) := by
  pointwise [row2, k0_pay45]
  rfl

theorem step3 (j : S8x512.Idx) : row3 v r i z s2 j = prodA r z (ix3 3 (j 0) (j 1)) * row2 v r i z s2 (ix2 7 (j 1)) + scanB v r i z (ix3 3 (j 0) (j 1)) := by
  pointwise [row3, k0_pay48, k0_pay46, k0_pay47]
  rfl

theorem step4 (j : S8x512.Idx) : row4 v r i z s2 j = prodA r z (ix3 4 (j 0) (j 1)) * row3 v r i z s2 (ix2 7 (j 1)) + scanB v r i z (ix3 4 (j 0) (j 1)) := by
  pointwise [row4, k0_pay49]
  rfl

theorem step5 (j : S8x512.Idx) : row5 v r i z s2 j = prodA r z (ix3 5 (j 0) (j 1)) * row4 v r i z s2 (ix2 7 (j 1)) + scanB v r i z (ix3 5 (j 0) (j 1)) := by
  pointwise [row5, k0_pay50]
  rfl

theorem step6 (j : S8x512.Idx) : row6 v r i z s2 j = prodA r z (ix3 6 (j 0) (j 1)) * row5 v r i z s2 (ix2 7 (j 1)) + scanB v r i z (ix3 6 (j 0) (j 1)) := by
  pointwise [row6, k0_pay51]
  rfl

theorem step7 (j : S8x512.Idx) : row7 v r i z s2 j = prodA r z (ix3 7 (j 0) (j 1)) * row6 v r i z s2 (ix2 7 (j 1)) + scanB v r i z (ix3 7 (j 0) (j 1)) := by
  pointwise [row7, k0_pay52]
  rfl

theorem step8 (j : S8x512.Idx) : row8 v r i z s2 j = prodA r z (ix3 8 (j 0) (j 1)) * row7 v r i z s2 (ix2 7 (j 1)) + scanB v r i z (ix3 8 (j 0) (j 1)) := by
  pointwise [row8, k0_pay53]
  rfl

theorem step9 (j : S8x512.Idx) : row9 v r i z s2 j = prodA r z (ix3 9 (j 0) (j 1)) * row8 v r i z s2 (ix2 7 (j 1)) + scanB v r i z (ix3 9 (j 0) (j 1)) := by
  pointwise [row9, k0_pay54]
  rfl

theorem step10 (j : S8x512.Idx) : row10 v r i z s2 j = prodA r z (ix3 10 (j 0) (j 1)) * row9 v r i z s2 (ix2 7 (j 1)) + scanB v r i z (ix3 10 (j 0) (j 1)) := by
  pointwise [row10, k0_pay55]
  rfl

theorem step11 (j : S8x512.Idx) : row11 v r i z s2 j = prodA r z (ix3 11 (j 0) (j 1)) * row10 v r i z s2 (ix2 7 (j 1)) + scanB v r i z (ix3 11 (j 0) (j 1)) := by
  pointwise [row11, k0_pay58, carry11, k0_pay56, k0_pay57]
  rfl

theorem step12 (j : S8x512.Idx) : row12 v r i z s2 j = prodA r z (ix3 12 (j 0) (j 1)) * row11 v r i z s2 (ix2 7 (j 1)) + scanB v r i z (ix3 12 (j 0) (j 1)) := by
  pointwise [row12, k0_pay59]
  rfl

theorem step13 (j : S8x512.Idx) : row13 v r i z s2 j = prodA r z (ix3 13 (j 0) (j 1)) * row12 v r i z s2 (ix2 7 (j 1)) + scanB v r i z (ix3 13 (j 0) (j 1)) := by
  pointwise [row13, k0_pay60]
  rfl

theorem step14 (j : S8x512.Idx) : row14 v r i z s2 j = prodA r z (ix3 14 (j 0) (j 1)) * row13 v r i z s2 (ix2 7 (j 1)) + scanB v r i z (ix3 14 (j 0) (j 1)) := by
  pointwise [row14, k0_pay61]
  rfl

theorem step15 (j : S8x512.Idx) : row15 v r i z s2 j = prodA r z (ix3 15 (j 0) (j 1)) * row14 v r i z s2 (ix2 7 (j 1)) + scanB v r i z (ix3 15 (j 0) (j 1)) := by
  pointwise [row15, k0_pay62]
  rfl

theorem step16 (j : S8x512.Idx) : row16 v r i z s2 j = prodA r z (ix3 16 (j 0) (j 1)) * row15 v r i z s2 (ix2 7 (j 1)) + scanB v r i z (ix3 16 (j 0) (j 1)) := by
  pointwise [row16, k0_pay63]
  rfl

theorem step17 (j : S8x512.Idx) : row17 v r i z s2 j = prodA r z (ix3 17 (j 0) (j 1)) * row16 v r i z s2 (ix2 7 (j 1)) + scanB v r i z (ix3 17 (j 0) (j 1)) := by
  pointwise [row17, k0_pay64]
  rfl

theorem step18 (j : S8x512.Idx) : row18 v r i z s2 j = prodA r z (ix3 18 (j 0) (j 1)) * row17 v r i z s2 (ix2 7 (j 1)) + scanB v r i z (ix3 18 (j 0) (j 1)) := by
  pointwise [row18, k0_pay67, k0_pay65, k0_pay66]
  rfl

theorem step19 (j : S8x512.Idx) : row19 v r i z s2 j = prodA r z (ix3 19 (j 0) (j 1)) * row18 v r i z s2 (ix2 7 (j 1)) + scanB v r i z (ix3 19 (j 0) (j 1)) := by
  pointwise [row19, k0_pay68]
  rfl

theorem step20 (j : S8x512.Idx) : row20 v r i z s2 j = prodA r z (ix3 20 (j 0) (j 1)) * row19 v r i z s2 (ix2 7 (j 1)) + scanB v r i z (ix3 20 (j 0) (j 1)) := by
  pointwise [row20, k0_pay69]
  rfl

theorem step21 (j : S8x512.Idx) : row21 v r i z s2 j = prodA r z (ix3 21 (j 0) (j 1)) * row20 v r i z s2 (ix2 7 (j 1)) + scanB v r i z (ix3 21 (j 0) (j 1)) := by
  pointwise [row21, k0_pay70]
  rfl

theorem step22 (j : S8x512.Idx) : row22 v r i z s2 j = prodA r z (ix3 22 (j 0) (j 1)) * row21 v r i z s2 (ix2 7 (j 1)) + scanB v r i z (ix3 22 (j 0) (j 1)) := by
  pointwise [row22, k0_pay71]
  rfl

theorem step23 (j : S8x512.Idx) : row23 v r i z s2 j = prodA r z (ix3 23 (j 0) (j 1)) * row22 v r i z s2 (ix2 7 (j 1)) + scanB v r i z (ix3 23 (j 0) (j 1)) := by
  pointwise [row23, k0_pay72]
  rfl

theorem step24 (j : S8x512.Idx) : row24 v r i z s2 j = prodA r z (ix3 24 (j 0) (j 1)) * row23 v r i z s2 (ix2 7 (j 1)) + scanB v r i z (ix3 24 (j 0) (j 1)) := by
  pointwise [row24, k0_pay73]
  rfl

theorem step25 (j : S8x512.Idx) : row25 v r i z s2 j = prodA r z (ix3 25 (j 0) (j 1)) * row24 v r i z s2 (ix2 7 (j 1)) + scanB v r i z (ix3 25 (j 0) (j 1)) := by
  pointwise [row25, k0_pay74]
  rfl

theorem step26 (j : S8x512.Idx) : row26 v r i z s2 j = prodA r z (ix3 26 (j 0) (j 1)) * row25 v r i z s2 (ix2 7 (j 1)) + scanB v r i z (ix3 26 (j 0) (j 1)) := by
  pointwise [row26, k0_pay77, carry26, k0_pay75, k0_pay76]
  rfl

theorem step27 (j : S8x512.Idx) : row27 v r i z s2 j = prodA r z (ix3 27 (j 0) (j 1)) * row26 v r i z s2 (ix2 7 (j 1)) + scanB v r i z (ix3 27 (j 0) (j 1)) := by
  pointwise [row27, k0_pay78]
  rfl

theorem step28 (j : S8x512.Idx) : row28 v r i z s2 j = prodA r z (ix3 28 (j 0) (j 1)) * row27 v r i z s2 (ix2 7 (j 1)) + scanB v r i z (ix3 28 (j 0) (j 1)) := by
  pointwise [row28, k0_pay79]
  rfl

theorem step29 (j : S8x512.Idx) : row29 v r i z s2 j = prodA r z (ix3 29 (j 0) (j 1)) * row28 v r i z s2 (ix2 7 (j 1)) + scanB v r i z (ix3 29 (j 0) (j 1)) := by
  pointwise [row29, k0_pay80]
  rfl

theorem step30 (j : S8x512.Idx) : row30 v r i z s2 j = prodA r z (ix3 30 (j 0) (j 1)) * row29 v r i z s2 (ix2 7 (j 1)) + scanB v r i z (ix3 30 (j 0) (j 1)) := by
  pointwise [row30, k0_pay81]
  rfl

theorem step31 (j : S8x512.Idx) : row31 v r i z s2 j = prodA r z (ix3 31 (j 0) (j 1)) * row30 v r i z s2 (ix2 7 (j 1)) + scanB v r i z (ix3 31 (j 0) (j 1)) := by
  pointwise [row31, k0_pay82]
  rfl

/-! ## The groups as states of the recurrence -/

section States
variable {v r i z s2}
variable {H : ℕ → Fin 512 → EReal} {base : ℕ} (hc : ∀ l : Fin 512, s2 (ix2 0 l) = H base l)
  (hr : ∀ (g : Fin 32) (s : Fin 8) (l : Fin 512), prodA r z (ix3 g s l) * H (base + 8 * g.val) l + scanB v r i z (ix3 g s l) = H (base + 8 * g.val + s.val + 1) l)
include hc hr

theorem val0 (j : S8x512.Idx) : row0 v r i z s2 j = H (base + 0 + (j 0).val + 1) (j 1) := by
  rw [step0, show s2 (ix2 0 (j 1)) = _ from hc (j 1)]
  exact hr 0 (j 0) (j 1)

theorem val1 (j : S8x512.Idx) : row1 v r i z s2 j = H (base + 8 + (j 0).val + 1) (j 1) := by
  rw [step1, val0 hc hr]
  exact hr 1 (j 0) (j 1)

theorem val2 (j : S8x512.Idx) : row2 v r i z s2 j = H (base + 16 + (j 0).val + 1) (j 1) := by
  rw [step2, val1 hc hr]
  exact hr 2 (j 0) (j 1)

theorem val3 (j : S8x512.Idx) : row3 v r i z s2 j = H (base + 24 + (j 0).val + 1) (j 1) := by
  rw [step3, val2 hc hr]
  exact hr 3 (j 0) (j 1)

theorem val4 (j : S8x512.Idx) : row4 v r i z s2 j = H (base + 32 + (j 0).val + 1) (j 1) := by
  rw [step4, val3 hc hr]
  exact hr 4 (j 0) (j 1)

theorem val5 (j : S8x512.Idx) : row5 v r i z s2 j = H (base + 40 + (j 0).val + 1) (j 1) := by
  rw [step5, val4 hc hr]
  exact hr 5 (j 0) (j 1)

theorem val6 (j : S8x512.Idx) : row6 v r i z s2 j = H (base + 48 + (j 0).val + 1) (j 1) := by
  rw [step6, val5 hc hr]
  exact hr 6 (j 0) (j 1)

theorem val7 (j : S8x512.Idx) : row7 v r i z s2 j = H (base + 56 + (j 0).val + 1) (j 1) := by
  rw [step7, val6 hc hr]
  exact hr 7 (j 0) (j 1)

theorem val8 (j : S8x512.Idx) : row8 v r i z s2 j = H (base + 64 + (j 0).val + 1) (j 1) := by
  rw [step8, val7 hc hr]
  exact hr 8 (j 0) (j 1)

theorem val9 (j : S8x512.Idx) : row9 v r i z s2 j = H (base + 72 + (j 0).val + 1) (j 1) := by
  rw [step9, val8 hc hr]
  exact hr 9 (j 0) (j 1)

theorem val10 (j : S8x512.Idx) : row10 v r i z s2 j = H (base + 80 + (j 0).val + 1) (j 1) := by
  rw [step10, val9 hc hr]
  exact hr 10 (j 0) (j 1)

theorem val11 (j : S8x512.Idx) : row11 v r i z s2 j = H (base + 88 + (j 0).val + 1) (j 1) := by
  rw [step11, val10 hc hr]
  exact hr 11 (j 0) (j 1)

theorem val12 (j : S8x512.Idx) : row12 v r i z s2 j = H (base + 96 + (j 0).val + 1) (j 1) := by
  rw [step12, val11 hc hr]
  exact hr 12 (j 0) (j 1)

theorem val13 (j : S8x512.Idx) : row13 v r i z s2 j = H (base + 104 + (j 0).val + 1) (j 1) := by
  rw [step13, val12 hc hr]
  exact hr 13 (j 0) (j 1)

theorem val14 (j : S8x512.Idx) : row14 v r i z s2 j = H (base + 112 + (j 0).val + 1) (j 1) := by
  rw [step14, val13 hc hr]
  exact hr 14 (j 0) (j 1)

theorem val15 (j : S8x512.Idx) : row15 v r i z s2 j = H (base + 120 + (j 0).val + 1) (j 1) := by
  rw [step15, val14 hc hr]
  exact hr 15 (j 0) (j 1)

theorem val16 (j : S8x512.Idx) : row16 v r i z s2 j = H (base + 128 + (j 0).val + 1) (j 1) := by
  rw [step16, val15 hc hr]
  exact hr 16 (j 0) (j 1)

theorem val17 (j : S8x512.Idx) : row17 v r i z s2 j = H (base + 136 + (j 0).val + 1) (j 1) := by
  rw [step17, val16 hc hr]
  exact hr 17 (j 0) (j 1)

theorem val18 (j : S8x512.Idx) : row18 v r i z s2 j = H (base + 144 + (j 0).val + 1) (j 1) := by
  rw [step18, val17 hc hr]
  exact hr 18 (j 0) (j 1)

theorem val19 (j : S8x512.Idx) : row19 v r i z s2 j = H (base + 152 + (j 0).val + 1) (j 1) := by
  rw [step19, val18 hc hr]
  exact hr 19 (j 0) (j 1)

theorem val20 (j : S8x512.Idx) : row20 v r i z s2 j = H (base + 160 + (j 0).val + 1) (j 1) := by
  rw [step20, val19 hc hr]
  exact hr 20 (j 0) (j 1)

theorem val21 (j : S8x512.Idx) : row21 v r i z s2 j = H (base + 168 + (j 0).val + 1) (j 1) := by
  rw [step21, val20 hc hr]
  exact hr 21 (j 0) (j 1)

theorem val22 (j : S8x512.Idx) : row22 v r i z s2 j = H (base + 176 + (j 0).val + 1) (j 1) := by
  rw [step22, val21 hc hr]
  exact hr 22 (j 0) (j 1)

theorem val23 (j : S8x512.Idx) : row23 v r i z s2 j = H (base + 184 + (j 0).val + 1) (j 1) := by
  rw [step23, val22 hc hr]
  exact hr 23 (j 0) (j 1)

theorem val24 (j : S8x512.Idx) : row24 v r i z s2 j = H (base + 192 + (j 0).val + 1) (j 1) := by
  rw [step24, val23 hc hr]
  exact hr 24 (j 0) (j 1)

theorem val25 (j : S8x512.Idx) : row25 v r i z s2 j = H (base + 200 + (j 0).val + 1) (j 1) := by
  rw [step25, val24 hc hr]
  exact hr 25 (j 0) (j 1)

theorem val26 (j : S8x512.Idx) : row26 v r i z s2 j = H (base + 208 + (j 0).val + 1) (j 1) := by
  rw [step26, val25 hc hr]
  exact hr 26 (j 0) (j 1)

theorem val27 (j : S8x512.Idx) : row27 v r i z s2 j = H (base + 216 + (j 0).val + 1) (j 1) := by
  rw [step27, val26 hc hr]
  exact hr 27 (j 0) (j 1)

theorem val28 (j : S8x512.Idx) : row28 v r i z s2 j = H (base + 224 + (j 0).val + 1) (j 1) := by
  rw [step28, val27 hc hr]
  exact hr 28 (j 0) (j 1)

theorem val29 (j : S8x512.Idx) : row29 v r i z s2 j = H (base + 232 + (j 0).val + 1) (j 1) := by
  rw [step29, val28 hc hr]
  exact hr 29 (j 0) (j 1)

theorem val30 (j : S8x512.Idx) : row30 v r i z s2 j = H (base + 240 + (j 0).val + 1) (j 1) := by
  rw [step30, val29 hc hr]
  exact hr 30 (j 0) (j 1)

theorem val31 (j : S8x512.Idx) : row31 v r i z s2 j = H (base + 248 + (j 0).val + 1) (j 1) := by
  rw [step31, val30 hc hr]
  exact hr 31 (j 0) (j 1)

/-- The state's rows of the point. -/
theorem hrows_val (j : S256x512.Idx) : hrows v r i z s2 j = H (base + (j 0).val + 1) (j 1) := by
  have hj : (j 0).val < 256 := (j 0).isLt
  let f : Fin 32 → Vec Ideal S8x512 .f32 := ![row0 v r i z s2, row1 v r i z s2, row2 v r i z s2, row3 v r i z s2, row4 v r i z s2, row5 v r i z s2, row6 v r i z s2, row7 v r i z s2, row8 v r i z s2, row9 v r i z s2, row10 v r i z s2, row11 v r i z s2, row12 v r i z s2, row13 v r i z s2, row14 v r i z s2, row15 v r i z s2, row16 v r i z s2, row17 v r i z s2, row18 v r i z s2, row19 v r i z s2, row20 v r i z s2, row21 v r i z s2, row22 v r i z s2, row23 v r i z s2, row24 v r i z s2, row25 v r i z s2, row26 v r i z s2, row27 v r i z s2, row28 v r i z s2, row29 v r i z s2, row30 v r i z s2, row31 v r i z s2]
  have hf : ∀ (g : Fin 32) (q : S8x512.Idx), f g q = H (base + 8 * g.val + (q 0).val + 1) (q 1) := by
    intro g q
    fin_cases g
    · exact val0 hc hr q
    · exact val1 hc hr q
    · exact val2 hc hr q
    · exact val3 hc hr q
    · exact val4 hc hr q
    · exact val5 hc hr q
    · exact val6 hc hr q
    · exact val7 hc hr q
    · exact val8 hc hr q
    · exact val9 hc hr q
    · exact val10 hc hr q
    · exact val11 hc hr q
    · exact val12 hc hr q
    · exact val13 hc hr q
    · exact val14 hc hr q
    · exact val15 hc hr q
    · exact val16 hc hr q
    · exact val17 hc hr q
    · exact val18 hc hr q
    · exact val19 hc hr q
    · exact val20 hc hr q
    · exact val21 hc hr q
    · exact val22 hc hr q
    · exact val23 hc hr q
    · exact val24 hc hr q
    · exact val25 hc hr q
    · exact val26 hc hr q
    · exact val27 hc hr q
    · exact val28 hc hr q
    · exact val29 hc hr q
    · exact val30 hc hr q
    · exact val31 hc hr q
  have e : hrows v r i z s2 = concatenate S256x512 0 (List.ofFn fun g : Fin 32 => (⟨S8x512, f g⟩ : (s : Shape) × (s.Idx → EReal))) concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0 := rfl
  have hg : (j 0).val / 8 < 32 := by omega
  refine (congrFun e j).trans ((Idealize.ShloMosaic.concatenate_ofFn_apply (t := S256x512) (s₁ := S8x512) (0 : Fin 2) f concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0 rfl 8 rfl j ⟨(j 0).val / 8, hg⟩ rfl
    (ix2 ⟨(j 0).val % 8, Nat.mod_lt _ (by norm_num)⟩ (j 1)) rfl (fun b hb => by
      fin_cases b
      · exact absurd rfl hb
      · rfl)).trans ((hf _ _).trans ?_))
  show H (base + 8 * ((j 0).val / 8) + (j 0).val % 8 + 1) (j 1) = _
  rw [show base + 8 * ((j 0).val / 8) + (j 0).val % 8 + 1 = base + (j 0).val + 1 by omega]

/-- The last row. -/
theorem hlast_val (j : S1x512.Idx) : hlast v r i z s2 j = H (base + 256) (j 1) := by
  have e : hlast v r i z s2 j = row31 v r i z s2 (ix2 7 (j 1)) := by
    pointwise [hlast, k0_pay84]
    rfl
  rw [e, val31 hc hr]
  rfl

end States

end Cert.KernelIdeal.Lru

end
-- ==== Proof.Lru.Spec.lean ====
/- The pooling mixer and the gated linear recurrence of a layer, as functions of whole arrays read at natural row numbers. No program
   is named here: both sides of the claim are shown to be these functions. -/
module

public import proofs.«01_k».proof.Proof.Lru.Math

@[expose] public section

noncomputable section

open Idealize.ShloMosaic
open scoped BigOperators

namespace Cert.LruSpec

open Cert.LruMath

/-- The arrays of the call. -/
structure Arrs where
  aux : ℕ → ℕ → EReal
  poolW : Fin 4 → Fin 128 → Fin 128 → EReal
  poolS : Fin 512 → EReal
  convW : Fin 4 → Fin 512 → EReal
  convB : Fin 512 → EReal
  recW : Fin 4 → Fin 128 → Fin 128 → EReal
  recB : Fin 512 → EReal
  inW : Fin 4 → Fin 128 → Fin 128 → EReal
  inB : Fin 512 → EReal
  lam : Fin 512 → EReal

/-- Rows with `p` zero rows before them. -/
def zpad (p : ℕ) (X : ℕ → ℕ → EReal) (q c : ℕ) : EReal := if p ≤ q then X (q - p) c else 0

theorem zpad_add (p k : ℕ) (X : ℕ → ℕ → EReal) (q c : ℕ) : zpad (p + k) X (q + k) c = zpad p X q c := by
  unfold zpad
  simp only [Nat.add_le_add_iff_right, Nat.add_sub_add_right]

theorem zpad_zero (X : ℕ → ℕ → EReal) (q c : ℕ) : zpad 0 X q c = X q c := by simp [zpad]

/-- The group of a column and its place there; the column of a group's place. -/
def grp (l : Fin 512) : Fin 4 := ⟨l.val / 128, by omega⟩
def lane (l : Fin 512) : Fin 128 := ⟨l.val % 128, by omega⟩
def col (g : Fin 4) (d : Fin 128) : Fin 512 := ⟨128 * g.val + d.val, by omega⟩

theorem grp_col (g : Fin 4) (d : Fin 128) : grp (col g d) = g := Fin.ext (by simp only [grp, col]; omega)
theorem lane_col (g : Fin 4) (d : Fin 128) : lane (col g d) = d := Fin.ext (by simp only [lane, col]; omega)
theorem col_grp_lane (l : Fin 512) : col (grp l) (lane l) = l := Fin.ext (by simp only [grp, lane, col]; omega)

/-- Per group of 128 columns, a row through that group's matrix. -/
def grouped (f : Fin 512 → EReal) (W : Fin 4 → Fin 128 → Fin 128 → EReal) (l : Fin 512) : EReal :=
  ∑ k : Fin 128, f (col (grp l) k) * W (grp l) k (lane l)

/-- The four groups' products told apart by the column. -/
theorem grouped_cases (f : Fin 512 → EReal) (W : Fin 4 → Fin 128 → Fin 128 → EReal) (l : Fin 512) :
    (if h : l.val < 128 then ∑ x : Fin 128, f ⟨x.val, by omega⟩ * W 0 x ⟨l.val, h⟩
      else if h : l.val - 128 < 128 then ∑ x : Fin 128, f ⟨128 + x.val, by omega⟩ * W 1 x ⟨l.val - 128, h⟩
      else if h : l.val - 128 - 128 < 128 then ∑ x : Fin 128, f ⟨256 + x.val, by omega⟩ * W 2 x ⟨l.val - 128 - 128, h⟩
      else ∑ x : Fin 128, f ⟨384 + x.val, by omega⟩ * W 3 x ⟨l.val - 128 - 128 - 128, by omega⟩) = grouped f W l := by
  have key : ∀ (g : Fin 4) (d : Fin 128), l.val = 128 * g.val + d.val → ∀ c : Fin 128 → Fin 512, (∀ x, (c x).val = 128 * g.val + x.val) →
      ∑ x : Fin 128, f (c x) * W g x d = grouped f W l := by
    intro g d hl c hc
    unfold grouped
    have hg : grp l = g := Fin.ext (by simp only [grp]; omega)
    have hd : lane l = d := Fin.ext (by simp only [lane]; omega)
    rw [hg, hd]
    refine Finset.sum_congr rfl fun x _ => ?_
    rw [show c x = col g x from Fin.ext (by rw [hc]; rfl)]
  split
  · exact key 0 _ (by simp) _ (fun x => by simp)
  · split
    · exact key 1 _ (by simp; omega) _ (fun x => by simp)
    · split
      · exact key 2 _ (by simp; omega) _ (fun x => by simp)
      · exact key 3 _ (by simp; omega) _ (fun x => by simp)

variable (D : Arrs)

/-- The recurrence's input rows. -/
def Arrs.X (r c : ℕ) : EReal := D.aux r (512 + c)

/-- The causal convolution of four taps. -/
def xc (r : ℕ) (l : Fin 512) : EReal :=
  D.convB l + D.convW 0 l * zpad 3 D.X r l + D.convW 1 l * zpad 2 D.X r l + D.convW 2 l * zpad 1 D.X r l + D.convW 3 l * D.X r l

def gateR (r : ℕ) (l : Fin 512) : EReal := Ideal.logistic (grouped (xc D r) D.recW l + D.recB l)
def gateI (r : ℕ) (l : Fin 512) : EReal := Ideal.logistic (grouped (xc D r) D.inW l + D.inB l)

/-- The decay's logarithm, the decay, the scaled input. -/
def logA (r : ℕ) (l : Fin 512) : EReal := logDecay (gateR D r l) (D.lam l)
def dec (r : ℕ) (l : Fin 512) : EReal := Ideal.exp (logA D r l)
def inp (r : ℕ) (l : Fin 512) : EReal :=
  Ideal.sqrt ((0 - Ideal.tanh (logA D r l)) * (dec D r l * dec D r l + 1)) * (gateI D r l * xc D r l)

/-- The state before row `n`: `h_(n+1) = a_n h_n + b_n` from zero. -/
def st : ℕ → Fin 512 → EReal
  | 0, _ => 0
  | n + 1, l => dec D n l * st n l + inp D n l

theorem logA_le (r : ℕ) (l : Fin 512) : logA D r l ≤ 0 := logDecay_le (logistic_nonneg _) _

theorem dec_range (r : ℕ) (l : Fin 512) : 0 ≤ dec D r l ∧ dec D r l ≠ ⊤ := ⟨exp_nonneg _, exp_ne_top (logA_le D r l)⟩

/-- The tanh form of the Gaussian unit. -/
def gelu (g : EReal) : EReal :=
  g * (Ideal.ofBits .f32 1056964608#32 * (1 + Ideal.tanh (Ideal.ofBits .f32 1061962282#32 * (g + Ideal.ofBits .f32 1027024659#32 * (g * g * g)))))

/-- The recurrence's result. -/
def lru (r : ℕ) (l : Fin 512) : EReal := st D (r + 1) l * gelu (D.aux r (1024 + l.val))

/-- The window of a group of columns, and how many rows it holds at row `r`. -/
def win (g : Fin 4) : ℕ := 2 ^ (g.val + 1)
def held (g : Fin 4) (r : ℕ) : EReal := ((min (r + 1) (win g) : ℕ) : ℝ)

/-- The windowed mean of the last rows minus the row. -/
def diff (r : ℕ) (l : Fin 512) : EReal :=
  Ideal.div (∑ k ∈ Finset.range (win (grp l)), zpad k D.aux r l) (held (grp l) r) - D.aux r l

/-- The pooling mixer's result. -/
def poolMix (r : ℕ) (l : Fin 512) : EReal := grouped (diff D r) D.poolW l * D.poolS l

/-- The word `min (m + 1) w`, at a row `m` of the array. -/
theorem count_word (m w : ℕ) (hm : m < 8192) (hw : w ≤ 16) :
    FloatOps.sitofp (F := Ideal) .f32 (IntOp.minsi (IntOp.addi (BitVec.ofNat 32 m) 1#32) (BitVec.ofNat 32 w)) = ((min (m + 1) w : ℕ) : ℝ) := by
  have ha : (IntOp.addi (BitVec.ofNat 32 m) 1#32).toInt = ((m + 1 : ℕ) : ℤ) := by
    rw [show IntOp.addi (BitVec.ofNat 32 m) 1#32 = BitVec.ofNat 32 (m + 1) by simp [IntOp.addi, BitVec.ofNat_add]]
    rw [BitVec.toInt_eq_toNat_of_lt (by rw [BitVec.toNat_ofNat]; omega), BitVec.toNat_ofNat]
    omega
  have hb : (BitVec.ofNat 32 w).toInt = (w : ℤ) := by
    rw [BitVec.toInt_eq_toNat_of_lt (by rw [BitVec.toNat_ofNat]; omega), BitVec.toNat_ofNat]
    omega
  have hc : (IntOp.minsi (IntOp.addi (BitVec.ofNat 32 m) 1#32) (BitVec.ofNat 32 w)).toInt = ((min (m + 1) w : ℕ) : ℤ) := by
    unfold IntOp.minsi
    by_cases h : m + 1 < w
    · rw [if_pos (by rw [BitVec.slt, ha, hb]; simpa using (by exact_mod_cast h : ((m + 1 : ℕ) : ℤ) < w)), ha, min_eq_left h.le]
    · rw [if_neg (by rw [BitVec.slt, ha, hb]; simpa using (by exact_mod_cast Nat.not_lt.mp h : (w : ℤ) ≤ ((m + 1 : ℕ) : ℤ))), hb, min_eq_right (Nat.not_lt.mp h)]
  show (((IntOp.minsi (IntOp.addi (BitVec.ofNat 32 m) 1#32) (BitVec.ofNat 32 w)).toInt : ℝ) : EReal) = _
  rw [hc]
  norm_cast

end Cert.LruSpec

end
-- ==== Proof.Lru.Point.lean ====
/- What a point of the grid computes, over the blocks it reads: the state's rows and the recurrence's result at the rows of the point. -/
module

public import proofs.«01_k».proof.Proof.Lru.Rows
public import proofs.«01_k».proof.Proof.Lru.Spec

@[expose] public section

set_option maxRecDepth 16384

noncomputable section

open Idealize.ShloMosaic Idealize.ShloMosaic.TcCoe Idealize.SL.Sem
open scoped BigOperators

namespace Cert.KernelIdeal.Lru

open Cert.KernelIdeal Cert.KernelIdeal.Gen Cert.LruSpec Cert.LruMath

/-- The blocks a point reads are the arrays `D` at the point's rows. -/
structure Blocks (D : Arrs) (n : ℕ) (x0 x1 x2 : Vec Ideal S256x512 .f32) (x3 : Vec Ideal S4x128x128 .bf16) (x4 : Vec Ideal S1x512 .f32)
    (x5 : Vec Ideal S4x512 .f32) (x6 : Vec Ideal S1x512 .f32) (x7 : Vec Ideal S4x128x128 .bf16) (x8 : Vec Ideal S1x512 .f32)
    (x9 : Vec Ideal S4x128x128 .bf16) (x10 x11 : Vec Ideal S1x512 .f32) : Prop where
  h0 : ∀ (i : Fin 256) (l : Fin 512), x0 (ix2 i l) = D.aux (256 * n + i.val) l.val
  h1 : ∀ (i : Fin 256) (l : Fin 512), x1 (ix2 i l) = D.X (256 * n + i.val) l.val
  h2 : ∀ (i : Fin 256) (l : Fin 512), x2 (ix2 i l) = D.aux (256 * n + i.val) (1024 + l.val)
  h3 : ∀ (g : Fin 4) (k d : Fin 128), x3 (ix3 g k d) = D.poolW g k d
  h4 : ∀ l : Fin 512, x4 (ix2 0 l) = D.poolS l
  h5 : ∀ (k : Fin 4) (l : Fin 512), x5 (ix2 k l) = D.convW k l
  h6 : ∀ l : Fin 512, x6 (ix2 0 l) = D.convB l
  h7 : ∀ (g : Fin 4) (k d : Fin 128), x7 (ix3 g k d) = D.recW g k d
  h8 : ∀ l : Fin 512, x8 (ix2 0 l) = D.recB l
  h9 : ∀ (g : Fin 4) (k d : Fin 128), x9 (ix3 g k d) = D.inW g k d
  h10 : ∀ l : Fin 512, x10 (ix2 0 l) = D.inB l
  h11 : ∀ l : Fin 512, x11 (ix2 0 l) = D.lam l

/-- The scratch a point finds holds the rows before it: sixteen pooled rows, eight input rows, the state. -/
structure Carried (D : Arrs) (n : ℕ) (s0 : Vec Ideal S16x512 .f32) (s1 : Vec Ideal S8x512 .f32) (s2 : Vec Ideal S1x512 .f32) : Prop where
  c0 : ∀ (j : Fin 16) (l : Fin 512), s0 (ix2 j l) = zpad 16 D.aux (256 * n + j.val) l.val
  c1 : ∀ (j : Fin 8) (l : Fin 512), s1 (ix2 j l) = zpad 8 D.X (256 * n + j.val) l.val
  c2 : ∀ l : Fin 512, s2 (ix2 0 l) = st D (256 * n) l

variable {D : Arrs} {n : ℕ} {x0 x1 x2 : Vec Ideal S256x512 .f32} {x3 : Vec Ideal S4x128x128 .bf16} {x4 : Vec Ideal S1x512 .f32}
    {x5 : Vec Ideal S4x512 .f32} {x6 : Vec Ideal S1x512 .f32} {x7 : Vec Ideal S4x128x128 .bf16} {x8 : Vec Ideal S1x512 .f32}
    {x9 : Vec Ideal S4x128x128 .bf16} {x10 x11 : Vec Ideal S1x512 .f32}
    {s0 : Vec Ideal S16x512 .f32} {s1 : Vec Ideal S8x512 .f32} {s2 : Vec Ideal S1x512 .f32}
variable (B : Blocks D n x0 x1 x2 x3 x4 x5 x6 x7 x8 x9 x10 x11) (C : Carried D n s0 s1 s2)
include B C

/-- The block under the eight rows before it. -/
theorem under8 (q : ℕ) (hq : q < 264) (l : Fin 512) :
    (if h : q < 8 then s1 (ix2 ⟨q, h⟩ l) else x1 (ix2 ⟨q - 8, by omega⟩ l)) = zpad 8 D.X (256 * n + q) l.val := by
  split
  · exact C.c1 _ _
  · rename_i h
    rw [B.h1]
    unfold zpad
    rw [if_pos (by omega)]
    show D.X (256 * n + (q - 8)) _ = _
    rw [show 256 * n + (q - 8) = 256 * n + q - 8 by omega]

theorem conv_val (i : Fin 256) (l : Fin 512) : conv x1 x5 x6 s1 (ix2 i l) = xc D (256 * n + i.val) l := by
  have e5 := under8 B C (5 + i.val) (by omega) l
  have e6 := under8 B C (6 + i.val) (by omega) l
  have e7 := under8 B C (7 + i.val) (by omega) l
  rw [show 256 * n + (5 + i.val) = (256 * n + i.val) + 5 by omega, show zpad 8 D.X _ _ = _ from zpad_add 3 5 _ _ _] at e5
  rw [show 256 * n + (6 + i.val) = (256 * n + i.val) + 6 by omega, show zpad 8 D.X _ _ = _ from zpad_add 2 6 _ _ _] at e6
  rw [show 256 * n + (7 + i.val) = (256 * n + i.val) + 7 by omega, show zpad 8 D.X _ _ = _ from zpad_add 1 7 _ _ _] at e7
  unfold conv xc
  pointwise [k0_pay20, k0_pay22, k0_pay23, k0_pay24]
  rw [← e5, ← e6, ← e7, ← B.h1, B.h5, B.h5, B.h5, B.h5, B.h6]

theorem rgate_val (i : Fin 256) (l : Fin 512) : rgate x1 x5 x6 x7 x8 s1 (ix2 i l) = gateR D (256 * n + i.val) l := by
  unfold rgate
  have key : ∀ (q : Fin 512), k0_pay24 (k0_pay20 x1 s1) (k0_pay22 x6) (View.ld x5 (Rect.unit (s := S4x512) ![0, 0] S1x512.size inb_S4x512_S1x512_0_0)) (k0_pay23 x1 s1) (View.ld x5 (Rect.unit (s := S4x512) ![1, 0] S1x512.size inb_S4x512_S1x512_1_0)) (View.ld x5 (Rect.unit (s := S4x512) ![2, 0] S1x512.size inb_S4x512_S1x512_2_0)) (View.ld x5 (Rect.unit (s := S4x512) ![3, 0] S1x512.size inb_S4x512_S1x512_3_0)) (ix2 i q) = xc D (256 * n + i.val) q := conv_val B C i
  unfold gateR
  rw [← B.h8, ← grouped_cases]
  pointwise [k0_pay30, k0_pay25, k0_pay26, k0_pay27, k0_pay28, k0_pay29]
  simp only [key, B.h7]

theorem igate_val (i : Fin 256) (l : Fin 512) : igate (conv x1 x5 x6 s1) x9 x10 (ix2 i l) = gateI D (256 * n + i.val) l := by
  unfold igate gateI
  rw [← B.h10, ← grouped_cases]
  pointwise [k0_pay31]
  simp only [conv_val B C, B.h9]

/-- The decay's logarithm at a row of the point. -/
theorem logA_val (i : Fin 256) (l : Fin 512) : k0_pay33 (rgate x1 x5 x6 x7 x8 s1) (k0_pay32 x11) (ix2 i l) = logA D (256 * n + i.val) l := by
  unfold logA logDecay spl
  rw [← rgate_val B C, ← B.h11]
  pointwise [k0_pay33, k0_pay32]

omit B C in
/-- A select on the place in the group of eight: whether `k` rows lie before it. -/
theorem select_ge (s : Fin 8) (x y : EReal) :
    (Scalar.select (IntOp.cmpi CmpIPredicate.sge (BitVec.ofNat 32 s.val) 1#32) x y = if 1 ≤ s.val then x else y)
    ∧ (Scalar.select (IntOp.cmpi CmpIPredicate.sge (BitVec.ofNat 32 s.val) 2#32) x y = if 2 ≤ s.val then x else y)
    ∧ (Scalar.select (IntOp.cmpi CmpIPredicate.sge (BitVec.ofNat 32 s.val) 4#32) x y = if 4 ≤ s.val then x else y) := by
  fin_cases s <;> exact ⟨rfl, rfl, rfl⟩

section Doubling
omit B C
variable (v r i : Vec Ideal S256x512 .f32) (z : Vec Ideal S1x512 .f32) (g : Fin 32) (s : Fin 8) (l : Fin 512)

theorem a1_val : k0_pay37 (F := Ideal) r z (ix3 g s l) = dblA 1 (fun s => k0_pay35 (F := Ideal) r z (ix3 g s l)) s := by
  unfold dblA shf
  pointwise [k0_pay37]
  rw [(select_ge s _ _).1]

theorem a2_val : k0_pay40 (F := Ideal) (k0_pay37 (F := Ideal) r z) (k0_pay38 (F := Ideal) r z) (ix3 g s l) = dblA 2 (fun s => k0_pay37 (F := Ideal) r z (ix3 g s l)) s := by
  unfold dblA shf
  pointwise [k0_pay40, k0_pay38]
  rw [(select_ge s _ _).2.1]

theorem a3_val : prodA r z (ix3 g s l) = dblA 4 (fun s => k0_pay40 (F := Ideal) (k0_pay37 (F := Ideal) r z) (k0_pay38 (F := Ideal) r z) (ix3 g s l)) s := by
  unfold dblA shf prodA
  pointwise [k0_pay42]
  rw [(select_ge s _ _).2.2]

/-- The scaled input at a row, before any doubling. -/
def inRow (v r i : Vec Ideal S256x512 .f32) (z : Vec Ideal S1x512 .f32) (q : Fin 256) (l : Fin 512) : EReal :=
  Ideal.sqrt ((0 - Ideal.tanh (k0_pay33 (F := Ideal) r z (ix2 q l))) * (k0_pay34 (F := Ideal) r z (ix2 q l) * k0_pay34 (F := Ideal) r z (ix2 q l) + 1)) * (i (ix2 q l) * v (ix2 q l))

theorem b1_val : k0_pay36 (F := Ideal) v r i z (ix3 g s l) = dblB 1 (fun s => k0_pay35 (F := Ideal) r z (ix3 g s l)) (fun s => inRow v r i z ⟨g.val * 8 + s.val, by omega⟩ l) s := by
  unfold dblB shf inRow
  pointwise [k0_pay36]
  rw [(select_ge s _ _).1]
  split <;> simp

theorem b3_val : scanB v r i z (ix3 g s l) = dblB 4 (fun s => k0_pay40 (F := Ideal) (k0_pay37 (F := Ideal) r z) (k0_pay38 (F := Ideal) r z) (ix3 g s l))
    (dblB 2 (fun s => k0_pay37 (F := Ideal) r z (ix3 g s l)) (fun s => k0_pay36 (F := Ideal) v r i z (ix3 g s l))) s := by
  unfold scanB
  pointwise [k0_pay41, k0_pay39]
  unfold dblB shf
  rw [(select_ge s _ _).2.2, (select_ge s _ _).2.1,
    (select_ge ⟨(s.val + 8 - 4) % 8, Nat.mod_lt _ (by norm_num)⟩ _ _).2.1]
  simp only [mul_ite, mul_zero]

end Doubling

/-- What a group does to the state it starts from. -/
theorem group_val (g : Fin 32) (s : Fin 8) (l : Fin 512) :
    prodA (rgate x1 x5 x6 x7 x8 s1) (k0_pay32 x11) (ix3 g s l) * st D (256 * n + 8 * g.val) l
      + scanB (conv x1 x5 x6 s1) (rgate x1 x5 x6 x7 x8 s1) (igate (conv x1 x5 x6 s1) x9 x10) (k0_pay32 x11) (ix3 g s l)
      = st D (256 * n + 8 * g.val + s.val + 1) l := by
  rw [a3_val, b3_val]
  simp only [a2_val, a1_val, b1_val]
  have ea : ∀ s : Fin 8, k0_pay35 (F := Ideal) (rgate x1 x5 x6 x7 x8 s1) (k0_pay32 x11) (ix3 g s l) = dec D (256 * n + 8 * g.val + s.val) l := by
    intro s
    have h := logA_val B C ⟨g.val * 8 + s.val, by omega⟩ l
    pointwise [k0_pay35, k0_pay34]
    rw [h]
    unfold dec
    rw [show 256 * n + 8 * g.val + s.val = 256 * n + (g.val * 8 + s.val) by omega]
  have eb : ∀ s : Fin 8, inRow (conv x1 x5 x6 s1) (rgate x1 x5 x6 x7 x8 s1) (igate (conv x1 x5 x6 s1) x9 x10) (k0_pay32 x11) ⟨g.val * 8 + s.val, by omega⟩ l
      = inp D (256 * n + 8 * g.val + s.val) l := by
    intro s
    unfold inRow inp
    rw [conv_val B C, igate_val B C, logA_val B C]
    have e34 : k0_pay34 (F := Ideal) (rgate x1 x5 x6 x7 x8 s1) (k0_pay32 x11) (ix2 ⟨g.val * 8 + s.val, by omega⟩ l) = dec D (256 * n + (g.val * 8 + s.val)) l := by
      have h := logA_val B C ⟨g.val * 8 + s.val, by omega⟩ l
      pointwise [k0_pay34]
      rw [h]
      rfl
    rw [e34]
    rw [show 256 * n + 8 * g.val + s.val = 256 * n + (g.val * 8 + s.val) by omega]
  simp only [ea, eb]
  exact scan8 (fun s => dec_range D _ l) (H := fun k => st D (256 * n + 8 * g.val + k) l) rfl (fun s => rfl) s

/-- The state's rows of the point. -/
theorem state_val (i : Fin 256) (l : Fin 512) :
    hrows (conv x1 x5 x6 s1) (rgate x1 x5 x6 x7 x8 s1) (igate (conv x1 x5 x6 s1) x9 x10) (k0_pay32 x11) s2 (ix2 i l) = st D (256 * n + i.val + 1) l :=
  hrows_val C.c2 (group_val B C) (ix2 i l)

/-- The state carried to the next point. -/
theorem carry_val (l : Fin 512) :
    hlast (conv x1 x5 x6 s1) (rgate x1 x5 x6 x7 x8 s1) (igate (conv x1 x5 x6 s1) x9 x10) (k0_pay32 x11) s2 (ix2 0 l) = st D (256 * (n + 1)) l :=
  hlast_val C.c2 (group_val B C) (ix2 0 l)

/-- The recurrence's result at the rows of the point. -/
theorem lru_val (i : Fin 256) (l : Fin 512) :
    k0_pay1 (hrows (conv x1 x5 x6 s1) (rgate x1 x5 x6 x7 x8 s1) (igate (conv x1 x5 x6 s1) x9 x10) (k0_pay32 x11) s2) x2 (k0_pay85 x2)
      (FloatOps.ofBits .f32 0x3D372713#32) (ix2 i l) = lru D (256 * n + i.val) l := by
  unfold lru gelu
  rw [← B.h2, ← state_val B C]
  pointwise [k0_pay1, k0_pay85]

/-- The input rows carried to the next point. -/
theorem tail_val (j : Fin 8) (l : Fin 512) : k0_pay21 x1 (ix2 j l) = zpad 8 D.X (256 * (n + 1) + j.val) l.val := by
  pointwise [k0_pay21]
  rw [B.h1]
  unfold zpad
  rw [if_pos (by omega)]
  show D.X (256 * n + (248 + j.val)) _ = _
  rw [show 256 * n + (248 + j.val) = 256 * (n + 1) + j.val - 8 by omega]

/-- The pooled rows carried to the next point. -/
theorem tail16_val (j : Fin 16) (l : Fin 512) : k0_pay6 x0 (ix2 j l) = zpad 16 D.aux (256 * (n + 1) + j.val) l.val := by
  pointwise [k0_pay6]
  rw [B.h0]
  unfold zpad
  rw [if_pos (by omega)]
  show D.aux (256 * n + (240 + j.val)) _ = _
  rw [show 256 * n + (240 + j.val) = 256 * (n + 1) + j.val - 16 by omega]

end Cert.KernelIdeal.Lru

end
-- ==== Proof.Lru.Pool.lean ====
/- The pooling mixer at a point of the grid: the windows' sums by doubling, the rows a window holds, the four groups' stores. -/
module

public import proofs.«01_k».proof.Proof.Lru.Point

@[expose] public section

set_option maxRecDepth 16384

noncomputable section

open Idealize.ShloMosaic Idealize.ShloMosaic.TcCoe Idealize.SL.Sem
open scoped BigOperators

namespace Cert.KernelIdeal.Lru

open Cert.KernelIdeal Cert.KernelIdeal.Gen Cert.LruSpec Cert.LruMath

variable {D : Arrs} {n : ℕ} {x0 x1 x2 : Vec Ideal S256x512 .f32} {x3 : Vec Ideal S4x128x128 .bf16} {x4 : Vec Ideal S1x512 .f32}
    {x5 : Vec Ideal S4x512 .f32} {x6 : Vec Ideal S1x512 .f32} {x7 : Vec Ideal S4x128x128 .bf16} {x8 : Vec Ideal S1x512 .f32}
    {x9 : Vec Ideal S4x128x128 .bf16} {x10 x11 : Vec Ideal S1x512 .f32}
    {s0 : Vec Ideal S16x512 .f32} {s1 : Vec Ideal S8x512 .f32} {s2 : Vec Ideal S1x512 .f32}
variable (B : Blocks D n x0 x1 x2 x3 x4 x5 x6 x7 x8 x9 x10 x11) (C : Carried D n s0 s1 s2)

/-- The rows of the point with the sixteen before them, counted from the first of those. -/
def ext (D : Arrs) (n q c : ℕ) : EReal := zpad 16 D.aux (256 * n + q) c

section Sums
include B C

theorem under16 (q : ℕ) (hq : q < 272) (l : Fin 512) :
    (if h : q < 16 then s0 (ix2 ⟨q, h⟩ l) else x0 (ix2 ⟨q - 16, by omega⟩ l)) = ext D n q l.val := by
  split
  · exact C.c0 _ _
  · rename_i h
    rw [B.h0]
    unfold ext zpad
    rw [if_pos (by omega)]
    show D.aux (256 * n + (q - 16)) _ = _
    rw [show 256 * n + (q - 16) = 256 * n + q - 16 by omega]

theorem sum2 (q : Fin 271) (l : Fin 512) : k0_pay7 x0 s0 (ix2 q l) = ext D n (q.val + 1) l.val + ext D n q.val l.val := by
  rw [← under16 B C (q.val + 1) (by omega), ← under16 B C q.val (by omega)]
  simp only [Nat.add_comm q.val 1]
  pointwise [k0_pay7]

theorem sum4 (q : Fin 269) (l : Fin 384) : k0_pay8 x0 s0 (ix2 q l)
    = (ext D n (q.val + 3) (128 + l.val) + ext D n (q.val + 2) (128 + l.val)) + (ext D n (q.val + 1) (128 + l.val) + ext D n q.val (128 + l.val)) := by
  have a := sum2 B C ⟨2 + q.val, by omega⟩ ⟨128 + l.val, by omega⟩
  have b := sum2 B C ⟨q.val, by omega⟩ ⟨128 + l.val, by omega⟩
  simp only [Nat.add_comm 2 q.val] at a
  pointwise [k0_pay8]
  simp only [Nat.add_comm 2 q.val]
  rw [a, b]

theorem sum8 (q : Fin 265) (l : Fin 256) : k0_pay9 x0 s0 (ix2 q l)
    = ((ext D n (q.val + 7) (256 + l.val) + ext D n (q.val + 6) (256 + l.val)) + (ext D n (q.val + 5) (256 + l.val) + ext D n (q.val + 4) (256 + l.val)))
      + ((ext D n (q.val + 3) (256 + l.val) + ext D n (q.val + 2) (256 + l.val)) + (ext D n (q.val + 1) (256 + l.val) + ext D n q.val (256 + l.val))) := by
  have a := sum4 B C ⟨4 + q.val, by omega⟩ ⟨128 + l.val, by omega⟩
  have b := sum4 B C ⟨q.val, by omega⟩ ⟨128 + l.val, by omega⟩
  simp only [Nat.add_comm 4 q.val] at a
  pointwise [k0_pay9]
  simp only [Nat.add_comm 4 q.val]
  rw [a, b]
  simp only [show 128 + (128 + l.val) = 256 + l.val by omega]

omit B C in
theorem ext_row (k : ℕ) (hk : k ≤ 16) (i c : ℕ) : ext D n (i + (16 - k)) c = zpad k D.aux (256 * n + i) c := by
  unfold ext
  rw [← zpad_add k (16 - k), show k + (16 - k) = 16 by omega, Nat.add_assoc]

theorem win2 (i : Fin 256) (d : Fin 128) : k0_pay7 x0 s0 (ix2 ⟨15 + i.val, by omega⟩ ⟨d.val, by omega⟩)
    = ∑ k ∈ Finset.range 2, zpad k D.aux (256 * n + i.val) d.val := by
  rw [sum2 B C]
  simp only [Finset.sum_range_succ, Finset.sum_range_zero, ← ext_row 0 (by norm_num), ← ext_row 1 (by norm_num), Nat.add_comm 15 i.val]
  simp only [zero_add]

theorem win4 (i : Fin 256) (d : Fin 128) : k0_pay10 x0 s0 (ix2 i d) = ∑ k ∈ Finset.range 4, zpad k D.aux (256 * n + i.val) (128 + d.val) := by
  have a := sum4 B C ⟨13 + i.val, by omega⟩ ⟨d.val, by omega⟩
  have e : k0_pay10 x0 s0 (ix2 i d) = k0_pay8 x0 s0 (ix2 ⟨13 + i.val, by omega⟩ ⟨d.val, by omega⟩) := by pointwise [k0_pay10]
  rw [e, a]
  simp only [Finset.sum_range_succ, Finset.sum_range_zero, ← ext_row 0 (by norm_num), ← ext_row 1 (by norm_num), ← ext_row 2 (by norm_num), ← ext_row 3 (by norm_num), Nat.add_comm 13 i.val, zero_add, add_assoc, Nat.reduceAdd, Nat.reduceSub]

theorem win8 (i : Fin 256) (d : Fin 128) : k0_pay11 x0 s0 (ix2 i d) = ∑ k ∈ Finset.range 8, zpad k D.aux (256 * n + i.val) (256 + d.val) := by
  have a := sum8 B C ⟨9 + i.val, by omega⟩ ⟨d.val, by omega⟩
  have e : k0_pay11 x0 s0 (ix2 i d) = k0_pay9 x0 s0 (ix2 ⟨9 + i.val, by omega⟩ ⟨d.val, by omega⟩) := by pointwise [k0_pay11]
  rw [e, a]
  simp only [Finset.sum_range_succ, Finset.sum_range_zero, ← ext_row 0 (by norm_num), ← ext_row 1 (by norm_num), ← ext_row 2 (by norm_num), ← ext_row 3 (by norm_num), ← ext_row 4 (by norm_num), ← ext_row 5 (by norm_num), ← ext_row 6 (by norm_num), ← ext_row 7 (by norm_num), Nat.add_comm 9 i.val, zero_add, add_assoc, Nat.reduceAdd, Nat.reduceSub]

theorem win16 (i : Fin 256) (d : Fin 128) : k0_pay12 x0 s0 (ix2 i d) = ∑ k ∈ Finset.range 16, zpad k D.aux (256 * n + i.val) (384 + d.val) := by
  have a := sum8 B C ⟨8 + (1 + i.val), by omega⟩ ⟨128 + d.val, by omega⟩
  have b := sum8 B C ⟨1 + i.val, by omega⟩ ⟨128 + d.val, by omega⟩
  have e : k0_pay12 x0 s0 (ix2 i d) = k0_pay9 x0 s0 (ix2 ⟨8 + (1 + i.val), by omega⟩ ⟨128 + d.val, by omega⟩) + k0_pay9 x0 s0 (ix2 ⟨1 + i.val, by omega⟩ ⟨128 + d.val, by omega⟩) := by pointwise [k0_pay12]
  rw [e, a, b]
  simp only [show 8 + (i.val + 1) = i.val + 9 by omega, show 1 + i.val = i.val + 1 by omega, show 256 + (128 + d.val) = 384 + d.val by omega]
  simp only [Finset.sum_range_succ, Finset.sum_range_zero, ← ext_row 0 (by norm_num), ← ext_row 1 (by norm_num), ← ext_row 2 (by norm_num), ← ext_row 3 (by norm_num), ← ext_row 4 (by norm_num), ← ext_row 5 (by norm_num), ← ext_row 6 (by norm_num), ← ext_row 7 (by norm_num), ← ext_row 8 (by norm_num), ← ext_row 9 (by norm_num), ← ext_row 10 (by norm_num), ← ext_row 11 (by norm_num), ← ext_row 12 (by norm_num), ← ext_row 13 (by norm_num), ← ext_row 14 (by norm_num), ← ext_row 15 (by norm_num), zero_add, add_assoc, Nat.reduceAdd, Nat.reduceSub]

end Sums

/-! ## The rows a window holds -/

/-- The row's number as a word. -/
theorem row_word (n i : ℕ) : IntOp.addi (Scalar.muli (BitVec.ofNat 32 n) 256#32) (BitVec.ofNat 32 i) = BitVec.ofNat 32 (256 * n + i) := by
  simp [IntOp.addi, Scalar.muli, IntOp.muli, BitVec.ofNat_add, BitVec.ofNat_mul, BitVec.mul_comm]

/-! ## The four groups' stores -/

/-- A column of 128 successive ones lies in their rectangle. -/
theorem mem_cols {k : ℕ} (inb : ∀ a, (![0, k] : Fin 2 → ℕ) a + S256x128.size a ≤ S256x512.size a) (q : Fin 256) (l : Fin 512)
    (h : k ≤ l.val ∧ l.val < k + 128) : (ix2 q l : S256x512.Idx) ∈ (Rect.unit (s := S256x512) ![0, k] S256x128.size inb).set := by
  rw [Rect.mem_set_unit]
  exact fun a => match a with
    | ⟨0, _⟩ => ⟨Nat.zero_le _, by show q.val < 0 + 256; omega⟩
    | ⟨1, _⟩ => h

section Stores
include B C

variable {i : grid0.Coords} (hi : (i 0).val = n) (hn : n < 32)
include hi hn

theorem store0 (q : Fin 256) (d : Fin 128) : k0_pay15 (k0_pay13 i x0 s0) (k0_pay14 (View.ld x3 (Rect.unit (s := S4x128x128) ![0, 0, 0] S1x128x128.size inb_S4x128x128_S1x128x128_0_0_0))) (constant S256x128 .f32 0x00000000#32) (View.ld x4 (Rect.unit (s := S1x512) ![0, 0] S1x128.size inb_S1x512_S1x128_0_0)) (ix2 q d) = poolMix D (256 * n + q.val) (col 0 d) := by
  have hw : win 0 = 2 := rfl
  unfold poolMix grouped diff held
  rw [grp_col, lane_col, ← B.h4]
  simp only [grp_col, hw, ← B.h3, ← B.h0]
  rw [← count_word (256 * n + q.val) 2 (by omega) (by norm_num), ← row_word, ← hi]
  pointwise [k0_pay15, k0_pay14, k0_pay13, k0_pay5]
  simp only [win2 B C, hi]
  have c0 : ∀ x : Fin 128, col 0 x = ⟨x.val, by omega⟩ := fun x => Fin.ext (by simp [col])
  simp only [c0]

theorem store1 (q : Fin 256) (d : Fin 128) : k0_pay16 (k0_pay5 i) x0 (k0_pay10 x0 s0) (View.ld x3 (Rect.unit (s := S4x128x128) ![1, 0, 0] S1x128x128.size inb_S4x128x128_S1x128x128_1_0_0)) (View.ld x4 (Rect.unit (s := S1x512) ![0, 128] S1x128.size inb_S1x512_S1x128_0_128)) (ix2 q d) = poolMix D (256 * n + q.val) (col 1 d) := by
  have hw : win 1 = 4 := rfl
  unfold poolMix grouped diff held
  rw [grp_col, lane_col, ← B.h4]
  simp only [grp_col, hw, ← B.h3, ← B.h0]
  rw [← count_word (256 * n + q.val) 4 (by omega) (by norm_num), ← row_word, ← hi]
  pointwise [k0_pay16, k0_pay5]
  simp only [win4 B C, hi]
  rfl

theorem store2 (q : Fin 256) (d : Fin 128) : k0_pay18 (k0_pay17 (k0_pay5 i) x0 (k0_pay11 x0 s0) (View.ld x3 (Rect.unit (s := S4x128x128) ![2, 0, 0] S1x128x128.size inb_S4x128x128_S1x128x128_2_0_0))) (View.ld x4 (Rect.unit (s := S1x512) ![0, 256] S1x128.size inb_S1x512_S1x128_0_256)) (ix2 q d) = poolMix D (256 * n + q.val) (col 2 d) := by
  have hw : win 2 = 8 := rfl
  unfold poolMix grouped diff held
  rw [grp_col, lane_col, ← B.h4]
  simp only [grp_col, hw, ← B.h3, ← B.h0]
  rw [← count_word (256 * n + q.val) 8 (by omega) (by norm_num), ← row_word, ← hi]
  pointwise [k0_pay18, k0_pay17, k0_pay5]
  simp only [win8 B C, hi]
  rfl

theorem store3 (q : Fin 256) (d : Fin 128) : k0_pay19 (k0_pay5 i) x0 (k0_pay12 x0 s0) (View.ld x3 (Rect.unit (s := S4x128x128) ![3, 0, 0] S1x128x128.size inb_S4x128x128_S1x128x128_3_0_0)) (View.ld x4 (Rect.unit (s := S1x512) ![0, 384] S1x128.size inb_S1x512_S1x128_0_384)) (ix2 q d) = poolMix D (256 * n + q.val) (col 3 d) := by
  have hw : win 3 = 16 := rfl
  unfold poolMix grouped diff held
  rw [grp_col, lane_col, ← B.h4]
  simp only [grp_col, hw, ← B.h3, ← B.h0]
  rw [← count_word (256 * n + q.val) 16 (by omega) (by norm_num), ← row_word, ← hi]
  pointwise [k0_pay19, k0_pay5]
  simp only [win16 B C, hi]
  rfl

/-- The pooled block of the point. -/
theorem pooled_val (q : Fin 256) (l : Fin 512) : pooled i x0 x3 x4 s0 (ix2 q l) = poolMix D (256 * n + q.val) l := by
  unfold pooled
  refine View.canon_apply_of_pieces (Val := Elt Ideal) (e := .f32) (fun y : S256x512.Idx => (poolMix D (256 * n + (y 0).val) (y 1) : EReal)) _ ?_ (ix2 q l) ?_
  · intro p hp x
    have cl : ∀ (g : Fin 4) (a : S256x512.Idx) (q : Fin 256) (d : Fin 128), (a 0).val = q.val → (a 1).val = 128 * g.val + d.val →
        poolMix D (256 * n + q.val) (col g d) = poolMix D (256 * n + (a 0).val) (a 1) := by
      intro g a q d h0 h1
      rw [h0, show a 1 = col g d from Fin.ext h1]
    simp only [List.mem_cons, List.not_mem_nil, or_false] at hp
    rcases hp with rfl | rfl | rfl | rfl
    · exact (congrArg _ (eq_ix2 x)).trans ((store3 B C hi hn (x 0) (x 1)).trans (cl 3 _ _ _ (by show 0 + 1 * (x 0).val = _; omega) (by show 384 + 1 * (x 1).val = 384 + (x 1).val; omega)))
    · exact (congrArg _ (eq_ix2 x)).trans ((store2 B C hi hn (x 0) (x 1)).trans (cl 2 _ _ _ (by show 0 + 1 * (x 0).val = _; omega) (by show 256 + 1 * (x 1).val = 256 + (x 1).val; omega)))
    · exact (congrArg _ (eq_ix2 x)).trans ((store1 B C hi hn (x 0) (x 1)).trans (cl 1 _ _ _ (by show 0 + 1 * (x 0).val = _; omega) (by show 128 + 1 * (x 1).val = 128 + (x 1).val; omega)))
    · exact (congrArg _ (eq_ix2 x)).trans ((store0 B C hi hn (x 0) (x 1)).trans (cl 0 _ _ _ (by show 0 + 1 * (x 0).val = _; omega) (by show 0 + 1 * (x 1).val = 0 + (x 1).val; omega)))
  · have hl := l.isLt
    by_cases h3 : 384 ≤ l.val
    · exact ⟨_, .head _, mem_cols (by decide) q l (by omega)⟩
    by_cases h2 : 256 ≤ l.val
    · exact ⟨_, .tail _ (.head _), mem_cols (by decide) q l (by omega)⟩
    by_cases h1 : 128 ≤ l.val
    · exact ⟨_, .tail _ (.tail _ (.head _)), mem_cols (by decide) q l (by omega)⟩
    · exact ⟨_, .tail _ (.tail _ (.tail _ (.head _))), mem_cols (by decide) q l (by omega)⟩

end Stores

end Cert.KernelIdeal.Lru

end
-- ==== Proof.Lru.Sweep.lean ====
/- The sweep over the grid: every point reads the rows of its number and finds the state and the halo rows of the points before it, so the
   two arrays the kernel writes are the pooling mixer and the recurrence of the argument arrays. -/
module

public import proofs.«01_k».proof.Proof.Lru.Pieces
public import proofs.«01_k».proof.Proof.Lru.Pool
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Lru

open Cert.KernelIdeal Cert.KernelIdeal.Gen Cert.LruSpec

variable (m : (ℓ : Loc nD τ sig) → Buf (Elt Ideal) ℓ) (c : Dev nD)

/-- The argument arrays of the launch. -/
def data : Arrs where
  aux r q := if h : r < 8192 ∧ q < 1664 then m ((c : Thread nD τ).loc main_arg0) (ix2 ⟨r, h.1⟩ ⟨q, h.2⟩ : S8192x1664.Idx) else 0
  poolW g k d := m ((c : Thread nD τ).loc main_arg1) (ix3 g k d : S4x128x128.Idx)
  poolS l := m ((c : Thread nD τ).loc main_arg2) (ix1 l : S512.Idx)
  convW k l := m ((c : Thread nD τ).loc main_arg3) (ix2 k l : S4x512.Idx)
  convB l := m ((c : Thread nD τ).loc main_arg4) (ix1 l : S512.Idx)
  recW g k d := m ((c : Thread nD τ).loc main_arg5) (ix3 g k d : S4x128x128.Idx)
  recB l := m ((c : Thread nD τ).loc main_arg6) (ix1 l : S512.Idx)
  inW g k d := m ((c : Thread nD τ).loc main_arg7) (ix3 g k d : S4x128x128.Idx)
  inB l := m ((c : Thread nD τ).loc main_arg8) (ix1 l : S512.Idx)
  lam l := m ((c : Thread nD τ).loc main_arg9) (ix1 l : S512.Idx)

/-- The windows' block numbers at a point. -/
theorem idxs : ∀ t : Fin grid0.N,
    win0_0.index t = ![t.val, 0] ∧ win0_1.index t = ![t.val, 1] ∧ win0_2.index t = ![t.val, 2]
    ∧ win0_3.index t = ![0, 0, 0] ∧ win0_4.index t = ![0, 0] ∧ win0_5.index t = ![0, 0] ∧ win0_6.index t = ![0, 0]
    ∧ win0_7.index t = ![0, 0, 0] ∧ win0_8.index t = ![0, 0] ∧ win0_9.index t = ![0, 0, 0] ∧ win0_10.index t = ![0, 0]
    ∧ win0_11.index t = ![0, 0] ∧ (grid0.coords t 0).val = t.val ∧ t.val < 32 := by
  decide +kernel

theorem x0_val (t : Fin cfg0.N) (i : Fin 256) (l : Fin 512) :
    X0_0 m c t (ix2 i l) = (data m c).aux (256 * t.val + i.val) (l.val) := by
  have ht := (idxs t).2.2.2.2.2.2.2.2.2.2.2.2.2
  show _ = if h : _ then _ else _
  rw [dif_pos (by omega)]
  unfold X0_0 Pipeline.Window.fill
  rw [dif_pos (moved0_0 t _)]
  blk_ext! [iblk, V, (idxs t).1]

theorem x1_val (t : Fin cfg0.N) (i : Fin 256) (l : Fin 512) :
    X0_1 m c t (ix2 i l) = (data m c).aux (256 * t.val + i.val) (512 + l.val) := by
  have ht := (idxs t).2.2.2.2.2.2.2.2.2.2.2.2.2
  show _ = if h : _ then _ else _
  rw [dif_pos (by omega)]
  unfold X0_1 Pipeline.Window.fill
  rw [dif_pos (moved0_1 t _)]
  blk_ext! [iblk, V, (idxs t).2.1]

theorem x2_val (t : Fin cfg0.N) (i : Fin 256) (l : Fin 512) :
    X0_2 m c t (ix2 i l) = (data m c).aux (256 * t.val + i.val) (1024 + l.val) := by
  have ht := (idxs t).2.2.2.2.2.2.2.2.2.2.2.2.2
  show _ = if h : _ then _ else _
  rw [dif_pos (by omega)]
  unfold X0_2 Pipeline.Window.fill
  rw [dif_pos (moved0_2 t _)]
  blk_ext! [iblk, V, (idxs t).2.2.1]

theorem x3_val (t : Fin cfg0.N) (g : Fin 4) (k d : Fin 128) : iblk m c 3 t (ix3 g k d : S4x128x128.Idx) = (data m c).poolW g k d := by
  unfold data
  blk_ext! [iblk, V, (idxs t).2.2.2.1]

theorem x7_val (t : Fin cfg0.N) (g : Fin 4) (k d : Fin 128) : iblk m c 7 t (ix3 g k d : S4x128x128.Idx) = (data m c).recW g k d := by
  unfold data
  blk_ext! [iblk, V, (idxs t).2.2.2.2.2.2.2.1]

theorem x9_val (t : Fin cfg0.N) (g : Fin 4) (k d : Fin 128) : iblk m c 9 t (ix3 g k d : S4x128x128.Idx) = (data m c).inW g k d := by
  unfold data
  blk_ext! [iblk, V, (idxs t).2.2.2.2.2.2.2.2.2.1]

theorem x5_val (t : Fin cfg0.N) (k : Fin 4) (l : Fin 512) : iblk m c 5 t (ix2 k l : S4x512.Idx) = (data m c).convW k l := by
  unfold data
  blk_ext! [iblk, V, (idxs t).2.2.2.2.2.1]

theorem x4_val (t : Fin cfg0.N) (l : Fin 512) : iblk m c 4 t (ix2 0 l : S1x512.Idx) = (data m c).poolS l := by
  unfold data
  blk_ext! [iblk, V, (idxs t).2.2.2.2.1]

theorem x6_val (t : Fin cfg0.N) (l : Fin 512) : iblk m c 6 t (ix2 0 l : S1x512.Idx) = (data m c).convB l := by
  unfold data
  blk_ext! [iblk, V, (idxs t).2.2.2.2.2.2.1]

theorem x8_val (t : Fin cfg0.N) (l : Fin 512) : iblk m c 8 t (ix2 0 l : S1x512.Idx) = (data m c).recB l := by
  unfold data
  blk_ext! [iblk, V, (idxs t).2.2.2.2.2.2.2.2.1]

theorem x10_val (t : Fin cfg0.N) (l : Fin 512) : iblk m c 10 t (ix2 0 l : S1x512.Idx) = (data m c).inB l := by
  unfold data
  blk_ext! [iblk, V, (idxs t).2.2.2.2.2.2.2.2.2.2.1]

theorem x11_val (t : Fin cfg0.N) (l : Fin 512) : iblk m c 11 t (ix2 0 l : S1x512.Idx) = (data m c).lam l := by
  unfold data
  blk_ext! [iblk, V, (idxs t).2.2.2.2.2.2.2.2.2.2.2.1]

/-- The blocks of a point are the argument arrays at its rows. -/
theorem blocks (t : Fin cfg0.N) : Blocks (data m c) t.val (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) :=
  ⟨x0_val m c t, x1_val m c t, x2_val m c t, x3_val m c t, x4_val m c t, x5_val m c t, x6_val m c t, x7_val m c t, x8_val m c t,
    x9_val m c t, x10_val m c t, x11_val m c t⟩

/-- The zeros the first point stores are the rows before the first. -/
theorem carried_zero (D : Arrs) : Carried D 0 (k0_pay2 (F := Ideal)) (k0_pay3 (F := Ideal)) (k0_pay4 (F := Ideal)) := by
  refine ⟨fun j l => ?_, fun j l => ?_, fun l => ?_⟩
  · unfold zpad
    rw [if_neg (by omega)]
    pointwise [k0_pay2]
  · unfold zpad
    rw [if_neg (by omega)]
    pointwise [k0_pay3]
  · pointwise [k0_pay4]
    rfl

/-- What a point leaves, given what it finds. -/
def Leaves (D : Arrs) (n : ℕ) (o : Vec Ideal S256x512 .f32 × Vec Ideal S256x512 .f32 × Vec Ideal S16x512 .f32 × Vec Ideal S8x512 .f32 × Vec Ideal S1x512 .f32) : Prop :=
  (∀ q l, o.1 (ix2 q l) = poolMix D (256 * n + q.val) l) ∧ (∀ q l, o.2.1 (ix2 q l) = lru D (256 * n + q.val) l)
    ∧ Carried D (n + 1) o.2.2.1 o.2.2.2.1 o.2.2.2.2

/-- A point over the blocks and the scratch it finds. -/
theorem leaves_of {D : Arrs} {n : ℕ} {x0 x1 x2 : Vec Ideal S256x512 .f32} {x3 : Vec Ideal S4x128x128 .bf16} {x4 : Vec Ideal S1x512 .f32}
    {x5 : Vec Ideal S4x512 .f32} {x6 : Vec Ideal S1x512 .f32} {x7 : Vec Ideal S4x128x128 .bf16} {x8 : Vec Ideal S1x512 .f32}
    {x9 : Vec Ideal S4x128x128 .bf16} {x10 x11 : Vec Ideal S1x512 .f32}
    {s0 : Vec Ideal S16x512 .f32} {s1 : Vec Ideal S8x512 .f32} {s2 : Vec Ideal S1x512 .f32}
    (B : Blocks D n x0 x1 x2 x3 x4 x5 x6 x7 x8 x9 x10 x11) (C : Carried D n s0 s1 s2) (i : grid0.Coords) (hi : (i 0).val = n) (hn : n < 32) :
    Leaves D n (pooled i x0 x3 x4 s0,
      k0_pay1 (hrows (conv x1 x5 x6 s1) (rgate x1 x5 x6 x7 x8 s1) (igate (conv x1 x5 x6 s1) x9 x10) (k0_pay32 x11) s2) x2 (k0_pay85 x2)
        (FloatOps.ofBits .f32 0x3D372713#32),
      k0_pay6 x0, k0_pay21 x1,
      hlast (conv x1 x5 x6 s1) (rgate x1 x5 x6 x7 x8 s1) (igate (conv x1 x5 x6 s1) x9 x10) (k0_pay32 x11) s2) :=
  ⟨pooled_val B C hi hn, lru_val B C, tail16_val B C, tail_val B C, carry_val B C⟩

theorem leaves_A (t : Fin cfg0.N) (acc) (h0 : t.val % 32 = 0) : Leaves (data m c) t.val (Value.stAt0 m c t.val t.isLt acc) := by
  have ht := (idxs t).2.2.2.2.2.2.2.2.2.2.2.2
  have hz : t.val = 0 := by omega
  have key := leaves_of (blocks m c t) (hz ▸ carried_zero (data m c)) (grid0.coords t) ht.1 ht.2
  rw [Value.stAt0_A m c t acc h0, out0_A_12_eq, out0_A_13_eq, sout0_A_0_eq, sout0_A_1_eq, sout0_A_2_eq]
  exact key

theorem leaves_B (t : Fin cfg0.N) (acc) (h0 : ¬ t.val % 32 = 0) (C : Carried (data m c) t.val acc.2.2.1 acc.2.2.2.1 acc.2.2.2.2) :
    Leaves (data m c) t.val (Value.stAt0 m c t.val t.isLt acc) := by
  have ht := (idxs t).2.2.2.2.2.2.2.2.2.2.2.2
  have key := leaves_of (blocks m c t) C (grid0.coords t) ht.1 ht.2
  rw [Value.stAt0_B m c t acc h0, out0_B_12_eq, out0_B_13_eq, sout0_B_0_eq, sout0_B_1_eq, sout0_B_2_eq]
  exact key

/-- Every point leaves the rows of its number. -/
theorem leaves : ∀ (n : ℕ) (hn : n < cfg0.N), Leaves (data m c) n (outsAt0 m c n hn)
  | 0, hn => by
    rw [Value.outsAt0_zero]
    exact leaves_A m c ⟨0, hn⟩ _ rfl
  | n + 1, hn => by
    have h32 : n + 1 < 32 := (idxs ⟨n + 1, hn⟩).2.2.2.2.2.2.2.2.2.2.2.2.2
    have ih := leaves n (Nat.lt_of_succ_lt hn)
    rw [Value.outsAt0_succ]
    exact leaves_B m c ⟨n + 1, hn⟩ _ (by show ¬ (n + 1) % 32 = 0; omega) ih.2.2

/-- The pooling mixer's array as the launch leaves it. -/
theorem G12_val (r : Fin 8192) (l : Fin 512) : Value.G12 m c (ix2 r l : S8192x512.Idx) = poolMix (data m c) r.val l := by
  have hp : Value.pt12Of (ix2 r l : S8192x512.Idx) = r.val / 256 := by
    show 1 * (r.val / 256 - 0) + 1 * (l.val / 512 - 0) = _
    omega
  have hN : Value.pt12Of (ix2 r l : S8192x512.Idx) < cfg0.N := by
    rw [hp]
    exact lt_of_lt_of_eq (by omega : r.val / 256 < 32) N_0.symm
  unfold Value.G12
  rw [dif_pos hN]
  have key := (leaves m c _ hN).1 ⟨r.val % 256, Nat.mod_lt _ (by decide)⟩ l
  rw [Value.outsAt0_sweep] at key
  have hl : Value.loc12Of (ix2 r l : S8192x512.Idx) = ix2 ⟨r.val % 256, Nat.mod_lt _ (by decide)⟩ l := by
    funext a
    exact match a with
      | ⟨0, _⟩ => rfl
      | ⟨1, _⟩ => Fin.ext (Nat.mod_eq_of_lt l.isLt)
  rw [hl]
  refine key.trans ?_
  rw [hp]
  show poolMix _ (256 * (r.val / 256) + r.val % 256) l = _
  rw [Nat.div_add_mod]

/-- The recurrence's array as the launch leaves it. -/
theorem G13_val (r : Fin 8192) (l : Fin 512) : Value.G13 m c (ix2 r l : S8192x512.Idx) = lru (data m c) r.val l := by
  have hp : Value.pt13Of (ix2 r l : S8192x512.Idx) = r.val / 256 := by
    show 1 * (r.val / 256 - 0) + 1 * (l.val / 512 - 0) = _
    omega
  have hN : Value.pt13Of (ix2 r l : S8192x512.Idx) < cfg0.N := by
    rw [hp]
    exact lt_of_lt_of_eq (by omega : r.val / 256 < 32) N_0.symm
  unfold Value.G13
  rw [dif_pos hN]
  have key := (leaves m c _ hN).2.1 ⟨r.val % 256, Nat.mod_lt _ (by decide)⟩ l
  rw [Value.outsAt0_sweep] at key
  have hl : Value.loc13Of (ix2 r l : S8192x512.Idx) = ix2 ⟨r.val % 256, Nat.mod_lt _ (by decide)⟩ l := by
    funext a
    exact match a with
      | ⟨0, _⟩ => rfl
      | ⟨1, _⟩ => Fin.ext (Nat.mod_eq_of_lt l.isLt)
  rw [hl]
  refine key.trans ?_
  rw [hp]
  show lru _ (256 * (r.val / 256) + r.val % 256) l = _
  rw [Nat.div_add_mod]

end Cert.KernelIdeal.Lru
end
-- ==== Proof.Lru.RefLoop.lean ====
/- The reference's run over the states of its loop: a valuation reads a state when its four loop buffers are the state's fields and its
   counter is the trip's number; one trip keeps that with `step` applied, so the results are read off the state after all trips. -/
module

public import proofs.«01_k».proof.Proof.Gen.ReferenceIdeal.Run
public import proofs.«01_k».proof.Proof.Gen.ReferenceIdeal.Step

@[expose] public section

noncomputable section

namespace Cert.ReferenceIdeal.RefLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The valuation reads the state `s` before trip `j`. -/
structure Reads (V : Valuation τ sig (Elt F)) (s : State F) (j : ℕ) : Prop where
  h : V (Proc.devRef .tc main_v77_3) = s.main_v77_3
  ys : V (Proc.devRef .tc main_v77_4) = s.main_v77_4
  a : V (Proc.devRef .tc main_v77_0) = s.main_v77_0
  b : V (Proc.devRef .tc main_v77_1) = s.main_v77_1
  n : V (Proc.devRef .tc main_v77_2) = constantI S_ 32 (BitVec.ofNat 32 j)

variable {V : Valuation τ sig (Elt F)} {s : State F} {j : ℕ}

set_option maxRecDepth 8192 in
/-- The new state row. -/
theorem newH (r : Reads V s j) : res_main_while0b_v221 V = Step.b7 j s := by
  unfold res_main_while0b_v221
  simp only [Step.b7, Step.b6, Step.b5, Step.b4, Step.b3, Step.b2, Step.b1, Step.b0]
  rw [r.h, r.a, r.b, r.n]
  rfl

set_option maxRecDepth 8192 in
/-- The rows with the new one written in. -/
theorem newYs (r : Reads V s j) : step_main_v77_4 V = Step.b10 j s := by
  unfold step_main_v77_4
  simp only [Step.b10, Step.b9, Step.b8]
  rw [newH r, r.ys, r.n]
  rfl

set_option maxRecDepth 8192 in
/-- One trip. -/
theorem trip (r : Reads V s j) : Reads (STEP V) (step j s) (j + 1) where
  h := (STEP_main_v77_3 V).trans (newH r)
  ys := (STEP_main_v77_4 V).trans (newYs r)
  a := (STEP_main_v77_0 V).trans r.a
  b := (STEP_main_v77_1 V).trans r.b
  n := by
    rw [STEP_main_v77_2]
    unfold step_main_v77_2
    rw [r.n]
    funext i
    show BitVec.ofNat 32 j + 1#32 = BitVec.ofNat 32 (j + 1)
    simp only [BitVec.ofNat_add]

/-- The state the first trip starts from, over the memory's arguments. -/
abbrev start (m : (ℓ : Loc nD τ sig) → Buf (Elt F) ℓ) (c : Dev nD) : State F :=
  init (m ((c.tc : Thread nD τ).loc main_arg0)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

variable (m : (ℓ : Loc nD τ sig) → Buf (Elt F) ℓ) (c : Dev nD)

set_option maxRecDepth 65536 in
set_option maxHeartbeats 500000 in
/-- Before the first trip. -/
theorem first : Reads (entryContents preI m c) (start m c) 0 := by
  constructor <;> (simp only [entryContents, afterL_cons, afterL_nil]; after_reads_simp) <;> rfl

/-- Before trip `k`. -/
theorem before (it : ℕ → State F) (h0 : it 0 = start m c) (hs : ∀ n, it (n + 1) = step n (it n)) (k : ℕ) :
    Reads (STEP^[k] (entryContents preI m c)) (it k) k := by
  induction k with
  | zero => rw [h0]; exact first m c
  | succ k ih => rw [Function.iterate_succ_apply', hs k]; exact trip ih

set_option maxRecDepth 8192 in
/-- The run: the results over the state after the last trip, the arguments kept. -/
theorem run (ρ : Dev nD → PrngReg) (it : Dev nD → ℕ → State F)
    (h0 : ∀ c, it c 0 = start m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v217) = Step.R_main_v217 (it c 8192) (m ((c.tc : Thread nD τ).loc main_arg0)) (m ((c.tc : Thread nD τ).loc main_arg1)) (m ((c.tc : Thread nD τ).loc main_arg2))
      ∧ r.2.mem ((c.tc : Thread nD τ).loc main_v92) = Step.R_main_v92 (it c 8192) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ?_) (Value.run m ρ)
  have e := before m c (it c) (h0 c) (hs c) 8192
  refine ⟨(h c).1.trans ?_, (h c).2.1.trans ?_, (h c).2.2⟩
  · unfold out_main_v217 Step.R_main_v217
    rw [iter_main_arg0 m c 8192, iter_main_arg1 m c 8192, iter_main_arg2 m c 8192]
    try rfl
  · unfold out_main_v92 Step.R_main_v92
    rw [e.ys, iter_main_arg0 m c 8192]
    try rfl

end Cert.ReferenceIdeal.RefLoop

end
-- ==== Proof.Lru.Ref.lean ====
/- What the reference computes, read at an index: its stages before the loop, one trip, the state after every trip, and the two results. -/
module

public import proofs.«01_k».proof.Proof.Lru.RefLoop
public import proofs.«01_k».proof.Proof.Lru.Spec
public import Idealize.ShloMosaic.Lib.Pointwise
public import Idealize.ShloMosaic.PureOps.Ideal

@[expose] public section

set_option maxRecDepth 16384

noncomputable section

open Idealize.ShloMosaic Idealize.ShloMosaic.TcCoe Idealize.SL.Sem
open scoped BigOperators

namespace Cert.ReferenceIdeal.Lru

open Cert.ReferenceIdeal Cert.ReferenceIdeal.Gen Cert.LruSpec Cert.LruMath

variable (a0 : S8192x1664.Idx → EReal) (a1 : S4x128x128.Idx → EReal) (a2 : S512.Idx → EReal) (a3 : S4x512.Idx → EReal)
  (a4 : S512.Idx → EReal) (a5 : S4x128x128.Idx → EReal) (a6 : S512.Idx → EReal) (a7 : S4x128x128.Idx → EReal) (a8 a9 : S512.Idx → EReal)

/-- The argument arrays. -/
def data : Arrs where
  aux r q := if h : r < 8192 ∧ q < 1664 then a0 (ix2 ⟨r, h.1⟩ ⟨q, h.2⟩) else 0
  poolW g k d := a1 (ix3 g k d)
  poolS l := a2 (ix1 l)
  convW k l := a3 (ix2 k l)
  convB l := a4 (ix1 l)
  recW g k d := a5 (ix3 g k d)
  recB l := a6 (ix1 l)
  inW g k d := a7 (ix3 g k d)
  inB l := a8 (ix1 l)
  lam l := a9 (ix1 l)

/-- The input rows under their zero rows. -/
theorem rows_val (q : Fin 8195) (l : Fin 512) :
    Step.A_main_v2 (F := Ideal) a0 a3 a4 a5 a6 a7 a8 a9 (ix2 q l) = zpad 3 (data a0 a1 a2 a3 a4 a5 a6 a7 a8 a9).X q.val l.val := by
  unfold zpad Arrs.X data
  pointwise [Step.A_main_v2, Step.A_main_v0, Step.K_main_v1, Step.K_main_cst]
  show (if h : q.val < 3 then (0 : EReal) else a0 (ix2 ⟨q.val - 3, by omega⟩ ⟨512 + l.val, by omega⟩)) = _
  by_cases h : q.val < 3
  · rw [dif_pos h, if_neg (by omega)]
  · rw [dif_neg h, if_pos (by omega), dif_pos (by omega)]

/-- The convolution. -/
theorem conv_val (r : Fin 8192) (l : Fin 512) :
    Step.A_main_v34 (F := Ideal) a0 a3 a4 a5 a6 a7 a8 a9 (ix2 r l) = xc (data a0 a1 a2 a3 a4 a5 a6 a7 a8 a9) r.val l := by
  unfold xc
  pointwise [Step.K_main_cst, Step.K_main_v1, Step.K_main_cst_0, Step.K_main_v9, Step.K_main_cst_1, Step.K_main_v44, Step.K_main_cst_2, Step.K_main_v46, Step.K_main_cst_3, Step.K_main_v56, Step.K_main_cst_4, Step.K_main_v58, Step.K_main_cst_5, Step.K_main_v60, Step.K_main_call0_cst, Step.K_main_call0_v0, Step.K_main_call0_v2, Step.K_main_call0_v5, Step.K_main_cst_6, Step.K_main_v68, Step.K_main_cst_7, Step.K_main_v75, Step.K_main_cst_8, Step.K_main_v76, Step.K_main_c, Step.A_main_v3, Step.A_main_v4, Step.A_main_v5, Step.A_main_v6, Step.A_main_v7, Step.A_main_v8, Step.A_main_v10, Step.A_main_v11, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30, Step.A_main_v31, Step.A_main_v32, Step.A_main_v33, Step.A_main_v34]
  simp only [rows_val a0 a1 a2]
  rw [show zpad 3 (data a0 a1 a2 a3 a4 a5 a6 a7 a8 a9).X (1 + r.val) l.val = zpad 2 (data a0 a1 a2 a3 a4 a5 a6 a7 a8 a9).X r.val l.val by
      rw [Nat.add_comm 1]; exact zpad_add 2 1 _ _ _,
    show zpad 3 (data a0 a1 a2 a3 a4 a5 a6 a7 a8 a9).X (2 + r.val) l.val = zpad 1 (data a0 a1 a2 a3 a4 a5 a6 a7 a8 a9).X r.val l.val by
      rw [Nat.add_comm 2]; exact zpad_add 1 2 _ _ _,
    show zpad 3 (data a0 a1 a2 a3 a4 a5 a6 a7 a8 a9).X (3 + r.val) l.val = (data a0 a1 a2 a3 a4 a5 a6 a7 a8 a9).X r.val l.val by
      rw [Nat.add_comm 3]; exact (zpad_add 0 3 _ _ _).trans (zpad_zero _ _ _)]
  show _ = a4 (ix1 l) + a3 (ix2 0 l) * _ + a3 (ix2 1 l) * _ + a3 (ix2 2 l) * _ + a3 (ix2 3 l) * _
  rw [mul_comm (a3 (ix2 0 l)), mul_comm (a3 (ix2 1 l)), mul_comm (a3 (ix2 2 l)), mul_comm (a3 (ix2 3 l))]
  exact (show ∀ p q r s b : EReal, p + q + r + s + b = b + p + q + r + s by intros; ac_rfl) _ _ _ _ _

/-- The two gates. -/
theorem rgate_val (r : Fin 8192) (l : Fin 512) :
    Step.A_main_v47 (F := Ideal) a0 a3 a4 a5 a6 a7 a8 a9 (ix2 r l) = gateR (data a0 a1 a2 a3 a4 a5 a6 a7 a8 a9) r.val l := by
  unfold gateR grouped
  pointwise [Step.K_main_cst, Step.K_main_v1, Step.K_main_cst_0, Step.K_main_v9, Step.K_main_cst_1, Step.K_main_v44, Step.K_main_cst_2, Step.K_main_v46, Step.K_main_cst_3, Step.K_main_v56, Step.K_main_cst_4, Step.K_main_v58, Step.K_main_cst_5, Step.K_main_v60, Step.K_main_call0_cst, Step.K_main_call0_v0, Step.K_main_call0_v2, Step.K_main_call0_v5, Step.K_main_cst_6, Step.K_main_v68, Step.K_main_cst_7, Step.K_main_v75, Step.K_main_cst_8, Step.K_main_v76, Step.K_main_c, Step.A_main_v35, Step.A_main_v36, Step.A_main_v37, Step.A_main_v38, Step.A_main_v39, Step.A_main_v40, Step.A_main_v41, Step.A_main_v42, Step.A_main_v43, Step.A_main_v45, Step.A_main_v47]
  refine congrArg (fun z => Ideal.logistic (z + a6 (ix1 l))) (Finset.sum_congr rfl fun x _ => ?_)
  rw [mul_comm, ← conv_val a0 a1 a2]
  have e : (⟨l.val / 128 * 128 + x.val, by omega⟩ : Fin 512) = col (grp l) x := Fin.ext (congrArg (· + x.val) (Nat.mul_comm _ _))
  rw [e]
  rfl

theorem igate_val (r : Fin 8192) (l : Fin 512) :
    Step.A_main_v59 (F := Ideal) a0 a3 a4 a5 a6 a7 a8 a9 (ix2 r l) = gateI (data a0 a1 a2 a3 a4 a5 a6 a7 a8 a9) r.val l := by
  unfold gateI grouped
  pointwise [Step.K_main_cst, Step.K_main_v1, Step.K_main_cst_0, Step.K_main_v9, Step.K_main_cst_1, Step.K_main_v44, Step.K_main_cst_2, Step.K_main_v46, Step.K_main_cst_3, Step.K_main_v56, Step.K_main_cst_4, Step.K_main_v58, Step.K_main_cst_5, Step.K_main_v60, Step.K_main_call0_cst, Step.K_main_call0_v0, Step.K_main_call0_v2, Step.K_main_call0_v5, Step.K_main_cst_6, Step.K_main_v68, Step.K_main_cst_7, Step.K_main_v75, Step.K_main_cst_8, Step.K_main_v76, Step.K_main_c, Step.A_main_v35, Step.K_main_cst, Step.K_main_v1, Step.K_main_cst_0, Step.K_main_v9, Step.K_main_cst_1, Step.K_main_v44, Step.K_main_cst_2, Step.K_main_v46, Step.K_main_cst_3, Step.K_main_v56, Step.K_main_cst_4, Step.K_main_v58, Step.K_main_cst_5, Step.K_main_v60, Step.K_main_call0_cst, Step.K_main_call0_v0, Step.K_main_call0_v2, Step.K_main_call0_v5, Step.K_main_cst_6, Step.K_main_v68, Step.K_main_cst_7, Step.K_main_v75, Step.K_main_cst_8, Step.K_main_v76, Step.K_main_c, Step.A_main_v48, Step.A_main_v49, Step.A_main_v50, Step.A_main_v51, Step.A_main_v52, Step.A_main_v53, Step.A_main_v54, Step.A_main_v55, Step.A_main_v57, Step.A_main_v59]
  refine congrArg (fun z => Ideal.logistic (z + a8 (ix1 l))) (Finset.sum_congr rfl fun x _ => ?_)
  rw [mul_comm, ← conv_val a0 a1 a2]
  have e : (⟨l.val / 128 * 128 + x.val, by omega⟩ : Fin 512) = col (grp l) x := Fin.ext (congrArg (· + x.val) (Nat.mul_comm _ _))
  rw [e]
  rfl

theorem logA_val (r : Fin 8192) (l : Fin 512) :
    Step.A_main_v66 (F := Ideal) a0 a3 a4 a5 a6 a7 a8 a9 (ix2 r l) = logA (data a0 a1 a2 a3 a4 a5 a6 a7 a8 a9) r.val l := by
  unfold logA logDecay spl
  rw [← rgate_val]
  pointwise [Step.K_main_cst, Step.K_main_v1, Step.K_main_cst_0, Step.K_main_v9, Step.K_main_cst_1, Step.K_main_v44, Step.K_main_cst_2, Step.K_main_v46, Step.K_main_cst_3, Step.K_main_v56, Step.K_main_cst_4, Step.K_main_v58, Step.K_main_cst_5, Step.K_main_v60, Step.K_main_call0_cst, Step.K_main_call0_v0, Step.K_main_call0_v2, Step.K_main_call0_v5, Step.K_main_cst_6, Step.K_main_v68, Step.K_main_cst_7, Step.K_main_v75, Step.K_main_cst_8, Step.K_main_v76, Step.K_main_c, Step.A_main_v61, Step.A_main_v62, Step.A_main_v63, Step.A_main_v64, Step.A_main_v65, Step.A_main_v66, Step.A_main_call0_v1, Step.A_main_call0_v3, Step.A_main_call0_v4, Step.A_main_call0_v6, Step.A_main_call0_v7, Step.A_main_call0_v8, Step.A_main_call0_v9, Step.A_main_call0_v10, Step.A_main_call0_v11]
  rw [zero_sub, zero_sub, if_neg (fun h => h rfl)]
  rfl

theorem dec_val (r : Fin 8192) (l : Fin 512) :
    Step.A_main_v67 (F := Ideal) a0 a3 a4 a5 a6 a7 a8 a9 (ix2 r l) = dec (data a0 a1 a2 a3 a4 a5 a6 a7 a8 a9) r.val l := by
  unfold dec
  rw [← logA_val]
  pointwise [Step.A_main_v67]

theorem inp_val (r : Fin 8192) (l : Fin 512) :
    Step.A_main_v74 (F := Ideal) a0 a3 a4 a5 a6 a7 a8 a9 (ix2 r l) = inp (data a0 a1 a2 a3 a4 a5 a6 a7 a8 a9) r.val l := by
  unfold inp dec
  rw [scale_eq (logA_le _ _ _), ← logA_val, ← igate_val, ← conv_val a0 a1 a2]
  pointwise [Step.K_main_cst, Step.K_main_v1, Step.K_main_cst_0, Step.K_main_v9, Step.K_main_cst_1, Step.K_main_v44, Step.K_main_cst_2, Step.K_main_v46, Step.K_main_cst_3, Step.K_main_v56, Step.K_main_cst_4, Step.K_main_v58, Step.K_main_cst_5, Step.K_main_v60, Step.K_main_call0_cst, Step.K_main_call0_v0, Step.K_main_call0_v2, Step.K_main_call0_v5, Step.K_main_cst_6, Step.K_main_v68, Step.K_main_cst_7, Step.K_main_v75, Step.K_main_cst_8, Step.K_main_v76, Step.K_main_c, Step.A_main_v69, Step.A_main_v70, Step.A_main_v71, Step.A_main_v72, Step.A_main_v73, Step.A_main_v74]
  rw [show Ideal.ofBits FTy.f32 1073741824#32 = ((2 : ℝ) : EReal) by simp [Ideal.ofBits, Ideal.ieee, -EReal.coe_mul, -EReal.coe_neg]; norm_num]

/-- Where a trip's slices start. -/
abbrev start (j : ℕ) : Fin S8192x512.rank → Int :=
  fun k => BitVec.toInt ((![constantI S_ 32 (BitVec.ofNat 32 j), constantI S_ 32 0#32] : Fin 2 → (S_.Idx → BitVec 32)) k (Shape.Idx.first h_S_))

theorem start_row (j : ℕ) (hj : j < 8192) (h) : Host.clampedStart S8192x512 S1x512 h (start j) 0 = j := by
  have e : BitVec.toInt (BitVec.ofNat 32 j) = (j : Int) := by
    rw [BitVec.toInt_eq_toNat_of_lt (by rw [BitVec.toNat_ofNat]; omega), BitVec.toNat_ofNat]
    omega
  unfold Host.clampedStart
  show ((min (max (BitVec.toInt (BitVec.ofNat 32 j)) 0) _ : Int)).toNat = j
  rw [e]
  show (min (max (j : Int) 0) ((8192 - 1 : ℕ) : Int)).toNat = j
  omega

theorem start_col (j : ℕ) (h) : Host.clampedStart S8192x512 S1x512 h (start j) 1 = 0 := by
  unfold Host.clampedStart
  show (min (max (BitVec.toInt 0#32) 0) ((512 - 512 : ℕ) : Int)).toNat = 0
  rfl

/-- One trip: the new state row, and the rows with it written in. -/
theorem b7_val (j : ℕ) (hj : j < 8192) (s : Step.State Ideal) (l : Fin 512) :
    Step.b7 j s (ix1 l) = s.main_v77_0 (ix2 ⟨j, hj⟩ l) * s.main_v77_3 (ix1 l) + s.main_v77_1 (ix2 ⟨j, hj⟩ l) := by
  pointwise [Step.b7, Step.b6, Step.b5, Step.b4, Step.b3, Step.b2, Step.b1, Step.b0]
  have e : ∀ (h1 : S1x512.rank = S8192x512.rank) h2 (h3 : S1x512.rank = S8192x512.rank) h4, (ix2 ⟨Host.clampedStart S8192x512 S1x512 h1 (start j) 0, h2⟩ ⟨Host.clampedStart S8192x512 S1x512 h3 (start j) 1 + l.val, h4⟩ : S8192x512.Idx) = ix2 ⟨j, hj⟩ l := by
    intro h1 h2 h3 h4
    refine congrArg₂ ix2 (Fin.ext (start_row j hj h1)) (Fin.ext ?_)
    show Host.clampedStart S8192x512 S1x512 h3 (start j) 1 + l.val = l.val
    rw [start_col, Nat.zero_add]
  exact congrArg₂ (fun x y => s.main_v77_0 x * s.main_v77_3 (ix1 l) + s.main_v77_1 y) (e _ _ _ _) (e _ _ _ _)

theorem b10_val (j : ℕ) (hj : j < 8192) (s : Step.State Ideal) (r : Fin 8192) (l : Fin 512) :
    Step.b10 j s (ix2 r l) = if r.val = j then Step.b7 j s (ix1 l) else s.main_v77_4 (ix2 r l) := by
  pointwise [Step.b10, Step.b9, Step.b8]
  have e0 : ∀ h, Host.clampedStart S8192x512 S1x512 h (start j) 0 = j := start_row j hj
  have e1 : ∀ h, Host.clampedStart S8192x512 S1x512 h (start j) 1 = 0 := start_col j
  unfold start at e0 e1
  by_cases h : r.val = j
  · rw [if_pos h, dif_pos (by rw [e0, e1]; omega)]
    exact congrArg (fun x => Step.b7 j s (ix1 x)) (Fin.ext (by show l.val - Host.clampedStart S8192x512 S1x512 _ _ 1 = l.val; rw [e1, Nat.sub_zero]))
  · rw [if_neg h, dif_neg (by rw [e0, e1]; omega)]

/-- The states before the trips. -/
def state : ℕ → Step.State Ideal
  | 0 => Step.init a0 a3 a4 a5 a6 a7 a8 a9
  | j + 1 => Step.step j (state j)

/-- Before trip `j` the state row is the recurrence's, and the rows before `j` hold the states after them. -/
theorem state_val (j : ℕ) (hj : j ≤ 8192) :
    (state a0 a3 a4 a5 a6 a7 a8 a9 j).main_v77_0 = Step.A_main_v67 (F := Ideal) a0 a3 a4 a5 a6 a7 a8 a9
    ∧ (state a0 a3 a4 a5 a6 a7 a8 a9 j).main_v77_1 = Step.A_main_v74 (F := Ideal) a0 a3 a4 a5 a6 a7 a8 a9
    ∧ (∀ l : Fin 512, (state a0 a3 a4 a5 a6 a7 a8 a9 j).main_v77_3 (ix1 l) = st (data a0 a1 a2 a3 a4 a5 a6 a7 a8 a9) j l)
    ∧ ∀ (r : Fin 8192) (l : Fin 512), r.val < j → (state a0 a3 a4 a5 a6 a7 a8 a9 j).main_v77_4 (ix2 r l) = st (data a0 a1 a2 a3 a4 a5 a6 a7 a8 a9) (r.val + 1) l := by
  induction j with
  | zero =>
    refine ⟨rfl, rfl, fun l => ?_, fun r l h => absurd h (Nat.not_lt_zero _)⟩
    show Step.K_main_v75 (F := Ideal) (ix1 l) = 0
    pointwise [Step.K_main_v75, Step.K_main_cst_7]
  | succ j ih =>
    obtain ⟨h0, h1, h3, h4⟩ := ih (Nat.le_of_succ_le hj)
    have hb : ∀ l : Fin 512, Step.b7 j (state a0 a3 a4 a5 a6 a7 a8 a9 j) (ix1 l) = st (data a0 a1 a2 a3 a4 a5 a6 a7 a8 a9) (j + 1) l := by
      intro l
      rw [b7_val j hj, h0, h1, h3, dec_val a0 a1 a2, inp_val a0 a1 a2]
      rfl
    refine ⟨h0, h1, hb, fun r l hr => ?_⟩
    refine (b10_val j hj _ r l).trans ?_
    split
    · rename_i h
      rw [hb, h]
    · exact h4 r l (by omega)

/-- The recurrence's result. -/
theorem lru_val (r : Fin 8192) (l : Fin 512) :
    Step.R_main_v92 (state a0 a3 a4 a5 a6 a7 a8 a9 8192) a0 (ix2 r l) = lru (data a0 a1 a2 a3 a4 a5 a6 a7 a8 a9) r.val l := by
  unfold lru gelu
  pointwise [Step.R_main_v92]
  rw [(state_val a0 a1 a2 a3 a4 a5 a6 a7 a8 a9 8192 le_rfl).2.2.2 r l r.isLt]
  rw [show (data a0 a1 a2 a3 a4 a5 a6 a7 a8 a9).aux r.val (1024 + l.val) = a0 (ix2 r ⟨1024 + l.val, by omega⟩) from dif_pos (by omega)]

/-- A row under `w` zero rows. -/
theorem padded (w k : ℕ) (r : Fin 8192) (c : ℕ) (hk : k < w) (hc : c < 1664) :
    (if h : k + r.val < w then (0 : EReal) else a0 (ix2 ⟨k + r.val - w, by omega⟩ ⟨c, hc⟩)) = zpad (w - k) (data a0 a1 a2 a3 a4 a5 a6 a7 a8 a9).aux r.val c := by
  unfold zpad
  by_cases h : k + r.val < w
  · rw [dif_pos h, if_neg (by omega)]
  · rw [dif_neg h, if_pos (by omega)]
    have e : (data a0 a1 a2 a3 a4 a5 a6 a7 a8 a9).aux (r.val - (w - k)) c = a0 (ix2 ⟨r.val - (w - k), by omega⟩ ⟨c, hc⟩) := dif_pos ⟨by omega, hc⟩
    rw [e]
    exact congrArg (fun q : Fin 8192 => a0 (ix2 q ⟨c, hc⟩)) (Fin.ext (by show k + r.val - w = r.val - (w - k); omega))

theorem padded_zero (w : ℕ) (r : Fin 8192) (c : ℕ) (hk : 0 < w) (hc : c < 1664) :
    (if h : r.val < w then (0 : EReal) else a0 (ix2 ⟨r.val - w, by omega⟩ ⟨c, hc⟩)) = zpad w (data a0 a1 a2 a3 a4 a5 a6 a7 a8 a9).aux r.val c := by
  have := padded a0 a1 a2 a3 a4 a5 a6 a7 a8 a9 w 0 r c hk hc
  simpa only [Nat.zero_add, Nat.sub_zero] using this

theorem unpadded (r : Fin 8192) (c : ℕ) (hc : c < 1664) : a0 (ix2 r ⟨c, hc⟩) = zpad 0 (data a0 a1 a2 a3 a4 a5 a6 a7 a8 a9).aux r.val c := by
  rw [zpad_zero]
  have e : (data a0 a1 a2 a3 a4 a5 a6 a7 a8 a9).aux r.val c = a0 (ix2 r ⟨c, hc⟩) := dif_pos ⟨r.isLt, hc⟩
  exact e.symm

/-- The number of rows in a window. -/
theorem held_word (g : Fin 4) (r : Fin 8192) (w : ℕ) (hw : w = win g) (h16 : w ≤ 16) :
    (FloatOps.sitofp (F := Ideal) FTy.f32 (IntOp.minsi (IntOp.addi (BitVec.ofNat 32 r.val) 1#32) (BitVec.ofNat 32 w)) : EReal) = held g r.val := by
  subst hw
  exact count_word r.val _ r.isLt h16

/-- A window's sum from its oldest row to its newest. -/
theorem plus {a b c d : EReal} (h : a = b) (k : c = d) : a + c = b + d := by rw [h, k]
theorem quot {a b c d e f : EReal} (h : a = b) (k : c = d) (l : e = f) : Ideal.div a c - e = Ideal.div b d - f := by rw [h, k, l]
theorem rev2 (z : ℕ → EReal) : z 1 + z 0 = ∑ k ∈ Finset.range 2, z k := by
  simp only [Finset.sum_range_succ, Finset.sum_range_zero, zero_add]; ac_rfl
theorem rev4 (z : ℕ → EReal) : z 3 + z 2 + z 1 + z 0 = ∑ k ∈ Finset.range 4, z k := by
  simp only [Finset.sum_range_succ, Finset.sum_range_zero, zero_add]; ac_rfl
theorem rev8 (z : ℕ → EReal) : z 7 + z 6 + z 5 + z 4 + z 3 + z 2 + z 1 + z 0 = ∑ k ∈ Finset.range 8, z k := by
  simp only [Finset.sum_range_succ, Finset.sum_range_zero, zero_add]; ac_rfl
theorem rev16 (z : ℕ → EReal) :
    z 15 + z 14 + z 13 + z 12 + z 11 + z 10 + z 9 + z 8 + z 7 + z 6 + z 5 + z 4 + z 3 + z 2 + z 1 + z 0 = ∑ k ∈ Finset.range 16, z k := by
  simp only [Finset.sum_range_succ, Finset.sum_range_zero, zero_add]; ac_rfl

theorem diff_col (D : Arrs) (r : ℕ) (g : Fin 4) (d : Fin 128) : diff D r (col g d) =
    Ideal.div (∑ k ∈ Finset.range (win g), zpad k D.aux r (128 * g.val + d.val)) (held g r) - D.aux r (128 * g.val + d.val) := by
  unfold diff
  rw [grp_col]
  rfl

/-- The pooling mixer's result. -/
theorem pool_val (s : Step.State Ideal) (r : Fin 8192) (l : Fin 512) :
    Step.R_main_v217 s a0 a1 a2 (ix2 r l) = poolMix (data a0 a1 a2 a3 a4 a5 a6 a7 a8 a9) r.val l := by
  unfold poolMix grouped
  pointwise [Step.R_main_v217]
  refine congrArg (fun z => z * a2 (ix1 l)) (Finset.sum_congr rfl fun x _ => ?_)
  rw [mul_comm]
  refine congrArg (fun z => z * a1 (ix3 (grp l) x (lane l))) ?_
  have hl := l.isLt
  have hx := x.isLt
  by_cases g0 : l.val / 128 = 0
  · have hg : grp l = 0 := Fin.ext g0
    rw [dif_pos (by omega : l.val / 128 < 1)]
    rw [hg]
    refine Eq.trans ?_ (diff_col _ _ _ _).symm
    rw [show 128 * ((0 : Fin 4) : ℕ) + x.val = x.val from Nat.zero_add _]
    exact quot ((plus (padded_zero a0 a1 a2 a3 a4 a5 a6 a7 a8 a9 1 r (x.val) (by omega) (by omega)) (unpadded a0 a1 a2 a3 a4 a5 a6 a7 a8 a9 r (x.val) (by omega))).trans
      (rev2 fun k => zpad k (data a0 a1 a2 a3 a4 a5 a6 a7 a8 a9).aux r.val (x.val))) (held_word 0 r 2 rfl (by decide))
      ((unpadded a0 a1 a2 a3 a4 a5 a6 a7 a8 a9 r (x.val) (by omega)).trans (zpad_zero _ _ _))
  by_cases g1 : l.val / 128 = 1
  · have hg : grp l = 1 := Fin.ext g1
    have h0 : ¬ l.val / 128 < 1 := by omega
    rw [dif_neg h0]
    rw [dif_pos (by omega : l.val / 128 - 1 < 1)]
    rw [hg]
    refine Eq.trans ?_ (diff_col _ _ _ _).symm
    exact quot ((plus (plus (plus (padded_zero a0 a1 a2 a3 a4 a5 a6 a7 a8 a9 3 r (128 + x.val) (by omega) (by omega)) (padded a0 a1 a2 a3 a4 a5 a6 a7 a8 a9 3 1 r (128 + x.val) (by omega) (by omega))) (padded a0 a1 a2 a3 a4 a5 a6 a7 a8 a9 3 2 r (128 + x.val) (by omega) (by omega))) (unpadded a0 a1 a2 a3 a4 a5 a6 a7 a8 a9 r (128 + x.val) (by omega))).trans
      (rev4 fun k => zpad k (data a0 a1 a2 a3 a4 a5 a6 a7 a8 a9).aux r.val (128 + x.val))) (held_word 1 r 4 rfl (by decide))
      ((unpadded a0 a1 a2 a3 a4 a5 a6 a7 a8 a9 r (128 + x.val) (by omega)).trans (zpad_zero _ _ _))
  by_cases g2 : l.val / 128 = 2
  · have hg : grp l = 2 := Fin.ext g2
    have h0 : ¬ l.val / 128 < 1 := by omega
    have h1 : ¬ l.val / 128 - 1 < 1 := by omega
    rw [dif_neg h0]; rw [dif_neg h1]
    rw [dif_pos (by omega : l.val / 128 - 1 - 1 < 1)]
    rw [hg]
    refine Eq.trans ?_ (diff_col _ _ _ _).symm
    exact quot ((plus (plus (plus (plus (plus (plus (plus (padded_zero a0 a1 a2 a3 a4 a5 a6 a7 a8 a9 7 r (256 + x.val) (by omega) (by omega)) (padded a0 a1 a2 a3 a4 a5 a6 a7 a8 a9 7 1 r (256 + x.val) (by omega) (by omega))) (padded a0 a1 a2 a3 a4 a5 a6 a7 a8 a9 7 2 r (256 + x.val) (by omega) (by omega))) (padded a0 a1 a2 a3 a4 a5 a6 a7 a8 a9 7 3 r (256 + x.val) (by omega) (by omega))) (padded a0 a1 a2 a3 a4 a5 a6 a7 a8 a9 7 4 r (256 + x.val) (by omega) (by omega))) (padded a0 a1 a2 a3 a4 a5 a6 a7 a8 a9 7 5 r (256 + x.val) (by omega) (by omega))) (padded a0 a1 a2 a3 a4 a5 a6 a7 a8 a9 7 6 r (256 + x.val) (by omega) (by omega))) (unpadded a0 a1 a2 a3 a4 a5 a6 a7 a8 a9 r (256 + x.val) (by omega))).trans
      (rev8 fun k => zpad k (data a0 a1 a2 a3 a4 a5 a6 a7 a8 a9).aux r.val (256 + x.val))) (held_word 2 r 8 rfl (by decide))
      ((unpadded a0 a1 a2 a3 a4 a5 a6 a7 a8 a9 r (256 + x.val) (by omega)).trans (zpad_zero _ _ _))
  · have hg : grp l = 3 := Fin.ext (by show l.val / 128 = 3; omega)
    have h0 : ¬ l.val / 128 < 1 := by omega
    have h1 : ¬ l.val / 128 - 1 < 1 := by omega
    have h2 : ¬ l.val / 128 - 1 - 1 < 1 := by omega
    rw [dif_neg h0]; rw [dif_neg h1]; rw [dif_neg h2]
    rw [hg]
    refine Eq.trans ?_ (diff_col _ _ _ _).symm
    exact quot ((plus (plus (plus (plus (plus (plus (plus (plus (plus (plus (plus (plus (plus (plus (plus (padded_zero a0 a1 a2 a3 a4 a5 a6 a7 a8 a9 15 r (384 + x.val) (by omega) (by omega)) (padded a0 a1 a2 a3 a4 a5 a6 a7 a8 a9 15 1 r (384 + x.val) (by omega) (by omega))) (padded a0 a1 a2 a3 a4 a5 a6 a7 a8 a9 15 2 r (384 + x.val) (by omega) (by omega))) (padded a0 a1 a2 a3 a4 a5 a6 a7 a8 a9 15 3 r (384 + x.val) (by omega) (by omega))) (padded a0 a1 a2 a3 a4 a5 a6 a7 a8 a9 15 4 r (384 + x.val) (by omega) (by omega))) (padded a0 a1 a2 a3 a4 a5 a6 a7 a8 a9 15 5 r (384 + x.val) (by omega) (by omega))) (padded a0 a1 a2 a3 a4 a5 a6 a7 a8 a9 15 6 r (384 + x.val) (by omega) (by omega))) (padded a0 a1 a2 a3 a4 a5 a6 a7 a8 a9 15 7 r (384 + x.val) (by omega) (by omega))) (padded a0 a1 a2 a3 a4 a5 a6 a7 a8 a9 15 8 r (384 + x.val) (by omega) (by omega))) (padded a0 a1 a2 a3 a4 a5 a6 a7 a8 a9 15 9 r (384 + x.val) (by omega) (by omega))) (padded a0 a1 a2 a3 a4 a5 a6 a7 a8 a9 15 10 r (384 + x.val) (by omega) (by omega))) (padded a0 a1 a2 a3 a4 a5 a6 a7 a8 a9 15 11 r (384 + x.val) (by omega) (by omega))) (padded a0 a1 a2 a3 a4 a5 a6 a7 a8 a9 15 12 r (384 + x.val) (by omega) (by omega))) (padded a0 a1 a2 a3 a4 a5 a6 a7 a8 a9 15 13 r (384 + x.val) (by omega) (by omega))) (padded a0 a1 a2 a3 a4 a5 a6 a7 a8 a9 15 14 r (384 + x.val) (by omega) (by omega))) (unpadded a0 a1 a2 a3 a4 a5 a6 a7 a8 a9 r (384 + x.val) (by omega))).trans
      (rev16 fun k => zpad k (data a0 a1 a2 a3 a4 a5 a6 a7 a8 a9).aux r.val (384 + x.val))) (held_word 3 r 16 rfl (by decide))
      ((unpadded a0 a1 a2 a3 a4 a5 a6 a7 a8 a9 r (384 + x.val) (by omega)).trans (zpad_zero _ _ _))
end Cert.ReferenceIdeal.Lru
end
-- ==== Proof.Lru.Claim.lean ====
/- The recurrence's claim: from memories that agree on the arguments, the kernel and the reference leave the same two arrays. -/
module

public import proofs.«01_k».proof.Defs
public import proofs.«01_k».proof.Proof.Lru.Sweep
public import proofs.«01_k».proof.Proof.Lru.Ref

@[expose] public section

set_option maxRecDepth 16384

noncomputable section

open Idealize.ShloMosaic Idealize.ShloMosaic.TcCoe Idealize.SL.Sem

namespace Cert.Proof.Lru

/-- The states of the reference's loop over a memory. -/
abbrev states (m : (ℓ : Loc ReferenceIdeal.nD ReferenceIdeal.τ ReferenceIdeal.sig) → Buf (Elt Ideal) ℓ) (c : Dev ReferenceIdeal.nD) :
    ℕ → ReferenceIdeal.Step.State Ideal :=
  ReferenceIdeal.Lru.state (m ((c.tc : Thread _ _).loc ReferenceIdeal.main_arg0)) (m ((c.tc : Thread _ _).loc ReferenceIdeal.main_arg3))
    (m ((c.tc : Thread _ _).loc ReferenceIdeal.main_arg4)) (m ((c.tc : Thread _ _).loc ReferenceIdeal.main_arg5))
    (m ((c.tc : Thread _ _).loc ReferenceIdeal.main_arg6)) (m ((c.tc : Thread _ _).loc ReferenceIdeal.main_arg7))
    (m ((c.tc : Thread _ _).loc ReferenceIdeal.main_arg8)) (m ((c.tc : Thread _ _).loc ReferenceIdeal.main_arg9))

theorem algebraic : Cert.algebraic_KernelIdeal_ReferenceIdeal := by
  intro m ρ m' ρ' _ hag
  refine ⟨fun c => KernelIdeal.Value.G12 m c, fun c => KernelIdeal.Value.G13 m c, KernelIdeal.Value.run m ρ, ?_⟩
  refine (θ_run ReferenceIdeal.defs _ _).mono (fun _ h c => ⟨(h c).1.trans ?_, (h c).2.1.trans ?_, (h c).2.2⟩)
    (ReferenceIdeal.RefLoop.run (F := Ideal) m' ρ' (states m') (fun _ => rfl) (fun _ _ => rfl))
  · funext y
    obtain ⟨e0, e1, e2, e3, e4, e5, e6, e7, e8, e9⟩ := hag c
    rw [eq_ix2 y]
    refine (ReferenceIdeal.Lru.pool_val _ _ _ (m' ((c.tc : Thread _ _).loc ReferenceIdeal.main_arg3)) (m' ((c.tc : Thread _ _).loc ReferenceIdeal.main_arg4)) (m' ((c.tc : Thread _ _).loc ReferenceIdeal.main_arg5)) (m' ((c.tc : Thread _ _).loc ReferenceIdeal.main_arg6)) (m' ((c.tc : Thread _ _).loc ReferenceIdeal.main_arg7)) (m' ((c.tc : Thread _ _).loc ReferenceIdeal.main_arg8)) (m' ((c.tc : Thread _ _).loc ReferenceIdeal.main_arg9)) _ (y 0) (y 1)).trans ?_
    rw [e0, e1, e2, e3, e4, e5, e6, e7, e8, e9]
    exact (KernelIdeal.Lru.G12_val m c (y 0) (y 1)).symm
  · funext y
    obtain ⟨e0, e1, e2, e3, e4, e5, e6, e7, e8, e9⟩ := hag c
    rw [eq_ix2 y]
    refine (ReferenceIdeal.Lru.lru_val _ (m' ((c.tc : Thread _ _).loc ReferenceIdeal.main_arg1)) (m' ((c.tc : Thread _ _).loc ReferenceIdeal.main_arg2)) _ _ _ _ _ _ _ (y 0) (y 1)).trans ?_
    rw [e0, e1, e2, e3, e4, e5, e6, e7, e8, e9]
    exact (KernelIdeal.Lru.G13_val m c (y 0) (y 1)).symm

end Cert.Proof.Lru
end
-- ==== Proof.Layer.Spec.lean ====
/- The root-mean-square norm of a row, as one function of the row. -/
module

public import Idealize.ShloMosaic.PureOps.Ideal
public import Idealize.ShloMosaic.Lib.Pointwise

@[expose] public section

noncomputable section

open Idealize.ShloMosaic
open scoped BigOperators

namespace Cert.LayerSpec

/-- The offsets of a whole block. -/
theorem whole2 : (![0, 0] : Fin 2 → Nat) = fun _ => 0 := funext fun a => match a with | ⟨0, _⟩ => rfl | ⟨1, _⟩ => rfl
theorem whole3 : (![0, 0, 0] : Fin 3 → Nat) = fun _ => 0 := funext fun a => match a with | ⟨0, _⟩ => rfl | ⟨1, _⟩ => rfl | ⟨2, _⟩ => rfl

/-- Element `l` of the normed row `f` with gain `g`; `n` is the word of the row's length. -/
def rowNorm {w : ℕ} (n : BitVec 32) (f g : Fin w → EReal) (l : Fin w) : EReal :=
  f l * Ideal.rsqrt (Ideal.div (∑ k, f k * f k) (Ideal.ofBits .f32 n) + Ideal.ofBits .f32 0x358637BD#32) * g l

/-- Element `l` of the product of a row and a matrix. -/
def rowDot {k w : ℕ} (f : Fin k → EReal) (a : Fin k → Fin w → EReal) (l : Fin w) : EReal := ∑ q, f q * a q l

end Cert.LayerSpec
end
-- ==== Proof.Layer.In.lean ====
/- The input projection with its norm and modulation: what the call leaves is what the reference leaves. -/
module

public import proofs.«01_k».proof.Defs
public import proofs.«01_k».proof.Proof.Layer.Spec
public import proofs.«01_k».proof.Proof.Gen.InProjIdeal.Value
public import proofs.«01_k».proof.Proof.Gen.InProjRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.InProjIdeal.Layer

open Cert.InProjIdeal Cert.InProjIdeal.Gen Cert.LayerSpec

/-- The normed and modulated row. -/
def modRow (x g sc sh : Fin 2048 → EReal) (l : Fin 2048) : EReal :=
  rowNorm 0x45000000#32 x g l * (Ideal.ofBits .f32 0x3F800000#32 + sc l) + sh l

/-- One element of the row's product. -/
def dotRow (h w : Fin 2048 → EReal) : EReal := ∑ k, h k * w k

theorem dotRow_congr {x x' g g' sc sc' sh sh' w w' : Fin 2048 → EReal} (h1 : x = x') (h2 : g = g') (h3 : sc = sc') (h4 : sh = sh') (h5 : w = w') :
    dotRow (modRow x g sc sh) w = dotRow (modRow x' g' sc' sh') w' := by
  rw [h1, h2, h3, h4, h5]

/-- The weights of column `j` of the auxiliary columns: the pool's and the recurrence's, then the indexer's, then padding. -/
def auxCol (w : Fin 2048 → Fin 5712 → EReal) (j : Fin 1664) (k : Fin 2048) : EReal :=
  if h : j.val < 1536 then w k ⟨4176 + j.val, by omega⟩
  else if h' : j.val - 1536 < 80 then w k ⟨4096 + (j.val - 1536), by omega⟩ else 0

theorem out0_A_6_eq (c : Dev nD) (i a1 h1 a2 h2 a3 h3 a4 h4 a5 h5 a6 h6 a7 h7 a8 h8) (x0 x1 x2 x3 x4 x5) :
    out0_A_6 (F := Ideal) c i a1 h1 a2 h2 a3 h3 a4 h4 a5 h5 a6 h6 a7 h7 a8 h8 x0 x1 x2 x3 x4 x5 = k0_pay2 x0 x1 x2 x3 x4 := by
  unfold out0_A_6
  rw [View.read_writes_eq_canon _ _ _ (cover0_A_6 c i a1 h1 a2 h2 a3 h3 a4 h4 a5 h5 a6 h6 a7 h7 a8 h8 x0 x1 x2 x3 x4 x5)]
  unfold kernelRun0_A
  dsimp only
  sl_unfold_words
  rw [View.canon_unit_zero whole2]
  simp only [View.readAt_eq_ld, h1.read_unread, h2.read_unread, h3.read_unread, h4.read_unread, h5.read_unread, h6.read_unread]
  rw [View.ld_unit_zero (S := S512x2048) whole2, View.ld_unit_zero (S := S1x2048) whole2, View.ld_unit_zero (S := S1x2048) whole2,
    View.ld_unit_zero (S := S1x2048) whole2, View.ld_unit_zero (S := S1x4096x2048) whole3]

theorem out0_A_7_eq (c : Dev nD) (i a1 h1 a2 h2 a3 h3 a4 h4 a5 h5 a6 h6 a7 h7 a8 h8) (x0 x1 x2 x3 x4 x5) :
    out0_A_7 (F := Ideal) c i a1 h1 a2 h2 a3 h3 a4 h4 a5 h5 a6 h6 a7 h7 a8 h8 x0 x1 x2 x3 x4 x5 = k0_pay3 x0 x1 x2 x3 x5 := by
  unfold out0_A_7
  rw [View.read_writes_eq_canon _ _ _ (cover0_A_7 c i a1 h1 a2 h2 a3 h3 a4 h4 a5 h5 a6 h6 a7 h7 a8 h8 x0 x1 x2 x3 x4 x5)]
  unfold kernelRun0_A
  dsimp only
  sl_unfold_words
  rw [View.canon_unit_zero whole2]
  simp only [View.readAt_eq_ld, h1.read_unread, h2.read_unread, h3.read_unread, h4.read_unread, h5.read_unread, h6.read_unread]
  rw [View.ld_unit_zero (S := S512x2048) whole2, View.ld_unit_zero (S := S1x2048) whole2, View.ld_unit_zero (S := S1x2048) whole2,
    View.ld_unit_zero (S := S1x2048) whole2, View.ld_unit_zero (S := S1x1664x2048) whole3]

variable (x0 : Vec Ideal S512x2048 .f32) (x1 x2 x3 : Vec Ideal S1x2048 .f32) (x4 : Vec Ideal S1x4096x2048 .bf16) (x5 : Vec Ideal S1x1664x2048 .bf16)

theorem pay2_val (i : Fin 512) (j : Fin 4096) :
    k0_pay2 (F := Ideal) x0 x1 x2 x3 x4 (ix2 i j)
      = dotRow (modRow (fun k => x0 (ix2 i k)) (fun k => x1 (ix2 0 k)) (fun k => x2 (ix2 0 k)) (fun k => x3 (ix2 0 k))) (fun k => x4 (ix3 0 j k)) := by
  unfold dotRow modRow rowNorm
  pointwise [k0_pay2, k0_pay1]

theorem pay3_val (i : Fin 512) (j : Fin 1664) :
    k0_pay3 (F := Ideal) x0 x1 x2 x3 x5 (ix2 i j)
      = dotRow (modRow (fun k => x0 (ix2 i k)) (fun k => x1 (ix2 0 k)) (fun k => x2 (ix2 0 k)) (fun k => x3 (ix2 0 k))) (fun k => x5 (ix3 0 j k)) := by
  unfold dotRow modRow rowNorm
  pointwise [k0_pay3, k0_pay1]

variable (m : (ℓ : Loc nD τ sig) → Buf (Elt Ideal) ℓ) (c : Dev nD)

/-- The windows' block numbers at a point. -/
theorem idxs : ∀ t : Fin grid0.N,
    win0_0.index t = ![t.val, 0] ∧ win0_1.index t = ![0, 0] ∧ win0_2.index t = ![0, 0] ∧ win0_3.index t = ![0, 0]
    ∧ win0_4.index t = ![0, 0, 0] ∧ win0_5.index t = ![0, 0, 0] ∧ win0_6.index t = ![t.val, 0] ∧ win0_7.index t = ![t.val, 0] := by
  decide +kernel

theorem x0_val (t : Fin cfg0.N) (ht : t.val < 16) (i : Fin 512) (k : Fin 2048) :
    iblk m c 0 t (ix2 i k : S512x2048.Idx) = m ((c : Thread nD τ).loc main_arg0) (ix2 ⟨512 * t.val + i.val, by omega⟩ k : S8192x2048.Idx) := by
  blk_ext! [iblk, V, (idxs t).1]

theorem x1_val (t : Fin cfg0.N) (k : Fin 2048) : iblk m c 1 t (ix2 0 k : S1x2048.Idx) = m ((c : Thread nD τ).loc main_arg1) (ix1 k : S2048.Idx) := by
  blk_ext! [iblk, V, (idxs t).2.1]

theorem x2_val (t : Fin cfg0.N) (k : Fin 2048) : iblk m c 2 t (ix2 0 k : S1x2048.Idx) = m ((c : Thread nD τ).loc main_arg2) (ix2 0 k : S1x2048.Idx) := by
  blk_ext! [iblk, V, (idxs t).2.2.1]

theorem x3_val (t : Fin cfg0.N) (k : Fin 2048) : iblk m c 3 t (ix2 0 k : S1x2048.Idx) = m ((c : Thread nD τ).loc main_arg3) (ix2 0 k : S1x2048.Idx) := by
  blk_ext! [iblk, V, (idxs t).2.2.2.1]

theorem x4_val (t : Fin cfg0.N) (j : Fin 4096) (k : Fin 2048) :
    X0_4 m c t (ix3 0 j k : S1x4096x2048.Idx) = m ((c : Thread nD τ).loc main_arg4) (ix3 0 k ⟨j.val, by omega⟩ : S2x2048x5712.Idx) := by
  unfold X0_4 Pipeline.Window.fill
  rw [dif_pos (moved0_4 t _)]
  blk_ext! [iblk, V, (idxs t).2.2.2.2.1]

/-- The auxiliary columns' weights as the host lays them out. -/
def auxW (a4 : FVec Ideal S2x2048x5712 .f32) : FVec Ideal S2x1664x2048 .bf16 :=
  concatenate S2x1664x2048 1 [⟨S2x1536x2048, extractStridedSlice S2x1536x2048 ![0, 4176, 0] (truncf .bf16 (transpose S2x5712x2048 [0, 2, 1] a4 transposes_S2x2048x5712_S2x5712x2048_0_2_1) bitsLt_bf16_f32) slices_S2x5712x2048_S2x1536x2048_0_4176_0⟩,
    ⟨S2x80x2048, extractStridedSlice S2x80x2048 ![0, 4096, 0] (truncf .bf16 (transpose S2x5712x2048 [0, 2, 1] a4 transposes_S2x2048x5712_S2x5712x2048_0_2_1) bitsLt_bf16_f32) slices_S2x5712x2048_S2x80x2048_0_4096_0⟩,
    ⟨S2x48x2048, broadcastInDim S2x48x2048 ![] bcast_S_S2x48x2048 (constant (F := Ideal) S_ .bf16 0x0000#16)⟩] concatenates_S2x1536x2048_S2x80x2048_S2x48x2048_S2x1664x2048_d1

theorem V_aux : V m c main_v5 = auxW (m ((c : Thread nD τ).loc main_arg4)) := by
  show StableHlo.after hostOps0 _ (Proc.devRef .tc main_v5) = _
  after_results
  rfl

theorem auxW_val (a4 : FVec Ideal S2x2048x5712 .f32) (j : Fin 1664) (k : Fin 2048) :
    auxW a4 (ix3 0 j k) = auxCol (fun k l => a4 (ix3 0 k l)) j k := by
  unfold auxCol
  pointwise [auxW]

theorem x5_blk (t : Fin cfg0.N) (j : Fin 1664) (k : Fin 2048) :
    iblk m c 5 t (ix3 0 j k : S1x1664x2048.Idx) = V m c main_v5 (ix3 0 j k : S2x1664x2048.Idx) := by
  unfold iblk
  generalize V m c = v
  blk_ext! [(idxs t).2.2.2.2.2.1]

theorem x5_val (t : Fin cfg0.N) (j : Fin 1664) (k : Fin 2048) :
    iblk m c 5 t (ix3 0 j k : S1x1664x2048.Idx) = auxCol (fun k l => m ((c : Thread nD τ).loc main_arg4) (ix3 0 k l : S2x2048x5712.Idx)) j k :=
  (x5_blk m c t j k).trans ((congrFun (V_aux m c) _).trans (auxW_val _ j k))

theorem place_attn (t : Fin cfg0.N) (ht : t.val < 16) (i : Fin 512) (l : Fin 4096) :
    ((cfg0.win 6).blk t).view.emb (ix2 i l : S512x4096.Idx) = (ix2 ⟨512 * t.val + i.val, by omega⟩ l : S8192x4096.Idx) := by
  have e := (idxs t).2.2.2.2.2.2.1
  funext a; apply Fin.ext
  match a with
  | ⟨0, _⟩ => show win0_6.index t 0 * 512 + 1 * i.val = _; rw [e]; show t.val * 512 + 1 * i.val = 512 * t.val + i.val; omega
  | ⟨1, _⟩ => show win0_6.index t 1 * 4096 + 1 * l.val = _; rw [e]; show 0 * 4096 + 1 * l.val = l.val; omega

theorem place_aux (t : Fin cfg0.N) (ht : t.val < 16) (i : Fin 512) (l : Fin 1664) :
    ((cfg0.win 7).blk t).view.emb (ix2 i l : S512x1664.Idx) = (ix2 ⟨512 * t.val + i.val, by omega⟩ l : S8192x1664.Idx) := by
  have e := (idxs t).2.2.2.2.2.2.2
  funext a; apply Fin.ext
  match a with
  | ⟨0, _⟩ => show win0_7.index t 0 * 512 + 1 * i.val = _; rw [e]; show t.val * 512 + 1 * i.val = 512 * t.val + i.val; omega
  | ⟨1, _⟩ => show win0_7.index t 1 * 1664 + 1 * l.val = _; rw [e]; show 0 * 1664 + 1 * l.val = l.val; omega

/-- The normed and modulated row `r` over a memory. -/
def resRow (r : Fin 8192) : Fin 2048 → EReal :=
  modRow (fun k => m ((c : Thread nD τ).loc main_arg0) (ix2 r k : S8192x2048.Idx)) (fun k => m ((c : Thread nD τ).loc main_arg1) (ix1 k : S2048.Idx)) (fun k => m ((c : Thread nD τ).loc main_arg2) (ix2 0 k : S1x2048.Idx))
    (fun k => m ((c : Thread nD τ).loc main_arg3) (ix2 0 k : S1x2048.Idx))

/-- Row `r`, column `l` of the attention's columns over a memory. -/
def resAttn (r : Fin 8192) (l : Fin 4096) : EReal := dotRow (resRow m c r) (fun k => m ((c : Thread nD τ).loc main_arg4) (ix3 0 k ⟨l.val, by omega⟩ : S2x2048x5712.Idx))

/-- Row `r`, column `l` of the auxiliary columns over a memory. -/
def resAux (r : Fin 8192) (l : Fin 1664) : EReal := dotRow (resRow m c r) (auxCol (fun k l => m ((c : Thread nD τ).loc main_arg4) (ix3 0 k l : S2x2048x5712.Idx)) l)

theorem block_attn (t : Fin cfg0.N) (ht : t.val < 16) (i : Fin 512) (l : Fin 4096) :
    (dats m 0 c).arrAt 6 cfg0.N (ix2 ⟨512 * t.val + i.val, by omega⟩ l : S8192x4096.Idx) = resAttn m c ⟨512 * t.val + i.val, by omega⟩ l :=
  (congrArg ((dats m 0 c).arrAt 6 cfg0.N) (place_attn t ht i l)).symm.trans
    (((dats m 0 c).arrAt_emb_eq_flushed 6 Value.disjoint6 t (flush0_6 t) (ix2 i l : S512x4096.Idx)).trans
      ((congrFun (Value.flushed6_A m c t) (ix2 i l : S512x4096.Idx)).trans
        ((congrFun (out0_A_6_eq c _ _ _ _ _ _ _ _ _ _ _ _ _ _ _ _ _ _ _ _ _ _ _) (ix2 i l : S512x4096.Idx)).trans
          ((pay2_val _ _ _ _ _ i l).trans
            (dotRow_congr (funext (x0_val m c t ht i)) (funext (x1_val m c t)) (funext (x2_val m c t)) (funext (x3_val m c t)) (funext (x4_val m c t l)))))))

theorem final_attn (r : Fin 8192) (l : Fin 4096) : (dats m 0 c).arrAt 6 cfg0.N (ix2 r l : S8192x4096.Idx) = resAttn m c r l := by
  have h := block_attn m c ⟨r.val / 512, show r.val / 512 < 16 by omega⟩ (show r.val / 512 < 16 by omega) ⟨r.val % 512, by omega⟩ l
  rwa [show (⟨512 * (r.val / 512) + r.val % 512, by omega⟩ : Fin 8192) = r from Fin.ext (show 512 * (r.val / 512) + r.val % 512 = r.val by omega)] at h

theorem block_aux (t : Fin cfg0.N) (ht : t.val < 16) (i : Fin 512) (l : Fin 1664) :
    (dats m 0 c).arrAt 7 cfg0.N (ix2 ⟨512 * t.val + i.val, by omega⟩ l : S8192x1664.Idx) = resAux m c ⟨512 * t.val + i.val, by omega⟩ l :=
  (congrArg ((dats m 0 c).arrAt 7 cfg0.N) (place_aux t ht i l)).symm.trans
    (((dats m 0 c).arrAt_emb_eq_flushed 7 Value.disjoint7 t (flush0_7 t) (ix2 i l : S512x1664.Idx)).trans
      ((congrFun (Value.flushed7_A m c t) (ix2 i l : S512x1664.Idx)).trans
        ((congrFun (out0_A_7_eq c _ _ _ _ _ _ _ _ _ _ _ _ _ _ _ _ _ _ _ _ _ _ _) (ix2 i l : S512x1664.Idx)).trans
          ((pay3_val _ _ _ _ _ i l).trans
            (dotRow_congr (funext (x0_val m c t ht i)) (funext (x1_val m c t)) (funext (x2_val m c t)) (funext (x3_val m c t)) (funext (x5_val m c t l)))))))

theorem final_aux (r : Fin 8192) (l : Fin 1664) : (dats m 0 c).arrAt 7 cfg0.N (ix2 r l : S8192x1664.Idx) = resAux m c r l := by
  have h := block_aux m c ⟨r.val / 512, show r.val / 512 < 16 by omega⟩ (show r.val / 512 < 16 by omega) ⟨r.val % 512, by omega⟩ l
  rwa [show (⟨512 * (r.val / 512) + r.val % 512, by omega⟩ : Fin 8192) = r from Fin.ext (show 512 * (r.val / 512) + r.val % 512 = r.val by omega)] at h

end Cert.InProjIdeal.Layer

namespace Cert.Proof.In

open Cert.LayerSpec Cert.InProjRefIdeal Cert.InProjRefIdeal.Gen

theorem algebraic : Cert.algebraic_InProjIdeal_InProjRefIdeal := by
  intro m ρ m' ρ' _ hag
  refine ⟨fun c => (InProjIdeal.Gen.dats m 0 c).arrAt 6 InProjIdeal.cfg0.N, fun c => (InProjIdeal.Gen.dats m 0 c).arrAt 7 InProjIdeal.cfg0.N,
    InProjIdeal.Value.run_blocks m ρ, ?_⟩
  refine (θ_run InProjRefIdeal.defs _ _).mono (fun _ h c => ⟨(h c).1.trans ?_, (h c).2.1.trans ?_, (h c).2.2⟩) (InProjRefIdeal.Value.run (F := Ideal) m' ρ')
  · funext y
    obtain ⟨e0, e1, e2, e3, e4⟩ := hag c
    rw [e0, e1, e2, e3, e4, eq_ix2 y]
    generalize y 0 = r
    generalize y 1 = l
    refine Eq.trans ?_ (InProjIdeal.Layer.final_attn m c r l).symm
    unfold InProjIdeal.Layer.resAttn InProjIdeal.Layer.resRow InProjIdeal.Layer.dotRow InProjIdeal.Layer.modRow rowNorm
    pointwise []
  · funext y
    obtain ⟨e0, e1, e2, e3, e4⟩ := hag c
    rw [e0, e1, e2, e3, e4, eq_ix2 y]
    generalize y 0 = r
    generalize y 1 = l
    refine Eq.trans ?_ (InProjIdeal.Layer.final_aux m c r l).symm
    unfold InProjIdeal.Layer.resAux InProjIdeal.Layer.resRow InProjIdeal.Layer.dotRow InProjIdeal.Layer.modRow InProjIdeal.Layer.auxCol rowNorm
    pointwise []
    by_cases h : l.val < 1536
    · rw [dif_pos h]
      exact Finset.sum_congr rfl fun k _ => congrArg₂ (· * ·) rfl (by rw [dif_pos h])
    · rw [dif_neg h]
      by_cases h' : l.val - 1536 < 80
      · rw [dif_pos h']
        exact Finset.sum_congr rfl fun k _ => congrArg₂ (· * ·) rfl (by rw [dif_neg h, dif_pos h'])
      · rw [dif_neg h']
        exact (Finset.sum_eq_zero fun k _ => by rw [dif_neg h, dif_neg h', mul_zero]).symm

end Cert.Proof.In
end
-- ==== Proof.Layer.MixPoint.lean ====
/- The output projection of the three branches with its norms, gate and residual, the input of the channel mixer and the up weights it lays
   out: what a point of the call writes, at an index. -/
module

public import proofs.«01_k».proof.Defs
public import proofs.«01_k».proof.Proof.Layer.Spec
public import proofs.«01_k».proof.Proof.Gen.MixOutIdeal.Value
public import proofs.«01_k».proof.Proof.Gen.MixOutRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.MixOutIdeal.Layer

open Cert.MixOutIdeal Cert.MixOutIdeal.Gen Cert.LayerSpec

/-- The product of the normed branches of a row with the output weights. -/
def mixRow (a : Fin 1024 → EReal) (p r : Fin 512 → EReal) (ga : Fin 1024 → EReal) (gp gr : Fin 512 → EReal) (w : Fin 2048 → Fin 2048 → EReal)
    (l : Fin 2048) : EReal :=
  (∑ k : Fin 1024, rowNorm 0x44800000#32 a ga k * w ⟨k.val, by omega⟩ l) + (∑ k : Fin 512, rowNorm 0x44000000#32 p gp k * w ⟨1024 + k.val, by omega⟩ l)
    + ∑ k : Fin 512, rowNorm 0x44000000#32 r gr k * w ⟨1536 + k.val, by omega⟩ l

/-- The row's residual. -/
def resid (x y g e : Fin 2048 → EReal) (l : Fin 2048) : EReal := x l + e l * rowNorm 0x45000000#32 y g l

/-- The row's input to the channel mixer. -/
def hiddenRow (x g sc sh : Fin 2048 → EReal) (l : Fin 2048) : EReal :=
  rowNorm 0x45000000#32 x g l * (Ideal.ofBits .f32 0x3F800000#32 + sc l) + sh l

variable (x0 : Vec Ideal S512x1024 .f32) (x1 x2 : Vec Ideal S512x512 .f32) (x3 : Vec Ideal S512x2048 .f32) (x4 : Vec Ideal S1x1024 .f32)
  (x5 x6 : Vec Ideal S1x512 .f32) (x7 : Vec Ideal S1x2048x2048 .bf16) (x8 x9 x10 x11 x12 : Vec Ideal S1x2048 .f32) (x13 : Vec Ideal S1x128x8192 .f32)

/-- The row of the mixed product at a point. -/
abbrev mixed (i : Fin 512) : Fin 2048 → EReal :=
  mixRow (fun k => x0 (ix2 i k)) (fun k => x1 (ix2 i k)) (fun k => x2 (ix2 i k)) (fun k => x4 (ix2 0 k)) (fun k => x5 (ix2 0 k))
    (fun k => x6 (ix2 0 k)) (fun k l => x7 (ix3 0 k l))

theorem pay4_val (v : Vec Ideal S512x1024 .f32) (g : Vec Ideal S1x1024 .f32) (i : Fin 512) (k : Fin 1024) :
    k0_pay4 (F := Ideal) v g (ix2 i k) = rowNorm 0x44800000#32 (fun k => v (ix2 i k)) (fun k => g (ix2 0 k)) k := by
  unfold rowNorm
  pointwise [k0_pay4]

theorem pay5_val (v : Vec Ideal S512x512 .f32) (g : Vec Ideal S1x512 .f32) (i : Fin 512) (k : Fin 512) :
    k0_pay5 (F := Ideal) v g (ix2 i k) = rowNorm 0x44000000#32 (fun k => v (ix2 i k)) (fun k => g (ix2 0 k)) k := by
  unfold rowNorm
  pointwise [k0_pay5]

/-- The product of three rows with three slabs of weights, gated and normed. -/
theorem pay9_val (y1 : FVec Ideal S512x1024 .bf16) (y2 : FVec Ideal S512x512 .bf16) (v : Vec Ideal S512x512 .f32) (g : Vec Ideal S1x512 .f32)
    (w1 : Vec Ideal S1x1024x2048 .bf16) (w2 w3 : Vec Ideal S1x512x2048 .bf16) (e gp : Vec Ideal S1x2048 .f32) (i : Fin 512) (l : Fin 2048) :
    k0_pay9 (F := Ideal) y1 y2 v (k0_pay6 (F := Ideal) g) (k0_pay7 (F := Ideal) v) (k0_pay8 (F := Ideal)) w1 w2 w3 e gp (ix2 i l)
      = e (ix2 0 l) * rowNorm 0x45000000#32 (fun l => (∑ k : Fin 1024, y1 (ix2 i k) * w1 (ix3 0 k l)) + (∑ k : Fin 512, y2 (ix2 i k) * w2 (ix3 0 k l))
          + ∑ k : Fin 512, rowNorm 0x44000000#32 (fun k => v (ix2 i k)) (fun k => g (ix2 0 k)) k * w3 (ix3 0 k l)) (fun l => gp (ix2 0 l)) l := by
  unfold rowNorm
  pointwise [k0_pay9, k0_pay6, k0_pay7, k0_pay8]

theorem slab1 (k : Fin 1024) (l : Fin 2048) : View.ld x7 r0_4 (ix3 0 k l) = x7 (ix3 0 ⟨k.val, by omega⟩ l) := by
  pointwise [r0_4]
theorem slab2 (k : Fin 512) (l : Fin 2048) : View.ld x7 r0_5 (ix3 0 k l) = x7 (ix3 0 ⟨1024 + k.val, by omega⟩ l) := by
  pointwise [r0_5]
theorem slab3 (k : Fin 512) (l : Fin 2048) : View.ld x7 r0_6 (ix3 0 k l) = x7 (ix3 0 ⟨1536 + k.val, by omega⟩ l) := by
  pointwise [r0_6]

/-- The new residual row. -/
def newRow (a : Fin 1024 → EReal) (p r : Fin 512 → EReal) (x : Fin 2048 → EReal) (ga : Fin 1024 → EReal) (gp gr : Fin 512 → EReal)
    (w : Fin 2048 → Fin 2048 → EReal) (g e : Fin 2048 → EReal) : Fin 2048 → EReal :=
  resid x (mixRow a p r ga gp gr w) g e

theorem mixed_val (i : Fin 512) (l : Fin 2048) :
    k0_pay10 (F := Ideal) x0 x1 x2 x3 x4 x5 x6 x7 x8 x9 x10 x11 x12 x13 (ix2 i l)
      = x9 (ix2 0 l) * rowNorm 0x45000000#32 (mixed x0 x1 x2 x4 x5 x6 x7 i) (fun l => x8 (ix2 0 l)) l := by
  unfold k0_pay10
  unfold r0_0 r0_1 r0_2 r0_3 r0_8
  rw [View.ld_unit_zero (S := S512x1024) whole2, View.ld_unit_zero (S := S1x1024) whole2, View.ld_unit_zero (S := S512x512) whole2,
    View.ld_unit_zero (S := S512x512) whole2, View.ld_unit_zero (S := S1x512) whole2, View.ld_unit_zero (S := S1x512) whole2,
    View.ld_unit_zero (S := S1x2048) whole2, View.ld_unit_zero (S := S1x2048) whole2]
  refine (pay9_val _ _ _ _ _ _ _ _ _ i l).trans ?_
  refine congrArg (fun f => x9 (ix2 0 l) * rowNorm 0x45000000#32 f (fun l => x8 (ix2 0 l)) l) (funext fun l => ?_)
  unfold mixed mixRow
  refine congrArg₂ (· + ·) (congrArg₂ (· + ·) ?_ ?_) ?_
  · exact Finset.sum_congr rfl fun k _ => congrArg₂ (· * ·) (pay4_val _ _ i k) (slab1 x7 k l)
  · exact Finset.sum_congr rfl fun k _ => congrArg₂ (· * ·) (pay5_val _ _ i k) (slab2 x7 k l)
  · exact Finset.sum_congr rfl fun k _ => congrArg₂ (· * ·) rfl (slab3 x7 k l)

/-- What a point writes to the residual, at an index. -/
theorem out_new (i : Fin 512) (l : Fin 2048) :
    out0_14 (F := Ideal) x0 x1 x2 x3 x4 x5 x6 x7 x8 x9 x10 x11 x12 x13 (ix2 i l)
      = newRow (fun k => x0 (ix2 i k)) (fun k => x1 (ix2 i k)) (fun k => x2 (ix2 i k)) (fun k => x3 (ix2 i k)) (fun k => x4 (ix2 0 k))
          (fun k => x5 (ix2 0 k)) (fun k => x6 (ix2 0 k)) (fun k l => x7 (ix3 0 k l)) (fun l => x8 (ix2 0 l)) (fun l => x9 (ix2 0 l)) l := by
  unfold out0_14 r0_7
  rw [View.canon_unit_zero whole2, View.ld_unit_zero (S := S512x2048) whole2]
  exact (show k0_pay1 (F := Ideal) x3 _ (ix2 i l) = x3 (ix2 i l) + _ from rfl).trans (congrArg (x3 (ix2 i l) + ·) (mixed_val x0 x1 x2 x3 x4 x5 x6 x7 x8 x9 x10 x11 x12 x13 i l))

theorem pay2_val (v : Vec Ideal S512x2048 .f32) (y : FVec Ideal S512x2048 .f32) (g sc sh : Vec Ideal S1x2048 .f32) (i : Fin 512) (l : Fin 2048) :
    k0_pay2 (F := Ideal) v y g sc sh (ix2 i l)
      = hiddenRow (fun l => v (ix2 i l) + y (ix2 i l)) (fun l => g (ix2 0 l)) (fun l => sc (ix2 0 l)) (fun l => sh (ix2 0 l)) l := by
  unfold hiddenRow rowNorm
  pointwise [k0_pay2, k0_pay1]

/-- What a point writes to the channel mixer's input, at an index. -/
theorem out_hidden (i : Fin 512) (l : Fin 2048) :
    out0_15 (F := Ideal) x0 x1 x2 x3 x4 x5 x6 x7 x8 x9 x10 x11 x12 x13 (ix2 i l)
      = hiddenRow (newRow (fun k => x0 (ix2 i k)) (fun k => x1 (ix2 i k)) (fun k => x2 (ix2 i k)) (fun k => x3 (ix2 i k)) (fun k => x4 (ix2 0 k))
          (fun k => x5 (ix2 0 k)) (fun k => x6 (ix2 0 k)) (fun k l => x7 (ix3 0 k l)) (fun l => x8 (ix2 0 l)) (fun l => x9 (ix2 0 l)))
          (fun l => x10 (ix2 0 l)) (fun l => x11 (ix2 0 l)) (fun l => x12 (ix2 0 l)) l := by
  unfold out0_15 r0_7 r0_8
  rw [View.canon_unit_zero whole2, View.ld_unit_zero (S := S512x2048) whole2, View.ld_unit_zero (S := S1x2048) whole2,
    View.ld_unit_zero (S := S1x2048) whole2, View.ld_unit_zero (S := S1x2048) whole2]
  refine (pay2_val _ _ _ _ _ i l).trans ?_
  refine congrArg (fun f => hiddenRow f (fun l => x10 (ix2 0 l)) (fun l => x11 (ix2 0 l)) (fun l => x12 (ix2 0 l)) l) (funext fun l => ?_)
  exact congrArg (x3 (ix2 i l) + ·) (mixed_val x0 x1 x2 x3 x4 x5 x6 x7 x8 x9 x10 x11 x12 x13 i l)

/-- What a point writes to the laid-out weights, at an index. -/
theorem out_up (i : Fin 128) (l : Fin 8192) :
    out0_16 (F := Ideal) x0 x1 x2 x3 x4 x5 x6 x7 x8 x9 x10 x11 x12 x13 (ix2 i l) = x13 (ix3 0 i l) := by
  unfold out0_16 r0_10
  rw [View.canon_unit_zero whole2]
  unfold r0_9
  rw [View.ld_unit_zero (S := S1x128x8192) whole3]
  pointwise [k0_pay3]

end Cert.MixOutIdeal.Layer
end
-- ==== Proof.Layer.MixRef.lean ====
/- What the plainly written output projection with its norms, gate and residual leaves, at an index. -/
module

public import proofs.«01_k».proof.Defs
public import proofs.«01_k».proof.Proof.Layer.Spec
public import proofs.«01_k».proof.Proof.Layer.MixPoint
public import proofs.«01_k».proof.Proof.Gen.MixOutRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.MixOutRefIdeal.Layer

open Cert.MixOutRefIdeal Cert.MixOutRefIdeal.Gen Cert.LayerSpec Cert.MixOutIdeal.Layer Idealize.ShloMosaic.StableHlo

/-- A sum over the joined columns is the sum over the three parts. -/
theorem sum_parts (f : Fin 2048 → EReal) :
    ∑ q, f q = (∑ k : Fin 1024, f ⟨k.val, by omega⟩) + (∑ k : Fin 512, f ⟨1024 + k.val, by omega⟩) + ∑ k : Fin 512, f ⟨1536 + k.val, by omega⟩ := by
  have h1 := Fin.sum_univ_add (a := 1536) (b := 512) f
  have h2 := Fin.sum_univ_add (a := 1024) (b := 512) (fun i => f (Fin.castAdd 512 i))
  exact h1.trans (congrArg₂ (· + ·) h2 rfl)

/-- The wide branch's normed rows. -/
def norm1 (a0 : FVec Ideal S8192x1024 .f32) (a4 : FVec Ideal S1024 .f32) : FVec Ideal S8192x1024 .f32 :=
  (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a4)))

/-- A narrow branch's normed rows. -/
def norm2 (a1 : FVec Ideal S8192x512 .f32) (a5 : FVec Ideal S512 .f32) : FVec Ideal S8192x512 .f32 :=
  (mulf (mulf a1 (broadcastInDim S8192x512 ![0, 1] bcast_S8192x1_S8192x512_0_1 (Host.rsqrt (addf (Host.divf (broadcastInDim S8192x1 ![0] bcast_S8192_S8192x1_0 (Host.reduceAdd (mulf a1 a1) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 a5)))

/-- The three branches side by side. -/
def cat (y1 : FVec Ideal S8192x1024 .f32) (y2 y3 : FVec Ideal S8192x512 .f32) : FVec Ideal S8192x2048 .f32 :=
  concatenate S8192x2048 1 [⟨S8192x1024, (y1 : (⟨S8192x1024, .f32⟩ : BufTy).Contents (Elt Ideal))⟩, ⟨S8192x512, (y2 : (⟨S8192x512, .f32⟩ : BufTy).Contents (Elt Ideal))⟩, ⟨S8192x512, (y3 : (⟨S8192x512, .f32⟩ : BufTy).Contents (Elt Ideal))⟩] concatenates_S8192x1024_S8192x512_S8192x512_S8192x2048_d1

/-- The product with the layer's output weights. -/
def prod (y : FVec Ideal S8192x2048 .f32) (a7 : FVec Ideal S2x2048x2048 .f32) : FVec Ideal S8192x2048 .f32 :=
  (Host.dotGeneral dot_S8192x2048_S2048x2048_S8192x2048_1_0_0_1_n_n none y (shapeCast _ (extractStridedSlice S1x2048x2048 ![0, 0, 0] a7 slices_S2x2048x2048_S1x2048x2048_0_0_0) shapeCasts_S1x2048x2048_S2048x2048))

/-- The new residual from the product's rows. -/
def newOf (a3 : FVec Ideal S8192x2048 .f32) (a8 : FVec Ideal S2048 .f32) (a9 : FVec Ideal S1x2048 .f32) (y : FVec Ideal S8192x2048 .f32) : FVec Ideal S8192x2048 .f32 :=
  addf a3 (mulf (broadcastInDim S8192x2048 ![0, 1] bcast_S1x2048_S8192x2048_0_1 a9) (mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a8))))

/-- The channel mixer's input from the new residual. -/
def hidOf (a10 : FVec Ideal S2048 .f32) (a11 a12 : FVec Ideal S1x2048 .f32) (y : FVec Ideal S8192x2048 .f32) : FVec Ideal S8192x2048 .bf16 :=
  truncf .bf16 (addf (mulf (mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a10))) (broadcastInDim S8192x2048 ![0, 1] bcast_S1x2048_S8192x2048_0_1 (addf (broadcastInDim S1x2048 ![] bcast_S_S1x2048 (constant S_ .f32 0x3F800000#32)) a11))) (broadcastInDim S8192x2048 ![0, 1] bcast_S1x2048_S8192x2048_0_1 a12)) bitsLt_bf16_f32

theorem norm1_val (a0 : FVec Ideal S8192x1024 .f32) (a4 : FVec Ideal S1024 .f32) (r : Fin 8192) (k : Fin 1024) :
    norm1 a0 a4 (ix2 r k) = rowNorm 0x44800000#32 (fun k => a0 (ix2 r k)) (fun k => a4 (ix1 k)) k := by
  unfold rowNorm
  pointwise [norm1]

theorem norm2_val (a1 : FVec Ideal S8192x512 .f32) (a5 : FVec Ideal S512 .f32) (r : Fin 8192) (k : Fin 512) :
    norm2 a1 a5 (ix2 r k) = rowNorm 0x44000000#32 (fun k => a1 (ix2 r k)) (fun k => a5 (ix1 k)) k := by
  unfold rowNorm
  pointwise [norm2]

variable (y1 : FVec Ideal S8192x1024 .f32) (y2 y3 : FVec Ideal S8192x512 .f32)

theorem cat1 (r : Fin 8192) (k : Fin 1024) : cat y1 y2 y3 (ix2 r ⟨k.val, by omega⟩) = y1 (ix2 r k) := by
  pointwise [cat]

theorem cat2 (r : Fin 8192) (k : Fin 512) : cat y1 y2 y3 (ix2 r ⟨1024 + k.val, by omega⟩) = y2 (ix2 r k) := by
  pointwise [cat]

theorem cat3 (r : Fin 8192) (k : Fin 512) : cat y1 y2 y3 (ix2 r ⟨1536 + k.val, by omega⟩) = y3 (ix2 r k) := by
  pointwise [cat]
  rw [dif_neg (by omega), dif_neg (by omega)]
  exact congrArg (fun q => y3 (ix2 r q)) (Fin.ext (by show 1536 + k.val - 1024 - 512 = k.val; omega))

theorem prod_val (y : FVec Ideal S8192x2048 .f32) (a7 : FVec Ideal S2x2048x2048 .f32) (r : Fin 8192) (l : Fin 2048) :
    prod y a7 (ix2 r l) = ∑ q : Fin 2048, y (ix2 r q) * a7 (ix3 0 q l) := by
  pointwise [prod]

theorem newOf_val (a3 : FVec Ideal S8192x2048 .f32) (a8 : FVec Ideal S2048 .f32) (a9 : FVec Ideal S1x2048 .f32) (y : FVec Ideal S8192x2048 .f32)
    (r : Fin 8192) (l : Fin 2048) :
    newOf a3 a8 a9 y (ix2 r l) = resid (fun l => a3 (ix2 r l)) (fun l => y (ix2 r l)) (fun l => a8 (ix1 l)) (fun l => a9 (ix2 0 l)) l := by
  unfold resid rowNorm
  pointwise [newOf]

theorem hidOf_val (a10 : FVec Ideal S2048 .f32) (a11 a12 : FVec Ideal S1x2048 .f32) (y : FVec Ideal S8192x2048 .f32) (r : Fin 8192) (l : Fin 2048) :
    hidOf a10 a11 a12 y (ix2 r l) = hiddenRow (fun l => y (ix2 r l)) (fun l => a10 (ix1 l)) (fun l => a11 (ix2 0 l)) (fun l => a12 (ix2 0 l)) l := by
  unfold hiddenRow rowNorm
  pointwise [hidOf]

variable (a0 : FVec Ideal S8192x1024 .f32) (a1 a2 : FVec Ideal S8192x512 .f32) (a3 : FVec Ideal S8192x2048 .f32) (a4 : FVec Ideal S1024 .f32)
  (a5 a6 : FVec Ideal S512 .f32) (a7 : FVec Ideal S2x2048x2048 .f32) (a8 : FVec Ideal S2048 .f32) (a9 : FVec Ideal S1x2048 .f32)

/-- The product of the joined branches is the sum of the three products. -/
theorem mixed_val (r : Fin 8192) (l : Fin 2048) :
    prod (cat (norm1 a0 a4) (norm2 a1 a5) (norm2 a2 a6)) a7 (ix2 r l)
      = mixRow (fun k => a0 (ix2 r k)) (fun k => a1 (ix2 r k)) (fun k => a2 (ix2 r k)) (fun k => a4 (ix1 k)) (fun k => a5 (ix1 k))
          (fun k => a6 (ix1 k)) (fun k l => a7 (ix3 0 k l)) l := by
  refine (prod_val _ _ r l).trans ((sum_parts _).trans ?_)
  unfold mixRow
  refine congrArg₂ (· + ·) (congrArg₂ (· + ·) ?_ ?_) ?_
  · exact Finset.sum_congr rfl fun k _ => congrArg₂ (· * ·) ((cat1 _ _ _ r k).trans (norm1_val _ _ r k)) rfl
  · exact Finset.sum_congr rfl fun k _ => congrArg₂ (· * ·) ((cat2 _ _ _ r k).trans (norm2_val _ _ r k)) rfl
  · exact Finset.sum_congr rfl fun k _ => congrArg₂ (· * ·) ((cat3 _ _ _ r k).trans (norm2_val _ _ r k)) rfl

/-- The reference's new residual row. -/
theorem new_val (r : Fin 8192) (l : Fin 2048) :
    newOf a3 a8 a9 (prod (cat (norm1 a0 a4) (norm2 a1 a5) (norm2 a2 a6)) a7) (ix2 r l)
      = newRow (fun k => a0 (ix2 r k)) (fun k => a1 (ix2 r k)) (fun k => a2 (ix2 r k)) (fun k => a3 (ix2 r k)) (fun k => a4 (ix1 k)) (fun k => a5 (ix1 k))
          (fun k => a6 (ix1 k)) (fun k l => a7 (ix3 0 k l)) (fun l => a8 (ix1 l)) (fun l => a9 (ix2 0 l)) l :=
  (newOf_val _ _ _ _ r l).trans
    (congrArg (fun f => resid (fun k => a3 (ix2 r k)) f (fun l => a8 (ix1 l)) (fun l => a9 (ix2 0 l)) l) (funext (mixed_val a0 a1 a2 a4 a5 a6 a7 r)))

/-- The reference's row of the channel mixer's input. -/
theorem hid_val (a10 : FVec Ideal S2048 .f32) (a11 a12 : FVec Ideal S1x2048 .f32) (r : Fin 8192) (l : Fin 2048) :
    hidOf a10 a11 a12 (newOf a3 a8 a9 (prod (cat (norm1 a0 a4) (norm2 a1 a5) (norm2 a2 a6)) a7)) (ix2 r l)
      = hiddenRow (newRow (fun k => a0 (ix2 r k)) (fun k => a1 (ix2 r k)) (fun k => a2 (ix2 r k)) (fun k => a3 (ix2 r k)) (fun k => a4 (ix1 k)) (fun k => a5 (ix1 k))
          (fun k => a6 (ix1 k)) (fun k l => a7 (ix3 0 k l)) (fun l => a8 (ix1 l)) (fun l => a9 (ix2 0 l)))
          (fun l => a10 (ix1 l)) (fun l => a11 (ix2 0 l)) (fun l => a12 (ix2 0 l)) l :=
  (hidOf_val _ _ _ _ r l).trans
    (congrArg (fun f => hiddenRow f (fun l => a10 (ix1 l)) (fun l => a11 (ix2 0 l)) (fun l => a12 (ix2 0 l)) l) (funext (new_val a0 a1 a2 a3 a4 a5 a6 a7 a8 a9 r)))

variable (m : (ℓ : Loc nD τ sig) → Buf (Elt Ideal) ℓ) (c : Dev nD)

theorem res_new : Value.res_main_v58 m c
    = newOf (m ((c.tc : Thread nD τ).loc main_arg3)) (m ((c.tc : Thread nD τ).loc main_arg8)) (m ((c.tc : Thread nD τ).loc main_arg9)) (prod (cat (norm1 (m ((c.tc : Thread nD τ).loc main_arg0)) (m ((c.tc : Thread nD τ).loc main_arg4))) (norm2 (m ((c.tc : Thread nD τ).loc main_arg1)) (m ((c.tc : Thread nD τ).loc main_arg5))) (norm2 (m ((c.tc : Thread nD τ).loc main_arg2)) (m ((c.tc : Thread nD τ).loc main_arg6)))) (m ((c.tc : Thread nD τ).loc main_arg7))) := rfl

theorem res_hid : Value.res_main_v78 m c
    = hidOf (m ((c.tc : Thread nD τ).loc main_arg10)) (m ((c.tc : Thread nD τ).loc main_arg11)) (m ((c.tc : Thread nD τ).loc main_arg12)) (newOf (m ((c.tc : Thread nD τ).loc main_arg3)) (m ((c.tc : Thread nD τ).loc main_arg8)) (m ((c.tc : Thread nD τ).loc main_arg9)) (prod (cat (norm1 (m ((c.tc : Thread nD τ).loc main_arg0)) (m ((c.tc : Thread nD τ).loc main_arg4))) (norm2 (m ((c.tc : Thread nD τ).loc main_arg1)) (m ((c.tc : Thread nD τ).loc main_arg5))) (norm2 (m ((c.tc : Thread nD τ).loc main_arg2)) (m ((c.tc : Thread nD τ).loc main_arg6)))) (m ((c.tc : Thread nD τ).loc main_arg7)))) := rfl

end Cert.MixOutRefIdeal.Layer
end
-- ==== Proof.Layer.Out.lean ====
/- The output projection of the three branches, the input of the channel mixer and the up weights it lays out: what the call leaves is what the
   reference leaves. -/
module

public import proofs.«01_k».proof.Defs
public import proofs.«01_k».proof.Proof.Layer.Spec
public import proofs.«01_k».proof.Proof.Layer.MixPoint
public import proofs.«01_k».proof.Proof.Layer.MixRef
public import proofs.«01_k».proof.Proof.Gen.MixOutIdeal.Value
public import proofs.«01_k».proof.Proof.Gen.MixOutRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.MixOutIdeal.Layer

open Cert.MixOutIdeal Cert.MixOutIdeal.Gen Cert.LayerSpec

theorem newRow_congr {a a' : Fin 1024 → EReal} {p p' r r' : Fin 512 → EReal} {x x' : Fin 2048 → EReal} {ga ga' : Fin 1024 → EReal}
    {gp gp' gr gr' : Fin 512 → EReal} {w w' : Fin 2048 → Fin 2048 → EReal} {g g' e e' : Fin 2048 → EReal} (h1 : a = a') (h2 : p = p') (h3 : r = r')
    (h4 : x = x') (h5 : ga = ga') (h6 : gp = gp') (h7 : gr = gr') (h8 : w = w') (h9 : g = g') (h10 : e = e') :
    newRow a p r x ga gp gr w g e = newRow a' p' r' x' ga' gp' gr' w' g' e' := by
  rw [h1, h2, h3, h4, h5, h6, h7, h8, h9, h10]

theorem hiddenRow_congr {x x' g g' sc sc' sh sh' : Fin 2048 → EReal} (h1 : x = x') (h2 : g = g') (h3 : sc = sc') (h4 : sh = sh') :
    hiddenRow x g sc sh = hiddenRow x' g' sc' sh' := by
  rw [h1, h2, h3, h4]

variable (m : (ℓ : Loc nD τ sig) → Buf (Elt Ideal) ℓ) (c : Dev nD)

/-- The windows' block numbers at a point. -/
theorem idxs : ∀ t : Fin grid0.N,
    win0_0.index t = ![t.val, 0] ∧ win0_1.index t = ![t.val, 0] ∧ win0_2.index t = ![t.val, 0] ∧ win0_3.index t = ![t.val, 0]
    ∧ win0_13.index t = ![0, t.val, 0] ∧ win0_14.index t = ![t.val, 0] ∧ win0_15.index t = ![t.val, 0] ∧ win0_16.index t = ![t.val, 0] := by
  decide +kernel

/-- The windows that stay at their first block. -/
theorem idxs0 : ∀ t : Fin grid0.N,
    win0_4.index t = ![0, 0] ∧ win0_5.index t = ![0, 0] ∧ win0_6.index t = ![0, 0] ∧ win0_7.index t = ![0, 0, 0] ∧ win0_8.index t = ![0, 0]
    ∧ win0_9.index t = ![0, 0] ∧ win0_10.index t = ![0, 0] ∧ win0_11.index t = ![0, 0] ∧ win0_12.index t = ![0, 0] := by
  decide +kernel

theorem x0_val (t : Fin cfg0.N) (ht : t.val < 16) (i : Fin 512) (k : Fin 1024) :
    iblk m c 0 t (ix2 i k : S512x1024.Idx) = m ((c : Thread nD τ).loc main_arg0) (ix2 ⟨512 * t.val + i.val, by omega⟩ k : S8192x1024.Idx) := by
  blk_ext! [iblk, V, (idxs t).1]

theorem x1_val (t : Fin cfg0.N) (ht : t.val < 16) (i : Fin 512) (k : Fin 512) :
    iblk m c 1 t (ix2 i k : S512x512.Idx) = m ((c : Thread nD τ).loc main_arg1) (ix2 ⟨512 * t.val + i.val, by omega⟩ k : S8192x512.Idx) := by
  blk_ext! [iblk, V, (idxs t).2.1]

theorem x2_val (t : Fin cfg0.N) (ht : t.val < 16) (i : Fin 512) (k : Fin 512) :
    iblk m c 2 t (ix2 i k : S512x512.Idx) = m ((c : Thread nD τ).loc main_arg2) (ix2 ⟨512 * t.val + i.val, by omega⟩ k : S8192x512.Idx) := by
  blk_ext! [iblk, V, (idxs t).2.2.1]

theorem x3_val (t : Fin cfg0.N) (ht : t.val < 16) (i : Fin 512) (k : Fin 2048) :
    iblk m c 3 t (ix2 i k : S512x2048.Idx) = m ((c : Thread nD τ).loc main_arg3) (ix2 ⟨512 * t.val + i.val, by omega⟩ k : S8192x2048.Idx) := by
  blk_ext! [iblk, V, (idxs t).2.2.2.1]

theorem x4_val (t : Fin cfg0.N) (k : Fin 1024) :
    iblk m c 4 t (ix2 0 k : S1x1024.Idx) = m ((c : Thread nD τ).loc main_arg4) (ix1 k : S1024.Idx) := by
  blk_ext! [iblk, V, (idxs0 t).1]

theorem x5_val (t : Fin cfg0.N) (k : Fin 512) :
    iblk m c 5 t (ix2 0 k : S1x512.Idx) = m ((c : Thread nD τ).loc main_arg5) (ix1 k : S512.Idx) := by
  blk_ext! [iblk, V, (idxs0 t).2.1]

theorem x6_val (t : Fin cfg0.N) (k : Fin 512) :
    iblk m c 6 t (ix2 0 k : S1x512.Idx) = m ((c : Thread nD τ).loc main_arg6) (ix1 k : S512.Idx) := by
  blk_ext! [iblk, V, (idxs0 t).2.2.1]

theorem x7_val (t : Fin cfg0.N) (k l : Fin 2048) :
    iblk m c 7 t (ix3 0 k l : S1x2048x2048.Idx) = m ((c : Thread nD τ).loc main_arg7) (ix3 0 k l : S2x2048x2048.Idx) := by
  blk_ext! [iblk, V, (idxs0 t).2.2.2.1]

theorem x8_val (t : Fin cfg0.N) (k : Fin 2048) :
    iblk m c 8 t (ix2 0 k : S1x2048.Idx) = m ((c : Thread nD τ).loc main_arg8) (ix1 k : S2048.Idx) := by
  blk_ext! [iblk, V, (idxs0 t).2.2.2.2.1]

theorem x9_val (t : Fin cfg0.N) (k : Fin 2048) :
    iblk m c 9 t (ix2 0 k : S1x2048.Idx) = m ((c : Thread nD τ).loc main_arg9) (ix2 0 k : S1x2048.Idx) := by
  blk_ext! [iblk, V, (idxs0 t).2.2.2.2.2.1]

theorem x10_val (t : Fin cfg0.N) (k : Fin 2048) :
    iblk m c 10 t (ix2 0 k : S1x2048.Idx) = m ((c : Thread nD τ).loc main_arg10) (ix1 k : S2048.Idx) := by
  blk_ext! [iblk, V, (idxs0 t).2.2.2.2.2.2.1]

theorem x11_val (t : Fin cfg0.N) (k : Fin 2048) :
    iblk m c 11 t (ix2 0 k : S1x2048.Idx) = m ((c : Thread nD τ).loc main_arg11) (ix2 0 k : S1x2048.Idx) := by
  blk_ext! [iblk, V, (idxs0 t).2.2.2.2.2.2.2.1]

theorem x12_val (t : Fin cfg0.N) (k : Fin 2048) :
    iblk m c 12 t (ix2 0 k : S1x2048.Idx) = m ((c : Thread nD τ).loc main_arg12) (ix2 0 k : S1x2048.Idx) := by
  blk_ext! [iblk, V, (idxs0 t).2.2.2.2.2.2.2.2]

theorem x13_val (t : Fin cfg0.N) (ht : t.val < 16) (i : Fin 128) (l : Fin 8192) :
    iblk m c 13 t (ix3 0 i l : S1x128x8192.Idx) = m ((c : Thread nD τ).loc main_arg13) (ix3 0 ⟨128 * t.val + i.val, by omega⟩ l : S2x2048x8192.Idx) := by
  blk_ext! [iblk, V, (idxs t).2.2.2.2.1]

theorem place_new (t : Fin cfg0.N) (ht : t.val < 16) (i : Fin 512) (l : Fin 2048) :
    ((cfg0.win 14).blk t).view.emb (ix2 i l : S512x2048.Idx) = (ix2 ⟨512 * t.val + i.val, by omega⟩ l : S8192x2048.Idx) := by
  have e := (idxs t).2.2.2.2.2.1
  funext a; apply Fin.ext
  match a with
  | ⟨0, _⟩ => show win0_14.index t 0 * 512 + 1 * i.val = _; rw [e]; show t.val * 512 + 1 * i.val = 512 * t.val + i.val; omega
  | ⟨1, _⟩ => show win0_14.index t 1 * 2048 + 1 * l.val = _; rw [e]; show 0 * 2048 + 1 * l.val = l.val; omega

theorem place_hid (t : Fin cfg0.N) (ht : t.val < 16) (i : Fin 512) (l : Fin 2048) :
    ((cfg0.win 15).blk t).view.emb (ix2 i l : S512x2048.Idx) = (ix2 ⟨512 * t.val + i.val, by omega⟩ l : S8192x2048.Idx) := by
  have e := (idxs t).2.2.2.2.2.2.1
  funext a; apply Fin.ext
  match a with
  | ⟨0, _⟩ => show win0_15.index t 0 * 512 + 1 * i.val = _; rw [e]; show t.val * 512 + 1 * i.val = 512 * t.val + i.val; omega
  | ⟨1, _⟩ => show win0_15.index t 1 * 2048 + 1 * l.val = _; rw [e]; show 0 * 2048 + 1 * l.val = l.val; omega

theorem place_up (t : Fin cfg0.N) (ht : t.val < 16) (i : Fin 128) (l : Fin 8192) :
    ((cfg0.win 16).blk t).view.emb (ix2 i l : S128x8192.Idx) = (ix2 ⟨128 * t.val + i.val, by omega⟩ l : S2048x8192.Idx) := by
  have e := (idxs t).2.2.2.2.2.2.2
  funext a; apply Fin.ext
  match a with
  | ⟨0, _⟩ => show win0_16.index t 0 * 128 + 1 * i.val = _; rw [e]; show t.val * 128 + 1 * i.val = 128 * t.val + i.val; omega
  | ⟨1, _⟩ => show win0_16.index t 1 * 8192 + 1 * l.val = _; rw [e]; show 0 * 8192 + 1 * l.val = l.val; omega

/-- Row `r` of the residual over a memory. -/
def resNew (r : Fin 8192) : Fin 2048 → EReal :=
  newRow (fun k => m ((c : Thread nD τ).loc main_arg0) (ix2 r k : S8192x1024.Idx)) (fun k => m ((c : Thread nD τ).loc main_arg1) (ix2 r k : S8192x512.Idx))
    (fun k => m ((c : Thread nD τ).loc main_arg2) (ix2 r k : S8192x512.Idx)) (fun k => m ((c : Thread nD τ).loc main_arg3) (ix2 r k : S8192x2048.Idx))
    (fun k => m ((c : Thread nD τ).loc main_arg4) (ix1 k : S1024.Idx)) (fun k => m ((c : Thread nD τ).loc main_arg5) (ix1 k : S512.Idx)) (fun k => m ((c : Thread nD τ).loc main_arg6) (ix1 k : S512.Idx))
    (fun k l => m ((c : Thread nD τ).loc main_arg7) (ix3 0 k l : S2x2048x2048.Idx)) (fun l => m ((c : Thread nD τ).loc main_arg8) (ix1 l : S2048.Idx)) (fun l => m ((c : Thread nD τ).loc main_arg9) (ix2 0 l : S1x2048.Idx))

/-- Row `r` of the channel mixer's input over a memory. -/
def resHid (r : Fin 8192) : Fin 2048 → EReal :=
  hiddenRow (resNew m c r) (fun l => m ((c : Thread nD τ).loc main_arg10) (ix1 l : S2048.Idx)) (fun l => m ((c : Thread nD τ).loc main_arg11) (ix2 0 l : S1x2048.Idx)) (fun l => m ((c : Thread nD τ).loc main_arg12) (ix2 0 l : S1x2048.Idx))

theorem row_new (t : Fin cfg0.N) (ht : t.val < 16) (i : Fin 512) :
    newRow (fun k => iblk m c 0 t (ix2 i k : S512x1024.Idx)) (fun k => iblk m c 1 t (ix2 i k : S512x512.Idx)) (fun k => iblk m c 2 t (ix2 i k : S512x512.Idx))
        (fun k => iblk m c 3 t (ix2 i k : S512x2048.Idx)) (fun k => iblk m c 4 t (ix2 0 k : S1x1024.Idx)) (fun k => iblk m c 5 t (ix2 0 k : S1x512.Idx))
        (fun k => iblk m c 6 t (ix2 0 k : S1x512.Idx)) (fun k l => iblk m c 7 t (ix3 0 k l : S1x2048x2048.Idx)) (fun l => iblk m c 8 t (ix2 0 l : S1x2048.Idx))
        (fun l => iblk m c 9 t (ix2 0 l : S1x2048.Idx))
      = resNew m c ⟨512 * t.val + i.val, by omega⟩ :=
  newRow_congr (funext (x0_val m c t ht i)) (funext (x1_val m c t ht i)) (funext (x2_val m c t ht i)) (funext (x3_val m c t ht i)) (funext (x4_val m c t))
    (funext (x5_val m c t)) (funext (x6_val m c t)) (funext fun k => funext (x7_val m c t k)) (funext (x8_val m c t)) (funext (x9_val m c t))

theorem block_new (t : Fin cfg0.N) (ht : t.val < 16) (i : Fin 512) (l : Fin 2048) :
    (dats m 0 c).arrAt 14 cfg0.N (ix2 ⟨512 * t.val + i.val, by omega⟩ l : S8192x2048.Idx) = resNew m c ⟨512 * t.val + i.val, by omega⟩ l :=
  (congrArg ((dats m 0 c).arrAt 14 cfg0.N) (place_new t ht i l)).symm.trans
    (((dats m 0 c).arrAt_emb_eq_flushed 14 Value.disjoint14 t (flush0_14 t) (ix2 i l : S512x2048.Idx)).trans
      ((congrFun (Value.flushed14 m c t) (ix2 i l : S512x2048.Idx)).trans
        ((out_new _ _ _ _ _ _ _ _ _ _ _ _ _ _ i l).trans (congrFun (row_new m c t ht i) l))))

theorem block_hid (t : Fin cfg0.N) (ht : t.val < 16) (i : Fin 512) (l : Fin 2048) :
    (dats m 0 c).arrAt 15 cfg0.N (ix2 ⟨512 * t.val + i.val, by omega⟩ l : S8192x2048.Idx) = resHid m c ⟨512 * t.val + i.val, by omega⟩ l :=
  (congrArg ((dats m 0 c).arrAt 15 cfg0.N) (place_hid t ht i l)).symm.trans
    (((dats m 0 c).arrAt_emb_eq_flushed 15 Value.disjoint15 t (flush0_15 t) (ix2 i l : S512x2048.Idx)).trans
      ((congrFun (Value.flushed15 m c t) (ix2 i l : S512x2048.Idx)).trans
        ((out_hidden _ _ _ _ _ _ _ _ _ _ _ _ _ _ i l).trans
          (congrFun (hiddenRow_congr (row_new m c t ht i) (funext (x10_val m c t)) (funext (x11_val m c t)) (funext (x12_val m c t))) l))))

theorem block_up (t : Fin cfg0.N) (ht : t.val < 16) (i : Fin 128) (l : Fin 8192) :
    (dats m 0 c).arrAt 16 cfg0.N (ix2 ⟨128 * t.val + i.val, by omega⟩ l : S2048x8192.Idx)
      = m ((c : Thread nD τ).loc main_arg13) (ix3 0 ⟨128 * t.val + i.val, by omega⟩ l : S2x2048x8192.Idx) :=
  (congrArg ((dats m 0 c).arrAt 16 cfg0.N) (place_up t ht i l)).symm.trans
    (((dats m 0 c).arrAt_emb_eq_flushed 16 Value.disjoint16 t (flush0_16 t) (ix2 i l : S128x8192.Idx)).trans
      ((congrFun (Value.flushed16 m c t) (ix2 i l : S128x8192.Idx)).trans ((out_up _ _ _ _ _ _ _ _ _ _ _ _ _ _ i l).trans (x13_val m c t ht i l))))

theorem final_new (r : Fin 8192) (l : Fin 2048) : (dats m 0 c).arrAt 14 cfg0.N (ix2 r l : S8192x2048.Idx) = resNew m c r l := by
  have h := block_new m c ⟨r.val / 512, show r.val / 512 < 16 by omega⟩ (show r.val / 512 < 16 by omega) ⟨r.val % 512, by omega⟩ l
  rwa [show (⟨512 * (r.val / 512) + r.val % 512, by omega⟩ : Fin 8192) = r from Fin.ext (show 512 * (r.val / 512) + r.val % 512 = r.val by omega)] at h

theorem final_hid (r : Fin 8192) (l : Fin 2048) : (dats m 0 c).arrAt 15 cfg0.N (ix2 r l : S8192x2048.Idx) = resHid m c r l := by
  have h := block_hid m c ⟨r.val / 512, show r.val / 512 < 16 by omega⟩ (show r.val / 512 < 16 by omega) ⟨r.val % 512, by omega⟩ l
  rwa [show (⟨512 * (r.val / 512) + r.val % 512, by omega⟩ : Fin 8192) = r from Fin.ext (show 512 * (r.val / 512) + r.val % 512 = r.val by omega)] at h

theorem final_up (r : Fin 2048) (l : Fin 8192) : (dats m 0 c).arrAt 16 cfg0.N (ix2 r l : S2048x8192.Idx) = m ((c : Thread nD τ).loc main_arg13) (ix3 0 r l : S2x2048x8192.Idx) := by
  have h := block_up m c ⟨r.val / 128, show r.val / 128 < 16 by omega⟩ (show r.val / 128 < 16 by omega) ⟨r.val % 128, by omega⟩ l
  rwa [show (⟨128 * (r.val / 128) + r.val % 128, by omega⟩ : Fin 2048) = r from Fin.ext (show 128 * (r.val / 128) + r.val % 128 = r.val by omega)] at h

end Cert.MixOutIdeal.Layer

namespace Cert.Proof.Out

open Cert.LayerSpec Cert.MixOutRefIdeal Cert.MixOutRefIdeal.Gen

theorem algebraic : Cert.algebraic_MixOutIdeal_MixOutRefIdeal := by
  intro m ρ m' ρ' _ hag
  refine ⟨fun c => (MixOutIdeal.Gen.dats m 0 c).arrAt 14 MixOutIdeal.cfg0.N, fun c => (MixOutIdeal.Gen.dats m 0 c).arrAt 15 MixOutIdeal.cfg0.N,
    fun c => (MixOutIdeal.Gen.dats m 0 c).arrAt 16 MixOutIdeal.cfg0.N, MixOutIdeal.Value.run_blocks m ρ, ?_⟩
  refine (θ_run MixOutRefIdeal.defs _ _).mono (fun _ h c => ⟨(h c).1.trans ?_, (h c).2.1.trans ?_, (h c).2.2.1.trans ?_, (h c).2.2.2⟩)
    (MixOutRefIdeal.Value.run (F := Ideal) m' ρ')
  · funext y
    obtain ⟨e0, e1, e2, e3, e4, e5, e6, e7, e8, e9, e10, e11, e12, e13⟩ := hag c
    rw [MixOutRefIdeal.Layer.res_new, e0, e1, e2, e3, e4, e5, e6, e7, e8, e9, eq_ix2 y]
    generalize y 0 = r
    generalize y 1 = l
    exact (MixOutRefIdeal.Layer.new_val _ _ _ _ _ _ _ _ _ _ r l).trans (MixOutIdeal.Layer.final_new m c r l).symm
  · funext y
    obtain ⟨e0, e1, e2, e3, e4, e5, e6, e7, e8, e9, e10, e11, e12, e13⟩ := hag c
    rw [MixOutRefIdeal.Layer.res_hid, e0, e1, e2, e3, e4, e5, e6, e7, e8, e9, e10, e11, e12, eq_ix2 y]
    generalize y 0 = r
    generalize y 1 = l
    exact (MixOutRefIdeal.Layer.hid_val _ _ _ _ _ _ _ _ _ _ _ _ _ r l).trans (MixOutIdeal.Layer.final_hid m c r l).symm
  · funext y
    obtain ⟨e0, e1, e2, e3, e4, e5, e6, e7, e8, e9, e10, e11, e12, e13⟩ := hag c
    rw [e13, eq_ix2 y]
    generalize y 0 = r
    generalize y 1 = l
    refine Eq.trans ?_ (MixOutIdeal.Layer.final_up m c r l).symm
    pointwise []

end Cert.Proof.Out
end
-- ==== Proof.Layer.Up.lean ====
/- The up product of the channel mixer with its squared ReLU, and the down weights it lays out: what the call leaves is what the reference leaves. -/
module

public import proofs.«01_k».proof.Defs
public import proofs.«01_k».proof.Proof.Layer.Spec
public import proofs.«01_k».proof.Proof.Gen.MlpUpIdeal.Value
public import proofs.«01_k».proof.Proof.Gen.MlpUpRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.MlpUpIdeal.Layer

open Cert.MlpUpIdeal Cert.MlpUpIdeal.Gen Cert.LayerSpec

/-- The squared ReLU of one product. -/
def act (h w : Fin 2048 → EReal) : EReal := max (∑ k, h k * w k) 0 * max (∑ k, h k * w k) 0

theorem act_congr {h h' w w' : Fin 2048 → EReal} (e : h = h') (e' : w = w') : act h w = act h' w' := by rw [e, e']

/-- What a point writes to the activations, at an index. -/
theorem out_act (x0 : Vec Ideal S512x2048 .bf16) (x1 : Vec Ideal S2048x4096 .bf16) (x2 : Vec Ideal S1x256x2048 .f32) (i : Fin 512) (l : Fin 4096) :
    out0_3 (F := Ideal) x0 x1 x2 (ix2 i l) = act (fun k => x0 (ix2 i k)) (fun k => x1 (ix2 k l)) := by
  unfold out0_3 r0_2
  rw [View.canon_unit_zero whole2]
  unfold r0_0 r0_1
  rw [View.ld_unit_zero (S := S512x2048) whole2, View.ld_unit_zero (S := S2048x4096) whole2]
  unfold act
  pointwise [k0_pay1]

/-- What a point writes to the laid-out weights, at an index. -/
theorem out_cast (x0 : Vec Ideal S512x2048 .bf16) (x1 : Vec Ideal S2048x4096 .bf16) (x2 : Vec Ideal S1x256x2048 .f32) (i : Fin 256) (l : Fin 2048) :
    out0_4 (F := Ideal) x0 x1 x2 (ix2 i l) = x2 (ix3 0 i l) := by
  unfold out0_4 r0_4
  rw [View.canon_unit_zero whole2]
  unfold r0_3
  rw [View.ld_unit_zero (S := S1x256x2048) whole3]
  pointwise [k0_pay2]

variable (m : (ℓ : Loc nD τ sig) → Buf (Elt Ideal) ℓ) (c : Dev nD)

/-- The windows' block numbers at a point: the columns' half is the slow coordinate, the rows' block the fast one. -/
theorem idxs : ∀ t : Fin grid0.N,
    win0_0.index t = ![t.val % 16, 0] ∧ win0_1.index t = ![0, t.val / 16] ∧ win0_2.index t = ![0, t.val, 0]
    ∧ win0_3.index t = ![t.val % 16, t.val / 16] ∧ win0_4.index t = ![t.val, 0] ∧ t.val < 32 := by
  decide +kernel

theorem x0_val (t : Fin cfg0.N) (ht : t.val < 32) (i : Fin 512) (k : Fin 2048) :
    iblk m c 0 t (ix2 i k : S512x2048.Idx) = m ((c : Thread nD τ).loc main_arg0) (ix2 ⟨512 * (t.val % 16) + i.val, by omega⟩ k : S8192x2048.Idx) := by
  blk_ext! [iblk, V, (idxs t).1]

theorem x1_val (t : Fin cfg0.N) (ht : t.val < 32) (l : Fin 4096) (k : Fin 2048) :
    iblk m c 1 t (ix2 k l : S2048x4096.Idx) = m ((c : Thread nD τ).loc main_arg1) (ix2 k ⟨4096 * (t.val / 16) + l.val, by omega⟩ : S2048x8192.Idx) := by
  blk_ext! [iblk, V, (idxs t).2.1]

theorem x2_val (t : Fin cfg0.N) (ht : t.val < 32) (i : Fin 256) (l : Fin 2048) :
    iblk m c 2 t (ix3 0 i l : S1x256x2048.Idx) = m ((c : Thread nD τ).loc main_arg2) (ix3 0 ⟨256 * t.val + i.val, by omega⟩ l : S2x8192x2048.Idx) := by
  blk_ext! [iblk, V, (idxs t).2.2.1]

/-- The place of an element of point `t`'s block of the activations. -/
theorem place_act (t : Fin cfg0.N) (ht : t.val < 32) (i : Fin 512) (l : Fin 4096) :
    ((cfg0.win 3).blk t).view.emb (ix2 i l : S512x4096.Idx)
      = (ix2 ⟨512 * (t.val % 16) + i.val, by omega⟩ ⟨4096 * (t.val / 16) + l.val, by omega⟩ : S8192x8192.Idx) := by
  have e := (idxs t).2.2.2.1
  funext a; apply Fin.ext
  match a with
  | ⟨0, _⟩ => show win0_3.index t 0 * 512 + 1 * i.val = _; rw [e]; show t.val % 16 * 512 + 1 * i.val = 512 * (t.val % 16) + i.val; omega
  | ⟨1, _⟩ => show win0_3.index t 1 * 4096 + 1 * l.val = _; rw [e]; show t.val / 16 * 4096 + 1 * l.val = 4096 * (t.val / 16) + l.val; omega

/-- The place of an element of point `t`'s block of the weights. -/
theorem place_cast (t : Fin cfg0.N) (ht : t.val < 32) (i : Fin 256) (l : Fin 2048) :
    ((cfg0.win 4).blk t).view.emb (ix2 i l : S256x2048.Idx) = (ix2 ⟨256 * t.val + i.val, by omega⟩ l : S8192x2048.Idx) := by
  have e := (idxs t).2.2.2.2.1
  funext a; apply Fin.ext
  match a with
  | ⟨0, _⟩ => show win0_4.index t 0 * 256 + 1 * i.val = _; rw [e]; show t.val * 256 + 1 * i.val = 256 * t.val + i.val; omega
  | ⟨1, _⟩ => show win0_4.index t 1 * 2048 + 1 * l.val = _; rw [e]; show 0 * 2048 + 1 * l.val = l.val; omega

/-- Row `r`, column `l` of the activations over a memory. -/
def res (r l : Fin 8192) : EReal :=
  act (fun k => m ((c : Thread nD τ).loc main_arg0) (ix2 r k : S8192x2048.Idx)) (fun k => m ((c : Thread nD τ).loc main_arg1) (ix2 k l : S2048x8192.Idx))

theorem block_act (t : Fin cfg0.N) (ht : t.val < 32) (i : Fin 512) (l : Fin 4096) :
    (dats m 0 c).arrAt 3 cfg0.N (ix2 ⟨512 * (t.val % 16) + i.val, by omega⟩ ⟨4096 * (t.val / 16) + l.val, by omega⟩ : S8192x8192.Idx)
      = res m c ⟨512 * (t.val % 16) + i.val, by omega⟩ ⟨4096 * (t.val / 16) + l.val, by omega⟩ :=
  (congrArg ((dats m 0 c).arrAt 3 cfg0.N) (place_act t ht i l)).symm.trans
    (((dats m 0 c).arrAt_emb_eq_flushed 3 Value.disjoint3 t (flush0_3 t) (ix2 i l : S512x4096.Idx)).trans
      ((congrFun (Value.flushed3 m c t) (ix2 i l : S512x4096.Idx)).trans
        ((out_act _ _ _ i l).trans (act_congr (funext (x0_val m c t ht i)) (funext (x1_val m c t ht l))))))

theorem block_cast (t : Fin cfg0.N) (ht : t.val < 32) (i : Fin 256) (l : Fin 2048) :
    (dats m 0 c).arrAt 4 cfg0.N (ix2 ⟨256 * t.val + i.val, by omega⟩ l : S8192x2048.Idx)
      = m ((c : Thread nD τ).loc main_arg2) (ix3 0 ⟨256 * t.val + i.val, by omega⟩ l : S2x8192x2048.Idx) :=
  (congrArg ((dats m 0 c).arrAt 4 cfg0.N) (place_cast t ht i l)).symm.trans
    (((dats m 0 c).arrAt_emb_eq_flushed 4 Value.disjoint4 t (flush0_4 t) (ix2 i l : S256x2048.Idx)).trans
      ((congrFun (Value.flushed4 m c t) (ix2 i l : S256x2048.Idx)).trans ((out_cast _ _ _ i l).trans (x2_val m c t ht i l))))

/-- The activations the call leaves. -/
theorem final_act (r l : Fin 8192) : (dats m 0 c).arrAt 3 cfg0.N (ix2 r l : S8192x8192.Idx) = res m c r l := by
  have hb : 16 * (l.val / 4096) + r.val / 512 < 32 := by omega
  have h := block_act m c ⟨16 * (l.val / 4096) + r.val / 512, hb⟩ hb ⟨r.val % 512, by omega⟩ ⟨l.val % 4096, by omega⟩
  have er : (⟨512 * ((16 * (l.val / 4096) + r.val / 512) % 16) + r.val % 512, by omega⟩ : Fin 8192) = r := Fin.ext (by
    show 512 * ((16 * (l.val / 4096) + r.val / 512) % 16) + r.val % 512 = r.val; omega)
  have el : (⟨4096 * ((16 * (l.val / 4096) + r.val / 512) / 16) + l.val % 4096, by omega⟩ : Fin 8192) = l := Fin.ext (by
    show 4096 * ((16 * (l.val / 4096) + r.val / 512) / 16) + l.val % 4096 = l.val; omega)
  rwa [er, el] at h

/-- The weights the call leaves. -/
theorem final_cast (r : Fin 8192) (l : Fin 2048) : (dats m 0 c).arrAt 4 cfg0.N (ix2 r l : S8192x2048.Idx)
    = m ((c : Thread nD τ).loc main_arg2) (ix3 0 r l : S2x8192x2048.Idx) := by
  have h := block_cast m c ⟨r.val / 256, show r.val / 256 < 32 by omega⟩ (show r.val / 256 < 32 by omega) ⟨r.val % 256, by omega⟩ l
  rwa [show (⟨256 * (r.val / 256) + r.val % 256, by omega⟩ : Fin 8192) = r from Fin.ext (show 256 * (r.val / 256) + r.val % 256 = r.val by omega)] at h

end Cert.MlpUpIdeal.Layer

namespace Cert.Proof.Up

open Cert.LayerSpec Cert.MlpUpRefIdeal Cert.MlpUpRefIdeal.Gen

theorem algebraic : Cert.algebraic_MlpUpIdeal_MlpUpRefIdeal := by
  intro m ρ m' ρ' _ hag
  refine ⟨fun c => (MlpUpIdeal.Gen.dats m 0 c).arrAt 3 MlpUpIdeal.cfg0.N, fun c => (MlpUpIdeal.Gen.dats m 0 c).arrAt 4 MlpUpIdeal.cfg0.N,
    MlpUpIdeal.Value.run_blocks m ρ, ?_⟩
  refine (θ_run MlpUpRefIdeal.defs _ _).mono (fun _ h c => ⟨(h c).1.trans ?_, (h c).2.1.trans ?_, (h c).2.2⟩) (MlpUpRefIdeal.Value.run (F := Ideal) m' ρ')
  · funext y
    obtain ⟨e0, e1, e2⟩ := hag c
    rw [e0, e1, eq_ix2 y]
    generalize y 0 = r
    generalize y 1 = l
    refine Eq.trans ?_ (MlpUpIdeal.Layer.final_act m c r l).symm
    unfold MlpUpIdeal.Layer.res MlpUpIdeal.Layer.act
    pointwise []
  · funext y
    obtain ⟨e0, e1, e2⟩ := hag c
    rw [e2, eq_ix2 y]
    generalize y 0 = r
    generalize y 1 = l
    refine Eq.trans ?_ (MlpUpIdeal.Layer.final_cast m c r l).symm
    pointwise []

end Cert.Proof.Up
end
-- ==== Proof.Layer.Down.lean ====
/- The down product of the channel mixer with its rowNorm, gate and residual: what the call leaves is what the reference leaves. -/
module

public import proofs.«01_k».proof.Defs
public import proofs.«01_k».proof.Proof.Layer.Spec
public import proofs.«01_k».proof.Proof.Gen.MlpDownIdeal.Value
public import proofs.«01_k».proof.Proof.Gen.MlpDownRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.MlpDownIdeal.Layer

open Cert.MlpDownIdeal Cert.MlpDownIdeal.Gen Cert.LayerSpec

/-- Row `i`, column `l` of the result: the residual and the gated rowNorm of the row's product. -/
def last (u : Fin 8192 → EReal) (w : Fin 8192 → Fin 2048 → EReal) (x : EReal) (g e : Fin 2048 → EReal) (l : Fin 2048) : EReal :=
  x + e l * rowNorm 0x45000000#32 (rowDot u w) g l

theorem last_congr {u u' : Fin 8192 → EReal} {w w' : Fin 8192 → Fin 2048 → EReal} {x x' : EReal} {g g' e e' : Fin 2048 → EReal}
    (hu : u = u') (hw : w = w') (hx : x = x') (hg : g = g') (he : e = e') (l : Fin 2048) : last u w x g e l = last u' w' x' g' e' l := by
  rw [hu, hw, hx, hg, he]

/-- What a point writes, at an index. -/
theorem out_val (x0 : Vec Ideal S256x8192 .bf16) (x1 : Vec Ideal S8192x2048 .bf16) (x2 : Vec Ideal S256x2048 .f32)
    (x3 x4 : Vec Ideal S1x2048 .f32) (i : Fin 256) (l : Fin 2048) :
    out0_5 (F := Ideal) x0 x1 x2 x3 x4 (ix2 i l)
      = last (fun k => x0 (ix2 i k)) (fun k l => x1 (ix2 k l)) (x2 (ix2 i l)) (fun l => x3 (ix2 0 l)) (fun l => x4 (ix2 0 l)) l := by
  unfold out0_5 r0_2
  rw [View.canon_unit_zero whole2]
  unfold r0_0 r0_1 r0_3
  rw [View.ld_unit_zero (S := S256x8192) whole2, View.ld_unit_zero (S := S8192x2048) whole2, View.ld_unit_zero (S := S256x2048) whole2,
    View.ld_unit_zero (S := S1x2048) whole2, View.ld_unit_zero (S := S1x2048) whole2]
  unfold last rowNorm rowDot
  pointwise [k0_pay1]

variable (m : (ℓ : Loc nD τ sig) → Buf (Elt Ideal) ℓ) (c : Dev nD)

/-- The windows' block numbers at a point. -/
theorem idxs : ∀ t : Fin grid0.N,
    win0_0.index t = ![t.val, 0] ∧ win0_1.index t = ![0, 0] ∧ win0_2.index t = ![t.val, 0]
    ∧ win0_3.index t = ![0, 0] ∧ win0_4.index t = ![0, 0] ∧ win0_5.index t = ![t.val, 0] ∧ t.val < 32 := by
  decide +kernel

theorem x0_val (t : Fin cfg0.N) (ht : t.val < 32) (i : Fin 256) (k : Fin 8192) :
    iblk m c 0 t (ix2 i k : S256x8192.Idx) = m ((c : Thread nD τ).loc main_arg0) (ix2 ⟨256 * t.val + i.val, by omega⟩ k : S8192x8192.Idx) := by
  blk_ext! [iblk, V, (idxs t).1]

theorem x1_val (t : Fin cfg0.N) (k : Fin 8192) (l : Fin 2048) :
    iblk m c 1 t (ix2 k l : S8192x2048.Idx) = m ((c : Thread nD τ).loc main_arg1) (ix2 k l : S8192x2048.Idx) := by
  blk_ext! [iblk, V, (idxs t).2.1]

theorem x2_val (t : Fin cfg0.N) (ht : t.val < 32) (i : Fin 256) (l : Fin 2048) :
    iblk m c 2 t (ix2 i l : S256x2048.Idx) = m ((c : Thread nD τ).loc main_arg2) (ix2 ⟨256 * t.val + i.val, by omega⟩ l : S8192x2048.Idx) := by
  blk_ext! [iblk, V, (idxs t).2.2.1]

theorem x3_val (t : Fin cfg0.N) (l : Fin 2048) :
    iblk m c 3 t (ix2 0 l : S1x2048.Idx) = m ((c : Thread nD τ).loc main_arg3) (ix1 l : S2048.Idx) := by
  blk_ext! [iblk, V, (idxs t).2.2.2.1]

theorem x4_val (t : Fin cfg0.N) (l : Fin 2048) :
    iblk m c 4 t (ix2 0 l : S1x2048.Idx) = m ((c : Thread nD τ).loc main_arg4) (ix2 0 l : S1x2048.Idx) := by
  blk_ext! [iblk, V, (idxs t).2.2.2.2.1]

/-- The place of an element of point `t`'s block in the result. -/
theorem place (t : Fin cfg0.N) (ht : t.val < 32) (i : Fin 256) (l : Fin 2048) :
    ((cfg0.win 5).blk t).view.emb (ix2 i l : S256x2048.Idx) = (ix2 ⟨256 * t.val + i.val, by omega⟩ l : S8192x2048.Idx) := by
  have e := (idxs t).2.2.2.2.2.1
  funext a; apply Fin.ext
  match a with
  | ⟨0, _⟩ => show win0_5.index t 0 * 256 + 1 * i.val = _; rw [e]; show t.val * 256 + 1 * i.val = 256 * t.val + i.val; omega
  | ⟨1, _⟩ => show win0_5.index t 1 * 2048 + 1 * l.val = _; rw [e]; show 0 * 2048 + 1 * l.val = l.val; omega

/-- Block `t` of the result is what point `t` wrote. -/
theorem written (t : Fin cfg0.N) (ht : t.val < 32) (i : Fin 256) (l : Fin 2048) :
    (dats m 0 c).arrAt 5 cfg0.N (ix2 ⟨256 * t.val + i.val, by omega⟩ l : S8192x2048.Idx)
      = out0_5 (iblk m c 0 t) (iblk m c 1 t) (iblk m c 2 t) (iblk m c 3 t) (iblk m c 4 t) (ix2 i l) :=
  (congrArg ((dats m 0 c).arrAt 5 cfg0.N) (place t ht i l)).symm.trans
    (((dats m 0 c).arrAt_emb_eq_flushed 5 Value.disjoint5 t (flush0_5 t) (ix2 i l : S256x2048.Idx)).trans
      (congrFun (Value.flushed5 m c t) (ix2 i l : S256x2048.Idx)))

/-- Row `r`, column `l` of the result over a memory. -/
def res (r : Fin 8192) (l : Fin 2048) : EReal :=
  last (fun k => m ((c : Thread nD τ).loc main_arg0) (ix2 r k : S8192x8192.Idx))
    (fun k l => m ((c : Thread nD τ).loc main_arg1) (ix2 k l : S8192x2048.Idx))
    (m ((c : Thread nD τ).loc main_arg2) (ix2 r l : S8192x2048.Idx)) (fun l => m ((c : Thread nD τ).loc main_arg3) (ix1 l : S2048.Idx))
    (fun l => m ((c : Thread nD τ).loc main_arg4) (ix2 0 l : S1x2048.Idx)) l

theorem block_val (t : Fin cfg0.N) (ht : t.val < 32) (i : Fin 256) (l : Fin 2048) :
    (dats m 0 c).arrAt 5 cfg0.N (ix2 ⟨256 * t.val + i.val, by omega⟩ l : S8192x2048.Idx) = res m c ⟨256 * t.val + i.val, by omega⟩ l :=
  (written m c t ht i l).trans ((out_val _ _ _ _ _ i l).trans
    (last_congr (funext (x0_val m c t ht i)) (funext fun k => funext (x1_val m c t k)) (x2_val m c t ht i l) (funext (x3_val m c t))
      (funext (x4_val m c t)) l))

/-- The result of the call. -/
theorem final (r : Fin 8192) (l : Fin 2048) : (dats m 0 c).arrAt 5 cfg0.N (ix2 r l : S8192x2048.Idx) = res m c r l := by
  have h := block_val m c ⟨r.val / 256, show r.val / 256 < 32 by omega⟩ (show r.val / 256 < 32 by omega) ⟨r.val % 256, by omega⟩ l
  rwa [show (⟨256 * (r.val / 256) + r.val % 256, by omega⟩ : Fin 8192) = r from Fin.ext (show 256 * (r.val / 256) + r.val % 256 = r.val by omega)] at h

end Cert.MlpDownIdeal.Layer

namespace Cert.Proof.Down

open Cert.LayerSpec Cert.MlpDownRefIdeal Cert.MlpDownRefIdeal.Gen

theorem algebraic : Cert.algebraic_MlpDownIdeal_MlpDownRefIdeal := by
  intro m ρ m' ρ' _ hag
  refine ⟨fun c => (MlpDownIdeal.Gen.dats m 0 c).arrAt 5 MlpDownIdeal.cfg0.N, MlpDownIdeal.Value.run_blocks m ρ, ?_⟩
  refine (θ_run MlpDownRefIdeal.defs _ _).mono (fun _ h c => ⟨(h c).1.trans ?_, (h c).2⟩) (MlpDownRefIdeal.Value.run (F := Ideal) m' ρ')
  funext y
  obtain ⟨e0, e1, e2, e3, e4⟩ := hag c
  rw [e0, e1, e2, e3, e4, eq_ix2 y]
  generalize y 0 = r
  generalize y 1 = l
  refine Eq.trans ?_ (MlpDownIdeal.Layer.final m c r l).symm
  unfold MlpDownIdeal.Layer.res MlpDownIdeal.Layer.last rowNorm rowDot
  pointwise []

end Cert.Proof.Down
end
-- ==== Proof.Layer.Mod.lean ====
/- The modulation of the layers: what the call leaves is what the reference leaves. -/
module

public import proofs.«01_k».proof.Defs
public import proofs.«01_k».proof.Proof.Layer.Spec
public import proofs.«01_k».proof.Proof.Gen.ModulationIdeal.Value
public import proofs.«01_k».proof.Proof.Gen.ModulationRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.ModulationIdeal.Layer

open Cert.ModulationIdeal Cert.ModulationIdeal.Gen Cert.LayerSpec

/-- One column of the modulation: the gated conditioning times the weights, and the bias. -/
def col (v w : Fin 2048 → EReal) (b : EReal) : EReal := (∑ k, v k * Ideal.logistic (v k) * w k) + b

theorem col_congr {v v' w w' : Fin 2048 → EReal} {b b' : EReal} (e : v = v') (e' : w = w') (e'' : b = b') : col v w b = col v' w' b' := by
  rw [e, e', e'']

/-- What a point writes, at an index. -/
theorem out_val (x0 : Vec Ideal S2048x1 .f32) (x1 : Vec Ideal S1x2048x1024 .f32) (x2 : Vec Ideal S1x1x1024 .f32) (l : Fin 1024) :
    out0_3 (F := Ideal) x0 x1 x2 (ix3 0 0 l) = col (fun k => x0 (ix2 k 0)) (fun k => x1 (ix3 0 k l)) (x2 (ix3 0 0 l)) := by
  unfold out0_3 r0_2
  rw [View.canon_unit_zero whole3]
  unfold r0_0 r0_1
  rw [View.ld_unit_zero (S := S2048x1) whole2, View.ld_unit_zero (S := S1x2048x1024) whole3, View.ld_unit_zero (S := S1x1x1024) whole3]
  unfold col
  pointwise [k0_pay1]

variable (m : (ℓ : Loc nD τ sig) → Buf (Elt Ideal) ℓ) (c : Dev nD)

/-- The windows' block numbers at a point: the layer is the slow coordinate, the columns' block the fast one. -/
theorem idxs : ∀ t : Fin grid0.N,
    win0_0.index t = ![0, 0] ∧ win0_1.index t = ![t.val / 12, 0, t.val % 12] ∧ win0_2.index t = ![t.val / 12, 0, t.val % 12]
    ∧ win0_3.index t = ![t.val / 12, 0, t.val % 12] ∧ t.val < 24 := by
  decide +kernel

theorem x0_val (t : Fin cfg0.N) (k : Fin 2048) :
    iblk m c 0 t (ix2 k 0 : S2048x1.Idx) = m ((c : Thread nD τ).loc main_arg0) (ix2 0 k : S1x2048.Idx) := by
  blk_ext! [iblk, V, (idxs t).1]

theorem x1_val (t : Fin cfg0.N) (ht : t.val < 24) (l : Fin 1024) (k : Fin 2048) :
    iblk m c 1 t (ix3 0 k l : S1x2048x1024.Idx)
      = m ((c : Thread nD τ).loc main_arg1) (ix3 ⟨t.val / 12, by omega⟩ k ⟨1024 * (t.val % 12) + l.val, by omega⟩ : S2x2048x12288.Idx) := by
  blk_ext! [iblk, V, (idxs t).2.1]

theorem x2_val (t : Fin cfg0.N) (ht : t.val < 24) (l : Fin 1024) :
    iblk m c 2 t (ix3 0 0 l : S1x1x1024.Idx)
      = m ((c : Thread nD τ).loc main_arg2) (ix2 ⟨t.val / 12, by omega⟩ ⟨1024 * (t.val % 12) + l.val, by omega⟩ : S2x12288.Idx) := by
  blk_ext! [iblk, V, (idxs t).2.2.1]

/-- The place of an element of point `t`'s block. -/
theorem place (t : Fin cfg0.N) (ht : t.val < 24) (l : Fin 1024) :
    ((cfg0.win 3).blk t).view.emb (ix3 0 0 l : S1x1x1024.Idx)
      = (ix3 ⟨t.val / 12, by omega⟩ 0 ⟨1024 * (t.val % 12) + l.val, by omega⟩ : S2x1x12288.Idx) := by
  have e := (idxs t).2.2.2.1
  funext a; apply Fin.ext
  match a with
  | ⟨0, _⟩ => show win0_3.index t 0 * 1 + 1 * 0 = _; rw [e]; show t.val / 12 * 1 + 1 * 0 = t.val / 12; omega
  | ⟨1, _⟩ => show win0_3.index t 1 * 1 + 1 * 0 = _; rw [e]; rfl
  | ⟨2, _⟩ => show win0_3.index t 2 * 1024 + 1 * l.val = _; rw [e]; show t.val % 12 * 1024 + 1 * l.val = 1024 * (t.val % 12) + l.val; omega

/-- Layer `d`, column `l` of the modulation over a memory. -/
def res (d : Fin 2) (l : Fin 12288) : EReal :=
  col (fun k => m ((c : Thread nD τ).loc main_arg0) (ix2 0 k : S1x2048.Idx)) (fun k => m ((c : Thread nD τ).loc main_arg1) (ix3 d k l : S2x2048x12288.Idx))
    (m ((c : Thread nD τ).loc main_arg2) (ix2 d l : S2x12288.Idx))

theorem block_val (t : Fin cfg0.N) (ht : t.val < 24) (l : Fin 1024) :
    (dats m 0 c).arrAt 3 cfg0.N (ix3 ⟨t.val / 12, by omega⟩ 0 ⟨1024 * (t.val % 12) + l.val, by omega⟩ : S2x1x12288.Idx)
      = res m c ⟨t.val / 12, by omega⟩ ⟨1024 * (t.val % 12) + l.val, by omega⟩ :=
  (congrArg ((dats m 0 c).arrAt 3 cfg0.N) (place t ht l)).symm.trans
    (((dats m 0 c).arrAt_emb_eq_flushed 3 Value.disjoint3 t (flush0_3 t) (ix3 0 0 l : S1x1x1024.Idx)).trans
      ((congrFun (Value.flushed3 m c t) (ix3 0 0 l : S1x1x1024.Idx)).trans
        ((out_val _ _ _ l).trans (col_congr (funext (x0_val m c t)) (funext (x1_val m c t ht l)) (x2_val m c t ht l)))))

/-- The modulation the call leaves. -/
theorem final (d : Fin 2) (l : Fin 12288) : (dats m 0 c).arrAt 3 cfg0.N (ix3 d 0 l : S2x1x12288.Idx) = res m c d l := by
  have hb : 12 * d.val + l.val / 1024 < 24 := by omega
  have h := block_val m c ⟨12 * d.val + l.val / 1024, hb⟩ hb ⟨l.val % 1024, by omega⟩
  have ed : (⟨(12 * d.val + l.val / 1024) / 12, by omega⟩ : Fin 2) = d := Fin.ext (by
    show (12 * d.val + l.val / 1024) / 12 = d.val; omega)
  have el : (⟨1024 * ((12 * d.val + l.val / 1024) % 12) + l.val % 1024, by omega⟩ : Fin 12288) = l := Fin.ext (by
    show 1024 * ((12 * d.val + l.val / 1024) % 12) + l.val % 1024 = l.val; omega)
  rwa [ed, el] at h

end Cert.ModulationIdeal.Layer

namespace Cert.Proof.Modulation

open Cert.LayerSpec Cert.ModulationRefIdeal Cert.ModulationRefIdeal.Gen

theorem algebraic : Cert.algebraic_ModulationIdeal_ModulationRefIdeal := by
  intro m ρ m' ρ' _ hag
  refine ⟨fun c => (ModulationIdeal.Gen.dats m 0 c).arrAt 3 ModulationIdeal.cfg0.N, ModulationIdeal.Value.run_blocks m ρ, ?_⟩
  refine (θ_run ModulationRefIdeal.defs _ _).mono (fun _ h c => ⟨(h c).1.trans ?_, (h c).2⟩) (ModulationRefIdeal.Value.run (F := Ideal) m' ρ')
  funext y
  obtain ⟨e0, e1, e2⟩ := hag c
  rw [e0, e1, e2, eq_ix3 y]
  generalize y 0 = d
  generalize y 2 = l
  rw [show y 1 = (⟨0, by decide⟩ : Fin 1) from Fin.ext (show (y 1).val = 0 from by have h : (y 1).val < 1 := (y 1).isLt; omega)]
  refine Eq.trans ?_ (ModulationIdeal.Layer.final m c d l).symm
  unfold ModulationIdeal.Layer.res ModulationIdeal.Layer.col
  have hd : d = (⟨0, by decide⟩ : Fin 2) ∨ d = (⟨1, by decide⟩ : Fin 2) := by
    have h : d.val < 2 := d.isLt
    rcases (show d.val = 0 ∨ d.val = 1 by omega) with h | h
    · exact .inl (Fin.ext h)
    · exact .inr (Fin.ext h)
  rcases hd with rfl | rfl
  · pointwise []
    rfl
  · pointwise []
    rfl

end Cert.Proof.Modulation
end
-- ==== Proof.Layer.Bucket.lean ====
/- The bucket of a distance: a word below 32. -/
module

public import Idealize.ShloMosaic.PureOps.Ideal
public import Idealize.ShloMosaic.Lib.Pointwise

@[expose] public section

noncomputable section

open Idealize.ShloMosaic

namespace Cert.LayerSpec

/-- The buckets of an array of distances: the distance itself below 16, a logarithmic step above, 31 at most. -/
def buckets {s : Shape} (r : IVec s 32) : IVec s 32 :=
  select (cmpi .slt r (broadcast s 16#32)) r
    (minsi
      (addi (broadcast s 16#32)
        (fptosi 32
          (mulf (divf (log (divf (maximumf (sitofp (F := Ideal) .f32 r) (broadcast s (Scalar.ofBits .f32 0x3F800000#32)))
              (broadcast s (Scalar.ofBits .f32 0x41800000#32)))) (broadcast s (Scalar.ofBits .f32 0x40051592#32)))
            (broadcast s (Scalar.ofBits .f32 0x41800000#32)))))
      (broadcast s 31#32))

/-- The bucket of one distance. -/
def bucket (w : BitVec 32) : BitVec 32 := buckets (s := ⟨0, ![]⟩) (fun _ => w) (fun a => a.elim0)

theorem buckets_apply {s : Shape} (r : IVec s 32) (j : s.Idx) : buckets r j = bucket (r j) := rfl

theorem ofBits_sixteen : Ideal.ofBits .f32 0x41800000#32 = ((16 : ℝ) : EReal) := by
  simp [Ideal.ofBits, Ideal.ieee, -EReal.coe_mul]; norm_num

theorem ofBits_log8 : ∃ c : ℝ, 1 ≤ c ∧ Ideal.ofBits .f32 0x40051592#32 = (c : EReal) := by
  refine ⟨8721810 / 4194304, by norm_num, ?_⟩
  simp [Ideal.ofBits, Ideal.ieee, -EReal.coe_mul]; norm_num

/-- The logarithmic step of a distance of 16 or more is a small natural number. -/
theorem step_range (n : ℤ) (h : 16 ≤ n) (h' : n < 2 ^ 31) :
    ∃ k : ℕ, k ≤ 432 ∧ Ideal.fptosi 32 (Ideal.div (Ideal.log (Ideal.div (max ((n : ℝ) : EReal) (Ideal.ofBits .f32 0x3F800000#32)) (Ideal.ofBits .f32 0x41800000#32)))
      (Ideal.ofBits .f32 0x40051592#32) * Ideal.ofBits .f32 0x41800000#32) = BitVec.ofNat 32 k := by
  obtain ⟨c, hc, ec⟩ := ofBits_log8
  have hn : (16 : ℝ) ≤ n := by exact_mod_cast h
  have hn' : (n : ℝ) ≤ 2 ^ 31 := by exact_mod_cast h'.le
  have e1 : max ((n : ℝ) : EReal) (Ideal.ofBits .f32 0x3F800000#32) = ((n : ℝ) : EReal) := by
    rw [Ideal.ofBits_one_f32]
    refine max_eq_left ?_
    rw [← EReal.coe_one]
    exact EReal.coe_le_coe_iff.mpr (by linarith)
  have hpos : 0 < (n : ℝ) * (1 / 16) := by positivity
  rw [e1, ec, ofBits_sixteen, Ideal.div_coe (show c ≠ 0 from fun e => by rw [e] at hc; norm_num at hc), Ideal.div_coe (by norm_num), ← EReal.coe_mul, Ideal.log_coe, if_neg (not_le.mpr hpos),
    ← EReal.coe_mul, ← EReal.coe_mul]
  have hl0 : 0 ≤ Real.log ((n : ℝ) * (1 / 16)) := Real.log_nonneg (by linarith)
  have hl1 : Real.log ((n : ℝ) * (1 / 16)) ≤ 27 := by
    have : Real.log ((n : ℝ) * (1 / 16)) ≤ Real.log (2 ^ 27) := Real.log_le_log hpos (by linarith)
    rw [Real.log_pow] at this
    have h2 : Real.log 2 ≤ 1 := by have := Real.log_le_sub_one_of_pos (show (0 : ℝ) < 2 by norm_num); linarith
    have : Real.log ((n : ℝ) * (1 / 16)) ≤ 27 * Real.log 2 := by exact_mod_cast this
    linarith
  generalize Real.log ((n : ℝ) * (1 / 16)) = L at hl0 hl1
  have hci : 0 < 1 / c := by positivity
  have hci' : 1 / c ≤ 1 := by rw [div_le_one (by linarith)]; exact hc
  have hx0 : 0 ≤ L * (1 / c) * 16 := by positivity
  have hx1 : L * (1 / c) * 16 ≤ 432 := by nlinarith
  generalize L * (1 / c) * 16 = x at hx0 hx1
  refine ⟨⌊x⌋.toNat, ?_, ?_⟩
  · have : ⌊x⌋ ≤ 432 := by have := Int.floor_le x; exact_mod_cast (Int.floor_le_floor hx1).trans (by norm_num)
    omega
  · have f0 : 0 ≤ ⌊x⌋ := Int.floor_nonneg.mpr hx0
    have f1 : ⌊x⌋ ≤ 432 := (Int.floor_le_floor hx1).trans (by norm_num)
    unfold Ideal.fptosi
    rw [Ideal.toIntClamped_coe, if_pos hx0]
    generalize ⌊x⌋ = f at f0 f1
    obtain ⟨k, rfl⟩ := Int.eq_ofNat_of_zero_le f0
    rw [min_eq_right (by norm_num; omega), max_eq_right (by norm_num)]
    simp

/-- The bucket of a distance that is not negative is below 32. -/
theorem bucket_lt (w : BitVec 32) (h : 0 ≤ w.toInt) : (bucket w).toNat < 32 := by
  have hw : w.toInt < 2 ^ 31 := by have := BitVec.toInt_lt (x := w); simpa using this
  by_cases h16 : w.toInt < 16
  · have e : bucket w = w := by
      show Scalar.select (BitVec.ofBool (w.slt 16#32)) w _ = w
      rw [show w.slt 16#32 = true from by rw [BitVec.slt_iff_toInt_lt]; exact h16]
      rfl
    rw [e]
    have := BitVec.toInt_eq_toNat_cond w
    split at this <;> omega
  · obtain ⟨k, hk, e⟩ := step_range w.toInt (by omega) hw
    have e' : bucket w = IntOp.minsi (16#32 + BitVec.ofNat 32 k) 31#32 := by
      show Scalar.select (BitVec.ofBool (w.slt 16#32)) w (IntOp.minsi (16#32 + Ideal.fptosi 32 _) 31#32) = _
      rw [show w.slt 16#32 = false from by rw [Bool.eq_false_iff, ne_eq, BitVec.slt_iff_toInt_lt]; exact h16]
      exact congrArg (fun z => IntOp.minsi (16#32 + z) 31#32) e
    rw [e']
    unfold IntOp.minsi
    have hs : (16#32 + BitVec.ofNat 32 k).toNat = 16 + k := by
      rw [BitVec.toNat_add, BitVec.toNat_ofNat, BitVec.toNat_ofNat]; omega
    have hi : (16#32 + BitVec.ofNat 32 k).toInt = 16 + k := by
      rw [BitVec.toInt_eq_toNat_cond, hs]; split <;> omega
    split
    · rename_i hle
      rw [BitVec.slt_iff_toInt_lt, hi, show (31#32 : BitVec 32).toInt = 31 from rfl] at hle
      omega
    · decide

end Cert.LayerSpec
end
-- ==== Proof.Layer.Band.lean ====
/- The bias band: what the call leaves is what the reference leaves. -/
module

public import proofs.«01_k».proof.Defs
public import proofs.«01_k».proof.Proof.Layer.Spec
public import proofs.«01_k».proof.Proof.Layer.Bucket
public import proofs.«01_k».proof.Proof.Gen.BandIdeal.Value
public import proofs.«01_k».proof.Proof.Gen.BandRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.LayerSpec

/-- The distance of query `t` from key `s` of the run `d`, or 0 where the key is ahead. -/
def gap (d t s : ℕ) : BitVec 32 :=
  IntOp.maxsi ((BitVec.ofNat 32 d - 1#32) * 256#32 + BitVec.ofNat 32 t - BitVec.ofNat 32 s) 0#32

theorem gap_nonneg (d t s : ℕ) : 0 ≤ (gap d t s).toInt := by
  unfold gap IntOp.maxsi
  split
  · rename_i h
    rw [BitVec.slt_iff_toInt_lt] at h
    exact h.le
  · exact le_refl _

/-- The bucket of a pair, as a number. -/
def bin (d t s : ℕ) : Fin 32 := ⟨(bucket (gap d t s)).toNat, bucket_lt _ (gap_nonneg d t s)⟩

/-- A bucket is not negative. -/
theorem not_neg (d t s : ℕ) : (bucket (gap d t s)).slt 0#32 = false := by
  have h := bucket_lt _ (gap_nonneg d t s)
  rw [Bool.eq_false_iff, ne_eq, BitVec.slt_iff_toInt_lt, BitVec.toInt_eq_toNat_cond]
  split
  · simp
  · omega

/-- A small number that is not negative is its own place among 128. -/
theorem wrap (w : BitVec 32) (hn : w.slt 0#32 = false) (hlt : w.toNat < 32) :
    (Scalar.select (IntOp.cmpi CmpIPredicate.slt w 0#32) (IntOp.addi w 128#32) w).toNat % 128 = w.toNat := by
  have e : Scalar.select (IntOp.cmpi CmpIPredicate.slt w 0#32) (IntOp.addi w 128#32) w = w := by
    show Scalar.select (BitVec.ofBool (w.slt 0#32)) _ w = w
    rw [hn]
    rfl
  rw [e]
  omega

end Cert.LayerSpec

namespace Cert.BandIdeal.Layer

open Cert.BandIdeal Cert.BandIdeal.Gen Cert.LayerSpec

/-- The scale of the band. -/
def scale : EReal := Ideal.ofBits .f32 0x3FB8AA3B#32

/-- The distances of a grid point's pairs. -/
def gaps (i : grid0.Coords) : IVec S512x256 32 :=
  maxsi (subi (addi (broadcast S512x256 (Scalar.muli (Scalar.subi (BitVec.ofNat 32 (i 0).val) 1#32) 256#32))
    (iota .tc S512x256 32 [0] iota_S512x256_d0_w32)) (iota .tc S512x256 32 [1] iota_S512x256_d1_w32)) (broadcast S512x256 0#32)

theorem pay2_eq (i : grid0.Coords) : k0_pay2 (F := Ideal) i = buckets (gaps i) := by
  unfold k0_pay2 buckets gaps
  rfl

theorem gaps_apply (i : grid0.Coords) (t : Fin 512) (s : Fin 256) : gaps i (ix2 t s) = gap (i 0).val t.val s.val := by
  unfold gaps gap
  pointwise []
  rfl

/-- The buckets of a grid point's pairs. -/
theorem bins (i : grid0.Coords) (t : Fin 512) (s : Fin 256) : k0_pay2 (F := Ideal) i (ix2 t s) = bucket (gap (i 0).val t.val s.val) := by
  rw [pay2_eq, buckets_apply, gaps_apply]

/-- One head's slab from its row of the table: the row at each pair's bucket, scaled. -/
theorem slab (v : IVec S512x256 32) (row : Vec Ideal S1x128 .f32) (t : Fin 512) (s : Fin 256) (hn : (v (ix2 t s)).slt 0#32 = false) (hlt : (v (ix2 t s)).toNat < 32) :
    k0_pay8 (F := Ideal) v row (ix4 0 0 t s) = row (ix2 0 ⟨(v (ix2 t s)).toNat, by omega⟩) * scale := by
  unfold scale
  pointwise [k0_pay8]
  refine congrArg (· * Ideal.ofBits .f32 0x3FB8AA3B#32) ?_
  split
  · exact congrArg row (congrArg (ix2 0) (Fin.ext (wrap _ hn hlt)))
  · rename_i h
    have e : (⟨128 + (s.val - 128), by omega⟩ : Fin 256) = s := Fin.ext (by show 128 + (s.val - 128) = s.val; omega)
    refine congrArg row (congrArg (ix2 0) (Fin.ext ?_))
    show (Scalar.select (IntOp.cmpi CmpIPredicate.slt (v (ix2 t ⟨128 + (s.val - 128), by omega⟩)) 0#32)
      (IntOp.addi (v (ix2 t ⟨128 + (s.val - 128), by omega⟩)) 128#32) (v (ix2 t ⟨128 + (s.val - 128), by omega⟩))).toNat % 128 = _
    rw [e]
    exact wrap _ hn hlt

/-! The eight heads' rows are computed by one expression, written in several pieces. -/

section
variable (v : IVec S512x256 32) (row : Vec Ideal S1x128 .f32)
theorem row0 (i : grid0.Coords) : k0_pay7 (F := Ideal) (k0_pay3 row) (k0_pay4 i row) (k0_pay5 (F := Ideal) i) (k0_pay6 (F := Ideal) i) 128#32 = k0_pay8 (k0_pay2 (F := Ideal) i) row := rfl
theorem row2 : k0_pay9 (F := Ideal) v row = k0_pay8 v row := rfl
theorem row3 : k0_pay14 (F := Ideal) (k0_pay10 row) (k0_pay11 v row) (k0_pay12 v) (k0_pay13 v) 128#32 = k0_pay8 v row := rfl
theorem row4 : k0_pay15 (F := Ideal) v row = k0_pay8 v row := rfl
theorem row5 : k0_pay16 (F := Ideal) v row = k0_pay8 v row := rfl
theorem row6 : k0_pay21 (F := Ideal) (k0_pay17 row) (k0_pay18 v row) (k0_pay19 v) (k0_pay20 v) 128#32 = k0_pay8 v row := rfl
theorem row7 : k0_pay1 (F := Ideal) (k0_pay22 v row) = k0_pay8 v row := rfl
theorem pay23_eq (i : grid0.Coords) (x0 : Vec Ideal S8x128 .f32) : k0_pay23 (F := Ideal) i x0 = k0_pay2 (F := Ideal) i := rfl
end

/-- What a point writes, at an index. -/
def band (x0 : Vec Ideal S8x128 .f32) (d : ℕ) (h : Fin 8) (t : Fin 512) (s : Fin 256) : EReal :=
  x0 (ix2 h ⟨(bin d t.val s.val).val, by omega⟩) * scale

theorem slab_at (i : grid0.Coords) (x0 : Vec Ideal S8x128 .f32) (h : Fin 8) (off : Fin 2 → ℕ) (ho : off = ![h.val, 0]) (inb : ∀ a, off a + S1x128.size a ≤ S8x128.size a)
    (x : S1x1x512x256.Idx) :
    k0_pay8 (F := Ideal) (k0_pay2 (F := Ideal) i) (View.ld x0 (Rect.unit (s := S8x128) off S1x128.size inb)) x = band x0 (i 0).val h (x 2) (x 3) := by
  subst ho
  obtain ⟨t, s, rfl⟩ : ∃ (t : Fin 512) (s : Fin 256), x = ix4 0 0 t s := ⟨x 2, x 3, by
    funext a
    match a with
    | ⟨0, _⟩ => exact Fin.ext (by show (x 0).val = 0; have h : (x 0).val < 1 := (x 0).isLt; omega)
    | ⟨1, _⟩ => exact Fin.ext (by show (x 1).val = 0; have h : (x 1).val < 1 := (x 1).isLt; omega)
    | ⟨2, _⟩ => rfl
    | ⟨3, _⟩ => rfl⟩
  show _ = band x0 (i 0).val h t s
  have hb := bins i t s
  refine (slab _ _ t s (by rw [hb]; exact not_neg _ _ _) (by rw [hb]; exact bucket_lt _ (gap_nonneg _ _ _))).trans ?_
  unfold band bin
  refine congrArg (· * scale) (congrArg x0 (funext fun a => Fin.ext ?_))
  match a with
  | ⟨0, _⟩ => show h.val + 1 * 0 = h.val; omega
  | ⟨1, _⟩ => show 0 + 1 * (k0_pay2 (F := Ideal) i (ix2 t s)).toNat = (bucket (gap (i 0).val t.val s.val)).toNat; rw [hb]; omega

theorem out_val (i : grid0.Coords) (x0 : Vec Ideal S8x128 .f32) (h : Fin 8) (t : Fin 512) (s : Fin 256) :
    out0_1 (F := Ideal) i x0 (ix4 0 h t s) = band x0 (i 0).val h t s := by
  unfold out0_1
  rw [pay23_eq, row0, row2, row3, row4, row5, row6, row7]
  refine (View.canon_apply_of_pieces (fun y => band x0 (i 0).val (y 1) (y 2) (y 3)) _ ?_ _ (cover0_1 _ _ _ _ _ _ _ _ _)).trans rfl
  intro p hp x
  have emb (n : ℕ) (hn : n < 8) (off : Fin 4 → ℕ) (ho : off = ![0, n, 0, 0]) (inb : ∀ a, off a + S1x1x512x256.size a ≤ S1x8x512x256.size a) (x : S1x1x512x256.Idx) :
      band x0 (i 0).val ⟨n, hn⟩ (x 2) (x 3) = (fun y : S1x8x512x256.Idx => band x0 (i 0).val (y 1) (y 2) (y 3)) ((Rect.unit (s := S1x8x512x256) off S1x1x512x256.size inb).emb x) := by
    subst ho
    have e1 : (Rect.unit (s := S1x8x512x256) ![0, n, 0, 0] S1x1x512x256.size inb).emb x 1 = (⟨n, hn⟩ : Fin 8) :=
      Fin.ext (by show n + 1 * (x 1).val = n; have h : (x 1).val < 1 := (x 1).isLt; omega)
    have e2 : (Rect.unit (s := S1x8x512x256) ![0, n, 0, 0] S1x1x512x256.size inb).emb x 2 = x 2 :=
      Fin.ext (by show 0 + 1 * (x 2).val = (x 2).val; omega)
    have e3 : (Rect.unit (s := S1x8x512x256) ![0, n, 0, 0] S1x1x512x256.size inb).emb x 3 = x 3 :=
      Fin.ext (by show 0 + 1 * (x 3).val = (x 3).val; omega)
    show _ = band x0 (i 0).val _ _ _
    rw [e1, e2, e3]
  simp only [List.mem_cons, List.not_mem_nil, or_false] at hp
  rcases hp with rfl | rfl | rfl | rfl | rfl | rfl | rfl | rfl
  · exact (slab_at i x0 7 _ rfl _ x).trans (emb 7 (by decide) _ rfl inb_S1x8x512x256_S1x1x512x256_0_7_0_0 x)
  · exact (slab_at i x0 6 _ rfl _ x).trans (emb 6 (by decide) _ rfl inb_S1x8x512x256_S1x1x512x256_0_6_0_0 x)
  · exact (slab_at i x0 5 _ rfl _ x).trans (emb 5 (by decide) _ rfl inb_S1x8x512x256_S1x1x512x256_0_5_0_0 x)
  · exact (slab_at i x0 4 _ rfl _ x).trans (emb 4 (by decide) _ rfl inb_S1x8x512x256_S1x1x512x256_0_4_0_0 x)
  · exact (slab_at i x0 3 _ rfl _ x).trans (emb 3 (by decide) _ rfl inb_S1x8x512x256_S1x1x512x256_0_3_0_0 x)
  · exact (slab_at i x0 2 _ rfl _ x).trans (emb 2 (by decide) _ rfl inb_S1x8x512x256_S1x1x512x256_0_2_0_0 x)
  · exact (slab_at i x0 1 _ rfl _ x).trans (emb 1 (by decide) _ rfl inb_S1x8x512x256_S1x1x512x256_0_1_0_0 x)
  · exact (slab_at i x0 0 _ rfl _ x).trans (emb 0 (by decide) _ rfl inb_S1x8x512x256_S1x1x512x256_0_0_0_0 x)

variable (m : (ℓ : Loc nD τ sig) → Buf (Elt Ideal) ℓ) (c : Dev nD)

/-- The windows' block numbers at a point. -/
theorem idxs : ∀ t : Fin grid0.N, win0_0.index t = ![0, 0] ∧ win0_1.index t = ![t.val, 0, 0, 0] ∧ (grid0.coords t 0).val = t.val ∧ t.val < 4 := by
  decide +kernel

/-- The table the call is given: the launched table turned over, in the first 32 places of a row. -/
theorem table (h : Fin 8) (b : Fin 32) :
    V m c main_v1 (ix2 h ⟨b.val, by omega⟩ : S8x128.Idx) = m ((c : Thread nD τ).loc main_arg0) (ix2 b h : S32x8.Idx) := by
  have e : V m c main_v1 = (pad S8x128 ![0, 0] ![0, 96] ![0, 0] (transpose S8x32 [1, 0] (m ((c : Thread nD τ).loc main_arg0) : FVec Ideal S32x8 .f32) transposes_S32x8_S8x32_1_0)
      (sitofp (F := Ideal) .f32 (constantI S_ 32 0#32)) pads_S8x32_S8x128_000_0960 h_S_ : FVec Ideal S8x128 .f32) := by
    unfold V
    simp only [hostOps0, hostOps0_1, List.flatten_cons, List.flatten_nil, List.append_nil, List.cons_append, List.nil_append, StableHlo.TRef.unary, StableHlo.TRef.binary, StableHlo.TRef.toBuf, StableHlo.TRef.ofBuf, cast_eq]
    after_results
  rw [e]
  pointwise []

theorem x0_val (t : Fin cfg0.N) (h : Fin 8) (b : Fin 32) :
    iblk m c 0 t (ix2 h ⟨b.val, by omega⟩ : S8x128.Idx) = m ((c : Thread nD τ).loc main_arg0) (ix2 b h : S32x8.Idx) := by
  refine Eq.trans ?_ (table m c h b)
  unfold iblk
  generalize V m c = v
  have e := (idxs t).1
  show v main_v1 (((cfg0.win 0).blk t).view.emb (ix2 h ⟨b.val, by omega⟩ : S8x128.Idx)) = _
  refine congrArg (v main_v1) (funext fun a => Fin.ext ?_)
  match a with
  | ⟨0, _⟩ => show win0_0.index t 0 * 8 + 1 * h.val = _; rw [e]; show 0 * 8 + 1 * h.val = h.val; omega
  | ⟨1, _⟩ => show win0_0.index t 1 * 128 + 1 * b.val = _; rw [e]; show 0 * 128 + 1 * b.val = b.val; omega

/-- The band over a memory. -/
def res (d : Fin 4) (h : Fin 8) (t : Fin 512) (s : Fin 256) : EReal :=
  (show EReal from m ((c : Thread nD τ).loc main_arg0) (ix2 (bin d.val t.val s.val) h : S32x8.Idx)) * scale

theorem place (p : Fin cfg0.N) (hp : p.val < 4) (h : Fin 8) (t : Fin 512) (s : Fin 256) :
    ((cfg0.win 1).blk p).view.emb (ix4 0 h t s : S1x8x512x256.Idx) = (ix4 ⟨p.val, hp⟩ h t s : S4x8x512x256.Idx) := by
  have e := (idxs p).2.1
  funext a; apply Fin.ext
  match a with
  | ⟨0, _⟩ => show win0_1.index p 0 * 1 + 1 * 0 = _; rw [e]; show p.val * 1 + 1 * 0 = p.val; omega
  | ⟨1, _⟩ => show win0_1.index p 1 * 8 + 1 * h.val = _; rw [e]; show 0 * 8 + 1 * h.val = h.val; omega
  | ⟨2, _⟩ => show win0_1.index p 2 * 512 + 1 * t.val = _; rw [e]; show 0 * 512 + 1 * t.val = t.val; omega
  | ⟨3, _⟩ => show win0_1.index p 3 * 256 + 1 * s.val = _; rw [e]; show 0 * 256 + 1 * s.val = s.val; omega

/-- The band the call leaves. -/
theorem final (d : Fin 4) (h : Fin 8) (t : Fin 512) (s : Fin 256) :
    (dats m 0 c).arrAt 1 cfg0.N (ix4 d h t s : S4x8x512x256.Idx) = res m c d h t s := by
  have hN : d.val < cfg0.N := lt_of_lt_of_eq d.isLt (show 4 = cfg0.N from N_0.symm)
  let p : Fin cfg0.N := ⟨d.val, hN⟩
  refine (congrArg ((dats m 0 c).arrAt 1 cfg0.N) (place p d.isLt h t s)).symm.trans
    (((dats m 0 c).arrAt_emb_eq_flushed 1 Value.disjoint1 p (flush0_1 p) (ix4 0 h t s : S1x8x512x256.Idx)).trans
      ((congrFun (Value.flushed1 m c p) (ix4 0 h t s : S1x8x512x256.Idx)).trans ((out_val _ _ h t s).trans ?_)))
  rw [(idxs p).2.2.1]
  exact congrArg (· * scale) (x0_val m c p h _)

end Cert.BandIdeal.Layer

namespace Cert.Proof.Band

open Cert.LayerSpec Cert.BandRefIdeal Cert.BandRefIdeal.Facts₀

/-- The rows of a table at given places: the place is read signed, and kept inside the table. -/
theorem rows {w : ℕ} (x : FVec Ideal S32x8 .f32) (idx : IVec S4x512x256x1 w) (d : Fin 4) (t : Fin 512) (s : Fin 256) (h : Fin 8) :
    Host.gather gather_S32x8_S4x512x256x1_S4x512x256x8_3_0_n_n_0_3_18 x idx (ix4 d t s h)
      = x (ix2 ⟨min (idx (ix4 d t s 0)).toInt.toNat 31, by omega⟩ h) := by
  unfold Host.gather
  refine congrArg x (funext fun a => Fin.ext ?_)
  match a with
  | ⟨0, _⟩ =>
    refine Eq.trans ?_ (congrArg (fun q => min (idx q).toInt.toNat 31) (show GatherDims.siIdx gather_S32x8_S4x512x256x1_S4x512x256x8_3_0_n_n_0_3_18 (ix4 d t s h) ⟨0, by decide⟩ = ix4 d t s 0 from ?_))
    · rfl
    · funext b
      match b with
      | ⟨0, _⟩ => rfl
      | ⟨1, _⟩ => rfl
      | ⟨2, _⟩ => rfl
      | ⟨3, _⟩ => rfl
  | ⟨1, _⟩ =>
    show 0 + 0 + h.val = h.val
    omega

/-- The distances of the reference's pairs. -/
def gaps : IVec S4x512x256 32 :=
  maxsi (subi (addi (muli (subi (iotaInDim S4x512x256 32 0) (broadcastInDim S4x512x256 ![] bcast_S_S4x512x256 (constantI S_ 32 1#32)))
    (broadcastInDim S4x512x256 ![] bcast_S_S4x512x256 (constantI S_ 32 256#32))) (iotaInDim S4x512x256 32 1)) (iotaInDim S4x512x256 32 2))
    (broadcastInDim S4x512x256 ![] bcast_S_S4x512x256 (constantI S_ 32 0#32))

theorem gaps_apply (d : Fin 4) (t : Fin 512) (s : Fin 256) : gaps (ix3 d t s) = gap d.val t.val s.val := by
  unfold gaps gap
  pointwise []
  rfl

/-- The reference's buckets of its distances. -/
def raw (r : IVec S4x512x256 32) : IVec S4x512x256 32 :=
  select (cmpi .slt r (broadcastInDim S4x512x256 ![] bcast_S_S4x512x256 (constantI S_ 32 16#32))) r
    (minsi (addi (broadcastInDim S4x512x256 ![] bcast_S_S4x512x256 (constantI S_ 32 16#32)) (fptosi 32 (mulf (Host.divf (Host.log (Host.divf
      (maximumf (sitofp (F := Ideal) .f32 r) (broadcastInDim S4x512x256 ![] bcast_S_S4x512x256 (constant S_ .f32 0x3F800000#32)))
      (broadcastInDim S4x512x256 ![] bcast_S_S4x512x256 (constant S_ .f32 0x41800000#32)))) (broadcastInDim S4x512x256 ![] bcast_S_S4x512x256 (constant S_ .f32 0x40051592#32)))
      (broadcastInDim S4x512x256 ![] bcast_S_S4x512x256 (constant S_ .f32 0x41800000#32))))) (broadcastInDim S4x512x256 ![] bcast_S_S4x512x256 (constantI S_ 32 31#32)))

theorem raw_eq (r : IVec S4x512x256 32) : raw r = buckets r := rfl

/-- The places of the reference: a bucket, or what is counted from the end when it is negative. -/
def places : IVec S4x512x256 32 :=
  select (cmpi .slt (raw gaps) (broadcastInDim S4x512x256 ![] bcast_S_S4x512x256 (constantI S_ 32 0#32)))
    (addi (raw gaps) (broadcastInDim S4x512x256 ![] bcast_S_S4x512x256 (constantI S_ 32 32#32))) (raw gaps)

theorem places_apply (d : Fin 4) (t : Fin 512) (s : Fin 256) : places (ix3 d t s) = bucket (gap d.val t.val s.val) := by
  have e : raw gaps (ix3 d t s) = bucket (gap d.val t.val s.val) := by rw [raw_eq, buckets_apply, gaps_apply]
  unfold places
  generalize raw gaps = r at e ⊢
  pointwise []
  rw [e]
  show Scalar.select (BitVec.ofBool ((bucket (gap d.val t.val s.val)).slt 0#32)) _ _ = _
  rw [not_neg]
  rfl

/-- The reference's result. -/
def result (x : FVec Ideal S32x8 .f32) : FVec Ideal S4x8x512x256 .f32 :=
  mulf (transpose S4x8x512x256 [0, 3, 1, 2] (Host.gather gather_S32x8_S4x512x256x1_S4x512x256x8_3_0_n_n_0_3_18 x
    (broadcastInDim S4x512x256x1 ![0, 1, 2] bcast_S4x512x256_S4x512x256x1_0_1_2 places)) transposes_S4x512x256x8_S4x8x512x256_0_3_1_2)
    (broadcastInDim S4x8x512x256 ![] bcast_S_S4x8x512x256 (constant S_ .f32 0x3FB8AA3B#32))

theorem result_eq (m : (ℓ : Loc nD τ sig) → Buf (Elt Ideal) ℓ) (c : Dev nD) :
    Value.res_main_v38 m c = result (m ((c.tc : Thread nD τ).loc main_arg0)) := by
  unfold Value.res_main_v38 result places raw gaps
  rfl

theorem result_apply (x : FVec Ideal S32x8 .f32) (d : Fin 4) (h : Fin 8) (t : Fin 512) (s : Fin 256) :
    result x (ix4 d h t s) = x (ix2 (bin d.val t.val s.val) h) * BandIdeal.Layer.scale := by
  have e := places_apply d t s
  have hb := bucket_lt _ (gap_nonneg d.val t.val s.val)
  unfold result BandIdeal.Layer.scale
  generalize places = p at e
  pointwise [rows]
  refine congrArg (· * Ideal.ofBits .f32 0x3FB8AA3B#32) (congrArg x (congrArg (ix2 · h) (Fin.ext ?_)))
  refine (congrArg (fun q : BitVec 32 => min q.toInt.toNat 31) e).trans ?_
  show min (bucket (gap d.val t.val s.val)).toInt.toNat 31 = (bucket (gap d.val t.val s.val)).toNat
  rw [BitVec.toInt_eq_toNat_cond]
  split <;> omega

theorem algebraic : Cert.algebraic_BandIdeal_BandRefIdeal := by
  intro m ρ m' ρ' _ hag
  refine ⟨fun c => (BandIdeal.Gen.dats m 0 c).arrAt 1 BandIdeal.cfg0.N, BandIdeal.Value.run_blocks m ρ, ?_⟩
  refine (θ_run BandRefIdeal.defs _ _).mono (fun _ h c => ⟨(h c).1.trans ?_, (h c).2⟩) (BandRefIdeal.Value.run (F := Ideal) m' ρ')
  rw [result_eq]
  funext y
  rw [hag c, eq_ix4 y]
  exact (result_apply _ _ _ _ _).trans (BandIdeal.Layer.final m c _ _ _ _).symm

end Cert.Proof.Band
end
-- ==== Proof.Attn.RunA.lean ====
/- The attention: the body at the first pair of heads, in the first half of its run of four blocks. -/
module

public import proofs.«01_k».proof.Proof.Attn.Setup

@[expose] public section

set_option maxRecDepth 16384

noncomputable section

namespace Cert.Attention.Attn

open Cert.Attention Cert.Attention.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1420000 in
/-- The body at the first pair of heads, in the first half of its run of four blocks: with its five inputs held and everything else at any contents, it ends with the inputs held and everything else at some contents. -/
theorem run_A (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : cond0_0 i) (hc1 : cond0_1 i) (hc2 : ¬cond0_2 i)
    (x0 : Vec F S512x256 .bf16) (x1 : Vec F S8192x256 .bf16) (x2 : Vec F S8192x256 .bf16) (x3 : Vec F S512x256 .i32) (x4 : Vec F S4x2x512x256 .f32) :
      ∀ (E : Set ℕ) (K : PUnit → sProp (MT nD τ sig Unit (Elt F) ℕ (UR sig nD τ) ℕ)),
        iprop(owns (c : Thread nD τ) y2 fullShare x0 ∗ owns (c : Thread nD τ) y3 fullShare x1 ∗ owns (c : Thread nD τ) y4 fullShare x2 ∗ owns (c : Thread nD τ) y5 fullShare x3 ∗ owns (c : Thread nD τ) y6 fullShare x4 ∗ (∃ d, owns (c : Thread nD τ) y7 fullShare d) ∗ (∃ d, owns (c : Thread nD τ) y8 fullShare d) ∗ (∃ d, owns (c : Thread nD τ) y9 fullShare d) ∗ (∃ d, owns (c : Thread nD τ) y10 fullShare d) ∗ (∃ d, owns (c : Thread nD τ) y11 fullShare d)
            ∗ (iprop(owns (c : Thread nD τ) y2 fullShare x0 ∗ owns (c : Thread nD τ) y3 fullShare x1 ∗ owns (c : Thread nD τ) y4 fullShare x2 ∗ owns (c : Thread nD τ) y5 fullShare x3 ∗ owns (c : Thread nD τ) y6 fullShare x4 ∗ (∃ d, owns (c : Thread nD τ) y7 fullShare d) ∗ (∃ d, owns (c : Thread nD τ) y8 fullShare d) ∗ (∃ d, owns (c : Thread nD τ) y9 fullShare d) ∗ (∃ d, owns (c : Thread nD τ) y10 fullShare d) ∗ (∃ d, owns (c : Thread nD τ) y11 fullShare d)) -∗ K ⟨⟩))
          ⊢ wp frame (wpE (defs₀ (F := F)) Variants.none c none) E (cc0_attention i y2 u2 y3 u3 y4 u4 y5 u5 y6 u6 y7 u7 y8 u8 y9 u9 y10 u10 y11 u11) K := by
    intro E K
    simp only [cc0_attention_eq_skeleton]; unfold cc0_attention_skel
    simp only [k0_part100_eq_skeleton, k0_part101_eq_skeleton, k0_part45_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := u2.eq_unread hf0; obtain rfl := u3.eq_unread hf1; obtain rfl := u4.eq_unread hf2; obtain rfl := u5.eq_unread hf3; obtain rfl := u6.eq_unread hf4
    sl_exec (disch := first | sl_exact hc0 | sl_exact hc1 | sl_exact hc2)
    sl_step
    iapply Hk
    isplitl [H0]
    · iexists _; isplitr; · ipureintro; exact u2.read_unread _
      iexact H0
    isplitl [H1]
    · iexists _; isplitr; · ipureintro; exact u3.read_unread _
      iexact H1
    isplitl [H2]
    · iexists _; isplitr; · ipureintro; exact u4.read_unread _
      iexact H2
    isplitl [H3]
    · iexists _; isplitr; · ipureintro; exact u5.read_unread _
      iexact H3
    isplitl [H4]
    · iexists _; isplitr; · ipureintro; exact u6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Attention.Attn

end
-- ==== Proof.Attn.RunB.lean ====
/- The attention: the body at a later pair of heads, in the first half of its run of four blocks. -/
module

public import proofs.«01_k».proof.Proof.Attn.RunA

@[expose] public section

set_option maxRecDepth 16384

noncomputable section

namespace Cert.Attention.Attn

open Cert.Attention Cert.Attention.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1320000 in
/-- The body at a later pair of heads, in the first half of its run of four blocks: with its five inputs held and everything else at any contents, it ends with the inputs held and everything else at some contents. -/
theorem run_B (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : ¬cond0_0 i) (hc1 : cond0_1 i) (hc2 : ¬cond0_2 i)
    (x0 : Vec F S512x256 .bf16) (x1 : Vec F S8192x256 .bf16) (x2 : Vec F S8192x256 .bf16) (x3 : Vec F S512x256 .i32) (x4 : Vec F S4x2x512x256 .f32) :
      ∀ (E : Set ℕ) (K : PUnit → sProp (MT nD τ sig Unit (Elt F) ℕ (UR sig nD τ) ℕ)),
        iprop(owns (c : Thread nD τ) y2 fullShare x0 ∗ owns (c : Thread nD τ) y3 fullShare x1 ∗ owns (c : Thread nD τ) y4 fullShare x2 ∗ owns (c : Thread nD τ) y5 fullShare x3 ∗ owns (c : Thread nD τ) y6 fullShare x4 ∗ (∃ d, owns (c : Thread nD τ) y7 fullShare d) ∗ (∃ d, owns (c : Thread nD τ) y8 fullShare d) ∗ (∃ d, owns (c : Thread nD τ) y9 fullShare d) ∗ (∃ d, owns (c : Thread nD τ) y10 fullShare d) ∗ (∃ d, owns (c : Thread nD τ) y11 fullShare d)
            ∗ (iprop(owns (c : Thread nD τ) y2 fullShare x0 ∗ owns (c : Thread nD τ) y3 fullShare x1 ∗ owns (c : Thread nD τ) y4 fullShare x2 ∗ owns (c : Thread nD τ) y5 fullShare x3 ∗ owns (c : Thread nD τ) y6 fullShare x4 ∗ (∃ d, owns (c : Thread nD τ) y7 fullShare d) ∗ (∃ d, owns (c : Thread nD τ) y8 fullShare d) ∗ (∃ d, owns (c : Thread nD τ) y9 fullShare d) ∗ (∃ d, owns (c : Thread nD τ) y10 fullShare d) ∗ (∃ d, owns (c : Thread nD τ) y11 fullShare d)) -∗ K ⟨⟩))
          ⊢ wp frame (wpE (defs₀ (F := F)) Variants.none c none) E (cc0_attention i y2 u2 y3 u3 y4 u4 y5 u5 y6 u6 y7 u7 y8 u8 y9 u9 y10 u10 y11 u11) K := by
    intro E K
    simp only [cc0_attention_eq_skeleton]; unfold cc0_attention_skel
    simp only [k0_part100_eq_skeleton, k0_part101_eq_skeleton, k0_part45_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := u2.eq_unread hf0; obtain rfl := u3.eq_unread hf1; obtain rfl := u4.eq_unread hf2; obtain rfl := u5.eq_unread hf3; obtain rfl := u6.eq_unread hf4
    sl_exec (disch := first | sl_exact hc0 | sl_exact hc1 | sl_exact hc2)
    sl_step
    iapply Hk
    isplitl [H0]
    · iexists _; isplitr; · ipureintro; exact u2.read_unread _
      iexact H0
    isplitl [H1]
    · iexists _; isplitr; · ipureintro; exact u3.read_unread _
      iexact H1
    isplitl [H2]
    · iexists _; isplitr; · ipureintro; exact u4.read_unread _
      iexact H2
    isplitl [H3]
    · iexists _; isplitr; · ipureintro; exact u5.read_unread _
      iexact H3
    isplitl [H4]
    · iexists _; isplitr; · ipureintro; exact u6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Attention.Attn

end
-- ==== Proof.Attn.RunC.lean ====
/- The attention: the body at the first pair of heads, in the second half of its run of four blocks. -/
module

public import proofs.«01_k».proof.Proof.Attn.RunB

@[expose] public section

set_option maxRecDepth 16384

noncomputable section

namespace Cert.Attention.Attn

open Cert.Attention Cert.Attention.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2220000 in
/-- The body at the first pair of heads, in the second half of its run of four blocks: with its five inputs held and everything else at any contents, it ends with the inputs held and everything else at some contents. -/
theorem run_C (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : cond0_0 i) (hc1 : ¬cond0_1 i) (hc2 : cond0_2 i)
    (x0 : Vec F S512x256 .bf16) (x1 : Vec F S8192x256 .bf16) (x2 : Vec F S8192x256 .bf16) (x3 : Vec F S512x256 .i32) (x4 : Vec F S4x2x512x256 .f32) :
      ∀ (E : Set ℕ) (K : PUnit → sProp (MT nD τ sig Unit (Elt F) ℕ (UR sig nD τ) ℕ)),
        iprop(owns (c : Thread nD τ) y2 fullShare x0 ∗ owns (c : Thread nD τ) y3 fullShare x1 ∗ owns (c : Thread nD τ) y4 fullShare x2 ∗ owns (c : Thread nD τ) y5 fullShare x3 ∗ owns (c : Thread nD τ) y6 fullShare x4 ∗ (∃ d, owns (c : Thread nD τ) y7 fullShare d) ∗ (∃ d, owns (c : Thread nD τ) y8 fullShare d) ∗ (∃ d, owns (c : Thread nD τ) y9 fullShare d) ∗ (∃ d, owns (c : Thread nD τ) y10 fullShare d) ∗ (∃ d, owns (c : Thread nD τ) y11 fullShare d)
            ∗ (iprop(owns (c : Thread nD τ) y2 fullShare x0 ∗ owns (c : Thread nD τ) y3 fullShare x1 ∗ owns (c : Thread nD τ) y4 fullShare x2 ∗ owns (c : Thread nD τ) y5 fullShare x3 ∗ owns (c : Thread nD τ) y6 fullShare x4 ∗ (∃ d, owns (c : Thread nD τ) y7 fullShare d) ∗ (∃ d, owns (c : Thread nD τ) y8 fullShare d) ∗ (∃ d, owns (c : Thread nD τ) y9 fullShare d) ∗ (∃ d, owns (c : Thread nD τ) y10 fullShare d) ∗ (∃ d, owns (c : Thread nD τ) y11 fullShare d)) -∗ K ⟨⟩))
          ⊢ wp frame (wpE (defs₀ (F := F)) Variants.none c none) E (cc0_attention i y2 u2 y3 u3 y4 u4 y5 u5 y6 u6 y7 u7 y8 u8 y9 u9 y10 u10 y11 u11) K := by
    intro E K
    simp only [cc0_attention_eq_skeleton]; unfold cc0_attention_skel
    simp only [k0_part100_eq_skeleton, k0_part101_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := u2.eq_unread hf0; obtain rfl := u3.eq_unread hf1; obtain rfl := u4.eq_unread hf2; obtain rfl := u5.eq_unread hf3; obtain rfl := u6.eq_unread hf4
    sl_exec (disch := first | sl_exact hc0 | sl_exact hc1 | sl_exact hc2)
    sl_step
    iapply Hk
    isplitl [H0]
    · iexists _; isplitr; · ipureintro; exact u2.read_unread _
      iexact H0
    isplitl [H1]
    · iexists _; isplitr; · ipureintro; exact u3.read_unread _
      iexact H1
    isplitl [H2]
    · iexists _; isplitr; · ipureintro; exact u4.read_unread _
      iexact H2
    isplitl [H3]
    · iexists _; isplitr; · ipureintro; exact u5.read_unread _
      iexact H3
    isplitl [H4]
    · iexists _; isplitr; · ipureintro; exact u6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Attention.Attn

end
-- ==== Proof.Attn.RunD.lean ====
/- The attention: the body at a later pair of heads, in the second half of its run of four blocks. -/
module

public import proofs.«01_k».proof.Proof.Attn.RunC

@[expose] public section

set_option maxRecDepth 16384

noncomputable section

namespace Cert.Attention.Attn

open Cert.Attention Cert.Attention.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2120000 in
/-- The body at a later pair of heads, in the second half of its run of four blocks: with its five inputs held and everything else at any contents, it ends with the inputs held and everything else at some contents. -/
theorem run_D (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : ¬cond0_0 i) (hc1 : ¬cond0_1 i) (hc2 : cond0_2 i)
    (x0 : Vec F S512x256 .bf16) (x1 : Vec F S8192x256 .bf16) (x2 : Vec F S8192x256 .bf16) (x3 : Vec F S512x256 .i32) (x4 : Vec F S4x2x512x256 .f32) :
      ∀ (E : Set ℕ) (K : PUnit → sProp (MT nD τ sig Unit (Elt F) ℕ (UR sig nD τ) ℕ)),
        iprop(owns (c : Thread nD τ) y2 fullShare x0 ∗ owns (c : Thread nD τ) y3 fullShare x1 ∗ owns (c : Thread nD τ) y4 fullShare x2 ∗ owns (c : Thread nD τ) y5 fullShare x3 ∗ owns (c : Thread nD τ) y6 fullShare x4 ∗ (∃ d, owns (c : Thread nD τ) y7 fullShare d) ∗ (∃ d, owns (c : Thread nD τ) y8 fullShare d) ∗ (∃ d, owns (c : Thread nD τ) y9 fullShare d) ∗ (∃ d, owns (c : Thread nD τ) y10 fullShare d) ∗ (∃ d, owns (c : Thread nD τ) y11 fullShare d)
            ∗ (iprop(owns (c : Thread nD τ) y2 fullShare x0 ∗ owns (c : Thread nD τ) y3 fullShare x1 ∗ owns (c : Thread nD τ) y4 fullShare x2 ∗ owns (c : Thread nD τ) y5 fullShare x3 ∗ owns (c : Thread nD τ) y6 fullShare x4 ∗ (∃ d, owns (c : Thread nD τ) y7 fullShare d) ∗ (∃ d, owns (c : Thread nD τ) y8 fullShare d) ∗ (∃ d, owns (c : Thread nD τ) y9 fullShare d) ∗ (∃ d, owns (c : Thread nD τ) y10 fullShare d) ∗ (∃ d, owns (c : Thread nD τ) y11 fullShare d)) -∗ K ⟨⟩))
          ⊢ wp frame (wpE (defs₀ (F := F)) Variants.none c none) E (cc0_attention i y2 u2 y3 u3 y4 u4 y5 u5 y6 u6 y7 u7 y8 u8 y9 u9 y10 u10 y11 u11) K := by
    intro E K
    simp only [cc0_attention_eq_skeleton]; unfold cc0_attention_skel
    simp only [k0_part100_eq_skeleton, k0_part101_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := u2.eq_unread hf0; obtain rfl := u3.eq_unread hf1; obtain rfl := u4.eq_unread hf2; obtain rfl := u5.eq_unread hf3; obtain rfl := u6.eq_unread hf4
    sl_exec (disch := first | sl_exact hc0 | sl_exact hc1 | sl_exact hc2)
    sl_step
    iapply Hk
    isplitl [H0]
    · iexists _; isplitr; · ipureintro; exact u2.read_unread _
      iexact H0
    isplitl [H1]
    · iexists _; isplitr; · ipureintro; exact u3.read_unread _
      iexact H1
    isplitl [H2]
    · iexists _; isplitr; · ipureintro; exact u4.read_unread _
      iexact H2
    isplitl [H3]
    · iexists _; isplitr; · ipureintro; exact u5.read_unread _
      iexact H3
    isplitl [H4]
    · iexists _; isplitr; · ipureintro; exact u6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Attention.Attn

end
-- ==== Proof.Attn.Frame.lean ====
/- The attention: the frame, from the four cases of its body. -/
module

public import proofs.«01_k».proof.Proof.Attn.RunD

@[expose] public section

set_option maxRecDepth 16384

noncomputable section

namespace Cert.Attention.Attn

open Cert.Attention Cert.Attention.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The output is the one window whose contents are not followed. -/
def forgets0 : Fin 6 → Bool := fun w => w.val == 5

/-- What is followed: each input's buffer holds its block; of the output and of the kernel's own buffers nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q w := Pipeline.shareOf spec0 w
  owed _ := 0

/-- The arrays are the launched ones. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is given at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- What it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 3200000 in
/-- The body at a point, whichever of the four cases the point is. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hN : t.val < 64 := lt_of_lt_of_eq t.isLt (show cfg0.N = 64 from N_0)
  by_cases h0 : t.val % 4 = 0
  · by_cases h1 : (t.val % 16 = 0 ∨ t.val % 16 = 1 ∨ t.val % 16 = 2 ∨ t.val % 16 = 3 ∨ t.val % 16 = 4 ∨ t.val % 16 = 5 ∨ t.val % 16 = 6 ∨ t.val % 16 = 7)
    · by_cases h2 : (t.val % 16 = 8 ∨ t.val % 16 = 9 ∨ t.val % 16 = 10 ∨ t.val % 16 = 11 ∨ t.val % 16 = 12 ∨ t.val % 16 = 13 ∨ t.val % 16 = 14 ∨ t.val % 16 = 15)
      · exfalso; omega
      · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((run_A c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        iexact H5
    · by_cases h2 : (t.val % 16 = 8 ∨ t.val % 16 = 9 ∨ t.val % 16 = 10 ∨ t.val % 16 = 11 ∨ t.val % 16 = 12 ∨ t.val % 16 = 13 ∨ t.val % 16 = 14 ∨ t.val % 16 = 15)
      · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((run_C c (grid0.coords t) _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        iexact H5
      · exfalso; omega
  · by_cases h1 : (t.val % 16 = 0 ∨ t.val % 16 = 1 ∨ t.val % 16 = 2 ∨ t.val % 16 = 3 ∨ t.val % 16 = 4 ∨ t.val % 16 = 5 ∨ t.val % 16 = 6 ∨ t.val % 16 = 7)
    · by_cases h2 : (t.val % 16 = 8 ∨ t.val % 16 = 9 ∨ t.val % 16 = 10 ∨ t.val % 16 = 11 ∨ t.val % 16 = 12 ∨ t.val % 16 = 13 ∨ t.val % 16 = 14 ∨ t.val % 16 = 15)
      · exfalso; omega
      · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((run_B c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        iexact H5
    · by_cases h2 : (t.val % 16 = 8 ∨ t.val % 16 = 9 ∨ t.val % 16 = 10 ∨ t.val % 16 = 11 ∨ t.val % 16 = 12 ∨ t.val % 16 = 13 ∨ t.val % 16 = 14 ∨ t.val % 16 = 15)
      · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((run_D c (grid0.coords t) _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        iexact H5
      · exfalso; omega

/-- The body the pipeline calls is the kernel's at the point. -/
theorem defs₀_row (t : Fin cfg0.N) :
    defs₀ (F := F) .tc cfg0.body (cfg0.bodyArgs t (cfg0.slots t)) = bodyAt0 t := by
  unfold defs₀; rw [Defs.onTc_tc]

/-- The body keeps what is followed, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole run keeps the staged arrays and ends with every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments are as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  args_kept m ρ (fun c => (dats m 0 c).toRForget forgets0) (A_eq m) (run_main m ρ)

/-- The frame: the arguments are as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Attention.Attn

end
-- ==== Proof.AttnIdeal.Setup.lean ====
/- The attention over the ideal numbers: the conditions of its branches, its buffers, and what a run keeps. -/
module

public import proofs.«01_k».proof.Proof.Gen.AttentionIdeal.Frame
public import proofs.«01_k».proof.Proof.Gen.AttentionIdeal.Launch
public import proofs.«01_k».proof.Proof.Gen.AttentionIdeal.Skeleton
public import proofs.«01_k».proof.Proof.Gen.AttentionIdeal.Loops
public import proofs.«01_k».proof.Proof.Gen.AttentionIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The first pair of heads: the mask is made there, for the other pairs too. -/
abbrev cond0_0 (i : grid0.Coords) : Prop := k0_cond1 i = 1#1
/-- It is met at the points that are multiples of 4. -/
theorem hcond0_0 : ∀ t : Fin cfg0.N, cond0_0 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The blocks of queries in the first half of its run of four blocks. -/
abbrev cond0_1 (i : grid0.Coords) : Prop := k0_cond2 i = 1#1
/-- It is met in the first eight points of each sixteen. -/
theorem hcond0_1 : ∀ t : Fin cfg0.N, cond0_1 (grid0.coords t) ↔ (t.val % 16 = 0 ∨ t.val % 16 = 1 ∨ t.val % 16 = 2 ∨ t.val % 16 = 3 ∨ t.val % 16 = 4 ∨ t.val % 16 = 5 ∨ t.val % 16 = 6 ∨ t.val % 16 = 7) :=
  (by decide +kernel : ∀ t : Fin grid0.N, cond0_1 (grid0.coords t) ↔ (t.val % 16 = 0 ∨ t.val % 16 = 1 ∨ t.val % 16 = 2 ∨ t.val % 16 = 3 ∨ t.val % 16 = 4 ∨ t.val % 16 = 5 ∨ t.val % 16 = 6 ∨ t.val % 16 = 7))

/-- The blocks of queries in the second half of its run of four blocks. -/
abbrev cond0_2 (i : grid0.Coords) : Prop := k0_cond3 i = 1#1
/-- It is met in the last eight points of each sixteen. -/
theorem hcond0_2 : ∀ t : Fin cfg0.N, cond0_2 (grid0.coords t) ↔ (t.val % 16 = 8 ∨ t.val % 16 = 9 ∨ t.val % 16 = 10 ∨ t.val % 16 = 11 ∨ t.val % 16 = 12 ∨ t.val % 16 = 13 ∨ t.val % 16 = 14 ∨ t.val % 16 = 15) :=
  (by decide +kernel : ∀ t : Fin grid0.N, cond0_2 (grid0.coords t) ↔ (t.val % 16 = 8 ∨ t.val % 16 = 9 ∨ t.val % 16 = 10 ∨ t.val % 16 = 11 ∨ t.val % 16 = 12 ∨ t.val % 16 = 13 ∨ t.val % 16 = 14 ∨ t.val % 16 = 15))

/-- The staging buffers the body is given at a point: queries, keys, values, words, band and output. -/
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x2x512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
/-- The kernel's own buffers: the mask, two of scores, and the accumulator. -/
abbrev scM0_0 : Memref sig .tc .vmem S32x512x256 .f32 := Memref.whole cc0_scratch0
abbrev scM0_1 : Memref sig .tc .vmem S4x512x256 .f32 := Memref.whole cc0_scratch1
abbrev scM0_2 : Memref sig .tc .vmem S4x512x256 .f32 := Memref.whole cc0_scratch2
abbrev scM0_3 : Memref sig .tc .vmem S2x512x256 .f32 := Memref.whole cc0_scratch3

/-- What is carried between points: the kernel's own buffers at any contents, and the generator's register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (m : (ℓ : Loc nD τ sig) → Buf (Elt F) ℓ) (ρ : Dev nD → PrngReg)

/-- A run that leaves every staged array as it was leaves the three arguments as they were. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 2 rfl).trans ((hA c 2).trans (V_main_arg0 m c)),
      (Pipeline.RDat.FramePost.arr_in h c 3 rfl).trans ((hA c 3).trans (V_main_arg1 m c)),
      (Pipeline.RDat.FramePost.arr_in h c 4 rfl).trans ((hA c 4).trans (V_main_arg2 m c))⟩) h

end Cert.AttentionIdeal.Attn

end
-- ==== Proof.AttnIdeal.Weights.lean ====
/- Softmax in powers of two over the extended reals, a group of keys at a time: the running maximum, the running sum,
   and what they come to after any number of groups. -/
module

public import Idealize.ShloMosaic.PureOps
public import Idealize.ShloMosaic.Lib.Pointwise

@[expose] public section

noncomputable section

namespace Cert.AttentionIdeal.Attn

open Idealize.ShloMosaic

/-- Two to a power. -/
abbrev e2 (x : EReal) : EReal := Ideal.exp2 x

theorem e2_bot : e2 ⊥ = 0 := rfl
theorem e2_top : e2 ⊤ = ⊤ := rfl
theorem e2_coe (r : ℝ) : e2 (r : EReal) = ((Real.rpow 2 r : ℝ) : EReal) := rfl

/-- The host's power with base two is the same function. -/
theorem pow_two (x : EReal) : Ideal.pow ((2 : ℝ) : EReal) x = e2 x := by
  induction x with
  | bot => show (if (2 : ℝ) < 0 then (⊥ : EReal) else if (1 : ℝ) < 2 then 0 else if (2 : ℝ) = 1 then 1 else ⊤) = 0
           norm_num
  | top => show (if (2 : ℝ) < 0 then (⊥ : EReal) else if (1 : ℝ) < 2 then ⊤ else if (2 : ℝ) = 1 then 1 else 0) = ⊤
           norm_num
  | coe r => rfl

theorem e2_nonneg (x : EReal) : 0 ≤ e2 x := by
  induction x with
  | bot => exact le_refl _
  | top => exact le_top
  | coe r => rw [e2_coe]; exact_mod_cast Real.rpow_nonneg (by norm_num) r

/-- Below or at its maximum a power of the difference is a real number. -/
theorem e2_sub_ne_top {s m : EReal} (h : s ≤ m) : e2 (s - m) ≠ ⊤ := by
  induction m with
  | bot => obtain rfl := le_bot_iff.mp h; rw [EReal.bot_sub, e2_bot]; exact EReal.zero_ne_top
  | top => rw [EReal.sub_top, e2_bot]; exact EReal.zero_ne_top
  | coe r =>
    induction s with
    | bot => rw [EReal.bot_sub, e2_bot]; exact EReal.zero_ne_top
    | top => exact absurd h (by simp)
    | coe x => rw [← EReal.coe_sub, e2_coe]; exact EReal.coe_ne_top _

/-- A weight taken at one maximum is moved to a greater one by a factor that does not depend on the key. -/
theorem e2_split {s m m' : EReal} (h1 : s ≤ m) (h2 : m ≤ m') : e2 (s - m) * e2 (m - m') = e2 (s - m') := by
  induction s with
  | bot => rw [EReal.bot_sub, EReal.bot_sub, e2_bot, zero_mul]
  | top =>
    obtain rfl := top_le_iff.mp h1; obtain rfl := top_le_iff.mp h2
    rw [EReal.sub_top, e2_bot, zero_mul]
  | coe x =>
    induction m' with
    | bot => obtain rfl := le_bot_iff.mp h2; exact absurd h1 (by simp)
    | top => rw [EReal.sub_top, EReal.sub_top, e2_bot, mul_zero]
    | coe z =>
      induction m with
      | bot => exact absurd h1 (by simp)
      | top => exact absurd h2 (by simp)
      | coe y =>
        rw [← EReal.coe_sub, ← EReal.coe_sub, ← EReal.coe_sub, e2_coe, e2_coe, e2_coe, ← EReal.coe_mul]
        congr 1
        show (2 : ℝ) ^ (x - y) * (2 : ℝ) ^ (y - z) = (2 : ℝ) ^ (x - z)
        rw [← Real.rpow_add (by norm_num)]; congr 1; ring

/-- Such a factor goes into a sum. -/
theorem sum_mul_e2 {ι : Type} (S : Finset ι) (f : ι → EReal) {m m' : EReal} (h : m ≤ m') :
    (∑ y ∈ S, f y) * e2 (m - m') = ∑ y ∈ S, f y * e2 (m - m') := by
  classical
  induction S using Finset.induction_on with
  | empty => simp
  | insert a S ha ih =>
    rw [Finset.sum_insert ha, Finset.sum_insert ha, ← ih,
      EReal.right_distrib_of_nonneg_of_ne_top (e2_nonneg _) (e2_sub_ne_top h)]

/-- THE RUNNING SUM: kept at the maximum so far and moved as that grows, it is the sum over all keys so far of the
    weights at the maximum so far. -/
theorem running {K : Type} [Fintype K] (s v : ℕ → K → EReal) (M A : ℕ → EReal) (n : ℕ)
    (hM : ∀ g < n, M g ≤ M (g + 1)) (hs : ∀ g < n, ∀ y, s g y ≤ M (g + 1)) (h0 : A 0 = 0)
    (hA : ∀ g < n, A (g + 1) = A g * e2 (M g - M (g + 1)) + ∑ y, e2 (s g y - M (g + 1)) * v g y) :
    A n = ∑ g ∈ Finset.range n, ∑ y, e2 (s g y - M n) * v g y := by
  have mono : ∀ a b, a ≤ b → b ≤ n → M a ≤ M b := by
    intro a b h
    induction h with
    | refl => intro _; exact le_refl _
    | step h ih => intro hb; exact (ih (by omega)).trans (hM _ (by omega))
  have key : ∀ k, k ≤ n → A k = ∑ g ∈ Finset.range k, ∑ y, e2 (s g y - M k) * v g y := by
    intro k
    induction k with
    | zero => intro _; simpa using h0
    | succ k ih =>
      intro hk
      rw [hA k (by omega), ih (by omega), Finset.sum_range_succ, sum_mul_e2 _ _ (hM k (by omega))]
      congr 1
      refine Finset.sum_congr rfl fun g hg => ?_
      rw [sum_mul_e2 _ _ (hM k (by omega))]
      refine Finset.sum_congr rfl fun y _ => ?_
      have hgk : g < k := Finset.mem_range.mp hg
      rw [mul_right_comm, e2_split ((hs g (by omega) y).trans (mono (g + 1) k hgk (by omega))) (hM k (by omega))]
  exact key n (le_refl _)

end Cert.AttentionIdeal.Attn

end
-- ==== Proof.AttnIdeal.Blocks.lean ====
/- The attention over the ideal numbers: what one group of four blocks of keys does, read at an index. -/
module

public import proofs.«01_k».proof.Proof.AttnIdeal.Setup
public import proofs.«01_k».proof.Proof.AttnIdeal.Weights
public import Idealize.ShloMosaic.Lib.Pointwise
public import Idealize.ShloMosaic.Lib.WritesUnit
public import Idealize.ShloMosaic.Lib.VecWindow

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The scores of 512 queries against a block of 256 keys: the scaled product, the band's run and the mask's. -/
abbrev lg (kt : Vec F S256x128 .bf16) (q : Vec F S512x128 .bf16) (bd : Vec F S1x1x512x256 .f32) (mk : Vec F S1x512x256 .f32) :
    Vec F S1x512x256 .f32 := k0_pay3 kt q bd mk

/-- The greater, row by row, of a maximum and the greatest score of four blocks. -/
def mx (s0 s1 s2 s3 : FVec F S512x256 .f32) (m : FVec F S512x1 .f32) : FVec F S512x1 .f32 :=
  maximumf m (shapeCast S512x1 (multiReduction .maximumf [1] S512
    (maximumf (maximumf (maximumf (maximumf (maximumf (maximumf (maximumf (maximumf
      (broadcast S512x128 (Named.named κ "mask" 0xF149F2CA#32))
      (extractStridedSlice S512x128 ![0, 0] s0 slices_S512x256_o0_0_S512x128))
      (extractStridedSlice S512x128 ![0, 128] s0 slices_S512x256_o0_128_S512x128))
      (extractStridedSlice S512x128 ![0, 0] s1 slices_S512x256_o0_0_S512x128))
      (extractStridedSlice S512x128 ![0, 128] s1 slices_S512x256_o0_128_S512x128))
      (extractStridedSlice S512x128 ![0, 0] s2 slices_S512x256_o0_0_S512x128))
      (extractStridedSlice S512x128 ![0, 128] s2 slices_S512x256_o0_128_S512x128))
      (extractStridedSlice S512x128 ![0, 0] s3 slices_S512x256_o0_0_S512x128))
      (extractStridedSlice S512x128 ![0, 128] s3 slices_S512x256_o0_128_S512x128))
    0xFF800000#32 reduces_S512x128_S512 (.inl rfl) rfl) shapeCasts_S512_S512x1)

/-- The accumulator of one head after the four blocks of a group. -/
abbrev vl (ones : FVec F S1024x128 .bf16) (vt : Vec F S1024x128 .bf16) (mp mc : FVec F S512x1 .f32)
    (s0 s1 s2 s3 : Vec F S1x512x256 .f32) (old : Vec F S1x512x256 .f32) : Vec F S1x512x256 .f32 :=
  k0_pay19 ones mp mc (k0_pay15 mc) (k0_pay16 mc s0) (k0_pay17 mc s1) (k0_pay18 s2) s3 vt old

theorem mask_bot : Named.named (F := Ideal) κ "mask" (φ := .f32) 0xF149F2CA#32 = (⊥ : EReal) :=
  IdealRules.named_const.ideal_named_scalar _ _ _ _ rfl

theorem inf_bot : Ideal.ofBits .f32 0xFF800000#32 = (⊥ : EReal) := rfl

theorem lg_apply (kt : Vec Ideal S256x128 .bf16) (q : Vec Ideal S512x128 .bf16) (bd : Vec Ideal S1x1x512x256 .f32) (mk : Vec Ideal S1x512x256 .f32)
    (a : Fin 512) (b : Fin 256) :
    lg kt q bd mk (ix3 0 a b) = (∑ d : Fin 128, q (ix2 a d) * kt (ix2 b d)) * Ideal.ofBits .f32 0x3E0293EE#32 + bd (ix4 0 0 a b) + mk (ix3 0 a b) := by
  unfold lg
  pointwise [k0_pay3, k0_pay2]

theorem lg2_apply (kt : Vec Ideal S256x128 .bf16) (q : Vec Ideal S512x128 .bf16) (bd : Vec Ideal S1x1x512x256 .f32) (mk : Vec Ideal S1x512x256 .f32)
    (a : Fin 512) (b : Fin 256) :
    k0_pay2 kt q bd mk (ix2 a b) = lg kt q bd mk (ix3 0 a b) := by
  unfold lg
  pointwise [k0_pay3, k0_pay2]

/-- The greatest of a row's scores in four blocks. -/
def top (t : Fin 4 → Fin 512 → Fin 256 → EReal) (a : Fin 512) : EReal :=
  Finset.univ.sup fun p : Fin 4 × Fin 256 => t p.1 a p.2

theorem mx_apply (t : Fin 4 → Fin 512 → Fin 256 → EReal) (s0 s1 s2 s3 : FVec Ideal S512x256 .f32) (m : FVec Ideal S512x1 .f32)
    (h0 : ∀ a b, s0 (ix2 a b) = t 0 a b) (h1 : ∀ a b, s1 (ix2 a b) = t 1 a b)
    (h2 : ∀ a b, s2 (ix2 a b) = t 2 a b) (h3 : ∀ a b, s3 (ix2 a b) = t 3 a b) (a : Fin 512) :
    mx s0 s1 s2 s3 m (ix2 a 0) = max (m (ix2 a 0)) (top t a) := by
  unfold mx
  pointwise []
  simp only [h0, h1, h2, h3, mask_bot, inf_bot]
  congr 1
  refine le_antisymm ?_ ?_
  · rw [Finset.fold_max_le]
    refine ⟨bot_le, fun x _ => ?_⟩
    have hle : ∀ u b, t u a b ≤ top t a := fun u b => Finset.le_sup (f := fun p : Fin 4 × Fin 256 => t p.1 a p.2) (Finset.mem_univ (u, b))
    exact max_le (max_le (max_le (max_le (max_le (max_le (max_le (max_le bot_le (hle _ _)) (hle _ _)) (hle _ _)) (hle _ _)) (hle _ _)) (hle _ _)) (hle _ _)) (hle _ _)
  · refine Finset.sup_le fun p _ => ?_
    obtain ⟨u, b⟩ := p
    rw [Finset.le_fold_max]
    right
    by_cases hb : b.val < 128
    · refine ⟨⟨b.val, hb⟩, Finset.mem_univ _, ?_⟩
      fin_cases u <;> simp [le_max_iff]
    · have hb' : (⟨128 + (b.val - 128), by omega⟩ : Fin 256) = b := Fin.ext (by simp; omega)
      refine ⟨⟨b.val - 128, by omega⟩, Finset.mem_univ _, ?_⟩
      fin_cases u <;> simp [le_max_iff, hb']

theorem vl_apply (t : Fin 4 → Fin 512 → Fin 256 → EReal) (ones : FVec Ideal S1024x128 .bf16) (vt : Vec Ideal S1024x128 .bf16) (mp mc : FVec Ideal S512x1 .f32)
    (s0 s1 s2 s3 : Vec Ideal S1x512x256 .f32) (old : Vec Ideal S1x512x256 .f32) (h1s : ∀ y, ones y = 1)
    (h0 : ∀ a b, s0 (ix3 0 a b) = t 0 a b) (h1 : ∀ a b, s1 (ix3 0 a b) = t 1 a b)
    (h2 : ∀ a b, s2 (ix3 0 a b) = t 2 a b) (h3 : ∀ a b, s3 (ix3 0 a b) = t 3 a b) (a : Fin 512) (d : Fin 256) :
    vl ones vt mp mc s0 s1 s2 s3 old (ix3 0 a d) = old (ix3 0 a d) * e2 (mp (ix2 a 0) - mc (ix2 a 0))
      + ∑ y : Fin 1024, e2 (t ⟨y.val / 256, by omega⟩ a ⟨y.val % 256, by omega⟩ - mc (ix2 a 0)) * (if h : d.val < 128 then vt (ix2 y ⟨d.val, h⟩) else 1) := by
  unfold vl
  pointwise [k0_pay19, k0_pay15, k0_pay16, k0_pay17, k0_pay18]
  refine congrArg₂ (· + ·) rfl (Finset.sum_congr rfl fun y _ => ?_)
  simp only [h0, h1, h2, h3, h1s]
  refine congrArg₂ (· * ·) ?_ rfl
  have hy := y.isLt
  have key : ∀ (u : Fin 4) (b : Fin 256), y.val = u.val * 256 + b.val →
      FloatOps.exp2 (F := Ideal) (φ := .f32) (t u a b - mc (ix2 a 0)) = e2 (t ⟨y.val / 256, by omega⟩ a ⟨y.val % 256, by omega⟩ - mc (ix2 a 0)) := by
    intro u b hub
    have e1 : (⟨y.val / 256, by omega⟩ : Fin 4) = u := Fin.ext (by show y.val / 256 = u.val; omega)
    have e2' : (⟨y.val % 256, by omega⟩ : Fin 256) = b := Fin.ext (by show y.val % 256 = b.val; omega)
    rw [e1, e2']
    rfl
  by_cases c0 : y.val < 256
  · refine (dif_pos c0).trans (key 0 ⟨y.val, c0⟩ ?_)
    show y.val = 0 * 256 + y.val
    omega
  refine (dif_neg c0).trans ?_
  by_cases c1 : y.val - 256 < 256
  · refine (dif_pos c1).trans (key 1 ⟨y.val - 256, c1⟩ ?_)
    show y.val = 1 * 256 + (y.val - 256)
    omega
  refine (dif_neg c1).trans ?_
  by_cases c2 : y.val - 256 - 256 < 256
  · refine (dif_pos c2).trans (key 2 ⟨y.val - 256 - 256, c2⟩ ?_)
    show y.val = 2 * 256 + (y.val - 256 - 256)
    omega
  refine (dif_neg c2).trans (key 3 ⟨y.val - 256 - 256 - 256, by omega⟩ ?_)
  show y.val = 3 * 256 + (y.val - 256 - 256 - 256)
  omega

/-! ### Reading and storing by blocks -/

theorem read_block {s : Shape} {e : EltTy} (v : View sig .tc .vmem s e) (f : v.ty.Contents (Elt Ideal)) {off off' size : Fin s.rank → ℕ}
    (inb : ∀ a, off a + size a ≤ s.size a) (h : off = off') (x : (Rect.unit off size inb).shape.Idx) (y : s.Idx) (hy : ∀ a, (y a).val = off' a + (x a).val) :
    v.readAt (Elt Ideal) (Rect.unit off size inb).toLoadRect f x = v.read (Elt Ideal) f y := by
  subst h
  rw [View.readAt_apply]
  congr 1
  funext a
  refine Fin.ext ?_
  show off a + 1 * (x a).val = (y a).val
  rw [hy a, Nat.one_mul]

theorem inq (c : ℕ) (hc : c ≤ 128) : ∀ a, (![0, c] : Fin 2 → ℕ) a + S512x128.size a ≤ S512x256.size a := by
  intro a
  match a with
  | ⟨0, _⟩ => exact Nat.le_of_eq (Nat.zero_add 512)
  | ⟨1, _⟩ => exact Nat.add_le_add_right hc 128

theorem in4 (u : Fin 4) : ∀ a, (![u.val, 0, 0] : Fin 3 → ℕ) a + S1x512x256.size a ≤ S4x512x256.size a := by
  revert u
  decide +kernel

theorem in2 (u : Fin 2) : ∀ a, (![u.val, 0, 0] : Fin 3 → ℕ) a + S1x512x256.size a ≤ S2x512x256.size a := by
  revert u
  decide +kernel

/-- Four stores, one per block, read back. -/
theorem read_four (v : View sig .tc .vmem S4x512x256 .f32) (f : v.ty.Contents (Elt Ideal)) (t : Fin 4 → Fin 512 → Fin 256 → EReal)
    (w0 w1 w2 w3 : Vec Ideal S1x512x256 .f32) (i0 i1 i2 i3)
    (h0 : ∀ a b, w0 (ix3 0 a b) = t 0 a b) (h1 : ∀ a b, w1 (ix3 0 a b) = t 1 a b)
    (h2 : ∀ a b, w2 (ix3 0 a b) = t 2 a b) (h3 : ∀ a b, w3 (ix3 0 a b) = t 3 a b) (L : List (View.Piece (Elt Ideal) S4x512x256 .f32))
    (u : Fin 4) (a : Fin 512) (b : Fin 256) :
    v.read (Elt Ideal) (v.writes (Elt Ideal) f (⟨Rect.unit ![3, 0, 0] S1x512x256.size i3, w3⟩ :: ⟨Rect.unit ![2, 0, 0] S1x512x256.size i2, w2⟩
      :: ⟨Rect.unit ![1, 0, 0] S1x512x256.size i1, w1⟩ :: ⟨Rect.unit ![0, 0, 0] S1x512x256.size i0, w0⟩ :: L)) (ix3 u a b) = t u a b := by
  have hit : ∀ (n : ℕ) (hn : n = u.val) (inb) (w : Vec Ideal S1x512x256 .f32) (L : List (View.Piece (Elt Ideal) S4x512x256 .f32)) (hw : ∀ a b, w (ix3 0 a b) = t u a b),
      v.read (Elt Ideal) (v.writes (Elt Ideal) f (⟨Rect.unit ![n, 0, 0] S1x512x256.size inb, w⟩ :: L)) (ix3 u a b) = t u a b := by
    intro n hn inb w L hw
    refine (View.read_writes_cons_unit_of_mem v f inb w L (ix3 u a b) (ix3 0 a b) rfl ?_).trans (hw a b)
    intro k
    match k with
    | ⟨0, _⟩ => exact hn.symm
    | ⟨1, _⟩ => exact (Nat.zero_add _).symm
    | ⟨2, _⟩ => exact (Nat.zero_add _).symm
  have miss : ∀ (n : ℕ) (hn : n ≠ u.val) (inb) (w : Vec Ideal S1x512x256 .f32) (L : List (View.Piece (Elt Ideal) S4x512x256 .f32)),
      v.read (Elt Ideal) (v.writes (Elt Ideal) f (⟨Rect.unit ![n, 0, 0] S1x512x256.size inb, w⟩ :: L)) (ix3 u a b)
        = v.read (Elt Ideal) (v.writes (Elt Ideal) f L) (ix3 u a b) := by
    intro n hn inb w L
    refine View.read_writes_cons_unit_of_not_mem v f inb w L (ix3 u a b) rfl (0 : Fin 3) ?_
    show u.val < n ∨ n + 1 ≤ u.val
    omega
  match u, hit, miss with
  | ⟨3, _⟩, hit, miss => exact hit 3 rfl _ _ _ h3
  | ⟨2, _⟩, hit, miss => exact (miss 3 (by simp) _ _ _).trans (hit 2 rfl _ _ _ h2)
  | ⟨1, _⟩, hit, miss => exact (miss 3 (by simp) _ _ _).trans ((miss 2 (by simp) _ _ _).trans (hit 1 rfl _ _ _ h1))
  | ⟨0, _⟩, hit, miss =>
    exact (miss 3 (by simp) _ _ _).trans ((miss 2 (by simp) _ _ _).trans ((miss 1 (by simp) _ _ _).trans (hit 0 rfl _ _ _ h0)))

end Cert.AttentionIdeal.Attn

end
-- ==== Proof.AttnIdeal.Groups.lean ====
/- The attention over the ideal numbers: the scores of a group of four blocks of keys, the running maximum and the running sums. -/
module

public import proofs.«01_k».proof.Proof.AttnIdeal.Setup
public import proofs.«01_k».proof.Proof.AttnIdeal.Blocks
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What one program of the attention reads: the queries, keys and values of a pair of heads, the band of position biases, the
    mask of its rows, and the number of its block of queries. -/
structure Ins where
  n : ℕ
  q : Vec Ideal S512x256 .bf16
  kk : Vec Ideal S8192x256 .bf16
  vv : Vec Ideal S8192x256 .bf16
  bd : Vec Ideal S4x2x512x256 .f32
  ms : Vec Ideal S32x512x256 .f32

variable (I : Ins)

/-- The score of a row against key `b` of block `j`, at head `h` of the pair. -/
def blk (h : Fin 2) (j : ℕ) (a : Fin 512) (b : Fin 256) : EReal :=
  (∑ d : Fin 128, I.q (ix2 a ⟨128 * h.val + d.val, by omega⟩) * I.kk (ix2 (Fin.ofNat 8192 (j * 256 + b.val)) ⟨128 * h.val + d.val, by omega⟩))
    * Ideal.ofBits .f32 0x3E0293EE#32 + I.bd (ix4 ⟨min (2 * I.n + 1 - j) 3, by omega⟩ h a b) + I.ms (ix3 (Fin.ofNat 32 j) a b)

/-- The scores of group `g`: its four blocks. -/
def sc (h : Fin 2) (g : ℕ) (u : Fin 4) (a : Fin 512) (b : Fin 256) : EReal := blk I h (4 * g + u.val) a b

/-- The greatest score of the first `g` groups. -/
def M (h : Fin 2) : ℕ → Fin 512 → EReal
  | 0, _ => ⊥
  | g + 1, a => max (M h g a) (top (sc I h g) a)

/-- The columns that the weights multiply: 128 of values, then ones. -/
def vw (h : Fin 2) (g : ℕ) (y : Fin 1024) (d : Fin 256) : EReal :=
  if _h : d.val < 128 then I.vv (ix2 (Fin.ofNat 8192 (g * 1024 + y.val)) ⟨128 * h.val + d.val, by omega⟩) else 1

/-- The running sums after `g` groups. -/
def A (h : Fin 2) : ℕ → Fin 512 → Fin 256 → EReal
  | 0, _, _ => 0
  | g + 1, a, d => A h g a d * e2 (M I h g a - M I h (g + 1) a)
      + ∑ y : Fin 1024, e2 (sc I h g ⟨y.val / 256, by omega⟩ a ⟨y.val % 256, by omega⟩ - M I h (g + 1) a) * vw I h g y d

/-- The scores a step computes from what it loads. -/
theorem lg_read {h : Fin 2} {j : ℕ} (vk : View sig .tc .vmem S8192x256 .bf16) (vq : View sig .tc .vmem S512x256 .bf16) (vb : View sig .tc .vmem S4x2x512x256 .f32)
    (vm : View sig .tc .vmem S32x512x256 .f32) (fk) (fq) (fb) (fm)
    (hq : vq.read (Elt Ideal) fq = I.q) (hk : vk.read (Elt Ideal) fk = I.kk) (hb : vb.read (Elt Ideal) fb = I.bd) (hm : vm.read (Elt Ideal) fm = I.ms)
    {ok : Fin 2 → ℕ} {oq : Fin 2 → ℕ} {ob : Fin 4 → ℕ} {om : Fin 3 → ℕ}
    (ik : ∀ a, ok a + S256x128.size a ≤ S8192x256.size a) (iq : ∀ a, oq a + S512x128.size a ≤ S512x256.size a)
    (ib : ∀ a, ob a + S1x1x512x256.size a ≤ S4x2x512x256.size a) (im : ∀ a, om a + S1x512x256.size a ≤ S32x512x256.size a)
    (hj : j < 32) (ek : ok = ![j * 256, 128 * h.val]) (eq : oq = ![0, 128 * h.val]) (eb : ob = ![min (2 * I.n + 1 - j) 3, h.val, 0, 0]) (em : om = ![j, 0, 0])
    (a : Fin 512) (b : Fin 256) :
    lg (F := Ideal) (vk.readAt (Elt Ideal) (Rect.unit (s := S8192x256) ok S256x128.size ik).toLoadRect fk) (vq.readAt (Elt Ideal) (Rect.unit (s := S512x256) oq S512x128.size iq).toLoadRect fq)
      (vb.readAt (Elt Ideal) (Rect.unit (s := S4x2x512x256) ob S1x1x512x256.size ib).toLoadRect fb) (vm.readAt (Elt Ideal) (Rect.unit (s := S32x512x256) om S1x512x256.size im).toLoadRect fm) (ix3 0 a b)
      = blk I h j a b := by
  rw [lg_apply]
  unfold blk
  have r1 : ∀ d : Fin 128, vq.readAt (Elt Ideal) (Rect.unit (s := S512x256) oq S512x128.size iq).toLoadRect fq (ix2 a d) = I.q (ix2 a ⟨128 * h.val + d.val, by omega⟩) := by
    intro d
    rw [← hq]
    refine read_block vq fq iq eq _ _ ?_
    intro k
    match k with
    | ⟨0, _⟩ => exact (Nat.zero_add _).symm
    | ⟨1, _⟩ => rfl
  have r2 : ∀ d : Fin 128, vk.readAt (Elt Ideal) (Rect.unit (s := S8192x256) ok S256x128.size ik).toLoadRect fk (ix2 b d)
      = I.kk (ix2 (Fin.ofNat 8192 (j * 256 + b.val)) ⟨128 * h.val + d.val, by omega⟩) := by
    intro d
    rw [← hk]
    refine read_block vk fk ik ek _ _ ?_
    intro k
    match k with
    | ⟨0, _⟩ => exact Nat.mod_eq_of_lt (by have := b.isLt; omega)
    | ⟨1, _⟩ => rfl
  have r3 : vb.readAt (Elt Ideal) (Rect.unit (s := S4x2x512x256) ob S1x1x512x256.size ib).toLoadRect fb (ix4 0 0 a b) = I.bd (ix4 ⟨min (2 * I.n + 1 - j) 3, by omega⟩ h a b) := by
    rw [← hb]
    refine read_block vb fb ib eb _ _ ?_
    intro k
    match k with
    | ⟨0, _⟩ => rfl
    | ⟨1, _⟩ => rfl
    | ⟨2, _⟩ => exact (Nat.zero_add _).symm
    | ⟨3, _⟩ => exact (Nat.zero_add _).symm
  have r4 : vm.readAt (Elt Ideal) (Rect.unit (s := S32x512x256) om S1x512x256.size im).toLoadRect fm (ix3 0 a b) = I.ms (ix3 (Fin.ofNat 32 j) a b) := by
    rw [← hm]
    refine read_block vm fm im em _ _ ?_
    intro k
    match k with
    | ⟨0, _⟩ => exact Nat.mod_eq_of_lt hj
    | ⟨1, _⟩ => exact (Nat.zero_add _).symm
    | ⟨2, _⟩ => exact (Nat.zero_add _).symm
  simp only [r1, r2, r3, r4]

/-- The values a step loads. -/
theorem vt_read {h : Fin 2} {g : ℕ} (v : View sig .tc .vmem S8192x256 .bf16) (f) (hv : v.read (Elt Ideal) f = I.vv) {o : Fin 2 → ℕ}
    (io : ∀ a, o a + S1024x128.size a ≤ S8192x256.size a) (hg : g < 8) (e : o = ![g * 1024, 128 * h.val]) (y : Fin 1024) (d : Fin 256) :
    (if hd : d.val < 128 then v.readAt (Elt Ideal) (Rect.unit (s := S8192x256) o S1024x128.size io).toLoadRect f (ix2 y ⟨d.val, hd⟩) else 1) = vw I h g y d := by
  unfold vw
  split_ifs with hd
  · rw [← hv]
    refine read_block v f io e _ _ ?_
    intro k
    match k with
    | ⟨0, _⟩ => exact Nat.mod_eq_of_lt (by have := y.isLt; omega)
    | ⟨1, _⟩ => rfl
  · rfl

/-- A step of the running sums. -/
theorem A_step {h : Fin 2} {g : ℕ} (v : View sig .tc .vmem S8192x256 .bf16) (f) (hv : v.read (Elt Ideal) f = I.vv) {o : Fin 2 → ℕ}
    (io : ∀ a, o a + S1024x128.size a ≤ S8192x256.size a) (hg : g < 8) (e : o = ![g * 1024, 128 * h.val])
    (ones : FVec Ideal S1024x128 .bf16) (mp mc : FVec Ideal S512x1 .f32)
    (s0 s1 s2 s3 : Vec Ideal S1x512x256 .f32) (old : Vec Ideal S1x512x256 .f32) (h1s : ∀ y, ones y = 1)
    (hp : ∀ a, mp (ix2 a 0) = M I h g a) (hc : ∀ a, mc (ix2 a 0) = M I h (g + 1) a)
    (h0 : ∀ a b, s0 (ix3 0 a b) = sc I h g 0 a b) (h1 : ∀ a b, s1 (ix3 0 a b) = sc I h g 1 a b)
    (h2 : ∀ a b, s2 (ix3 0 a b) = sc I h g 2 a b) (h3 : ∀ a b, s3 (ix3 0 a b) = sc I h g 3 a b)
    (ho : ∀ a d, old (ix3 0 a d) = A I h g a d) (a : Fin 512) (d : Fin 256) :
    vl ones (v.readAt (Elt Ideal) (Rect.unit (s := S8192x256) o S1024x128.size io).toLoadRect f) mp mc s0 s1 s2 s3 old (ix3 0 a d) = A I h (g + 1) a d := by
  rw [vl_apply (sc I h g) ones _ mp mc s0 s1 s2 s3 old h1s h0 h1 h2 h3]
  simp only [vt_read I v f hv io hg e, hp, hc, ho]
  rfl

/-- A step of the running maximum. -/
theorem M_step {h : Fin 2} {g : ℕ} (s0 s1 s2 s3 : FVec Ideal S512x256 .f32) (m : FVec Ideal S512x1 .f32)
    (hm : ∀ a, m (ix2 a 0) = M I h g a)
    (h0 : ∀ a b, s0 (ix2 a b) = sc I h g 0 a b) (h1 : ∀ a b, s1 (ix2 a b) = sc I h g 1 a b)
    (h2 : ∀ a b, s2 (ix2 a b) = sc I h g 2 a b) (h3 : ∀ a b, s3 (ix2 a b) = sc I h g 3 a b) (a : Fin 512) :
    mx s0 s1 s2 s3 m (ix2 a 0) = M I h (g + 1) a := by
  rw [mx_apply (sc I h g) s0 s1 s2 s3 m h0 h1 h2 h3, hm]
  rfl

/-- A half of the running sums, just stored. -/
theorem hit11 (v : View sig .tc .vmem S2x512x256 .f32) (f : v.ty.Contents (Elt Ideal)) (h : Fin 2) (w : Vec Ideal S1x512x256 .f32)
    (L : List (View.Piece (Elt Ideal) S2x512x256 .f32)) (a : Fin 512) (d : Fin 256) :
    v.read (Elt Ideal) (v.writes (Elt Ideal) f (⟨Rect.unit ![h.val, 0, 0] S1x512x256.size (in2 h), w⟩ :: L)) (ix3 h a d) = w (ix3 0 a d) := by
  refine View.read_writes_cons_unit_of_mem v f (in2 h) w L (ix3 h a d) (ix3 0 a d) rfl ?_
  intro k
  match k with
  | ⟨0, _⟩ => rfl
  | ⟨1, _⟩ => exact (Nat.zero_add _).symm
  | ⟨2, _⟩ => exact (Nat.zero_add _).symm

/-- The other half stays. -/
theorem miss11 (v : View sig .tc .vmem S2x512x256 .f32) (f : v.ty.Contents (Elt Ideal)) (h h' : Fin 2) (hne : h ≠ h') (w : Vec Ideal S1x512x256 .f32)
    (L : List (View.Piece (Elt Ideal) S2x512x256 .f32)) (a : Fin 512) (d : Fin 256) :
    v.read (Elt Ideal) (v.writes (Elt Ideal) f (⟨Rect.unit ![h.val, 0, 0] S1x512x256.size (in2 h), w⟩ :: L)) (ix3 h' a d)
      = v.read (Elt Ideal) (v.writes (Elt Ideal) f L) (ix3 h' a d) := by
  refine View.read_writes_cons_unit_of_not_mem v f (in2 h) w L (ix3 h' a d) rfl (0 : Fin 3) ?_
  show h'.val < h.val ∨ h.val + 1 ≤ h'.val
  have : h.val ≠ h'.val := fun e => hne (Fin.ext e)
  omega

/-- A half of the running sums, loaded. -/
theorem at11 (v : View sig .tc .vmem S2x512x256 .f32) (f : v.ty.Contents (Elt Ideal)) (h : Fin 2) (a : Fin 512) (d : Fin 256) :
    v.readAt (Elt Ideal) (Rect.unit (s := S2x512x256) ![h.val, 0, 0] S1x512x256.size (in2 h)).toLoadRect f (ix3 0 a d) = v.read (Elt Ideal) f (ix3 h a d) := by
  refine read_block v f (in2 h) rfl _ _ ?_
  intro k
  match k with
  | ⟨0, _⟩ => rfl
  | ⟨1, _⟩ => exact (Nat.zero_add _).symm
  | ⟨2, _⟩ => exact (Nat.zero_add _).symm

/-- A block of stored scores, loaded. -/
theorem at4 (v : View sig .tc .vmem S4x512x256 .f32) (f : v.ty.Contents (Elt Ideal)) (u : Fin 4) (a : Fin 512) (b : Fin 256) :
    v.readAt (Elt Ideal) (Rect.unit (s := S4x512x256) ![u.val, 0, 0] S1x512x256.size (in4 u)).toLoadRect f (ix3 0 a b) = v.read (Elt Ideal) f (ix3 u a b) := by
  refine read_block v f (in4 u) rfl _ _ ?_
  intro k
  match k with
  | ⟨0, _⟩ => rfl
  | ⟨1, _⟩ => exact (Nat.zero_add _).symm
  | ⟨2, _⟩ => exact (Nat.zero_add _).symm

theorem writes_app {s : Shape} {e : EltTy} (v : View sig .tc .vmem s e) (f : v.ty.Contents (Elt Ideal)) (L P : List (View.Piece (Elt Ideal) s e)) :
    v.writes (Elt Ideal) f (L ++ P) = v.writes (Elt Ideal) (v.writes (Elt Ideal) f P) L := by
  induction L with
  | nil => rfl
  | cons p L ih =>
    rw [List.cons_append, View.writes_cons, View.writes_cons, ih]

/-- What holds before trip `n` of a loop over pairs of groups: the maxima after `2 n` and `2 n + 1` groups, the scores of group `2 n`
    in the first buffer, the sums after `2 n` groups in the head's half, the other half as at first. -/
def Inv (h oh : Fin 2) (vf : View sig .tc .vmem S4x512x256 .f32) (v11 : View sig .tc .vmem S2x512x256 .f32) (f : vf.ty.Contents (Elt Ideal))
    (f11 g11 : v11.ty.Contents (Elt Ideal)) (m : FVec Ideal S512x1 .f32 × FVec Ideal S512x1 .f32) (n : ℕ) : Prop :=
  (∀ a, m.1 (ix2 a 0) = M I h (2 * n) a) ∧ (∀ a, m.2 (ix2 a 0) = M I h (2 * n + 1) a)
  ∧ (∀ u a b, vf.read (Elt Ideal) f (ix3 u a b) = sc I h (2 * n) u a b)
  ∧ (∀ a d, v11.read (Elt Ideal) f11 (ix3 h a d) = A I h (2 * n) a d)
  ∧ (∀ a d, v11.read (Elt Ideal) f11 (ix3 oh a d) = v11.read (Elt Ideal) g11 (ix3 oh a d))

end Cert.AttentionIdeal.Attn

end
-- ==== Proof.AttnIdeal.Offsets.lean ====
/- The attention over the ideal numbers: where the loops over the keys read, by the number of the trip. -/
module

public import proofs.«01_k».proof.Proof.AttnIdeal.Setup
public import proofs.«01_k».proof.Proof.AttnIdeal.Weights
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem grid_lt (i : grid0.Coords) : (i 0).val < 16 := (i 0).isLt

/-- A loop over pairs of groups runs once per four blocks of queries. -/
theorem trips3 (i : grid0.Coords) : (k0_t3_loop i).trips = (i 0).val / 4 := by
  have h := grid_lt i
  unfold k0_t3_loop
  revert h
  generalize (i 0).val = n
  intro h
  revert n
  decide +kernel

theorem trip_lt3 (i : grid0.Coords) (k : Fin (k0_t3_loop i).trips) : k.val < 4 := by
  have h := lt_of_lt_of_eq k.isLt (trips3 i)
  have := grid_lt i
  omega

theorem trips5 (i : grid0.Coords) : (k0_t5_loop i).trips = (i 0).val / 4 := by
  have h := grid_lt i
  unfold k0_t5_loop
  revert h
  generalize (i 0).val = n
  intro h
  revert n
  decide +kernel

theorem trip_lt5 (i : grid0.Coords) (k : Fin (k0_t5_loop i).trips) : k.val < 4 := by
  have h := lt_of_lt_of_eq k.isLt (trips5 i)
  have := grid_lt i
  omega

theorem trips7 (i : grid0.Coords) : (k0_t7_loop i).trips = (i 0).val / 4 := by
  have h := grid_lt i
  unfold k0_t7_loop
  revert h
  generalize (i 0).val = n
  intro h
  revert n
  decide +kernel

theorem trip_lt7 (i : grid0.Coords) (k : Fin (k0_t7_loop i).trips) : k.val < 4 := by
  have h := lt_of_lt_of_eq k.isLt (trips7 i)
  have := grid_lt i
  omega

theorem trips9 (i : grid0.Coords) : (k0_t9_loop i).trips = (i 0).val / 4 := by
  have h := grid_lt i
  unfold k0_t9_loop
  revert h
  generalize (i 0).val = n
  intro h
  revert n
  decide +kernel

theorem trip_lt9 (i : grid0.Coords) (k : Fin (k0_t9_loop i).trips) : k.val < 4 := by
  have h := lt_of_lt_of_eq k.isLt (trips9 i)
  have := grid_lt i
  omega

theorem off4_eq (i : grid0.Coords) (k : Fin (k0_t3_loop i).trips) (r : Fin 2) (u : Fin 4) :
    k0_off4 i k (BitVec.ofNat 32 (1 + r.val)) (BitVec.ofNat 32 u.val) = ![(4 * (2 * k.val + 1 + r.val) + u.val) * 256, 0] := by
  have hk := trip_lt3 i k
  have hi := grid_lt i
  unfold k0_off4 Scf.iv
  dsimp only
  revert hk hi
  generalize k.val = n
  generalize (i 0).val = m
  intro hk hi
  revert r u
  interval_cases n <;> decide +kernel

theorem off5_eq (i : grid0.Coords) (k : Fin (k0_t3_loop i).trips) (r : Fin 2) (u : Fin 4) :
    k0_off5 i k (BitVec.ofNat 32 (1 + r.val)) (BitVec.ofNat 32 u.val) = ![min (2 * (i 0).val + 1 - (4 * (2 * k.val + 1 + r.val) + u.val)) 3, 0, 0, 0] := by
  have hk := trip_lt3 i k
  have hi := grid_lt i
  unfold k0_off5 Scf.iv
  dsimp only
  revert hk hi
  generalize k.val = n
  generalize (i 0).val = m
  intro hk hi
  revert r u
  interval_cases n <;> interval_cases m <;> decide +kernel

theorem off6_eq (i : grid0.Coords) (k : Fin (k0_t3_loop i).trips) (r : Fin 2) (u : Fin 4) :
    k0_off6 i k (BitVec.ofNat 32 (1 + r.val)) (BitVec.ofNat 32 u.val) = ![4 * (2 * k.val + 1 + r.val) + u.val, 0, 0] := by
  have hk := trip_lt3 i k
  have hi := grid_lt i
  unfold k0_off6 Scf.iv
  dsimp only
  revert hk hi
  generalize k.val = n
  generalize (i 0).val = m
  intro hk hi
  revert r u
  interval_cases n <;> decide +kernel

theorem off7_eq (i : grid0.Coords) (k : Fin (k0_t3_loop i).trips) :
    k0_off7 i k  = ![(2 * k.val) * 1024, 0] := by
  have hk := trip_lt3 i k
  have hi := grid_lt i
  unfold k0_off7 Scf.iv
  dsimp only
  revert hk hi
  generalize k.val = n
  generalize (i 0).val = m
  intro hk hi
  skip
  interval_cases n <;> decide +kernel

theorem off8_eq (i : grid0.Coords) (k : Fin (k0_t3_loop i).trips) :
    k0_off8 i k  = ![(2 * k.val + 1) * 1024, 0] := by
  have hk := trip_lt3 i k
  have hi := grid_lt i
  unfold k0_off8 Scf.iv
  dsimp only
  revert hk hi
  generalize k.val = n
  generalize (i 0).val = m
  intro hk hi
  skip
  interval_cases n <;> decide +kernel

theorem off16_eq (i : grid0.Coords) (k : Fin (k0_t5_loop i).trips) (r : Fin 2) (u : Fin 4) :
    k0_off16 i k (BitVec.ofNat 32 (1 + r.val)) (BitVec.ofNat 32 u.val) = ![(4 * (2 * k.val + 1 + r.val) + u.val) * 256, 128] := by
  have hk := trip_lt5 i k
  have hi := grid_lt i
  unfold k0_off16 Scf.iv
  dsimp only
  revert hk hi
  generalize k.val = n
  generalize (i 0).val = m
  intro hk hi
  revert r u
  interval_cases n <;> decide +kernel

theorem off17_eq (i : grid0.Coords) (k : Fin (k0_t5_loop i).trips) (r : Fin 2) (u : Fin 4) :
    k0_off17 i k (BitVec.ofNat 32 (1 + r.val)) (BitVec.ofNat 32 u.val) = ![min (2 * (i 0).val + 1 - (4 * (2 * k.val + 1 + r.val) + u.val)) 3, 1, 0, 0] := by
  have hk := trip_lt5 i k
  have hi := grid_lt i
  unfold k0_off17 Scf.iv
  dsimp only
  revert hk hi
  generalize k.val = n
  generalize (i 0).val = m
  intro hk hi
  revert r u
  interval_cases n <;> interval_cases m <;> decide +kernel

theorem off18_eq (i : grid0.Coords) (k : Fin (k0_t5_loop i).trips) (r : Fin 2) (u : Fin 4) :
    k0_off18 i k (BitVec.ofNat 32 (1 + r.val)) (BitVec.ofNat 32 u.val) = ![4 * (2 * k.val + 1 + r.val) + u.val, 0, 0] := by
  have hk := trip_lt5 i k
  have hi := grid_lt i
  unfold k0_off18 Scf.iv
  dsimp only
  revert hk hi
  generalize k.val = n
  generalize (i 0).val = m
  intro hk hi
  revert r u
  interval_cases n <;> decide +kernel

theorem off19_eq (i : grid0.Coords) (k : Fin (k0_t5_loop i).trips) :
    k0_off19 i k  = ![(2 * k.val) * 1024, 128] := by
  have hk := trip_lt5 i k
  have hi := grid_lt i
  unfold k0_off19 Scf.iv
  dsimp only
  revert hk hi
  generalize k.val = n
  generalize (i 0).val = m
  intro hk hi
  skip
  interval_cases n <;> decide +kernel

theorem off20_eq (i : grid0.Coords) (k : Fin (k0_t5_loop i).trips) :
    k0_off20 i k  = ![(2 * k.val + 1) * 1024, 128] := by
  have hk := trip_lt5 i k
  have hi := grid_lt i
  unfold k0_off20 Scf.iv
  dsimp only
  revert hk hi
  generalize k.val = n
  generalize (i 0).val = m
  intro hk hi
  skip
  interval_cases n <;> decide +kernel

theorem off28_eq (i : grid0.Coords) (k : Fin (k0_t7_loop i).trips) (r : Fin 2) (u : Fin 4) :
    k0_off28 i k (BitVec.ofNat 32 (1 + r.val)) (BitVec.ofNat 32 u.val) = ![(4 * (2 * k.val + 1 + r.val) + u.val) * 256, 0] := by
  have hk := trip_lt7 i k
  have hi := grid_lt i
  unfold k0_off28 Scf.iv
  dsimp only
  revert hk hi
  generalize k.val = n
  generalize (i 0).val = m
  intro hk hi
  revert r u
  interval_cases n <;> decide +kernel

theorem off29_eq (i : grid0.Coords) (k : Fin (k0_t7_loop i).trips) (r : Fin 2) (u : Fin 4) :
    k0_off29 i k (BitVec.ofNat 32 (1 + r.val)) (BitVec.ofNat 32 u.val) = ![min (2 * (i 0).val + 1 - (4 * (2 * k.val + 1 + r.val) + u.val)) 3, 0, 0, 0] := by
  have hk := trip_lt7 i k
  have hi := grid_lt i
  unfold k0_off29 Scf.iv
  dsimp only
  revert hk hi
  generalize k.val = n
  generalize (i 0).val = m
  intro hk hi
  revert r u
  interval_cases n <;> interval_cases m <;> decide +kernel

theorem off30_eq (i : grid0.Coords) (k : Fin (k0_t7_loop i).trips) (r : Fin 2) (u : Fin 4) :
    k0_off30 i k (BitVec.ofNat 32 (1 + r.val)) (BitVec.ofNat 32 u.val) = ![4 * (2 * k.val + 1 + r.val) + u.val, 0, 0] := by
  have hk := trip_lt7 i k
  have hi := grid_lt i
  unfold k0_off30 Scf.iv
  dsimp only
  revert hk hi
  generalize k.val = n
  generalize (i 0).val = m
  intro hk hi
  revert r u
  interval_cases n <;> decide +kernel

theorem off31_eq (i : grid0.Coords) (k : Fin (k0_t7_loop i).trips) :
    k0_off31 i k  = ![(2 * k.val) * 1024, 0] := by
  have hk := trip_lt7 i k
  have hi := grid_lt i
  unfold k0_off31 Scf.iv
  dsimp only
  revert hk hi
  generalize k.val = n
  generalize (i 0).val = m
  intro hk hi
  skip
  interval_cases n <;> decide +kernel

theorem off32_eq (i : grid0.Coords) (k : Fin (k0_t7_loop i).trips) :
    k0_off32 i k  = ![(2 * k.val + 1) * 1024, 0] := by
  have hk := trip_lt7 i k
  have hi := grid_lt i
  unfold k0_off32 Scf.iv
  dsimp only
  revert hk hi
  generalize k.val = n
  generalize (i 0).val = m
  intro hk hi
  skip
  interval_cases n <;> decide +kernel

theorem off44_eq (i : grid0.Coords) (k : Fin (k0_t9_loop i).trips) (r : Fin 2) (u : Fin 4) :
    k0_off44 i k (BitVec.ofNat 32 (1 + r.val)) (BitVec.ofNat 32 u.val) = ![(4 * (2 * k.val + 1 + r.val) + u.val) * 256, 128] := by
  have hk := trip_lt9 i k
  have hi := grid_lt i
  unfold k0_off44 Scf.iv
  dsimp only
  revert hk hi
  generalize k.val = n
  generalize (i 0).val = m
  intro hk hi
  revert r u
  interval_cases n <;> decide +kernel

theorem off45_eq (i : grid0.Coords) (k : Fin (k0_t9_loop i).trips) (r : Fin 2) (u : Fin 4) :
    k0_off45 i k (BitVec.ofNat 32 (1 + r.val)) (BitVec.ofNat 32 u.val) = ![min (2 * (i 0).val + 1 - (4 * (2 * k.val + 1 + r.val) + u.val)) 3, 1, 0, 0] := by
  have hk := trip_lt9 i k
  have hi := grid_lt i
  unfold k0_off45 Scf.iv
  dsimp only
  revert hk hi
  generalize k.val = n
  generalize (i 0).val = m
  intro hk hi
  revert r u
  interval_cases n <;> interval_cases m <;> decide +kernel

theorem off46_eq (i : grid0.Coords) (k : Fin (k0_t9_loop i).trips) (r : Fin 2) (u : Fin 4) :
    k0_off46 i k (BitVec.ofNat 32 (1 + r.val)) (BitVec.ofNat 32 u.val) = ![4 * (2 * k.val + 1 + r.val) + u.val, 0, 0] := by
  have hk := trip_lt9 i k
  have hi := grid_lt i
  unfold k0_off46 Scf.iv
  dsimp only
  revert hk hi
  generalize k.val = n
  generalize (i 0).val = m
  intro hk hi
  revert r u
  interval_cases n <;> decide +kernel

theorem off47_eq (i : grid0.Coords) (k : Fin (k0_t9_loop i).trips) :
    k0_off47 i k  = ![(2 * k.val) * 1024, 128] := by
  have hk := trip_lt9 i k
  have hi := grid_lt i
  unfold k0_off47 Scf.iv
  dsimp only
  revert hk hi
  generalize k.val = n
  generalize (i 0).val = m
  intro hk hi
  skip
  interval_cases n <;> decide +kernel

theorem off48_eq (i : grid0.Coords) (k : Fin (k0_t9_loop i).trips) :
    k0_off48 i k  = ![(2 * k.val + 1) * 1024, 128] := by
  have hk := trip_lt9 i k
  have hi := grid_lt i
  unfold k0_off48 Scf.iv
  dsimp only
  revert hk hi
  generalize k.val = n
  generalize (i 0).val = m
  intro hk hi
  skip
  interval_cases n <;> decide +kernel

end Cert.AttentionIdeal.Attn

end
-- ==== Proof.AttnIdeal.Paths.lean ====
/- The attention: the stores of one program of the kernel, by the values that they store. -/
module

public import proofs.«01_k».proof.Proof.AttnIdeal.Setup
public import proofs.«01_k».proof.Proof.AttnIdeal.Groups
public import proofs.«01_k».proof.Proof.AttnIdeal.Offsets
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section Group

variable (vk : View sig .tc .vmem S8192x256 .bf16) (vq : View sig .tc .vmem S512x256 .bf16) (vb : View sig .tc .vmem S4x2x512x256 .f32)
  (vm : View sig .tc .vmem S32x512x256 .f32) (fk : vk.ty.Contents (Elt F)) (fq : vq.ty.Contents (Elt F)) (fb : vb.ty.Contents (Elt F)) (fm : vm.ty.Contents (Elt F))
  (ok : Fin 4 → Fin 2 → ℕ) (oq : Fin 2 → ℕ) (ob : Fin 4 → Fin 4 → ℕ) (om : Fin 4 → Fin 3 → ℕ)
  (ik : ∀ u a, ok u a + S256x128.size a ≤ S8192x256.size a) (iq : ∀ a, oq a + S512x128.size a ≤ S512x256.size a)
  (ib : ∀ u a, ob u a + S1x1x512x256.size a ≤ S4x2x512x256.size a) (im : ∀ u a, om u a + S1x512x256.size a ≤ S32x512x256.size a)

/-- The scores of a group of four blocks, as they are stored. -/
def four (u : Fin 4) : Vec F S1x512x256 .f32 :=
  lg (vk.readAt (Elt F) (Rect.unit (s := S8192x256) (ok u) S256x128.size (ik u)).toLoadRect fk) (vq.readAt (Elt F) (Rect.unit (s := S512x256) oq S512x128.size iq).toLoadRect fq)
    (vb.readAt (Elt F) (Rect.unit (s := S4x2x512x256) (ob u) S1x1x512x256.size (ib u)).toLoadRect fb) (vm.readAt (Elt F) (Rect.unit (s := S32x512x256) (om u) S1x512x256.size (im u)).toLoadRect fm)

/-- The scores of a group of four blocks, as the maximum takes them. -/
def flat (u : Fin 4) : FVec F S512x256 .f32 :=
  k0_pay2 (vk.readAt (Elt F) (Rect.unit (s := S8192x256) (ok u) S256x128.size (ik u)).toLoadRect fk) (vq.readAt (Elt F) (Rect.unit (s := S512x256) oq S512x128.size iq).toLoadRect fq)
    (vb.readAt (Elt F) (Rect.unit (s := S4x2x512x256) (ob u) S1x1x512x256.size (ib u)).toLoadRect fb) (vm.readAt (Elt F) (Rect.unit (s := S32x512x256) (om u) S1x512x256.size (im u)).toLoadRect fm)

end Group

/-- Four stores, one per block. -/
def put (w : Fin 4 → Vec F S1x512x256 .f32) (L : List (View.Piece (Elt F) S4x512x256 .f32)) : List (View.Piece (Elt F) S4x512x256 .f32) :=
  ⟨Rect.unit (s := S4x512x256) ![3, 0, 0] S1x512x256.size (in4 3), w 3⟩ :: ⟨Rect.unit (s := S4x512x256) ![2, 0, 0] S1x512x256.size (in4 2), w 2⟩
    :: ⟨Rect.unit (s := S4x512x256) ![1, 0, 0] S1x512x256.size (in4 1), w 1⟩ :: ⟨Rect.unit (s := S4x512x256) ![0, 0, 0] S1x512x256.size (in4 0), w 0⟩ :: L

/-- The maximum after a group. -/
def mxs (w : Fin 4 → FVec F S512x256 .f32) (m : FVec F S512x1 .f32) : FVec F S512x1 .f32 := mx (w 0) (w 1) (w 2) (w 3) m

/-- The store of a head's sums after a group whose scores lie in `v9`. -/
def fold (h : Fin 2) (v4 : View sig .tc .vmem S8192x256 .bf16) (f4 : v4.ty.Contents (Elt F)) (o : Fin 2 → ℕ) (io : ∀ a, o a + S1024x128.size a ≤ S8192x256.size a)
    (mp mc : FVec F S512x1 .f32) (v9 : View sig .tc .vmem S4x512x256 .f32) (L9 : List (View.Piece (Elt F) S4x512x256 .f32))
    (v11 : View sig .tc .vmem S2x512x256 .f32) (L : List (View.Piece (Elt F) S2x512x256 .f32)) : List (View.Piece (Elt F) S2x512x256 .f32) :=
  ⟨Rect.unit (s := S2x512x256) ![h.val, 0, 0] S1x512x256.size (in2 h), vl k0_pay392 (v4.readAt (Elt F) (Rect.unit (s := S8192x256) o S1024x128.size io).toLoadRect f4) mp mc
    (v9.readCov L9 (Rect.unit (s := S4x512x256) ![0, 0, 0] S1x512x256.size (in4 0)).toLoadRect) (v9.readCov L9 (Rect.unit (s := S4x512x256) ![1, 0, 0] S1x512x256.size (in4 1)).toLoadRect)
    (v9.readCov L9 (Rect.unit (s := S4x512x256) ![2, 0, 0] S1x512x256.size (in4 2)).toLoadRect) (v9.readCov L9 (Rect.unit (s := S4x512x256) ![3, 0, 0] S1x512x256.size (in4 3)).toLoadRect)
    (v11.readCov L (Rect.unit (s := S2x512x256) ![h.val, 0, 0] S1x512x256.size (in2 h)).toLoadRect)⟩ :: L

theorem inz : ∀ a, (![0, 0, 0] : Fin 3 → ℕ) a + S2x512x256.size a ≤ S2x512x256.size a := by decide +kernel
theorem inv (h : Fin 2) : ∀ a, (![h.val, 0, 0] : Fin 3 → ℕ) a + S1x512x128.size a ≤ S2x512x256.size a := by
  revert h
  decide +kernel
theorem ins (h : Fin 2) : ∀ a, (![h.val, 0, 128] : Fin 3 → ℕ) a + S1x512x1.size a ≤ S2x512x256.size a := by
  revert h
  decide +kernel
theorem ino (h : Fin 2) : ∀ a, (![0, 128 * h.val] : Fin 2 → ℕ) a + S512x128.size a ≤ S512x256.size a := by
  revert h
  decide +kernel
theorem ink (h : Fin 2) : ∀ (u : Fin 4) a, (![u.val * 256, 128 * h.val] : Fin 2 → ℕ) a + S256x128.size a ≤ S8192x256.size a := by
  revert h
  decide +kernel
theorem inm : ∀ (u : Fin 4) a, (![u.val, 0, 0] : Fin 3 → ℕ) a + S1x512x256.size a ≤ S32x512x256.size a := by decide +kernel

/-- The sums, cleared. -/
def zeros : List (View.Piece (Elt F) S2x512x256 .f32) := [⟨Rect.unit (s := S2x512x256) ![0, 0, 0] S2x512x256.size inz, k0_pay395⟩]

/-- The two stores of the output: each head's sums divided. -/
def outs (v11 : View sig .tc .vmem S2x512x256 .f32) (L : List (View.Piece (Elt F) S2x512x256 .f32)) : List (View.Piece (Elt F) S512x256 .f32) :=
  [⟨Rect.unit (s := S512x256) ![0, 128] S512x128.size (ino 1), k0_pay1 (k0_pay399 (v11.readCov L (Rect.unit (s := S2x512x256) ![1, 0, 0] S1x512x128.size (inv 1)).toLoadRect))
      (v11.readCov L (Rect.unit (s := S2x512x256) ![1, 0, 128] S1x512x1.size (ins 1)).toLoadRect)⟩,
   ⟨Rect.unit (s := S512x256) ![0, 0] S512x128.size (ino 0), k0_pay398 (v11.readCov L (Rect.unit (s := S2x512x256) ![0, 0, 0] S1x512x128.size (inv 0)).toLoadRect)
      (v11.readCov L (Rect.unit (s := S2x512x256) ![0, 0, 128] S1x512x1.size (ins 0)).toLoadRect)⟩]

/-- What a program stores when its groups are odd in number: the loops take them in pairs, and the last is left. -/
def Odd (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc : k0_cond2 i = 1#1) (X2 : y2.view.ty.Contents (Elt F)) (X3 : y3.view.ty.Contents (Elt F)) (X4 : y4.view.ty.Contents (Elt F)) (X6 : y6.view.ty.Contents (Elt F)) (f8 : y8.view.ty.Contents (Elt F)) (f10 : y10.view.ty.Contents (Elt F))
    (L : List (View.Piece (Elt F) S2x512x256 .f32)) : Prop :=
  ∃ (S3 S4 S5 S6 : (FVec F S512x1 .f32 × FVec F S512x1 .f32) × List (View.Piece (Elt F) S4x512x256 .f32) × List (View.Piece (Elt F) S4x512x256 .f32) × List (View.Piece (Elt F) S2x512x256 .f32)) (v47 v48 : BitVec 32) (v149 : FVec F S512x128 .f32) (v168 : FVec F S512x256 .f32) (va vb vc : FVec F S512x1 .f32) (vd : FVec F S512x256 .f32) (ve vf : FVec F S512x256 .bf16) (g9 : y9.view.ty.Contents (Elt F)) (T10 P9 P10 : List (View.Piece (Elt F) S4x512x256 .f32)) (L0 : List (View.Piece (Elt F) S2x512x256 .f32)) (m0 m1 : FVec F S512x1 .f32),
    P9 = put (four y3.view y2.view y6.view y8.view X3 X2 X6 f8 (fun u => ![u.val * 256, 0]) ![0, 0] (fun u => k0_off3 i (BitVec.ofNat 32 u.val)) (fun u => ![u.val, 0, 0]) (ink 0) (ino 0) (fun u => k0_off3_inb i hc u) inm) [] ∧ m0 = mxs (flat y3.view y2.view y6.view y8.view X3 X2 X6 f8 (fun u => ![u.val * 256, 0]) ![0, 0] (fun u => k0_off3 i (BitVec.ofNat 32 u.val)) (fun u => ![u.val, 0, 0]) (ink 0) (ino 0) (fun u => k0_off3_inb i hc u) inm) k0_pay396 ∧
    S3 = st_k0_t3 Variants.none c none i y2 u2 y3 u3 y4 u4 y5 u5 y6 u6 y7 u7 y8 u8 y9 u9 y10 u10 y11 u11 (BitVec.ofNat 32 (i 0).val) k0_pay392 k0_pay396 v47 hc v149 v168 X2 X3 X4 X6 f8 (y9.view.writes (Elt F) y9.view.junk P9) f10 (y11.view.writes (Elt F) y11.view.junk zeros) (k0_pay396, m0) (Scf.trips (k0_t3_loop i).lb (k0_t3_loop i).ub (k0_t3_loop i).st) ∧
    S4 = (S3.1, [], [], []) ∧
    L0 = fold 0 y4.view X4 (k0_off15 i) (k0_off15_inb i hc) S4.1.1 S4.1.2 y9.view (S4.2.1 ++ (S3.2.1 ++ P9)) y11.view (S4.2.2.2 ++ (S3.2.2.2 ++ zeros)) ∧
    P10 = put (four y3.view y2.view y6.view y8.view X3 X2 X6 f8 (fun u => ![u.val * 256, 128]) ![0, 128] (fun u => k0_off14 i (BitVec.ofNat 32 u.val)) (fun u => ![u.val, 0, 0]) (ink 1) (ino 1) (fun u => k0_off14_inb i hc u) inm) T10 ∧ m1 = mxs (flat y3.view y2.view y6.view y8.view X3 X2 X6 f8 (fun u => ![u.val * 256, 128]) ![0, 128] (fun u => k0_off14 i (BitVec.ofNat 32 u.val)) (fun u => ![u.val, 0, 0]) (ink 1) (ino 1) (fun u => k0_off14_inb i hc u) inm) k0_pay396 ∧
    S5 = st_k0_t5 Variants.none c none i y2 u2 y3 u3 y4 u4 y5 u5 y6 u6 y7 u7 y8 u8 y9 u9 y10 u10 y11 u11 (BitVec.ofNat 32 (i 0).val) k0_pay392 k0_pay396 v47 v48 hc va vb vc vd ve vf X2 X3 X4 X6 f8 g9 (y10.view.writes (Elt F) y10.view.junk P10) (y11.view.writes (Elt F) y11.view.junk L0) (k0_pay396, m1) (Scf.trips (k0_t5_loop i).lb (k0_t5_loop i).ub (k0_t5_loop i).st) ∧
    S6 = (S5.1, [], [], []) ∧
    L = fold 1 y4.view X4 (k0_off26 i) (k0_off26_inb i hc) S6.1.1 S6.1.2 y10.view (S6.2.2.1 ++ (S5.2.2.1 ++ P10)) y11.view (S6.2.2.2 ++ (S5.2.2.2 ++ L0))

/-- What a program stores when its groups are even in number: the loops take them in pairs, and the last two are left. -/
def Even (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc : k0_cond3 i = 1#1) (X2 : y2.view.ty.Contents (Elt F)) (X3 : y3.view.ty.Contents (Elt F)) (X4 : y4.view.ty.Contents (Elt F)) (X6 : y6.view.ty.Contents (Elt F)) (f8 : y8.view.ty.Contents (Elt F)) (f10 : y10.view.ty.Contents (Elt F))
    (L : List (View.Piece (Elt F) S2x512x256 .f32)) : Prop :=
  ∃ (S7 S8 S9 S10 : (FVec F S512x1 .f32 × FVec F S512x1 .f32) × List (View.Piece (Elt F) S4x512x256 .f32) × List (View.Piece (Elt F) S4x512x256 .f32) × List (View.Piece (Elt F) S2x512x256 .f32)) (v47 v48 : BitVec 32) (v149 : FVec F S512x128 .f32) (v168 : FVec F S512x256 .f32) (va vb vc : FVec F S512x1 .f32) (vd : FVec F S512x256 .f32) (T9 T10 U10 P9 P10 Q9 Q10 : List (View.Piece (Elt F) S4x512x256 .f32)) (g10 : y10.view.ty.Contents (Elt F)) (L0 L1 L2 : List (View.Piece (Elt F) S2x512x256 .f32)) (m0 m1 m2 m3 : FVec F S512x1 .f32),
    P9 = put (four y3.view y2.view y6.view y8.view X3 X2 X6 f8 (fun u => ![u.val * 256, 0]) ![0, 0] (fun u => k0_off27 i (BitVec.ofNat 32 u.val)) (fun u => ![u.val, 0, 0]) (ink 0) (ino 0) (fun u => k0_off27_inb i hc u) inm) [] ∧ m0 = mxs (flat y3.view y2.view y6.view y8.view X3 X2 X6 f8 (fun u => ![u.val * 256, 0]) ![0, 0] (fun u => k0_off27 i (BitVec.ofNat 32 u.val)) (fun u => ![u.val, 0, 0]) (ink 0) (ino 0) (fun u => k0_off27_inb i hc u) inm) k0_pay396 ∧
    S7 = st_k0_t7 Variants.none c none i y2 u2 y3 u3 y4 u4 y5 u5 y6 u6 y7 u7 y8 u8 y9 u9 y10 u10 y11 u11 (BitVec.ofNat 32 (i 0).val) k0_pay392 k0_pay396 v47 v48 hc v149 v168 X2 X3 X4 X6 f8 (y9.view.writes (Elt F) y9.view.junk P9) f10 (y11.view.writes (Elt F) y11.view.junk zeros) (k0_pay396, m0) (Scf.trips (k0_t7_loop i).lb (k0_t7_loop i).ub (k0_t7_loop i).st) ∧
    S8 = (S7.1, [], [], []) ∧
    P10 = put (four y3.view y2.view y6.view y8.view X3 X2 X6 f8 (fun u => k0_off38 i (BitVec.ofNat 32 u.val)) ![0, 0] (fun u => k0_off39 i (BitVec.ofNat 32 u.val)) (fun u => k0_off40 i (BitVec.ofNat 32 u.val)) (fun u => k0_off38_inb i hc u) (ino 0) (fun u => k0_off39_inb i hc u) (fun u => k0_off40_inb i hc u)) T10 ∧ m1 = mxs (flat y3.view y2.view y6.view y8.view X3 X2 X6 f8 (fun u => k0_off38 i (BitVec.ofNat 32 u.val)) ![0, 0] (fun u => k0_off39 i (BitVec.ofNat 32 u.val)) (fun u => k0_off40 i (BitVec.ofNat 32 u.val)) (fun u => k0_off38_inb i hc u) (ino 0) (fun u => k0_off39_inb i hc u) (fun u => k0_off40_inb i hc u)) S8.1.2 ∧
    L0 = fold 0 y4.view X4 (k0_off41 i) (k0_off41_inb i hc) S8.1.1 S8.1.2 y9.view (S8.2.1 ++ (S7.2.1 ++ P9)) y11.view (S8.2.2.2 ++ (S7.2.2.2 ++ zeros)) ∧
    L1 = fold 0 y4.view X4 (k0_off43 i) (k0_off43_inb i hc) S8.1.2 m1 y10.view P10 y11.view L0 ∧
    Q9 = put (four y3.view y2.view y6.view y8.view X3 X2 X6 f8 (fun u => ![u.val * 256, 128]) ![0, 128] (fun u => k0_off42 i (BitVec.ofNat 32 u.val)) (fun u => ![u.val, 0, 0]) (ink 1) (ino 1) (fun u => k0_off42_inb i hc u) inm) T9 ∧ m2 = mxs (flat y3.view y2.view y6.view y8.view X3 X2 X6 f8 (fun u => ![u.val * 256, 128]) ![0, 128] (fun u => k0_off42 i (BitVec.ofNat 32 u.val)) (fun u => ![u.val, 0, 0]) (ink 1) (ino 1) (fun u => k0_off42_inb i hc u) inm) k0_pay396 ∧
    S9 = st_k0_t9 Variants.none c none i y2 u2 y3 u3 y4 u4 y5 u5 y6 u6 y7 u7 y8 u8 y9 u9 y10 u10 y11 u11 (BitVec.ofNat 32 (i 0).val) k0_pay392 k0_pay396 v47 v48 hc va vb vc vd X2 X3 X4 X6 f8 (y9.view.writes (Elt F) y9.view.junk Q9) g10 (y11.view.writes (Elt F) y11.view.junk L1) (k0_pay396, m2) (Scf.trips (k0_t9_loop i).lb (k0_t9_loop i).ub (k0_t9_loop i).st) ∧
    S10 = (S9.1, [], [], []) ∧
    Q10 = put (four y3.view y2.view y6.view y8.view X3 X2 X6 f8 (fun u => k0_off54 i (BitVec.ofNat 32 u.val)) ![0, 128] (fun u => k0_off55 i (BitVec.ofNat 32 u.val)) (fun u => k0_off40 i (BitVec.ofNat 32 u.val)) (fun u => k0_off54_inb i hc u) (ino 1) (fun u => k0_off55_inb i hc u) (fun u => k0_off40_inb i hc u)) U10 ∧ m3 = mxs (flat y3.view y2.view y6.view y8.view X3 X2 X6 f8 (fun u => k0_off54 i (BitVec.ofNat 32 u.val)) ![0, 128] (fun u => k0_off55 i (BitVec.ofNat 32 u.val)) (fun u => k0_off40 i (BitVec.ofNat 32 u.val)) (fun u => k0_off54_inb i hc u) (ino 1) (fun u => k0_off55_inb i hc u) (fun u => k0_off40_inb i hc u)) S10.1.2 ∧
    L2 = fold 1 y4.view X4 (k0_off56 i) (k0_off56_inb i hc) S10.1.1 S10.1.2 y9.view (S10.2.1 ++ (S9.2.1 ++ Q9)) y11.view (S10.2.2.2 ++ (S9.2.2.2 ++ L1)) ∧
    L = fold 1 y4.view X4 (k0_off57 i) (k0_off57_inb i hc) S10.1.2 m3 y10.view Q10 y11.view L2

theorem none2 (i : grid0.Coords) : Scf.trips (k0_t2_loop i).lb (k0_t2_loop i).ub (k0_t2_loop i).st = 0 := by
  have h := grid_lt i
  unfold k0_t2_loop
  revert h
  generalize (i 0).val = n
  intro h
  revert n
  decide +kernel

theorem none4 (i : grid0.Coords) : Scf.trips (k0_t4_loop i).lb (k0_t4_loop i).ub (k0_t4_loop i).st = 0 := by
  have h := grid_lt i
  unfold k0_t4_loop
  revert h
  generalize (i 0).val = n
  intro h
  revert n
  decide +kernel

theorem none6 (i : grid0.Coords) : Scf.trips (k0_t6_loop i).lb (k0_t6_loop i).ub (k0_t6_loop i).st = 0 := by
  have h := grid_lt i
  unfold k0_t6_loop
  revert h
  generalize (i 0).val = n
  intro h
  revert n
  decide +kernel

theorem none8 (i : grid0.Coords) : Scf.trips (k0_t8_loop i).lb (k0_t8_loop i).ub (k0_t8_loop i).st = 0 := by
  have h := grid_lt i
  unfold k0_t8_loop
  revert h
  generalize (i 0).val = n
  intro h
  revert n
  decide +kernel

theorem none10 (i : grid0.Coords) : Scf.trips (k0_t10_loop i).lb (k0_t10_loop i).ub (k0_t10_loop i).st = 0 := by
  have h := grid_lt i
  unfold k0_t10_loop
  revert h
  generalize (i 0).val = n
  intro h
  revert n
  decide +kernel

theorem st4 (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec F S1024x128 .bf16) (v29 : FVec F S512x1 .f32) (v47 : BitVec 32) (k0_h2 : k0_cond2 i = 1#1) (v149 : FVec F S512x128 .f32) (v168 : FVec F S512x256 .f32) (v183 : BitVec 32) (E2 : BufTy.Contents (Elt F) y2.view.ty) (E3 : BufTy.Contents (Elt F) y3.view.ty) (E4 : BufTy.Contents (Elt F) y4.view.ty) (E6 : BufTy.Contents (Elt F) y6.view.ty) (E8 : BufTy.Contents (Elt F) y8.view.ty) (G9 : BufTy.Contents (Elt F) y9.view.ty) (G10 : BufTy.Contents (Elt F) y10.view.ty) (G11 : BufTy.Contents (Elt F) y11.view.ty) (init : FVec F S512x1 .f32 × FVec F S512x1 .f32) :
    st_k0_t4 𝒱 c bd i y2 u2 y3 u3 y4 u4 y5 u5 y6 u6 y7 u7 y8 u8 y9 u9 y10 u10 y11 u11 y0 v21 v29 v47 k0_h2 v149 v168 v183 E2 E3 E4 E6 E8 G9 G10 G11 init (Scf.trips (k0_t4_loop i).lb (k0_t4_loop i).ub (k0_t4_loop i).st) = (init, [], [], []) := by
  rw [none4 i]
  rfl

theorem st6 (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec F S1024x128 .bf16) (v29 : FVec F S512x1 .f32) (v47 : BitVec 32) (v48 : BitVec 32) (k0_h2 : k0_cond2 i = 1#1) (v185_0 : FVec F S512x1 .f32) (v185_1 : FVec F S512x1 .f32) (v293 : FVec F S512x1 .f32) (v295 : FVec F S512x256 .f32) (v300 : FVec F S512x256 .bf16) (v305 : FVec F S512x256 .bf16) (v337 : BitVec 32) (E2 : BufTy.Contents (Elt F) y2.view.ty) (E3 : BufTy.Contents (Elt F) y3.view.ty) (E4 : BufTy.Contents (Elt F) y4.view.ty) (E6 : BufTy.Contents (Elt F) y6.view.ty) (E8 : BufTy.Contents (Elt F) y8.view.ty) (G9 : BufTy.Contents (Elt F) y9.view.ty) (G10 : BufTy.Contents (Elt F) y10.view.ty) (G11 : BufTy.Contents (Elt F) y11.view.ty) (init : FVec F S512x1 .f32 × FVec F S512x1 .f32) :
    st_k0_t6 𝒱 c bd i y2 u2 y3 u3 y4 u4 y5 u5 y6 u6 y7 u7 y8 u8 y9 u9 y10 u10 y11 u11 y0 v21 v29 v47 v48 k0_h2 v185_0 v185_1 v293 v295 v300 v305 v337 E2 E3 E4 E6 E8 G9 G10 G11 init (Scf.trips (k0_t6_loop i).lb (k0_t6_loop i).ub (k0_t6_loop i).st) = (init, [], [], []) := by
  rw [none6 i]
  rfl

theorem st8 (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec F S1024x128 .bf16) (v29 : FVec F S512x1 .f32) (v47 : BitVec 32) (v48 : BitVec 32) (k0_h3 : k0_cond3 i = 1#1) (v149 : FVec F S512x128 .f32) (v168 : FVec F S512x256 .f32) (v183 : BitVec 32) (E2 : BufTy.Contents (Elt F) y2.view.ty) (E3 : BufTy.Contents (Elt F) y3.view.ty) (E4 : BufTy.Contents (Elt F) y4.view.ty) (E6 : BufTy.Contents (Elt F) y6.view.ty) (E8 : BufTy.Contents (Elt F) y8.view.ty) (G9 : BufTy.Contents (Elt F) y9.view.ty) (G10 : BufTy.Contents (Elt F) y10.view.ty) (G11 : BufTy.Contents (Elt F) y11.view.ty) (init : FVec F S512x1 .f32 × FVec F S512x1 .f32) :
    st_k0_t8 𝒱 c bd i y2 u2 y3 u3 y4 u4 y5 u5 y6 u6 y7 u7 y8 u8 y9 u9 y10 u10 y11 u11 y0 v21 v29 v47 v48 k0_h3 v149 v168 v183 E2 E3 E4 E6 E8 G9 G10 G11 init (Scf.trips (k0_t8_loop i).lb (k0_t8_loop i).ub (k0_t8_loop i).st) = (init, [], [], []) := by
  rw [none8 i]
  rfl

theorem st10 (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec F S1024x128 .bf16) (v29 : FVec F S512x1 .f32) (v47 : BitVec 32) (v48 : BitVec 32) (k0_h3 : k0_cond3 i = 1#1) (v185_1 : FVec F S512x1 .f32) (v310 : FVec F S512x1 .f32) (v457 : FVec F S512x1 .f32) (v487 : FVec F S512x256 .f32) (v502 : BitVec 32) (E2 : BufTy.Contents (Elt F) y2.view.ty) (E3 : BufTy.Contents (Elt F) y3.view.ty) (E4 : BufTy.Contents (Elt F) y4.view.ty) (E6 : BufTy.Contents (Elt F) y6.view.ty) (E8 : BufTy.Contents (Elt F) y8.view.ty) (G9 : BufTy.Contents (Elt F) y9.view.ty) (G10 : BufTy.Contents (Elt F) y10.view.ty) (G11 : BufTy.Contents (Elt F) y11.view.ty) (init : FVec F S512x1 .f32 × FVec F S512x1 .f32) :
    st_k0_t10 𝒱 c bd i y2 u2 y3 u3 y4 u4 y5 u5 y6 u6 y7 u7 y8 u8 y9 u9 y10 u10 y11 u11 y0 v21 v29 v47 v48 k0_h3 v185_1 v310 v457 v487 v502 E2 E3 E4 E6 E8 G9 G10 G11 init (Scf.trips (k0_t10_loop i).lb (k0_t10_loop i).ub (k0_t10_loop i).st) = (init, [], [], []) := by
  rw [none10 i]
  rfl

end Cert.AttentionIdeal.Attn

end
-- ==== Proof.AttnIdeal.Read.lean ====
/- The attention over the ideal numbers: what one program leaves in its output. -/
module

public import proofs.«01_k».proof.Proof.AttnIdeal.Setup
public import proofs.«01_k».proof.Proof.AttnIdeal.Paths
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (I : Ins)

section Group

variable {h : Fin 2} {g : ℕ} (vk : View sig .tc .vmem S8192x256 .bf16) (vq : View sig .tc .vmem S512x256 .bf16) (vb : View sig .tc .vmem S4x2x512x256 .f32)
  (vm : View sig .tc .vmem S32x512x256 .f32) (fk : vk.ty.Contents (Elt Ideal)) (fq : vq.ty.Contents (Elt Ideal)) (fb : vb.ty.Contents (Elt Ideal)) (fm : vm.ty.Contents (Elt Ideal))
  (hq : vq.read (Elt Ideal) fq = I.q) (hk : vk.read (Elt Ideal) fk = I.kk) (hb : vb.read (Elt Ideal) fb = I.bd) (hm : vm.read (Elt Ideal) fm = I.ms)
  {ok : Fin 4 → Fin 2 → ℕ} {oq : Fin 2 → ℕ} {ob : Fin 4 → Fin 4 → ℕ} {om : Fin 4 → Fin 3 → ℕ}
  (ik : ∀ u a, ok u a + S256x128.size a ≤ S8192x256.size a) (iq : ∀ a, oq a + S512x128.size a ≤ S512x256.size a)
  (ib : ∀ u a, ob u a + S1x1x512x256.size a ≤ S4x2x512x256.size a) (im : ∀ u a, om u a + S1x512x256.size a ≤ S32x512x256.size a)
  (hg : g < 8) (ek : ∀ u : Fin 4, ok u = ![(4 * g + u.val) * 256, 128 * h.val]) (eq : oq = ![0, 128 * h.val])
  (eb : ∀ u : Fin 4, ob u = ![min (2 * I.n + 1 - (4 * g + u.val)) 3, h.val, 0, 0]) (em : ∀ u : Fin 4, om u = ![4 * g + u.val, 0, 0])

include hq hk hb hm hg ek eq eb em

theorem four_apply (u : Fin 4) (a : Fin 512) (b : Fin 256) :
    four (F := Ideal) vk vq vb vm fk fq fb fm ok oq ob om ik iq ib im u (ix3 0 a b) = sc I h g u a b :=
  lg_read I (h := h) (j := 4 * g + u.val) vk vq vb vm fk fq fb fm hq hk hb hm (ik u) iq (ib u) (im u) (by omega) (ek u) eq (eb u) (em u) a b

theorem flat_apply (u : Fin 4) (a : Fin 512) (b : Fin 256) :
    flat (F := Ideal) vk vq vb vm fk fq fb fm ok oq ob om ik iq ib im u (ix2 a b) = sc I h g u a b :=
  (lg2_apply _ _ _ _ a b).trans (four_apply I vk vq vb vm fk fq fb fm hq hk hb hm ik iq ib im hg ek eq eb em u a b)

theorem mxs_apply (m : FVec Ideal S512x1 .f32) (hp : ∀ a, m (ix2 a 0) = M I h g a) (a : Fin 512) :
    mxs (flat (F := Ideal) vk vq vb vm fk fq fb fm ok oq ob om ik iq ib im) m (ix2 a 0) = M I h (g + 1) a := by
  have e := flat_apply I vk vq vb vm fk fq fb fm hq hk hb hm ik iq ib im hg ek eq eb em
  exact M_step I _ _ _ _ m hp (e 0) (e 1) (e 2) (e 3) a

theorem put_read (v : View sig .tc .vmem S4x512x256 .f32) (f : v.ty.Contents (Elt Ideal)) (L : List (View.Piece (Elt Ideal) S4x512x256 .f32)) (u : Fin 4) (a : Fin 512) (b : Fin 256) :
    v.read (Elt Ideal) (v.writes (Elt Ideal) f (put (four (F := Ideal) vk vq vb vm fk fq fb fm ok oq ob om ik iq ib im) L)) (ix3 u a b) = sc I h g u a b := by
  have e := four_apply I vk vq vb vm fk fq fb fm hq hk hb hm ik iq ib im hg ek eq eb em
  exact read_four v f (sc I h g) _ _ _ _ _ _ _ _ (e 0) (e 1) (e 2) (e 3) L u a b

end Group

theorem lit_ok0 (u : Fin 4) : ![u.val * 256, 0] = ![(4 * 0 + u.val) * 256, 128 * (0 : Fin 2).val] := by rw [Nat.mul_zero, Nat.zero_add]; rfl

theorem lit_ok1 (u : Fin 4) : ![u.val * 256, 128] = ![(4 * 0 + u.val) * 256, 128 * (1 : Fin 2).val] := by rw [Nat.mul_zero, Nat.zero_add]; rfl

theorem lit_om (u : Fin 4) : ![u.val, 0, 0] = ![4 * 0 + u.val, 0, 0] := by rw [Nat.mul_zero, Nat.zero_add]

theorem ones_apply (y : S1024x128.Idx) : k0_pay392 (F := Ideal) y = 1 := by
  show Ideal.ofBits .bf16 0x3F80#16 = 1
  exact Ideal.ofBits_one_bf16

theorem mask_apply (h : Fin 2) (a : Fin 512) : k0_pay396 (F := Ideal) (ix2 a 0) = M I h 0 a := mask_bot

theorem zeros_read (v : View sig .tc .vmem S2x512x256 .f32) (f : v.ty.Contents (Elt Ideal)) (h : Fin 2) (a : Fin 512) (d : Fin 256) :
    v.read (Elt Ideal) (v.writes (Elt Ideal) f zeros) (ix3 h a d) = A I h 0 a d := by
  refine (View.read_writes_cons_unit_of_mem v f inz _ [] (ix3 h a d) (ix3 h a d) rfl ?_).trans ?_
  · intro k
    match k with
    | ⟨0, _⟩ => exact (Nat.zero_add _).symm
    | ⟨1, _⟩ => exact (Nat.zero_add _).symm
    | ⟨2, _⟩ => exact (Nat.zero_add _).symm
  · pointwise [k0_pay395]
    first | rfl | exact Ideal.ofBits_zero_f32

theorem fold_hit {h : Fin 2} {g : ℕ} (v4 : View sig .tc .vmem S8192x256 .bf16) (f4 : v4.ty.Contents (Elt Ideal)) (hv : v4.read (Elt Ideal) f4 = I.vv) {o : Fin 2 → ℕ}
    (io : ∀ a, o a + S1024x128.size a ≤ S8192x256.size a) (hg : g < 8) (e : o = ![g * 1024, 128 * h.val]) (mp mc : FVec Ideal S512x1 .f32)
    (hp : ∀ a, mp (ix2 a 0) = M I h g a) (hc : ∀ a, mc (ix2 a 0) = M I h (g + 1) a)
    (v9 : View sig .tc .vmem S4x512x256 .f32) (L9 : List (View.Piece (Elt Ideal) S4x512x256 .f32))
    (v11 : View sig .tc .vmem S2x512x256 .f32) (f : v11.ty.Contents (Elt Ideal)) (L : List (View.Piece (Elt Ideal) S2x512x256 .f32))
    (h9 : ∀ u a b, v9.read (Elt Ideal) (v9.writes (Elt Ideal) v9.junk L9) (ix3 u a b) = sc I h g u a b)
    (ho : ∀ a d, v11.read (Elt Ideal) (v11.writes (Elt Ideal) v11.junk L) (ix3 h a d) = A I h g a d) (a : Fin 512) (d : Fin 256) :
    v11.read (Elt Ideal) (v11.writes (Elt Ideal) f (fold h v4 f4 o io mp mc v9 L9 v11 L)) (ix3 h a d) = A I h (g + 1) a d := by
  refine (hit11 v11 f h _ L a d).trans ?_
  exact A_step I v4 f4 hv io hg e k0_pay392 mp mc _ _ _ _ _ ones_apply hp hc
    (fun a b => (at4 v9 _ 0 a b).trans (h9 0 a b)) (fun a b => (at4 v9 _ 1 a b).trans (h9 1 a b))
    (fun a b => (at4 v9 _ 2 a b).trans (h9 2 a b)) (fun a b => (at4 v9 _ 3 a b).trans (h9 3 a b))
    (fun a d => (at11 v11 _ h a d).trans (ho a d)) a d

theorem fold_miss {h h' : Fin 2} (hne : h ≠ h') (v4 : View sig .tc .vmem S8192x256 .bf16) (f4 : v4.ty.Contents (Elt Ideal)) {o : Fin 2 → ℕ}
    (io : ∀ a, o a + S1024x128.size a ≤ S8192x256.size a) (mp mc : FVec Ideal S512x1 .f32)
    (v9 : View sig .tc .vmem S4x512x256 .f32) (L9 : List (View.Piece (Elt Ideal) S4x512x256 .f32))
    (v11 : View sig .tc .vmem S2x512x256 .f32) (f : v11.ty.Contents (Elt Ideal)) (L : List (View.Piece (Elt Ideal) S2x512x256 .f32)) (a : Fin 512) (d : Fin 256) :
    v11.read (Elt Ideal) (v11.writes (Elt Ideal) f (fold h v4 f4 o io mp mc v9 L9 v11 L)) (ix3 h' a d)
      = v11.read (Elt Ideal) (v11.writes (Elt Ideal) f L) (ix3 h' a d) :=
  miss11 v11 f h h' hne _ L a d

/-- The output from the sums. -/
theorem outs_read (n : ℕ) (v7 : View sig .tc .vmem S512x256 .f32) (f7 : v7.ty.Contents (Elt Ideal)) (v11 : View sig .tc .vmem S2x512x256 .f32)
    (L : List (View.Piece (Elt Ideal) S2x512x256 .f32))
    (hA : ∀ h a d, v11.read (Elt Ideal) (v11.writes (Elt Ideal) v11.junk L) (ix3 h a d) = A I h n a d) (a : Fin 512) (y : Fin 256) :
    v7.read (Elt Ideal) (v7.writes (Elt Ideal) f7 (outs v11 L)) (ix2 a y)
      = Ideal.div (A I ⟨y.val / 128, by omega⟩ n a ⟨y.val % 128, by omega⟩) (A I ⟨y.val / 128, by omega⟩ n a 128) := by
  have rn : ∀ (h : Fin 2) (a : Fin 512) (x : Fin 128), v11.readCov L (Rect.unit (s := S2x512x256) ![h.val, 0, 0] S1x512x128.size (inv h)).toLoadRect (ix3 0 a x)
      = A I h n a ⟨x.val, by omega⟩ := by
    intro h a x
    refine Eq.trans ?_ (hA h a ⟨x.val, by omega⟩)
    refine read_block v11 _ (inv h) rfl _ _ ?_
    intro k
    match k with
    | ⟨0, _⟩ => rfl
    | ⟨1, _⟩ => exact (Nat.zero_add _).symm
    | ⟨2, _⟩ => exact (Nat.zero_add _).symm
  have rd : ∀ (h : Fin 2) (a : Fin 512), v11.readCov L (Rect.unit (s := S2x512x256) ![h.val, 0, 128] S1x512x1.size (ins h)).toLoadRect (ix3 0 a 0)
      = A I h n a 128 := by
    intro h a
    refine Eq.trans ?_ (hA h a 128)
    refine read_block v11 _ (ins h) rfl _ _ ?_
    intro k
    match k with
    | ⟨0, _⟩ => rfl
    | ⟨1, _⟩ => exact (Nat.zero_add _).symm
    | ⟨2, _⟩ => rfl
  have w1 : ∀ (x : Vec Ideal S1x512x128 .f32) (z : Vec Ideal S1x512x1 .f32) (a : Fin 512) (b : Fin 128), k0_pay1 (F := Ideal) (k0_pay399 x) z (ix2 a b) = Ideal.div (x (ix3 0 a b)) (z (ix3 0 a 0)) := by
    intro x z a b
    pointwise [k0_pay1, k0_pay399]
  have w0 : ∀ (x : Vec Ideal S1x512x128 .f32) (z : Vec Ideal S1x512x1 .f32) (a : Fin 512) (b : Fin 128), k0_pay398 (F := Ideal) x z (ix2 a b) = Ideal.div (x (ix3 0 a b)) (z (ix3 0 a 0)) := by
    intro x z a b
    pointwise [k0_pay398]
  unfold outs
  by_cases hy : y.val < 128
  · have e : (⟨y.val / 128, by omega⟩ : Fin 2) = 0 := Fin.ext (by show y.val / 128 = 0; omega)
    have e' : (⟨y.val % 128, by omega⟩ : Fin 256) = ⟨y.val, y.isLt⟩ := Fin.ext (by show y.val % 128 = y.val; omega)
    rw [e, e']
    refine (View.read_writes_cons_unit_of_not_mem v7 f7 (ino 1) _ _ (ix2 a y) rfl (1 : Fin 2) (Or.inl hy)).trans ?_
    refine (View.read_writes_cons_unit_of_mem v7 f7 (ino 0) _ [] (ix2 a y) (ix2 a ⟨y.val, hy⟩) rfl ?_).trans ?_
    · intro k
      match k with
      | ⟨0, _⟩ => exact (Nat.zero_add _).symm
      | ⟨1, _⟩ => exact (Nat.zero_add _).symm
    · rw [w0]
      exact congrArg₂ Ideal.div (rn 0 a _) (rd 0 a)
  · have e : (⟨y.val / 128, by omega⟩ : Fin 2) = 1 := Fin.ext (by show y.val / 128 = 1; omega)
    rw [e]
    refine (View.read_writes_cons_unit_of_mem v7 f7 (ino 1) _ _ (ix2 a y) (ix2 a ⟨y.val - 128, by omega⟩) rfl ?_).trans ?_
    · intro k
      match k with
      | ⟨0, _⟩ => exact (Nat.zero_add _).symm
      | ⟨1, _⟩ => show y.val = 128 + (y.val - 128); omega
    · rw [w1]
      have ey : (⟨y.val - 128, by omega⟩ : Fin 256) = ⟨y.val % 128, by omega⟩ := Fin.ext (by show y.val - 128 = y.val % 128; omega)
      exact (congrArg₂ Ideal.div (rn 1 a _) (rd 1 a)).trans (by rw [ey])

end Cert.AttentionIdeal.Attn

end
-- ==== Proof.AttnIdeal.Mask.lean ====
/- The attention over the ideal numbers: the mask that the first pair of heads makes, and what one program leaves. -/
module

public import proofs.«01_k».proof.Proof.AttnIdeal.Setup
public import proofs.«01_k».proof.Proof.AttnIdeal.Read
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What the mask adds to the score of a row against key `b` of block `j`: nothing, or minus infinity. -/
def hole (w : Vec Ideal S512x256 .i32) (j : ℕ) (a : Fin 512) (b : Fin 256) : EReal :=
  if IntOp.andi (w (ix2 a b)) (IntOp.shli .host 1#32 (BitVec.ofNat 32 j)) ≠ 0#32 then 0 else ⊥

/-- The mask of block of queries `n` is made, as far as that block needs it. -/
def Made (w : Vec Ideal S512x256 .i32) (n : ℕ) (v : View sig .tc .vmem S32x512x256 .f32) (f : v.ty.Contents (Elt Ideal)) : Prop :=
  ∀ (u : Fin 32) (a : Fin 512) (b : Fin 256), u.val < 4 * (n / 2 + 1) → v.read (Elt Ideal) f (ix3 u a b) = hole w u.val a b

/-- What a program of block `n` works on. -/
def point (n : ℕ) (x0 : Vec Ideal S512x256 .bf16) (x1 x2 : Vec Ideal S8192x256 .bf16) (w : Vec Ideal S512x256 .i32) (x4 : Vec Ideal S4x2x512x256 .f32) : Ins :=
  ⟨n, x0, x1, x2, x4, fun y => hole w (y 0).val (y 1) (y 2)⟩

/-- What it leaves. -/
def out (n : ℕ) (x0 : Vec Ideal S512x256 .bf16) (x1 x2 : Vec Ideal S8192x256 .bf16) (w : Vec Ideal S512x256 .i32) (x4 : Vec Ideal S4x2x512x256 .f32) : Vec Ideal S512x256 .f32 :=
  fun y => Ideal.div (A (point n x0 x1 x2 w x4) ⟨(y 1).val / 128, by have : (y 1).val < 256 := (y 1).isLt; omega⟩ (n / 2 + 1) (y 0) ⟨(y 1).val % 128, by omega⟩)
    (A (point n x0 x1 x2 w x4) ⟨(y 1).val / 128, by have : (y 1).val < 256 := (y 1).isLt; omega⟩ (n / 2 + 1) (y 0) 128)

theorem tr1 (i : grid0.Coords) : (k0_t1_loop i).trips = 4 * ((i 0).val / 2 + 1) := by
  have hi := grid_lt i
  unfold k0_t1_loop
  simp only
  generalize (i 0).val = n at hi
  revert n
  decide +kernel

theorem bit_eq : ∀ j < 32, Scalar.shli 1#32 (Scf.iv 0#32 1#32 j) = IntOp.shli .host 1#32 (BitVec.ofNat 32 j) := by decide +kernel

/-- One step of the mask. -/
theorem hole_apply (i : grid0.Coords) (k : Fin (k0_t1_loop i).trips) (w : Vec Ideal S512x256 .i32) (a : Fin 512) (b : Fin 256) :
    k0_pay393 (F := Ideal) i k w (ix3 0 a b) = hole w k.val a b := by
  have hk : k.val < 32 := by
    have := lt_of_lt_of_eq k.isLt (tr1 i)
    have := grid_lt i
    omega
  have e : k0_pay393 (F := Ideal) i k w (ix3 0 a b) = Scalar.select (IntOp.cmpi .ne (IntOp.andi (w (ix2 a b)) (Scalar.shli 1#32 (Scf.iv 0#32 1#32 k.val))) 0#32) 0 (Named.named κ "mask" (φ := .f32) 0xF149F2CA#32) := by
    pointwise [k0_pay393]
    first | rfl | done
  rw [e, mask_bot, bit_eq _ hk]
  unfold hole Scalar.select IntOp.cmpi
  by_cases hz : IntOp.andi (w (ix2 a b)) (IntOp.shli .host 1#32 (BitVec.ofNat 32 k.val)) = 0#32
  · rw [hz]; simp
  · have hb : (IntOp.andi (w (ix2 a b)) (IntOp.shli .host 1#32 (BitVec.ofNat 32 k.val)) != 0#32) = true := bne_iff_ne.mpr hz
    simp [hz, hb]

theorem off1_eq (i : grid0.Coords) (k : Fin (k0_t1_loop i).trips) : k0_off1 i k = ![k.val, 0, 0] := by
  have hk : k.val < 32 := by
    have := lt_of_lt_of_eq k.isLt (tr1 i)
    have := grid_lt i
    omega
  unfold k0_off1
  generalize k.val = n at hk
  revert n
  decide +kernel

theorem words_read (v : View sig .tc .vmem S512x256 .i32) (f : v.ty.Contents (Elt Ideal)) (a : Fin 512) (b : Fin 256) :
    v.readAt (Elt Ideal) (Rect.unit (s := S512x256) ![0, 0] S512x256.size inb_S512x256_S512x256_0_0).toLoadRect f (ix2 a b) = v.read (Elt Ideal) f (ix2 a b) := by
  refine read_block v f inb_S512x256_S512x256_0_0 rfl _ _ ?_
  intro k
  match k with
  | ⟨0, _⟩ => exact (Nat.zero_add _).symm
  | ⟨1, _⟩ => exact (Nat.zero_add _).symm

section Mask

variable (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole)

theorem step_eq (k0_h1 : k0_cond1 i = 1#1) (X : y5.view.ty.Contents (Elt Ideal)) (k : Fin (k0_t1_loop i).trips) :
    tripL_k0_t1 (F := Ideal) Variants.none c none i y2 u2 y3 u3 y4 u4 y5 u5 y6 u6 y7 u7 y8 u8 y9 u9 y10 u10 y11 u11 k0_h1 X k
      = [⟨Rect.unit (s := S32x512x256) (k0_off1 i k) S1x512x256.size (k0_off1_inb i k k0_h1), k0_pay393 i k (y5.view.readAt (Elt Ideal) (Rect.unit (s := S512x256) ![0, 0] S512x256.size inb_S512x256_S512x256_0_0).toLoadRect X)⟩] := by
  unfold tripL_k0_t1 trip_k0_t1
  rfl

/-- The loop makes the mask of one block of keys after another. -/
theorem mask_loop (k0_h1 : k0_cond1 i = 1#1) (X : y5.view.ty.Contents (Elt Ideal)) (f : y8.view.ty.Contents (Elt Ideal)) (n : ℕ) (hn : n ≤ (k0_t1_loop i).trips)
    (u : Fin 32) (a : Fin 512) (b : Fin 256) (hu : u.val < n) :
    y8.view.read (Elt Ideal) (y8.view.writes (Elt Ideal) f (pb_k0_t1 (F := Ideal) Variants.none c none i y2 u2 y3 u3 y4 u4 y5 u5 y6 u6 y7 u7 y8 u8 y9 u9 y10 u10 y11 u11 k0_h1 X n)) (ix3 u a b)
      = hole (y5.view.read (Elt Ideal) X) u.val a b := by
  induction n with
  | zero => omega
  | succ n ih =>
    rw [pb_k0_t1_succ Variants.none c none i y2 u2 y3 u3 y4 u4 y5 u5 y6 u6 y7 u7 y8 u8 y9 u9 y10 u10 y11 u11 k0_h1 X ⟨n, hn⟩, step_eq]
    have eo := off1_eq i ⟨n, hn⟩
    have e0 : k0_off1 i ⟨n, hn⟩ 0 = n := by rw [eo]; rfl
    have e1 : k0_off1 i ⟨n, hn⟩ 1 = 0 := by rw [eo]; rfl
    have e2 : k0_off1 i ⟨n, hn⟩ 2 = 0 := by rw [eo]; rfl
    by_cases h : u.val = n
    · refine (View.read_writes_cons_unit_of_mem y8.view f (k0_off1_inb i ⟨n, hn⟩ k0_h1) _ _ (ix3 u a b) (ix3 0 a b) rfl ?_).trans ?_
      · intro k
        match k with
        | ⟨0, _⟩ => exact h.trans e0.symm
        | ⟨1, _⟩ => show a.val = k0_off1 i ⟨n, hn⟩ 1 + a.val; rw [e1, Nat.zero_add]
        | ⟨2, _⟩ => show b.val = k0_off1 i ⟨n, hn⟩ 2 + b.val; rw [e2, Nat.zero_add]
      · rw [hole_apply, h]
        unfold hole
        rw [words_read]
    · refine (View.read_writes_cons_unit_of_not_mem y8.view f (k0_off1_inb i ⟨n, hn⟩ k0_h1) _ _ (ix3 u a b) rfl (0 : Fin 3) (Or.inl ?_)).trans (ih (by omega) (by omega))
      show u.val < k0_off1 i ⟨n, hn⟩ 0
      omega

/-- The mask that the first pair of heads leaves is made. -/
theorem made_pair (k0_h1 : k0_cond1 i = 1#1) (w : Vec Ideal S512x256 .i32) (f : y8.view.ty.Contents (Elt Ideal)) :
    Made w (i 0).val y8.view (y8.view.writes (Elt Ideal) f (pb_k0_t2 Variants.none c none i y2 u2 y3 u3 y4 u4 y5 u5 y6 u6 y7 u7 y8 u8 y9 u9 y10 u10 y11 u11 k0_h1 (u5.unread w) (Scf.trips (k0_t2_loop i).lb (k0_t2_loop i).ub (k0_t2_loop i).st) ++ pb_k0_t1 Variants.none c none i y2 u2 y3 u3 y4 u4 y5 u5 y6 u6 y7 u7 y8 u8 y9 u9 y10 u10 y11 u11 k0_h1 (u5.unread w) (Scf.trips (k0_t1_loop i).lb (k0_t1_loop i).ub (k0_t1_loop i).st))) := by
  intro u a b hu
  rw [show Scf.trips (k0_t2_loop i).lb (k0_t2_loop i).ub (k0_t2_loop i).st = 0 from none2 i]
  have h := mask_loop c i y2 u2 y3 u3 y4 u4 y5 u5 y6 u6 y7 u7 y8 u8 y9 u9 y10 u10 y11 u11 k0_h1 (u5.unread w) f (k0_t1_loop i).trips (le_refl _) u a b (by rw [tr1 i]; exact hu)
  rw [u5.read_unread] at h
  exact h

end Mask

theorem M_congr (I : Ins) (ms : Vec Ideal S32x512x256 .f32) (n : ℕ) (hn : n ≤ 8) (e : ∀ (u : Fin 32) a b, u.val < 4 * n → I.ms (ix3 u a b) = ms (ix3 u a b)) (h : Fin 2) (a : Fin 512) :
    (∀ g < n, sc I h g = sc { I with ms := ms } h g) ∧ ∀ g ≤ n, M I h g a = M { I with ms := ms } h g a := by
  have hs : ∀ g < n, sc I h g = sc { I with ms := ms } h g := by
    intro g hg
    funext u a b
    unfold sc blk
    rw [e (Fin.ofNat 32 (4 * g + u.val)) a b (by show (4 * g + u.val) % 32 < 4 * n; have := u.isLt; omega)]
  refine ⟨hs, fun g => ?_⟩
  induction g with
  | zero => intro _; rfl
  | succ g ih =>
    intro hg
    unfold M
    rw [ih (by omega), hs g (by omega)]

/-- The sums depend on the mask only as far as the block needs it. -/
theorem A_congr (I : Ins) (ms : Vec Ideal S32x512x256 .f32) (n : ℕ) (hn : n ≤ 8) (e : ∀ (u : Fin 32) a b, u.val < 4 * n → I.ms (ix3 u a b) = ms (ix3 u a b)) (h : Fin 2) (a : Fin 512) (d : Fin 256) :
    ∀ g ≤ n, A I h g a d = A { I with ms := ms } h g a d := by
  obtain ⟨hs, hM⟩ := M_congr I ms n hn e h a
  intro g
  induction g with
  | zero => intro _; rfl
  | succ g ih =>
    intro hg
    unfold A
    rw [ih (by omega), hs g (by omega), hM g (by omega), hM (g + 1) hg]
    rfl

/-- The output of a program from its sums. -/
theorem out_read (n : ℕ) (hn : n < 16) (x0 : Vec Ideal S512x256 .bf16) (x1 x2 : Vec Ideal S8192x256 .bf16) (w : Vec Ideal S512x256 .i32) (x4 : Vec Ideal S4x2x512x256 .f32)
    (v8 : View sig .tc .vmem S32x512x256 .f32) (f8 : v8.ty.Contents (Elt Ideal)) (hm : Made w n v8 f8)
    (v7 : View sig .tc .vmem S512x256 .f32) (f7 : v7.ty.Contents (Elt Ideal)) (v11 : View sig .tc .vmem S2x512x256 .f32) (L : List (View.Piece (Elt Ideal) S2x512x256 .f32))
    (hA : ∀ h a d, v11.read (Elt Ideal) (v11.writes (Elt Ideal) v11.junk L) (ix3 h a d) = A ⟨n, x0, x1, x2, x4, v8.read (Elt Ideal) f8⟩ h (n / 2 + 1) a d) :
    v7.read (Elt Ideal) (v7.writes (Elt Ideal) f7 (outs v11 L)) = out n x0 x1 x2 w x4 := by
  funext y
  obtain ⟨a, z, rfl⟩ : ∃ a z, y = ix2 a z := ⟨y 0, y 1, by funext k; match k with | ⟨0, _⟩ => rfl | ⟨1, _⟩ => rfl⟩
  have hA' : ∀ h a d, v11.read (Elt Ideal) (v11.writes (Elt Ideal) v11.junk L) (ix3 h a d) = A (point n x0 x1 x2 w x4) h (n / 2 + 1) a d := by
    intro h a d
    rw [hA h a d]
    exact A_congr ⟨n, x0, x1, x2, x4, v8.read (Elt Ideal) f8⟩ (fun y => hole w (y 0).val (y 1) (y 2)) (n / 2 + 1) (by omega) (fun u a b hu => hm u a b hu) h a d _ (le_refl _)
  exact outs_read (point n x0 x1 x2 w x4) (n / 2 + 1) v7 f7 v11 L hA' a z

end Cert.AttentionIdeal.Attn

end
-- ==== Proof.AttnIdeal.Ends.lean ====
/- The attention over the ideal numbers: where a program reads outside its loops over the keys. -/
module

public import proofs.«01_k».proof.Proof.AttnIdeal.Setup
public import proofs.«01_k».proof.Proof.AttnIdeal.Offsets
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem off3_eq (i : grid0.Coords) (u : Fin 4) : k0_off3 i (BitVec.ofNat 32 u.val) = ![min (2 * (i 0).val + 1 - (4 * 0 + u.val)) 3, 0, 0, 0] := by
  have hi := grid_lt i
  unfold k0_off3
  dsimp only
  revert hi
  generalize (i 0).val = m
  intro hi
  revert u
  interval_cases m <;> first | (exfalso; revert h; decide) | decide +kernel

theorem off14_eq (i : grid0.Coords) (u : Fin 4) : k0_off14 i (BitVec.ofNat 32 u.val) = ![min (2 * (i 0).val + 1 - (4 * 0 + u.val)) 3, 1, 0, 0] := by
  have hi := grid_lt i
  unfold k0_off14
  dsimp only
  revert hi
  generalize (i 0).val = m
  intro hi
  revert u
  interval_cases m <;> first | (exfalso; revert h; decide) | decide +kernel

theorem off27_eq (i : grid0.Coords) (u : Fin 4) : k0_off27 i (BitVec.ofNat 32 u.val) = ![min (2 * (i 0).val + 1 - (4 * 0 + u.val)) 3, 0, 0, 0] := by
  have hi := grid_lt i
  unfold k0_off27
  dsimp only
  revert hi
  generalize (i 0).val = m
  intro hi
  revert u
  interval_cases m <;> first | (exfalso; revert h; decide) | decide +kernel

theorem off42_eq (i : grid0.Coords) (u : Fin 4) : k0_off42 i (BitVec.ofNat 32 u.val) = ![min (2 * (i 0).val + 1 - (4 * 0 + u.val)) 3, 1, 0, 0] := by
  have hi := grid_lt i
  unfold k0_off42
  dsimp only
  revert hi
  generalize (i 0).val = m
  intro hi
  revert u
  interval_cases m <;> first | (exfalso; revert h; decide) | decide +kernel

theorem off38_eq (i : grid0.Coords) (u : Fin 4) (h : 2 ≤ (i 0).val % 4) : k0_off38 i (BitVec.ofNat 32 u.val) = ![(4 * (2 * ((i 0).val / 4) + 1) + u.val) * 256, 0] := by
  have hi := grid_lt i
  unfold k0_off38
  dsimp only
  revert hi h
  generalize (i 0).val = m
  intro hi h
  revert u
  interval_cases m <;> first | (exfalso; revert h; decide) | decide +kernel

theorem off54_eq (i : grid0.Coords) (u : Fin 4) (h : 2 ≤ (i 0).val % 4) : k0_off54 i (BitVec.ofNat 32 u.val) = ![(4 * (2 * ((i 0).val / 4) + 1) + u.val) * 256, 128] := by
  have hi := grid_lt i
  unfold k0_off54
  dsimp only
  revert hi h
  generalize (i 0).val = m
  intro hi h
  revert u
  interval_cases m <;> first | (exfalso; revert h; decide) | decide +kernel

theorem off39_eq (i : grid0.Coords) (u : Fin 4) (h : 2 ≤ (i 0).val % 4) : k0_off39 i (BitVec.ofNat 32 u.val) = ![min (2 * (i 0).val + 1 - (4 * (2 * ((i 0).val / 4) + 1) + u.val)) 3, 0, 0, 0] := by
  have hi := grid_lt i
  unfold k0_off39
  dsimp only
  revert hi h
  generalize (i 0).val = m
  intro hi h
  revert u
  interval_cases m <;> first | (exfalso; revert h; decide) | decide +kernel

theorem off55_eq (i : grid0.Coords) (u : Fin 4) (h : 2 ≤ (i 0).val % 4) : k0_off55 i (BitVec.ofNat 32 u.val) = ![min (2 * (i 0).val + 1 - (4 * (2 * ((i 0).val / 4) + 1) + u.val)) 3, 1, 0, 0] := by
  have hi := grid_lt i
  unfold k0_off55
  dsimp only
  revert hi h
  generalize (i 0).val = m
  intro hi h
  revert u
  interval_cases m <;> first | (exfalso; revert h; decide) | decide +kernel

theorem off40_eq (i : grid0.Coords) (u : Fin 4) (h : 2 ≤ (i 0).val % 4) : k0_off40 i (BitVec.ofNat 32 u.val) = ![4 * (2 * ((i 0).val / 4) + 1) + u.val, 0, 0] := by
  have hi := grid_lt i
  unfold k0_off40
  dsimp only
  revert hi h
  generalize (i 0).val = m
  intro hi h
  revert u
  interval_cases m <;> first | (exfalso; revert h; decide) | decide +kernel

theorem off15_eq (i : grid0.Coords) : k0_off15 i = ![2 * ((i 0).val / 4) * 1024, 0] := by
  have hi := grid_lt i
  unfold k0_off15
  dsimp only
  revert hi
  generalize (i 0).val = m
  intro hi
  skip
  interval_cases m <;> first | (exfalso; revert h; decide) | decide +kernel

theorem off26_eq (i : grid0.Coords) : k0_off26 i = ![2 * ((i 0).val / 4) * 1024, 128] := by
  have hi := grid_lt i
  unfold k0_off26
  dsimp only
  revert hi
  generalize (i 0).val = m
  intro hi
  skip
  interval_cases m <;> first | (exfalso; revert h; decide) | decide +kernel

theorem off41_eq (i : grid0.Coords) : k0_off41 i = ![2 * ((i 0).val / 4) * 1024, 0] := by
  have hi := grid_lt i
  unfold k0_off41
  dsimp only
  revert hi
  generalize (i 0).val = m
  intro hi
  skip
  interval_cases m <;> first | (exfalso; revert h; decide) | decide +kernel

theorem off56_eq (i : grid0.Coords) : k0_off56 i = ![2 * ((i 0).val / 4) * 1024, 128] := by
  have hi := grid_lt i
  unfold k0_off56
  dsimp only
  revert hi
  generalize (i 0).val = m
  intro hi
  skip
  interval_cases m <;> first | (exfalso; revert h; decide) | decide +kernel

theorem off43_eq (i : grid0.Coords) (h : 2 ≤ (i 0).val % 4) : k0_off43 i = ![(2 * ((i 0).val / 4) + 1) * 1024, 0] := by
  have hi := grid_lt i
  unfold k0_off43
  dsimp only
  revert hi h
  generalize (i 0).val = m
  intro hi h
  skip
  interval_cases m <;> first | (exfalso; revert h; decide) | decide +kernel

theorem off57_eq (i : grid0.Coords) (h : 2 ≤ (i 0).val % 4) : k0_off57 i = ![(2 * ((i 0).val / 4) + 1) * 1024, 128] := by
  have hi := grid_lt i
  unfold k0_off57
  dsimp only
  revert hi h
  generalize (i 0).val = m
  intro hi h
  skip
  interval_cases m <;> first | (exfalso; revert h; decide) | decide +kernel

theorem cond2_mod (i : grid0.Coords) (h : k0_cond2 i = 1#1) : (i 0).val % 4 < 2 := by
  have hi := grid_lt i
  unfold k0_cond2 at h
  revert h hi
  generalize (i 0).val = m
  intro h hi
  interval_cases m <;> first | decide | (exfalso; revert h; decide +kernel)

theorem cond3_mod (i : grid0.Coords) (h : k0_cond3 i = 1#1) : 2 ≤ (i 0).val % 4 := by
  have hi := grid_lt i
  unfold k0_cond3 at h
  revert h hi
  generalize (i 0).val = m
  intro h hi
  interval_cases m <;> first | decide | (exfalso; revert h; decide +kernel)

end Cert.AttentionIdeal.Attn

end
-- ==== Proof.AttnIdeal.Trip3.lean ====
/- The attention over the ideal numbers: what one trip of the loop `k0_t3` computes. -/
module

public import proofs.«01_k».proof.Proof.AttnIdeal.Setup
public import proofs.«01_k».proof.Proof.AttnIdeal.Groups
public import proofs.«01_k».proof.Proof.AttnIdeal.Offsets
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
/-- The scores that a trip makes of block `u` of its group `r`, in the two shapes that it keeps. -/
abbrev pay3 (i : grid0.Coords) (y2 : Memref sig .tc .vmem S512x256 .bf16) (y3 : Memref sig .tc .vmem S8192x256 .bf16) (y6 : Memref sig .tc .vmem S4x2x512x256 .f32) (y8 : Memref sig .tc .vmem S32x512x256 .f32)
    (k0_h2 : k0_cond2 i = 1#1) (E2 : BufTy.Contents (Elt F) y2.view.ty) (E3 : BufTy.Contents (Elt F) y3.view.ty) (E6 : BufTy.Contents (Elt F) y6.view.ty) (E8 : BufTy.Contents (Elt F) y8.view.ty) (k : Fin (k0_t3_loop i).trips) (r : Fin 2) (u : Fin 4) :=
  k0_pay2 (y3.view.readAt (Elt F) (Rect.unit (s := S8192x256) (k0_off4 i k (BitVec.ofNat 32 (1 + r.val)) (BitVec.ofNat 32 u.val)) S256x128.size (k0_off4_inb i k k0_h2 r u)).toLoadRect E3) (y2.view.readAt (Elt F) (Rect.unit (s := S512x256) ![0, 0] S512x128.size (inq 0 (by decide))).toLoadRect E2) (y6.view.readAt (Elt F) (Rect.unit (s := S4x2x512x256) (k0_off5 i k (BitVec.ofNat 32 (1 + r.val)) (BitVec.ofNat 32 u.val)) S1x1x512x256.size (k0_off5_inb i k k0_h2 r u)).toLoadRect E6) (y8.view.readAt (Elt F) (Rect.unit (s := S32x512x256) (k0_off6 i k (BitVec.ofNat 32 (1 + r.val)) (BitVec.ofNat 32 u.val)) S1x512x256.size (k0_off6_inb i k k0_h2 r u)).toLoadRect E8)

abbrev scr3 (i : grid0.Coords) (y2 : Memref sig .tc .vmem S512x256 .bf16) (y3 : Memref sig .tc .vmem S8192x256 .bf16) (y6 : Memref sig .tc .vmem S4x2x512x256 .f32) (y8 : Memref sig .tc .vmem S32x512x256 .f32)
    (k0_h2 : k0_cond2 i = 1#1) (E2 : BufTy.Contents (Elt F) y2.view.ty) (E3 : BufTy.Contents (Elt F) y3.view.ty) (E6 : BufTy.Contents (Elt F) y6.view.ty) (E8 : BufTy.Contents (Elt F) y8.view.ty) (k : Fin (k0_t3_loop i).trips) (r : Fin 2) (u : Fin 4) :=
  lg (y3.view.readAt (Elt F) (Rect.unit (s := S8192x256) (k0_off4 i k (BitVec.ofNat 32 (1 + r.val)) (BitVec.ofNat 32 u.val)) S256x128.size (k0_off4_inb i k k0_h2 r u)).toLoadRect E3) (y2.view.readAt (Elt F) (Rect.unit (s := S512x256) ![0, 0] S512x128.size (inq 0 (by decide))).toLoadRect E2) (y6.view.readAt (Elt F) (Rect.unit (s := S4x2x512x256) (k0_off5 i k (BitVec.ofNat 32 (1 + r.val)) (BitVec.ofNat 32 u.val)) S1x1x512x256.size (k0_off5_inb i k k0_h2 r u)).toLoadRect E6) (y8.view.readAt (Elt F) (Rect.unit (s := S32x512x256) (k0_off6 i k (BitVec.ofNat 32 (1 + r.val)) (BitVec.ofNat 32 u.val)) S1x512x256.size (k0_off6_inb i k k0_h2 r u)).toLoadRect E8)

/-- The sums after the first group of a trip. -/
def old3 (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec F S1024x128 .bf16) (v29 : FVec F S512x1 .f32) (v47 : BitVec 32) (k0_h2 : k0_cond2 i = 1#1) (v149 : FVec F S512x128 .f32) (v168 : FVec F S512x256 .f32) (E2 : BufTy.Contents (Elt F) y2.view.ty) (E3 : BufTy.Contents (Elt F) y3.view.ty) (E4 : BufTy.Contents (Elt F) y4.view.ty) (E6 : BufTy.Contents (Elt F) y6.view.ty) (E8 : BufTy.Contents (Elt F) y8.view.ty) (k : Fin (k0_t3_loop i).trips) (acc : FVec F S512x1 .f32 × FVec F S512x1 .f32) (t9 : BufTy.Contents (Elt F) y9.view.ty) (t10 : BufTy.Contents (Elt F) y10.view.ty) (t11 : BufTy.Contents (Elt F) y11.view.ty) : List (View.Piece (Elt F) S2x512x256 .f32) :=
    [⟨(Rect.unit (s := S2x512x256) ![0, 0, 0] S1x512x256.size (in2 0)), vl v21 (y4.view.readAt (Elt F) (Rect.unit (s := S8192x256) (k0_off7 i k) S1024x128.size (k0_off7_inb i k k0_h2)).toLoadRect E4) acc.1 acc.2
      (y9.view.readAt (Elt F) (Rect.unit (s := S4x512x256) ![0, 0, 0] S1x512x256.size (in4 0)).toLoadRect t9)
      (y9.view.readAt (Elt F) (Rect.unit (s := S4x512x256) ![1, 0, 0] S1x512x256.size (in4 1)).toLoadRect t9)
      (y9.view.readAt (Elt F) (Rect.unit (s := S4x512x256) ![2, 0, 0] S1x512x256.size (in4 2)).toLoadRect t9)
      (y9.view.readAt (Elt F) (Rect.unit (s := S4x512x256) ![3, 0, 0] S1x512x256.size (in4 3)).toLoadRect t9)
      (y11.view.readAt (Elt F) (Rect.unit (s := S2x512x256) ![0, 0, 0] S1x512x256.size (in2 0)).toLoadRect t11)⟩]

section

variable (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec F S1024x128 .bf16) (v29 : FVec F S512x1 .f32) (v47 : BitVec 32) (k0_h2 : k0_cond2 i = 1#1) (v149 : FVec F S512x128 .f32) (v168 : FVec F S512x256 .f32) (E2 : BufTy.Contents (Elt F) y2.view.ty) (E3 : BufTy.Contents (Elt F) y3.view.ty) (E4 : BufTy.Contents (Elt F) y4.view.ty) (E6 : BufTy.Contents (Elt F) y6.view.ty) (E8 : BufTy.Contents (Elt F) y8.view.ty) (k : Fin (k0_t3_loop i).trips) (acc : FVec F S512x1 .f32 × FVec F S512x1 .f32) (t9 : BufTy.Contents (Elt F) y9.view.ty) (t10 : BufTy.Contents (Elt F) y10.view.ty) (t11 : BufTy.Contents (Elt F) y11.view.ty)
include 𝒱 c bd i y2 u2 y3 u3 y4 u4 y5 u5 y6 u6 y7 u7 y8 u8 y9 u9 y10 u10 y11 u11 y0 v21 v29 v47 k0_h2 v149 v168 E2 E3 E4 E6 E8 k acc t9 t10 t11

/-- The maxima a trip carries on. -/
theorem R3 :
    (tripR_k0_t3 (F := F) 𝒱 c bd i y2 u2 y3 u3 y4 u4 y5 u5 y6 u6 y7 u7 y8 u8 y9 u9 y10 u10 y11 u11 y0 v21 v29 v47 k0_h2 v149 v168 E2 E3 E4 E6 E8 k acc t9 t10 t11).1 = mx (pay3 i y2 y3 y6 y8 k0_h2 E2 E3 E6 E8 k 0 0)
      (pay3 i y2 y3 y6 y8 k0_h2 E2 E3 E6 E8 k 0 1)
      (pay3 i y2 y3 y6 y8 k0_h2 E2 E3 E6 E8 k 0 2)
      (pay3 i y2 y3 y6 y8 k0_h2 E2 E3 E6 E8 k 0 3)
      acc.2 := by
  unfold tripR_k0_t3 trip_k0_t3
  rfl

theorem R3' :
    (tripR_k0_t3 (F := F) 𝒱 c bd i y2 u2 y3 u3 y4 u4 y5 u5 y6 u6 y7 u7 y8 u8 y9 u9 y10 u10 y11 u11 y0 v21 v29 v47 k0_h2 v149 v168 E2 E3 E4 E6 E8 k acc t9 t10 t11).2 = mx (pay3 i y2 y3 y6 y8 k0_h2 E2 E3 E6 E8 k 1 0)
      (pay3 i y2 y3 y6 y8 k0_h2 E2 E3 E6 E8 k 1 1)
      (pay3 i y2 y3 y6 y8 k0_h2 E2 E3 E6 E8 k 1 2)
      (pay3 i y2 y3 y6 y8 k0_h2 E2 E3 E6 E8 k 1 3)
      (tripR_k0_t3 (F := F) 𝒱 c bd i y2 u2 y3 u3 y4 u4 y5 u5 y6 u6 y7 u7 y8 u8 y9 u9 y10 u10 y11 u11 y0 v21 v29 v47 k0_h2 v149 v168 E2 E3 E4 E6 E8 k acc t9 t10 t11).1 := by
  unfold tripR_k0_t3 trip_k0_t3
  rfl

/-- The scores a trip stores. -/
theorem L3a :
    (tripL_k0_t3 (F := F) 𝒱 c bd i y2 u2 y3 u3 y4 u4 y5 u5 y6 u6 y7 u7 y8 u8 y9 u9 y10 u10 y11 u11 y0 v21 v29 v47 k0_h2 v149 v168 E2 E3 E4 E6 E8 k acc t9 t10 t11).1 = [⟨Rect.unit (s := S4x512x256) ![3, 0, 0] S1x512x256.size (in4 3), (scr3 i y2 y3 y6 y8 k0_h2 E2 E3 E6 E8 k 1 3)⟩,
      ⟨Rect.unit (s := S4x512x256) ![2, 0, 0] S1x512x256.size (in4 2), (scr3 i y2 y3 y6 y8 k0_h2 E2 E3 E6 E8 k 1 2)⟩,
      ⟨Rect.unit (s := S4x512x256) ![1, 0, 0] S1x512x256.size (in4 1), (scr3 i y2 y3 y6 y8 k0_h2 E2 E3 E6 E8 k 1 1)⟩,
      ⟨Rect.unit (s := S4x512x256) ![0, 0, 0] S1x512x256.size (in4 0), (scr3 i y2 y3 y6 y8 k0_h2 E2 E3 E6 E8 k 1 0)⟩] := by
  unfold tripL_k0_t3 trip_k0_t3
  rfl

theorem L3b :
    (tripL_k0_t3 (F := F) 𝒱 c bd i y2 u2 y3 u3 y4 u4 y5 u5 y6 u6 y7 u7 y8 u8 y9 u9 y10 u10 y11 u11 y0 v21 v29 v47 k0_h2 v149 v168 E2 E3 E4 E6 E8 k acc t9 t10 t11).2.1 = [⟨Rect.unit (s := S4x512x256) ![3, 0, 0] S1x512x256.size (in4 3), (scr3 i y2 y3 y6 y8 k0_h2 E2 E3 E6 E8 k 0 3)⟩,
      ⟨Rect.unit (s := S4x512x256) ![2, 0, 0] S1x512x256.size (in4 2), (scr3 i y2 y3 y6 y8 k0_h2 E2 E3 E6 E8 k 0 2)⟩,
      ⟨Rect.unit (s := S4x512x256) ![1, 0, 0] S1x512x256.size (in4 1), (scr3 i y2 y3 y6 y8 k0_h2 E2 E3 E6 E8 k 0 1)⟩,
      ⟨Rect.unit (s := S4x512x256) ![0, 0, 0] S1x512x256.size (in4 0), (scr3 i y2 y3 y6 y8 k0_h2 E2 E3 E6 E8 k 0 0)⟩] := by
  unfold tripL_k0_t3 trip_k0_t3
  rfl

/-- The sums a trip stores. -/
theorem L3c :
    (tripL_k0_t3 (F := F) 𝒱 c bd i y2 u2 y3 u3 y4 u4 y5 u5 y6 u6 y7 u7 y8 u8 y9 u9 y10 u10 y11 u11 y0 v21 v29 v47 k0_h2 v149 v168 E2 E3 E4 E6 E8 k acc t9 t10 t11).2.2 = ⟨(Rect.unit (s := S2x512x256) ![0, 0, 0] S1x512x256.size (in2 0)), vl v21 (y4.view.readAt (Elt F) (Rect.unit (s := S8192x256) (k0_off8 i k) S1024x128.size (k0_off8_inb i k k0_h2)).toLoadRect E4) acc.2 (tripR_k0_t3 (F := F) 𝒱 c bd i y2 u2 y3 u3 y4 u4 y5 u5 y6 u6 y7 u7 y8 u8 y9 u9 y10 u10 y11 u11 y0 v21 v29 v47 k0_h2 v149 v168 E2 E3 E4 E6 E8 k acc t9 t10 t11).1
      (y10.view.readCov (tripL_k0_t3 (F := F) 𝒱 c bd i y2 u2 y3 u3 y4 u4 y5 u5 y6 u6 y7 u7 y8 u8 y9 u9 y10 u10 y11 u11 y0 v21 v29 v47 k0_h2 v149 v168 E2 E3 E4 E6 E8 k acc t9 t10 t11).2.1 (Rect.unit (s := S4x512x256) ![0, 0, 0] S1x512x256.size (in4 0)).toLoadRect)
      (y10.view.readCov (tripL_k0_t3 (F := F) 𝒱 c bd i y2 u2 y3 u3 y4 u4 y5 u5 y6 u6 y7 u7 y8 u8 y9 u9 y10 u10 y11 u11 y0 v21 v29 v47 k0_h2 v149 v168 E2 E3 E4 E6 E8 k acc t9 t10 t11).2.1 (Rect.unit (s := S4x512x256) ![1, 0, 0] S1x512x256.size (in4 1)).toLoadRect)
      (y10.view.readCov (tripL_k0_t3 (F := F) 𝒱 c bd i y2 u2 y3 u3 y4 u4 y5 u5 y6 u6 y7 u7 y8 u8 y9 u9 y10 u10 y11 u11 y0 v21 v29 v47 k0_h2 v149 v168 E2 E3 E4 E6 E8 k acc t9 t10 t11).2.1 (Rect.unit (s := S4x512x256) ![2, 0, 0] S1x512x256.size (in4 2)).toLoadRect)
      (y10.view.readCov (tripL_k0_t3 (F := F) 𝒱 c bd i y2 u2 y3 u3 y4 u4 y5 u5 y6 u6 y7 u7 y8 u8 y9 u9 y10 u10 y11 u11 y0 v21 v29 v47 k0_h2 v149 v168 E2 E3 E4 E6 E8 k acc t9 t10 t11).2.1 (Rect.unit (s := S4x512x256) ![3, 0, 0] S1x512x256.size (in4 3)).toLoadRect)
      (y11.view.readCov (old3 𝒱 c bd i y2 u2 y3 u3 y4 u4 y5 u5 y6 u6 y7 u7 y8 u8 y9 u9 y10 u10 y11 u11 y0 v21 v29 v47 k0_h2 v149 v168 E2 E3 E4 E6 E8 k acc t9 t10 t11) (Rect.unit (s := S2x512x256) ![0, 0, 0] S1x512x256.size (in2 0)).toLoadRect)⟩ :: old3 𝒱 c bd i y2 u2 y3 u3 y4 u4 y5 u5 y6 u6 y7 u7 y8 u8 y9 u9 y10 u10 y11 u11 y0 v21 v29 v47 k0_h2 v149 v168 E2 E3 E4 E6 E8 k acc t9 t10 t11 := by
  unfold tripL_k0_t3 tripR_k0_t3 trip_k0_t3
  rfl

end

section

variable (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec Ideal S1024x128 .bf16) (v29 : FVec Ideal S512x1 .f32) (v47 : BitVec 32) (k0_h2 : k0_cond2 i = 1#1) (v149 : FVec Ideal S512x128 .f32) (v168 : FVec Ideal S512x256 .f32) (E2 : BufTy.Contents (Elt Ideal) y2.view.ty) (E3 : BufTy.Contents (Elt Ideal) y3.view.ty) (E4 : BufTy.Contents (Elt Ideal) y4.view.ty) (E6 : BufTy.Contents (Elt Ideal) y6.view.ty) (E8 : BufTy.Contents (Elt Ideal) y8.view.ty) (k : Fin (k0_t3_loop i).trips) (acc : FVec Ideal S512x1 .f32 × FVec Ideal S512x1 .f32) (t9 : BufTy.Contents (Elt Ideal) y9.view.ty) (t10 : BufTy.Contents (Elt Ideal) y10.view.ty) (t11 : BufTy.Contents (Elt Ideal) y11.view.ty)
    (I : Ins) (hn : I.n = (i 0).val) (hq : y2.view.read (Elt Ideal) E2 = I.q) (hk : y3.view.read (Elt Ideal) E3 = I.kk) (hv : y4.view.read (Elt Ideal) E4 = I.vv)
    (hb : y6.view.read (Elt Ideal) E6 = I.bd) (hm : y8.view.read (Elt Ideal) E8 = I.ms)
include 𝒱 c bd i y2 u2 y3 u3 y4 u4 y5 u5 y6 u6 y7 u7 y8 u8 y9 u9 y10 u10 y11 u11 y0 v21 v29 v47 k0_h2 v149 v168 E2 E3 E4 E6 E8 k I hn hq hk hv hb hm

theorem sc3 (r : Fin 2) (u : Fin 4) (a : Fin 512) (b : Fin 256) :
    scr3 i y2 y3 y6 y8 k0_h2 E2 E3 E6 E8 k r u
      (ix3 0 a b) = sc I 0 (2 * k.val + 1 + r.val) u a b := by
  have hk3 := lt_of_lt_of_eq k.isLt (trips3 i)
  have hi := grid_lt i
  exact lg_read I (h := 0) (j := 4 * (2 * k.val + 1 + r.val) + u.val) y3.view y2.view y6.view y8.view E3 E2 E6 E8 hq hk hb hm
    (k0_off4_inb i k k0_h2 r u) (inq 0 (by decide)) (k0_off5_inb i k k0_h2 r u) (k0_off6_inb i k k0_h2 r u) (by omega)
    (off4_eq i k r u) rfl (by rw [hn]; exact off5_eq i k r u) (off6_eq i k r u) a b

include acc t9 t10 t11

/-- One trip of the loop: two groups further. -/
theorem step3 (h21 : ∀ y, v21 y = 1)
    (m1 : ∀ a, acc.1 (ix2 a 0) = M I 0 (2 * k.val) a) (m2 : ∀ a, acc.2 (ix2 a 0) = M I 0 (2 * k.val + 1) a)
    (s1 : ∀ u a b, y9.view.read (Elt Ideal) t9 (ix3 u a b) = sc I 0 (2 * k.val) u a b)
    (a1 : ∀ a d, y11.view.read (Elt Ideal) t11 (ix3 0 a d) = A I 0 (2 * k.val) a d) :
    (∀ a, (tripR_k0_t3 (F := Ideal) 𝒱 c bd i y2 u2 y3 u3 y4 u4 y5 u5 y6 u6 y7 u7 y8 u8 y9 u9 y10 u10 y11 u11 y0 v21 v29 v47 k0_h2 v149 v168 E2 E3 E4 E6 E8 k acc t9 t10 t11).1 (ix2 a 0) = M I 0 (2 * k.val + 2) a)
    ∧ (∀ a, (tripR_k0_t3 (F := Ideal) 𝒱 c bd i y2 u2 y3 u3 y4 u4 y5 u5 y6 u6 y7 u7 y8 u8 y9 u9 y10 u10 y11 u11 y0 v21 v29 v47 k0_h2 v149 v168 E2 E3 E4 E6 E8 k acc t9 t10 t11).2 (ix2 a 0) = M I 0 (2 * k.val + 3) a)
    ∧ (∀ u a b, y9.view.read (Elt Ideal) (y9.view.writes (Elt Ideal) t9 (tripL_k0_t3 (F := Ideal) 𝒱 c bd i y2 u2 y3 u3 y4 u4 y5 u5 y6 u6 y7 u7 y8 u8 y9 u9 y10 u10 y11 u11 y0 v21 v29 v47 k0_h2 v149 v168 E2 E3 E4 E6 E8 k acc t9 t10 t11).1) (ix3 u a b) = sc I 0 (2 * k.val + 2) u a b)
    ∧ (∀ a d, y11.view.read (Elt Ideal) (y11.view.writes (Elt Ideal) t11 (tripL_k0_t3 (F := Ideal) 𝒱 c bd i y2 u2 y3 u3 y4 u4 y5 u5 y6 u6 y7 u7 y8 u8 y9 u9 y10 u10 y11 u11 y0 v21 v29 v47 k0_h2 v149 v168 E2 E3 E4 E6 E8 k acc t9 t10 t11).2.2) (ix3 0 a d) = A I 0 (2 * k.val + 2) a d)
    ∧ (∀ a d, y11.view.read (Elt Ideal) (y11.view.writes (Elt Ideal) t11 (tripL_k0_t3 (F := Ideal) 𝒱 c bd i y2 u2 y3 u3 y4 u4 y5 u5 y6 u6 y7 u7 y8 u8 y9 u9 y10 u10 y11 u11 y0 v21 v29 v47 k0_h2 v149 v168 E2 E3 E4 E6 E8 k acc t9 t10 t11).2.2) (ix3 1 a d) = y11.view.read (Elt Ideal) t11 (ix3 1 a d)) := by
  have hk3 := lt_of_lt_of_eq k.isLt (trips3 i)
  have hi := grid_lt i
  have SC := sc3 𝒱 c bd i y2 u2 y3 u3 y4 u4 y5 u5 y6 u6 y7 u7 y8 u8 y9 u9 y10 u10 y11 u11 y0 v21 v29 v47 k0_h2 v149 v168 E2 E3 E4 E6 E8 k I hn hq hk hv hb hm
  have e1 : ∀ a, (tripR_k0_t3 (F := Ideal) 𝒱 c bd i y2 u2 y3 u3 y4 u4 y5 u5 y6 u6 y7 u7 y8 u8 y9 u9 y10 u10 y11 u11 y0 v21 v29 v47 k0_h2 v149 v168 E2 E3 E4 E6 E8 k acc t9 t10 t11).1 (ix2 a 0) = M I 0 (2 * k.val + 2) a := by
    intro a
    rw [R3]
    exact M_step I (h := 0) (g := 2 * k.val + 1) _ _ _ _ acc.2 m2
      (fun a b => (lg2_apply _ _ _ _ a b).trans (SC 0 0 a b))
      (fun a b => (lg2_apply _ _ _ _ a b).trans (SC 0 1 a b))
      (fun a b => (lg2_apply _ _ _ _ a b).trans (SC 0 2 a b))
      (fun a b => (lg2_apply _ _ _ _ a b).trans (SC 0 3 a b)) a
  refine ⟨e1, ?_, ?_, ?_, ?_⟩
  · intro a
    rw [R3']
    exact M_step I (h := 0) (g := 2 * k.val + 2) _ _ _ _ _ e1
      (fun a b => (lg2_apply _ _ _ _ a b).trans (SC 1 0 a b))
      (fun a b => (lg2_apply _ _ _ _ a b).trans (SC 1 1 a b))
      (fun a b => (lg2_apply _ _ _ _ a b).trans (SC 1 2 a b))
      (fun a b => (lg2_apply _ _ _ _ a b).trans (SC 1 3 a b)) a
  · intro u a b
    rw [L3a]
    exact read_four y9.view t9 (sc I 0 (2 * k.val + 2)) _ _ _ _ _ _ _ _
      (fun a b => SC 1 0 a b)
      (fun a b => SC 1 1 a b)
      (fun a b => SC 1 2 a b)
      (fun a b => SC 1 3 a b) [] u a b
  · intro a d
    rw [L3c]
    refine (hit11 y11.view t11 0 _ _ a d).trans ?_
    have cov : ∀ (u : Fin 4) (a : Fin 512) (b : Fin 256), y10.view.readCov (tripL_k0_t3 (F := Ideal) 𝒱 c bd i y2 u2 y3 u3 y4 u4 y5 u5 y6 u6 y7 u7 y8 u8 y9 u9 y10 u10 y11 u11 y0 v21 v29 v47 k0_h2 v149 v168 E2 E3 E4 E6 E8 k acc t9 t10 t11).2.1 (Rect.unit (s := S4x512x256) ![u.val, 0, 0] S1x512x256.size (in4 u)).toLoadRect (ix3 0 a b)
        = sc I 0 (2 * k.val + 1) u a b := by
      intro u a b
      refine (at4 y10.view _ u a b).trans ?_
      rw [L3b]
      exact read_four y10.view _ (sc I 0 (2 * k.val + 1)) _ _ _ _ _ _ _ _
        (fun a b => SC 0 0 a b)
        (fun a b => SC 0 1 a b)
        (fun a b => SC 0 2 a b)
        (fun a b => SC 0 3 a b) [] u a b
    refine A_step I (h := 0) (g := 2 * k.val + 1) y4.view E4 hv (k0_off8_inb i k k0_h2) (by omega) (off8_eq i k) v21 acc.2 _ _ _ _ _ _ h21 m2 e1
      (cov 0) (cov 1) (cov 2) (cov 3) ?_ a d
    intro a d
    refine (at11 y11.view _ 0 a d).trans ?_
    refine (hit11 y11.view _ 0 _ _ a d).trans ?_
    refine A_step I (h := 0) (g := 2 * k.val) y4.view E4 hv (k0_off7_inb i k k0_h2) (by omega) (off7_eq i k) v21 acc.1 acc.2 _ _ _ _ _ h21 m1 m2
      (fun a b => (at4 y9.view t9 0 a b).trans (s1 0 a b)) (fun a b => (at4 y9.view t9 1 a b).trans (s1 1 a b))
      (fun a b => (at4 y9.view t9 2 a b).trans (s1 2 a b)) (fun a b => (at4 y9.view t9 3 a b).trans (s1 3 a b)) ?_ a d
    intro a d
    exact (at11 y11.view t11 0 a d).trans (a1 a d)
  · intro a d
    rw [L3c]
    refine (miss11 y11.view t11 0 1 (by decide) _ _ a d).trans ?_
    exact miss11 y11.view t11 0 1 (by decide) _ [] a d

end

/-- The loop by its trips. -/
theorem loop3 (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec Ideal S1024x128 .bf16) (v29 : FVec Ideal S512x1 .f32) (v47 : BitVec 32) (k0_h2 : k0_cond2 i = 1#1) (v149 : FVec Ideal S512x128 .f32) (v168 : FVec Ideal S512x256 .f32) (E2 : BufTy.Contents (Elt Ideal) y2.view.ty) (E3 : BufTy.Contents (Elt Ideal) y3.view.ty) (E4 : BufTy.Contents (Elt Ideal) y4.view.ty) (E6 : BufTy.Contents (Elt Ideal) y6.view.ty) (E8 : BufTy.Contents (Elt Ideal) y8.view.ty) (G9 : BufTy.Contents (Elt Ideal) y9.view.ty) (G10 : BufTy.Contents (Elt Ideal) y10.view.ty) (G11 : BufTy.Contents (Elt Ideal) y11.view.ty) (init : FVec Ideal S512x1 .f32 × FVec Ideal S512x1 .f32)
    (I : Ins) (hn : I.n = (i 0).val) (hq : y2.view.read (Elt Ideal) E2 = I.q) (hk : y3.view.read (Elt Ideal) E3 = I.kk) (hv : y4.view.read (Elt Ideal) E4 = I.vv)
    (hb : y6.view.read (Elt Ideal) E6 = I.bd) (hm : y8.view.read (Elt Ideal) E8 = I.ms) (h21 : ∀ y, v21 y = 1) (h0 : Inv I 0 1 y9.view y11.view G9 G11 G11 init 0) (n : ℕ) (hle : n ≤ (k0_t3_loop i).trips) :
    Inv I 0 1 y9.view y11.view (y9.view.writes (Elt Ideal) G9 (st_k0_t3 (F := Ideal) 𝒱 c bd i y2 u2 y3 u3 y4 u4 y5 u5 y6 u6 y7 u7 y8 u8 y9 u9 y10 u10 y11 u11 y0 v21 v29 v47 k0_h2 v149 v168 E2 E3 E4 E6 E8 G9 G10 G11 init n).2.1)
      (y11.view.writes (Elt Ideal) G11 (st_k0_t3 (F := Ideal) 𝒱 c bd i y2 u2 y3 u3 y4 u4 y5 u5 y6 u6 y7 u7 y8 u8 y9 u9 y10 u10 y11 u11 y0 v21 v29 v47 k0_h2 v149 v168 E2 E3 E4 E6 E8 G9 G10 G11 init n).2.2.2) G11 (st_k0_t3 (F := Ideal) 𝒱 c bd i y2 u2 y3 u3 y4 u4 y5 u5 y6 u6 y7 u7 y8 u8 y9 u9 y10 u10 y11 u11 y0 v21 v29 v47 k0_h2 v149 v168 E2 E3 E4 E6 E8 G9 G10 G11 init n).1 n := by
  induction n with
  | zero => exact h0
  | succ n ih =>
    have h := ih (by omega)
    have key : ∀ k : Fin (k0_t3_loop i).trips, Inv I 0 1 y9.view y11.view (y9.view.writes (Elt Ideal) G9 (st_k0_t3 (F := Ideal) 𝒱 c bd i y2 u2 y3 u3 y4 u4 y5 u5 y6 u6 y7 u7 y8 u8 y9 u9 y10 u10 y11 u11 y0 v21 v29 v47 k0_h2 v149 v168 E2 E3 E4 E6 E8 G9 G10 G11 init k.val).2.1)
      (y11.view.writes (Elt Ideal) G11 (st_k0_t3 (F := Ideal) 𝒱 c bd i y2 u2 y3 u3 y4 u4 y5 u5 y6 u6 y7 u7 y8 u8 y9 u9 y10 u10 y11 u11 y0 v21 v29 v47 k0_h2 v149 v168 E2 E3 E4 E6 E8 G9 G10 G11 init k.val).2.2.2) G11 (st_k0_t3 (F := Ideal) 𝒱 c bd i y2 u2 y3 u3 y4 u4 y5 u5 y6 u6 y7 u7 y8 u8 y9 u9 y10 u10 y11 u11 y0 v21 v29 v47 k0_h2 v149 v168 E2 E3 E4 E6 E8 G9 G10 G11 init k.val).1 k.val →
        Inv I 0 1 y9.view y11.view (y9.view.writes (Elt Ideal) G9 (st_k0_t3 (F := Ideal) 𝒱 c bd i y2 u2 y3 u3 y4 u4 y5 u5 y6 u6 y7 u7 y8 u8 y9 u9 y10 u10 y11 u11 y0 v21 v29 v47 k0_h2 v149 v168 E2 E3 E4 E6 E8 G9 G10 G11 init (k.val + 1)).2.1)
      (y11.view.writes (Elt Ideal) G11 (st_k0_t3 (F := Ideal) 𝒱 c bd i y2 u2 y3 u3 y4 u4 y5 u5 y6 u6 y7 u7 y8 u8 y9 u9 y10 u10 y11 u11 y0 v21 v29 v47 k0_h2 v149 v168 E2 E3 E4 E6 E8 G9 G10 G11 init (k.val + 1)).2.2.2) G11 (st_k0_t3 (F := Ideal) 𝒱 c bd i y2 u2 y3 u3 y4 u4 y5 u5 y6 u6 y7 u7 y8 u8 y9 u9 y10 u10 y11 u11 y0 v21 v29 v47 k0_h2 v149 v168 E2 E3 E4 E6 E8 G9 G10 G11 init (k.val + 1)).1 (k.val + 1) := by
      intro k ⟨m1, m2, s1, a1, o1⟩
      rw [st_k0_t3_succ]
      obtain ⟨r1, r2, r3, r4, r5⟩ := step3 𝒱 c bd i y2 u2 y3 u3 y4 u4 y5 u5 y6 u6 y7 u7 y8 u8 y9 u9 y10 u10 y11 u11 y0 v21 v29 v47 k0_h2 v149 v168 E2 E3 E4 E6 E8 k _ (y9.view.writes (Elt Ideal) G9 (st_k0_t3 (F := Ideal) 𝒱 c bd i y2 u2 y3 u3 y4 u4 y5 u5 y6 u6 y7 u7 y8 u8 y9 u9 y10 u10 y11 u11 y0 v21 v29 v47 k0_h2 v149 v168 E2 E3 E4 E6 E8 G9 G10 G11 init k.val).2.1) (y10.view.writes (Elt Ideal) G10 (st_k0_t3 (F := Ideal) 𝒱 c bd i y2 u2 y3 u3 y4 u4 y5 u5 y6 u6 y7 u7 y8 u8 y9 u9 y10 u10 y11 u11 y0 v21 v29 v47 k0_h2 v149 v168 E2 E3 E4 E6 E8 G9 G10 G11 init k.val).2.2.1)
        (y11.view.writes (Elt Ideal) G11 (st_k0_t3 (F := Ideal) 𝒱 c bd i y2 u2 y3 u3 y4 u4 y5 u5 y6 u6 y7 u7 y8 u8 y9 u9 y10 u10 y11 u11 y0 v21 v29 v47 k0_h2 v149 v168 E2 E3 E4 E6 E8 G9 G10 G11 init k.val).2.2.2) I hn hq hk hv hb hm h21 m1 m2 s1 a1
      refine ⟨r1, r2, ?_, ?_, ?_⟩
      · intro u a b
        dsimp only
        rw [writes_app]
        exact r3 u a b
      · intro a d
        dsimp only
        rw [writes_app]
        exact r4 a d
      · intro a d
        dsimp only
        rw [writes_app]
        exact (r5 a d).trans (o1 a d)
    exact key ⟨n, by omega⟩ h

end Cert.AttentionIdeal.Attn

end
-- ==== Proof.AttnIdeal.Trip5.lean ====
/- The attention over the ideal numbers: what one trip of the loop `k0_t5` computes. -/
module

public import proofs.«01_k».proof.Proof.AttnIdeal.Setup
public import proofs.«01_k».proof.Proof.AttnIdeal.Groups
public import proofs.«01_k».proof.Proof.AttnIdeal.Offsets
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
/-- The scores that a trip makes of block `u` of its group `r`, in the two shapes that it keeps. -/
abbrev pay5 (i : grid0.Coords) (y2 : Memref sig .tc .vmem S512x256 .bf16) (y3 : Memref sig .tc .vmem S8192x256 .bf16) (y6 : Memref sig .tc .vmem S4x2x512x256 .f32) (y8 : Memref sig .tc .vmem S32x512x256 .f32)
    (k0_h2 : k0_cond2 i = 1#1) (E2 : BufTy.Contents (Elt F) y2.view.ty) (E3 : BufTy.Contents (Elt F) y3.view.ty) (E6 : BufTy.Contents (Elt F) y6.view.ty) (E8 : BufTy.Contents (Elt F) y8.view.ty) (k : Fin (k0_t5_loop i).trips) (r : Fin 2) (u : Fin 4) :=
  k0_pay2 (y3.view.readAt (Elt F) (Rect.unit (s := S8192x256) (k0_off16 i k (BitVec.ofNat 32 (1 + r.val)) (BitVec.ofNat 32 u.val)) S256x128.size (k0_off16_inb i k k0_h2 r u)).toLoadRect E3) (y2.view.readAt (Elt F) (Rect.unit (s := S512x256) ![0, 128] S512x128.size (inq 128 (by decide))).toLoadRect E2) (y6.view.readAt (Elt F) (Rect.unit (s := S4x2x512x256) (k0_off17 i k (BitVec.ofNat 32 (1 + r.val)) (BitVec.ofNat 32 u.val)) S1x1x512x256.size (k0_off17_inb i k k0_h2 r u)).toLoadRect E6) (y8.view.readAt (Elt F) (Rect.unit (s := S32x512x256) (k0_off18 i k (BitVec.ofNat 32 (1 + r.val)) (BitVec.ofNat 32 u.val)) S1x512x256.size (k0_off18_inb i k k0_h2 r u)).toLoadRect E8)

abbrev scr5 (i : grid0.Coords) (y2 : Memref sig .tc .vmem S512x256 .bf16) (y3 : Memref sig .tc .vmem S8192x256 .bf16) (y6 : Memref sig .tc .vmem S4x2x512x256 .f32) (y8 : Memref sig .tc .vmem S32x512x256 .f32)
    (k0_h2 : k0_cond2 i = 1#1) (E2 : BufTy.Contents (Elt F) y2.view.ty) (E3 : BufTy.Contents (Elt F) y3.view.ty) (E6 : BufTy.Contents (Elt F) y6.view.ty) (E8 : BufTy.Contents (Elt F) y8.view.ty) (k : Fin (k0_t5_loop i).trips) (r : Fin 2) (u : Fin 4) :=
  lg (y3.view.readAt (Elt F) (Rect.unit (s := S8192x256) (k0_off16 i k (BitVec.ofNat 32 (1 + r.val)) (BitVec.ofNat 32 u.val)) S256x128.size (k0_off16_inb i k k0_h2 r u)).toLoadRect E3) (y2.view.readAt (Elt F) (Rect.unit (s := S512x256) ![0, 128] S512x128.size (inq 128 (by decide))).toLoadRect E2) (y6.view.readAt (Elt F) (Rect.unit (s := S4x2x512x256) (k0_off17 i k (BitVec.ofNat 32 (1 + r.val)) (BitVec.ofNat 32 u.val)) S1x1x512x256.size (k0_off17_inb i k k0_h2 r u)).toLoadRect E6) (y8.view.readAt (Elt F) (Rect.unit (s := S32x512x256) (k0_off18 i k (BitVec.ofNat 32 (1 + r.val)) (BitVec.ofNat 32 u.val)) S1x512x256.size (k0_off18_inb i k k0_h2 r u)).toLoadRect E8)

/-- The sums after the first group of a trip. -/
def old5 (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec F S1024x128 .bf16) (v29 : FVec F S512x1 .f32) (v47 : BitVec 32) (v48 : BitVec 32) (k0_h2 : k0_cond2 i = 1#1) (v185_0 : FVec F S512x1 .f32) (v185_1 : FVec F S512x1 .f32) (v293 : FVec F S512x1 .f32) (v295 : FVec F S512x256 .f32) (v300 : FVec F S512x256 .bf16) (v305 : FVec F S512x256 .bf16) (E2 : BufTy.Contents (Elt F) y2.view.ty) (E3 : BufTy.Contents (Elt F) y3.view.ty) (E4 : BufTy.Contents (Elt F) y4.view.ty) (E6 : BufTy.Contents (Elt F) y6.view.ty) (E8 : BufTy.Contents (Elt F) y8.view.ty) (k : Fin (k0_t5_loop i).trips) (acc : FVec F S512x1 .f32 × FVec F S512x1 .f32) (t9 : BufTy.Contents (Elt F) y9.view.ty) (t10 : BufTy.Contents (Elt F) y10.view.ty) (t11 : BufTy.Contents (Elt F) y11.view.ty) : List (View.Piece (Elt F) S2x512x256 .f32) :=
    [⟨(Rect.unit (s := S2x512x256) ![1, 0, 0] S1x512x256.size (in2 1)), vl v21 (y4.view.readAt (Elt F) (Rect.unit (s := S8192x256) (k0_off19 i k) S1024x128.size (k0_off19_inb i k k0_h2)).toLoadRect E4) acc.1 acc.2
      (y10.view.readAt (Elt F) (Rect.unit (s := S4x512x256) ![0, 0, 0] S1x512x256.size (in4 0)).toLoadRect t10)
      (y10.view.readAt (Elt F) (Rect.unit (s := S4x512x256) ![1, 0, 0] S1x512x256.size (in4 1)).toLoadRect t10)
      (y10.view.readAt (Elt F) (Rect.unit (s := S4x512x256) ![2, 0, 0] S1x512x256.size (in4 2)).toLoadRect t10)
      (y10.view.readAt (Elt F) (Rect.unit (s := S4x512x256) ![3, 0, 0] S1x512x256.size (in4 3)).toLoadRect t10)
      (y11.view.readAt (Elt F) (Rect.unit (s := S2x512x256) ![1, 0, 0] S1x512x256.size (in2 1)).toLoadRect t11)⟩]

section

variable (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec F S1024x128 .bf16) (v29 : FVec F S512x1 .f32) (v47 : BitVec 32) (v48 : BitVec 32) (k0_h2 : k0_cond2 i = 1#1) (v185_0 : FVec F S512x1 .f32) (v185_1 : FVec F S512x1 .f32) (v293 : FVec F S512x1 .f32) (v295 : FVec F S512x256 .f32) (v300 : FVec F S512x256 .bf16) (v305 : FVec F S512x256 .bf16) (E2 : BufTy.Contents (Elt F) y2.view.ty) (E3 : BufTy.Contents (Elt F) y3.view.ty) (E4 : BufTy.Contents (Elt F) y4.view.ty) (E6 : BufTy.Contents (Elt F) y6.view.ty) (E8 : BufTy.Contents (Elt F) y8.view.ty) (k : Fin (k0_t5_loop i).trips) (acc : FVec F S512x1 .f32 × FVec F S512x1 .f32) (t9 : BufTy.Contents (Elt F) y9.view.ty) (t10 : BufTy.Contents (Elt F) y10.view.ty) (t11 : BufTy.Contents (Elt F) y11.view.ty)
include 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11

/-- The maxima a trip carries on. -/
theorem R5 :
    (tripR_k0_t5 (F := F) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).1 = mx (pay5 i y2 y3 y6 y8 k0_h2 E2 E3 E6 E8 k 0 0)
      (pay5 i y2 y3 y6 y8 k0_h2 E2 E3 E6 E8 k 0 1)
      (pay5 i y2 y3 y6 y8 k0_h2 E2 E3 E6 E8 k 0 2)
      (pay5 i y2 y3 y6 y8 k0_h2 E2 E3 E6 E8 k 0 3)
      acc.2 := by
  unfold tripR_k0_t5 trip_k0_t5
  rfl

theorem R5' :
    (tripR_k0_t5 (F := F) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).2 = mx (pay5 i y2 y3 y6 y8 k0_h2 E2 E3 E6 E8 k 1 0)
      (pay5 i y2 y3 y6 y8 k0_h2 E2 E3 E6 E8 k 1 1)
      (pay5 i y2 y3 y6 y8 k0_h2 E2 E3 E6 E8 k 1 2)
      (pay5 i y2 y3 y6 y8 k0_h2 E2 E3 E6 E8 k 1 3)
      (tripR_k0_t5 (F := F) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).1 := by
  unfold tripR_k0_t5 trip_k0_t5
  rfl

/-- The scores a trip stores. -/
theorem L5a :
    (tripL_k0_t5 (F := F) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).2.1 = [⟨Rect.unit (s := S4x512x256) ![3, 0, 0] S1x512x256.size (in4 3), (scr5 i y2 y3 y6 y8 k0_h2 E2 E3 E6 E8 k 1 3)⟩,
      ⟨Rect.unit (s := S4x512x256) ![2, 0, 0] S1x512x256.size (in4 2), (scr5 i y2 y3 y6 y8 k0_h2 E2 E3 E6 E8 k 1 2)⟩,
      ⟨Rect.unit (s := S4x512x256) ![1, 0, 0] S1x512x256.size (in4 1), (scr5 i y2 y3 y6 y8 k0_h2 E2 E3 E6 E8 k 1 1)⟩,
      ⟨Rect.unit (s := S4x512x256) ![0, 0, 0] S1x512x256.size (in4 0), (scr5 i y2 y3 y6 y8 k0_h2 E2 E3 E6 E8 k 1 0)⟩] := by
  unfold tripL_k0_t5 trip_k0_t5
  rfl

theorem L5b :
    (tripL_k0_t5 (F := F) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).1 = [⟨Rect.unit (s := S4x512x256) ![3, 0, 0] S1x512x256.size (in4 3), (scr5 i y2 y3 y6 y8 k0_h2 E2 E3 E6 E8 k 0 3)⟩,
      ⟨Rect.unit (s := S4x512x256) ![2, 0, 0] S1x512x256.size (in4 2), (scr5 i y2 y3 y6 y8 k0_h2 E2 E3 E6 E8 k 0 2)⟩,
      ⟨Rect.unit (s := S4x512x256) ![1, 0, 0] S1x512x256.size (in4 1), (scr5 i y2 y3 y6 y8 k0_h2 E2 E3 E6 E8 k 0 1)⟩,
      ⟨Rect.unit (s := S4x512x256) ![0, 0, 0] S1x512x256.size (in4 0), (scr5 i y2 y3 y6 y8 k0_h2 E2 E3 E6 E8 k 0 0)⟩] := by
  unfold tripL_k0_t5 trip_k0_t5
  rfl

/-- The sums a trip stores. -/
theorem L5c :
    (tripL_k0_t5 (F := F) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).2.2 = ⟨(Rect.unit (s := S2x512x256) ![1, 0, 0] S1x512x256.size (in2 1)), vl v21 (y4.view.readAt (Elt F) (Rect.unit (s := S8192x256) (k0_off20 i k) S1024x128.size (k0_off20_inb i k k0_h2)).toLoadRect E4) acc.2 (tripR_k0_t5 (F := F) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).1
      (y9.view.readCov (tripL_k0_t5 (F := F) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).1 (Rect.unit (s := S4x512x256) ![0, 0, 0] S1x512x256.size (in4 0)).toLoadRect)
      (y9.view.readCov (tripL_k0_t5 (F := F) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).1 (Rect.unit (s := S4x512x256) ![1, 0, 0] S1x512x256.size (in4 1)).toLoadRect)
      (y9.view.readCov (tripL_k0_t5 (F := F) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).1 (Rect.unit (s := S4x512x256) ![2, 0, 0] S1x512x256.size (in4 2)).toLoadRect)
      (y9.view.readCov (tripL_k0_t5 (F := F) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).1 (Rect.unit (s := S4x512x256) ![3, 0, 0] S1x512x256.size (in4 3)).toLoadRect)
      (y11.view.readCov (old5 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11) (Rect.unit (s := S2x512x256) ![1, 0, 0] S1x512x256.size (in2 1)).toLoadRect)⟩ :: old5 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11 := by
  unfold tripL_k0_t5 tripR_k0_t5 trip_k0_t5
  rfl

end

section

variable (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec Ideal S1024x128 .bf16) (v29 : FVec Ideal S512x1 .f32) (v47 : BitVec 32) (v48 : BitVec 32) (k0_h2 : k0_cond2 i = 1#1) (v185_0 : FVec Ideal S512x1 .f32) (v185_1 : FVec Ideal S512x1 .f32) (v293 : FVec Ideal S512x1 .f32) (v295 : FVec Ideal S512x256 .f32) (v300 : FVec Ideal S512x256 .bf16) (v305 : FVec Ideal S512x256 .bf16) (E2 : BufTy.Contents (Elt Ideal) y2.view.ty) (E3 : BufTy.Contents (Elt Ideal) y3.view.ty) (E4 : BufTy.Contents (Elt Ideal) y4.view.ty) (E6 : BufTy.Contents (Elt Ideal) y6.view.ty) (E8 : BufTy.Contents (Elt Ideal) y8.view.ty) (k : Fin (k0_t5_loop i).trips) (acc : FVec Ideal S512x1 .f32 × FVec Ideal S512x1 .f32) (t9 : BufTy.Contents (Elt Ideal) y9.view.ty) (t10 : BufTy.Contents (Elt Ideal) y10.view.ty) (t11 : BufTy.Contents (Elt Ideal) y11.view.ty)
    (I : Ins) (hn : I.n = (i 0).val) (hq : y2.view.read (Elt Ideal) E2 = I.q) (hk : y3.view.read (Elt Ideal) E3 = I.kk) (hv : y4.view.read (Elt Ideal) E4 = I.vv)
    (hb : y6.view.read (Elt Ideal) E6 = I.bd) (hm : y8.view.read (Elt Ideal) E8 = I.ms)
include 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k I hn hq hk hv hb hm

theorem sc5 (r : Fin 2) (u : Fin 4) (a : Fin 512) (b : Fin 256) :
    scr5 i y2 y3 y6 y8 k0_h2 E2 E3 E6 E8 k r u
      (ix3 0 a b) = sc I 1 (2 * k.val + 1 + r.val) u a b := by
  have hk3 := lt_of_lt_of_eq k.isLt (trips5 i)
  have hi := grid_lt i
  exact lg_read I (h := 1) (j := 4 * (2 * k.val + 1 + r.val) + u.val) y3.view y2.view y6.view y8.view E3 E2 E6 E8 hq hk hb hm
    (k0_off16_inb i k k0_h2 r u) (inq 128 (by decide)) (k0_off17_inb i k k0_h2 r u) (k0_off18_inb i k k0_h2 r u) (by omega)
    (off16_eq i k r u) rfl (by rw [hn]; exact off17_eq i k r u) (off18_eq i k r u) a b

include acc t9 t10 t11

/-- One trip of the loop: two groups further. -/
theorem step5 (h21 : ∀ y, v21 y = 1)
    (m1 : ∀ a, acc.1 (ix2 a 0) = M I 1 (2 * k.val) a) (m2 : ∀ a, acc.2 (ix2 a 0) = M I 1 (2 * k.val + 1) a)
    (s1 : ∀ u a b, y10.view.read (Elt Ideal) t10 (ix3 u a b) = sc I 1 (2 * k.val) u a b)
    (a1 : ∀ a d, y11.view.read (Elt Ideal) t11 (ix3 1 a d) = A I 1 (2 * k.val) a d) :
    (∀ a, (tripR_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).1 (ix2 a 0) = M I 1 (2 * k.val + 2) a)
    ∧ (∀ a, (tripR_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).2 (ix2 a 0) = M I 1 (2 * k.val + 3) a)
    ∧ (∀ u a b, y10.view.read (Elt Ideal) (y10.view.writes (Elt Ideal) t10 (tripL_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).2.1) (ix3 u a b) = sc I 1 (2 * k.val + 2) u a b)
    ∧ (∀ a d, y11.view.read (Elt Ideal) (y11.view.writes (Elt Ideal) t11 (tripL_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).2.2) (ix3 1 a d) = A I 1 (2 * k.val + 2) a d)
    ∧ (∀ a d, y11.view.read (Elt Ideal) (y11.view.writes (Elt Ideal) t11 (tripL_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).2.2) (ix3 0 a d) = y11.view.read (Elt Ideal) t11 (ix3 0 a d)) := by
  have hk3 := lt_of_lt_of_eq k.isLt (trips5 i)
  have hi := grid_lt i
  have SC := sc5 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k I hn hq hk hv hb hm
  have e1 : ∀ a, (tripR_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).1 (ix2 a 0) = M I 1 (2 * k.val + 2) a := by
    intro a
    rw [R5]
    exact M_step I (h := 1) (g := 2 * k.val + 1) _ _ _ _ acc.2 m2
      (fun a b => (lg2_apply _ _ _ _ a b).trans (SC 0 0 a b))
      (fun a b => (lg2_apply _ _ _ _ a b).trans (SC 0 1 a b))
      (fun a b => (lg2_apply _ _ _ _ a b).trans (SC 0 2 a b))
      (fun a b => (lg2_apply _ _ _ _ a b).trans (SC 0 3 a b)) a
  refine ⟨e1, ?_, ?_, ?_, ?_⟩
  · intro a
    rw [R5']
    exact M_step I (h := 1) (g := 2 * k.val + 2) _ _ _ _ _ e1
      (fun a b => (lg2_apply _ _ _ _ a b).trans (SC 1 0 a b))
      (fun a b => (lg2_apply _ _ _ _ a b).trans (SC 1 1 a b))
      (fun a b => (lg2_apply _ _ _ _ a b).trans (SC 1 2 a b))
      (fun a b => (lg2_apply _ _ _ _ a b).trans (SC 1 3 a b)) a
  · intro u a b
    rw [L5a]
    exact read_four y10.view t10 (sc I 1 (2 * k.val + 2)) _ _ _ _ _ _ _ _
      (fun a b => SC 1 0 a b)
      (fun a b => SC 1 1 a b)
      (fun a b => SC 1 2 a b)
      (fun a b => SC 1 3 a b) [] u a b
  · intro a d
    rw [L5c]
    refine (hit11 y11.view t11 1 _ _ a d).trans ?_
    have cov : ∀ (u : Fin 4) (a : Fin 512) (b : Fin 256), y9.view.readCov (tripL_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k acc t9 t10 t11).1 (Rect.unit (s := S4x512x256) ![u.val, 0, 0] S1x512x256.size (in4 u)).toLoadRect (ix3 0 a b)
        = sc I 1 (2 * k.val + 1) u a b := by
      intro u a b
      refine (at4 y9.view _ u a b).trans ?_
      rw [L5b]
      exact read_four y9.view _ (sc I 1 (2 * k.val + 1)) _ _ _ _ _ _ _ _
        (fun a b => SC 0 0 a b)
        (fun a b => SC 0 1 a b)
        (fun a b => SC 0 2 a b)
        (fun a b => SC 0 3 a b) [] u a b
    refine A_step I (h := 1) (g := 2 * k.val + 1) y4.view E4 hv (k0_off20_inb i k k0_h2) (by omega) (off20_eq i k) v21 acc.2 _ _ _ _ _ _ h21 m2 e1
      (cov 0) (cov 1) (cov 2) (cov 3) ?_ a d
    intro a d
    refine (at11 y11.view _ 1 a d).trans ?_
    refine (hit11 y11.view _ 1 _ _ a d).trans ?_
    refine A_step I (h := 1) (g := 2 * k.val) y4.view E4 hv (k0_off19_inb i k k0_h2) (by omega) (off19_eq i k) v21 acc.1 acc.2 _ _ _ _ _ h21 m1 m2
      (fun a b => (at4 y10.view t10 0 a b).trans (s1 0 a b)) (fun a b => (at4 y10.view t10 1 a b).trans (s1 1 a b))
      (fun a b => (at4 y10.view t10 2 a b).trans (s1 2 a b)) (fun a b => (at4 y10.view t10 3 a b).trans (s1 3 a b)) ?_ a d
    intro a d
    exact (at11 y11.view t11 1 a d).trans (a1 a d)
  · intro a d
    rw [L5c]
    refine (miss11 y11.view t11 1 0 (by decide) _ _ a d).trans ?_
    exact miss11 y11.view t11 1 0 (by decide) _ [] a d

end

/-- The loop by its trips. -/
theorem loop5 (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec Ideal S1024x128 .bf16) (v29 : FVec Ideal S512x1 .f32) (v47 : BitVec 32) (v48 : BitVec 32) (k0_h2 : k0_cond2 i = 1#1) (v185_0 : FVec Ideal S512x1 .f32) (v185_1 : FVec Ideal S512x1 .f32) (v293 : FVec Ideal S512x1 .f32) (v295 : FVec Ideal S512x256 .f32) (v300 : FVec Ideal S512x256 .bf16) (v305 : FVec Ideal S512x256 .bf16) (E2 : BufTy.Contents (Elt Ideal) y2.view.ty) (E3 : BufTy.Contents (Elt Ideal) y3.view.ty) (E4 : BufTy.Contents (Elt Ideal) y4.view.ty) (E6 : BufTy.Contents (Elt Ideal) y6.view.ty) (E8 : BufTy.Contents (Elt Ideal) y8.view.ty) (G9 : BufTy.Contents (Elt Ideal) y9.view.ty) (G10 : BufTy.Contents (Elt Ideal) y10.view.ty) (G11 : BufTy.Contents (Elt Ideal) y11.view.ty) (init : FVec Ideal S512x1 .f32 × FVec Ideal S512x1 .f32)
    (I : Ins) (hn : I.n = (i 0).val) (hq : y2.view.read (Elt Ideal) E2 = I.q) (hk : y3.view.read (Elt Ideal) E3 = I.kk) (hv : y4.view.read (Elt Ideal) E4 = I.vv)
    (hb : y6.view.read (Elt Ideal) E6 = I.bd) (hm : y8.view.read (Elt Ideal) E8 = I.ms) (h21 : ∀ y, v21 y = 1) (h0 : Inv I 1 0 y10.view y11.view G10 G11 G11 init 0) (n : ℕ) (hle : n ≤ (k0_t5_loop i).trips) :
    Inv I 1 0 y10.view y11.view (y10.view.writes (Elt Ideal) G10 (st_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 G9 G10 G11 init n).2.2.1)
      (y11.view.writes (Elt Ideal) G11 (st_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 G9 G10 G11 init n).2.2.2) G11 (st_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 G9 G10 G11 init n).1 n := by
  induction n with
  | zero => exact h0
  | succ n ih =>
    have h := ih (by omega)
    have key : ∀ k : Fin (k0_t5_loop i).trips, Inv I 1 0 y10.view y11.view (y10.view.writes (Elt Ideal) G10 (st_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 G9 G10 G11 init k.val).2.2.1)
      (y11.view.writes (Elt Ideal) G11 (st_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 G9 G10 G11 init k.val).2.2.2) G11 (st_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 G9 G10 G11 init k.val).1 k.val →
        Inv I 1 0 y10.view y11.view (y10.view.writes (Elt Ideal) G10 (st_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 G9 G10 G11 init (k.val + 1)).2.2.1)
      (y11.view.writes (Elt Ideal) G11 (st_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 G9 G10 G11 init (k.val + 1)).2.2.2) G11 (st_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 G9 G10 G11 init (k.val + 1)).1 (k.val + 1) := by
      intro k ⟨m1, m2, s1, a1, o1⟩
      rw [st_k0_t5_succ]
      obtain ⟨r1, r2, r3, r4, r5⟩ := step5 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 k _ (y9.view.writes (Elt Ideal) G9 (st_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 G9 G10 G11 init k.val).2.1) (y10.view.writes (Elt Ideal) G10 (st_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 G9 G10 G11 init k.val).2.2.1)
        (y11.view.writes (Elt Ideal) G11 (st_k0_t5 (F := Ideal) 𝒱 c bd i y2 u2 y3 u3 y4 u4 y5 u5 y6 u6 y7 u7 y8 u8 y9 u9 y10 u10 y11 u11 y0 v21 v29 v47 v48 k0_h2 v185_0 v185_1 v293 v295 v300 v305 E2 E3 E4 E6 E8 G9 G10 G11 init k.val).2.2.2) I hn hq hk hv hb hm h21 m1 m2 s1 a1
      refine ⟨r1, r2, ?_, ?_, ?_⟩
      · intro u a b
        dsimp only
        rw [writes_app]
        exact r3 u a b
      · intro a d
        dsimp only
        rw [writes_app]
        exact r4 a d
      · intro a d
        dsimp only
        rw [writes_app]
        exact (r5 a d).trans (o1 a d)
    exact key ⟨n, by omega⟩ h

end Cert.AttentionIdeal.Attn

end
-- ==== Proof.AttnIdeal.ReadOdd.lean ====
/- The attention over the ideal numbers: what a program of an odd number of groups leaves. -/
module

public import proofs.«01_k».proof.Proof.AttnIdeal.Setup
public import proofs.«01_k».proof.Proof.AttnIdeal.Read
public import proofs.«01_k».proof.Proof.AttnIdeal.Ends
public import proofs.«01_k».proof.Proof.AttnIdeal.Trip3
public import proofs.«01_k».proof.Proof.AttnIdeal.Trip5
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 2000000 in
/-- An odd number of groups: the sums that are left. -/
theorem odd_read (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc : k0_cond2 i = 1#1) (X2 : y2.view.ty.Contents (Elt Ideal)) (X3 : y3.view.ty.Contents (Elt Ideal)) (X4 : y4.view.ty.Contents (Elt Ideal)) (X6 : y6.view.ty.Contents (Elt Ideal)) (f8 : y8.view.ty.Contents (Elt Ideal)) (f10 : y10.view.ty.Contents (Elt Ideal))
    (L : List (View.Piece (Elt Ideal) S2x512x256 .f32)) (H : Odd (F := Ideal) c i y2 u2 y3 u3 y4 u4 y5 u5 y6 u6 y7 u7 y8 u8 y9 u9 y10 u10 y11 u11 hc X2 X3 X4 X6 f8 f10 L)
    (I : Ins) (hn : I.n = (i 0).val) (hq : y2.view.read (Elt Ideal) X2 = I.q) (hk : y3.view.read (Elt Ideal) X3 = I.kk) (hv : y4.view.read (Elt Ideal) X4 = I.vv)
    (hb : y6.view.read (Elt Ideal) X6 = I.bd) (hm : y8.view.read (Elt Ideal) f8 = I.ms) (h : Fin 2) (a : Fin 512) (d : Fin 256) :
    y11.view.read (Elt Ideal) (y11.view.writes (Elt Ideal) y11.view.junk L) (ix3 h a d) = A I h ((i 0).val / 2 + 1) a d := by
  obtain ⟨S3, S4, S5, S6, v47, v48, v149, v168, va, vb, vc, vd, ve, vf, g9, T10, P9, P10, L0, m0, m1, hP9, hm0, hS3, hS4, hL0, hP10, hm1, hS5, hS6, hL⟩ := H
  have hi := grid_lt i
  have cm := cond2_mod i hc
  have en : (i 0).val / 2 + 1 = 2 * ((i 0).val / 4) + 1 := by omega
  have p9 : ∀ f u a b, y9.view.read (Elt Ideal) (y9.view.writes (Elt Ideal) f P9) (ix3 u a b) = sc I 0 0 u a b := by
    intro f u a b
    rw [hP9]
    exact put_read I (h := 0) (g := 0) y3.view y2.view y6.view y8.view X3 X2 X6 f8 hq hk hb hm _ _ _ _ (by omega) lit_ok0 rfl (fun u => by rw [hn]; exact off3_eq i u) lit_om y9.view f [] u a b
  have e0 : ∀ a, m0 (ix2 a 0) = M I 0 1 a := by
    intro a
    rw [hm0]
    exact mxs_apply I (h := 0) (g := 0) y3.view y2.view y6.view y8.view X3 X2 X6 f8 hq hk hb hm _ _ _ _ (by omega) lit_ok0 rfl (fun u => by rw [hn]; exact off3_eq i u) lit_om k0_pay396 (mask_apply I 0) a
  have h0_3 : Inv I 0 1 y9.view y11.view (y9.view.writes (Elt Ideal) y9.view.junk P9) (y11.view.writes (Elt Ideal) y11.view.junk zeros) (y11.view.writes (Elt Ideal) y11.view.junk zeros) (k0_pay396, m0) 0 :=
    ⟨mask_apply I 0, e0, p9 _, zeros_read I _ _ 0, fun _ _ => rfl⟩
  have k3 := loop3 Variants.none c none i y2 u2 y3 u3 y4 u4 y5 u5 y6 u6 y7 u7 y8 u8 y9 u9 y10 u10 y11 u11 (BitVec.ofNat 32 (i 0).val) k0_pay392 k0_pay396 v47 hc v149 v168 X2 X3 X4 X6 f8 _ f10 _ _ I hn hq hk hv hb hm ones_apply h0_3 ((i 0).val / 4) (le_of_eq (trips3 i).symm)
  rw [show Scf.trips (k0_t3_loop i).lb (k0_t3_loop i).ub (k0_t3_loop i).st = (i 0).val / 4 from trips3 i] at hS3
  rw [← hS3] at k3
  obtain ⟨a1, a2, a3, a4, a5⟩ := k3
  subst hS4
  have q0 : ∀ f a d, y11.view.read (Elt Ideal) (y11.view.writes (Elt Ideal) f L0) (ix3 0 a d) = A I 0 (2 * ((i 0).val / 4) + 1) a d := by
    intro f a d
    rw [hL0]
    refine fold_hit I (h := 0) y4.view X4 hv _ (by omega) (off15_eq i) _ _ a1 a2 y9.view _ y11.view f _ ?_ ?_ a d
    · intro u a b
      have := a3 u a b
      rw [← writes_app] at this
      exact this
    · intro a d
      have := a4 a d
      rw [← writes_app] at this
      exact this
  have z0 : ∀ a d, y11.view.read (Elt Ideal) (y11.view.writes (Elt Ideal) y11.view.junk L0) (ix3 1 a d) = A I 1 0 a d := by
    intro a d
    rw [hL0]
    refine (fold_miss (h := 0) (h' := 1) (by decide) _ _ _ _ _ _ _ _ _ _ a d).trans ?_
    have := a5 a d
    rw [← writes_app] at this
    exact this.trans (zeros_read I _ _ 1 a d)
  have p10 : ∀ f u a b, y10.view.read (Elt Ideal) (y10.view.writes (Elt Ideal) f P10) (ix3 u a b) = sc I 1 0 u a b := by
    intro f u a b
    rw [hP10]
    exact put_read I (h := 1) (g := 0) y3.view y2.view y6.view y8.view X3 X2 X6 f8 hq hk hb hm _ _ _ _ (by omega) lit_ok1 rfl (fun u => by rw [hn]; exact off14_eq i u) lit_om y10.view f T10 u a b
  have e1 : ∀ a, m1 (ix2 a 0) = M I 1 1 a := by
    intro a
    rw [hm1]
    exact mxs_apply I (h := 1) (g := 0) y3.view y2.view y6.view y8.view X3 X2 X6 f8 hq hk hb hm _ _ _ _ (by omega) lit_ok1 rfl (fun u => by rw [hn]; exact off14_eq i u) lit_om k0_pay396 (mask_apply I 1) a
  have h0_5 : Inv I 1 0 y10.view y11.view (y10.view.writes (Elt Ideal) y10.view.junk P10) (y11.view.writes (Elt Ideal) y11.view.junk L0) (y11.view.writes (Elt Ideal) y11.view.junk L0) (k0_pay396, m1) 0 :=
    ⟨mask_apply I 1, e1, p10 _, z0, fun _ _ => rfl⟩
  have k5 := loop5 Variants.none c none i y2 u2 y3 u3 y4 u4 y5 u5 y6 u6 y7 u7 y8 u8 y9 u9 y10 u10 y11 u11 (BitVec.ofNat 32 (i 0).val) k0_pay392 k0_pay396 v47 v48 hc va vb vc vd ve vf X2 X3 X4 X6 f8 g9 _ _ _ I hn hq hk hv hb hm ones_apply h0_5 ((i 0).val / 4) (le_of_eq (trips5 i).symm)
  rw [show Scf.trips (k0_t5_loop i).lb (k0_t5_loop i).ub (k0_t5_loop i).st = (i 0).val / 4 from trips5 i] at hS5
  rw [← hS5] at k5
  obtain ⟨b1, b2, b3, b4, b5⟩ := k5
  subst hS6
  rw [en, hL]
  match h with
  | ⟨0, _⟩ =>
    refine (fold_miss (h := 1) (h' := 0) (by decide) _ _ _ _ _ _ _ _ _ _ a d).trans ?_
    have := b5 a d
    rw [← writes_app] at this
    exact this.trans (q0 _ a d)
  | ⟨1, _⟩ =>
    refine fold_hit I (h := 1) y4.view X4 hv _ (by omega) (off26_eq i) _ _ b1 b2 y10.view _ y11.view _ _ ?_ ?_ a d
    · intro u a b
      have := b3 u a b
      rw [← writes_app] at this
      exact this
    · intro a d
      have := b4 a d
      rw [← writes_app] at this
      exact this

end Cert.AttentionIdeal.Attn

end
-- ==== Proof.AttnIdeal.Trip7.lean ====
/- The attention over the ideal numbers: what one trip of the loop `k0_t7` computes. -/
module

public import proofs.«01_k».proof.Proof.AttnIdeal.Setup
public import proofs.«01_k».proof.Proof.AttnIdeal.Groups
public import proofs.«01_k».proof.Proof.AttnIdeal.Offsets
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
/-- The scores that a trip makes of block `u` of its group `r`, in the two shapes that it keeps. -/
abbrev pay7 (i : grid0.Coords) (y2 : Memref sig .tc .vmem S512x256 .bf16) (y3 : Memref sig .tc .vmem S8192x256 .bf16) (y6 : Memref sig .tc .vmem S4x2x512x256 .f32) (y8 : Memref sig .tc .vmem S32x512x256 .f32)
    (k0_h3 : k0_cond3 i = 1#1) (E2 : BufTy.Contents (Elt F) y2.view.ty) (E3 : BufTy.Contents (Elt F) y3.view.ty) (E6 : BufTy.Contents (Elt F) y6.view.ty) (E8 : BufTy.Contents (Elt F) y8.view.ty) (k : Fin (k0_t7_loop i).trips) (r : Fin 2) (u : Fin 4) :=
  k0_pay2 (y3.view.readAt (Elt F) (Rect.unit (s := S8192x256) (k0_off28 i k (BitVec.ofNat 32 (1 + r.val)) (BitVec.ofNat 32 u.val)) S256x128.size (k0_off28_inb i k k0_h3 r u)).toLoadRect E3) (y2.view.readAt (Elt F) (Rect.unit (s := S512x256) ![0, 0] S512x128.size (inq 0 (by decide))).toLoadRect E2) (y6.view.readAt (Elt F) (Rect.unit (s := S4x2x512x256) (k0_off29 i k (BitVec.ofNat 32 (1 + r.val)) (BitVec.ofNat 32 u.val)) S1x1x512x256.size (k0_off29_inb i k k0_h3 r u)).toLoadRect E6) (y8.view.readAt (Elt F) (Rect.unit (s := S32x512x256) (k0_off30 i k (BitVec.ofNat 32 (1 + r.val)) (BitVec.ofNat 32 u.val)) S1x512x256.size (k0_off30_inb i k k0_h3 r u)).toLoadRect E8)

abbrev scr7 (i : grid0.Coords) (y2 : Memref sig .tc .vmem S512x256 .bf16) (y3 : Memref sig .tc .vmem S8192x256 .bf16) (y6 : Memref sig .tc .vmem S4x2x512x256 .f32) (y8 : Memref sig .tc .vmem S32x512x256 .f32)
    (k0_h3 : k0_cond3 i = 1#1) (E2 : BufTy.Contents (Elt F) y2.view.ty) (E3 : BufTy.Contents (Elt F) y3.view.ty) (E6 : BufTy.Contents (Elt F) y6.view.ty) (E8 : BufTy.Contents (Elt F) y8.view.ty) (k : Fin (k0_t7_loop i).trips) (r : Fin 2) (u : Fin 4) :=
  lg (y3.view.readAt (Elt F) (Rect.unit (s := S8192x256) (k0_off28 i k (BitVec.ofNat 32 (1 + r.val)) (BitVec.ofNat 32 u.val)) S256x128.size (k0_off28_inb i k k0_h3 r u)).toLoadRect E3) (y2.view.readAt (Elt F) (Rect.unit (s := S512x256) ![0, 0] S512x128.size (inq 0 (by decide))).toLoadRect E2) (y6.view.readAt (Elt F) (Rect.unit (s := S4x2x512x256) (k0_off29 i k (BitVec.ofNat 32 (1 + r.val)) (BitVec.ofNat 32 u.val)) S1x1x512x256.size (k0_off29_inb i k k0_h3 r u)).toLoadRect E6) (y8.view.readAt (Elt F) (Rect.unit (s := S32x512x256) (k0_off30 i k (BitVec.ofNat 32 (1 + r.val)) (BitVec.ofNat 32 u.val)) S1x512x256.size (k0_off30_inb i k k0_h3 r u)).toLoadRect E8)

/-- The sums after the first group of a trip. -/
def old7 (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec F S1024x128 .bf16) (v29 : FVec F S512x1 .f32) (v47 : BitVec 32) (v48 : BitVec 32) (k0_h3 : k0_cond3 i = 1#1) (v149 : FVec F S512x128 .f32) (v168 : FVec F S512x256 .f32) (E2 : BufTy.Contents (Elt F) y2.view.ty) (E3 : BufTy.Contents (Elt F) y3.view.ty) (E4 : BufTy.Contents (Elt F) y4.view.ty) (E6 : BufTy.Contents (Elt F) y6.view.ty) (E8 : BufTy.Contents (Elt F) y8.view.ty) (k : Fin (k0_t7_loop i).trips) (acc : FVec F S512x1 .f32 × FVec F S512x1 .f32) (t9 : BufTy.Contents (Elt F) y9.view.ty) (t10 : BufTy.Contents (Elt F) y10.view.ty) (t11 : BufTy.Contents (Elt F) y11.view.ty) : List (View.Piece (Elt F) S2x512x256 .f32) :=
    [⟨(Rect.unit (s := S2x512x256) ![0, 0, 0] S1x512x256.size (in2 0)), vl v21 (y4.view.readAt (Elt F) (Rect.unit (s := S8192x256) (k0_off31 i k) S1024x128.size (k0_off31_inb i k k0_h3)).toLoadRect E4) acc.1 acc.2
      (y9.view.readAt (Elt F) (Rect.unit (s := S4x512x256) ![0, 0, 0] S1x512x256.size (in4 0)).toLoadRect t9)
      (y9.view.readAt (Elt F) (Rect.unit (s := S4x512x256) ![1, 0, 0] S1x512x256.size (in4 1)).toLoadRect t9)
      (y9.view.readAt (Elt F) (Rect.unit (s := S4x512x256) ![2, 0, 0] S1x512x256.size (in4 2)).toLoadRect t9)
      (y9.view.readAt (Elt F) (Rect.unit (s := S4x512x256) ![3, 0, 0] S1x512x256.size (in4 3)).toLoadRect t9)
      (y11.view.readAt (Elt F) (Rect.unit (s := S2x512x256) ![0, 0, 0] S1x512x256.size (in2 0)).toLoadRect t11)⟩]

section

variable (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec F S1024x128 .bf16) (v29 : FVec F S512x1 .f32) (v47 : BitVec 32) (v48 : BitVec 32) (k0_h3 : k0_cond3 i = 1#1) (v149 : FVec F S512x128 .f32) (v168 : FVec F S512x256 .f32) (E2 : BufTy.Contents (Elt F) y2.view.ty) (E3 : BufTy.Contents (Elt F) y3.view.ty) (E4 : BufTy.Contents (Elt F) y4.view.ty) (E6 : BufTy.Contents (Elt F) y6.view.ty) (E8 : BufTy.Contents (Elt F) y8.view.ty) (k : Fin (k0_t7_loop i).trips) (acc : FVec F S512x1 .f32 × FVec F S512x1 .f32) (t9 : BufTy.Contents (Elt F) y9.view.ty) (t10 : BufTy.Contents (Elt F) y10.view.ty) (t11 : BufTy.Contents (Elt F) y11.view.ty)
include 𝒱 c bd i y2 u2 y3 u3 y4 u4 y5 u5 y6 u6 y7 u7 y8 u8 y9 u9 y10 u10 y11 u11 y0 v21 v29 v47 v48 k0_h3 v149 v168 E2 E3 E4 E6 E8 k acc t9 t10 t11

/-- The maxima a trip carries on. -/
theorem R7 :
    (tripR_k0_t7 (F := F) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).1 = mx (pay7 i y2 y3 y6 y8 k0_h3 E2 E3 E6 E8 k 0 0)
      (pay7 i y2 y3 y6 y8 k0_h3 E2 E3 E6 E8 k 0 1)
      (pay7 i y2 y3 y6 y8 k0_h3 E2 E3 E6 E8 k 0 2)
      (pay7 i y2 y3 y6 y8 k0_h3 E2 E3 E6 E8 k 0 3)
      acc.2 := by
  unfold tripR_k0_t7 trip_k0_t7
  rfl

theorem R7' :
    (tripR_k0_t7 (F := F) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).2 = mx (pay7 i y2 y3 y6 y8 k0_h3 E2 E3 E6 E8 k 1 0)
      (pay7 i y2 y3 y6 y8 k0_h3 E2 E3 E6 E8 k 1 1)
      (pay7 i y2 y3 y6 y8 k0_h3 E2 E3 E6 E8 k 1 2)
      (pay7 i y2 y3 y6 y8 k0_h3 E2 E3 E6 E8 k 1 3)
      (tripR_k0_t7 (F := F) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).1 := by
  unfold tripR_k0_t7 trip_k0_t7
  rfl

/-- The scores a trip stores. -/
theorem L7a :
    (tripL_k0_t7 (F := F) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).1 = [⟨Rect.unit (s := S4x512x256) ![3, 0, 0] S1x512x256.size (in4 3), (scr7 i y2 y3 y6 y8 k0_h3 E2 E3 E6 E8 k 1 3)⟩,
      ⟨Rect.unit (s := S4x512x256) ![2, 0, 0] S1x512x256.size (in4 2), (scr7 i y2 y3 y6 y8 k0_h3 E2 E3 E6 E8 k 1 2)⟩,
      ⟨Rect.unit (s := S4x512x256) ![1, 0, 0] S1x512x256.size (in4 1), (scr7 i y2 y3 y6 y8 k0_h3 E2 E3 E6 E8 k 1 1)⟩,
      ⟨Rect.unit (s := S4x512x256) ![0, 0, 0] S1x512x256.size (in4 0), (scr7 i y2 y3 y6 y8 k0_h3 E2 E3 E6 E8 k 1 0)⟩] := by
  unfold tripL_k0_t7 trip_k0_t7
  rfl

theorem L7b :
    (tripL_k0_t7 (F := F) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).2.1 = [⟨Rect.unit (s := S4x512x256) ![3, 0, 0] S1x512x256.size (in4 3), (scr7 i y2 y3 y6 y8 k0_h3 E2 E3 E6 E8 k 0 3)⟩,
      ⟨Rect.unit (s := S4x512x256) ![2, 0, 0] S1x512x256.size (in4 2), (scr7 i y2 y3 y6 y8 k0_h3 E2 E3 E6 E8 k 0 2)⟩,
      ⟨Rect.unit (s := S4x512x256) ![1, 0, 0] S1x512x256.size (in4 1), (scr7 i y2 y3 y6 y8 k0_h3 E2 E3 E6 E8 k 0 1)⟩,
      ⟨Rect.unit (s := S4x512x256) ![0, 0, 0] S1x512x256.size (in4 0), (scr7 i y2 y3 y6 y8 k0_h3 E2 E3 E6 E8 k 0 0)⟩] := by
  unfold tripL_k0_t7 trip_k0_t7
  rfl

/-- The sums a trip stores. -/
theorem L7c :
    (tripL_k0_t7 (F := F) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).2.2 = ⟨(Rect.unit (s := S2x512x256) ![0, 0, 0] S1x512x256.size (in2 0)), vl v21 (y4.view.readAt (Elt F) (Rect.unit (s := S8192x256) (k0_off32 i k) S1024x128.size (k0_off32_inb i k k0_h3)).toLoadRect E4) acc.2 (tripR_k0_t7 (F := F) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).1
      (y10.view.readCov (tripL_k0_t7 (F := F) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).2.1 (Rect.unit (s := S4x512x256) ![0, 0, 0] S1x512x256.size (in4 0)).toLoadRect)
      (y10.view.readCov (tripL_k0_t7 (F := F) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).2.1 (Rect.unit (s := S4x512x256) ![1, 0, 0] S1x512x256.size (in4 1)).toLoadRect)
      (y10.view.readCov (tripL_k0_t7 (F := F) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).2.1 (Rect.unit (s := S4x512x256) ![2, 0, 0] S1x512x256.size (in4 2)).toLoadRect)
      (y10.view.readCov (tripL_k0_t7 (F := F) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).2.1 (Rect.unit (s := S4x512x256) ![3, 0, 0] S1x512x256.size (in4 3)).toLoadRect)
      (y11.view.readCov (old7 𝒱 c bd i y2 u2 y3 u3 y4 u4 y5 u5 y6 u6 y7 u7 y8 u8 y9 u9 y10 u10 y11 u11 y0 v21 v29 v47 v48 k0_h3 v149 v168 E2 E3 E4 E6 E8 k acc t9 t10 t11) (Rect.unit (s := S2x512x256) ![0, 0, 0] S1x512x256.size (in2 0)).toLoadRect)⟩ :: old7 𝒱 c bd i y2 u2 y3 u3 y4 u4 y5 u5 y6 u6 y7 u7 y8 u8 y9 u9 y10 u10 y11 u11 y0 v21 v29 v47 v48 k0_h3 v149 v168 E2 E3 E4 E6 E8 k acc t9 t10 t11 := by
  unfold tripL_k0_t7 tripR_k0_t7 trip_k0_t7
  rfl

end

section

variable (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec Ideal S1024x128 .bf16) (v29 : FVec Ideal S512x1 .f32) (v47 : BitVec 32) (v48 : BitVec 32) (k0_h3 : k0_cond3 i = 1#1) (v149 : FVec Ideal S512x128 .f32) (v168 : FVec Ideal S512x256 .f32) (E2 : BufTy.Contents (Elt Ideal) y2.view.ty) (E3 : BufTy.Contents (Elt Ideal) y3.view.ty) (E4 : BufTy.Contents (Elt Ideal) y4.view.ty) (E6 : BufTy.Contents (Elt Ideal) y6.view.ty) (E8 : BufTy.Contents (Elt Ideal) y8.view.ty) (k : Fin (k0_t7_loop i).trips) (acc : FVec Ideal S512x1 .f32 × FVec Ideal S512x1 .f32) (t9 : BufTy.Contents (Elt Ideal) y9.view.ty) (t10 : BufTy.Contents (Elt Ideal) y10.view.ty) (t11 : BufTy.Contents (Elt Ideal) y11.view.ty)
    (I : Ins) (hn : I.n = (i 0).val) (hq : y2.view.read (Elt Ideal) E2 = I.q) (hk : y3.view.read (Elt Ideal) E3 = I.kk) (hv : y4.view.read (Elt Ideal) E4 = I.vv)
    (hb : y6.view.read (Elt Ideal) E6 = I.bd) (hm : y8.view.read (Elt Ideal) E8 = I.ms)
include 𝒱 c bd i y2 u2 y3 u3 y4 u4 y5 u5 y6 u6 y7 u7 y8 u8 y9 u9 y10 u10 y11 u11 y0 v21 v29 v47 v48 k0_h3 v149 v168 E2 E3 E4 E6 E8 k I hn hq hk hv hb hm

theorem sc7 (r : Fin 2) (u : Fin 4) (a : Fin 512) (b : Fin 256) :
    scr7 i y2 y3 y6 y8 k0_h3 E2 E3 E6 E8 k r u
      (ix3 0 a b) = sc I 0 (2 * k.val + 1 + r.val) u a b := by
  have hk3 := lt_of_lt_of_eq k.isLt (trips7 i)
  have hi := grid_lt i
  exact lg_read I (h := 0) (j := 4 * (2 * k.val + 1 + r.val) + u.val) y3.view y2.view y6.view y8.view E3 E2 E6 E8 hq hk hb hm
    (k0_off28_inb i k k0_h3 r u) (inq 0 (by decide)) (k0_off29_inb i k k0_h3 r u) (k0_off30_inb i k k0_h3 r u) (by omega)
    (off28_eq i k r u) rfl (by rw [hn]; exact off29_eq i k r u) (off30_eq i k r u) a b

include acc t9 t10 t11

/-- One trip of the loop: two groups further. -/
theorem step7 (h21 : ∀ y, v21 y = 1)
    (m1 : ∀ a, acc.1 (ix2 a 0) = M I 0 (2 * k.val) a) (m2 : ∀ a, acc.2 (ix2 a 0) = M I 0 (2 * k.val + 1) a)
    (s1 : ∀ u a b, y9.view.read (Elt Ideal) t9 (ix3 u a b) = sc I 0 (2 * k.val) u a b)
    (a1 : ∀ a d, y11.view.read (Elt Ideal) t11 (ix3 0 a d) = A I 0 (2 * k.val) a d) :
    (∀ a, (tripR_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).1 (ix2 a 0) = M I 0 (2 * k.val + 2) a)
    ∧ (∀ a, (tripR_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).2 (ix2 a 0) = M I 0 (2 * k.val + 3) a)
    ∧ (∀ u a b, y9.view.read (Elt Ideal) (y9.view.writes (Elt Ideal) t9 (tripL_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).1) (ix3 u a b) = sc I 0 (2 * k.val + 2) u a b)
    ∧ (∀ a d, y11.view.read (Elt Ideal) (y11.view.writes (Elt Ideal) t11 (tripL_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).2.2) (ix3 0 a d) = A I 0 (2 * k.val + 2) a d)
    ∧ (∀ a d, y11.view.read (Elt Ideal) (y11.view.writes (Elt Ideal) t11 (tripL_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).2.2) (ix3 1 a d) = y11.view.read (Elt Ideal) t11 (ix3 1 a d)) := by
  have hk3 := lt_of_lt_of_eq k.isLt (trips7 i)
  have hi := grid_lt i
  have SC := sc7 𝒱 c bd i y2 u2 y3 u3 y4 u4 y5 u5 y6 u6 y7 u7 y8 u8 y9 u9 y10 u10 y11 u11 y0 v21 v29 v47 v48 k0_h3 v149 v168 E2 E3 E4 E6 E8 k I hn hq hk hv hb hm
  have e1 : ∀ a, (tripR_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).1 (ix2 a 0) = M I 0 (2 * k.val + 2) a := by
    intro a
    rw [R7]
    exact M_step I (h := 0) (g := 2 * k.val + 1) _ _ _ _ acc.2 m2
      (fun a b => (lg2_apply _ _ _ _ a b).trans (SC 0 0 a b))
      (fun a b => (lg2_apply _ _ _ _ a b).trans (SC 0 1 a b))
      (fun a b => (lg2_apply _ _ _ _ a b).trans (SC 0 2 a b))
      (fun a b => (lg2_apply _ _ _ _ a b).trans (SC 0 3 a b)) a
  refine ⟨e1, ?_, ?_, ?_, ?_⟩
  · intro a
    rw [R7']
    exact M_step I (h := 0) (g := 2 * k.val + 2) _ _ _ _ _ e1
      (fun a b => (lg2_apply _ _ _ _ a b).trans (SC 1 0 a b))
      (fun a b => (lg2_apply _ _ _ _ a b).trans (SC 1 1 a b))
      (fun a b => (lg2_apply _ _ _ _ a b).trans (SC 1 2 a b))
      (fun a b => (lg2_apply _ _ _ _ a b).trans (SC 1 3 a b)) a
  · intro u a b
    rw [L7a]
    exact read_four y9.view t9 (sc I 0 (2 * k.val + 2)) _ _ _ _ _ _ _ _
      (fun a b => SC 1 0 a b)
      (fun a b => SC 1 1 a b)
      (fun a b => SC 1 2 a b)
      (fun a b => SC 1 3 a b) [] u a b
  · intro a d
    rw [L7c]
    refine (hit11 y11.view t11 0 _ _ a d).trans ?_
    have cov : ∀ (u : Fin 4) (a : Fin 512) (b : Fin 256), y10.view.readCov (tripL_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 k acc t9 t10 t11).2.1 (Rect.unit (s := S4x512x256) ![u.val, 0, 0] S1x512x256.size (in4 u)).toLoadRect (ix3 0 a b)
        = sc I 0 (2 * k.val + 1) u a b := by
      intro u a b
      refine (at4 y10.view _ u a b).trans ?_
      rw [L7b]
      exact read_four y10.view _ (sc I 0 (2 * k.val + 1)) _ _ _ _ _ _ _ _
        (fun a b => SC 0 0 a b)
        (fun a b => SC 0 1 a b)
        (fun a b => SC 0 2 a b)
        (fun a b => SC 0 3 a b) [] u a b
    refine A_step I (h := 0) (g := 2 * k.val + 1) y4.view E4 hv (k0_off32_inb i k k0_h3) (by omega) (off32_eq i k) v21 acc.2 _ _ _ _ _ _ h21 m2 e1
      (cov 0) (cov 1) (cov 2) (cov 3) ?_ a d
    intro a d
    refine (at11 y11.view _ 0 a d).trans ?_
    refine (hit11 y11.view _ 0 _ _ a d).trans ?_
    refine A_step I (h := 0) (g := 2 * k.val) y4.view E4 hv (k0_off31_inb i k k0_h3) (by omega) (off31_eq i k) v21 acc.1 acc.2 _ _ _ _ _ h21 m1 m2
      (fun a b => (at4 y9.view t9 0 a b).trans (s1 0 a b)) (fun a b => (at4 y9.view t9 1 a b).trans (s1 1 a b))
      (fun a b => (at4 y9.view t9 2 a b).trans (s1 2 a b)) (fun a b => (at4 y9.view t9 3 a b).trans (s1 3 a b)) ?_ a d
    intro a d
    exact (at11 y11.view t11 0 a d).trans (a1 a d)
  · intro a d
    rw [L7c]
    refine (miss11 y11.view t11 0 1 (by decide) _ _ a d).trans ?_
    exact miss11 y11.view t11 0 1 (by decide) _ [] a d

end

/-- The loop by its trips. -/
theorem loop7 (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec Ideal S1024x128 .bf16) (v29 : FVec Ideal S512x1 .f32) (v47 : BitVec 32) (v48 : BitVec 32) (k0_h3 : k0_cond3 i = 1#1) (v149 : FVec Ideal S512x128 .f32) (v168 : FVec Ideal S512x256 .f32) (E2 : BufTy.Contents (Elt Ideal) y2.view.ty) (E3 : BufTy.Contents (Elt Ideal) y3.view.ty) (E4 : BufTy.Contents (Elt Ideal) y4.view.ty) (E6 : BufTy.Contents (Elt Ideal) y6.view.ty) (E8 : BufTy.Contents (Elt Ideal) y8.view.ty) (G9 : BufTy.Contents (Elt Ideal) y9.view.ty) (G10 : BufTy.Contents (Elt Ideal) y10.view.ty) (G11 : BufTy.Contents (Elt Ideal) y11.view.ty) (init : FVec Ideal S512x1 .f32 × FVec Ideal S512x1 .f32)
    (I : Ins) (hn : I.n = (i 0).val) (hq : y2.view.read (Elt Ideal) E2 = I.q) (hk : y3.view.read (Elt Ideal) E3 = I.kk) (hv : y4.view.read (Elt Ideal) E4 = I.vv)
    (hb : y6.view.read (Elt Ideal) E6 = I.bd) (hm : y8.view.read (Elt Ideal) E8 = I.ms) (h21 : ∀ y, v21 y = 1) (h0 : Inv I 0 1 y9.view y11.view G9 G11 G11 init 0) (n : ℕ) (hle : n ≤ (k0_t7_loop i).trips) :
    Inv I 0 1 y9.view y11.view (y9.view.writes (Elt Ideal) G9 (st_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 G9 G10 G11 init n).2.1)
      (y11.view.writes (Elt Ideal) G11 (st_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 G9 G10 G11 init n).2.2.2) G11 (st_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 G9 G10 G11 init n).1 n := by
  induction n with
  | zero => exact h0
  | succ n ih =>
    have h := ih (by omega)
    have key : ∀ k : Fin (k0_t7_loop i).trips, Inv I 0 1 y9.view y11.view (y9.view.writes (Elt Ideal) G9 (st_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 G9 G10 G11 init k.val).2.1)
      (y11.view.writes (Elt Ideal) G11 (st_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 G9 G10 G11 init k.val).2.2.2) G11 (st_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 G9 G10 G11 init k.val).1 k.val →
        Inv I 0 1 y9.view y11.view (y9.view.writes (Elt Ideal) G9 (st_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 G9 G10 G11 init (k.val + 1)).2.1)
      (y11.view.writes (Elt Ideal) G11 (st_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 G9 G10 G11 init (k.val + 1)).2.2.2) G11 (st_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 G9 G10 G11 init (k.val + 1)).1 (k.val + 1) := by
      intro k ⟨m1, m2, s1, a1, o1⟩
      rw [st_k0_t7_succ]
      obtain ⟨r1, r2, r3, r4, r5⟩ := step7 𝒱 c bd i y2 u2 y3 u3 y4 u4 y5 u5 y6 u6 y7 u7 y8 u8 y9 u9 y10 u10 y11 u11 y0 v21 v29 v47 v48 k0_h3 v149 v168 E2 E3 E4 E6 E8 k _ (y9.view.writes (Elt Ideal) G9 (st_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 G9 G10 G11 init k.val).2.1) (y10.view.writes (Elt Ideal) G10 (st_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 G9 G10 G11 init k.val).2.2.1)
        (y11.view.writes (Elt Ideal) G11 (st_k0_t7 (F := Ideal) 𝒱 c bd i y2 u2 y3 u3 y4 u4 y5 u5 y6 u6 y7 u7 y8 u8 y9 u9 y10 u10 y11 u11 y0 v21 v29 v47 v48 k0_h3 v149 v168 E2 E3 E4 E6 E8 G9 G10 G11 init k.val).2.2.2) I hn hq hk hv hb hm h21 m1 m2 s1 a1
      refine ⟨r1, r2, ?_, ?_, ?_⟩
      · intro u a b
        dsimp only
        rw [writes_app]
        exact r3 u a b
      · intro a d
        dsimp only
        rw [writes_app]
        exact r4 a d
      · intro a d
        dsimp only
        rw [writes_app]
        exact (r5 a d).trans (o1 a d)
    exact key ⟨n, by omega⟩ h

end Cert.AttentionIdeal.Attn

end
-- ==== Proof.AttnIdeal.Trip9.lean ====
/- The attention over the ideal numbers: what one trip of the loop `k0_t9` computes. -/
module

public import proofs.«01_k».proof.Proof.AttnIdeal.Setup
public import proofs.«01_k».proof.Proof.AttnIdeal.Groups
public import proofs.«01_k».proof.Proof.AttnIdeal.Offsets
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
/-- The scores that a trip makes of block `u` of its group `r`, in the two shapes that it keeps. -/
abbrev pay9 (i : grid0.Coords) (y2 : Memref sig .tc .vmem S512x256 .bf16) (y3 : Memref sig .tc .vmem S8192x256 .bf16) (y6 : Memref sig .tc .vmem S4x2x512x256 .f32) (y8 : Memref sig .tc .vmem S32x512x256 .f32)
    (k0_h3 : k0_cond3 i = 1#1) (E2 : BufTy.Contents (Elt F) y2.view.ty) (E3 : BufTy.Contents (Elt F) y3.view.ty) (E6 : BufTy.Contents (Elt F) y6.view.ty) (E8 : BufTy.Contents (Elt F) y8.view.ty) (k : Fin (k0_t9_loop i).trips) (r : Fin 2) (u : Fin 4) :=
  k0_pay2 (y3.view.readAt (Elt F) (Rect.unit (s := S8192x256) (k0_off44 i k (BitVec.ofNat 32 (1 + r.val)) (BitVec.ofNat 32 u.val)) S256x128.size (k0_off44_inb i k k0_h3 r u)).toLoadRect E3) (y2.view.readAt (Elt F) (Rect.unit (s := S512x256) ![0, 128] S512x128.size (inq 128 (by decide))).toLoadRect E2) (y6.view.readAt (Elt F) (Rect.unit (s := S4x2x512x256) (k0_off45 i k (BitVec.ofNat 32 (1 + r.val)) (BitVec.ofNat 32 u.val)) S1x1x512x256.size (k0_off45_inb i k k0_h3 r u)).toLoadRect E6) (y8.view.readAt (Elt F) (Rect.unit (s := S32x512x256) (k0_off46 i k (BitVec.ofNat 32 (1 + r.val)) (BitVec.ofNat 32 u.val)) S1x512x256.size (k0_off46_inb i k k0_h3 r u)).toLoadRect E8)

abbrev scr9 (i : grid0.Coords) (y2 : Memref sig .tc .vmem S512x256 .bf16) (y3 : Memref sig .tc .vmem S8192x256 .bf16) (y6 : Memref sig .tc .vmem S4x2x512x256 .f32) (y8 : Memref sig .tc .vmem S32x512x256 .f32)
    (k0_h3 : k0_cond3 i = 1#1) (E2 : BufTy.Contents (Elt F) y2.view.ty) (E3 : BufTy.Contents (Elt F) y3.view.ty) (E6 : BufTy.Contents (Elt F) y6.view.ty) (E8 : BufTy.Contents (Elt F) y8.view.ty) (k : Fin (k0_t9_loop i).trips) (r : Fin 2) (u : Fin 4) :=
  lg (y3.view.readAt (Elt F) (Rect.unit (s := S8192x256) (k0_off44 i k (BitVec.ofNat 32 (1 + r.val)) (BitVec.ofNat 32 u.val)) S256x128.size (k0_off44_inb i k k0_h3 r u)).toLoadRect E3) (y2.view.readAt (Elt F) (Rect.unit (s := S512x256) ![0, 128] S512x128.size (inq 128 (by decide))).toLoadRect E2) (y6.view.readAt (Elt F) (Rect.unit (s := S4x2x512x256) (k0_off45 i k (BitVec.ofNat 32 (1 + r.val)) (BitVec.ofNat 32 u.val)) S1x1x512x256.size (k0_off45_inb i k k0_h3 r u)).toLoadRect E6) (y8.view.readAt (Elt F) (Rect.unit (s := S32x512x256) (k0_off46 i k (BitVec.ofNat 32 (1 + r.val)) (BitVec.ofNat 32 u.val)) S1x512x256.size (k0_off46_inb i k k0_h3 r u)).toLoadRect E8)

/-- The sums after the first group of a trip. -/
def old9 (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec F S1024x128 .bf16) (v29 : FVec F S512x1 .f32) (v47 : BitVec 32) (v48 : BitVec 32) (k0_h3 : k0_cond3 i = 1#1) (v185_1 : FVec F S512x1 .f32) (v310 : FVec F S512x1 .f32) (v457 : FVec F S512x1 .f32) (v487 : FVec F S512x256 .f32) (E2 : BufTy.Contents (Elt F) y2.view.ty) (E3 : BufTy.Contents (Elt F) y3.view.ty) (E4 : BufTy.Contents (Elt F) y4.view.ty) (E6 : BufTy.Contents (Elt F) y6.view.ty) (E8 : BufTy.Contents (Elt F) y8.view.ty) (k : Fin (k0_t9_loop i).trips) (acc : FVec F S512x1 .f32 × FVec F S512x1 .f32) (t9 : BufTy.Contents (Elt F) y9.view.ty) (t10 : BufTy.Contents (Elt F) y10.view.ty) (t11 : BufTy.Contents (Elt F) y11.view.ty) : List (View.Piece (Elt F) S2x512x256 .f32) :=
    [⟨(Rect.unit (s := S2x512x256) ![1, 0, 0] S1x512x256.size (in2 1)), vl v21 (y4.view.readAt (Elt F) (Rect.unit (s := S8192x256) (k0_off47 i k) S1024x128.size (k0_off47_inb i k k0_h3)).toLoadRect E4) acc.1 acc.2
      (y9.view.readAt (Elt F) (Rect.unit (s := S4x512x256) ![0, 0, 0] S1x512x256.size (in4 0)).toLoadRect t9)
      (y9.view.readAt (Elt F) (Rect.unit (s := S4x512x256) ![1, 0, 0] S1x512x256.size (in4 1)).toLoadRect t9)
      (y9.view.readAt (Elt F) (Rect.unit (s := S4x512x256) ![2, 0, 0] S1x512x256.size (in4 2)).toLoadRect t9)
      (y9.view.readAt (Elt F) (Rect.unit (s := S4x512x256) ![3, 0, 0] S1x512x256.size (in4 3)).toLoadRect t9)
      (y11.view.readAt (Elt F) (Rect.unit (s := S2x512x256) ![1, 0, 0] S1x512x256.size (in2 1)).toLoadRect t11)⟩]

section

variable (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec F S1024x128 .bf16) (v29 : FVec F S512x1 .f32) (v47 : BitVec 32) (v48 : BitVec 32) (k0_h3 : k0_cond3 i = 1#1) (v185_1 : FVec F S512x1 .f32) (v310 : FVec F S512x1 .f32) (v457 : FVec F S512x1 .f32) (v487 : FVec F S512x256 .f32) (E2 : BufTy.Contents (Elt F) y2.view.ty) (E3 : BufTy.Contents (Elt F) y3.view.ty) (E4 : BufTy.Contents (Elt F) y4.view.ty) (E6 : BufTy.Contents (Elt F) y6.view.ty) (E8 : BufTy.Contents (Elt F) y8.view.ty) (k : Fin (k0_t9_loop i).trips) (acc : FVec F S512x1 .f32 × FVec F S512x1 .f32) (t9 : BufTy.Contents (Elt F) y9.view.ty) (t10 : BufTy.Contents (Elt F) y10.view.ty) (t11 : BufTy.Contents (Elt F) y11.view.ty)
include 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11

/-- The maxima a trip carries on. -/
theorem R9 :
    (tripR_k0_t9 (F := F) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).1 = mx (pay9 i y2 y3 y6 y8 k0_h3 E2 E3 E6 E8 k 0 0)
      (pay9 i y2 y3 y6 y8 k0_h3 E2 E3 E6 E8 k 0 1)
      (pay9 i y2 y3 y6 y8 k0_h3 E2 E3 E6 E8 k 0 2)
      (pay9 i y2 y3 y6 y8 k0_h3 E2 E3 E6 E8 k 0 3)
      acc.2 := by
  unfold tripR_k0_t9 trip_k0_t9
  rfl

theorem R9' :
    (tripR_k0_t9 (F := F) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).2 = mx (pay9 i y2 y3 y6 y8 k0_h3 E2 E3 E6 E8 k 1 0)
      (pay9 i y2 y3 y6 y8 k0_h3 E2 E3 E6 E8 k 1 1)
      (pay9 i y2 y3 y6 y8 k0_h3 E2 E3 E6 E8 k 1 2)
      (pay9 i y2 y3 y6 y8 k0_h3 E2 E3 E6 E8 k 1 3)
      (tripR_k0_t9 (F := F) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).1 := by
  unfold tripR_k0_t9 trip_k0_t9
  rfl

/-- The scores a trip stores. -/
theorem L9a :
    (tripL_k0_t9 (F := F) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).1 = [⟨Rect.unit (s := S4x512x256) ![3, 0, 0] S1x512x256.size (in4 3), (scr9 i y2 y3 y6 y8 k0_h3 E2 E3 E6 E8 k 1 3)⟩,
      ⟨Rect.unit (s := S4x512x256) ![2, 0, 0] S1x512x256.size (in4 2), (scr9 i y2 y3 y6 y8 k0_h3 E2 E3 E6 E8 k 1 2)⟩,
      ⟨Rect.unit (s := S4x512x256) ![1, 0, 0] S1x512x256.size (in4 1), (scr9 i y2 y3 y6 y8 k0_h3 E2 E3 E6 E8 k 1 1)⟩,
      ⟨Rect.unit (s := S4x512x256) ![0, 0, 0] S1x512x256.size (in4 0), (scr9 i y2 y3 y6 y8 k0_h3 E2 E3 E6 E8 k 1 0)⟩] := by
  unfold tripL_k0_t9 trip_k0_t9
  rfl

theorem L9b :
    (tripL_k0_t9 (F := F) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).2.1 = [⟨Rect.unit (s := S4x512x256) ![3, 0, 0] S1x512x256.size (in4 3), (scr9 i y2 y3 y6 y8 k0_h3 E2 E3 E6 E8 k 0 3)⟩,
      ⟨Rect.unit (s := S4x512x256) ![2, 0, 0] S1x512x256.size (in4 2), (scr9 i y2 y3 y6 y8 k0_h3 E2 E3 E6 E8 k 0 2)⟩,
      ⟨Rect.unit (s := S4x512x256) ![1, 0, 0] S1x512x256.size (in4 1), (scr9 i y2 y3 y6 y8 k0_h3 E2 E3 E6 E8 k 0 1)⟩,
      ⟨Rect.unit (s := S4x512x256) ![0, 0, 0] S1x512x256.size (in4 0), (scr9 i y2 y3 y6 y8 k0_h3 E2 E3 E6 E8 k 0 0)⟩] := by
  unfold tripL_k0_t9 trip_k0_t9
  rfl

/-- The sums a trip stores. -/
theorem L9c :
    (tripL_k0_t9 (F := F) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).2.2 = ⟨(Rect.unit (s := S2x512x256) ![1, 0, 0] S1x512x256.size (in2 1)), vl v21 (y4.view.readAt (Elt F) (Rect.unit (s := S8192x256) (k0_off48 i k) S1024x128.size (k0_off48_inb i k k0_h3)).toLoadRect E4) acc.2 (tripR_k0_t9 (F := F) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).1
      (y10.view.readCov (tripL_k0_t9 (F := F) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).2.1 (Rect.unit (s := S4x512x256) ![0, 0, 0] S1x512x256.size (in4 0)).toLoadRect)
      (y10.view.readCov (tripL_k0_t9 (F := F) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).2.1 (Rect.unit (s := S4x512x256) ![1, 0, 0] S1x512x256.size (in4 1)).toLoadRect)
      (y10.view.readCov (tripL_k0_t9 (F := F) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).2.1 (Rect.unit (s := S4x512x256) ![2, 0, 0] S1x512x256.size (in4 2)).toLoadRect)
      (y10.view.readCov (tripL_k0_t9 (F := F) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).2.1 (Rect.unit (s := S4x512x256) ![3, 0, 0] S1x512x256.size (in4 3)).toLoadRect)
      (y11.view.readCov (old9 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11) (Rect.unit (s := S2x512x256) ![1, 0, 0] S1x512x256.size (in2 1)).toLoadRect)⟩ :: old9 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11 := by
  unfold tripL_k0_t9 tripR_k0_t9 trip_k0_t9
  rfl

end

section

variable (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec Ideal S1024x128 .bf16) (v29 : FVec Ideal S512x1 .f32) (v47 : BitVec 32) (v48 : BitVec 32) (k0_h3 : k0_cond3 i = 1#1) (v185_1 : FVec Ideal S512x1 .f32) (v310 : FVec Ideal S512x1 .f32) (v457 : FVec Ideal S512x1 .f32) (v487 : FVec Ideal S512x256 .f32) (E2 : BufTy.Contents (Elt Ideal) y2.view.ty) (E3 : BufTy.Contents (Elt Ideal) y3.view.ty) (E4 : BufTy.Contents (Elt Ideal) y4.view.ty) (E6 : BufTy.Contents (Elt Ideal) y6.view.ty) (E8 : BufTy.Contents (Elt Ideal) y8.view.ty) (k : Fin (k0_t9_loop i).trips) (acc : FVec Ideal S512x1 .f32 × FVec Ideal S512x1 .f32) (t9 : BufTy.Contents (Elt Ideal) y9.view.ty) (t10 : BufTy.Contents (Elt Ideal) y10.view.ty) (t11 : BufTy.Contents (Elt Ideal) y11.view.ty)
    (I : Ins) (hn : I.n = (i 0).val) (hq : y2.view.read (Elt Ideal) E2 = I.q) (hk : y3.view.read (Elt Ideal) E3 = I.kk) (hv : y4.view.read (Elt Ideal) E4 = I.vv)
    (hb : y6.view.read (Elt Ideal) E6 = I.bd) (hm : y8.view.read (Elt Ideal) E8 = I.ms)
include 𝒱 c bd i y2 u2 y3 u3 y4 u4 y5 u5 y6 u6 y7 u7 y8 u8 y9 u9 y10 u10 y11 u11 y0 v21 v29 v47 v48 k0_h3 v185_1 v310 v457 v487 E2 E3 E4 E6 E8 k I hn hq hk hv hb hm

theorem sc9 (r : Fin 2) (u : Fin 4) (a : Fin 512) (b : Fin 256) :
    scr9 i y2 y3 y6 y8 k0_h3 E2 E3 E6 E8 k r u
      (ix3 0 a b) = sc I 1 (2 * k.val + 1 + r.val) u a b := by
  have hk3 := lt_of_lt_of_eq k.isLt (trips9 i)
  have hi := grid_lt i
  exact lg_read I (h := 1) (j := 4 * (2 * k.val + 1 + r.val) + u.val) y3.view y2.view y6.view y8.view E3 E2 E6 E8 hq hk hb hm
    (k0_off44_inb i k k0_h3 r u) (inq 128 (by decide)) (k0_off45_inb i k k0_h3 r u) (k0_off46_inb i k k0_h3 r u) (by omega)
    (off44_eq i k r u) rfl (by rw [hn]; exact off45_eq i k r u) (off46_eq i k r u) a b

include acc t9 t10 t11

/-- One trip of the loop: two groups further. -/
theorem step9 (h21 : ∀ y, v21 y = 1)
    (m1 : ∀ a, acc.1 (ix2 a 0) = M I 1 (2 * k.val) a) (m2 : ∀ a, acc.2 (ix2 a 0) = M I 1 (2 * k.val + 1) a)
    (s1 : ∀ u a b, y9.view.read (Elt Ideal) t9 (ix3 u a b) = sc I 1 (2 * k.val) u a b)
    (a1 : ∀ a d, y11.view.read (Elt Ideal) t11 (ix3 1 a d) = A I 1 (2 * k.val) a d) :
    (∀ a, (tripR_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).1 (ix2 a 0) = M I 1 (2 * k.val + 2) a)
    ∧ (∀ a, (tripR_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).2 (ix2 a 0) = M I 1 (2 * k.val + 3) a)
    ∧ (∀ u a b, y9.view.read (Elt Ideal) (y9.view.writes (Elt Ideal) t9 (tripL_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).1) (ix3 u a b) = sc I 1 (2 * k.val + 2) u a b)
    ∧ (∀ a d, y11.view.read (Elt Ideal) (y11.view.writes (Elt Ideal) t11 (tripL_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).2.2) (ix3 1 a d) = A I 1 (2 * k.val + 2) a d)
    ∧ (∀ a d, y11.view.read (Elt Ideal) (y11.view.writes (Elt Ideal) t11 (tripL_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).2.2) (ix3 0 a d) = y11.view.read (Elt Ideal) t11 (ix3 0 a d)) := by
  have hk3 := lt_of_lt_of_eq k.isLt (trips9 i)
  have hi := grid_lt i
  have SC := sc9 𝒱 c bd i y2 u2 y3 u3 y4 u4 y5 u5 y6 u6 y7 u7 y8 u8 y9 u9 y10 u10 y11 u11 y0 v21 v29 v47 v48 k0_h3 v185_1 v310 v457 v487 E2 E3 E4 E6 E8 k I hn hq hk hv hb hm
  have e1 : ∀ a, (tripR_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).1 (ix2 a 0) = M I 1 (2 * k.val + 2) a := by
    intro a
    rw [R9]
    exact M_step I (h := 1) (g := 2 * k.val + 1) _ _ _ _ acc.2 m2
      (fun a b => (lg2_apply _ _ _ _ a b).trans (SC 0 0 a b))
      (fun a b => (lg2_apply _ _ _ _ a b).trans (SC 0 1 a b))
      (fun a b => (lg2_apply _ _ _ _ a b).trans (SC 0 2 a b))
      (fun a b => (lg2_apply _ _ _ _ a b).trans (SC 0 3 a b)) a
  refine ⟨e1, ?_, ?_, ?_, ?_⟩
  · intro a
    rw [R9']
    exact M_step I (h := 1) (g := 2 * k.val + 2) _ _ _ _ _ e1
      (fun a b => (lg2_apply _ _ _ _ a b).trans (SC 1 0 a b))
      (fun a b => (lg2_apply _ _ _ _ a b).trans (SC 1 1 a b))
      (fun a b => (lg2_apply _ _ _ _ a b).trans (SC 1 2 a b))
      (fun a b => (lg2_apply _ _ _ _ a b).trans (SC 1 3 a b)) a
  · intro u a b
    rw [L9a]
    exact read_four y9.view t9 (sc I 1 (2 * k.val + 2)) _ _ _ _ _ _ _ _
      (fun a b => SC 1 0 a b)
      (fun a b => SC 1 1 a b)
      (fun a b => SC 1 2 a b)
      (fun a b => SC 1 3 a b) [] u a b
  · intro a d
    rw [L9c]
    refine (hit11 y11.view t11 1 _ _ a d).trans ?_
    have cov : ∀ (u : Fin 4) (a : Fin 512) (b : Fin 256), y10.view.readCov (tripL_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 k acc t9 t10 t11).2.1 (Rect.unit (s := S4x512x256) ![u.val, 0, 0] S1x512x256.size (in4 u)).toLoadRect (ix3 0 a b)
        = sc I 1 (2 * k.val + 1) u a b := by
      intro u a b
      refine (at4 y10.view _ u a b).trans ?_
      rw [L9b]
      exact read_four y10.view _ (sc I 1 (2 * k.val + 1)) _ _ _ _ _ _ _ _
        (fun a b => SC 0 0 a b)
        (fun a b => SC 0 1 a b)
        (fun a b => SC 0 2 a b)
        (fun a b => SC 0 3 a b) [] u a b
    refine A_step I (h := 1) (g := 2 * k.val + 1) y4.view E4 hv (k0_off48_inb i k k0_h3) (by omega) (off48_eq i k) v21 acc.2 _ _ _ _ _ _ h21 m2 e1
      (cov 0) (cov 1) (cov 2) (cov 3) ?_ a d
    intro a d
    refine (at11 y11.view _ 1 a d).trans ?_
    refine (hit11 y11.view _ 1 _ _ a d).trans ?_
    refine A_step I (h := 1) (g := 2 * k.val) y4.view E4 hv (k0_off47_inb i k k0_h3) (by omega) (off47_eq i k) v21 acc.1 acc.2 _ _ _ _ _ h21 m1 m2
      (fun a b => (at4 y9.view t9 0 a b).trans (s1 0 a b)) (fun a b => (at4 y9.view t9 1 a b).trans (s1 1 a b))
      (fun a b => (at4 y9.view t9 2 a b).trans (s1 2 a b)) (fun a b => (at4 y9.view t9 3 a b).trans (s1 3 a b)) ?_ a d
    intro a d
    exact (at11 y11.view t11 1 a d).trans (a1 a d)
  · intro a d
    rw [L9c]
    refine (miss11 y11.view t11 1 0 (by decide) _ _ a d).trans ?_
    exact miss11 y11.view t11 1 0 (by decide) _ [] a d

end

/-- The loop by its trips. -/
theorem loop9 (𝒱 : Variants) (c : Dev nD) (bd : Option 𝒱.V) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (y0 : BitVec 32) (v21 : FVec Ideal S1024x128 .bf16) (v29 : FVec Ideal S512x1 .f32) (v47 : BitVec 32) (v48 : BitVec 32) (k0_h3 : k0_cond3 i = 1#1) (v185_1 : FVec Ideal S512x1 .f32) (v310 : FVec Ideal S512x1 .f32) (v457 : FVec Ideal S512x1 .f32) (v487 : FVec Ideal S512x256 .f32) (E2 : BufTy.Contents (Elt Ideal) y2.view.ty) (E3 : BufTy.Contents (Elt Ideal) y3.view.ty) (E4 : BufTy.Contents (Elt Ideal) y4.view.ty) (E6 : BufTy.Contents (Elt Ideal) y6.view.ty) (E8 : BufTy.Contents (Elt Ideal) y8.view.ty) (G9 : BufTy.Contents (Elt Ideal) y9.view.ty) (G10 : BufTy.Contents (Elt Ideal) y10.view.ty) (G11 : BufTy.Contents (Elt Ideal) y11.view.ty) (init : FVec Ideal S512x1 .f32 × FVec Ideal S512x1 .f32)
    (I : Ins) (hn : I.n = (i 0).val) (hq : y2.view.read (Elt Ideal) E2 = I.q) (hk : y3.view.read (Elt Ideal) E3 = I.kk) (hv : y4.view.read (Elt Ideal) E4 = I.vv)
    (hb : y6.view.read (Elt Ideal) E6 = I.bd) (hm : y8.view.read (Elt Ideal) E8 = I.ms) (h21 : ∀ y, v21 y = 1) (h0 : Inv I 1 0 y9.view y11.view G9 G11 G11 init 0) (n : ℕ) (hle : n ≤ (k0_t9_loop i).trips) :
    Inv I 1 0 y9.view y11.view (y9.view.writes (Elt Ideal) G9 (st_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 G9 G10 G11 init n).2.1)
      (y11.view.writes (Elt Ideal) G11 (st_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 G9 G10 G11 init n).2.2.2) G11 (st_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 G9 G10 G11 init n).1 n := by
  induction n with
  | zero => exact h0
  | succ n ih =>
    have h := ih (by omega)
    have key : ∀ k : Fin (k0_t9_loop i).trips, Inv I 1 0 y9.view y11.view (y9.view.writes (Elt Ideal) G9 (st_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 G9 G10 G11 init k.val).2.1)
      (y11.view.writes (Elt Ideal) G11 (st_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 G9 G10 G11 init k.val).2.2.2) G11 (st_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 G9 G10 G11 init k.val).1 k.val →
        Inv I 1 0 y9.view y11.view (y9.view.writes (Elt Ideal) G9 (st_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 G9 G10 G11 init (k.val + 1)).2.1)
      (y11.view.writes (Elt Ideal) G11 (st_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 G9 G10 G11 init (k.val + 1)).2.2.2) G11 (st_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 G9 G10 G11 init (k.val + 1)).1 (k.val + 1) := by
      intro k ⟨m1, m2, s1, a1, o1⟩
      rw [st_k0_t9_succ]
      obtain ⟨r1, r2, r3, r4, r5⟩ := step9 𝒱 c bd i y2 u2 y3 u3 y4 u4 y5 u5 y6 u6 y7 u7 y8 u8 y9 u9 y10 u10 y11 u11 y0 v21 v29 v47 v48 k0_h3 v185_1 v310 v457 v487 E2 E3 E4 E6 E8 k _ (y9.view.writes (Elt Ideal) G9 (st_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 G9 G10 G11 init k.val).2.1) (y10.view.writes (Elt Ideal) G10 (st_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 G9 G10 G11 init k.val).2.2.1)
        (y11.view.writes (Elt Ideal) G11 (st_k0_t9 (F := Ideal) 𝒱 c bd i y2 u2 y3 u3 y4 u4 y5 u5 y6 u6 y7 u7 y8 u8 y9 u9 y10 u10 y11 u11 y0 v21 v29 v47 v48 k0_h3 v185_1 v310 v457 v487 E2 E3 E4 E6 E8 G9 G10 G11 init k.val).2.2.2) I hn hq hk hv hb hm h21 m1 m2 s1 a1
      refine ⟨r1, r2, ?_, ?_, ?_⟩
      · intro u a b
        dsimp only
        rw [writes_app]
        exact r3 u a b
      · intro a d
        dsimp only
        rw [writes_app]
        exact r4 a d
      · intro a d
        dsimp only
        rw [writes_app]
        exact (r5 a d).trans (o1 a d)
    exact key ⟨n, by omega⟩ h

end Cert.AttentionIdeal.Attn

end
-- ==== Proof.AttnIdeal.ReadEven.lean ====
/- The attention over the ideal numbers: what a program of an even number of groups leaves. -/
module

public import proofs.«01_k».proof.Proof.AttnIdeal.Setup
public import proofs.«01_k».proof.Proof.AttnIdeal.Read
public import proofs.«01_k».proof.Proof.AttnIdeal.Ends
public import proofs.«01_k».proof.Proof.AttnIdeal.Trip7
public import proofs.«01_k».proof.Proof.AttnIdeal.Trip9
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 2000000 in
/-- An even number of groups: the sums that are left. -/
theorem even_read (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc : k0_cond3 i = 1#1) (X2 : y2.view.ty.Contents (Elt Ideal)) (X3 : y3.view.ty.Contents (Elt Ideal)) (X4 : y4.view.ty.Contents (Elt Ideal)) (X6 : y6.view.ty.Contents (Elt Ideal)) (f8 : y8.view.ty.Contents (Elt Ideal)) (f10 : y10.view.ty.Contents (Elt Ideal))
    (L : List (View.Piece (Elt Ideal) S2x512x256 .f32)) (H : Even (F := Ideal) c i y2 u2 y3 u3 y4 u4 y5 u5 y6 u6 y7 u7 y8 u8 y9 u9 y10 u10 y11 u11 hc X2 X3 X4 X6 f8 f10 L)
    (I : Ins) (hn : I.n = (i 0).val) (hq : y2.view.read (Elt Ideal) X2 = I.q) (hk : y3.view.read (Elt Ideal) X3 = I.kk) (hv : y4.view.read (Elt Ideal) X4 = I.vv)
    (hb : y6.view.read (Elt Ideal) X6 = I.bd) (hm : y8.view.read (Elt Ideal) f8 = I.ms) (h : Fin 2) (a : Fin 512) (d : Fin 256) :
    y11.view.read (Elt Ideal) (y11.view.writes (Elt Ideal) y11.view.junk L) (ix3 h a d) = A I h ((i 0).val / 2 + 1) a d := by
  obtain ⟨S7, S8, S9, S10, v47, v48, v149, v168, va, vb, vc, vd, T9, T10, U10, P9, P10, Q9, Q10, g10, L0, L1, L2, m0, m1, m2, m3, hP9, hm0, hS7, hS8, hP10, hm1, hL0, hL1, hQ9, hm2, hS9, hS10, hQ10, hm3, hL2, hL⟩ := H
  have hi := grid_lt i
  have cm := cond3_mod i hc
  have en : (i 0).val / 2 + 1 = 2 * ((i 0).val / 4) + 1 + 1 := by omega
  have p9 : ∀ f u a b, y9.view.read (Elt Ideal) (y9.view.writes (Elt Ideal) f P9) (ix3 u a b) = sc I 0 0 u a b := by
    intro f u a b
    rw [hP9]
    exact put_read I (h := 0) (g := 0) y3.view y2.view y6.view y8.view X3 X2 X6 f8 hq hk hb hm _ _ _ _ (by omega) lit_ok0 rfl (fun u => by rw [hn]; exact off27_eq i u) lit_om y9.view f [] u a b
  have e0 : ∀ a, m0 (ix2 a 0) = M I 0 1 a := by
    intro a
    rw [hm0]
    exact mxs_apply I (h := 0) (g := 0) y3.view y2.view y6.view y8.view X3 X2 X6 f8 hq hk hb hm _ _ _ _ (by omega) lit_ok0 rfl (fun u => by rw [hn]; exact off27_eq i u) lit_om k0_pay396 (mask_apply I 0) a
  have h0_7 : Inv I 0 1 y9.view y11.view (y9.view.writes (Elt Ideal) y9.view.junk P9) (y11.view.writes (Elt Ideal) y11.view.junk zeros) (y11.view.writes (Elt Ideal) y11.view.junk zeros) (k0_pay396, m0) 0 :=
    ⟨mask_apply I 0, e0, p9 _, zeros_read I _ _ 0, fun _ _ => rfl⟩
  have k7 := loop7 Variants.none c none i y2 u2 y3 u3 y4 u4 y5 u5 y6 u6 y7 u7 y8 u8 y9 u9 y10 u10 y11 u11 (BitVec.ofNat 32 (i 0).val) k0_pay392 k0_pay396 v47 v48 hc v149 v168 X2 X3 X4 X6 f8 _ f10 _ _ I hn hq hk hv hb hm ones_apply h0_7 ((i 0).val / 4) (le_of_eq (trips7 i).symm)
  rw [show Scf.trips (k0_t7_loop i).lb (k0_t7_loop i).ub (k0_t7_loop i).st = (i 0).val / 4 from trips7 i] at hS7
  rw [← hS7] at k7
  obtain ⟨a1, a2, a3, a4, a5⟩ := k7
  subst hS8
  have p10 : ∀ f u a b, y10.view.read (Elt Ideal) (y10.view.writes (Elt Ideal) f P10) (ix3 u a b) = sc I 0 (2 * ((i 0).val / 4) + 1) u a b := by
    intro f u a b
    rw [hP10]
    exact put_read I (h := 0) (g := (2 * ((i 0).val / 4) + 1)) y3.view y2.view y6.view y8.view X3 X2 X6 f8 hq hk hb hm _ _ _ _ (by omega) (fun u => off38_eq i u cm) rfl (fun u => by rw [hn]; exact off39_eq i u cm) (fun u => off40_eq i u cm) y10.view f T10 u a b
  have e1 : ∀ a, m1 (ix2 a 0) = M I 0 ((2 * ((i 0).val / 4) + 1) + 1) a := by
    intro a
    rw [hm1]
    exact mxs_apply I (h := 0) (g := (2 * ((i 0).val / 4) + 1)) y3.view y2.view y6.view y8.view X3 X2 X6 f8 hq hk hb hm _ _ _ _ (by omega) (fun u => off38_eq i u cm) rfl (fun u => by rw [hn]; exact off39_eq i u cm) (fun u => off40_eq i u cm) _ a2 a
  have q0 : ∀ f a d, y11.view.read (Elt Ideal) (y11.view.writes (Elt Ideal) f L0) (ix3 0 a d) = A I 0 (2 * ((i 0).val / 4) + 1) a d := by
    intro f a d
    rw [hL0]
    refine fold_hit I (h := 0) y4.view X4 hv _ (by omega) (off41_eq i) _ _ a1 a2 y9.view _ y11.view f _ ?_ ?_ a d
    · intro u a b
      have := a3 u a b
      rw [← writes_app] at this
      exact this
    · intro a d
      have := a4 a d
      rw [← writes_app] at this
      exact this
  have q1 : ∀ f a d, y11.view.read (Elt Ideal) (y11.view.writes (Elt Ideal) f L1) (ix3 0 a d) = A I 0 ((2 * ((i 0).val / 4) + 1) + 1) a d := by
    intro f a d
    rw [hL1]
    exact fold_hit I (h := 0) y4.view X4 hv _ (by omega) (off43_eq i cm) _ _ a2 e1 y10.view _ y11.view f _ (p10 _) (q0 _) a d
  have z1 : ∀ a d, y11.view.read (Elt Ideal) (y11.view.writes (Elt Ideal) y11.view.junk L1) (ix3 1 a d) = A I 1 0 a d := by
    intro a d
    rw [hL1]
    refine (fold_miss (h := 0) (h' := 1) (by decide) _ _ _ _ _ _ _ _ _ _ a d).trans ?_
    rw [hL0]
    refine (fold_miss (h := 0) (h' := 1) (by decide) _ _ _ _ _ _ _ _ _ _ a d).trans ?_
    have := a5 a d
    rw [← writes_app] at this
    exact this.trans (zeros_read I _ _ 1 a d)
  have p9' : ∀ f u a b, y9.view.read (Elt Ideal) (y9.view.writes (Elt Ideal) f Q9) (ix3 u a b) = sc I 1 0 u a b := by
    intro f u a b
    rw [hQ9]
    exact put_read I (h := 1) (g := 0) y3.view y2.view y6.view y8.view X3 X2 X6 f8 hq hk hb hm _ _ _ _ (by omega) lit_ok1 rfl (fun u => by rw [hn]; exact off42_eq i u) lit_om y9.view f T9 u a b
  have e2 : ∀ a, m2 (ix2 a 0) = M I 1 1 a := by
    intro a
    rw [hm2]
    exact mxs_apply I (h := 1) (g := 0) y3.view y2.view y6.view y8.view X3 X2 X6 f8 hq hk hb hm _ _ _ _ (by omega) lit_ok1 rfl (fun u => by rw [hn]; exact off42_eq i u) lit_om k0_pay396 (mask_apply I 1) a
  have h0_9 : Inv I 1 0 y9.view y11.view (y9.view.writes (Elt Ideal) y9.view.junk Q9) (y11.view.writes (Elt Ideal) y11.view.junk L1) (y11.view.writes (Elt Ideal) y11.view.junk L1) (k0_pay396, m2) 0 :=
    ⟨mask_apply I 1, e2, p9' _, z1, fun _ _ => rfl⟩
  have k9 := loop9 Variants.none c none i y2 u2 y3 u3 y4 u4 y5 u5 y6 u6 y7 u7 y8 u8 y9 u9 y10 u10 y11 u11 (BitVec.ofNat 32 (i 0).val) k0_pay392 k0_pay396 v47 v48 hc va vb vc vd X2 X3 X4 X6 f8 _ g10 _ _ I hn hq hk hv hb hm ones_apply h0_9 ((i 0).val / 4) (le_of_eq (trips9 i).symm)
  rw [show Scf.trips (k0_t9_loop i).lb (k0_t9_loop i).ub (k0_t9_loop i).st = (i 0).val / 4 from trips9 i] at hS9
  rw [← hS9] at k9
  obtain ⟨b1, b2, b3, b4, b5⟩ := k9
  subst hS10
  have p10' : ∀ f u a b, y10.view.read (Elt Ideal) (y10.view.writes (Elt Ideal) f Q10) (ix3 u a b) = sc I 1 (2 * ((i 0).val / 4) + 1) u a b := by
    intro f u a b
    rw [hQ10]
    exact put_read I (h := 1) (g := (2 * ((i 0).val / 4) + 1)) y3.view y2.view y6.view y8.view X3 X2 X6 f8 hq hk hb hm _ _ _ _ (by omega) (fun u => off54_eq i u cm) rfl (fun u => by rw [hn]; exact off55_eq i u cm) (fun u => off40_eq i u cm) y10.view f U10 u a b
  have e3 : ∀ a, m3 (ix2 a 0) = M I 1 ((2 * ((i 0).val / 4) + 1) + 1) a := by
    intro a
    rw [hm3]
    exact mxs_apply I (h := 1) (g := (2 * ((i 0).val / 4) + 1)) y3.view y2.view y6.view y8.view X3 X2 X6 f8 hq hk hb hm _ _ _ _ (by omega) (fun u => off54_eq i u cm) rfl (fun u => by rw [hn]; exact off55_eq i u cm) (fun u => off40_eq i u cm) _ b2 a
  have q2 : ∀ f a d, y11.view.read (Elt Ideal) (y11.view.writes (Elt Ideal) f L2) (ix3 1 a d) = A I 1 (2 * ((i 0).val / 4) + 1) a d := by
    intro f a d
    rw [hL2]
    refine fold_hit I (h := 1) y4.view X4 hv _ (by omega) (off56_eq i) _ _ b1 b2 y9.view _ y11.view f _ ?_ ?_ a d
    · intro u a b
      have := b3 u a b
      rw [← writes_app] at this
      exact this
    · intro a d
      have := b4 a d
      rw [← writes_app] at this
      exact this
  rw [en, hL]
  match h with
  | ⟨0, _⟩ =>
    refine (fold_miss (h := 1) (h' := 0) (by decide) _ _ _ _ _ _ _ _ _ _ a d).trans ?_
    rw [hL2]
    refine (fold_miss (h := 1) (h' := 0) (by decide) _ _ _ _ _ _ _ _ _ _ a d).trans ?_
    have := b5 a d
    rw [← writes_app] at this
    exact this.trans (q1 _ a d)
  | ⟨1, _⟩ =>
    exact fold_hit I (h := 1) y4.view X4 hv _ (by omega) (off57_eq i cm) _ _ b2 e3 y10.view _ y11.view _ _ (p10' _) (q2 _) a d

end Cert.AttentionIdeal.Attn

end
-- ==== Proof.AttnIdeal.ValA.lean ====
/- The attention over the ideal numbers: what is computed by the body at the first pair of heads, in the first half of its run of four blocks. -/
module

public import proofs.«01_k».proof.Proof.AttnIdeal.Setup

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 1420000 in
/-- The body at the first pair of heads, in the first half of its run of four blocks: the output and the mask it leaves, as functions of what it is given. -/
def val_A (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : cond0_0 i) (hc1 : cond0_1 i) (hc2 : ¬cond0_2 i)
    (x0 : Vec F S512x256 .bf16) (x1 : Vec F S8192x256 .bf16) (x2 : Vec F S8192x256 .bf16) (x3 : Vec F S512x256 .i32) (x4 : Vec F S4x2x512x256 .f32)
    (f5 : BufTy.Contents (Elt F) y7.view.ty) (fs0 : BufTy.Contents (Elt F) y8.view.ty) (fs1 : BufTy.Contents (Elt F) y9.view.ty) (fs2 : BufTy.Contents (Elt F) y10.view.ty) (fs3 : BufTy.Contents (Elt F) y11.view.ty) :
    Σ' (X7 : BufTy.Contents (Elt F) y7.view.ty), { X8 : BufTy.Contents (Elt F) y8.view.ty //
      ∀ (E : Set ℕ) (K : PUnit → sProp (MT nD τ sig Unit (Elt F) ℕ (UR sig nD τ) ℕ)),
        iprop((y2.view.loc (c : Thread nD τ) ↦[y2.view.set]{fullShare} u2.unread x0) ∗ (y3.view.loc (c : Thread nD τ) ↦[y3.view.set]{fullShare} u3.unread x1) ∗ (y4.view.loc (c : Thread nD τ) ↦[y4.view.set]{fullShare} u4.unread x2) ∗ (y5.view.loc (c : Thread nD τ) ↦[y5.view.set]{fullShare} u5.unread x3) ∗ (y6.view.loc (c : Thread nD τ) ↦[y6.view.set]{fullShare} u6.unread x4) ∗ (y7.view.loc (c : Thread nD τ) ↦[y7.view.set]{fullShare} f5) ∗ (y8.view.loc (c : Thread nD τ) ↦[y8.view.set]{fullShare} fs0) ∗ (y9.view.loc (c : Thread nD τ) ↦[y9.view.set]{fullShare} fs1) ∗ (y10.view.loc (c : Thread nD τ) ↦[y10.view.set]{fullShare} fs2) ∗ (y11.view.loc (c : Thread nD τ) ↦[y11.view.set]{fullShare} fs3)
            ∗ (iprop((y2.view.loc (c : Thread nD τ) ↦[y2.view.set]{fullShare} u2.unread x0) ∗ (y3.view.loc (c : Thread nD τ) ↦[y3.view.set]{fullShare} u3.unread x1) ∗ (y4.view.loc (c : Thread nD τ) ↦[y4.view.set]{fullShare} u4.unread x2) ∗ (y5.view.loc (c : Thread nD τ) ↦[y5.view.set]{fullShare} u5.unread x3) ∗ (y6.view.loc (c : Thread nD τ) ↦[y6.view.set]{fullShare} u6.unread x4) ∗ (y7.view.loc (c : Thread nD τ) ↦[y7.view.set]{fullShare} X7) ∗ (y8.view.loc (c : Thread nD τ) ↦[y8.view.set]{fullShare} X8) ∗ (∃ f, (y9.view.loc (c : Thread nD τ) ↦[y9.view.set]{fullShare} f)) ∗ (∃ f, (y10.view.loc (c : Thread nD τ) ↦[y10.view.set]{fullShare} f)) ∗ (∃ f, (y11.view.loc (c : Thread nD τ) ↦[y11.view.set]{fullShare} f))) -∗ K ⟨⟩))
          ⊢ wp frame (wpE (defs₀ (F := F)) Variants.none c none) E (cc0_attention i y2 u2 y3 u3 y4 u4 y5 u5 y6 u6 y7 u7 y8 u8 y9 u9 y10 u10 y11 u11) K } := by
  refine ⟨?_, ?_, fun E K => ?run⟩
  case run =>
    simp only [cc0_attention_eq_skeleton]; unfold cc0_attention_skel
    simp only [k0_part100_eq_skeleton, k0_part101_eq_skeleton, k0_part45_eq_skeleton, k0_part37_eq_skeleton, k0_part38_eq_skeleton, k0_part39_eq_skeleton, k0_part40_eq_skeleton, k0_part41_eq_skeleton, k0_part42_eq_skeleton, k0_part43_eq_skeleton, k0_part44_eq_skeleton]
    iintro ⟨H0, H1, H2, H3, H4, H5, HS0, HS1, HS2, HS3, Hk⟩
    sl_exec (disch := first | sl_exact hc0 | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexists _; iexact HS1
    isplitl [HS2]; · iexists _; iexact HS2
    iexists _; iexact HS3

end Cert.AttentionIdeal.Attn

end
-- ==== Proof.AttnIdeal.PathA.lean ====
/- The attention: the stores of one program, by case. -/
module

public import proofs.«01_k».proof.Proof.AttnIdeal.Setup
public import proofs.«01_k».proof.Proof.AttnIdeal.Paths
public import proofs.«01_k».proof.Proof.AttnIdeal.ValA
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The mask that the program leaves. -/
theorem mask_A (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : cond0_0 i) (hc1 : cond0_1 i) (hc2 : ¬cond0_2 i)
    (x0 : Vec F S512x256 .bf16) (x1 : Vec F S8192x256 .bf16) (x2 : Vec F S8192x256 .bf16) (x3 : Vec F S512x256 .i32) (x4 : Vec F S4x2x512x256 .f32)
    (f5 : BufTy.Contents (Elt F) y7.view.ty) (fs0 : BufTy.Contents (Elt F) y8.view.ty) (fs1 : BufTy.Contents (Elt F) y9.view.ty) (fs2 : BufTy.Contents (Elt F) y10.view.ty) (fs3 : BufTy.Contents (Elt F) y11.view.ty) :
    (val_A c i y2 u2 y3 u3 y4 u4 y5 u5 y6 u6 y7 u7 y8 u8 y9 u9 y10 u10 y11 u11 hc0 hc1 hc2 x0 x1 x2 x3 x4 f5 fs0 fs1 fs2 fs3).2.val = (y8.view.writes (Elt F) fs0 (pb_k0_t2 Variants.none c none i y2 u2 y3 u3 y4 u4 y5 u5 y6 u6 y7 u7 y8 u8 y9 u9 y10 u10 y11 u11 hc0 (u5.unread x3) (Scf.trips (k0_t2_loop i).lb (k0_t2_loop i).ub (k0_t2_loop i).st) ++ pb_k0_t1 Variants.none c none i y2 u2 y3 u3 y4 u4 y5 u5 y6 u6 y7 u7 y8 u8 y9 u9 y10 u10 y11 u11 hc0 (u5.unread x3) (Scf.trips (k0_t1_loop i).lb (k0_t1_loop i).ub (k0_t1_loop i).st))) := rfl

set_option maxHeartbeats 2000000 in
/-- The output that the program leaves. -/
theorem out_A (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : cond0_0 i) (hc1 : cond0_1 i) (hc2 : ¬cond0_2 i)
    (x0 : Vec F S512x256 .bf16) (x1 : Vec F S8192x256 .bf16) (x2 : Vec F S8192x256 .bf16) (x3 : Vec F S512x256 .i32) (x4 : Vec F S4x2x512x256 .f32)
    (f5 : BufTy.Contents (Elt F) y7.view.ty) (fs0 : BufTy.Contents (Elt F) y8.view.ty) (fs1 : BufTy.Contents (Elt F) y9.view.ty) (fs2 : BufTy.Contents (Elt F) y10.view.ty) (fs3 : BufTy.Contents (Elt F) y11.view.ty) :
    ∃ L, Odd c i y2 u2 y3 u3 y4 u4 y5 u5 y6 u6 y7 u7 y8 u8 y9 u9 y10 u10 y11 u11 hc1 (u2.unread x0) (u3.unread x1) (u4.unread x2) (u6.unread x4) (y8.view.writes (Elt F) fs0 (pb_k0_t2 Variants.none c none i y2 u2 y3 u3 y4 u4 y5 u5 y6 u6 y7 u7 y8 u8 y9 u9 y10 u10 y11 u11 hc0 (u5.unread x3) (Scf.trips (k0_t2_loop i).lb (k0_t2_loop i).ub (k0_t2_loop i).st) ++ pb_k0_t1 Variants.none c none i y2 u2 y3 u3 y4 u4 y5 u5 y6 u6 y7 u7 y8 u8 y9 u9 y10 u10 y11 u11 hc0 (u5.unread x3) (Scf.trips (k0_t1_loop i).lb (k0_t1_loop i).ub (k0_t1_loop i).st))) fs2 L
      ∧ (val_A c i y2 u2 y3 u3 y4 u4 y5 u5 y6 u6 y7 u7 y8 u8 y9 u9 y10 u10 y11 u11 hc0 hc1 hc2 x0 x1 x2 x3 x4 f5 fs0 fs1 fs2 fs3).1 = y7.view.writes (Elt F) f5 (outs y11.view L) := by
  let f8 := (y8.view.writes (Elt F) fs0 (pb_k0_t2 Variants.none c none i y2 u2 y3 u3 y4 u4 y5 u5 y6 u6 y7 u7 y8 u8 y9 u9 y10 u10 y11 u11 hc0 (u5.unread x3) (Scf.trips (k0_t2_loop i).lb (k0_t2_loop i).ub (k0_t2_loop i).st) ++ pb_k0_t1 Variants.none c none i y2 u2 y3 u3 y4 u4 y5 u5 y6 u6 y7 u7 y8 u8 y9 u9 y10 u10 y11 u11 hc0 (u5.unread x3) (Scf.trips (k0_t1_loop i).lb (k0_t1_loop i).ub (k0_t1_loop i).st)))
  let P9 := (val_A.sl.HS1_4 c i y2 u2 y3 u3 y4 u4 y5 u5 y6 u6 y7 u7 y8 u8 y9 u9 y10 u10 y11 u11 hc0 hc1 x0 x1 x3 x4 fs0)
  let m0 := k0_pay155 k0_pay396 (val_A.sl.v149 c i y2 u2 y3 u3 y4 u4 y5 u5 y6 u6 y7 u7 y8 u8 y9 u9 y10 u10 y11 u11 hc0 hc1 x0 x1 x3 x4 fs0) (val_A.sl.v168 c i y2 u2 y3 u3 y4 u4 y5 u5 y6 u6 y7 u7 y8 u8 y9 u9 y10 u10 y11 u11 hc0 hc1 x0 x1 x3 x4 fs0)
  let S3 := st_k0_t3 Variants.none c none i y2 u2 y3 u3 y4 u4 y5 u5 y6 u6 y7 u7 y8 u8 y9 u9 y10 u10 y11 u11 (BitVec.ofNat 32 (i 0).val) k0_pay392 k0_pay396 (val_A.sl.v47 i) hc1 (val_A.sl.v149 c i y2 u2 y3 u3 y4 u4 y5 u5 y6 u6 y7 u7 y8 u8 y9 u9 y10 u10 y11 u11 hc0 hc1 x0 x1 x3 x4 fs0) (val_A.sl.v168 c i y2 u2 y3 u3 y4 u4 y5 u5 y6 u6 y7 u7 y8 u8 y9 u9 y10 u10 y11 u11 hc0 hc1 x0 x1 x3 x4 fs0) (u2.unread x0) (u3.unread x1) (u4.unread x2) (u6.unread x4) f8 (y9.view.writes (Elt F) y9.view.junk P9) fs2 (y11.view.writes (Elt F) y11.view.junk val_A.sl.HS3_1) (k0_pay396, m0) (Scf.trips (k0_t3_loop i).lb (k0_t3_loop i).ub (k0_t3_loop i).st)
  let S4 := st_k0_t4 Variants.none c none i y2 u2 y3 u3 y4 u4 y5 u5 y6 u6 y7 u7 y8 u8 y9 u9 y10 u10 y11 u11 (BitVec.ofNat 32 (i 0).val) k0_pay392 k0_pay396 (val_A.sl.v47 i) hc1 (val_A.sl.v149 c i y2 u2 y3 u3 y4 u4 y5 u5 y6 u6 y7 u7 y8 u8 y9 u9 y10 u10 y11 u11 hc0 hc1 x0 x1 x3 x4 fs0) (val_A.sl.v168 c i y2 u2 y3 u3 y4 u4 y5 u5 y6 u6 y7 u7 y8 u8 y9 u9 y10 u10 y11 u11 hc0 hc1 x0 x1 x3 x4 fs0) (val_A.sl.v183 i) (u2.unread x0) (u3.unread x1) (u4.unread x2) (u6.unread x4) f8 (y9.view.writes (Elt F) y9.view.junk (S3.2.1 ++ P9)) (y10.view.writes (Elt F) fs2 S3.2.2.1) (y11.view.writes (Elt F) y11.view.junk (S3.2.2.2 ++ val_A.sl.HS3_1)) (S3.1.1, S3.1.2) (Scf.trips (k0_t4_loop i).lb (k0_t4_loop i).ub (k0_t4_loop i).st)
  let T10 := S4.2.2.1 ++ S3.2.2.1
  let P10 := (val_A.sl.HS2_4 c i y2 u2 y3 u3 y4 u4 y5 u5 y6 u6 y7 u7 y8 u8 y9 u9 y10 u10 y11 u11 hc0 hc1 x0 x1 x2 x3 x4 fs0 fs2)
  let g9 := (y9.view.writes (Elt F) y9.view.junk (S4.2.1 ++ (S3.2.1 ++ P9)))
  let L0 := (⟨Rect.unit ![0, 0, 0] S1x512x256.size inb_S2x512x256_S1x512x256_0_0_0, k0_pay177 k0_pay392 (val_A.sl.r_2 c i y2 u2 y3 u3 y4 u4 y5 u5 y6 u6 y7 u7 y8 u8 y9 u9 y10 u10 y11 u11 hc0 hc1 x0 x1 x2 x3 x4 fs0 fs2) (val_A.sl.r_3 c i y2 u2 y3 u3 y4 u4 y5 u5 y6 u6 y7 u7 y8 u8 y9 u9 y10 u10 y11 u11 hc0 hc1 x0 x1 x2 x3 x4 fs0 fs2) (val_A.sl.v295 c i y2 u2 y3 u3 y4 u4 y5 u5 y6 u6 y7 u7 y8 u8 y9 u9 y10 u10 y11 u11 hc0 hc1 x0 x1 x2 x3 x4 fs0 fs2) (val_A.sl.v300 c i y2 u2 y3 u3 y4 u4 y5 u5 y6 u6 y7 u7 y8 u8 y9 u9 y10 u10 y11 u11 hc0 hc1 x0 x1 x2 x3 x4 fs0 fs2) (val_A.sl.v305 c i y2 u2 y3 u3 y4 u4 y5 u5 y6 u6 y7 u7 y8 u8 y9 u9 y10 u10 y11 u11 hc0 hc1 x0 x1 x2 x3 x4 fs0 fs2) (val_A.sl.v306 c i y2 u2 y3 u3 y4 u4 y5 u5 y6 u6 y7 u7 y8 u8 y9 u9 y10 u10 y11 u11 hc0 hc1 x0 x1 x2 x3 x4 fs0 fs2) (val_A.sl.v311 c i y2 u2 y3 u3 y4 u4 y5 u5 y6 u6 y7 u7 y8 u8 y9 u9 y10 u10 y11 u11 hc0 hc1 x0 x1 x2 x3 x4 fs0 fs2) (y4.view.readAt (Elt F) (Rect.unit (s := S8192x256) (k0_off15 i) S1024x128.size (k0_off15_inb i hc1)).toLoadRect (u4.unread x2)) (val_A.sl.v323 c i y2 u2 y3 u3 y4 u4 y5 u5 y6 u6 y7 u7 y8 u8 y9 u9 y10 u10 y11 u11 hc0 hc1 x0 x1 x2 x3 x4 fs0 fs2)⟩ : View.Piece (Elt F) S2x512x256 .f32) :: (S4.2.2.2 ++ (S3.2.2.2 ++ val_A.sl.HS3_1))
  let S5 := st_k0_t5 Variants.none c none i y2 u2 y3 u3 y4 u4 y5 u5 y6 u6 y7 u7 y8 u8 y9 u9 y10 u10 y11 u11 (BitVec.ofNat 32 (i 0).val) k0_pay392 k0_pay396 (val_A.sl.v47 i) (val_A.sl.v48 i) hc1 (val_A.sl.r_2 c i y2 u2 y3 u3 y4 u4 y5 u5 y6 u6 y7 u7 y8 u8 y9 u9 y10 u10 y11 u11 hc0 hc1 x0 x1 x2 x3 x4 fs0 fs2) (val_A.sl.r_3 c i y2 u2 y3 u3 y4 u4 y5 u5 y6 u6 y7 u7 y8 u8 y9 u9 y10 u10 y11 u11 hc0 hc1 x0 x1 x2 x3 x4 fs0 fs2) (val_A.sl.v293 c i y2 u2 y3 u3 y4 u4 y5 u5 y6 u6 y7 u7 y8 u8 y9 u9 y10 u10 y11 u11 hc0 hc1 x0 x1 x3 x4 fs0) (val_A.sl.v295 c i y2 u2 y3 u3 y4 u4 y5 u5 y6 u6 y7 u7 y8 u8 y9 u9 y10 u10 y11 u11 hc0 hc1 x0 x1 x2 x3 x4 fs0 fs2) (val_A.sl.v300 c i y2 u2 y3 u3 y4 u4 y5 u5 y6 u6 y7 u7 y8 u8 y9 u9 y10 u10 y11 u11 hc0 hc1 x0 x1 x2 x3 x4 fs0 fs2) (val_A.sl.v305 c i y2 u2 y3 u3 y4 u4 y5 u5 y6 u6 y7 u7 y8 u8 y9 u9 y10 u10 y11 u11 hc0 hc1 x0 x1 x2 x3 x4 fs0 fs2) (u2.unread x0) (u3.unread x1) (u4.unread x2) (u6.unread x4) f8 g9 (y10.view.writes (Elt F) y10.view.junk P10) (y11.view.writes (Elt F) y11.view.junk L0) (k0_pay396, (val_A.sl.v293 c i y2 u2 y3 u3 y4 u4 y5 u5 y6 u6 y7 u7 y8 u8 y9 u9 y10 u10 y11 u11 hc0 hc1 x0 x1 x3 x4 fs0)) (Scf.trips (k0_t5_loop i).lb (k0_t5_loop i).ub (k0_t5_loop i).st)
  let S6 := st_k0_t6 Variants.none c none i y2 u2 y3 u3 y4 u4 y5 u5 y6 u6 y7 u7 y8 u8 y9 u9 y10 u10 y11 u11 (BitVec.ofNat 32 (i 0).val) k0_pay392 k0_pay396 (val_A.sl.v47 i) (val_A.sl.v48 i) hc1 (val_A.sl.r_2 c i y2 u2 y3 u3 y4 u4 y5 u5 y6 u6 y7 u7 y8 u8 y9 u9 y10 u10 y11 u11 hc0 hc1 x0 x1 x2 x3 x4 fs0 fs2) (val_A.sl.r_3 c i y2 u2 y3 u3 y4 u4 y5 u5 y6 u6 y7 u7 y8 u8 y9 u9 y10 u10 y11 u11 hc0 hc1 x0 x1 x2 x3 x4 fs0 fs2) (val_A.sl.v293 c i y2 u2 y3 u3 y4 u4 y5 u5 y6 u6 y7 u7 y8 u8 y9 u9 y10 u10 y11 u11 hc0 hc1 x0 x1 x3 x4 fs0) (val_A.sl.v295 c i y2 u2 y3 u3 y4 u4 y5 u5 y6 u6 y7 u7 y8 u8 y9 u9 y10 u10 y11 u11 hc0 hc1 x0 x1 x2 x3 x4 fs0 fs2) (val_A.sl.v300 c i y2 u2 y3 u3 y4 u4 y5 u5 y6 u6 y7 u7 y8 u8 y9 u9 y10 u10 y11 u11 hc0 hc1 x0 x1 x2 x3 x4 fs0 fs2) (val_A.sl.v305 c i y2 u2 y3 u3 y4 u4 y5 u5 y6 u6 y7 u7 y8 u8 y9 u9 y10 u10 y11 u11 hc0 hc1 x0 x1 x2 x3 x4 fs0 fs2) (val_A.sl.v337 i) (u2.unread x0) (u3.unread x1) (u4.unread x2) (u6.unread x4) f8 (y9.view.writes (Elt F) y9.view.junk (S5.2.1 ++ (S4.2.1 ++ (S3.2.1 ++ P9)))) (y10.view.writes (Elt F) y10.view.junk (S5.2.2.1 ++ P10)) (y11.view.writes (Elt F) y11.view.junk (S5.2.2.2 ++ L0)) (S5.1.1, S5.1.2) (Scf.trips (k0_t6_loop i).lb (k0_t6_loop i).ub (k0_t6_loop i).st)
  refine ⟨(val_A.sl.HS3_1_1 c i y2 u2 y3 u3 y4 u4 y5 u5 y6 u6 y7 u7 y8 u8 y9 u9 y10 u10 y11 u11 hc0 hc1 x0 x1 x2 x3 x4 fs0 fs2), ⟨S3, S4, S5, S6, (val_A.sl.v47 i), (val_A.sl.v48 i), (val_A.sl.v149 c i y2 u2 y3 u3 y4 u4 y5 u5 y6 u6 y7 u7 y8 u8 y9 u9 y10 u10 y11 u11 hc0 hc1 x0 x1 x3 x4 fs0), (val_A.sl.v168 c i y2 u2 y3 u3 y4 u4 y5 u5 y6 u6 y7 u7 y8 u8 y9 u9 y10 u10 y11 u11 hc0 hc1 x0 x1 x3 x4 fs0), (val_A.sl.r_2 c i y2 u2 y3 u3 y4 u4 y5 u5 y6 u6 y7 u7 y8 u8 y9 u9 y10 u10 y11 u11 hc0 hc1 x0 x1 x2 x3 x4 fs0 fs2), (val_A.sl.r_3 c i y2 u2 y3 u3 y4 u4 y5 u5 y6 u6 y7 u7 y8 u8 y9 u9 y10 u10 y11 u11 hc0 hc1 x0 x1 x2 x3 x4 fs0 fs2), (val_A.sl.v293 c i y2 u2 y3 u3 y4 u4 y5 u5 y6 u6 y7 u7 y8 u8 y9 u9 y10 u10 y11 u11 hc0 hc1 x0 x1 x3 x4 fs0), (val_A.sl.v295 c i y2 u2 y3 u3 y4 u4 y5 u5 y6 u6 y7 u7 y8 u8 y9 u9 y10 u10 y11 u11 hc0 hc1 x0 x1 x2 x3 x4 fs0 fs2), (val_A.sl.v300 c i y2 u2 y3 u3 y4 u4 y5 u5 y6 u6 y7 u7 y8 u8 y9 u9 y10 u10 y11 u11 hc0 hc1 x0 x1 x2 x3 x4 fs0 fs2), (val_A.sl.v305 c i y2 u2 y3 u3 y4 u4 y5 u5 y6 u6 y7 u7 y8 u8 y9 u9 y10 u10 y11 u11 hc0 hc1 x0 x1 x2 x3 x4 fs0 fs2), g9, T10, P9, P10, L0, m0, (val_A.sl.v293 c i y2 u2 y3 u3 y4 u4 y5 u5 y6 u6 y7 u7 y8 u8 y9 u9 y10 u10 y11 u11 hc0 hc1 x0 x1 x3 x4 fs0), rfl, rfl, rfl, st4 .., rfl, rfl, rfl, rfl, st6 .., rfl⟩, rfl⟩

end Cert.AttentionIdeal.Attn

end
-- ==== Proof.AttnIdeal.ValB.lean ====
/- The attention over the ideal numbers: what is computed by the body at a later pair of heads, in the first half of its run of four blocks. -/
module

public import proofs.«01_k».proof.Proof.AttnIdeal.ValA

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 1320000 in
/-- The body at a later pair of heads, in the first half of its run of four blocks: the output and the mask it leaves, as functions of what it is given. -/
def val_B (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : ¬cond0_0 i) (hc1 : cond0_1 i) (hc2 : ¬cond0_2 i)
    (x0 : Vec F S512x256 .bf16) (x1 : Vec F S8192x256 .bf16) (x2 : Vec F S8192x256 .bf16) (x3 : Vec F S512x256 .i32) (x4 : Vec F S4x2x512x256 .f32)
    (f5 : BufTy.Contents (Elt F) y7.view.ty) (fs0 : BufTy.Contents (Elt F) y8.view.ty) (fs1 : BufTy.Contents (Elt F) y9.view.ty) (fs2 : BufTy.Contents (Elt F) y10.view.ty) (fs3 : BufTy.Contents (Elt F) y11.view.ty) :
    Σ' (X7 : BufTy.Contents (Elt F) y7.view.ty), { X8 : BufTy.Contents (Elt F) y8.view.ty //
      ∀ (E : Set ℕ) (K : PUnit → sProp (MT nD τ sig Unit (Elt F) ℕ (UR sig nD τ) ℕ)),
        iprop((y2.view.loc (c : Thread nD τ) ↦[y2.view.set]{fullShare} u2.unread x0) ∗ (y3.view.loc (c : Thread nD τ) ↦[y3.view.set]{fullShare} u3.unread x1) ∗ (y4.view.loc (c : Thread nD τ) ↦[y4.view.set]{fullShare} u4.unread x2) ∗ (y5.view.loc (c : Thread nD τ) ↦[y5.view.set]{fullShare} u5.unread x3) ∗ (y6.view.loc (c : Thread nD τ) ↦[y6.view.set]{fullShare} u6.unread x4) ∗ (y7.view.loc (c : Thread nD τ) ↦[y7.view.set]{fullShare} f5) ∗ (y8.view.loc (c : Thread nD τ) ↦[y8.view.set]{fullShare} fs0) ∗ (y9.view.loc (c : Thread nD τ) ↦[y9.view.set]{fullShare} fs1) ∗ (y10.view.loc (c : Thread nD τ) ↦[y10.view.set]{fullShare} fs2) ∗ (y11.view.loc (c : Thread nD τ) ↦[y11.view.set]{fullShare} fs3)
            ∗ (iprop((y2.view.loc (c : Thread nD τ) ↦[y2.view.set]{fullShare} u2.unread x0) ∗ (y3.view.loc (c : Thread nD τ) ↦[y3.view.set]{fullShare} u3.unread x1) ∗ (y4.view.loc (c : Thread nD τ) ↦[y4.view.set]{fullShare} u4.unread x2) ∗ (y5.view.loc (c : Thread nD τ) ↦[y5.view.set]{fullShare} u5.unread x3) ∗ (y6.view.loc (c : Thread nD τ) ↦[y6.view.set]{fullShare} u6.unread x4) ∗ (y7.view.loc (c : Thread nD τ) ↦[y7.view.set]{fullShare} X7) ∗ (y8.view.loc (c : Thread nD τ) ↦[y8.view.set]{fullShare} X8) ∗ (∃ f, (y9.view.loc (c : Thread nD τ) ↦[y9.view.set]{fullShare} f)) ∗ (∃ f, (y10.view.loc (c : Thread nD τ) ↦[y10.view.set]{fullShare} f)) ∗ (∃ f, (y11.view.loc (c : Thread nD τ) ↦[y11.view.set]{fullShare} f))) -∗ K ⟨⟩))
          ⊢ wp frame (wpE (defs₀ (F := F)) Variants.none c none) E (cc0_attention i y2 u2 y3 u3 y4 u4 y5 u5 y6 u6 y7 u7 y8 u8 y9 u9 y10 u10 y11 u11) K } := by
  refine ⟨?_, ?_, fun E K => ?run⟩
  case run =>
    simp only [cc0_attention_eq_skeleton]; unfold cc0_attention_skel
    simp only [k0_part100_eq_skeleton, k0_part101_eq_skeleton, k0_part45_eq_skeleton, k0_part37_eq_skeleton, k0_part38_eq_skeleton, k0_part39_eq_skeleton, k0_part40_eq_skeleton, k0_part41_eq_skeleton, k0_part42_eq_skeleton, k0_part43_eq_skeleton, k0_part44_eq_skeleton]
    iintro ⟨H0, H1, H2, H3, H4, H5, HS0, HS1, HS2, HS3, Hk⟩
    sl_exec (disch := first | sl_exact hc0 | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexists _; iexact HS1
    isplitl [HS2]; · iexists _; iexact HS2
    iexists _; iexact HS3

end Cert.AttentionIdeal.Attn

end
-- ==== Proof.AttnIdeal.PathB.lean ====
/- The attention: the stores of one program, by case. -/
module

public import proofs.«01_k».proof.Proof.AttnIdeal.Setup
public import proofs.«01_k».proof.Proof.AttnIdeal.Paths
public import proofs.«01_k».proof.Proof.AttnIdeal.ValB
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The mask that the program leaves. -/
theorem mask_B (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : ¬cond0_0 i) (hc1 : cond0_1 i) (hc2 : ¬cond0_2 i)
    (x0 : Vec F S512x256 .bf16) (x1 : Vec F S8192x256 .bf16) (x2 : Vec F S8192x256 .bf16) (x3 : Vec F S512x256 .i32) (x4 : Vec F S4x2x512x256 .f32)
    (f5 : BufTy.Contents (Elt F) y7.view.ty) (fs0 : BufTy.Contents (Elt F) y8.view.ty) (fs1 : BufTy.Contents (Elt F) y9.view.ty) (fs2 : BufTy.Contents (Elt F) y10.view.ty) (fs3 : BufTy.Contents (Elt F) y11.view.ty) :
    (val_B c i y2 u2 y3 u3 y4 u4 y5 u5 y6 u6 y7 u7 y8 u8 y9 u9 y10 u10 y11 u11 hc0 hc1 hc2 x0 x1 x2 x3 x4 f5 fs0 fs1 fs2 fs3).2.val = fs0 := rfl

set_option maxHeartbeats 2000000 in
/-- The output that the program leaves. -/
theorem out_B (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : ¬cond0_0 i) (hc1 : cond0_1 i) (hc2 : ¬cond0_2 i)
    (x0 : Vec F S512x256 .bf16) (x1 : Vec F S8192x256 .bf16) (x2 : Vec F S8192x256 .bf16) (x3 : Vec F S512x256 .i32) (x4 : Vec F S4x2x512x256 .f32)
    (f5 : BufTy.Contents (Elt F) y7.view.ty) (fs0 : BufTy.Contents (Elt F) y8.view.ty) (fs1 : BufTy.Contents (Elt F) y9.view.ty) (fs2 : BufTy.Contents (Elt F) y10.view.ty) (fs3 : BufTy.Contents (Elt F) y11.view.ty) :
    ∃ L, Odd c i y2 u2 y3 u3 y4 u4 y5 u5 y6 u6 y7 u7 y8 u8 y9 u9 y10 u10 y11 u11 hc1 (u2.unread x0) (u3.unread x1) (u4.unread x2) (u6.unread x4) fs0 fs2 L
      ∧ (val_B c i y2 u2 y3 u3 y4 u4 y5 u5 y6 u6 y7 u7 y8 u8 y9 u9 y10 u10 y11 u11 hc0 hc1 hc2 x0 x1 x2 x3 x4 f5 fs0 fs1 fs2 fs3).1 = y7.view.writes (Elt F) f5 (outs y11.view L) := by
  let f8 := fs0
  let P9 := (val_B.sl.HS1_4 i y2 u2 y3 u3 y6 u6 y8 hc1 x0 x1 x4 fs0)
  let m0 := k0_pay155 k0_pay396 (val_B.sl.v149 i y2 u2 y3 u3 y6 u6 y8 hc1 x0 x1 x4 fs0) (val_B.sl.v168 i y2 u2 y3 u3 y6 u6 y8 hc1 x0 x1 x4 fs0)
  let S3 := st_k0_t3 Variants.none c none i y2 u2 y3 u3 y4 u4 y5 u5 y6 u6 y7 u7 y8 u8 y9 u9 y10 u10 y11 u11 (BitVec.ofNat 32 (i 0).val) k0_pay392 k0_pay396 (val_B.sl.v47 i) hc1 (val_B.sl.v149 i y2 u2 y3 u3 y6 u6 y8 hc1 x0 x1 x4 fs0) (val_B.sl.v168 i y2 u2 y3 u3 y6 u6 y8 hc1 x0 x1 x4 fs0) (u2.unread x0) (u3.unread x1) (u4.unread x2) (u6.unread x4) f8 (y9.view.writes (Elt F) y9.view.junk P9) fs2 (y11.view.writes (Elt F) y11.view.junk val_B.sl.HS3_1) (k0_pay396, m0) (Scf.trips (k0_t3_loop i).lb (k0_t3_loop i).ub (k0_t3_loop i).st)
  let S4 := st_k0_t4 Variants.none c none i y2 u2 y3 u3 y4 u4 y5 u5 y6 u6 y7 u7 y8 u8 y9 u9 y10 u10 y11 u11 (BitVec.ofNat 32 (i 0).val) k0_pay392 k0_pay396 (val_B.sl.v47 i) hc1 (val_B.sl.v149 i y2 u2 y3 u3 y6 u6 y8 hc1 x0 x1 x4 fs0) (val_B.sl.v168 i y2 u2 y3 u3 y6 u6 y8 hc1 x0 x1 x4 fs0) (val_B.sl.v183 i) (u2.unread x0) (u3.unread x1) (u4.unread x2) (u6.unread x4) f8 (y9.view.writes (Elt F) y9.view.junk (S3.2.1 ++ P9)) (y10.view.writes (Elt F) fs2 S3.2.2.1) (y11.view.writes (Elt F) y11.view.junk (S3.2.2.2 ++ val_B.sl.HS3_1)) (S3.1.1, S3.1.2) (Scf.trips (k0_t4_loop i).lb (k0_t4_loop i).ub (k0_t4_loop i).st)
  let T10 := S4.2.2.1 ++ S3.2.2.1
  let P10 := (val_B.sl.HS2_4 c i y2 u2 y3 u3 y4 u4 y5 u5 y6 u6 y7 u7 y8 u8 y9 u9 y10 u10 y11 u11 hc1 x0 x1 x2 x4 fs0 fs2)
  let g9 := (y9.view.writes (Elt F) y9.view.junk (S4.2.1 ++ (S3.2.1 ++ P9)))
  let L0 := (⟨Rect.unit ![0, 0, 0] S1x512x256.size inb_S2x512x256_S1x512x256_0_0_0, k0_pay177 k0_pay392 (val_B.sl.r_2 c i y2 u2 y3 u3 y4 u4 y5 u5 y6 u6 y7 u7 y8 u8 y9 u9 y10 u10 y11 u11 hc1 x0 x1 x2 x4 fs0 fs2) (val_B.sl.r_3 c i y2 u2 y3 u3 y4 u4 y5 u5 y6 u6 y7 u7 y8 u8 y9 u9 y10 u10 y11 u11 hc1 x0 x1 x2 x4 fs0 fs2) (val_B.sl.v295 c i y2 u2 y3 u3 y4 u4 y5 u5 y6 u6 y7 u7 y8 u8 y9 u9 y10 u10 y11 u11 hc1 x0 x1 x2 x4 fs0 fs2) (val_B.sl.v300 c i y2 u2 y3 u3 y4 u4 y5 u5 y6 u6 y7 u7 y8 u8 y9 u9 y10 u10 y11 u11 hc1 x0 x1 x2 x4 fs0 fs2) (val_B.sl.v305 c i y2 u2 y3 u3 y4 u4 y5 u5 y6 u6 y7 u7 y8 u8 y9 u9 y10 u10 y11 u11 hc1 x0 x1 x2 x4 fs0 fs2) (val_B.sl.v306 c i y2 u2 y3 u3 y4 u4 y5 u5 y6 u6 y7 u7 y8 u8 y9 u9 y10 u10 y11 u11 hc1 x0 x1 x2 x4 fs0 fs2) (val_B.sl.v311 c i y2 u2 y3 u3 y4 u4 y5 u5 y6 u6 y7 u7 y8 u8 y9 u9 y10 u10 y11 u11 hc1 x0 x1 x2 x4 fs0 fs2) (y4.view.readAt (Elt F) (Rect.unit (s := S8192x256) (k0_off15 i) S1024x128.size (k0_off15_inb i hc1)).toLoadRect (u4.unread x2)) (val_B.sl.v323 c i y2 u2 y3 u3 y4 u4 y5 u5 y6 u6 y7 u7 y8 u8 y9 u9 y10 u10 y11 u11 hc1 x0 x1 x2 x4 fs0 fs2)⟩ : View.Piece (Elt F) S2x512x256 .f32) :: (S4.2.2.2 ++ (S3.2.2.2 ++ val_B.sl.HS3_1))
  let S5 := st_k0_t5 Variants.none c none i y2 u2 y3 u3 y4 u4 y5 u5 y6 u6 y7 u7 y8 u8 y9 u9 y10 u10 y11 u11 (BitVec.ofNat 32 (i 0).val) k0_pay392 k0_pay396 (val_B.sl.v47 i) (val_B.sl.v48 i) hc1 (val_B.sl.r_2 c i y2 u2 y3 u3 y4 u4 y5 u5 y6 u6 y7 u7 y8 u8 y9 u9 y10 u10 y11 u11 hc1 x0 x1 x2 x4 fs0 fs2) (val_B.sl.r_3 c i y2 u2 y3 u3 y4 u4 y5 u5 y6 u6 y7 u7 y8 u8 y9 u9 y10 u10 y11 u11 hc1 x0 x1 x2 x4 fs0 fs2) (val_B.sl.v293 i y2 u2 y3 u3 y6 u6 y8 hc1 x0 x1 x4 fs0) (val_B.sl.v295 c i y2 u2 y3 u3 y4 u4 y5 u5 y6 u6 y7 u7 y8 u8 y9 u9 y10 u10 y11 u11 hc1 x0 x1 x2 x4 fs0 fs2) (val_B.sl.v300 c i y2 u2 y3 u3 y4 u4 y5 u5 y6 u6 y7 u7 y8 u8 y9 u9 y10 u10 y11 u11 hc1 x0 x1 x2 x4 fs0 fs2) (val_B.sl.v305 c i y2 u2 y3 u3 y4 u4 y5 u5 y6 u6 y7 u7 y8 u8 y9 u9 y10 u10 y11 u11 hc1 x0 x1 x2 x4 fs0 fs2) (u2.unread x0) (u3.unread x1) (u4.unread x2) (u6.unread x4) f8 g9 (y10.view.writes (Elt F) y10.view.junk P10) (y11.view.writes (Elt F) y11.view.junk L0) (k0_pay396, (val_B.sl.v293 i y2 u2 y3 u3 y6 u6 y8 hc1 x0 x1 x4 fs0)) (Scf.trips (k0_t5_loop i).lb (k0_t5_loop i).ub (k0_t5_loop i).st)
  let S6 := st_k0_t6 Variants.none c none i y2 u2 y3 u3 y4 u4 y5 u5 y6 u6 y7 u7 y8 u8 y9 u9 y10 u10 y11 u11 (BitVec.ofNat 32 (i 0).val) k0_pay392 k0_pay396 (val_B.sl.v47 i) (val_B.sl.v48 i) hc1 (val_B.sl.r_2 c i y2 u2 y3 u3 y4 u4 y5 u5 y6 u6 y7 u7 y8 u8 y9 u9 y10 u10 y11 u11 hc1 x0 x1 x2 x4 fs0 fs2) (val_B.sl.r_3 c i y2 u2 y3 u3 y4 u4 y5 u5 y6 u6 y7 u7 y8 u8 y9 u9 y10 u10 y11 u11 hc1 x0 x1 x2 x4 fs0 fs2) (val_B.sl.v293 i y2 u2 y3 u3 y6 u6 y8 hc1 x0 x1 x4 fs0) (val_B.sl.v295 c i y2 u2 y3 u3 y4 u4 y5 u5 y6 u6 y7 u7 y8 u8 y9 u9 y10 u10 y11 u11 hc1 x0 x1 x2 x4 fs0 fs2) (val_B.sl.v300 c i y2 u2 y3 u3 y4 u4 y5 u5 y6 u6 y7 u7 y8 u8 y9 u9 y10 u10 y11 u11 hc1 x0 x1 x2 x4 fs0 fs2) (val_B.sl.v305 c i y2 u2 y3 u3 y4 u4 y5 u5 y6 u6 y7 u7 y8 u8 y9 u9 y10 u10 y11 u11 hc1 x0 x1 x2 x4 fs0 fs2) (val_B.sl.v337 i) (u2.unread x0) (u3.unread x1) (u4.unread x2) (u6.unread x4) f8 (y9.view.writes (Elt F) y9.view.junk (S5.2.1 ++ (S4.2.1 ++ (S3.2.1 ++ P9)))) (y10.view.writes (Elt F) y10.view.junk (S5.2.2.1 ++ P10)) (y11.view.writes (Elt F) y11.view.junk (S5.2.2.2 ++ L0)) (S5.1.1, S5.1.2) (Scf.trips (k0_t6_loop i).lb (k0_t6_loop i).ub (k0_t6_loop i).st)
  refine ⟨(val_B.sl.HS3_1_1 c i y2 u2 y3 u3 y4 u4 y5 u5 y6 u6 y7 u7 y8 u8 y9 u9 y10 u10 y11 u11 hc1 x0 x1 x2 x4 fs0 fs2), ⟨S3, S4, S5, S6, (val_B.sl.v47 i), (val_B.sl.v48 i), (val_B.sl.v149 i y2 u2 y3 u3 y6 u6 y8 hc1 x0 x1 x4 fs0), (val_B.sl.v168 i y2 u2 y3 u3 y6 u6 y8 hc1 x0 x1 x4 fs0), (val_B.sl.r_2 c i y2 u2 y3 u3 y4 u4 y5 u5 y6 u6 y7 u7 y8 u8 y9 u9 y10 u10 y11 u11 hc1 x0 x1 x2 x4 fs0 fs2), (val_B.sl.r_3 c i y2 u2 y3 u3 y4 u4 y5 u5 y6 u6 y7 u7 y8 u8 y9 u9 y10 u10 y11 u11 hc1 x0 x1 x2 x4 fs0 fs2), (val_B.sl.v293 i y2 u2 y3 u3 y6 u6 y8 hc1 x0 x1 x4 fs0), (val_B.sl.v295 c i y2 u2 y3 u3 y4 u4 y5 u5 y6 u6 y7 u7 y8 u8 y9 u9 y10 u10 y11 u11 hc1 x0 x1 x2 x4 fs0 fs2), (val_B.sl.v300 c i y2 u2 y3 u3 y4 u4 y5 u5 y6 u6 y7 u7 y8 u8 y9 u9 y10 u10 y11 u11 hc1 x0 x1 x2 x4 fs0 fs2), (val_B.sl.v305 c i y2 u2 y3 u3 y4 u4 y5 u5 y6 u6 y7 u7 y8 u8 y9 u9 y10 u10 y11 u11 hc1 x0 x1 x2 x4 fs0 fs2), g9, T10, P9, P10, L0, m0, (val_B.sl.v293 i y2 u2 y3 u3 y6 u6 y8 hc1 x0 x1 x4 fs0), rfl, rfl, rfl, st4 .., rfl, rfl, rfl, rfl, st6 .., rfl⟩, rfl⟩

end Cert.AttentionIdeal.Attn

end
-- ==== Proof.AttnIdeal.ValC.lean ====
/- The attention over the ideal numbers: what is computed by the body at the first pair of heads, in the second half of its run of four blocks. -/
module

public import proofs.«01_k».proof.Proof.AttnIdeal.ValB

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 2220000 in
/-- The body at the first pair of heads, in the second half of its run of four blocks: the output and the mask it leaves, as functions of what it is given. -/
def val_C (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : cond0_0 i) (hc1 : ¬cond0_1 i) (hc2 : cond0_2 i)
    (x0 : Vec F S512x256 .bf16) (x1 : Vec F S8192x256 .bf16) (x2 : Vec F S8192x256 .bf16) (x3 : Vec F S512x256 .i32) (x4 : Vec F S4x2x512x256 .f32)
    (f5 : BufTy.Contents (Elt F) y7.view.ty) (fs0 : BufTy.Contents (Elt F) y8.view.ty) (fs1 : BufTy.Contents (Elt F) y9.view.ty) (fs2 : BufTy.Contents (Elt F) y10.view.ty) (fs3 : BufTy.Contents (Elt F) y11.view.ty) :
    Σ' (X7 : BufTy.Contents (Elt F) y7.view.ty), { X8 : BufTy.Contents (Elt F) y8.view.ty //
      ∀ (E : Set ℕ) (K : PUnit → sProp (MT nD τ sig Unit (Elt F) ℕ (UR sig nD τ) ℕ)),
        iprop((y2.view.loc (c : Thread nD τ) ↦[y2.view.set]{fullShare} u2.unread x0) ∗ (y3.view.loc (c : Thread nD τ) ↦[y3.view.set]{fullShare} u3.unread x1) ∗ (y4.view.loc (c : Thread nD τ) ↦[y4.view.set]{fullShare} u4.unread x2) ∗ (y5.view.loc (c : Thread nD τ) ↦[y5.view.set]{fullShare} u5.unread x3) ∗ (y6.view.loc (c : Thread nD τ) ↦[y6.view.set]{fullShare} u6.unread x4) ∗ (y7.view.loc (c : Thread nD τ) ↦[y7.view.set]{fullShare} f5) ∗ (y8.view.loc (c : Thread nD τ) ↦[y8.view.set]{fullShare} fs0) ∗ (y9.view.loc (c : Thread nD τ) ↦[y9.view.set]{fullShare} fs1) ∗ (y10.view.loc (c : Thread nD τ) ↦[y10.view.set]{fullShare} fs2) ∗ (y11.view.loc (c : Thread nD τ) ↦[y11.view.set]{fullShare} fs3)
            ∗ (iprop((y2.view.loc (c : Thread nD τ) ↦[y2.view.set]{fullShare} u2.unread x0) ∗ (y3.view.loc (c : Thread nD τ) ↦[y3.view.set]{fullShare} u3.unread x1) ∗ (y4.view.loc (c : Thread nD τ) ↦[y4.view.set]{fullShare} u4.unread x2) ∗ (y5.view.loc (c : Thread nD τ) ↦[y5.view.set]{fullShare} u5.unread x3) ∗ (y6.view.loc (c : Thread nD τ) ↦[y6.view.set]{fullShare} u6.unread x4) ∗ (y7.view.loc (c : Thread nD τ) ↦[y7.view.set]{fullShare} X7) ∗ (y8.view.loc (c : Thread nD τ) ↦[y8.view.set]{fullShare} X8) ∗ (∃ f, (y9.view.loc (c : Thread nD τ) ↦[y9.view.set]{fullShare} f)) ∗ (∃ f, (y10.view.loc (c : Thread nD τ) ↦[y10.view.set]{fullShare} f)) ∗ (∃ f, (y11.view.loc (c : Thread nD τ) ↦[y11.view.set]{fullShare} f))) -∗ K ⟨⟩))
          ⊢ wp frame (wpE (defs₀ (F := F)) Variants.none c none) E (cc0_attention i y2 u2 y3 u3 y4 u4 y5 u5 y6 u6 y7 u7 y8 u8 y9 u9 y10 u10 y11 u11) K } := by
  refine ⟨?_, ?_, fun E K => ?run⟩
  case run =>
    simp only [cc0_attention_eq_skeleton]; unfold cc0_attention_skel
    simp only [k0_part100_eq_skeleton, k0_part101_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    iintro ⟨H0, H1, H2, H3, H4, H5, HS0, HS1, HS2, HS3, Hk⟩
    sl_exec (disch := first | sl_exact hc0 | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexists _; iexact HS1
    isplitl [HS2]; · iexists _; iexact HS2
    iexists _; iexact HS3

end Cert.AttentionIdeal.Attn

end
-- ==== Proof.AttnIdeal.PathC.lean ====
/- The attention: the stores of one program, by case. -/
module

public import proofs.«01_k».proof.Proof.AttnIdeal.Setup
public import proofs.«01_k».proof.Proof.AttnIdeal.Paths
public import proofs.«01_k».proof.Proof.AttnIdeal.ValC
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The mask that the program leaves. -/
theorem mask_C (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : cond0_0 i) (hc1 : ¬cond0_1 i) (hc2 : cond0_2 i)
    (x0 : Vec F S512x256 .bf16) (x1 : Vec F S8192x256 .bf16) (x2 : Vec F S8192x256 .bf16) (x3 : Vec F S512x256 .i32) (x4 : Vec F S4x2x512x256 .f32)
    (f5 : BufTy.Contents (Elt F) y7.view.ty) (fs0 : BufTy.Contents (Elt F) y8.view.ty) (fs1 : BufTy.Contents (Elt F) y9.view.ty) (fs2 : BufTy.Contents (Elt F) y10.view.ty) (fs3 : BufTy.Contents (Elt F) y11.view.ty) :
    (val_C c i y2 u2 y3 u3 y4 u4 y5 u5 y6 u6 y7 u7 y8 u8 y9 u9 y10 u10 y11 u11 hc0 hc1 hc2 x0 x1 x2 x3 x4 f5 fs0 fs1 fs2 fs3).2.val = (y8.view.writes (Elt F) fs0 (pb_k0_t2 Variants.none c none i y2 u2 y3 u3 y4 u4 y5 u5 y6 u6 y7 u7 y8 u8 y9 u9 y10 u10 y11 u11 hc0 (u5.unread x3) (Scf.trips (k0_t2_loop i).lb (k0_t2_loop i).ub (k0_t2_loop i).st) ++ pb_k0_t1 Variants.none c none i y2 u2 y3 u3 y4 u4 y5 u5 y6 u6 y7 u7 y8 u8 y9 u9 y10 u10 y11 u11 hc0 (u5.unread x3) (Scf.trips (k0_t1_loop i).lb (k0_t1_loop i).ub (k0_t1_loop i).st))) := rfl

set_option maxHeartbeats 2000000 in
/-- The output that the program leaves. -/
theorem out_C (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : cond0_0 i) (hc1 : ¬cond0_1 i) (hc2 : cond0_2 i)
    (x0 : Vec F S512x256 .bf16) (x1 : Vec F S8192x256 .bf16) (x2 : Vec F S8192x256 .bf16) (x3 : Vec F S512x256 .i32) (x4 : Vec F S4x2x512x256 .f32)
    (f5 : BufTy.Contents (Elt F) y7.view.ty) (fs0 : BufTy.Contents (Elt F) y8.view.ty) (fs1 : BufTy.Contents (Elt F) y9.view.ty) (fs2 : BufTy.Contents (Elt F) y10.view.ty) (fs3 : BufTy.Contents (Elt F) y11.view.ty) :
    ∃ L, Even c i y2 u2 y3 u3 y4 u4 y5 u5 y6 u6 y7 u7 y8 u8 y9 u9 y10 u10 y11 u11 hc2 (u2.unread x0) (u3.unread x1) (u4.unread x2) (u6.unread x4) (y8.view.writes (Elt F) fs0 (pb_k0_t2 Variants.none c none i y2 u2 y3 u3 y4 u4 y5 u5 y6 u6 y7 u7 y8 u8 y9 u9 y10 u10 y11 u11 hc0 (u5.unread x3) (Scf.trips (k0_t2_loop i).lb (k0_t2_loop i).ub (k0_t2_loop i).st) ++ pb_k0_t1 Variants.none c none i y2 u2 y3 u3 y4 u4 y5 u5 y6 u6 y7 u7 y8 u8 y9 u9 y10 u10 y11 u11 hc0 (u5.unread x3) (Scf.trips (k0_t1_loop i).lb (k0_t1_loop i).ub (k0_t1_loop i).st))) fs2 L
      ∧ (val_C c i y2 u2 y3 u3 y4 u4 y5 u5 y6 u6 y7 u7 y8 u8 y9 u9 y10 u10 y11 u11 hc0 hc1 hc2 x0 x1 x2 x3 x4 f5 fs0 fs1 fs2 fs3).1 = y7.view.writes (Elt F) f5 (outs y11.view L) := by
  let f8 := (y8.view.writes (Elt F) fs0 (pb_k0_t2 Variants.none c none i y2 u2 y3 u3 y4 u4 y5 u5 y6 u6 y7 u7 y8 u8 y9 u9 y10 u10 y11 u11 hc0 (u5.unread x3) (Scf.trips (k0_t2_loop i).lb (k0_t2_loop i).ub (k0_t2_loop i).st) ++ pb_k0_t1 Variants.none c none i y2 u2 y3 u3 y4 u4 y5 u5 y6 u6 y7 u7 y8 u8 y9 u9 y10 u10 y11 u11 hc0 (u5.unread x3) (Scf.trips (k0_t1_loop i).lb (k0_t1_loop i).ub (k0_t1_loop i).st)))
  let P9 := (val_C.sl.HS1_4 c i y2 u2 y3 u3 y4 u4 y5 u5 y6 u6 y7 u7 y8 u8 y9 u9 y10 u10 y11 u11 hc0 hc2 x0 x1 x3 x4 fs0)
  let m0 := k0_pay336 k0_pay396 (val_C.sl.v149 c i y2 u2 y3 u3 y4 u4 y5 u5 y6 u6 y7 u7 y8 u8 y9 u9 y10 u10 y11 u11 hc0 hc2 x0 x1 x3 x4 fs0) (val_C.sl.v168 c i y2 u2 y3 u3 y4 u4 y5 u5 y6 u6 y7 u7 y8 u8 y9 u9 y10 u10 y11 u11 hc0 hc2 x0 x1 x3 x4 fs0)
  let S7 := st_k0_t7 Variants.none c none i y2 u2 y3 u3 y4 u4 y5 u5 y6 u6 y7 u7 y8 u8 y9 u9 y10 u10 y11 u11 (BitVec.ofNat 32 (i 0).val) k0_pay392 k0_pay396 (val_C.sl.v47 i) (val_C.sl.v48 i) hc2 (val_C.sl.v149 c i y2 u2 y3 u3 y4 u4 y5 u5 y6 u6 y7 u7 y8 u8 y9 u9 y10 u10 y11 u11 hc0 hc2 x0 x1 x3 x4 fs0) (val_C.sl.v168 c i y2 u2 y3 u3 y4 u4 y5 u5 y6 u6 y7 u7 y8 u8 y9 u9 y10 u10 y11 u11 hc0 hc2 x0 x1 x3 x4 fs0) (u2.unread x0) (u3.unread x1) (u4.unread x2) (u6.unread x4) f8 (y9.view.writes (Elt F) y9.view.junk P9) fs2 (y11.view.writes (Elt F) y11.view.junk val_C.sl.HS3_1) (k0_pay396, m0) (Scf.trips (k0_t7_loop i).lb (k0_t7_loop i).ub (k0_t7_loop i).st)
  let S8 := st_k0_t8 Variants.none c none i y2 u2 y3 u3 y4 u4 y5 u5 y6 u6 y7 u7 y8 u8 y9 u9 y10 u10 y11 u11 (BitVec.ofNat 32 (i 0).val) k0_pay392 k0_pay396 (val_C.sl.v47 i) (val_C.sl.v48 i) hc2 (val_C.sl.v149 c i y2 u2 y3 u3 y4 u4 y5 u5 y6 u6 y7 u7 y8 u8 y9 u9 y10 u10 y11 u11 hc0 hc2 x0 x1 x3 x4 fs0) (val_C.sl.v168 c i y2 u2 y3 u3 y4 u4 y5 u5 y6 u6 y7 u7 y8 u8 y9 u9 y10 u10 y11 u11 hc0 hc2 x0 x1 x3 x4 fs0) (val_C.sl.v183 i) (u2.unread x0) (u3.unread x1) (u4.unread x2) (u6.unread x4) f8 (y9.view.writes (Elt F) y9.view.junk (S7.2.1 ++ P9)) (y10.view.writes (Elt F) fs2 S7.2.2.1) (y11.view.writes (Elt F) y11.view.junk (S7.2.2.2 ++ val_C.sl.HS3_1)) (S7.1.1, S7.1.2) (Scf.trips (k0_t8_loop i).lb (k0_t8_loop i).ub (k0_t8_loop i).st)
  let T10 := S8.2.2.1 ++ S7.2.2.1
  let P10 := (val_C.sl.HS2_4 c i y2 u2 y3 u3 y4 u4 y5 u5 y6 u6 y7 u7 y8 u8 y9 u9 y10 u10 y11 u11 hc0 hc2 x0 x1 x2 x3 x4 fs0 fs2)
  let g10 := (y10.view.writes (Elt F) y10.view.junk P10)
  let T9 := S8.2.1 ++ (S7.2.1 ++ P9)
  let Q9 := (⟨Rect.unit ![3, 0, 0] S1x512x256.size (in4 3), (val_C.sl.v450 c i y2 u2 y3 u3 y4 u4 y5 u5 y6 u6 y7 u7 y8 u8 y9 u9 y10 u10 y11 u11 hc0 hc2 x0 x1 x3 x4 fs0)⟩ : View.Piece (Elt F) S4x512x256 .f32) :: (val_C.sl.HS1_3 c i y2 u2 y3 u3 y4 u4 y5 u5 y6 u6 y7 u7 y8 u8 y9 u9 y10 u10 y11 u11 hc0 hc2 x0 x1 x2 x3 x4 fs0 fs2)
  let L0 := (val_C.sl.HS3_1_1 c i y2 u2 y3 u3 y4 u4 y5 u5 y6 u6 y7 u7 y8 u8 y9 u9 y10 u10 y11 u11 hc0 hc2 x0 x1 x2 x3 x4 fs0 fs2)
  let L1 := (⟨Rect.unit ![0, 0, 0] S1x512x256.size (in2 0), k0_pay370 (val_C.sl.r_3 c i y2 u2 y3 u3 y4 u4 y5 u5 y6 u6 y7 u7 y8 u8 y9 u9 y10 u10 y11 u11 hc0 hc2 x0 x1 x2 x3 x4 fs0 fs2) (val_C.sl.v310 c i y2 u2 y3 u3 y4 u4 y5 u5 y6 u6 y7 u7 y8 u8 y9 u9 y10 u10 y11 u11 hc0 hc2 x0 x1 x2 x3 x4 fs0 fs2) (val_C.sl.v487 c i y2 u2 y3 u3 y4 u4 y5 u5 y6 u6 y7 u7 y8 u8 y9 u9 y10 u10 y11 u11 hc0 hc2 x0 x1 x2 x3 x4 fs0 fs2) (val_C.sl.v488 c i y2 u2 y3 u3 y4 u4 y5 u5 y6 u6 y7 u7 y8 u8 y9 u9 y10 u10 y11 u11 hc0 hc2 x0 x1 x2 x3 x4 fs0 fs2)⟩ : View.Piece (Elt F) S2x512x256 .f32) :: (val_C.sl.HS3_1_1 c i y2 u2 y3 u3 y4 u4 y5 u5 y6 u6 y7 u7 y8 u8 y9 u9 y10 u10 y11 u11 hc0 hc2 x0 x1 x2 x3 x4 fs0 fs2)
  let S9 := st_k0_t9 Variants.none c none i y2 u2 y3 u3 y4 u4 y5 u5 y6 u6 y7 u7 y8 u8 y9 u9 y10 u10 y11 u11 (BitVec.ofNat 32 (i 0).val) k0_pay392 k0_pay396 (val_C.sl.v47 i) (val_C.sl.v48 i) hc2 (val_C.sl.r_3 c i y2 u2 y3 u3 y4 u4 y5 u5 y6 u6 y7 u7 y8 u8 y9 u9 y10 u10 y11 u11 hc0 hc2 x0 x1 x2 x3 x4 fs0 fs2) (val_C.sl.v310 c i y2 u2 y3 u3 y4 u4 y5 u5 y6 u6 y7 u7 y8 u8 y9 u9 y10 u10 y11 u11 hc0 hc2 x0 x1 x2 x3 x4 fs0 fs2) (val_C.sl.v457 c i y2 u2 y3 u3 y4 u4 y5 u5 y6 u6 y7 u7 y8 u8 y9 u9 y10 u10 y11 u11 hc0 hc2 x0 x1 x3 x4 fs0) (val_C.sl.v487 c i y2 u2 y3 u3 y4 u4 y5 u5 y6 u6 y7 u7 y8 u8 y9 u9 y10 u10 y11 u11 hc0 hc2 x0 x1 x2 x3 x4 fs0 fs2) (u2.unread x0) (u3.unread x1) (u4.unread x2) (u6.unread x4) f8 (y9.view.writes (Elt F) y9.view.junk Q9) g10 (y11.view.writes (Elt F) y11.view.junk L1) (k0_pay396, (val_C.sl.v457 c i y2 u2 y3 u3 y4 u4 y5 u5 y6 u6 y7 u7 y8 u8 y9 u9 y10 u10 y11 u11 hc0 hc2 x0 x1 x3 x4 fs0)) (Scf.trips (k0_t9_loop i).lb (k0_t9_loop i).ub (k0_t9_loop i).st)
  let S10 := st_k0_t10 Variants.none c none i y2 u2 y3 u3 y4 u4 y5 u5 y6 u6 y7 u7 y8 u8 y9 u9 y10 u10 y11 u11 (BitVec.ofNat 32 (i 0).val) k0_pay392 k0_pay396 (val_C.sl.v47 i) (val_C.sl.v48 i) hc2 (val_C.sl.r_3 c i y2 u2 y3 u3 y4 u4 y5 u5 y6 u6 y7 u7 y8 u8 y9 u9 y10 u10 y11 u11 hc0 hc2 x0 x1 x2 x3 x4 fs0 fs2) (val_C.sl.v310 c i y2 u2 y3 u3 y4 u4 y5 u5 y6 u6 y7 u7 y8 u8 y9 u9 y10 u10 y11 u11 hc0 hc2 x0 x1 x2 x3 x4 fs0 fs2) (val_C.sl.v457 c i y2 u2 y3 u3 y4 u4 y5 u5 y6 u6 y7 u7 y8 u8 y9 u9 y10 u10 y11 u11 hc0 hc2 x0 x1 x3 x4 fs0) (val_C.sl.v487 c i y2 u2 y3 u3 y4 u4 y5 u5 y6 u6 y7 u7 y8 u8 y9 u9 y10 u10 y11 u11 hc0 hc2 x0 x1 x2 x3 x4 fs0 fs2) (val_C.sl.v502 i) (u2.unread x0) (u3.unread x1) (u4.unread x2) (u6.unread x4) f8 (y9.view.writes (Elt F) y9.view.junk (S9.2.1 ++ Q9)) (y10.view.writes (Elt F) y10.view.junk (S9.2.2.1 ++ P10)) (y11.view.writes (Elt F) y11.view.junk (S9.2.2.2 ++ L1)) (S9.1.1, S9.1.2) (Scf.trips (k0_t10_loop i).lb (k0_t10_loop i).ub (k0_t10_loop i).st)
  let U10 := S10.2.2.1 ++ (S9.2.2.1 ++ P10)
  refine ⟨(val_C.sl.HS3_2 c i y2 u2 y3 u3 y4 u4 y5 u5 y6 u6 y7 u7 y8 u8 y9 u9 y10 u10 y11 u11 hc0 hc2 x0 x1 x2 x3 x4 fs0 fs2), ⟨S7, S8, S9, S10, (val_C.sl.v47 i), (val_C.sl.v48 i), (val_C.sl.v149 c i y2 u2 y3 u3 y4 u4 y5 u5 y6 u6 y7 u7 y8 u8 y9 u9 y10 u10 y11 u11 hc0 hc2 x0 x1 x3 x4 fs0), (val_C.sl.v168 c i y2 u2 y3 u3 y4 u4 y5 u5 y6 u6 y7 u7 y8 u8 y9 u9 y10 u10 y11 u11 hc0 hc2 x0 x1 x3 x4 fs0), (val_C.sl.r_3 c i y2 u2 y3 u3 y4 u4 y5 u5 y6 u6 y7 u7 y8 u8 y9 u9 y10 u10 y11 u11 hc0 hc2 x0 x1 x2 x3 x4 fs0 fs2), (val_C.sl.v310 c i y2 u2 y3 u3 y4 u4 y5 u5 y6 u6 y7 u7 y8 u8 y9 u9 y10 u10 y11 u11 hc0 hc2 x0 x1 x2 x3 x4 fs0 fs2), (val_C.sl.v457 c i y2 u2 y3 u3 y4 u4 y5 u5 y6 u6 y7 u7 y8 u8 y9 u9 y10 u10 y11 u11 hc0 hc2 x0 x1 x3 x4 fs0), (val_C.sl.v487 c i y2 u2 y3 u3 y4 u4 y5 u5 y6 u6 y7 u7 y8 u8 y9 u9 y10 u10 y11 u11 hc0 hc2 x0 x1 x2 x3 x4 fs0 fs2), T9, T10, U10, P9, P10, Q9, (val_C.sl.HS2_4_1 c i y2 u2 y3 u3 y4 u4 y5 u5 y6 u6 y7 u7 y8 u8 y9 u9 y10 u10 y11 u11 hc0 hc2 x0 x1 x2 x3 x4 fs0 fs2), g10, L0, L1, (val_C.sl.HS3_1_2 c i y2 u2 y3 u3 y4 u4 y5 u5 y6 u6 y7 u7 y8 u8 y9 u9 y10 u10 y11 u11 hc0 hc2 x0 x1 x2 x3 x4 fs0 fs2), m0, (val_C.sl.v310 c i y2 u2 y3 u3 y4 u4 y5 u5 y6 u6 y7 u7 y8 u8 y9 u9 y10 u10 y11 u11 hc0 hc2 x0 x1 x2 x3 x4 fs0 fs2), (val_C.sl.v457 c i y2 u2 y3 u3 y4 u4 y5 u5 y6 u6 y7 u7 y8 u8 y9 u9 y10 u10 y11 u11 hc0 hc2 x0 x1 x3 x4 fs0), (val_C.sl.v629 c i y2 u2 y3 u3 y4 u4 y5 u5 y6 u6 y7 u7 y8 u8 y9 u9 y10 u10 y11 u11 hc0 hc2 x0 x1 x2 x3 x4 fs0 fs2), rfl, rfl, rfl, st8 .., rfl, rfl, rfl, rfl, rfl, rfl, rfl, st10 .., rfl, rfl, rfl, rfl⟩, rfl⟩

end Cert.AttentionIdeal.Attn

end
-- ==== Proof.AttnIdeal.ValD.lean ====
/- The attention over the ideal numbers: what is computed by the body at a later pair of heads, in the second half of its run of four blocks. -/
module

public import proofs.«01_k».proof.Proof.AttnIdeal.ValC

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 2120000 in
/-- The body at a later pair of heads, in the second half of its run of four blocks: the output and the mask it leaves, as functions of what it is given. -/
def val_D (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : ¬cond0_0 i) (hc1 : ¬cond0_1 i) (hc2 : cond0_2 i)
    (x0 : Vec F S512x256 .bf16) (x1 : Vec F S8192x256 .bf16) (x2 : Vec F S8192x256 .bf16) (x3 : Vec F S512x256 .i32) (x4 : Vec F S4x2x512x256 .f32)
    (f5 : BufTy.Contents (Elt F) y7.view.ty) (fs0 : BufTy.Contents (Elt F) y8.view.ty) (fs1 : BufTy.Contents (Elt F) y9.view.ty) (fs2 : BufTy.Contents (Elt F) y10.view.ty) (fs3 : BufTy.Contents (Elt F) y11.view.ty) :
    Σ' (X7 : BufTy.Contents (Elt F) y7.view.ty), { X8 : BufTy.Contents (Elt F) y8.view.ty //
      ∀ (E : Set ℕ) (K : PUnit → sProp (MT nD τ sig Unit (Elt F) ℕ (UR sig nD τ) ℕ)),
        iprop((y2.view.loc (c : Thread nD τ) ↦[y2.view.set]{fullShare} u2.unread x0) ∗ (y3.view.loc (c : Thread nD τ) ↦[y3.view.set]{fullShare} u3.unread x1) ∗ (y4.view.loc (c : Thread nD τ) ↦[y4.view.set]{fullShare} u4.unread x2) ∗ (y5.view.loc (c : Thread nD τ) ↦[y5.view.set]{fullShare} u5.unread x3) ∗ (y6.view.loc (c : Thread nD τ) ↦[y6.view.set]{fullShare} u6.unread x4) ∗ (y7.view.loc (c : Thread nD τ) ↦[y7.view.set]{fullShare} f5) ∗ (y8.view.loc (c : Thread nD τ) ↦[y8.view.set]{fullShare} fs0) ∗ (y9.view.loc (c : Thread nD τ) ↦[y9.view.set]{fullShare} fs1) ∗ (y10.view.loc (c : Thread nD τ) ↦[y10.view.set]{fullShare} fs2) ∗ (y11.view.loc (c : Thread nD τ) ↦[y11.view.set]{fullShare} fs3)
            ∗ (iprop((y2.view.loc (c : Thread nD τ) ↦[y2.view.set]{fullShare} u2.unread x0) ∗ (y3.view.loc (c : Thread nD τ) ↦[y3.view.set]{fullShare} u3.unread x1) ∗ (y4.view.loc (c : Thread nD τ) ↦[y4.view.set]{fullShare} u4.unread x2) ∗ (y5.view.loc (c : Thread nD τ) ↦[y5.view.set]{fullShare} u5.unread x3) ∗ (y6.view.loc (c : Thread nD τ) ↦[y6.view.set]{fullShare} u6.unread x4) ∗ (y7.view.loc (c : Thread nD τ) ↦[y7.view.set]{fullShare} X7) ∗ (y8.view.loc (c : Thread nD τ) ↦[y8.view.set]{fullShare} X8) ∗ (∃ f, (y9.view.loc (c : Thread nD τ) ↦[y9.view.set]{fullShare} f)) ∗ (∃ f, (y10.view.loc (c : Thread nD τ) ↦[y10.view.set]{fullShare} f)) ∗ (∃ f, (y11.view.loc (c : Thread nD τ) ↦[y11.view.set]{fullShare} f))) -∗ K ⟨⟩))
          ⊢ wp frame (wpE (defs₀ (F := F)) Variants.none c none) E (cc0_attention i y2 u2 y3 u3 y4 u4 y5 u5 y6 u6 y7 u7 y8 u8 y9 u9 y10 u10 y11 u11) K } := by
  refine ⟨?_, ?_, fun E K => ?run⟩
  case run =>
    simp only [cc0_attention_eq_skeleton]; unfold cc0_attention_skel
    simp only [k0_part100_eq_skeleton, k0_part101_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    iintro ⟨H0, H1, H2, H3, H4, H5, HS0, HS1, HS2, HS3, Hk⟩
    sl_exec (disch := first | sl_exact hc0 | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexists _; iexact HS1
    isplitl [HS2]; · iexists _; iexact HS2
    iexists _; iexact HS3

end Cert.AttentionIdeal.Attn

end
-- ==== Proof.AttnIdeal.PathD.lean ====
/- The attention: the stores of one program, by case. -/
module

public import proofs.«01_k».proof.Proof.AttnIdeal.Setup
public import proofs.«01_k».proof.Proof.AttnIdeal.Paths
public import proofs.«01_k».proof.Proof.AttnIdeal.ValD
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The mask that the program leaves. -/
theorem mask_D (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : ¬cond0_0 i) (hc1 : ¬cond0_1 i) (hc2 : cond0_2 i)
    (x0 : Vec F S512x256 .bf16) (x1 : Vec F S8192x256 .bf16) (x2 : Vec F S8192x256 .bf16) (x3 : Vec F S512x256 .i32) (x4 : Vec F S4x2x512x256 .f32)
    (f5 : BufTy.Contents (Elt F) y7.view.ty) (fs0 : BufTy.Contents (Elt F) y8.view.ty) (fs1 : BufTy.Contents (Elt F) y9.view.ty) (fs2 : BufTy.Contents (Elt F) y10.view.ty) (fs3 : BufTy.Contents (Elt F) y11.view.ty) :
    (val_D c i y2 u2 y3 u3 y4 u4 y5 u5 y6 u6 y7 u7 y8 u8 y9 u9 y10 u10 y11 u11 hc0 hc1 hc2 x0 x1 x2 x3 x4 f5 fs0 fs1 fs2 fs3).2.val = fs0 := rfl

set_option maxHeartbeats 2000000 in
/-- The output that the program leaves. -/
theorem out_D (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (hc0 : ¬cond0_0 i) (hc1 : ¬cond0_1 i) (hc2 : cond0_2 i)
    (x0 : Vec F S512x256 .bf16) (x1 : Vec F S8192x256 .bf16) (x2 : Vec F S8192x256 .bf16) (x3 : Vec F S512x256 .i32) (x4 : Vec F S4x2x512x256 .f32)
    (f5 : BufTy.Contents (Elt F) y7.view.ty) (fs0 : BufTy.Contents (Elt F) y8.view.ty) (fs1 : BufTy.Contents (Elt F) y9.view.ty) (fs2 : BufTy.Contents (Elt F) y10.view.ty) (fs3 : BufTy.Contents (Elt F) y11.view.ty) :
    ∃ L, Even c i y2 u2 y3 u3 y4 u4 y5 u5 y6 u6 y7 u7 y8 u8 y9 u9 y10 u10 y11 u11 hc2 (u2.unread x0) (u3.unread x1) (u4.unread x2) (u6.unread x4) fs0 fs2 L
      ∧ (val_D c i y2 u2 y3 u3 y4 u4 y5 u5 y6 u6 y7 u7 y8 u8 y9 u9 y10 u10 y11 u11 hc0 hc1 hc2 x0 x1 x2 x3 x4 f5 fs0 fs1 fs2 fs3).1 = y7.view.writes (Elt F) f5 (outs y11.view L) := by
  let f8 := fs0
  let P9 := (val_D.sl.HS1_4 i y2 u2 y3 u3 y6 u6 y8 hc2 x0 x1 x4 fs0)
  let m0 := k0_pay336 k0_pay396 (val_D.sl.v149 i y2 u2 y3 u3 y6 u6 y8 hc2 x0 x1 x4 fs0) (val_D.sl.v168 i y2 u2 y3 u3 y6 u6 y8 hc2 x0 x1 x4 fs0)
  let S7 := st_k0_t7 Variants.none c none i y2 u2 y3 u3 y4 u4 y5 u5 y6 u6 y7 u7 y8 u8 y9 u9 y10 u10 y11 u11 (BitVec.ofNat 32 (i 0).val) k0_pay392 k0_pay396 (val_D.sl.v47 i) (val_D.sl.v48 i) hc2 (val_D.sl.v149 i y2 u2 y3 u3 y6 u6 y8 hc2 x0 x1 x4 fs0) (val_D.sl.v168 i y2 u2 y3 u3 y6 u6 y8 hc2 x0 x1 x4 fs0) (u2.unread x0) (u3.unread x1) (u4.unread x2) (u6.unread x4) f8 (y9.view.writes (Elt F) y9.view.junk P9) fs2 (y11.view.writes (Elt F) y11.view.junk val_D.sl.HS3_1) (k0_pay396, m0) (Scf.trips (k0_t7_loop i).lb (k0_t7_loop i).ub (k0_t7_loop i).st)
  let S8 := st_k0_t8 Variants.none c none i y2 u2 y3 u3 y4 u4 y5 u5 y6 u6 y7 u7 y8 u8 y9 u9 y10 u10 y11 u11 (BitVec.ofNat 32 (i 0).val) k0_pay392 k0_pay396 (val_D.sl.v47 i) (val_D.sl.v48 i) hc2 (val_D.sl.v149 i y2 u2 y3 u3 y6 u6 y8 hc2 x0 x1 x4 fs0) (val_D.sl.v168 i y2 u2 y3 u3 y6 u6 y8 hc2 x0 x1 x4 fs0) (val_D.sl.v183 i) (u2.unread x0) (u3.unread x1) (u4.unread x2) (u6.unread x4) f8 (y9.view.writes (Elt F) y9.view.junk (S7.2.1 ++ P9)) (y10.view.writes (Elt F) fs2 S7.2.2.1) (y11.view.writes (Elt F) y11.view.junk (S7.2.2.2 ++ val_D.sl.HS3_1)) (S7.1.1, S7.1.2) (Scf.trips (k0_t8_loop i).lb (k0_t8_loop i).ub (k0_t8_loop i).st)
  let T10 := S8.2.2.1 ++ S7.2.2.1
  let P10 := (val_D.sl.HS2_4 c i y2 u2 y3 u3 y4 u4 y5 u5 y6 u6 y7 u7 y8 u8 y9 u9 y10 u10 y11 u11 hc2 x0 x1 x2 x4 fs0 fs2)
  let g10 := (y10.view.writes (Elt F) y10.view.junk P10)
  let T9 := S8.2.1 ++ (S7.2.1 ++ P9)
  let Q9 := (⟨Rect.unit ![3, 0, 0] S1x512x256.size (in4 3), (val_D.sl.v450 i y2 u2 y3 u3 y6 u6 y8 hc2 x0 x1 x4 fs0)⟩ : View.Piece (Elt F) S4x512x256 .f32) :: (val_D.sl.HS1_3 c i y2 u2 y3 u3 y4 u4 y5 u5 y6 u6 y7 u7 y8 u8 y9 u9 y10 u10 y11 u11 hc2 x0 x1 x2 x4 fs0 fs2)
  let L0 := (val_D.sl.HS3_1_1 c i y2 u2 y3 u3 y4 u4 y5 u5 y6 u6 y7 u7 y8 u8 y9 u9 y10 u10 y11 u11 hc2 x0 x1 x2 x4 fs0 fs2)
  let L1 := (⟨Rect.unit ![0, 0, 0] S1x512x256.size (in2 0), k0_pay370 (val_D.sl.r_3 c i y2 u2 y3 u3 y4 u4 y5 u5 y6 u6 y7 u7 y8 u8 y9 u9 y10 u10 y11 u11 hc2 x0 x1 x2 x4 fs0 fs2) (val_D.sl.v310 c i y2 u2 y3 u3 y4 u4 y5 u5 y6 u6 y7 u7 y8 u8 y9 u9 y10 u10 y11 u11 hc2 x0 x1 x2 x4 fs0 fs2) (val_D.sl.v487 c i y2 u2 y3 u3 y4 u4 y5 u5 y6 u6 y7 u7 y8 u8 y9 u9 y10 u10 y11 u11 hc2 x0 x1 x2 x4 fs0 fs2) (val_D.sl.v488 c i y2 u2 y3 u3 y4 u4 y5 u5 y6 u6 y7 u7 y8 u8 y9 u9 y10 u10 y11 u11 hc2 x0 x1 x2 x4 fs0 fs2)⟩ : View.Piece (Elt F) S2x512x256 .f32) :: (val_D.sl.HS3_1_1 c i y2 u2 y3 u3 y4 u4 y5 u5 y6 u6 y7 u7 y8 u8 y9 u9 y10 u10 y11 u11 hc2 x0 x1 x2 x4 fs0 fs2)
  let S9 := st_k0_t9 Variants.none c none i y2 u2 y3 u3 y4 u4 y5 u5 y6 u6 y7 u7 y8 u8 y9 u9 y10 u10 y11 u11 (BitVec.ofNat 32 (i 0).val) k0_pay392 k0_pay396 (val_D.sl.v47 i) (val_D.sl.v48 i) hc2 (val_D.sl.r_3 c i y2 u2 y3 u3 y4 u4 y5 u5 y6 u6 y7 u7 y8 u8 y9 u9 y10 u10 y11 u11 hc2 x0 x1 x2 x4 fs0 fs2) (val_D.sl.v310 c i y2 u2 y3 u3 y4 u4 y5 u5 y6 u6 y7 u7 y8 u8 y9 u9 y10 u10 y11 u11 hc2 x0 x1 x2 x4 fs0 fs2) (val_D.sl.v457 i y2 u2 y3 u3 y6 u6 y8 hc2 x0 x1 x4 fs0) (val_D.sl.v487 c i y2 u2 y3 u3 y4 u4 y5 u5 y6 u6 y7 u7 y8 u8 y9 u9 y10 u10 y11 u11 hc2 x0 x1 x2 x4 fs0 fs2) (u2.unread x0) (u3.unread x1) (u4.unread x2) (u6.unread x4) f8 (y9.view.writes (Elt F) y9.view.junk Q9) g10 (y11.view.writes (Elt F) y11.view.junk L1) (k0_pay396, (val_D.sl.v457 i y2 u2 y3 u3 y6 u6 y8 hc2 x0 x1 x4 fs0)) (Scf.trips (k0_t9_loop i).lb (k0_t9_loop i).ub (k0_t9_loop i).st)
  let S10 := st_k0_t10 Variants.none c none i y2 u2 y3 u3 y4 u4 y5 u5 y6 u6 y7 u7 y8 u8 y9 u9 y10 u10 y11 u11 (BitVec.ofNat 32 (i 0).val) k0_pay392 k0_pay396 (val_D.sl.v47 i) (val_D.sl.v48 i) hc2 (val_D.sl.r_3 c i y2 u2 y3 u3 y4 u4 y5 u5 y6 u6 y7 u7 y8 u8 y9 u9 y10 u10 y11 u11 hc2 x0 x1 x2 x4 fs0 fs2) (val_D.sl.v310 c i y2 u2 y3 u3 y4 u4 y5 u5 y6 u6 y7 u7 y8 u8 y9 u9 y10 u10 y11 u11 hc2 x0 x1 x2 x4 fs0 fs2) (val_D.sl.v457 i y2 u2 y3 u3 y6 u6 y8 hc2 x0 x1 x4 fs0) (val_D.sl.v487 c i y2 u2 y3 u3 y4 u4 y5 u5 y6 u6 y7 u7 y8 u8 y9 u9 y10 u10 y11 u11 hc2 x0 x1 x2 x4 fs0 fs2) (val_D.sl.v502 i) (u2.unread x0) (u3.unread x1) (u4.unread x2) (u6.unread x4) f8 (y9.view.writes (Elt F) y9.view.junk (S9.2.1 ++ Q9)) (y10.view.writes (Elt F) y10.view.junk (S9.2.2.1 ++ P10)) (y11.view.writes (Elt F) y11.view.junk (S9.2.2.2 ++ L1)) (S9.1.1, S9.1.2) (Scf.trips (k0_t10_loop i).lb (k0_t10_loop i).ub (k0_t10_loop i).st)
  let U10 := S10.2.2.1 ++ (S9.2.2.1 ++ P10)
  refine ⟨(val_D.sl.HS3_2 c i y2 u2 y3 u3 y4 u4 y5 u5 y6 u6 y7 u7 y8 u8 y9 u9 y10 u10 y11 u11 hc2 x0 x1 x2 x4 fs0 fs2), ⟨S7, S8, S9, S10, (val_D.sl.v47 i), (val_D.sl.v48 i), (val_D.sl.v149 i y2 u2 y3 u3 y6 u6 y8 hc2 x0 x1 x4 fs0), (val_D.sl.v168 i y2 u2 y3 u3 y6 u6 y8 hc2 x0 x1 x4 fs0), (val_D.sl.r_3 c i y2 u2 y3 u3 y4 u4 y5 u5 y6 u6 y7 u7 y8 u8 y9 u9 y10 u10 y11 u11 hc2 x0 x1 x2 x4 fs0 fs2), (val_D.sl.v310 c i y2 u2 y3 u3 y4 u4 y5 u5 y6 u6 y7 u7 y8 u8 y9 u9 y10 u10 y11 u11 hc2 x0 x1 x2 x4 fs0 fs2), (val_D.sl.v457 i y2 u2 y3 u3 y6 u6 y8 hc2 x0 x1 x4 fs0), (val_D.sl.v487 c i y2 u2 y3 u3 y4 u4 y5 u5 y6 u6 y7 u7 y8 u8 y9 u9 y10 u10 y11 u11 hc2 x0 x1 x2 x4 fs0 fs2), T9, T10, U10, P9, P10, Q9, (val_D.sl.HS2_4_1 c i y2 u2 y3 u3 y4 u4 y5 u5 y6 u6 y7 u7 y8 u8 y9 u9 y10 u10 y11 u11 hc2 x0 x1 x2 x4 fs0 fs2), g10, L0, L1, (val_D.sl.HS3_1_2 c i y2 u2 y3 u3 y4 u4 y5 u5 y6 u6 y7 u7 y8 u8 y9 u9 y10 u10 y11 u11 hc2 x0 x1 x2 x4 fs0 fs2), m0, (val_D.sl.v310 c i y2 u2 y3 u3 y4 u4 y5 u5 y6 u6 y7 u7 y8 u8 y9 u9 y10 u10 y11 u11 hc2 x0 x1 x2 x4 fs0 fs2), (val_D.sl.v457 i y2 u2 y3 u3 y6 u6 y8 hc2 x0 x1 x4 fs0), (val_D.sl.v629 c i y2 u2 y3 u3 y4 u4 y5 u5 y6 u6 y7 u7 y8 u8 y9 u9 y10 u10 y11 u11 hc2 x0 x1 x2 x4 fs0 fs2), rfl, rfl, rfl, st8 .., rfl, rfl, rfl, rfl, rfl, rfl, rfl, st10 .., rfl, rfl, rfl, rfl⟩, rfl⟩

end Cert.AttentionIdeal.Attn

end
-- ==== Proof.AttnIdeal.Point.lean ====
/- The attention over the ideal numbers: one program, run. -/
module

public import proofs.«01_k».proof.Proof.AttnIdeal.Setup
public import proofs.«01_k».proof.Proof.AttnIdeal.Mask
public import proofs.«01_k».proof.Proof.AttnIdeal.ReadOdd
public import proofs.«01_k».proof.Proof.AttnIdeal.ReadEven
public import proofs.«01_k».proof.Proof.AttnIdeal.PathA
public import proofs.«01_k».proof.Proof.AttnIdeal.PathB
public import proofs.«01_k».proof.Proof.AttnIdeal.PathC
public import proofs.«01_k».proof.Proof.AttnIdeal.PathD
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The output and the mask that a program leaves, whichever of the four cases it is. -/
theorem leaves (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (h12 : cond0_1 i ↔ ¬cond0_2 i)
    (x0 : Vec Ideal S512x256 .bf16) (x1 : Vec Ideal S8192x256 .bf16) (x2 : Vec Ideal S8192x256 .bf16) (x3 : Vec Ideal S512x256 .i32) (x4 : Vec Ideal S4x2x512x256 .f32)
    (f5 : BufTy.Contents (Elt Ideal) y7.view.ty) (fs0 : BufTy.Contents (Elt Ideal) y8.view.ty) (fs1 : BufTy.Contents (Elt Ideal) y9.view.ty) (fs2 : BufTy.Contents (Elt Ideal) y10.view.ty) (fs3 : BufTy.Contents (Elt Ideal) y11.view.ty) (hM : ¬cond0_0 i → Made x3 (i 0).val y8.view fs0) :
    ∃ (X7 : y7.view.ty.Contents (Elt Ideal)) (X8 : y8.view.ty.Contents (Elt Ideal)),
      y7.view.read (Elt Ideal) X7 = out (i 0).val x0 x1 x2 x3 x4 ∧ Made x3 (i 0).val y8.view X8 ∧
      ∀ (E : Set ℕ) (K : PUnit → sProp (MT nD τ sig Unit (Elt Ideal) ℕ (UR sig nD τ) ℕ)),
        iprop((y2.view.loc (c : Thread nD τ) ↦[y2.view.set]{fullShare} u2.unread x0) ∗ (y3.view.loc (c : Thread nD τ) ↦[y3.view.set]{fullShare} u3.unread x1) ∗ (y4.view.loc (c : Thread nD τ) ↦[y4.view.set]{fullShare} u4.unread x2) ∗ (y5.view.loc (c : Thread nD τ) ↦[y5.view.set]{fullShare} u5.unread x3) ∗ (y6.view.loc (c : Thread nD τ) ↦[y6.view.set]{fullShare} u6.unread x4) ∗ (y7.view.loc (c : Thread nD τ) ↦[y7.view.set]{fullShare} f5) ∗ (y8.view.loc (c : Thread nD τ) ↦[y8.view.set]{fullShare} fs0) ∗ (y9.view.loc (c : Thread nD τ) ↦[y9.view.set]{fullShare} fs1) ∗ (y10.view.loc (c : Thread nD τ) ↦[y10.view.set]{fullShare} fs2) ∗ (y11.view.loc (c : Thread nD τ) ↦[y11.view.set]{fullShare} fs3)
            ∗ (iprop((y2.view.loc (c : Thread nD τ) ↦[y2.view.set]{fullShare} u2.unread x0) ∗ (y3.view.loc (c : Thread nD τ) ↦[y3.view.set]{fullShare} u3.unread x1) ∗ (y4.view.loc (c : Thread nD τ) ↦[y4.view.set]{fullShare} u4.unread x2) ∗ (y5.view.loc (c : Thread nD τ) ↦[y5.view.set]{fullShare} u5.unread x3) ∗ (y6.view.loc (c : Thread nD τ) ↦[y6.view.set]{fullShare} u6.unread x4) ∗ (y7.view.loc (c : Thread nD τ) ↦[y7.view.set]{fullShare} X7) ∗ (y8.view.loc (c : Thread nD τ) ↦[y8.view.set]{fullShare} X8) ∗ (∃ f, (y9.view.loc (c : Thread nD τ) ↦[y9.view.set]{fullShare} f)) ∗ (∃ f, (y10.view.loc (c : Thread nD τ) ↦[y10.view.set]{fullShare} f)) ∗ (∃ f, (y11.view.loc (c : Thread nD τ) ↦[y11.view.set]{fullShare} f))) -∗ K ⟨⟩))
          ⊢ wp frame (wpE (defs₀ (F := Ideal)) Variants.none c none) E (cc0_attention i y2 u2 y3 u3 y4 u4 y5 u5 y6 u6 y7 u7 y8 u8 y9 u9 y10 u10 y11 u11) K := by
  by_cases hc0 : cond0_0 i <;> by_cases hc1 : cond0_1 i
  · have hc2 := h12.mp hc1
    obtain ⟨L, h, e⟩ := out_A (F := Ideal) c i y2 u2 y3 u3 y4 u4 y5 u5 y6 u6 y7 u7 y8 u8 y9 u9 y10 u10 y11 u11 hc0 hc1 hc2 x0 x1 x2 x3 x4 f5 fs0 fs1 fs2 fs3
    have hm : Made x3 (i 0).val y8.view (val_A (F := Ideal) c i y2 u2 y3 u3 y4 u4 y5 u5 y6 u6 y7 u7 y8 u8 y9 u9 y10 u10 y11 u11 hc0 hc1 hc2 x0 x1 x2 x3 x4 f5 fs0 fs1 fs2 fs3).2.val := by
      rw [mask_A]
      exact made_pair c i y2 u2 y3 u3 y4 u4 y5 u5 y6 u6 y7 u7 y8 u8 y9 u9 y10 u10 y11 u11 hc0 x3 fs0
    refine ⟨(val_A (F := Ideal) c i y2 u2 y3 u3 y4 u4 y5 u5 y6 u6 y7 u7 y8 u8 y9 u9 y10 u10 y11 u11 hc0 hc1 hc2 x0 x1 x2 x3 x4 f5 fs0 fs1 fs2 fs3).1, (val_A (F := Ideal) c i y2 u2 y3 u3 y4 u4 y5 u5 y6 u6 y7 u7 y8 u8 y9 u9 y10 u10 y11 u11 hc0 hc1 hc2 x0 x1 x2 x3 x4 f5 fs0 fs1 fs2 fs3).2.val, ?_, hm, (val_A (F := Ideal) c i y2 u2 y3 u3 y4 u4 y5 u5 y6 u6 y7 u7 y8 u8 y9 u9 y10 u10 y11 u11 hc0 hc1 hc2 x0 x1 x2 x3 x4 f5 fs0 fs1 fs2 fs3).2.property⟩
    rw [mask_A] at hm
    rw [e]
    exact out_read (i 0).val (grid_lt i) x0 x1 x2 x3 x4 y8.view _ hm y7.view f5 y11.view L (fun h' a d =>
      odd_read c i y2 u2 y3 u3 y4 u4 y5 u5 y6 u6 y7 u7 y8 u8 y9 u9 y10 u10 y11 u11 hc1 _ _ _ _ _ fs2 L h _ rfl (u2.read_unread _) (u3.read_unread _) (u4.read_unread _) (u6.read_unread _) rfl h' a d)
  · have hc2 : cond0_2 i := by by_contra h; exact hc1 (h12.mpr h)
    obtain ⟨L, h, e⟩ := out_C (F := Ideal) c i y2 u2 y3 u3 y4 u4 y5 u5 y6 u6 y7 u7 y8 u8 y9 u9 y10 u10 y11 u11 hc0 hc1 hc2 x0 x1 x2 x3 x4 f5 fs0 fs1 fs2 fs3
    have hm : Made x3 (i 0).val y8.view (val_C (F := Ideal) c i y2 u2 y3 u3 y4 u4 y5 u5 y6 u6 y7 u7 y8 u8 y9 u9 y10 u10 y11 u11 hc0 hc1 hc2 x0 x1 x2 x3 x4 f5 fs0 fs1 fs2 fs3).2.val := by
      rw [mask_C]
      exact made_pair c i y2 u2 y3 u3 y4 u4 y5 u5 y6 u6 y7 u7 y8 u8 y9 u9 y10 u10 y11 u11 hc0 x3 fs0
    refine ⟨(val_C (F := Ideal) c i y2 u2 y3 u3 y4 u4 y5 u5 y6 u6 y7 u7 y8 u8 y9 u9 y10 u10 y11 u11 hc0 hc1 hc2 x0 x1 x2 x3 x4 f5 fs0 fs1 fs2 fs3).1, (val_C (F := Ideal) c i y2 u2 y3 u3 y4 u4 y5 u5 y6 u6 y7 u7 y8 u8 y9 u9 y10 u10 y11 u11 hc0 hc1 hc2 x0 x1 x2 x3 x4 f5 fs0 fs1 fs2 fs3).2.val, ?_, hm, (val_C (F := Ideal) c i y2 u2 y3 u3 y4 u4 y5 u5 y6 u6 y7 u7 y8 u8 y9 u9 y10 u10 y11 u11 hc0 hc1 hc2 x0 x1 x2 x3 x4 f5 fs0 fs1 fs2 fs3).2.property⟩
    rw [mask_C] at hm
    rw [e]
    exact out_read (i 0).val (grid_lt i) x0 x1 x2 x3 x4 y8.view _ hm y7.view f5 y11.view L (fun h' a d =>
      even_read c i y2 u2 y3 u3 y4 u4 y5 u5 y6 u6 y7 u7 y8 u8 y9 u9 y10 u10 y11 u11 hc2 _ _ _ _ _ fs2 L h _ rfl (u2.read_unread _) (u3.read_unread _) (u4.read_unread _) (u6.read_unread _) rfl h' a d)
  · have hc2 := h12.mp hc1
    obtain ⟨L, h, e⟩ := out_B (F := Ideal) c i y2 u2 y3 u3 y4 u4 y5 u5 y6 u6 y7 u7 y8 u8 y9 u9 y10 u10 y11 u11 hc0 hc1 hc2 x0 x1 x2 x3 x4 f5 fs0 fs1 fs2 fs3
    have hm : Made x3 (i 0).val y8.view (val_B (F := Ideal) c i y2 u2 y3 u3 y4 u4 y5 u5 y6 u6 y7 u7 y8 u8 y9 u9 y10 u10 y11 u11 hc0 hc1 hc2 x0 x1 x2 x3 x4 f5 fs0 fs1 fs2 fs3).2.val := by
      rw [mask_B]
      exact hM hc0
    refine ⟨(val_B (F := Ideal) c i y2 u2 y3 u3 y4 u4 y5 u5 y6 u6 y7 u7 y8 u8 y9 u9 y10 u10 y11 u11 hc0 hc1 hc2 x0 x1 x2 x3 x4 f5 fs0 fs1 fs2 fs3).1, (val_B (F := Ideal) c i y2 u2 y3 u3 y4 u4 y5 u5 y6 u6 y7 u7 y8 u8 y9 u9 y10 u10 y11 u11 hc0 hc1 hc2 x0 x1 x2 x3 x4 f5 fs0 fs1 fs2 fs3).2.val, ?_, hm, (val_B (F := Ideal) c i y2 u2 y3 u3 y4 u4 y5 u5 y6 u6 y7 u7 y8 u8 y9 u9 y10 u10 y11 u11 hc0 hc1 hc2 x0 x1 x2 x3 x4 f5 fs0 fs1 fs2 fs3).2.property⟩
    rw [mask_B] at hm
    rw [e]
    exact out_read (i 0).val (grid_lt i) x0 x1 x2 x3 x4 y8.view _ hm y7.view f5 y11.view L (fun h' a d =>
      odd_read c i y2 u2 y3 u3 y4 u4 y5 u5 y6 u6 y7 u7 y8 u8 y9 u9 y10 u10 y11 u11 hc1 _ _ _ _ _ fs2 L h _ rfl (u2.read_unread _) (u3.read_unread _) (u4.read_unread _) (u6.read_unread _) rfl h' a d)
  · have hc2 : cond0_2 i := by by_contra h; exact hc1 (h12.mpr h)
    obtain ⟨L, h, e⟩ := out_D (F := Ideal) c i y2 u2 y3 u3 y4 u4 y5 u5 y6 u6 y7 u7 y8 u8 y9 u9 y10 u10 y11 u11 hc0 hc1 hc2 x0 x1 x2 x3 x4 f5 fs0 fs1 fs2 fs3
    have hm : Made x3 (i 0).val y8.view (val_D (F := Ideal) c i y2 u2 y3 u3 y4 u4 y5 u5 y6 u6 y7 u7 y8 u8 y9 u9 y10 u10 y11 u11 hc0 hc1 hc2 x0 x1 x2 x3 x4 f5 fs0 fs1 fs2 fs3).2.val := by
      rw [mask_D]
      exact hM hc0
    refine ⟨(val_D (F := Ideal) c i y2 u2 y3 u3 y4 u4 y5 u5 y6 u6 y7 u7 y8 u8 y9 u9 y10 u10 y11 u11 hc0 hc1 hc2 x0 x1 x2 x3 x4 f5 fs0 fs1 fs2 fs3).1, (val_D (F := Ideal) c i y2 u2 y3 u3 y4 u4 y5 u5 y6 u6 y7 u7 y8 u8 y9 u9 y10 u10 y11 u11 hc0 hc1 hc2 x0 x1 x2 x3 x4 f5 fs0 fs1 fs2 fs3).2.val, ?_, hm, (val_D (F := Ideal) c i y2 u2 y3 u3 y4 u4 y5 u5 y6 u6 y7 u7 y8 u8 y9 u9 y10 u10 y11 u11 hc0 hc1 hc2 x0 x1 x2 x3 x4 f5 fs0 fs1 fs2 fs3).2.property⟩
    rw [mask_D] at hm
    rw [e]
    exact out_read (i 0).val (grid_lt i) x0 x1 x2 x3 x4 y8.view _ hm y7.view f5 y11.view L (fun h' a d =>
      even_read c i y2 u2 y3 u3 y4 u4 y5 u5 y6 u6 y7 u7 y8 u8 y9 u9 y10 u10 y11 u11 hc2 _ _ _ _ _ fs2 L h _ rfl (u2.read_unread _) (u3.read_unread _) (u4.read_unread _) (u6.read_unread _) rfl h' a d)

/-- A mask that is made, as what a buffer holds. -/
def MadeV (w : Vec Ideal S512x256 .i32) (n : ℕ) (d : Vec Ideal S32x512x256 .f32) : Prop :=
  ∀ (u : Fin 32) (a : Fin 512) (b : Fin 256), u.val < 4 * (n / 2 + 1) → d (ix3 u a b) = hole w u.val a b

/-- One program: with its five inputs held, and the mask made unless it makes the mask itself, it leaves its output and the mask made. -/
theorem run_point (c : Dev nD) (i : grid0.Coords) (y2 : Memref sig .tc .vmem S512x256 .bf16) (u2 : y2.IsWhole) (y3 : Memref sig .tc .vmem S8192x256 .bf16) (u3 : y3.IsWhole) (y4 : Memref sig .tc .vmem S8192x256 .bf16) (u4 : y4.IsWhole) (y5 : Memref sig .tc .vmem S512x256 .i32) (u5 : y5.IsWhole) (y6 : Memref sig .tc .vmem S4x2x512x256 .f32) (u6 : y6.IsWhole) (y7 : Memref sig .tc .vmem S512x256 .f32) (u7 : y7.IsWhole) (y8 : Memref sig .tc .vmem S32x512x256 .f32) (u8 : y8.IsWhole) (y9 : Memref sig .tc .vmem S4x512x256 .f32) (u9 : y9.IsWhole) (y10 : Memref sig .tc .vmem S4x512x256 .f32) (u10 : y10.IsWhole) (y11 : Memref sig .tc .vmem S2x512x256 .f32) (u11 : y11.IsWhole) (h12 : cond0_1 i ↔ ¬cond0_2 i)
    (x0 : Vec Ideal S512x256 .bf16) (x1 : Vec Ideal S8192x256 .bf16) (x2 : Vec Ideal S8192x256 .bf16) (x3 : Vec Ideal S512x256 .i32) (x4 : Vec Ideal S4x2x512x256 .f32)
    (E : Set ℕ) (K : PUnit → sProp (MT nD τ sig Unit (Elt Ideal) ℕ (UR sig nD τ) ℕ)) :
    iprop(owns (c : Thread nD τ) y2 fullShare x0 ∗ owns (c : Thread nD τ) y3 fullShare x1 ∗ owns (c : Thread nD τ) y4 fullShare x2 ∗ owns (c : Thread nD τ) y5 fullShare x3 ∗ owns (c : Thread nD τ) y6 fullShare x4 ∗ (∃ d, owns (c : Thread nD τ) y7 fullShare d)
        ∗ (∃ d, ⌜¬cond0_0 i → MadeV x3 (i 0).val d⌝ ∗ owns (c : Thread nD τ) y8 fullShare d) ∗ (∃ d, owns (c : Thread nD τ) y9 fullShare d) ∗ (∃ d, owns (c : Thread nD τ) y10 fullShare d) ∗ (∃ d, owns (c : Thread nD τ) y11 fullShare d)
        ∗ (iprop(owns (c : Thread nD τ) y2 fullShare x0 ∗ owns (c : Thread nD τ) y3 fullShare x1 ∗ owns (c : Thread nD τ) y4 fullShare x2 ∗ owns (c : Thread nD τ) y5 fullShare x3 ∗ owns (c : Thread nD τ) y6 fullShare x4 ∗ owns (c : Thread nD τ) y7 fullShare (out (i 0).val x0 x1 x2 x3 x4)
        ∗ (∃ d, ⌜MadeV x3 (i 0).val d⌝ ∗ owns (c : Thread nD τ) y8 fullShare d) ∗ (∃ d, owns (c : Thread nD τ) y9 fullShare d) ∗ (∃ d, owns (c : Thread nD τ) y10 fullShare d) ∗ (∃ d, owns (c : Thread nD τ) y11 fullShare d)) -∗ K ⟨⟩))
      ⊢ wp frame (wpE (defs₀ (F := Ideal)) Variants.none c none) E (cc0_attention i y2 u2 y3 u3 y4 u4 y5 u5 y6 u6 y7 u7 y8 u8 y9 u9 y10 u10 y11 u11) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %hM, %fs0, %hs0, HS0⟩, ⟨%ds1, %fs1, -, HS1⟩, ⟨%ds2, %fs2, -, HS2⟩, ⟨%ds3, %fs3, -, HS3⟩, Hk⟩
  obtain rfl := u2.eq_unread hf0; obtain rfl := u3.eq_unread hf1; obtain rfl := u4.eq_unread hf2; obtain rfl := u5.eq_unread hf3; obtain rfl := u6.eq_unread hf4
  subst hs0
  obtain ⟨X7, X8, h7, h8, hrun⟩ := leaves c i y2 u2 y3 u3 y4 u4 y5 u5 y6 u6 y7 u7 y8 u8 y9 u9 y10 u10 y11 u11 h12 x0 x1 x2 x3 x4 f5 fs0 fs1 fs2 fs3 hM
  iapply (hrun E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, ⟨%g1, HS1⟩, ⟨%g2, HS2⟩, ⟨%g3, HS3⟩⟩
  iapply Hk
  isplitl [H0]
  · iexists _; isplitr; · ipureintro; exact u2.read_unread _
    iexact H0
  isplitl [H1]
  · iexists _; isplitr; · ipureintro; exact u3.read_unread _
    iexact H1
  isplitl [H2]
  · iexists _; isplitr; · ipureintro; exact u4.read_unread _
    iexact H2
  isplitl [H3]
  · iexists _; isplitr; · ipureintro; exact u5.read_unread _
    iexact H3
  isplitl [H4]
  · iexists _; isplitr; · ipureintro; exact u6.read_unread _
    iexact H4
  isplitl [H5]
  · iexists _; isplitr; · ipureintro; exact h7
    iexact H5
  isplitl [HS0]
  · iexists (y8.view.read (Elt Ideal) X8); isplitr; · ipureintro; exact h8
    iexists _; isplitr; · ipureintro; rfl
    iexact HS0
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.AttentionIdeal.Attn

end
-- ==== Proof.AttnIdeal.Value.lean ====
/- The attention over the ideal numbers: the whole run, its output named point by point. -/
module

public import proofs.«01_k».proof.Proof.AttnIdeal.Setup
public import proofs.«01_k».proof.Proof.AttnIdeal.Point
public import Idealize.ShloMosaic.Lib.Pointwise
public import Idealize.ShloMosaic.Lib.Pipeline.ValueKit

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The words of block of queries `n`. -/
def words (c : Dev nD) (n : ℕ) : Vec Ideal S512x256 .i32 :=
  fun y => m ((c : Thread nD τ).loc main_arg1) (ix2 (Fin.ofNat 8192 (n * 512 + (y 0).val)) (y 1) : S8192x256.Idx)

theorem index3 : ∀ t : Fin grid0.N, win0_3.index t = ![t.val / 4, 0] ∧ t.val < 64 := by decide +kernel

/-- They are what the window holds at each of the block's four points. -/
theorem words_eq (c : Dev nD) (t : Fin cfg0.N) : iblk m c 3 t = words m c (t.val / 4) := by
  funext y
  have ht : t.val < 64 := (index3 t).2
  have e : words m c (t.val / 4) y = m ((c : Thread nD τ).loc main_arg1) (ix2 ⟨t.val / 4 * 512 + (y 0).val, by have : (y 0).val < 512 := (y 0).isLt; omega⟩ (y 1) : S8192x256.Idx) := by
    unfold words
    congr 2
    exact Fin.ext (Nat.mod_eq_of_lt (by have : (y 0).val < 512 := (y 0).isLt; omega))
  rw [e]
  obtain ⟨a, b, rfl⟩ : ∃ a b, y = ix2 a b := ⟨y 0, y 1, by funext k; match k with | ⟨0, _⟩ => rfl | ⟨1, _⟩ => rfl⟩
  blk_ext! [iblk, V, (index3 t).1]

/-- Between points: the mask is made for the block at work, except before its first point; of the other buffers nothing is said. -/
def carried (c : Dev nD) (n : ℕ) : sProp (MT nD τ sig Unit (Elt Ideal) ℕ (UR sig nD τ) ℕ) :=
  iprop(iprop((∃ d, ⌜n % 4 ≠ 0 → MadeV (words m c (n / 4)) (n / 4) d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

/-- What point `t` leaves in the output. -/
def left (c : Dev nD) (t : Fin cfg0.N) : Vec Ideal S512x256 .f32 := out (t.val / 4) (iblk m c 0 t) (iblk m c 1 t) (iblk m c 2 t) (iblk m c 3 t) (iblk m c 4 t)

/-- What is followed: each input's buffer holds its block, and the output's what its point leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left m c t
  Φ t := carried m c t.val
  q w := Pipeline.shareOf spec0 w
  owed _ := 0

/-- The arrays are the launched ones. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = left m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is given at a point. -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it gives back. -/
def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

theorem coord0 (t : Fin cfg0.N) : (grid0.coords t 0).val = t.val / 4 := by
  have ht : t.val < 64 := Nat.lt_of_lt_of_eq t.isLt N_0
  have e0 : (grid0.coords t 0).val = t.val / 4 % 16 := Pipeline.Grid.coords_val t 0 (by decide) rfl
  omega

set_option maxHeartbeats 1600000 in
/-- The body at a point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5,
    show (dats m 0 c).Φ t.castSucc = carried m c t.val from rfl, show (dats m 0 c).Φ t.succ = carried m c (t.val + 1) from rfl]
  unfold carried left
  have h12 : cond0_1 (grid0.coords t) ↔ ¬cond0_2 (grid0.coords t) := by
    rw [hcond0_1 t, hcond0_2 t]; omega
  have e0 := coord0 t
  rw [← e0]
  iintro ⟨⟨⟨⟨%ds, %hM, HS0⟩, HS1, HS2, HS3⟩, Hg⟩, Ho, ⟨%d0, H0⟩, ⟨%d1, H1⟩, ⟨%d2, H2⟩, ⟨%d3, H3⟩, ⟨%d4, H4⟩, ⟨%d5, H5⟩⟩
  iapply (run_point c (grid0.coords t) _ _ _ _ _ _ _ _ _ _ _ _ _ _ _ _ _ _ _ _ h12 (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]
  · iexists ds; isplitr
    · ipureintro
      intro h
      rw [words_eq m c t, e0]
      rw [e0] at hM
      exact hM (fun h0 => h ((hcond0_0 t).mpr h0))
    iexact HS0
  isplitl [HS1]; · iexact HS1
  isplitl [HS2]; · iexact HS2
  isplitl [HS3]; · iexact HS3
  iintro ⟨H0, H1, H2, H3, H4, H5, ⟨%d8, %h8, HS0⟩, HS1, HS2, HS3⟩
  isplitl [HS0 HS1 HS2 HS3 Hg]
  · isplitl [HS0 HS1 HS2 HS3]
    · isplitl [HS0]
      · iexists d8; isplitr
        · ipureintro
          intro h
          rw [words_eq m c t, e0] at h8
          rw [show (t.val + 1) / 4 = t.val / 4 by omega]
          exact h8
        iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body the pipeline calls is the kernel's at the point. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem carried_in (c : Dev nD) : (Pipeline.ΦA spec0 c : sProp (MT nD τ sig Unit (Elt Ideal) ℕ (UR sig nD τ) ℕ)) ⊢ carried m c 0 := by
  rw [PhiA0_eq]
  unfold carried
  iintro ⟨⟨⟨%d, H0⟩, H1, H2, H3⟩, Hg⟩
  isplitl [H0 H1 H2 H3]
  · isplitl [H0]
    · iexists d; isplitr
      · ipureintro; intro h; exact absurd rfl h
      iexact H0
    isplitl [H1]
    · iexact H1
    isplitl [H2]
    · iexact H2
    iexact H3
  iexact Hg

theorem carried_out (c : Dev nD) (n : ℕ) : carried m c n ⊢ (Pipeline.ΦA spec0 c : sProp (MT nD τ sig Unit (Elt Ideal) ℕ (UR sig nD τ) ℕ)) := by
  rw [PhiA0_eq]
  unfold carried
  iintro ⟨⟨⟨%d, -, H0⟩, H1, H2, H3⟩, Hg⟩
  isplitl [H0 H1 H2 H3]
  · isplitl [H0]
    · iexists d; iexact H0
    isplitl [H1]
    · iexact H1
    isplitl [H2]
    · iexact H2
    iexact H3
  iexact Hg

set_option backward.isDefEq.respectTransparency.types false in
/-- The whole run leaves the arrays at what is followed, and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun c => carried_in m c) (hout := fun c => carried_out m c _)

/-- The run with its output named, and the arguments as they were. -/
theorem run_named : θ_run defs (onTc (τ := τ) (main (F := Ideal))) ⟨m, fun _ => 0, ρ⟩ (fun r => (∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 5,
      ((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c))),
      ((h.1 c).1 4).trans (((dats m 0 c).arrAt_in 4 rfl _).trans ((A_eq m c 4).trans (V_main_arg2 m c)))⟩, h.2⟩) (run_main_quiescent m ρ)

/-- The frame: the arguments are as they were, and every counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_named m ρ)

end Cert.AttentionIdeal.Attn

end
-- ==== Proof.AttnIdeal.Written.lean ====
/- The output of the attention and the blocks its programs are given, in terms of the arrays. -/
module

public import proofs.«01_k».proof.Proof.AttnIdeal.Setup
public import proofs.«01_k».proof.Proof.AttnIdeal.Value
public import Idealize.ShloMosaic.Lib.Pointwise
public import Idealize.ShloMosaic.Lib.Pipeline.ValueKit

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- The windows' block numbers at a point. -/
theorem idxs : ∀ t : Fin grid0.N,
    win0_0.index t = ![t.val / 4, t.val % 4] ∧ win0_1.index t = ![0, 4 + t.val % 4] ∧ win0_2.index t = ![0, 8 + t.val % 4]
    ∧ win0_3.index t = ![t.val / 4, 0] ∧ win0_4.index t = ![0, t.val % 4, 0, 0] ∧ win0_5.index t = ![t.val / 4, t.val % 4] ∧ t.val < 64 := by
  decide +kernel

theorem x0_val (t : Fin cfg0.N) (ht : t.val < 64) (a : Fin 512) (k : Fin 256) :
    iblk m c 0 t (ix2 a k : S512x256.Idx) = m ((c : Thread nD τ).loc main_arg0) (ix2 ⟨t.val / 4 * 512 + a.val, by omega⟩ ⟨t.val % 4 * 256 + k.val, by omega⟩ : S8192x4096.Idx) := by
  blk_ext! [iblk, V, (idxs t).1]

theorem x1_val (t : Fin cfg0.N) (ht : t.val < 64) (s : Fin 8192) (k : Fin 256) :
    iblk m c 1 t (ix2 s k : S8192x256.Idx) = m ((c : Thread nD τ).loc main_arg0) (ix2 s ⟨1024 + (t.val % 4 * 256 + k.val), by omega⟩ : S8192x4096.Idx) := by
  blk_ext! [iblk, V, (idxs t).2.1]

theorem x2_val (t : Fin cfg0.N) (ht : t.val < 64) (s : Fin 8192) (k : Fin 256) :
    iblk m c 2 t (ix2 s k : S8192x256.Idx) = m ((c : Thread nD τ).loc main_arg0) (ix2 s ⟨2048 + (t.val % 4 * 256 + k.val), by omega⟩ : S8192x4096.Idx) := by
  blk_ext! [iblk, V, (idxs t).2.2.1]

theorem x3_val (t : Fin cfg0.N) (ht : t.val < 64) (a : Fin 512) (b : Fin 256) :
    iblk m c 3 t (ix2 a b : S512x256.Idx) = m ((c : Thread nD τ).loc main_arg1) (ix2 ⟨t.val / 4 * 512 + a.val, by omega⟩ b : S8192x256.Idx) := by
  blk_ext! [iblk, V, (idxs t).2.2.2.1]

theorem x4_val (t : Fin cfg0.N) (ht : t.val < 64) (u : Fin 4) (h : Fin 2) (a : Fin 512) (b : Fin 256) :
    iblk m c 4 t (ix4 u h a b : S4x2x512x256.Idx) = m ((c : Thread nD τ).loc main_arg2) (ix4 u ⟨t.val % 4 * 2 + h.val, by omega⟩ a b : S4x8x512x256.Idx) := by
  blk_ext! [iblk, V, (idxs t).2.2.2.2.1]

theorem flushed5 (t : Fin cfg0.N) : (dats m 0 c).flushed 5 t = (cfg0.win 5).cut (grid0.coords t) (left m c t) := by
  show (cfg0.win 5).cut (grid0.coords t) ((dats m 0 c).after 5 t) = _
  rw [after0_5]

/-- Two points write different blocks. -/
theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- The place of an element of point `t`'s block in the output. -/
theorem place (t : Fin cfg0.N) (ht : t.val < 64) (a : Fin 512) (k : Fin 256) :
    ((cfg0.win 5).blk t).view.emb (ix2 a k : S512x256.Idx) = (ix2 ⟨t.val / 4 * 512 + a.val, by omega⟩ ⟨t.val % 4 * 256 + k.val, by omega⟩ : S8192x1024.Idx) := by
  have e := (idxs t).2.2.2.2.2.1
  funext x; apply Fin.ext
  match x with
  | ⟨0, _⟩ => show win0_5.index t 0 * 512 + 1 * a.val = _; rw [e]; show t.val / 4 * 512 + 1 * a.val = t.val / 4 * 512 + a.val; omega
  | ⟨1, _⟩ => show win0_5.index t 1 * 256 + 1 * k.val = _; rw [e]; show t.val % 4 * 256 + 1 * k.val = t.val % 4 * 256 + k.val; omega

/-- Block `t` of the output is what point `t` left. -/
theorem written (t : Fin cfg0.N) (ht : t.val < 64) (a : Fin 512) (k : Fin 256) :
    (dats m 0 c).arrAt 5 cfg0.N (ix2 ⟨t.val / 4 * 512 + a.val, by omega⟩ ⟨t.val % 4 * 256 + k.val, by omega⟩ : S8192x1024.Idx) = left m c t (ix2 a k) :=
  (congrArg ((dats m 0 c).arrAt 5 cfg0.N) (place t ht a k)).symm.trans
    (((dats m 0 c).arrAt_emb_eq_flushed 5 disjoint5 t (flush0_5 t) (ix2 a k : S512x256.Idx)).trans
      (congrFun (flushed5 m c t) (ix2 a k : S512x256.Idx)))

end Cert.AttentionIdeal.Attn

end
-- ==== Proof.AttnIdeal.Combine.lean ====
/- The running maximum and the running sums after the last group, as a maximum and sums over all the keys. -/
module

public import proofs.«01_k».proof.Proof.AttnIdeal.Setup
public import proofs.«01_k».proof.Proof.AttnIdeal.Groups
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-- A sum over the keys, a group at a time. -/
theorem sum_groups (f : Fin 8192 → EReal) : ∑ s, f s = ∑ g ∈ Finset.range 8, ∑ y : Fin 1024, f (Fin.ofNat 8192 (g * 1024 + y.val)) := by
  rw [Finset.sum_range, ← Fintype.sum_prod_type' (f := fun (g : Fin 8) (y : Fin 1024) => f (Fin.ofNat 8192 (g.val * 1024 + y.val)))]
  refine (Fintype.sum_equiv (finProdFinEquiv (m := 8) (n := 1024)) _ f fun p => congrArg f (Fin.ext ?_)).symm
  show (p.1.val * 1024 + p.2.val) % 8192 = p.2.val + 1024 * p.1.val
  omega

variable (I : Ins) (h : Fin 2) (a : Fin 512)

/-- The running maximum grows. -/
theorem M_mono (n k : ℕ) (hk : n ≤ k) : M I h n a ≤ M I h k a := by
  induction hk with
  | refl => exact le_refl _
  | step _ ih => exact ih.trans (le_max_left _ _)

/-- The block, in its group, of a key of the group. -/
theorem dlt (y : Fin 1024) : y.val / 256 < 4 := by omega
/-- The key's row in its block. -/
theorem mlt (y : Fin 1024) : y.val % 256 < 256 := by omega

/-- A score of a group is at most the maximum after it. -/
theorem sc_le (g : ℕ) (y : Fin 1024) : sc I h g ⟨y.val / 256, dlt y⟩ a ⟨y.val % 256, mlt y⟩ ≤ M I h (g + 1) a := by
  have e : M I h (g + 1) a = max (M I h g a) (top (sc I h g) a) := rfl
  rw [e]
  refine le_trans ?_ (le_max_right _ _)
  unfold top
  generalize hp : ((⟨y.val / 256, dlt y⟩, ⟨y.val % 256, mlt y⟩) : Fin 4 × Fin 256) = p
  rw [show sc I h g ⟨y.val / 256, dlt y⟩ a ⟨y.val % 256, mlt y⟩ = sc I h g p.1 a p.2 by rw [← hp]]
  exact Finset.le_sup (f := fun p : Fin 4 × Fin 256 => sc I h g p.1 a p.2) (Finset.mem_univ p)

variable (N : ℕ) (L : Fin 8192 → EReal) (hN : N ≤ 8)
  (hin : ∀ g < N, ∀ y : Fin 1024, L (Fin.ofNat 8192 (g * 1024 + y.val)) = sc I h g ⟨y.val / 256, dlt y⟩ a ⟨y.val % 256, mlt y⟩)
  (hout : ∀ s : Fin 8192, N * 1024 ≤ s.val → L s = ⊥)

include hN hin hout in
/-- The running maximum after the last group is the maximum over the keys. -/
theorem M_eq : M I h N a = Finset.fold max ⊥ L Finset.univ := by
  apply le_antisymm
  · have : ∀ n ≤ N, M I h n a ≤ Finset.fold max ⊥ L Finset.univ := by
      intro n
      induction n with
      | zero => intro _; exact bot_le
      | succ n ih =>
        intro hn
        refine max_le (ih (by omega)) (Finset.sup_le fun p _ => ?_)
        have e := hin n (by omega) ⟨p.1.val * 256 + p.2.val, by omega⟩
        have e1 : (⟨(p.1.val * 256 + p.2.val) / 256, by omega⟩ : Fin 4) = p.1 := Fin.ext (by show _ / _ = _; omega)
        have e2 : (⟨(p.1.val * 256 + p.2.val) % 256, by omega⟩ : Fin 256) = p.2 := Fin.ext (by show _ % _ = _; omega)
        rw [e1, e2] at e
        rw [← e]
        exact Finset.le_fold_max _ |>.mpr (Or.inr ⟨_, Finset.mem_univ _, le_refl _⟩)
    exact this N (le_refl _)
  · refine Finset.fold_max_le _ |>.mpr ⟨bot_le, fun s _ => ?_⟩
    by_cases hs : N * 1024 ≤ s.val
    · rw [hout s hs]; exact bot_le
    · have e := hin (s.val / 1024) (by omega) ⟨s.val % 1024, by omega⟩
      rw [show Fin.ofNat 8192 (s.val / 1024 * 1024 + s.val % 1024) = s from Fin.ext (by show _ % 8192 = _; omega)] at e
      rw [e]
      exact (sc_le I h a _ _).trans (M_mono I h a _ _ (by omega))

include hN hin hout in
/-- The running sums after the last group are the sums over the keys, each weighed against the maximum. -/
theorem A_eq_sum (d : Fin 256) (v : Fin 8192 → EReal) (hv : ∀ g < N, ∀ y : Fin 1024, vw I h g y d = v (Fin.ofNat 8192 (g * 1024 + y.val))) :
    A I h N a d = ∑ s, e2 (L s - Finset.fold max ⊥ L Finset.univ) * v s := by
  rw [running (fun g (y : Fin 1024) => sc I h g ⟨y.val / 256, dlt y⟩ a ⟨y.val % 256, mlt y⟩) (fun g y => vw I h g y d) (fun g => M I h g a)
    (fun g => A I h g a d) N (fun g _ => M_mono I h a _ _ (by omega)) (fun g _ y => sc_le I h a g y) rfl (fun g _ => rfl),
    sum_groups, M_eq I h a N L hN hin hout]
  refine (Finset.sum_congr rfl fun g hg => Finset.sum_congr rfl fun y _ => ?_).trans
    (Finset.sum_subset (Finset.range_subset_range.mpr hN) fun g hg hg' => Finset.sum_eq_zero fun y _ => ?_)
  · rw [hin g (Finset.mem_range.mp hg), hv g (Finset.mem_range.mp hg)]
  · have h8 := Finset.mem_range.mp hg
    have hg1 : N ≤ g := not_lt.mp fun h => hg' (Finset.mem_range.mpr h)
    rw [hout _ (by show _ ≤ (g * 1024 + y.val) % 8192; omega), EReal.bot_sub, e2_bot, zero_mul]

end Cert.AttentionIdeal.Attn

end
-- ==== Proof.AttnIdeal.Ref.lean ====
/- The reference attention, read at an index. -/
module

public import proofs.«01_k».proof.Proof.Gen.AttentionRefIdeal.Run
public import Idealize.ShloMosaic.Lib.Pointwise

@[expose] public section

set_option maxRecDepth 16384

noncomputable section

open Idealize.ShloMosaic Idealize.ShloMosaic.TcCoe Idealize.SL.Sem
open scoped BigOperators

namespace Cert.AttentionRefIdeal.Attn

open Cert.AttentionRefIdeal Cert.AttentionRefIdeal.Gen

variable (x : FVec Ideal S8192x4096 .bf16) (w : IVec S8192x256 32) (bd : FVec Ideal S4x8x512x256 .f32)

/-- Which of the four runs of the band a pair of blocks reads. -/
def places : IVec S16x32 32 := (minsi (maxsi (subi (broadcastInDim S16x32 ![0, 1] bcast_S16x1_S16x32_0_1 (addi (muli (broadcastInDim S16x1 ![] bcast_S_S16x1 (constantI S_ 32 2#32)) (broadcastInDim S16x1 ![0] bcast_S16_S16x1_0 (iotaInDim S16 32 0))) (broadcastInDim S16x1 ![] bcast_S_S16x1 (constantI S_ 32 1#32)))) (broadcastInDim S16x32 ![0, 1] bcast_S1x32_S16x32_0_1 (broadcastInDim S1x32 ![1] bcast_S32_S1x32_1 (iotaInDim S32 32 0)))) (broadcastInDim S16x32 ![] bcast_S_S16x32 (constantI S_ 32 0#32))) (broadcastInDim S16x32 ![] bcast_S_S16x32 (constantI S_ 32 3#32)))

/-- The selected keys. -/
def bits : IVec S16x512x32x256 1 := (cmpi .ne (andi (broadcastInDim S16x512x32x256 ![0, 1, 2, 3] bcast_S16x512x1x256_S16x512x32x256_0_1_2_3 (shapeCast _ w shapeCasts_S8192x256_S16x512x1x256)) (broadcastInDim S16x512x32x256 ![0, 1, 2, 3] bcast_S1x1x32x1_S16x512x32x256_0_1_2_3 (Host.shli (broadcastInDim S1x1x32x1 ![] bcast_S_S1x1x32x1 (constantI S_ 32 1#32)) (shapeCast _ (broadcastInDim S1x32 ![1] bcast_S32_S1x32_1 (iotaInDim S32 32 0)) shapeCasts_S1x32_S1x1x32x1)))) (broadcastInDim S16x512x32x256 ![] bcast_S_S16x512x32x256 (constantI S_ 32 0#32)))

/-- The keys of the groups up to the query's own. -/
def near : IVec S16x1x32x1 1 := (shapeCast _ (cmpi .sle (broadcastInDim S16x32 ![0, 1] bcast_S1x32_S16x32_0_1 (Host.shrsi (broadcastInDim S1x32 ![1] bcast_S32_S1x32_1 (iotaInDim S32 32 0)) (broadcastInDim S1x32 ![] bcast_S_S1x32 (constantI S_ 32 2#32)))) (broadcastInDim S16x32 ![0, 1] bcast_S16x1_S16x32_0_1 (Host.shrsi (broadcastInDim S16x1 ![0] bcast_S16_S16x1_0 (iotaInDim S16 32 0)) (broadcastInDim S16x1 ![] bcast_S_S16x1 (constantI S_ 32 1#32))))) shapeCasts_S16x32_S16x1x32x1)

/-- The scaled products of queries and keys. -/
def dots : FVec Ideal S8x16x512x32x256 .f32 := (mulf (Host.dotGeneral dot_S16x512x8x128_S32x256x8x128_S8x16x512x32x256_3_3_01_01_2_2 none (shapeCast _ (extractStridedSlice S8192x1024 ![0, 0] x slices_S8192x4096_S8192x1024_0_0) shapeCasts_S8192x1024_S16x512x8x128) (shapeCast _ (extractStridedSlice S8192x1024 ![0, 1024] x slices_S8192x4096_S8192x1024_0_1024) shapeCasts_S8192x1024_S32x256x8x128)) (broadcastInDim S8x16x512x32x256 ![] bcast_S_S8x16x512x32x256 (constant S_ .f32 0x3E0293EE#32)))

/-- The bias of every pair. -/
def bias : FVec Ideal S8x16x512x32x256 .f32 := (transpose S8x16x512x32x256 [2, 0, 3, 1, 4] (Host.gather gather_S4x8x512x256_S16x32x1_S16x32x8x512x256_234_0_n_n_0_2_18512256 bd (broadcastInDim S16x32x1 ![0, 1] bcast_S16x32_S16x32x1_0_1 (select (cmpi .slt places (broadcastInDim S16x32 ![] bcast_S_S16x32 (constantI S_ 32 0#32))) (addi places (broadcastInDim S16x32 ![] bcast_S_S16x32 (constantI S_ 32 4#32))) places))) transposes_S16x32x8x512x256_S8x16x512x32x256_2_0_3_1_4)

/-- The scores, unseen keys at −∞. -/
def scores5 : FVec Ideal S8x16x512x32x256 .f32 := (select (broadcastInDim S8x16x512x32x256 ![1, 2, 3, 4] bcast_S16x512x32x256_S8x16x512x32x256_1_2_3_4 (andi (bits w) (broadcastInDim S16x512x32x256 ![0, 1, 2, 3] bcast_S16x1x32x1_S16x512x32x256_0_1_2_3 near))) (addf (dots x) (bias bd)) (broadcastInDim S8x16x512x32x256 ![] bcast_S_S8x16x512x32x256 (id (constant S_ .f32 0xFF800000#32))))

/-- The same, a query's keys in one row. -/
def scores : FVec Ideal S8x16x512x8192 .f32 := (shapeCast _ (scores5 x w bd) shapeCasts_S8x16x512x32x256_S8x16x512x8192)

/-- The weights. -/
def weights (L : FVec Ideal S8x16x512x8192 .f32) : FVec Ideal S8x16x512x8192 .f32 := (Host.powf (broadcastInDim S8x16x512x8192 ![] bcast_S_S8x16x512x8192 (constant S_ .f32 0x40000000#32)) (subf L (broadcastInDim S8x16x512x8192 ![0, 1, 2, 3] bcast_S8x16x512x1_S8x16x512x8192_0_1_2_3 (broadcastInDim S8x16x512x1 ![0, 1, 2] bcast_S8x16x512_S8x16x512x1_0_1_2 (Host.reduce FloatOps.maximumf L (constant S_ .f32 0xFF800000#32) reducesTo_S8x16x512x8192_S8x16x512_d3 h_S_)))))

/-- The values. -/
def vals : FVec Ideal S8192x8x128 .bf16 := (shapeCast _ (extractStridedSlice S8192x1024 ![0, 2048] x slices_S8192x4096_S8192x1024_0_2048) shapeCasts_S8192x1024_S8192x8x128)

/-- The weighted means. -/
def means (e : FVec Ideal S8x16x512x8192 .f32) (v : FVec Ideal S8192x8x128 .bf16) : FVec Ideal S8192x1024 .f32 := shapeCast _ (transpose S16x512x8x128 [1, 2, 0, 3] (Host.divf (Host.dotGeneral dot_S8x16x512x8192_S8192x8x128_S8x16x512x128_3_0_12_2_0_1 none (truncf .bf16 e bitsLt_bf16_f32) v) (broadcastInDim S8x16x512x128 ![0, 1, 2, 3] bcast_S8x16x512x1_S8x16x512x128_0_1_2_3 (broadcastInDim S8x16x512x1 ![0, 1, 2] bcast_S8x16x512_S8x16x512x1_0_1_2 (Host.reduceAdd e (constant S_ .f32 0x00000000#32) reducesTo_S8x16x512x8192_S8x16x512_d3 h_S_)))) transposes_S8x16x512x128_S16x512x8x128_1_2_0_3) shapeCasts_S16x512x8x128_S8192x1024

theorem res_eq (m : (ℓ : Loc nD τ sig) → Buf (Elt Ideal) ℓ) (c : Dev nD) :
    Value.res_main_v67 m c = means (weights (scores (m ((c.tc : Thread nD τ).loc main_arg0)) (m ((c.tc : Thread nD τ).loc main_arg1)) (m ((c.tc : Thread nD τ).loc main_arg2)))) (vals (m ((c.tc : Thread nD τ).loc main_arg0))) := by
  unfold Value.res_main_v67 means weights scores scores5 vals dots bias near bits places
  rfl

/-- The score of a pair of blocks' row and column, unseen keys at −∞. -/
def score (h : Fin 8) (i : Fin 16) (a : Fin 512) (j : Fin 32) (b : Fin 256) : EReal :=
  if IntOp.andi (w (ix2 ⟨i.val * 512 + a.val, by omega⟩ b)) (IntOp.shli .host 1#32 (BitVec.ofNat 32 j.val)) ≠ 0#32 ∧ j.val / 4 ≤ i.val / 2 then
    (∑ d : Fin 128, x (ix2 ⟨i.val * 512 + a.val, by omega⟩ ⟨h.val * 128 + d.val, by omega⟩)
        * x (ix2 ⟨j.val * 256 + b.val, by omega⟩ ⟨1024 + (h.val * 128 + d.val), by omega⟩)) * Ideal.ofBits .f32 0x3E0293EE#32
      + bd (ix4 ⟨min (2 * i.val + 1 - j.val) 3, by omega⟩ h a b)
  else ⊥

theorem select_eq (A : BitVec 32) (D : Prop) [Decidable D] (X Y : EReal) :
    Scalar.select (IntOp.andi (IntOp.cmpi .ne A 0#32) (BitVec.ofBool (decide D))) X Y = if A ≠ 0#32 ∧ D then X else Y := by
  by_cases h1 : A = 0#32
  · subst h1
    rw [if_neg (fun h => h.1 rfl)]
    by_cases h2 : D
    · simp only [h2, decide_true]; rfl
    · simp only [h2, decide_false]; rfl
  · have e : IntOp.cmpi .ne A 0#32 = 1#1 := by
      show BitVec.ofBool (A != 0#32) = 1#1
      rw [bne_iff_ne.mpr h1]; rfl
    rw [e]
    by_cases h2 : D
    · rw [if_pos ⟨h1, h2⟩]; simp only [h2, decide_true]; rfl
    · rw [if_neg (fun h => h2 h.2)]; simp only [h2, decide_false]; rfl

/-- The gather of the band's runs. -/
theorem gather_band (idx : IVec S16x32x1 32) (i : Fin 16) (j : Fin 32) (h : Fin 8) (a : Fin 512) (b : Fin 256) :
    Host.gather gather_S4x8x512x256_S16x32x1_S16x32x8x512x256_234_0_n_n_0_2_18512256 bd idx (ix5 i j h a b)
      = bd (ix4 ⟨min (idx (ix3 i j 0)).toInt.toNat 3, by omega⟩ h a b) := by
  unfold Host.gather
  refine congrArg bd (funext fun k => Fin.ext ?_)
  show GatherDims.start _ _ idx k + GatherDims.batchCoord _ _ k + GatherDims.offCoord _ _ k = _
  rw [GatherDims.batchCoord_eq_zero _ _ _ List.not_mem_nil]
  match k with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (0 : Fin 4) ∈ (gather_S4x8x512x256_S16x32x1_S16x32x8x512x256_234_0_n_n_0_2_18512256).startIndexMap from List.mem_singleton.mpr rfl)).trans ?_
    have hsi : ∀ c, (gather_S4x8x512x256_S16x32x1_S16x32x8x512x256_234_0_n_n_0_2_18512256).siIdx (ix5 i j h a b) c = ix3 i j 0 := by
      intro c
      funext b; refine Fin.ext ?_
      match b with
      | ⟨0, _⟩ => rfl
      | ⟨1, _⟩ => rfl
      | ⟨2, _⟩ =>
        have := c.isLt
        show c.val = 0
        exact Nat.lt_one_iff.mp this
    rw [hsi]
    rfl
  | ⟨1, _⟩ =>
    have h1 : GatherDims.start gather_S4x8x512x256_S16x32x1_S16x32x8x512x256_234_0_n_n_0_2_18512256 (ix5 i j h a b) idx (1 : Fin 4) = 0 := by
      unfold GatherDims.start
      exact dif_neg (fun h => absurd (List.mem_singleton.mp h) (by decide))
    have h2 : GatherDims.offCoord gather_S4x8x512x256_S16x32x1_S16x32x8x512x256_234_0_n_n_0_2_18512256 (ix5 i j h a b) (1 : Fin 4) = h.val := by
      unfold GatherDims.offCoord
      rw [dif_pos ((GatherDims.mem_sKept _ _).mpr ⟨fun h => absurd (List.mem_singleton.mp h) (by decide), List.not_mem_nil⟩)]
      rfl
    exact (congrArg₂ (fun p q => p + 0 + q) h1 h2).trans (by simp)
  | ⟨2, _⟩ =>
    have h1 : GatherDims.start gather_S4x8x512x256_S16x32x1_S16x32x8x512x256_234_0_n_n_0_2_18512256 (ix5 i j h a b) idx (2 : Fin 4) = 0 := by
      unfold GatherDims.start
      exact dif_neg (fun h => absurd (List.mem_singleton.mp h) (by decide))
    have h2 : GatherDims.offCoord gather_S4x8x512x256_S16x32x1_S16x32x8x512x256_234_0_n_n_0_2_18512256 (ix5 i j h a b) (2 : Fin 4) = a.val := by
      unfold GatherDims.offCoord
      rw [dif_pos ((GatherDims.mem_sKept _ _).mpr ⟨fun h => absurd (List.mem_singleton.mp h) (by decide), List.not_mem_nil⟩)]
      rfl
    exact (congrArg₂ (fun p q => p + 0 + q) h1 h2).trans (by simp)
  | ⟨3, _⟩ =>
    have h1 : GatherDims.start gather_S4x8x512x256_S16x32x1_S16x32x8x512x256_234_0_n_n_0_2_18512256 (ix5 i j h a b) idx (3 : Fin 4) = 0 := by
      unfold GatherDims.start
      exact dif_neg (fun h => absurd (List.mem_singleton.mp h) (by decide))
    have h2 : GatherDims.offCoord gather_S4x8x512x256_S16x32x1_S16x32x8x512x256_234_0_n_n_0_2_18512256 (ix5 i j h a b) (3 : Fin 4) = b.val := by
      unfold GatherDims.offCoord
      rw [dif_pos ((GatherDims.mem_sKept _ _).mpr ⟨fun h => absurd (List.mem_singleton.mp h) (by decide), List.not_mem_nil⟩)]
      rfl
    exact (congrArg₂ (fun p q => p + 0 + q) h1 h2).trans (by simp)

theorem dots_apply (h : Fin 8) (i : Fin 16) (a : Fin 512) (j : Fin 32) (b : Fin 256) :
    dots x (ix5 h i a j b) = (∑ d : Fin 128, x (ix2 ⟨i.val * 512 + a.val, by omega⟩ ⟨h.val * 128 + d.val, by omega⟩)
        * x (ix2 ⟨j.val * 256 + b.val, by omega⟩ ⟨1024 + (h.val * 128 + d.val), by omega⟩)) * Ideal.ofBits .f32 0x3E0293EE#32 := by
  unfold dots
  pointwise []

theorem places_val : ∀ (i : Fin 16) (j : Fin 32), (places (ix2 i j)).toInt = ((min (2 * i.val + 1 - j.val) 3 : ℕ) : ℤ)
    ∧ (places (ix2 i j)).slt 0#32 = false := by
  have e : ∀ (i : Fin 16) (j : Fin 32), places (ix2 i j)
      = IntOp.minsi (IntOp.maxsi (2#32 * BitVec.ofNat 32 i.val + 1#32 - BitVec.ofNat 32 j.val) 0#32) 3#32 := by
    intro i j
    unfold places
    pointwise []
    rfl
  intro i j
  rw [e]
  revert i j
  decide +kernel

theorem bias_apply (h : Fin 8) (i : Fin 16) (a : Fin 512) (j : Fin 32) (b : Fin 256) :
    bias bd (ix5 h i a j b) = bd (ix4 ⟨min (2 * i.val + 1 - j.val) 3, by omega⟩ h a b) := by
  have hv := places_val i j
  unfold bias
  generalize places = p at hv ⊢
  pointwise []
  refine (gather_band bd _ i j h a b).trans ?_
  have hp : Scalar.select (IntOp.cmpi .slt (p (ix2 i j)) 0#32) (IntOp.addi (p (ix2 i j)) 4#32) (p (ix2 i j)) = p (ix2 i j) := by
    show Scalar.select (BitVec.ofBool ((p (ix2 i j)).slt 0#32)) _ _ = _
    rw [hv.2]; rfl
  refine congrArg bd (congrArg (fun z => ix4 z h a b) (Fin.ext ?_))
  refine (congrArg (fun z : BitVec 32 => min z.toInt.toNat 3) (?_ : _ = p (ix2 i j))).trans ?_
  · pointwise []
    exact hp
  · show min (p (ix2 i j)).toInt.toNat 3 = min (2 * i.val + 1 - j.val) 3
    rw [hv.1]
    omega

theorem near_apply : ∀ (i : Fin 16) (j : Fin 32), near (ix4 i 0 j 0) = BitVec.ofBool (decide (j.val / 4 ≤ i.val / 2)) := by
  have e : ∀ (i : Fin 16) (j : Fin 32), near (ix4 i 0 j 0) = IntOp.cmpi .sle (IntOp.shrsi .host (BitVec.ofNat 32 j.val) 2#32) (IntOp.shrsi .host (BitVec.ofNat 32 i.val) 1#32) := by
    intro i j
    unfold near
    pointwise []
  intro i j
  rw [e]
  revert i j
  decide +kernel

theorem bits_apply (i : Fin 16) (a : Fin 512) (j : Fin 32) (b : Fin 256) :
    bits w (ix4 i a j b) = IntOp.cmpi .ne (IntOp.andi (w (ix2 ⟨i.val * 512 + a.val, by omega⟩ b)) (IntOp.shli .host 1#32 (BitVec.ofNat 32 j.val))) 0#32 := by
  unfold bits
  pointwise []

theorem scores_apply (h : Fin 8) (i : Fin 16) (a : Fin 512) (s : Fin 8192) :
    scores x w bd (ix4 h i a s) = score x w bd h i a ⟨s.val / 256, by omega⟩ ⟨s.val % 256, by omega⟩ := by
  unfold scores scores5 score
  have hb := bits_apply w i a ⟨s.val / 256, by omega⟩ ⟨s.val % 256, by omega⟩
  have hn := near_apply i ⟨s.val / 256, by omega⟩
  have hd := dots_apply x h i a ⟨s.val / 256, by omega⟩ ⟨s.val % 256, by omega⟩
  have hs := bias_apply bd h i a ⟨s.val / 256, by omega⟩ ⟨s.val % 256, by omega⟩
  generalize bits w = p at hb ⊢
  generalize near = q at hn ⊢
  generalize dots x = r at hd ⊢
  generalize bias bd = u at hs ⊢
  pointwise []
  rw [hb, hn, hd, hs]
  exact select_eq _ _ _ _

theorem weights_apply (L : FVec Ideal S8x16x512x8192 .f32) (h : Fin 8) (i : Fin 16) (a : Fin 512) (s : Fin 8192) : weights L (ix4 h i a s)
    = Ideal.pow (Ideal.ofBits .f32 0x40000000#32) (L (ix4 h i a s) - Finset.fold max (Ideal.ofBits .f32 0xFF800000#32) (fun x : Fin 8192 => L (ix4 h i a x)) Finset.univ) := by
  unfold weights
  pointwise []

theorem vals_apply (s : Fin 8192) (h : Fin 8) (y : Fin 128) : vals x (ix3 s h y) = x (ix2 s ⟨2048 + (h.val * 128 + y.val), by omega⟩) := by
  unfold vals
  pointwise []

theorem means_apply (e : FVec Ideal S8x16x512x8192 .f32) (v : FVec Ideal S8192x8x128 .bf16) (t : Fin 8192) (y : Fin 1024) : means e v (ix2 t y)
    = Ideal.div (∑ x : Fin 8192, e (ix4 ⟨y.val / 128, by omega⟩ ⟨t.val / 512, by omega⟩ ⟨t.val % 512, by omega⟩ x) * v (ix3 x ⟨y.val / 128, by omega⟩ ⟨y.val % 128, by omega⟩))
        (∑ x : Fin 8192, e (ix4 ⟨y.val / 128, by omega⟩ ⟨t.val / 512, by omega⟩ ⟨t.val % 512, by omega⟩ x)) := by
  unfold means
  pointwise []

end Cert.AttentionRefIdeal.Attn

end
-- ==== Proof.AttnIdeal.Claim.lean ====
/- The value claim of the attention: what its programs leave is the reference. -/
module

public import proofs.«01_k».proof.Proof.AttnIdeal.Setup
public import proofs.«01_k».proof.Proof.AttnIdeal.Written
public import proofs.«01_k».proof.Proof.AttnIdeal.Combine
public import proofs.«01_k».proof.Proof.AttnIdeal.Ref
public import proofs.«01_k».proof.Defs
public import Idealize.ShloMosaic.Lib.Pointwise

@[expose] public section

set_option maxRecDepth 16384

noncomputable section

namespace Cert.AttentionIdeal.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Cert.AttentionRefIdeal.Attn (score scores weights vals means scores_apply weights_apply vals_apply means_apply)

variable (x : FVec Ideal S8192x4096 .bf16) (w : IVec S8192x256 32) (bd : FVec Ideal S4x8x512x256 .f32)
  (n p : ℕ) (hn : n < 16) (hp : p < 4)
  (x0 : Vec Ideal S512x256 .bf16) (x1 x2 : Vec Ideal S8192x256 .bf16) (x3 : Vec Ideal S512x256 .i32) (x4 : Vec Ideal S4x2x512x256 .f32)
  (h0 : ∀ a k, x0 (ix2 a k) = x (ix2 ⟨n * 512 + a.val, by omega⟩ ⟨p * 256 + k.val, by omega⟩))
  (h1 : ∀ s k, x1 (ix2 s k) = x (ix2 s ⟨1024 + (p * 256 + k.val), by omega⟩))
  (h2 : ∀ s k, x2 (ix2 s k) = x (ix2 s ⟨2048 + (p * 256 + k.val), by omega⟩))
  (h3 : ∀ a b, x3 (ix2 a b) = w (ix2 ⟨n * 512 + a.val, by omega⟩ b))
  (h4 : ∀ u h a b, x4 (ix4 u h a b) = bd (ix4 u ⟨p * 2 + h.val, by omega⟩ a b))

include h0 h1 h3 h4 in
/-- A score of the kernel is the reference's, of a block of keys that the queries may see. -/
theorem blk_eq (h : Fin 2) (j : Fin 32) (hj : j.val / 4 ≤ n / 2) (a : Fin 512) (b : Fin 256) :
    blk (point n x0 x1 x2 x3 x4) h j.val a b = score x w bd ⟨p * 2 + h.val, by omega⟩ ⟨n, hn⟩ a j b := by
  have ej : (Fin.ofNat 32 j.val) = j := Fin.ext (Nat.mod_eq_of_lt j.isLt)
  have es : (Fin.ofNat 8192 (j.val * 256 + b.val)) = ⟨j.val * 256 + b.val, by omega⟩ := Fin.ext (Nat.mod_eq_of_lt (by omega))
  have e : blk (point n x0 x1 x2 x3 x4) h j.val a b
      = (∑ d : Fin 128, x0 (ix2 a ⟨128 * h.val + d.val, by omega⟩) * x1 (ix2 (Fin.ofNat 8192 (j.val * 256 + b.val)) ⟨128 * h.val + d.val, by omega⟩))
        * Ideal.ofBits .f32 0x3E0293EE#32 + x4 (ix4 ⟨min (2 * n + 1 - j.val) 3, by omega⟩ h a b) + hole x3 (Fin.ofNat 32 j.val).val a b := rfl
  rw [e, ej, es]
  unfold hole score
  rw [h3, h4]
  have ed : ∀ d : Fin 128, x0 (ix2 a ⟨128 * h.val + d.val, by omega⟩) * x1 (ix2 ⟨j.val * 256 + b.val, by omega⟩ ⟨128 * h.val + d.val, by omega⟩)
      = x (ix2 ⟨n * 512 + a.val, by omega⟩ ⟨(p * 2 + h.val) * 128 + d.val, by omega⟩)
        * x (ix2 ⟨j.val * 256 + b.val, by omega⟩ ⟨1024 + ((p * 2 + h.val) * 128 + d.val), by omega⟩) := by
    intro d
    rw [h0, h1]
    have e1 : p * 256 + (128 * h.val + d.val) = (p * 2 + h.val) * 128 + d.val := by omega
    simp only [e1]
  simp only [ed]
  by_cases hz : IntOp.andi (w (ix2 ⟨n * 512 + a.val, by omega⟩ b)) (IntOp.shli .host 1#32 (BitVec.ofNat 32 j.val)) ≠ 0#32
  · rw [if_pos hz, if_pos ⟨hz, hj⟩, add_zero]
  · rw [if_neg hz, if_neg (fun h => hz h.1), EReal.add_bot]

/-- The reference's scores of a query. -/
def row (h : Fin 8) (i : Fin 16) (a : Fin 512) : Fin 8192 → EReal := fun s => scores x w bd (ix4 h i a s)

include hn hp h0 h1 h2 h3 h4 in
/-- A running sum of the kernel, over all the keys. -/
theorem sums (h : Fin 2) (a : Fin 512) (d : Fin 256) (v : Fin 8192 → EReal)
    (hv : ∀ (g : ℕ) (y : Fin 1024), vw (point n x0 x1 x2 x3 x4) h g y d = v (Fin.ofNat 8192 (g * 1024 + y.val))) :
    A (point n x0 x1 x2 x3 x4) h (n / 2 + 1) a d
      = ∑ s, e2 (row x w bd ⟨p * 2 + h.val, by omega⟩ ⟨n, hn⟩ a s - Finset.fold max ⊥ (row x w bd ⟨p * 2 + h.val, by omega⟩ ⟨n, hn⟩ a) Finset.univ) * v s := by
  refine A_eq_sum _ h a (n / 2 + 1) _ (by omega) ?_ ?_ d v (fun g _ y => hv g y)
  · intro g hg y
    have e := blk_eq x w bd n p hn hp x0 x1 x2 x3 x4 h0 h1 h3 h4 h ⟨4 * g + y.val / 256, by omega⟩ (by show (4 * g + y.val / 256) / 4 ≤ _; omega) a ⟨y.val % 256, by omega⟩
    refine (scores_apply x w bd _ _ a _).trans (Eq.trans ?_ e.symm)
    have er : (Fin.ofNat 8192 (g * 1024 + y.val)).val = g * 1024 + y.val := Nat.mod_eq_of_lt (by omega)
    congr 1
    · exact Fin.ext (by show (Fin.ofNat 8192 (g * 1024 + y.val)).val / 256 = _; rw [er]; show _ = 4 * g + y.val / 256; omega)
    · exact Fin.ext (by show (Fin.ofNat 8192 (g * 1024 + y.val)).val % 256 = _; rw [er]; show _ = y.val % 256; omega)
  · intro s hs
    refine (scores_apply x w bd _ _ a s).trans ?_
    unfold score
    exact if_neg (fun h => by have h' : s.val / 256 / 4 ≤ n / 2 := h.2; omega)

/-- The word of two. -/
theorem two : Ideal.ofBits .f32 0x40000000#32 = ((2 : ℝ) : EReal) := by
  simp [Ideal.ofBits, Ideal.ieee, -EReal.coe_mul, -EReal.coe_neg]; norm_num

include hn hp h0 h1 h2 h3 h4 in
/-- What a program leaves is the reference. -/
theorem out_eq (a : Fin 512) (k : Fin 256) : out n x0 x1 x2 x3 x4 (ix2 a k)
    = means (weights (scores x w bd)) (vals x) (ix2 ⟨n * 512 + a.val, by omega⟩ ⟨p * 256 + k.val, by omega⟩) := by
  rw [means_apply]
  have eh : (⟨(p * 256 + k.val) / 128, by omega⟩ : Fin 8) = ⟨p * 2 + k.val / 128, by omega⟩ := Fin.ext (by show _ / _ = _ + _; omega)
  have en : (⟨(n * 512 + a.val) / 512, by omega⟩ : Fin 16) = ⟨n, hn⟩ := Fin.ext (by show _ / _ = n; omega)
  have ea : (⟨(n * 512 + a.val) % 512, by omega⟩ : Fin 512) = a := Fin.ext (by show _ % _ = a.val; omega)
  have ek : (⟨(p * 256 + k.val) % 128, by omega⟩ : Fin 128) = ⟨k.val % 128, by omega⟩ := Fin.ext (by show _ % _ = _ % _; omega)
  simp only [eh, en, ea, ek, weights_apply, vals_apply, two, inf_bot, pow_two]
  have s1 := sums x w bd n p hn hp x0 x1 x2 x3 x4 h0 h1 h2 h3 h4 ⟨k.val / 128, by omega⟩ a ⟨k.val % 128, by omega⟩
    (fun s => x (ix2 s ⟨2048 + ((p * 2 + k.val / 128) * 128 + k.val % 128), by omega⟩)) (by
      intro g y
      unfold vw
      rw [dif_pos (show k.val % 128 < 128 by omega)]
      refine (h2 _ _).trans ?_
      congr 2
      exact Fin.ext (by show 2048 + (p * 256 + (128 * (k.val / 128) + k.val % 128)) = 2048 + ((p * 2 + k.val / 128) * 128 + k.val % 128); omega))
  have s2 := sums x w bd n p hn hp x0 x1 x2 x3 x4 h0 h1 h2 h3 h4 ⟨k.val / 128, by omega⟩ a 128 (fun _ => 1) (by
      intro g y
      unfold vw
      exact dif_neg (by decide))
  simp only [mul_one] at s2
  exact congrArg₂ Ideal.div s1 s2

/-- The output of the attention is the reference. -/
theorem final (m : (ℓ : Loc nD τ sig) → Buf (Elt Ideal) ℓ) (c : Dev nD) (r : Fin 8192) (l : Fin 1024) :
    (dats m 0 c).arrAt 5 cfg0.N (ix2 r l : S8192x1024.Idx)
      = means (weights (scores (m ((c : Thread nD τ).loc main_arg0)) (m ((c : Thread nD τ).loc main_arg1)) (m ((c : Thread nD τ).loc main_arg2))))
        (vals (m ((c : Thread nD τ).loc main_arg0))) (ix2 r l) := by
  have ht : r.val / 512 * 4 + l.val / 256 < 64 := by omega
  have q : (r.val / 512 * 4 + l.val / 256) / 4 = r.val / 512 := by omega
  have q' : (r.val / 512 * 4 + l.val / 256) % 4 = l.val / 256 := by omega
  have hw := written m c ⟨r.val / 512 * 4 + l.val / 256, lt_of_lt_of_eq ht N_0.symm⟩ ht ⟨r.val % 512, by omega⟩ ⟨l.val % 256, by omega⟩
  have hl := out_eq (m ((c : Thread nD τ).loc main_arg0)) (m ((c : Thread nD τ).loc main_arg1)) (m ((c : Thread nD τ).loc main_arg2))
    ((r.val / 512 * 4 + l.val / 256) / 4) ((r.val / 512 * 4 + l.val / 256) % 4) (by omega) (by omega) _ _ _ _ _
    (x0_val m c ⟨_, lt_of_lt_of_eq ht N_0.symm⟩ ht) (x1_val m c ⟨_, lt_of_lt_of_eq ht N_0.symm⟩ ht) (x2_val m c ⟨_, lt_of_lt_of_eq ht N_0.symm⟩ ht)
    (x3_val m c ⟨_, lt_of_lt_of_eq ht N_0.symm⟩ ht) (x4_val m c ⟨_, lt_of_lt_of_eq ht N_0.symm⟩ ht) ⟨r.val % 512, by omega⟩ ⟨l.val % 256, by omega⟩
  have h := hw.trans hl
  have e1 : ∀ z, (⟨(r.val / 512 * 4 + l.val / 256) / 4 * 512 + r.val % 512, z⟩ : Fin 8192) = r := fun _ => Fin.ext (by show _ + _ = r.val; omega)
  have e2 : ∀ z, (⟨(r.val / 512 * 4 + l.val / 256) % 4 * 256 + l.val % 256, z⟩ : Fin 1024) = l := fun _ => Fin.ext (by show _ + _ = l.val; omega)
  simp only [e1, e2] at h
  exact h

end Cert.AttentionIdeal.Attn

namespace Cert.Proof.Attention

open Idealize.ShloMosaic Idealize.ShloMosaic.TcCoe Idealize.SL.Sem
open Cert.AttentionRefIdeal Cert.AttentionRefIdeal.Gen

/-- The ideal reading of the attention computes its reference. -/
theorem algebraic : Cert.algebraic_AttentionIdeal_AttentionRefIdeal := by
  intro m ρ m' ρ' _ hag
  refine ⟨fun c => (AttentionIdeal.Attn.dats m 0 c).arrAt 5 AttentionIdeal.cfg0.N,
    (θ_run AttentionIdeal.defs _ _).mono (fun _ h => h.1) (AttentionIdeal.Attn.run_named m ρ), ?_⟩
  refine (θ_run AttentionRefIdeal.defs _ _).mono (fun _ h c => ⟨(h c).1.trans ?_, (h c).2⟩) (AttentionRefIdeal.Value.run (F := Ideal) m' ρ')
  rw [AttentionRefIdeal.Attn.res_eq]
  funext y
  obtain ⟨e0, e1, e2⟩ := hag c
  rw [e0, e1, e2, eq_ix2 y]
  exact (AttentionIdeal.Attn.final m c _ _).symm

end Cert.Proof.Attention

end
-- ==== Proof.lean ====
/- The claims of this problem, assembled.  The frames of the kernels are their generated ones, but
   for the attention's, which are in `Attn/` and `AttnIdeal/`; the frame of a reference
   is read off its generated run, its counters being zero because it declares no semaphore; a kernel's two texts are
   equal, so its rewriting claim is trivial, but for the attention's, which names its mask; the value claims are
   `Lru/Claim.lean`, the modules of `Layer/` and `AttnIdeal/Claim.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.MlpUpRefIdeal.Read
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownIdeal.Value
public import proofs.«01_k».proof.Proof.Gen.MlpDownRefIdeal
public import proofs.«01_k».proof.Proof.Gen.MlpDownRefIdeal.Run
public import proofs.«01_k».proof.Proof.Gen.MlpDownRefIdeal.Read
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationRefIdeal
public import proofs.«01_k».proof.Proof.Gen.ModulationRefIdeal.Run
public import proofs.«01_k».proof.Proof.Gen.ModulationRefIdeal.Read
public import Idealize.ShloMosaic.Adequacy
public import Idealize.ShloMosaic.Init
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandIdeal.Value
public import proofs.«01_k».proof.Proof.Gen.BandRefIdeal
public import proofs.«01_k».proof.Proof.Gen.BandRefIdeal.Run
public import proofs.«01_k».proof.Proof.Gen.Attention
public import proofs.«01_k».proof.Proof.Gen.Attention.Skeleton
public import proofs.«01_k».proof.Proof.Gen.Attention.Loops
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Loops
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionRefIdeal
public import proofs.«01_k».proof.Proof.Gen.AttentionRefIdeal.Run
public import proofs.«01_k».proof.Proof.Lru.Claim
public import proofs.«01_k».proof.Proof.Layer.In
public import proofs.«01_k».proof.Proof.Layer.Out
public import proofs.«01_k».proof.Proof.Layer.Up
public import proofs.«01_k».proof.Proof.Layer.Down
public import proofs.«01_k».proof.Proof.Layer.Mod
public import proofs.«01_k».proof.Proof.Layer.Band
public import proofs.«01_k».proof.Proof.Attn.Frame
public import proofs.«01_k».proof.Proof.AttnIdeal.Claim

@[expose] public section

noncomputable section

namespace Cert.Proof

open Idealize.ShloMosaic Idealize.SL.Sem

/-- The reference of the pool and the recurrence leaves its arguments as they were, and it has no semaphore that could be left raised. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ref_InProj : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

theorem frame_ref_MixOut : Cert.quiescent_MixOutRefIdeal := fun m ρ _ =>
  (θ_run Cert.MixOutRefIdeal.defs _ _).mono (fun r h => ⟨fun c => (h c).2.2.2, sem_eq_zero_of_no_sems (by decide) r.2⟩)
    (Cert.MixOutRefIdeal.Value.run (F := Ideal) m ρ)

theorem frame_ref_MlpUp : Cert.quiescent_MlpUpRefIdeal := fun m ρ _ =>
  (θ_run Cert.MlpUpRefIdeal.defs _ _).mono (fun r h => ⟨fun c => (h c).2.2, sem_eq_zero_of_no_sems (by decide) r.2⟩)
    (Cert.MlpUpRefIdeal.Value.run (F := Ideal) m ρ)

theorem frame_ref_MlpDown : Cert.quiescent_MlpDownRefIdeal := fun m ρ _ =>
  (θ_run Cert.MlpDownRefIdeal.defs _ _).mono (fun r h => ⟨fun c => (h c).2, sem_eq_zero_of_no_sems (by decide) r.2⟩)
    (Cert.MlpDownRefIdeal.Value.run (F := Ideal) m ρ)

theorem frame_ref_Modulation : Cert.quiescent_ModulationRefIdeal := fun m ρ _ =>
  (θ_run Cert.ModulationRefIdeal.defs _ _).mono (fun r h => ⟨fun c => (h c).2, sem_eq_zero_of_no_sems (by decide) r.2⟩)
    (Cert.ModulationRefIdeal.Value.run (F := Ideal) m ρ)

theorem frame_ref_Band : Cert.quiescent_BandRefIdeal := fun m ρ _ =>
  (θ_run Cert.BandRefIdeal.defs _ _).mono (fun r h => ⟨fun c => (h c).2, sem_eq_zero_of_no_sems (by decide) r.2⟩)
    (Cert.BandRefIdeal.Value.run (F := Ideal) m ρ)

theorem frame_ref_Attention : Cert.quiescent_AttentionRefIdeal := fun m ρ _ =>
  (θ_run Cert.AttentionRefIdeal.defs _ _).mono (fun r h => ⟨fun c => (h c).2, sem_eq_zero_of_no_sems (by decide) r.2⟩)
    (Cert.AttentionRefIdeal.Value.run (F := Ideal) m ρ)

/-- All the claims. -/
theorem claim : Cert.Claim := ⟨Cert.Kernel.Gen.facts,
  Cert.KernelIdeal.Gen.facts,
  Cert.ReferenceIdeal.Gen.facts,
  Cert.InProj.Gen.facts,
  Cert.InProjIdeal.Gen.facts,
  Cert.InProjRefIdeal.Gen.facts,
  Cert.MixOut.Gen.facts,
  Cert.MixOutIdeal.Gen.facts,
  Cert.MixOutRefIdeal.Gen.facts,
  Cert.MlpUp.Gen.facts,
  Cert.MlpUpIdeal.Gen.facts,
  Cert.MlpUpRefIdeal.Gen.facts,
  Cert.MlpDown.Gen.facts,
  Cert.MlpDownIdeal.Gen.facts,
  Cert.MlpDownRefIdeal.Gen.facts,
  Cert.Modulation.Gen.facts,
  Cert.ModulationIdeal.Gen.facts,
  Cert.ModulationRefIdeal.Gen.facts,
  Cert.Band.Gen.facts,
  Cert.BandIdeal.Gen.facts,
  Cert.BandRefIdeal.Gen.facts,
  Cert.Attention.Gen.facts,
  Cert.AttentionIdeal.Gen.facts,
  Cert.AttentionRefIdeal.Gen.facts,
  fun m ρ _ => Cert.Kernel.Gen.frame m ρ,
  fun m ρ _ => Cert.KernelIdeal.Gen.frame m ρ,
  frame_ref,
  fun m ρ _ => Cert.InProj.Gen.frame m ρ,
  fun m ρ _ => Cert.InProjIdeal.Gen.frame m ρ,
  frame_ref_InProj,
  fun m ρ _ => Cert.MixOut.Gen.frame m ρ,
  fun m ρ _ => Cert.MixOutIdeal.Gen.frame m ρ,
  frame_ref_MixOut,
  fun m ρ _ => Cert.MlpUp.Gen.frame m ρ,
  fun m ρ _ => Cert.MlpUpIdeal.Gen.frame m ρ,
  frame_ref_MlpUp,
  fun m ρ _ => Cert.MlpDown.Gen.frame m ρ,
  fun m ρ _ => Cert.MlpDownIdeal.Gen.frame m ρ,
  frame_ref_MlpDown,
  fun m ρ _ => Cert.Modulation.Gen.frame m ρ,
  fun m ρ _ => Cert.ModulationIdeal.Gen.frame m ρ,
  frame_ref_Modulation,
  fun m ρ _ => Cert.Band.Gen.frame m ρ,
  fun m ρ _ => Cert.BandIdeal.Gen.frame m ρ,
  frame_ref_Band,
  fun m ρ _ => Cert.Attention.Attn.frame m ρ,
  fun m ρ _ => Cert.AttentionIdeal.Attn.frame m ρ,
  frame_ref_Attention,
  trivial,
  Lru.algebraic,
  trivial,
  In.algebraic,
  trivial,
  Out.algebraic,
  trivial,
  Up.algebraic,
  trivial,
  Down.algebraic,
  trivial,
  Modulation.algebraic,
  trivial,
  Band.algebraic,
  IdealRules.named_const.statement Cert.AttentionIdeal.κ "mask" .f32 0xF149F2CA#32 ⊥ rfl,
  Attention.algebraic⟩

end Cert.Proof

end
